-- ==== Defs.lean ====
def Pre_Kernel [hPre_pages_in_pool : Cert.Pre_pages_in_pool.Facts] (m : (ℓ : Loc Cert.Kernel.nD Cert.Kernel.τ Cert.Kernel.sig) → Buf (Elt Bits) ℓ) : Prop :=
  ∀ c : Dev Cert.Kernel.nD,
    (Cert.Pre_pages_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_pages_in_pool : Cert.Pre_pages_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_pages_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_Reference (m : (ℓ : Loc Cert.Reference.nD Cert.Reference.τ Cert.Reference.sig) → Buf (Elt Bits) ℓ) : Prop :=
  True

def Pre_Reference_pages_in_pool [hPre_pages_in_pool : Cert.Pre_pages_in_pool.Facts] (m : (ℓ : Loc Cert.Reference.nD Cert.Reference.τ Cert.Reference.sig) → Buf (Elt Bits) ℓ) : Prop :=
  ∀ c : Dev Cert.Reference.nD,
    (Cert.Pre_pages_in_pool.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pages_in_pool [hPre_pages_in_pool : Cert.Pre_pages_in_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_in_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReference (m : (ℓ : Loc Cert.FfnReference.nD Cert.FfnReference.τ Cert.FfnReference.sig) → Buf (Elt Bits) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReference (m : (ℓ : Loc Cert.InProjReference.nD Cert.InProjReference.τ Cert.InProjReference.sig) → Buf (Elt Bits) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReference (m : (ℓ : Loc Cert.MemoryReference.nD Cert.MemoryReference.τ Cert.MemoryReference.sig) → Buf (Elt Bits) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_InSample (m : (ℓ : Loc Cert.InSample.nD Cert.InSample.τ Cert.InSample.sig) → Buf (Elt Bits) ℓ) : Prop :=
  True

def Pre_InSampleIdeal (m : (ℓ : Loc Cert.InSampleIdeal.nD Cert.InSampleIdeal.τ Cert.InSampleIdeal.sig) → Buf (Elt Ideal) ℓ) : Prop :=
  True

def Pre_InSampleReference (m : (ℓ : Loc Cert.InSampleReference.nD Cert.InSampleReference.τ Cert.InSampleReference.sig) → Buf (Elt Bits) ℓ) : Prop :=
  True

def Pre_InSampleReferenceIdeal (m : (ℓ : Loc Cert.InSampleReferenceIdeal.nD Cert.InSampleReferenceIdeal.τ Cert.InSampleReferenceIdeal.sig) → Buf (Elt Ideal) ℓ) : Prop :=
  True

def quiescent_Kernel [hKernel : Cert.Kernel.Facts] [hPre_pages_in_pool : Cert.Pre_pages_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_pages_in_pool : Cert.Pre_pages_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Reference_pre_pages_in_pool [hReference : Cert.Reference.Facts] [hPre_pages_in_pool : Cert.Pre_pages_in_pool.Facts] : Prop :=
  ∀ (m : (ℓ : Loc Cert.Reference.nD Cert.Reference.τ Cert.Reference.sig) → Buf (Elt Bits) ℓ) (g : Dev Cert.Reference.nD → PrngReg), Pre_Reference_pages_in_pool m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pages_in_pool [hReferenceIdeal : Cert.ReferenceIdeal.Facts] [hPre_pages_in_pool : Cert.Pre_pages_in_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pages_in_pool m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7)
      ∧ r.2.mem ((c.tc : Thread Cert.FfnSample.nD Cert.FfnSample.τ).loc Cert.FfnSample.main_arg8) = m ((c.tc : Thread Cert.FfnSample.nD Cert.FfnSample.τ).loc Cert.FfnSample.main_arg8))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
      ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReference [hFfnReference : Cert.FfnReference.Facts] : Prop :=
  ∀ (m : (ℓ : Loc Cert.FfnReference.nD Cert.FfnReference.τ Cert.FfnReference.sig) → Buf (Elt Bits) ℓ) (g : Dev Cert.FfnReference.nD → PrngReg), Pre_FfnReference m →
    θ_run (Cert.FfnReference.defs (F := Bits)) (onTc (τ := Cert.FfnReference.τ) (Cert.FfnReference.main (F := Bits))) ⟨m, fun _ => 0, g⟩ (fun r => (∀ c : Dev Cert.FfnReference.nD,
      r.2.mem ((c.tc : Thread Cert.FfnReference.nD Cert.FfnReference.τ).loc Cert.FfnReference.main_arg0) = m ((c.tc : Thread Cert.FfnReference.nD Cert.FfnReference.τ).loc Cert.FfnReference.main_arg0)
      ∧ r.2.mem ((c.tc : Thread Cert.FfnReference.nD Cert.FfnReference.τ).loc Cert.FfnReference.main_arg1) = m ((c.tc : Thread Cert.FfnReference.nD Cert.FfnReference.τ).loc Cert.FfnReference.main_arg1)
      ∧ r.2.mem ((c.tc : Thread Cert.FfnReference.nD Cert.FfnReference.τ).loc Cert.FfnReference.main_arg2) = m ((c.tc : Thread Cert.FfnReference.nD Cert.FfnReference.τ).loc Cert.FfnReference.main_arg2)
      ∧ r.2.mem ((c.tc : Thread Cert.FfnReference.nD Cert.FfnReference.τ).loc Cert.FfnReference.main_arg3) = m ((c.tc : Thread Cert.FfnReference.nD Cert.FfnReference.τ).loc Cert.FfnReference.main_arg3)
      ∧ r.2.mem ((c.tc : Thread Cert.FfnReference.nD Cert.FfnReference.τ).loc Cert.FfnReference.main_arg4) = m ((c.tc : Thread Cert.FfnReference.nD Cert.FfnReference.τ).loc Cert.FfnReference.main_arg4)
      ∧ r.2.mem ((c.tc : Thread Cert.FfnReference.nD Cert.FfnReference.τ).loc Cert.FfnReference.main_arg5) = m ((c.tc : Thread Cert.FfnReference.nD Cert.FfnReference.τ).loc Cert.FfnReference.main_arg5)
      ∧ r.2.mem ((c.tc : Thread Cert.FfnReference.nD Cert.FfnReference.τ).loc Cert.FfnReference.main_arg6) = m ((c.tc : Thread Cert.FfnReference.nD Cert.FfnReference.τ).loc Cert.FfnReference.main_arg6)
      ∧ r.2.mem ((c.tc : Thread Cert.FfnReference.nD Cert.FfnReference.τ).loc Cert.FfnReference.main_arg7) = m ((c.tc : Thread Cert.FfnReference.nD Cert.FfnReference.τ).loc Cert.FfnReference.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReference [hInProjReference : Cert.InProjReference.Facts] : Prop :=
  ∀ (m : (ℓ : Loc Cert.InProjReference.nD Cert.InProjReference.τ Cert.InProjReference.sig) → Buf (Elt Bits) ℓ) (g : Dev Cert.InProjReference.nD → PrngReg), Pre_InProjReference m →
    θ_run (Cert.InProjReference.defs (F := Bits)) (onTc (τ := Cert.InProjReference.τ) (Cert.InProjReference.main (F := Bits))) ⟨m, fun _ => 0, g⟩ (fun r => (∀ c : Dev Cert.InProjReference.nD,
      r.2.mem ((c.tc : Thread Cert.InProjReference.nD Cert.InProjReference.τ).loc Cert.InProjReference.main_arg0) = m ((c.tc : Thread Cert.InProjReference.nD Cert.InProjReference.τ).loc Cert.InProjReference.main_arg0)
      ∧ r.2.mem ((c.tc : Thread Cert.InProjReference.nD Cert.InProjReference.τ).loc Cert.InProjReference.main_arg1) = m ((c.tc : Thread Cert.InProjReference.nD Cert.InProjReference.τ).loc Cert.InProjReference.main_arg1)
      ∧ r.2.mem ((c.tc : Thread Cert.InProjReference.nD Cert.InProjReference.τ).loc Cert.InProjReference.main_arg2) = m ((c.tc : Thread Cert.InProjReference.nD Cert.InProjReference.τ).loc Cert.InProjReference.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryReference [hMemoryReference : Cert.MemoryReference.Facts] : Prop :=
  ∀ (m : (ℓ : Loc Cert.MemoryReference.nD Cert.MemoryReference.τ Cert.MemoryReference.sig) → Buf (Elt Bits) ℓ) (g : Dev Cert.MemoryReference.nD → PrngReg), Pre_MemoryReference m →
    θ_run (Cert.MemoryReference.defs (F := Bits)) (onTc (τ := Cert.MemoryReference.τ) (Cert.MemoryReference.main (F := Bits))) ⟨m, fun _ => 0, g⟩ (fun r => (∀ c : Dev Cert.MemoryReference.nD,
      r.2.mem ((c.tc : Thread Cert.MemoryReference.nD Cert.MemoryReference.τ).loc Cert.MemoryReference.main_arg0) = m ((c.tc : Thread Cert.MemoryReference.nD Cert.MemoryReference.τ).loc Cert.MemoryReference.main_arg0)
      ∧ r.2.mem ((c.tc : Thread Cert.MemoryReference.nD Cert.MemoryReference.τ).loc Cert.MemoryReference.main_arg1) = m ((c.tc : Thread Cert.MemoryReference.nD Cert.MemoryReference.τ).loc Cert.MemoryReference.main_arg1)
      ∧ r.2.mem ((c.tc : Thread Cert.MemoryReference.nD Cert.MemoryReference.τ).loc Cert.MemoryReference.main_arg2) = m ((c.tc : Thread Cert.MemoryReference.nD Cert.MemoryReference.τ).loc Cert.MemoryReference.main_arg2)
      ∧ r.2.mem ((c.tc : Thread Cert.MemoryReference.nD Cert.MemoryReference.τ).loc Cert.MemoryReference.main_arg3) = m ((c.tc : Thread Cert.MemoryReference.nD Cert.MemoryReference.τ).loc Cert.MemoryReference.main_arg3))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2)
      ∧ r.2.mem ((c.tc : Thread Cert.MemoryReferenceIdeal.nD Cert.MemoryReferenceIdeal.τ).loc Cert.MemoryReferenceIdeal.main_arg3) = m ((c.tc : Thread Cert.MemoryReferenceIdeal.nD Cert.MemoryReferenceIdeal.τ).loc Cert.MemoryReferenceIdeal.main_arg3))
      ∧ r.2.sem = fun _ => 0)

def quiescent_InSample [hInSample : Cert.InSample.Facts] : Prop :=
  ∀ (m : (ℓ : Loc Cert.InSample.nD Cert.InSample.τ Cert.InSample.sig) → Buf (Elt Bits) ℓ) (g : Dev Cert.InSample.nD → PrngReg), Pre_InSample m →
    θ_run (Cert.InSample.defs (F := Bits)) (onTc (τ := Cert.InSample.τ) (Cert.InSample.main (F := Bits))) ⟨m, fun _ => 0, g⟩ (fun r => (∀ c : Dev Cert.InSample.nD,
      r.2.mem ((c.tc : Thread Cert.InSample.nD Cert.InSample.τ).loc Cert.InSample.main_arg0) = m ((c.tc : Thread Cert.InSample.nD Cert.InSample.τ).loc Cert.InSample.main_arg0)
      ∧ r.2.mem ((c.tc : Thread Cert.InSample.nD Cert.InSample.τ).loc Cert.InSample.main_arg1) = m ((c.tc : Thread Cert.InSample.nD Cert.InSample.τ).loc Cert.InSample.main_arg1)
      ∧ r.2.mem ((c.tc : Thread Cert.InSample.nD Cert.InSample.τ).loc Cert.InSample.main_arg2) = m ((c.tc : Thread Cert.InSample.nD Cert.InSample.τ).loc Cert.InSample.main_arg2))
      ∧ r.2.sem = fun _ => 0)

def quiescent_InSampleIdeal [hInSampleIdeal : Cert.InSampleIdeal.Facts] : Prop :=
  ∀ (m : (ℓ : Loc Cert.InSampleIdeal.nD Cert.InSampleIdeal.τ Cert.InSampleIdeal.sig) → Buf (Elt Ideal) ℓ) (g : Dev Cert.InSampleIdeal.nD → PrngReg), Pre_InSampleIdeal m →
    θ_run (Cert.InSampleIdeal.defs (F := Ideal)) (onTc (τ := Cert.InSampleIdeal.τ) (Cert.InSampleIdeal.main (F := Ideal))) ⟨m, fun _ => 0, g⟩ (fun r => (∀ c : Dev Cert.InSampleIdeal.nD,
      r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
      ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1)
      ∧ r.2.mem ((c.tc : Thread Cert.InSampleIdeal.nD Cert.InSampleIdeal.τ).loc Cert.InSampleIdeal.main_arg2) = m ((c.tc : Thread Cert.InSampleIdeal.nD Cert.InSampleIdeal.τ).loc Cert.InSampleIdeal.main_arg2))
      ∧ r.2.sem = fun _ => 0)

def quiescent_InSampleReference [hInSampleReference : Cert.InSampleReference.Facts] : Prop :=
  ∀ (m : (ℓ : Loc Cert.InSampleReference.nD Cert.InSampleReference.τ Cert.InSampleReference.sig) → Buf (Elt Bits) ℓ) (g : Dev Cert.InSampleReference.nD → PrngReg), Pre_InSampleReference m →
    θ_run (Cert.InSampleReference.defs (F := Bits)) (onTc (τ := Cert.InSampleReference.τ) (Cert.InSampleReference.main (F := Bits))) ⟨m, fun _ => 0, g⟩ (fun r => (∀ c : Dev Cert.InSampleReference.nD,
      r.2.mem ((c.tc : Thread Cert.InSampleReference.nD Cert.InSampleReference.τ).loc Cert.InSampleReference.main_arg0) = m ((c.tc : Thread Cert.InSampleReference.nD Cert.InSampleReference.τ).loc Cert.InSampleReference.main_arg0)
      ∧ r.2.mem ((c.tc : Thread Cert.InSampleReference.nD Cert.InSampleReference.τ).loc Cert.InSampleReference.main_arg1) = m ((c.tc : Thread Cert.InSampleReference.nD Cert.InSampleReference.τ).loc Cert.InSampleReference.main_arg1)
      ∧ r.2.mem ((c.tc : Thread Cert.InSampleReference.nD Cert.InSampleReference.τ).loc Cert.InSampleReference.main_arg2) = m ((c.tc : Thread Cert.InSampleReference.nD Cert.InSampleReference.τ).loc Cert.InSampleReference.main_arg2))
      ∧ r.2.sem = fun _ => 0)

def quiescent_InSampleReferenceIdeal [hInSampleReferenceIdeal : Cert.InSampleReferenceIdeal.Facts] : Prop :=
  ∀ (m : (ℓ : Loc Cert.InSampleReferenceIdeal.nD Cert.InSampleReferenceIdeal.τ Cert.InSampleReferenceIdeal.sig) → Buf (Elt Ideal) ℓ) (g : Dev Cert.InSampleReferenceIdeal.nD → PrngReg), Pre_InSampleReferenceIdeal m →
    θ_run (Cert.InSampleReferenceIdeal.defs (F := Ideal)) (onTc (τ := Cert.InSampleReferenceIdeal.τ) (Cert.InSampleReferenceIdeal.main (F := Ideal))) ⟨m, fun _ => 0, g⟩ (fun r => (∀ c : Dev Cert.InSampleReferenceIdeal.nD,
      r.2.mem ((c.tc : Thread Cert.InSampleReferenceIdeal.nD Cert.InSampleReferenceIdeal.τ).loc Cert.InSampleReferenceIdeal.main_arg0) = m ((c.tc : Thread Cert.InSampleReferenceIdeal.nD Cert.InSampleReferenceIdeal.τ).loc Cert.InSampleReferenceIdeal.main_arg0)
      ∧ r.2.mem ((c.tc : Thread Cert.InSampleReferenceIdeal.nD Cert.InSampleReferenceIdeal.τ).loc Cert.InSampleReferenceIdeal.main_arg1) = m ((c.tc : Thread Cert.InSampleReferenceIdeal.nD Cert.InSampleReferenceIdeal.τ).loc Cert.InSampleReferenceIdeal.main_arg1)
      ∧ r.2.mem ((c.tc : Thread Cert.InSampleReferenceIdeal.nD Cert.InSampleReferenceIdeal.τ).loc Cert.InSampleReferenceIdeal.main_arg2) = m ((c.tc : Thread Cert.InSampleReferenceIdeal.nD Cert.InSampleReferenceIdeal.τ).loc Cert.InSampleReferenceIdeal.main_arg2))
      ∧ r.2.sem = fun _ => 0)

def preserves_Kernel_KernelIdeal : Prop :=
  True

def bitexact_Kernel_Reference [hKernel : Cert.Kernel.Facts] [hReference : Cert.Reference.Facts] [hPre_pages_in_pool : Cert.Pre_pages_in_pool.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v8_0)) (v1 : (c : Dev Cert.Kernel.nD) → Buf (Elt Bits) ((c.tc : Thread Cert.Kernel.nD Cert.Kernel.τ).loc Cert.Kernel.main_v8_1)) (v2 : (c : Dev Cert.Kernel.nD) → Buf (Elt Bits) ((c.tc : Thread Cert.Kernel.nD Cert.Kernel.τ).loc Cert.Kernel.main_v8_2)) (v3 : (c : Dev Cert.Kernel.nD) → Buf (Elt Bits) ((c.tc : Thread Cert.Kernel.nD Cert.Kernel.τ).loc Cert.Kernel.main_v8_3)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v8_0) = v0 c
          ∧ r.2.mem ((c.tc : Thread Cert.Kernel.nD Cert.Kernel.τ).loc Cert.Kernel.main_v8_1) = v1 c
          ∧ r.2.mem ((c.tc : Thread Cert.Kernel.nD Cert.Kernel.τ).loc Cert.Kernel.main_v8_2) = v2 c
          ∧ r.2.mem ((c.tc : Thread Cert.Kernel.nD Cert.Kernel.τ).loc Cert.Kernel.main_v8_3) = v3 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v8) = v0 c
          ∧ r.2.mem ((c.tc : Thread Cert.Reference.nD Cert.Reference.τ).loc Cert.Reference.main_v17) = v1 c
          ∧ r.2.mem ((c.tc : Thread Cert.Reference.nD Cert.Reference.τ).loc Cert.Reference.main_v26) = v2 c
          ∧ r.2.mem ((c.tc : Thread Cert.Reference.nD Cert.Reference.τ).loc Cert.Reference.main_v35) = v3 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def algebraic_KernelIdeal_ReferenceIdeal [hKernelIdeal : Cert.KernelIdeal.Facts] [hReferenceIdeal : Cert.ReferenceIdeal.Facts] [hPre_pages_in_pool : Cert.Pre_pages_in_pool.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v15_0)) (v1 : (c : Dev Cert.FfnIdeal.nD) → Buf (Elt Ideal) ((c.tc : Thread Cert.FfnIdeal.nD Cert.FfnIdeal.τ).loc Cert.FfnIdeal.main_v15_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v15_0) = v0 c
          ∧ r.2.mem ((c.tc : Thread Cert.FfnIdeal.nD Cert.FfnIdeal.τ).loc Cert.FfnIdeal.main_v15_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v77) = v0 c
          ∧ r.2.mem ((c.tc : Thread Cert.FfnReferenceIdeal.nD Cert.FfnReferenceIdeal.τ).loc Cert.FfnReferenceIdeal.main_v79) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v62_0)) (v1 : (c : Dev Cert.InProjIdeal.nD) → Buf (Elt Ideal) ((c.tc : Thread Cert.InProjIdeal.nD Cert.InProjIdeal.τ).loc Cert.InProjIdeal.main_v62_1)) (v2 : (c : Dev Cert.InProjIdeal.nD) → Buf (Elt Ideal) ((c.tc : Thread Cert.InProjIdeal.nD Cert.InProjIdeal.τ).loc Cert.InProjIdeal.main_v62_3)) (v3 : (c : Dev Cert.InProjIdeal.nD) → Buf (Elt Ideal) ((c.tc : Thread Cert.InProjIdeal.nD Cert.InProjIdeal.τ).loc Cert.InProjIdeal.main_v62_4)) (v4 : (c : Dev Cert.InProjIdeal.nD) → Buf (Elt Ideal) ((c.tc : Thread Cert.InProjIdeal.nD Cert.InProjIdeal.τ).loc Cert.InProjIdeal.main_v62_5)) (v5 : (c : Dev Cert.InProjIdeal.nD) → Buf (Elt Ideal) ((c.tc : Thread Cert.InProjIdeal.nD Cert.InProjIdeal.τ).loc Cert.InProjIdeal.main_v62_6)) (v6 : (c : Dev Cert.InProjIdeal.nD) → Buf (Elt Ideal) ((c.tc : Thread Cert.InProjIdeal.nD Cert.InProjIdeal.τ).loc Cert.InProjIdeal.main_v62_7)) (v7 : (c : Dev Cert.InProjIdeal.nD) → Buf (Elt Ideal) ((c.tc : Thread Cert.InProjIdeal.nD Cert.InProjIdeal.τ).loc Cert.InProjIdeal.main_v62_8)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v62_0) = v0 c
          ∧ r.2.mem ((c.tc : Thread Cert.InProjIdeal.nD Cert.InProjIdeal.τ).loc Cert.InProjIdeal.main_v62_1) = v1 c
          ∧ r.2.mem ((c.tc : Thread Cert.InProjIdeal.nD Cert.InProjIdeal.τ).loc Cert.InProjIdeal.main_v62_3) = v2 c
          ∧ r.2.mem ((c.tc : Thread Cert.InProjIdeal.nD Cert.InProjIdeal.τ).loc Cert.InProjIdeal.main_v62_4) = v3 c
          ∧ r.2.mem ((c.tc : Thread Cert.InProjIdeal.nD Cert.InProjIdeal.τ).loc Cert.InProjIdeal.main_v62_5) = v4 c
          ∧ r.2.mem ((c.tc : Thread Cert.InProjIdeal.nD Cert.InProjIdeal.τ).loc Cert.InProjIdeal.main_v62_6) = v5 c
          ∧ r.2.mem ((c.tc : Thread Cert.InProjIdeal.nD Cert.InProjIdeal.τ).loc Cert.InProjIdeal.main_v62_7) = v6 c
          ∧ r.2.mem ((c.tc : Thread Cert.InProjIdeal.nD Cert.InProjIdeal.τ).loc Cert.InProjIdeal.main_v62_8) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v17) = v0 c
          ∧ r.2.mem ((c.tc : Thread Cert.InProjReferenceIdeal.nD Cert.InProjReferenceIdeal.τ).loc Cert.InProjReferenceIdeal.main_v18) = v1 c
          ∧ r.2.mem ((c.tc : Thread Cert.InProjReferenceIdeal.nD Cert.InProjReferenceIdeal.τ).loc Cert.InProjReferenceIdeal.main_v22) = v2 c
          ∧ r.2.mem ((c.tc : Thread Cert.InProjReferenceIdeal.nD Cert.InProjReferenceIdeal.τ).loc Cert.InProjReferenceIdeal.main_v24) = v3 c
          ∧ r.2.mem ((c.tc : Thread Cert.InProjReferenceIdeal.nD Cert.InProjReferenceIdeal.τ).loc Cert.InProjReferenceIdeal.main_v26) = v4 c
          ∧ r.2.mem ((c.tc : Thread Cert.InProjReferenceIdeal.nD Cert.InProjReferenceIdeal.τ).loc Cert.InProjReferenceIdeal.main_v28) = v5 c
          ∧ r.2.mem ((c.tc : Thread Cert.InProjReferenceIdeal.nD Cert.InProjReferenceIdeal.τ).loc Cert.InProjReferenceIdeal.main_v30) = v6 c
          ∧ r.2.mem ((c.tc : Thread Cert.InProjReferenceIdeal.nD Cert.InProjReferenceIdeal.τ).loc Cert.InProjReferenceIdeal.main_v32) = v7 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)
      ∧ m' ((c.tc : Thread Cert.MemoryReferenceIdeal.nD Cert.MemoryReferenceIdeal.τ).loc Cert.MemoryReferenceIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v7)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v7) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v19) = v0 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2)
          ∧ r.2.mem ((c.tc : Thread Cert.MemoryReferenceIdeal.nD Cert.MemoryReferenceIdeal.τ).loc Cert.MemoryReferenceIdeal.main_arg3) = m' ((c.tc : Thread Cert.MemoryReferenceIdeal.nD Cert.MemoryReferenceIdeal.τ).loc Cert.MemoryReferenceIdeal.main_arg3))

def preserves_InSample_InSampleIdeal : Prop :=
  True

def algebraic_InSampleIdeal_InSampleReferenceIdeal [hInSampleIdeal : Cert.InSampleIdeal.Facts] [hInSampleReferenceIdeal : Cert.InSampleReferenceIdeal.Facts] : Prop :=
  ∀ (m : (ℓ : Loc Cert.InSampleIdeal.nD Cert.InSampleIdeal.τ Cert.InSampleIdeal.sig) → Buf (Elt Ideal) ℓ) (g : Dev Cert.InSampleIdeal.nD → PrngReg)
    (m' : (ℓ : Loc Cert.InSampleReferenceIdeal.nD Cert.InSampleReferenceIdeal.τ Cert.InSampleReferenceIdeal.sig) → Buf (Elt Ideal) ℓ) (g' : Dev Cert.InSampleReferenceIdeal.nD → PrngReg), Pre_InSampleIdeal m →
    (∀ c : Dev Cert.InSampleIdeal.nD,
      m' ((c.tc : Thread Cert.InSampleReferenceIdeal.nD Cert.InSampleReferenceIdeal.τ).loc Cert.InSampleReferenceIdeal.main_arg0) = m ((c.tc : Thread Cert.InSampleIdeal.nD Cert.InSampleIdeal.τ).loc Cert.InSampleIdeal.main_arg0)
      ∧ m' ((c.tc : Thread Cert.InSampleReferenceIdeal.nD Cert.InSampleReferenceIdeal.τ).loc Cert.InSampleReferenceIdeal.main_arg1) = m ((c.tc : Thread Cert.InSampleIdeal.nD Cert.InSampleIdeal.τ).loc Cert.InSampleIdeal.main_arg1)
      ∧ m' ((c.tc : Thread Cert.InSampleReferenceIdeal.nD Cert.InSampleReferenceIdeal.τ).loc Cert.InSampleReferenceIdeal.main_arg2) = m ((c.tc : Thread Cert.InSampleIdeal.nD Cert.InSampleIdeal.τ).loc Cert.InSampleIdeal.main_arg2)) →
    ∃ (v0 : (c : Dev Cert.InSampleIdeal.nD) → Buf (Elt Ideal) ((c.tc : Thread Cert.InSampleIdeal.nD Cert.InSampleIdeal.τ).loc Cert.InSampleIdeal.main_v62_0)) (v1 : (c : Dev Cert.InSampleIdeal.nD) → Buf (Elt Ideal) ((c.tc : Thread Cert.InSampleIdeal.nD Cert.InSampleIdeal.τ).loc Cert.InSampleIdeal.main_v62_1)) (v2 : (c : Dev Cert.InSampleIdeal.nD) → Buf (Elt Ideal) ((c.tc : Thread Cert.InSampleIdeal.nD Cert.InSampleIdeal.τ).loc Cert.InSampleIdeal.main_v62_3)) (v3 : (c : Dev Cert.InSampleIdeal.nD) → Buf (Elt Ideal) ((c.tc : Thread Cert.InSampleIdeal.nD Cert.InSampleIdeal.τ).loc Cert.InSampleIdeal.main_v62_4)) (v4 : (c : Dev Cert.InSampleIdeal.nD) → Buf (Elt Ideal) ((c.tc : Thread Cert.InSampleIdeal.nD Cert.InSampleIdeal.τ).loc Cert.InSampleIdeal.main_v62_5)) (v5 : (c : Dev Cert.InSampleIdeal.nD) → Buf (Elt Ideal) ((c.tc : Thread Cert.InSampleIdeal.nD Cert.InSampleIdeal.τ).loc Cert.InSampleIdeal.main_v62_6)) (v6 : (c : Dev Cert.InSampleIdeal.nD) → Buf (Elt Ideal) ((c.tc : Thread Cert.InSampleIdeal.nD Cert.InSampleIdeal.τ).loc Cert.InSampleIdeal.main_v62_7)) (v7 : (c : Dev Cert.InSampleIdeal.nD) → Buf (Elt Ideal) ((c.tc : Thread Cert.InSampleIdeal.nD Cert.InSampleIdeal.τ).loc Cert.InSampleIdeal.main_v62_8)),
      θ_run (Cert.InSampleIdeal.defs (F := Ideal)) (onTc (τ := Cert.InSampleIdeal.τ) (Cert.InSampleIdeal.main (F := Ideal))) ⟨m, fun _ => 0, g⟩ (fun r => ∀ c : Dev Cert.InSampleIdeal.nD,
          r.2.mem ((c.tc : Thread Cert.InSampleIdeal.nD Cert.InSampleIdeal.τ).loc Cert.InSampleIdeal.main_v62_0) = v0 c
          ∧ r.2.mem ((c.tc : Thread Cert.InSampleIdeal.nD Cert.InSampleIdeal.τ).loc Cert.InSampleIdeal.main_v62_1) = v1 c
          ∧ r.2.mem ((c.tc : Thread Cert.InSampleIdeal.nD Cert.InSampleIdeal.τ).loc Cert.InSampleIdeal.main_v62_3) = v2 c
          ∧ r.2.mem ((c.tc : Thread Cert.InSampleIdeal.nD Cert.InSampleIdeal.τ).loc Cert.InSampleIdeal.main_v62_4) = v3 c
          ∧ r.2.mem ((c.tc : Thread Cert.InSampleIdeal.nD Cert.InSampleIdeal.τ).loc Cert.InSampleIdeal.main_v62_5) = v4 c
          ∧ r.2.mem ((c.tc : Thread Cert.InSampleIdeal.nD Cert.InSampleIdeal.τ).loc Cert.InSampleIdeal.main_v62_6) = v5 c
          ∧ r.2.mem ((c.tc : Thread Cert.InSampleIdeal.nD Cert.InSampleIdeal.τ).loc Cert.InSampleIdeal.main_v62_7) = v6 c
          ∧ r.2.mem ((c.tc : Thread Cert.InSampleIdeal.nD Cert.InSampleIdeal.τ).loc Cert.InSampleIdeal.main_v62_8) = v7 c
          ∧ r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
          ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1)
          ∧ r.2.mem ((c.tc : Thread Cert.InSampleIdeal.nD Cert.InSampleIdeal.τ).loc Cert.InSampleIdeal.main_arg2) = m ((c.tc : Thread Cert.InSampleIdeal.nD Cert.InSampleIdeal.τ).loc Cert.InSampleIdeal.main_arg2))
      ∧ θ_run (Cert.InSampleReferenceIdeal.defs (F := Ideal)) (onTc (τ := Cert.InSampleReferenceIdeal.τ) (Cert.InSampleReferenceIdeal.main (F := Ideal))) ⟨m', fun _ => 0, g'⟩ (fun r => ∀ c : Dev Cert.InSampleReferenceIdeal.nD,
          r.2.mem ((c.tc : Thread Cert.InSampleReferenceIdeal.nD Cert.InSampleReferenceIdeal.τ).loc Cert.InSampleReferenceIdeal.main_v17) = v0 c
          ∧ r.2.mem ((c.tc : Thread Cert.InSampleReferenceIdeal.nD Cert.InSampleReferenceIdeal.τ).loc Cert.InSampleReferenceIdeal.main_v18) = v1 c
          ∧ r.2.mem ((c.tc : Thread Cert.InSampleReferenceIdeal.nD Cert.InSampleReferenceIdeal.τ).loc Cert.InSampleReferenceIdeal.main_v22) = v2 c
          ∧ r.2.mem ((c.tc : Thread Cert.InSampleReferenceIdeal.nD Cert.InSampleReferenceIdeal.τ).loc Cert.InSampleReferenceIdeal.main_v24) = v3 c
          ∧ r.2.mem ((c.tc : Thread Cert.InSampleReferenceIdeal.nD Cert.InSampleReferenceIdeal.τ).loc Cert.InSampleReferenceIdeal.main_v26) = v4 c
          ∧ r.2.mem ((c.tc : Thread Cert.InSampleReferenceIdeal.nD Cert.InSampleReferenceIdeal.τ).loc Cert.InSampleReferenceIdeal.main_v28) = v5 c
          ∧ r.2.mem ((c.tc : Thread Cert.InSampleReferenceIdeal.nD Cert.InSampleReferenceIdeal.τ).loc Cert.InSampleReferenceIdeal.main_v30) = v6 c
          ∧ r.2.mem ((c.tc : Thread Cert.InSampleReferenceIdeal.nD Cert.InSampleReferenceIdeal.τ).loc Cert.InSampleReferenceIdeal.main_v32) = v7 c
          ∧ r.2.mem ((c.tc : Thread Cert.InSampleReferenceIdeal.nD Cert.InSampleReferenceIdeal.τ).loc Cert.InSampleReferenceIdeal.main_arg0) = m' ((c.tc : Thread Cert.InSampleReferenceIdeal.nD Cert.InSampleReferenceIdeal.τ).loc Cert.InSampleReferenceIdeal.main_arg0)
          ∧ r.2.mem ((c.tc : Thread Cert.InSampleReferenceIdeal.nD Cert.InSampleReferenceIdeal.τ).loc Cert.InSampleReferenceIdeal.main_arg1) = m' ((c.tc : Thread Cert.InSampleReferenceIdeal.nD Cert.InSampleReferenceIdeal.τ).loc Cert.InSampleReferenceIdeal.main_arg1)
          ∧ r.2.mem ((c.tc : Thread Cert.InSampleReferenceIdeal.nD Cert.InSampleReferenceIdeal.τ).loc Cert.InSampleReferenceIdeal.main_arg2) = m' ((c.tc : Thread Cert.InSampleReferenceIdeal.nD Cert.InSampleReferenceIdeal.τ).loc Cert.InSampleReferenceIdeal.main_arg2))

def Claim : Prop :=
  ∃ (hKernel : Cert.Kernel.Facts) (hKernelIdeal : Cert.KernelIdeal.Facts) (hReference : Cert.Reference.Facts) (hReferenceIdeal : Cert.ReferenceIdeal.Facts) (hFfnSample : Cert.FfnSample.Facts) (hFfnSampleIdeal : Cert.FfnSampleIdeal.Facts) (hFfn : Cert.Ffn.Facts) (hFfnIdeal : Cert.FfnIdeal.Facts) (hFfnReference : Cert.FfnReference.Facts) (hFfnReferenceIdeal : Cert.FfnReferenceIdeal.Facts) (hInProj : Cert.InProj.Facts) (hInProjIdeal : Cert.InProjIdeal.Facts) (hInProjReference : Cert.InProjReference.Facts) (hInProjReferenceIdeal : Cert.InProjReferenceIdeal.Facts) (hMemory : Cert.Memory.Facts) (hMemoryIdeal : Cert.MemoryIdeal.Facts) (hMemoryReference : Cert.MemoryReference.Facts) (hMemoryReferenceIdeal : Cert.MemoryReferenceIdeal.Facts) (hInSample : Cert.InSample.Facts) (hInSampleIdeal : Cert.InSampleIdeal.Facts) (hInSampleReference : Cert.InSampleReference.Facts) (hInSampleReferenceIdeal : Cert.InSampleReferenceIdeal.Facts) (hPre_pages_in_pool : Cert.Pre_pages_in_pool.Facts),
    quiescent_Kernel (hKernel := hKernel) (hPre_pages_in_pool := hPre_pages_in_pool)
    ∧ quiescent_KernelIdeal (hKernelIdeal := hKernelIdeal) (hPre_pages_in_pool := hPre_pages_in_pool)
    ∧ quiescent_Reference (hReference := hReference)
    ∧ quiescent_Reference_pre_pages_in_pool (hReference := hReference) (hPre_pages_in_pool := hPre_pages_in_pool)
    ∧ quiescent_ReferenceIdeal (hReferenceIdeal := hReferenceIdeal)
    ∧ quiescent_ReferenceIdeal_pre_pages_in_pool (hReferenceIdeal := hReferenceIdeal) (hPre_pages_in_pool := hPre_pages_in_pool)
    ∧ quiescent_FfnSample (hFfnSample := hFfnSample)
    ∧ quiescent_FfnSampleIdeal (hFfnSampleIdeal := hFfnSampleIdeal)
    ∧ quiescent_Ffn (hFfn := hFfn)
    ∧ quiescent_FfnIdeal (hFfnIdeal := hFfnIdeal)
    ∧ quiescent_FfnReference (hFfnReference := hFfnReference)
    ∧ quiescent_FfnReferenceIdeal (hFfnReferenceIdeal := hFfnReferenceIdeal)
    ∧ quiescent_InProj (hInProj := hInProj)
    ∧ quiescent_InProjIdeal (hInProjIdeal := hInProjIdeal)
    ∧ quiescent_InProjReference (hInProjReference := hInProjReference)
    ∧ quiescent_InProjReferenceIdeal (hInProjReferenceIdeal := hInProjReferenceIdeal)
    ∧ quiescent_Memory (hMemory := hMemory)
    ∧ quiescent_MemoryIdeal (hMemoryIdeal := hMemoryIdeal)
    ∧ quiescent_MemoryReference (hMemoryReference := hMemoryReference)
    ∧ quiescent_MemoryReferenceIdeal (hMemoryReferenceIdeal := hMemoryReferenceIdeal)
    ∧ quiescent_InSample (hInSample := hInSample)
    ∧ quiescent_InSampleIdeal (hInSampleIdeal := hInSampleIdeal)
    ∧ quiescent_InSampleReference (hInSampleReference := hInSampleReference)
    ∧ quiescent_InSampleReferenceIdeal (hInSampleReferenceIdeal := hInSampleReferenceIdeal)
    ∧ preserves_Kernel_KernelIdeal
    ∧ bitexact_Kernel_Reference (hKernel := hKernel) (hReference := hReference) (hPre_pages_in_pool := hPre_pages_in_pool)
    ∧ algebraic_KernelIdeal_ReferenceIdeal (hKernelIdeal := hKernelIdeal) (hReferenceIdeal := hReferenceIdeal) (hPre_pages_in_pool := hPre_pages_in_pool)
    ∧ preserves_Ffn_FfnIdeal
    ∧ algebraic_FfnIdeal_FfnReferenceIdeal (hFfnIdeal := hFfnIdeal) (hFfnReferenceIdeal := hFfnReferenceIdeal)
    ∧ preserves_InProj_InProjIdeal
    ∧ algebraic_InProjIdeal_InProjReferenceIdeal (hInProjIdeal := hInProjIdeal) (hInProjReferenceIdeal := hInProjReferenceIdeal)
    ∧ preserves_Memory_MemoryIdeal
    ∧ algebraic_MemoryIdeal_MemoryReferenceIdeal (hMemoryIdeal := hMemoryIdeal) (hMemoryReferenceIdeal := hMemoryReferenceIdeal)
    ∧ preserves_InSample_InSampleIdeal
    ∧ algebraic_InSampleIdeal_InSampleReferenceIdeal (hInSampleIdeal := hInSampleIdeal) (hInSampleReferenceIdeal := hInSampleReferenceIdeal)
-- ==== Pre_pages_in_pool.lean ====
abbrev S1x10240x128x2x64 : Shape := ⟨5, ![1, 10240, 128, 2, 64]⟩
abbrev S128x64 : Shape := ⟨2, ![128, 64]⟩
abbrev S_ : Shape := ⟨0, ![]⟩

class Facts : Prop where
  bcast_S_S128x64 : S_.BroadcastsInDim S128x64 (![] : Fin 0 → Fin S128x64.rank)

variable [Facts]

def fn {F : FTy → Type} [FloatOps F] (main_arg0 : FVec F S1x10240x128x2x64 .f32) (main_arg1 : FVec F S1x10240x128x2x64 .f32) (main_arg2 : FVec F S1x10240x128x2x64 .f32) (main_arg3 : FVec F S1x10240x128x2x64 .f32) (main_arg4 : IVec S128x64 32) : IVec S128x64 1 :=
  let main_c : IVec S_ 32 := constantI S_ 32 0#32
  let main_v0 : IVec S128x64 32 := broadcastInDim S128x64 ![] bcast_S_S128x64 main_c
  let main_v1 : IVec S128x64 1 := cmpi .sge main_arg4 main_v0
  let main_c_0 : IVec S_ 32 := constantI S_ 32 10240#32
  let main_v2 : IVec S128x64 32 := broadcastInDim S128x64 ![] bcast_S_S128x64 main_c_0
  let main_v3 : IVec S128x64 1 := cmpi .slt main_arg4 main_v2
  let main_v4 : IVec S128x64 1 := andi main_v1 main_v3
  main_v4
-- ==== Kernel.lean ====
abbrev S1x10240x128x2x64 : Shape := ⟨5, ![1, 10240, 128, 2, 64]⟩
abbrev S128x64 : Shape := ⟨2, ![128, 64]⟩
abbrev S10240x128x2x64 : Shape := ⟨4, ![10240, 128, 2, 64]⟩
abbrev S10240x128x128 : Shape := ⟨3, ![10240, 128, 128]⟩
abbrev S128x8192x128 : Shape := ⟨3, ![128, 8192, 128]⟩
abbrev S4 : Shape := ⟨1, ![4]⟩
abbrev S1x1 : Shape := ⟨2, ![1, 1]⟩
abbrev S1 : Shape := ⟨1, ![1]⟩
abbrev S_ : Shape := ⟨0, ![]⟩
abbrev S1x128x128 : Shape := ⟨3, ![1, 128, 128]⟩
abbrev S128x128 : Shape := ⟨2, ![128, 128]⟩

abbrev nBuf : Space → Nat
  | .hbm => 16
  | .vmem => 0
  | .smem => 1
  | _ => 0

abbrev bufTy : (tb : Table) → Fin (tcTables nBuf tb) → BufTy
  | .hbm, ⟨0, _⟩ => ⟨S1x10240x128x2x64, .f32⟩
  | .hbm, ⟨1, _⟩ => ⟨S1x10240x128x2x64, .f32⟩
  | .hbm, ⟨2, _⟩ => ⟨S1x10240x128x2x64, .f32⟩
  | .hbm, ⟨3, _⟩ => ⟨S1x10240x128x2x64, .f32⟩
  | .hbm, ⟨4, _⟩ => ⟨S10240x128x2x64, .f32⟩
  | .hbm, ⟨5, _⟩ => ⟨S10240x128x128, .f32⟩
  | .hbm, ⟨6, _⟩ => ⟨S10240x128x2x64, .f32⟩
  | .hbm, ⟨7, _⟩ => ⟨S10240x128x128, .f32⟩
  | .hbm, ⟨8, _⟩ => ⟨S10240x128x2x64, .f32⟩
  | .hbm, ⟨9, _⟩ => ⟨S10240x128x128, .f32⟩
  | .hbm, ⟨10, _⟩ => ⟨S10240x128x2x64, .f32⟩
  | .hbm, ⟨11, _⟩ => ⟨S10240x128x128, .f32⟩
  | .hbm, ⟨12, _⟩ => ⟨S128x8192x128, .f32⟩
  | .hbm, ⟨13, _⟩ => ⟨S128x8192x128, .f32⟩
  | .hbm, ⟨14, _⟩ => ⟨S128x8192x128, .f32⟩
  | .hbm, ⟨15, _⟩ => ⟨S128x8192x128, .f32⟩
  | .local _ .smem, ⟨0, _⟩ => ⟨S128x64, .i32⟩
  | _, _ => ⟨S1x10240x128x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev main_arg4 : Ref sig .tc := ⟨.smem, 0, rfl⟩

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 3 → Nat :=
  let arg0 : BitVec 32 := BitVec.ofNat 32 (i 0).val
  let c0_i32_0 : BitVec 32 := 0#32
  let c0_i32_1 : BitVec 32 := 0#32
  ![arg0.toNat, 0, 0]
def k0_off3 (v1 : BitVec 32) : Fin 3 → Nat :=
  let c0_i32_2 : BitVec 32 := 0#32
  let c0_i32_3 : BitVec 32 := 0#32
  ![v1.toNat, 0, 0]

def k0_chk1 (v1 : BitVec 32) : Prop :=
  (∀ a, (k0_off3 v1) a + S1x128x128.size a ≤ S10240x128x128.size a)
theorem k0_off3_inb : ∀ (v1 : BitVec 32) (k0_hw1 : k0_chk1 v1), ∀ a, (k0_off3 v1) a + S1x128x128.size a ≤ S10240x128x128.size a := fun v1 k0_hw1 => k0_hw1

def k0_off4 (i : grid0.Coords) : Fin 2 → Nat :=
  let arg0 : BitVec 32 := BitVec.ofNat 32 (i 0).val
  let v8 : Index := Scalar.indexCast arg0
  let c1 : Index := 1#32
  ![v8.toNat, 1]
def k0_off5 (i : grid0.Coords) : Fin 3 → Nat :=
  let arg0 : BitVec 32 := BitVec.ofNat 32 (i 0).val
  let c128_i32 : BitVec 32 := 128#32
  let c0_i32_5 : BitVec 32 := 0#32
  ![arg0.toNat, 128, 0]
def k0_off6 (v9 : BitVec 32) : Fin 3 → Nat :=
  let c0_i32_6 : BitVec 32 := 0#32
  let c0_i32_7 : BitVec 32 := 0#32
  ![v9.toNat, 0, 0]

def k0_chk2 (v9 : BitVec 32) : Prop :=
  (∀ a, (k0_off6 v9) a + S1x128x128.size a ≤ S10240x128x128.size a)
theorem k0_off6_inb : ∀ (v9 : BitVec 32) (k0_hw2 : k0_chk2 v9), ∀ a, (k0_off6 v9) a + S1x128x128.size a ≤ S10240x128x128.size a := fun v9 k0_hw2 => k0_hw2

def k0_off7 (i : grid0.Coords) : Fin 2 → Nat :=
  let arg0 : BitVec 32 := BitVec.ofNat 32 (i 0).val
  let v16 : Index := Scalar.indexCast arg0
  let c2 : Index := 2#32
  ![v16.toNat, 2]
def k0_off8 (i : grid0.Coords) : Fin 3 → Nat :=
  let arg0 : BitVec 32 := BitVec.ofNat 32 (i 0).val
  let c256_i32 : BitVec 32 := 256#32
  let c0_i32_9 : BitVec 32 := 0#32
  ![arg0.toNat, 256, 0]
def k0_off9 (v17 : BitVec 32) : Fin 3 → Nat :=
  let c0_i32_10 : BitVec 32 := 0#32
  let c0_i32_11 : BitVec 32 := 0#32
  ![v17.toNat, 0, 0]

def k0_chk3 (v17 : BitVec 32) : Prop :=
  (∀ a, (k0_off9 v17) a + S1x128x128.size a ≤ S10240x128x128.size a)
theorem k0_off9_inb : ∀ (v17 : BitVec 32) (k0_hw3 : k0_chk3 v17), ∀ a, (k0_off9 v17) a + S1x128x128.size a ≤ S10240x128x128.size a := fun v17 k0_hw3 => k0_hw3

def k0_off10 (i : grid0.Coords) : Fin 2 → Nat :=
  let arg0 : BitVec 32 := BitVec.ofNat 32 (i 0).val
  let v24 : Index := Scalar.indexCast arg0
  let c3 : Index := 3#32
  ![v24.toNat, 3]
def k0_off11 (i : grid0.Coords) : Fin 3 → Nat :=
  let arg0 : BitVec 32 := BitVec.ofNat 32 (i 0).val
  let c384_i32 : BitVec 32 := 384#32
  let c0_i32_13 : BitVec 32 := 0#32
  ![arg0.toNat, 384, 0]
def k0_off12 (v25 : BitVec 32) : Fin 3 → Nat :=
  let c0_i32_14 : BitVec 32 := 0#32
  let c0_i32_15 : BitVec 32 := 0#32
  ![v25.toNat, 0, 0]

def k0_chk4 (v25 : BitVec 32) : Prop :=
  (∀ a, (k0_off12 v25) a + S1x128x128.size a ≤ S10240x128x128.size a)
theorem k0_off12_inb : ∀ (v25 : BitVec 32) (k0_hw4 : k0_chk4 v25), ∀ a, (k0_off12 v25) a + S1x128x128.size a ≤ S10240x128x128.size a := fun v25 k0_hw4 => k0_hw4

def k0_off13 (i : grid0.Coords) : Fin 2 → Nat :=
  let arg0 : BitVec 32 := BitVec.ofNat 32 (i 0).val
  let v32 : Index := Scalar.indexCast arg0
  let c4 : Index := 4#32
  ![v32.toNat, 4]
def k0_off14 (i : grid0.Coords) : Fin 3 → Nat :=
  let arg0 : BitVec 32 := BitVec.ofNat 32 (i 0).val
  let c512_i32 : BitVec 32 := 512#32
  let c0_i32_17 : BitVec 32 := 0#32
  ![arg0.toNat, 512, 0]
def k0_off15 (v33 : BitVec 32) : Fin 3 → Nat :=
  let c0_i32_18 : BitVec 32 := 0#32
  let c0_i32_19 : BitVec 32 := 0#32
  ![v33.toNat, 0, 0]

def k0_chk5 (v33 : BitVec 32) : Prop :=
  (∀ a, (k0_off15 v33) a + S1x128x128.size a ≤ S10240x128x128.size a)
theorem k0_off15_inb : ∀ (v33 : BitVec 32) (k0_hw5 : k0_chk5 v33), ∀ a, (k0_off15 v33) a + S1x128x128.size a ≤ S10240x128x128.size a := fun v33 k0_hw5 => k0_hw5

def k0_off16 (i : grid0.Coords) : Fin 2 → Nat :=
  let arg0 : BitVec 32 := BitVec.ofNat 32 (i 0).val
  let v40 : Index := Scalar.indexCast arg0
  let c5 : Index := 5#32
  ![v40.toNat, 5]
def k0_off17 (i : grid0.Coords) : Fin 3 → Nat :=
  let arg0 : BitVec 32 := BitVec.ofNat 32 (i 0).val
  let c640_i32 : BitVec 32 := 640#32
  let c0_i32_21 : BitVec 32 := 0#32
  ![arg0.toNat, 640, 0]
def k0_off18 (v41 : BitVec 32) : Fin 3 → Nat :=
  let c0_i32_22 : BitVec 32 := 0#32
  let c0_i32_23 : BitVec 32 := 0#32
  ![v41.toNat, 0, 0]

def k0_chk6 (v41 : BitVec 32) : Prop :=
  (∀ a, (k0_off18 v41) a + S1x128x128.size a ≤ S10240x128x128.size a)
theorem k0_off18_inb : ∀ (v41 : BitVec 32) (k0_hw6 : k0_chk6 v41), ∀ a, (k0_off18 v41) a + S1x128x128.size a ≤ S10240x128x128.size a := fun v41 k0_hw6 => k0_hw6

def k0_off19 (i : grid0.Coords) : Fin 2 → Nat :=
  let arg0 : BitVec 32 := BitVec.ofNat 32 (i 0).val
  let v48 : Index := Scalar.indexCast arg0
  let c6 : Index := 6#32
  ![v48.toNat, 6]
def k0_off20 (i : grid0.Coords) : Fin 3 → Nat :=
  let arg0 : BitVec 32 := BitVec.ofNat 32 (i 0).val
  let c768_i32 : BitVec 32 := 768#32
  let c0_i32_25 : BitVec 32 := 0#32
  ![arg0.toNat, 768, 0]
def k0_off21 (v49 : BitVec 32) : Fin 3 → Nat :=
  let c0_i32_26 : BitVec 32 := 0#32
  let c0_i32_27 : BitVec 32 := 0#32
  ![v49.toNat, 0, 0]

def k0_chk7 (v49 : BitVec 32) : Prop :=
  (∀ a, (k0_off21 v49) a + S1x128x128.size a ≤ S10240x128x128.size a)
theorem k0_off21_inb : ∀ (v49 : BitVec 32) (k0_hw7 : k0_chk7 v49), ∀ a, (k0_off21 v49) a + S1x128x128.size a ≤ S10240x128x128.size a := fun v49 k0_hw7 => k0_hw7

def k0_off22 (i : grid0.Coords) : Fin 2 → Nat :=
  let arg0 : BitVec 32 := BitVec.ofNat 32 (i 0).val
  let v56 : Index := Scalar.indexCast arg0
  let c7 : Index := 7#32
  ![v56.toNat, 7]
def k0_off23 (i : grid0.Coords) : Fin 3 → Nat :=
  let arg0 : BitVec 32 := BitVec.ofNat 32 (i 0).val
  let c896_i32 : BitVec 32 := 896#32
  let c0_i32_29 : BitVec 32 := 0#32
  ![arg0.toNat, 896, 0]
def k0_off24 (v57 : BitVec 32) : Fin 3 → Nat :=
  let c0_i32_30 : BitVec 32 := 0#32
  let c0_i32_31 : BitVec 32 := 0#32
  ![v57.toNat, 0, 0]

def k0_chk8 (v57 : BitVec 32) : Prop :=
  (∀ a, (k0_off24 v57) a + S1x128x128.size a ≤ S10240x128x128.size a)
theorem k0_off24_inb : ∀ (v57 : BitVec 32) (k0_hw8 : k0_chk8 v57), ∀ a, (k0_off24 v57) a + S1x128x128.size a ≤ S10240x128x128.size a := fun v57 k0_hw8 => k0_hw8

def k0_off25 (i : grid0.Coords) : Fin 2 → Nat :=
  let arg0 : BitVec 32 := BitVec.ofNat 32 (i 0).val
  let v64 : Index := Scalar.indexCast arg0
  let c8 : Index := 8#32
  ![v64.toNat, 8]
def k0_off26 (i : grid0.Coords) : Fin 3 → Nat :=
  let arg0 : BitVec 32 := BitVec.ofNat 32 (i 0).val
  let c1024_i32 : BitVec 32 := 1024#32
  let c0_i32_33 : BitVec 32 := 0#32
  ![arg0.toNat, 1024, 0]
def k0_off27 (v65 : BitVec 32) : Fin 3 → Nat :=
  let c0_i32_34 : BitVec 32 := 0#32
  let c0_i32_35 : BitVec 32 := 0#32
  ![v65.toNat, 0, 0]

def k0_chk9 (v65 : BitVec 32) : Prop :=
  (∀ a, (k0_off27 v65) a + S1x128x128.size a ≤ S10240x128x128.size a)
theorem k0_off27_inb : ∀ (v65 : BitVec 32) (k0_hw9 : k0_chk9 v65), ∀ a, (k0_off27 v65) a + S1x128x128.size a ≤ S10240x128x128.size a := fun v65 k0_hw9 => k0_hw9

def k0_off28 (i : grid0.Coords) : Fin 2 → Nat :=
  let arg0 : BitVec 32 := BitVec.ofNat 32 (i 0).val
  let v72 : Index := Scalar.indexCast arg0
  let c9 : Index := 9#32
  ![v72.toNat, 9]
def k0_off29 (i : grid0.Coords) : Fin 3 → Nat :=
  let arg0 : BitVec 32 := BitVec.ofNat 32 (i 0).val
  let c1152_i32 : BitVec 32 := 1152#32
  let c0_i32_37 : BitVec 32 := 0#32
  ![arg0.toNat, 1152, 0]
def k0_off30 (v73 : BitVec 32) : Fin 3 → Nat :=
  let c0_i32_38 : BitVec 32 := 0#32
  let c0_i32_39 : BitVec 32 := 0#32
  ![v73.toNat, 0, 0]

def k0_chk10 (v73 : BitVec 32) : Prop :=
  (∀ a, (k0_off30 v73) a + S1x128x128.size a ≤ S10240x128x128.size a)
theorem k0_off30_inb : ∀ (v73 : BitVec 32) (k0_hw10 : k0_chk10 v73), ∀ a, (k0_off30 v73) a + S1x128x128.size a ≤ S10240x128x128.size a := fun v73 k0_hw10 => k0_hw10

def k0_off31 (i : grid0.Coords) : Fin 2 → Nat :=
  let arg0 : BitVec 32 := BitVec.ofNat 32 (i 0).val
  let v80 : Index := Scalar.indexCast arg0
  let c10 : Index := 10#32
  ![v80.toNat, 10]
def k0_off32 (i : grid0.Coords) : Fin 3 → Nat :=
  let arg0 : BitVec 32 := BitVec.ofNat 32 (i 0).val
  let c1280_i32 : BitVec 32 := 1280#32
  let c0_i32_41 : BitVec 32 := 0#32
  ![arg0.toNat, 1280, 0]
def k0_off33 (v81 : BitVec 32) : Fin 3 → Nat :=
  let c0_i32_42 : BitVec 32 := 0#32
  let c0_i32_43 : BitVec 32 := 0#32
  ![v81.toNat, 0, 0]

def k0_chk11 (v81 : BitVec 32) : Prop :=
  (∀ a, (k0_off33 v81) a + S1x128x128.size a ≤ S10240x128x128.size a)
theorem k0_off33_inb : ∀ (v81 : BitVec 32) (k0_hw11 : k0_chk11 v81), ∀ a, (k0_off33 v81) a + S1x128x128.size a ≤ S10240x128x128.size a := fun v81 k0_hw11 => k0_hw11

def k0_off34 (i : grid0.Coords) : Fin 2 → Nat :=
  let arg0 : BitVec 32 := BitVec.ofNat 32 (i 0).val
  let v88 : Index := Scalar.indexCast arg0
  let c11 : Index := 11#32
  ![v88.toNat, 11]
def k0_off35 (i : grid0.Coords) : Fin 3 → Nat :=
  let arg0 : BitVec 32 := BitVec.ofNat 32 (i 0).val
  let c1408_i32 : BitVec 32 := 1408#32
  let c0_i32_45 : BitVec 32 := 0#32
  ![arg0.toNat, 1408, 0]
def k0_off36 (v89 : BitVec 32) : Fin 3 → Nat :=
  let c0_i32_46 : BitVec 32 := 0#32
  let c0_i32_47 : BitVec 32 := 0#32
  ![v89.toNat, 0, 0]

def k0_chk12 (v89 : BitVec 32) : Prop :=
  (∀ a, (k0_off36 v89) a + S1x128x128.size a ≤ S10240x128x128.size a)
theorem k0_off36_inb : ∀ (v89 : BitVec 32) (k0_hw12 : k0_chk12 v89), ∀ a, (k0_off36 v89) a + S1x128x128.size a ≤ S10240x128x128.size a := fun v89 k0_hw12 => k0_hw12

def k0_off37 (i : grid0.Coords) : Fin 2 → Nat :=
  let arg0 : BitVec 32 := BitVec.ofNat 32 (i 0).val
  let v96 : Index := Scalar.indexCast arg0
  let c12 : Index := 12#32
  ![v96.toNat, 12]
def k0_off38 (i : grid0.Coords) : Fin 3 → Nat :=
  let arg0 : BitVec 32 := BitVec.ofNat 32 (i 0).val
  let c1536_i32 : BitVec 32 := 1536#32
  let c0_i32_49 : BitVec 32 := 0#32
  ![arg0.toNat, 1536, 0]
def k0_off39 (v97 : BitVec 32) : Fin 3 → Nat :=
  let c0_i32_50 : BitVec 32 := 0#32
  let c0_i32_51 : BitVec 32 := 0#32
  ![v97.toNat, 0, 0]

def k0_chk13 (v97 : BitVec 32) : Prop :=
  (∀ a, (k0_off39 v97) a + S1x128x128.size a ≤ S10240x128x128.size a)
theorem k0_off39_inb : ∀ (v97 : BitVec 32) (k0_hw13 : k0_chk13 v97), ∀ a, (k0_off39 v97) a + S1x128x128.size a ≤ S10240x128x128.size a := fun v97 k0_hw13 => k0_hw13

def k0_off40 (i : grid0.Coords) : Fin 2 → Nat :=
  let arg0 : BitVec 32 := BitVec.ofNat 32 (i 0).val
  let v104 : Index := Scalar.indexCast arg0
  let c13 : Index := 13#32
  ![v104.toNat, 13]
def k0_off41 (i : grid0.Coords) : Fin 3 → Nat :=
  let arg0 : BitVec 32 := BitVec.ofNat 32 (i 0).val
  let c1664_i32 : BitVec 32 := 1664#32
  let c0_i32_53 : BitVec 32 := 0#32
  ![arg0.toNat, 1664, 0]
def k0_off42 (v105 : BitVec 32) : Fin 3 → Nat :=
  let c0_i32_54 : BitVec 32 := 0#32
  let c0_i32_55 : BitVec 32 := 0#32
  ![v105.toNat, 0, 0]

def k0_chk14 (v105 : BitVec 32) : Prop :=
  (∀ a, (k0_off42 v105) a + S1x128x128.size a ≤ S10240x128x128.size a)
theorem k0_off42_inb : ∀ (v105 : BitVec 32) (k0_hw14 : k0_chk14 v105), ∀ a, (k0_off42 v105) a + S1x128x128.size a ≤ S10240x128x128.size a := fun v105 k0_hw14 => k0_hw14

def k0_off43 (i : grid0.Coords) : Fin 2 → Nat :=
  let arg0 : BitVec 32 := BitVec.ofNat 32 (i 0).val
  let v112 : Index := Scalar.indexCast arg0
  let c14 : Index := 14#32
  ![v112.toNat, 14]
def k0_off44 (i : grid0.Coords) : Fin 3 → Nat :=
  let arg0 : BitVec 32 := BitVec.ofNat 32 (i 0).val
  let c1792_i32 : BitVec 32 := 1792#32
  let c0_i32_57 : BitVec 32 := 0#32
  ![arg0.toNat, 1792, 0]
def k0_off45 (v113 : BitVec 32) : Fin 3 → Nat :=
  let c0_i32_58 : BitVec 32 := 0#32
  let c0_i32_59 : BitVec 32 := 0#32
  ![v113.toNat, 0, 0]

def k0_chk15 (v113 : BitVec 32) : Prop :=
  (∀ a, (k0_off45 v113) a + S1x128x128.size a ≤ S10240x128x128.size a)
theorem k0_off45_inb : ∀ (v113 : BitVec 32) (k0_hw15 : k0_chk15 v113), ∀ a, (k0_off45 v113) a + S1x128x128.size a ≤ S10240x128x128.size a := fun v113 k0_hw15 => k0_hw15

def k0_off46 (i : grid0.Coords) : Fin 2 → Nat :=
  let arg0 : BitVec 32 := BitVec.ofNat 32 (i 0).val
  let v120 : Index := Scalar.indexCast arg0
  let c15 : Index := 15#32
  ![v120.toNat, 15]
def k0_off47 (i : grid0.Coords) : Fin 3 → Nat :=
  let arg0 : BitVec 32 := BitVec.ofNat 32 (i 0).val
  let c1920_i32 : BitVec 32 := 1920#32
  let c0_i32_61 : BitVec 32 := 0#32
  ![arg0.toNat, 1920, 0]
def k0_off48 (v121 : BitVec 32) : Fin 3 → Nat :=
  let c0_i32_62 : BitVec 32 := 0#32
  let c0_i32_63 : BitVec 32 := 0#32
  ![v121.toNat, 0, 0]

def k0_chk16 (v121 : BitVec 32) : Prop :=
  (∀ a, (k0_off48 v121) a + S1x128x128.size a ≤ S10240x128x128.size a)
theorem k0_off48_inb : ∀ (v121 : BitVec 32) (k0_hw16 : k0_chk16 v121), ∀ a, (k0_off48 v121) a + S1x128x128.size a ≤ S10240x128x128.size a := fun v121 k0_hw16 => k0_hw16

def k0_off49 (i : grid0.Coords) : Fin 2 → Nat :=
  let arg0 : BitVec 32 := BitVec.ofNat 32 (i 0).val
  let v128 : Index := Scalar.indexCast arg0
  let c16 : Index := 16#32
  ![v128.toNat, 16]
def k0_off50 (i : grid0.Coords) : Fin 3 → Nat :=
  let arg0 : BitVec 32 := BitVec.ofNat 32 (i 0).val
  let c2048_i32 : BitVec 32 := 2048#32
  let c0_i32_65 : BitVec 32 := 0#32
  ![arg0.toNat, 2048, 0]
def k0_off51 (v129 : BitVec 32) : Fin 3 → Nat :=
  let c0_i32_66 : BitVec 32 := 0#32
  let c0_i32_67 : BitVec 32 := 0#32
  ![v129.toNat, 0, 0]

def k0_chk17 (v129 : BitVec 32) : Prop :=
  (∀ a, (k0_off51 v129) a + S1x128x128.size a ≤ S10240x128x128.size a)
theorem k0_off51_inb : ∀ (v129 : BitVec 32) (k0_hw17 : k0_chk17 v129), ∀ a, (k0_off51 v129) a + S1x128x128.size a ≤ S10240x128x128.size a := fun v129 k0_hw17 => k0_hw17

def k0_off52 (i : grid0.Coords) : Fin 2 → Nat :=
  let arg0 : BitVec 32 := BitVec.ofNat 32 (i 0).val
  let v136 : Index := Scalar.indexCast arg0
  let c17 : Index := 17#32
  ![v136.toNat, 17]
def k0_off53 (i : grid0.Coords) : Fin 3 → Nat :=
  let arg0 : BitVec 32 := BitVec.ofNat 32 (i 0).val
  let c2176_i32 : BitVec 32 := 2176#32
  let c0_i32_69 : BitVec 32 := 0#32
  ![arg0.toNat, 2176, 0]
def k0_off54 (v137 : BitVec 32) : Fin 3 → Nat :=
  let c0_i32_70 : BitVec 32 := 0#32
  let c0_i32_71 : BitVec 32 := 0#32
  ![v137.toNat, 0, 0]

def k0_chk18 (v137 : BitVec 32) : Prop :=
  (∀ a, (k0_off54 v137) a + S1x128x128.size a ≤ S10240x128x128.size a)
theorem k0_off54_inb : ∀ (v137 : BitVec 32) (k0_hw18 : k0_chk18 v137), ∀ a, (k0_off54 v137) a + S1x128x128.size a ≤ S10240x128x128.size a := fun v137 k0_hw18 => k0_hw18

def k0_off55 (i : grid0.Coords) : Fin 2 → Nat :=
  let arg0 : BitVec 32 := BitVec.ofNat 32 (i 0).val
  let v144 : Index := Scalar.indexCast arg0
  let c18 : Index := 18#32
  ![v144.toNat, 18]
def k0_off56 (i : grid0.Coords) : Fin 3 → Nat :=
  let arg0 : BitVec 32 := BitVec.ofNat 32 (i 0).val
  let c2304_i32 : BitVec 32 := 2304#32
  let c0_i32_73 : BitVec 32 := 0#32
  ![arg0.toNat, 2304, 0]
def k0_off57 (v145 : BitVec 32) : Fin 3 → Nat :=
  let c0_i32_74 : BitVec 32 := 0#32
  let c0_i32_75 : BitVec 32 := 0#32
  ![v145.toNat, 0, 0]

def k0_chk19 (v145 : BitVec 32) : Prop :=
  (∀ a, (k0_off57 v145) a + S1x128x128.size a ≤ S10240x128x128.size a)
theorem k0_off57_inb : ∀ (v145 : BitVec 32) (k0_hw19 : k0_chk19 v145), ∀ a, (k0_off57 v145) a + S1x128x128.size a ≤ S10240x128x128.size a := fun v145 k0_hw19 => k0_hw19

def k0_off58 (i : grid0.Coords) : Fin 2 → Nat :=
  let arg0 : BitVec 32 := BitVec.ofNat 32 (i 0).val
  let v152 : Index := Scalar.indexCast arg0
  let c19 : Index := 19#32
  ![v152.toNat, 19]
def k0_off59 (i : grid0.Coords) : Fin 3 → Nat :=
  let arg0 : BitVec 32 := BitVec.ofNat 32 (i 0).val
  let c2432_i32 : BitVec 32 := 2432#32
  let c0_i32_77 : BitVec 32 := 0#32
  ![arg0.toNat, 2432, 0]
def k0_off60 (v153 : BitVec 32) : Fin 3 → Nat :=
  let c0_i32_78 : BitVec 32 := 0#32
  let c0_i32_79 : BitVec 32 := 0#32
  ![v153.toNat, 0, 0]

def k0_chk20 (v153 : BitVec 32) : Prop :=
  (∀ a, (k0_off60 v153) a + S1x128x128.size a ≤ S10240x128x128.size a)
theorem k0_off60_inb : ∀ (v153 : BitVec 32) (k0_hw20 : k0_chk20 v153), ∀ a, (k0_off60 v153) a + S1x128x128.size a ≤ S10240x128x128.size a := fun v153 k0_hw20 => k0_hw20

def k0_off61 (i : grid0.Coords) : Fin 2 → Nat :=
  let arg0 : BitVec 32 := BitVec.ofNat 32 (i 0).val
  let v160 : Index := Scalar.indexCast arg0
  let c20 : Index := 20#32
  ![v160.toNat, 20]
def k0_off62 (i : grid0.Coords) : Fin 3 → Nat :=
  let arg0 : BitVec 32 := BitVec.ofNat 32 (i 0).val
  let c2560_i32 : BitVec 32 := 2560#32
  let c0_i32_81 : BitVec 32 := 0#32
  ![arg0.toNat, 2560, 0]
def k0_off63 (v161 : BitVec 32) : Fin 3 → Nat :=
  let c0_i32_82 : BitVec 32 := 0#32
  let c0_i32_83 : BitVec 32 := 0#32
  ![v161.toNat, 0, 0]

def k0_chk21 (v161 : BitVec 32) : Prop :=
  (∀ a, (k0_off63 v161) a + S1x128x128.size a ≤ S10240x128x128.size a)
theorem k0_off63_inb : ∀ (v161 : BitVec 32) (k0_hw21 : k0_chk21 v161), ∀ a, (k0_off63 v161) a + S1x128x128.size a ≤ S10240x128x128.size a := fun v161 k0_hw21 => k0_hw21

def k0_off64 (i : grid0.Coords) : Fin 2 → Nat :=
  let arg0 : BitVec 32 := BitVec.ofNat 32 (i 0).val
  let v168 : Index := Scalar.indexCast arg0
  let c21 : Index := 21#32
  ![v168.toNat, 21]
def k0_off65 (i : grid0.Coords) : Fin 3 → Nat :=
  let arg0 : BitVec 32 := BitVec.ofNat 32 (i 0).val
  let c2688_i32 : BitVec 32 := 2688#32
  let c0_i32_85 : BitVec 32 := 0#32
  ![arg0.toNat, 2688, 0]
def k0_off66 (v169 : BitVec 32) : Fin 3 → Nat :=
  let c0_i32_86 : BitVec 32 := 0#32
  let c0_i32_87 : BitVec 32 := 0#32
  ![v169.toNat, 0, 0]

def k0_chk22 (v169 : BitVec 32) : Prop :=
  (∀ a, (k0_off66 v169) a + S1x128x128.size a ≤ S10240x128x128.size a)
theorem k0_off66_inb : ∀ (v169 : BitVec 32) (k0_hw22 : k0_chk22 v169), ∀ a, (k0_off66 v169) a + S1x128x128.size a ≤ S10240x128x128.size a := fun v169 k0_hw22 => k0_hw22

def k0_off67 (i : grid0.Coords) : Fin 2 → Nat :=
  let arg0 : BitVec 32 := BitVec.ofNat 32 (i 0).val
  let v176 : Index := Scalar.indexCast arg0
  let c22 : Index := 22#32
  ![v176.toNat, 22]
def k0_off68 (i : grid0.Coords) : Fin 3 → Nat :=
  let arg0 : BitVec 32 := BitVec.ofNat 32 (i 0).val
  let c2816_i32 : BitVec 32 := 2816#32
  let c0_i32_89 : BitVec 32 := 0#32
  ![arg0.toNat, 2816, 0]
def k0_off69 (v177 : BitVec 32) : Fin 3 → Nat :=
  let c0_i32_90 : BitVec 32 := 0#32
  let c0_i32_91 : BitVec 32 := 0#32
  ![v177.toNat, 0, 0]

def k0_chk23 (v177 : BitVec 32) : Prop :=
  (∀ a, (k0_off69 v177) a + S1x128x128.size a ≤ S10240x128x128.size a)
theorem k0_off69_inb : ∀ (v177 : BitVec 32) (k0_hw23 : k0_chk23 v177), ∀ a, (k0_off69 v177) a + S1x128x128.size a ≤ S10240x128x128.size a := fun v177 k0_hw23 => k0_hw23

def k0_off70 (i : grid0.Coords) : Fin 2 → Nat :=
  let arg0 : BitVec 32 := BitVec.ofNat 32 (i 0).val
  let v184 : Index := Scalar.indexCast arg0
  let c23 : Index := 23#32
  ![v184.toNat, 23]
def k0_off71 (i : grid0.Coords) : Fin 3 → Nat :=
  let arg0 : BitVec 32 := BitVec.ofNat 32 (i 0).val
  let c2944_i32 : BitVec 32 := 2944#32
  let c0_i32_93 : BitVec 32 := 0#32
  ![arg0.toNat, 2944, 0]
def k0_off72 (v185 : BitVec 32) : Fin 3 → Nat :=
  let c0_i32_94 : BitVec 32 := 0#32
  let c0_i32_95 : BitVec 32 := 0#32
  ![v185.toNat, 0, 0]

def k0_chk24 (v185 : BitVec 32) : Prop :=
  (∀ a, (k0_off72 v185) a + S1x128x128.size a ≤ S10240x128x128.size a)
theorem k0_off72_inb : ∀ (v185 : BitVec 32) (k0_hw24 : k0_chk24 v185), ∀ a, (k0_off72 v185) a + S1x128x128.size a ≤ S10240x128x128.size a := fun v185 k0_hw24 => k0_hw24

def k0_off73 (i : grid0.Coords) : Fin 2 → Nat :=
  let arg0 : BitVec 32 := BitVec.ofNat 32 (i 0).val
  let v192 : Index := Scalar.indexCast arg0
  let c24 : Index := 24#32
  ![v192.toNat, 24]
def k0_off74 (i : grid0.Coords) : Fin 3 → Nat :=
  let arg0 : BitVec 32 := BitVec.ofNat 32 (i 0).val
  let c3072_i32 : BitVec 32 := 3072#32
  let c0_i32_97 : BitVec 32 := 0#32
  ![arg0.toNat, 3072, 0]
def k0_off75 (v193 : BitVec 32) : Fin 3 → Nat :=
  let c0_i32_98 : BitVec 32 := 0#32
  let c0_i32_99 : BitVec 32 := 0#32
  ![v193.toNat, 0, 0]

def k0_chk25 (v193 : BitVec 32) : Prop :=
  (∀ a, (k0_off75 v193) a + S1x128x128.size a ≤ S10240x128x128.size a)
theorem k0_off75_inb : ∀ (v193 : BitVec 32) (k0_hw25 : k0_chk25 v193), ∀ a, (k0_off75 v193) a + S1x128x128.size a ≤ S10240x128x128.size a := fun v193 k0_hw25 => k0_hw25

def k0_off76 (i : grid0.Coords) : Fin 2 → Nat :=
  let arg0 : BitVec 32 := BitVec.ofNat 32 (i 0).val
  let v200 : Index := Scalar.indexCast arg0
  let c25 : Index := 25#32
  ![v200.toNat, 25]
def k0_off77 (i : grid0.Coords) : Fin 3 → Nat :=
  let arg0 : BitVec 32 := BitVec.ofNat 32 (i 0).val
  let c3200_i32 : BitVec 32 := 3200#32
  let c0_i32_101 : BitVec 32 := 0#32
  ![arg0.toNat, 3200, 0]
def k0_off78 (v201 : BitVec 32) : Fin 3 → Nat :=
  let c0_i32_102 : BitVec 32 := 0#32
  let c0_i32_103 : BitVec 32 := 0#32
  ![v201.toNat, 0, 0]

def k0_chk26 (v201 : BitVec 32) : Prop :=
  (∀ a, (k0_off78 v201) a + S1x128x128.size a ≤ S10240x128x128.size a)
theorem k0_off78_inb : ∀ (v201 : BitVec 32) (k0_hw26 : k0_chk26 v201), ∀ a, (k0_off78 v201) a + S1x128x128.size a ≤ S10240x128x128.size a := fun v201 k0_hw26 => k0_hw26

def k0_off79 (i : grid0.Coords) : Fin 2 → Nat :=
  let arg0 : BitVec 32 := BitVec.ofNat 32 (i 0).val
  let v208 : Index := Scalar.indexCast arg0
  let c26 : Index := 26#32
  ![v208.toNat, 26]
def k0_off80 (i : grid0.Coords) : Fin 3 → Nat :=
  let arg0 : BitVec 32 := BitVec.ofNat 32 (i 0).val
  let c3328_i32 : BitVec 32 := 3328#32
  let c0_i32_105 : BitVec 32 := 0#32
  ![arg0.toNat, 3328, 0]
def k0_off81 (v209 : BitVec 32) : Fin 3 → Nat :=
  let c0_i32_106 : BitVec 32 := 0#32
  let c0_i32_107 : BitVec 32 := 0#32
  ![v209.toNat, 0, 0]

def k0_chk27 (v209 : BitVec 32) : Prop :=
  (∀ a, (k0_off81 v209) a + S1x128x128.size a ≤ S10240x128x128.size a)
theorem k0_off81_inb : ∀ (v209 : BitVec 32) (k0_hw27 : k0_chk27 v209), ∀ a, (k0_off81 v209) a + S1x128x128.size a ≤ S10240x128x128.size a := fun v209 k0_hw27 => k0_hw27

def k0_off82 (i : grid0.Coords) : Fin 2 → Nat :=
  let arg0 : BitVec 32 := BitVec.ofNat 32 (i 0).val
  let v216 : Index := Scalar.indexCast arg0
  let c27 : Index := 27#32
  ![v216.toNat, 27]
def k0_off83 (i : grid0.Coords) : Fin 3 → Nat :=
  let arg0 : BitVec 32 := BitVec.ofNat 32 (i 0).val
  let c3456_i32 : BitVec 32 := 3456#32
  let c0_i32_109 : BitVec 32 := 0#32
  ![arg0.toNat, 3456, 0]
def k0_off84 (v217 : BitVec 32) : Fin 3 → Nat :=
  let c0_i32_110 : BitVec 32 := 0#32
  let c0_i32_111 : BitVec 32 := 0#32
  ![v217.toNat, 0, 0]

def k0_chk28 (v217 : BitVec 32) : Prop :=
  (∀ a, (k0_off84 v217) a + S1x128x128.size a ≤ S10240x128x128.size a)
theorem k0_off84_inb : ∀ (v217 : BitVec 32) (k0_hw28 : k0_chk28 v217), ∀ a, (k0_off84 v217) a + S1x128x128.size a ≤ S10240x128x128.size a := fun v217 k0_hw28 => k0_hw28

def k0_off85 (i : grid0.Coords) : Fin 2 → Nat :=
  let arg0 : BitVec 32 := BitVec.ofNat 32 (i 0).val
  let v224 : Index := Scalar.indexCast arg0
  let c28 : Index := 28#32
  ![v224.toNat, 28]
def k0_off86 (i : grid0.Coords) : Fin 3 → Nat :=
  let arg0 : BitVec 32 := BitVec.ofNat 32 (i 0).val
  let c3584_i32 : BitVec 32 := 3584#32
  let c0_i32_113 : BitVec 32 := 0#32
  ![arg0.toNat, 3584, 0]
def k0_off87 (v225 : BitVec 32) : Fin 3 → Nat :=
  let c0_i32_114 : BitVec 32 := 0#32
  let c0_i32_115 : BitVec 32 := 0#32
  ![v225.toNat, 0, 0]

def k0_chk29 (v225 : BitVec 32) : Prop :=
  (∀ a, (k0_off87 v225) a + S1x128x128.size a ≤ S10240x128x128.size a)
theorem k0_off87_inb : ∀ (v225 : BitVec 32) (k0_hw29 : k0_chk29 v225), ∀ a, (k0_off87 v225) a + S1x128x128.size a ≤ S10240x128x128.size a := fun v225 k0_hw29 => k0_hw29

def k0_off88 (i : grid0.Coords) : Fin 2 → Nat :=
  let arg0 : BitVec 32 := BitVec.ofNat 32 (i 0).val
  let v232 : Index := Scalar.indexCast arg0
  let c29 : Index := 29#32
  ![v232.toNat, 29]
def k0_off89 (i : grid0.Coords) : Fin 3 → Nat :=
  let arg0 : BitVec 32 := BitVec.ofNat 32 (i 0).val
  let c3712_i32 : BitVec 32 := 3712#32
  let c0_i32_117 : BitVec 32 := 0#32
  ![arg0.toNat, 3712, 0]
def k0_off90 (v233 : BitVec 32) : Fin 3 → Nat :=
  let c0_i32_118 : BitVec 32 := 0#32
  let c0_i32_119 : BitVec 32 := 0#32
  ![v233.toNat, 0, 0]

def k0_chk30 (v233 : BitVec 32) : Prop :=
  (∀ a, (k0_off90 v233) a + S1x128x128.size a ≤ S10240x128x128.size a)
theorem k0_off90_inb : ∀ (v233 : BitVec 32) (k0_hw30 : k0_chk30 v233), ∀ a, (k0_off90 v233) a + S1x128x128.size a ≤ S10240x128x128.size a := fun v233 k0_hw30 => k0_hw30

def k0_off91 (i : grid0.Coords) : Fin 2 → Nat :=
  let arg0 : BitVec 32 := BitVec.ofNat 32 (i 0).val
  let v240 : Index := Scalar.indexCast arg0
  let c30 : Index := 30#32
  ![v240.toNat, 30]
def k0_off92 (i : grid0.Coords) : Fin 3 → Nat :=
  let arg0 : BitVec 32 := BitVec.ofNat 32 (i 0).val
  let c3840_i32 : BitVec 32 := 3840#32
  let c0_i32_121 : BitVec 32 := 0#32
  ![arg0.toNat, 3840, 0]
def k0_off93 (v241 : BitVec 32) : Fin 3 → Nat :=
  let c0_i32_122 : BitVec 32 := 0#32
  let c0_i32_123 : BitVec 32 := 0#32
  ![v241.toNat, 0, 0]

def k0_chk31 (v241 : BitVec 32) : Prop :=
  (∀ a, (k0_off93 v241) a + S1x128x128.size a ≤ S10240x128x128.size a)
theorem k0_off93_inb : ∀ (v241 : BitVec 32) (k0_hw31 : k0_chk31 v241), ∀ a, (k0_off93 v241) a + S1x128x128.size a ≤ S10240x128x128.size a := fun v241 k0_hw31 => k0_hw31

def k0_off94 (i : grid0.Coords) : Fin 2 → Nat :=
  let arg0 : BitVec 32 := BitVec.ofNat 32 (i 0).val
  let v248 : Index := Scalar.indexCast arg0
  let c31 : Index := 31#32
  ![v248.toNat, 31]
def k0_off95 (i : grid0.Coords) : Fin 3 → Nat :=
  let arg0 : BitVec 32 := BitVec.ofNat 32 (i 0).val
  let c3968_i32 : BitVec 32 := 3968#32
  let c0_i32_125 : BitVec 32 := 0#32
  ![arg0.toNat, 3968, 0]
def k0_off96 (v249 : BitVec 32) : Fin 3 → Nat :=
  let c0_i32_126 : BitVec 32 := 0#32
  let c0_i32_127 : BitVec 32 := 0#32
  ![v249.toNat, 0, 0]

def k0_chk32 (v249 : BitVec 32) : Prop :=
  (∀ a, (k0_off96 v249) a + S1x128x128.size a ≤ S10240x128x128.size a)
theorem k0_off96_inb : ∀ (v249 : BitVec 32) (k0_hw32 : k0_chk32 v249), ∀ a, (k0_off96 v249) a + S1x128x128.size a ≤ S10240x128x128.size a := fun v249 k0_hw32 => k0_hw32

def k0_off97 (i : grid0.Coords) : Fin 2 → Nat :=
  let arg0 : BitVec 32 := BitVec.ofNat 32 (i 0).val
  let v256 : Index := Scalar.indexCast arg0
  let c32 : Index := 32#32
  ![v256.toNat, 32]
def k0_off98 (i : grid0.Coords) : Fin 3 → Nat :=
  let arg0 : BitVec 32 := BitVec.ofNat 32 (i 0).val
  let c4096_i32 : BitVec 32 := 4096#32
  let c0_i32_129 : BitVec 32 := 0#32
  ![arg0.toNat, 4096, 0]
def k0_off99 (v257 : BitVec 32) : Fin 3 → Nat :=
  let c0_i32_130 : BitVec 32 := 0#32
  let c0_i32_131 : BitVec 32 := 0#32
  ![v257.toNat, 0, 0]

def k0_chk33 (v257 : BitVec 32) : Prop :=
  (∀ a, (k0_off99 v257) a + S1x128x128.size a ≤ S10240x128x128.size a)
theorem k0_off99_inb : ∀ (v257 : BitVec 32) (k0_hw33 : k0_chk33 v257), ∀ a, (k0_off99 v257) a + S1x128x128.size a ≤ S10240x128x128.size a := fun v257 k0_hw33 => k0_hw33

def k0_off100 (i : grid0.Coords) : Fin 2 → Nat :=
  let arg0 : BitVec 32 := BitVec.ofNat 32 (i 0).val
  let v264 : Index := Scalar.indexCast arg0
  let c33 : Index := 33#32
  ![v264.toNat, 33]
def k0_off101 (i : grid0.Coords) : Fin 3 → Nat :=
  let arg0 : BitVec 32 := BitVec.ofNat 32 (i 0).val
  let c4224_i32 : BitVec 32 := 4224#32
  let c0_i32_133 : BitVec 32 := 0#32
  ![arg0.toNat, 4224, 0]
def k0_off102 (v265 : BitVec 32) : Fin 3 → Nat :=
  let c0_i32_134 : BitVec 32 := 0#32
  let c0_i32_135 : BitVec 32 := 0#32
  ![v265.toNat, 0, 0]

def k0_chk34 (v265 : BitVec 32) : Prop :=
  (∀ a, (k0_off102 v265) a + S1x128x128.size a ≤ S10240x128x128.size a)
theorem k0_off102_inb : ∀ (v265 : BitVec 32) (k0_hw34 : k0_chk34 v265), ∀ a, (k0_off102 v265) a + S1x128x128.size a ≤ S10240x128x128.size a := fun v265 k0_hw34 => k0_hw34

def k0_off103 (i : grid0.Coords) : Fin 2 → Nat :=
  let arg0 : BitVec 32 := BitVec.ofNat 32 (i 0).val
  let v272 : Index := Scalar.indexCast arg0
  let c34 : Index := 34#32
  ![v272.toNat, 34]
def k0_off104 (i : grid0.Coords) : Fin 3 → Nat :=
  let arg0 : BitVec 32 := BitVec.ofNat 32 (i 0).val
  let c4352_i32 : BitVec 32 := 4352#32
  let c0_i32_137 : BitVec 32 := 0#32
  ![arg0.toNat, 4352, 0]
def k0_off105 (v273 : BitVec 32) : Fin 3 → Nat :=
  let c0_i32_138 : BitVec 32 := 0#32
  let c0_i32_139 : BitVec 32 := 0#32
  ![v273.toNat, 0, 0]

def k0_chk35 (v273 : BitVec 32) : Prop :=
  (∀ a, (k0_off105 v273) a + S1x128x128.size a ≤ S10240x128x128.size a)
theorem k0_off105_inb : ∀ (v273 : BitVec 32) (k0_hw35 : k0_chk35 v273), ∀ a, (k0_off105 v273) a + S1x128x128.size a ≤ S10240x128x128.size a := fun v273 k0_hw35 => k0_hw35

def k0_off106 (i : grid0.Coords) : Fin 2 → Nat :=
  let arg0 : BitVec 32 := BitVec.ofNat 32 (i 0).val
  let v280 : Index := Scalar.indexCast arg0
  let c35 : Index := 35#32
  ![v280.toNat, 35]
def k0_off107 (i : grid0.Coords) : Fin 3 → Nat :=
  let arg0 : BitVec 32 := BitVec.ofNat 32 (i 0).val
  let c4480_i32 : BitVec 32 := 4480#32
  let c0_i32_141 : BitVec 32 := 0#32
  ![arg0.toNat, 4480, 0]
def k0_off108 (v281 : BitVec 32) : Fin 3 → Nat :=
  let c0_i32_142 : BitVec 32 := 0#32
  let c0_i32_143 : BitVec 32 := 0#32
  ![v281.toNat, 0, 0]

def k0_chk36 (v281 : BitVec 32) : Prop :=
  (∀ a, (k0_off108 v281) a + S1x128x128.size a ≤ S10240x128x128.size a)
theorem k0_off108_inb : ∀ (v281 : BitVec 32) (k0_hw36 : k0_chk36 v281), ∀ a, (k0_off108 v281) a + S1x128x128.size a ≤ S10240x128x128.size a := fun v281 k0_hw36 => k0_hw36

def k0_off109 (i : grid0.Coords) : Fin 2 → Nat :=
  let arg0 : BitVec 32 := BitVec.ofNat 32 (i 0).val
  let v288 : Index := Scalar.indexCast arg0
  let c36 : Index := 36#32
  ![v288.toNat, 36]
def k0_off110 (i : grid0.Coords) : Fin 3 → Nat :=
  let arg0 : BitVec 32 := BitVec.ofNat 32 (i 0).val
  let c4608_i32 : BitVec 32 := 4608#32
  let c0_i32_145 : BitVec 32 := 0#32
  ![arg0.toNat, 4608, 0]
def k0_off111 (v289 : BitVec 32) : Fin 3 → Nat :=
  let c0_i32_146 : BitVec 32 := 0#32
  let c0_i32_147 : BitVec 32 := 0#32
  ![v289.toNat, 0, 0]

def k0_chk37 (v289 : BitVec 32) : Prop :=
  (∀ a, (k0_off111 v289) a + S1x128x128.size a ≤ S10240x128x128.size a)
theorem k0_off111_inb : ∀ (v289 : BitVec 32) (k0_hw37 : k0_chk37 v289), ∀ a, (k0_off111 v289) a + S1x128x128.size a ≤ S10240x128x128.size a := fun v289 k0_hw37 => k0_hw37

def k0_off112 (i : grid0.Coords) : Fin 2 → Nat :=
  let arg0 : BitVec 32 := BitVec.ofNat 32 (i 0).val
  let v296 : Index := Scalar.indexCast arg0
  let c37 : Index := 37#32
  ![v296.toNat, 37]
def k0_off113 (i : grid0.Coords) : Fin 3 → Nat :=
  let arg0 : BitVec 32 := BitVec.ofNat 32 (i 0).val
  let c4736_i32 : BitVec 32 := 4736#32
  let c0_i32_149 : BitVec 32 := 0#32
  ![arg0.toNat, 4736, 0]
def k0_off114 (v297 : BitVec 32) : Fin 3 → Nat :=
  let c0_i32_150 : BitVec 32 := 0#32
  let c0_i32_151 : BitVec 32 := 0#32
  ![v297.toNat, 0, 0]

def k0_chk38 (v297 : BitVec 32) : Prop :=
  (∀ a, (k0_off114 v297) a + S1x128x128.size a ≤ S10240x128x128.size a)
theorem k0_off114_inb : ∀ (v297 : BitVec 32) (k0_hw38 : k0_chk38 v297), ∀ a, (k0_off114 v297) a + S1x128x128.size a ≤ S10240x128x128.size a := fun v297 k0_hw38 => k0_hw38

def k0_off115 (i : grid0.Coords) : Fin 2 → Nat :=
  let arg0 : BitVec 32 := BitVec.ofNat 32 (i 0).val
  let v304 : Index := Scalar.indexCast arg0
  let c38 : Index := 38#32
  ![v304.toNat, 38]
def k0_off116 (i : grid0.Coords) : Fin 3 → Nat :=
  let arg0 : BitVec 32 := BitVec.ofNat 32 (i 0).val
  let c4864_i32 : BitVec 32 := 4864#32
  let c0_i32_153 : BitVec 32 := 0#32
  ![arg0.toNat, 4864, 0]
def k0_off117 (v305 : BitVec 32) : Fin 3 → Nat :=
  let c0_i32_154 : BitVec 32 := 0#32
  let c0_i32_155 : BitVec 32 := 0#32
  ![v305.toNat, 0, 0]

def k0_chk39 (v305 : BitVec 32) : Prop :=
  (∀ a, (k0_off117 v305) a + S1x128x128.size a ≤ S10240x128x128.size a)
theorem k0_off117_inb : ∀ (v305 : BitVec 32) (k0_hw39 : k0_chk39 v305), ∀ a, (k0_off117 v305) a + S1x128x128.size a ≤ S10240x128x128.size a := fun v305 k0_hw39 => k0_hw39

def k0_off118 (i : grid0.Coords) : Fin 2 → Nat :=
  let arg0 : BitVec 32 := BitVec.ofNat 32 (i 0).val
  let v312 : Index := Scalar.indexCast arg0
  let c39 : Index := 39#32
  ![v312.toNat, 39]
def k0_off119 (i : grid0.Coords) : Fin 3 → Nat :=
  let arg0 : BitVec 32 := BitVec.ofNat 32 (i 0).val
  let c4992_i32 : BitVec 32 := 4992#32
  let c0_i32_157 : BitVec 32 := 0#32
  ![arg0.toNat, 4992, 0]
def k0_off120 (v313 : BitVec 32) : Fin 3 → Nat :=
  let c0_i32_158 : BitVec 32 := 0#32
  let c0_i32_159 : BitVec 32 := 0#32
  ![v313.toNat, 0, 0]

def k0_chk40 (v313 : BitVec 32) : Prop :=
  (∀ a, (k0_off120 v313) a + S1x128x128.size a ≤ S10240x128x128.size a)
theorem k0_off120_inb : ∀ (v313 : BitVec 32) (k0_hw40 : k0_chk40 v313), ∀ a, (k0_off120 v313) a + S1x128x128.size a ≤ S10240x128x128.size a := fun v313 k0_hw40 => k0_hw40

def k0_off121 (i : grid0.Coords) : Fin 2 → Nat :=
  let arg0 : BitVec 32 := BitVec.ofNat 32 (i 0).val
  let v320 : Index := Scalar.indexCast arg0
  let c40 : Index := 40#32
  ![v320.toNat, 40]
def k0_off122 (i : grid0.Coords) : Fin 3 → Nat :=
  let arg0 : BitVec 32 := BitVec.ofNat 32 (i 0).val
  let c5120_i32 : BitVec 32 := 5120#32
  let c0_i32_161 : BitVec 32 := 0#32
  ![arg0.toNat, 5120, 0]
def k0_off123 (v321 : BitVec 32) : Fin 3 → Nat :=
  let c0_i32_162 : BitVec 32 := 0#32
  let c0_i32_163 : BitVec 32 := 0#32
  ![v321.toNat, 0, 0]

def k0_chk41 (v321 : BitVec 32) : Prop :=
  (∀ a, (k0_off123 v321) a + S1x128x128.size a ≤ S10240x128x128.size a)
theorem k0_off123_inb : ∀ (v321 : BitVec 32) (k0_hw41 : k0_chk41 v321), ∀ a, (k0_off123 v321) a + S1x128x128.size a ≤ S10240x128x128.size a := fun v321 k0_hw41 => k0_hw41

def k0_off124 (i : grid0.Coords) : Fin 2 → Nat :=
  let arg0 : BitVec 32 := BitVec.ofNat 32 (i 0).val
  let v328 : Index := Scalar.indexCast arg0
  let c41 : Index := 41#32
  ![v328.toNat, 41]
def k0_off125 (i : grid0.Coords) : Fin 3 → Nat :=
  let arg0 : BitVec 32 := BitVec.ofNat 32 (i 0).val
  let c5248_i32 : BitVec 32 := 5248#32
  let c0_i32_165 : BitVec 32 := 0#32
  ![arg0.toNat, 5248, 0]
def k0_off126 (v329 : BitVec 32) : Fin 3 → Nat :=
  let c0_i32_166 : BitVec 32 := 0#32
  let c0_i32_167 : BitVec 32 := 0#32
  ![v329.toNat, 0, 0]

def k0_chk42 (v329 : BitVec 32) : Prop :=
  (∀ a, (k0_off126 v329) a + S1x128x128.size a ≤ S10240x128x128.size a)
theorem k0_off126_inb : ∀ (v329 : BitVec 32) (k0_hw42 : k0_chk42 v329), ∀ a, (k0_off126 v329) a + S1x128x128.size a ≤ S10240x128x128.size a := fun v329 k0_hw42 => k0_hw42

def k0_off127 (i : grid0.Coords) : Fin 2 → Nat :=
  let arg0 : BitVec 32 := BitVec.ofNat 32 (i 0).val
  let v336 : Index := Scalar.indexCast arg0
  let c42 : Index := 42#32
  ![v336.toNat, 42]
def k0_off128 (i : grid0.Coords) : Fin 3 → Nat :=
  let arg0 : BitVec 32 := BitVec.ofNat 32 (i 0).val
  let c5376_i32 : BitVec 32 := 5376#32
  let c0_i32_169 : BitVec 32 := 0#32
  ![arg0.toNat, 5376, 0]
def k0_off129 (v337 : BitVec 32) : Fin 3 → Nat :=
  let c0_i32_170 : BitVec 32 := 0#32
  let c0_i32_171 : BitVec 32 := 0#32
  ![v337.toNat, 0, 0]

def k0_chk43 (v337 : BitVec 32) : Prop :=
  (∀ a, (k0_off129 v337) a + S1x128x128.size a ≤ S10240x128x128.size a)
theorem k0_off129_inb : ∀ (v337 : BitVec 32) (k0_hw43 : k0_chk43 v337), ∀ a, (k0_off129 v337) a + S1x128x128.size a ≤ S10240x128x128.size a := fun v337 k0_hw43 => k0_hw43

def k0_off130 (i : grid0.Coords) : Fin 2 → Nat :=
  let arg0 : BitVec 32 := BitVec.ofNat 32 (i 0).val
  let v344 : Index := Scalar.indexCast arg0
  let c43 : Index := 43#32
  ![v344.toNat, 43]
def k0_off131 (i : grid0.Coords) : Fin 3 → Nat :=
  let arg0 : BitVec 32 := BitVec.ofNat 32 (i 0).val
  let c5504_i32 : BitVec 32 := 5504#32
  let c0_i32_173 : BitVec 32 := 0#32
  ![arg0.toNat, 5504, 0]
def k0_off132 (v345 : BitVec 32) : Fin 3 → Nat :=
  let c0_i32_174 : BitVec 32 := 0#32
  let c0_i32_175 : BitVec 32 := 0#32
  ![v345.toNat, 0, 0]

def k0_chk44 (v345 : BitVec 32) : Prop :=
  (∀ a, (k0_off132 v345) a + S1x128x128.size a ≤ S10240x128x128.size a)
theorem k0_off132_inb : ∀ (v345 : BitVec 32) (k0_hw44 : k0_chk44 v345), ∀ a, (k0_off132 v345) a + S1x128x128.size a ≤ S10240x128x128.size a := fun v345 k0_hw44 => k0_hw44

def k0_off133 (i : grid0.Coords) : Fin 2 → Nat :=
  let arg0 : BitVec 32 := BitVec.ofNat 32 (i 0).val
  let v352 : Index := Scalar.indexCast arg0
  let c44 : Index := 44#32
  ![v352.toNat, 44]
def k0_off134 (i : grid0.Coords) : Fin 3 → Nat :=
  let arg0 : BitVec 32 := BitVec.ofNat 32 (i 0).val
  let c5632_i32 : BitVec 32 := 5632#32
  let c0_i32_177 : BitVec 32 := 0#32
  ![arg0.toNat, 5632, 0]
def k0_off135 (v353 : BitVec 32) : Fin 3 → Nat :=
  let c0_i32_178 : BitVec 32 := 0#32
  let c0_i32_179 : BitVec 32 := 0#32
  ![v353.toNat, 0, 0]

def k0_chk45 (v353 : BitVec 32) : Prop :=
  (∀ a, (k0_off135 v353) a + S1x128x128.size a ≤ S10240x128x128.size a)
theorem k0_off135_inb : ∀ (v353 : BitVec 32) (k0_hw45 : k0_chk45 v353), ∀ a, (k0_off135 v353) a + S1x128x128.size a ≤ S10240x128x128.size a := fun v353 k0_hw45 => k0_hw45

def k0_off136 (i : grid0.Coords) : Fin 2 → Nat :=
  let arg0 : BitVec 32 := BitVec.ofNat 32 (i 0).val
  let v360 : Index := Scalar.indexCast arg0
  let c45 : Index := 45#32
  ![v360.toNat, 45]
def k0_off137 (i : grid0.Coords) : Fin 3 → Nat :=
  let arg0 : BitVec 32 := BitVec.ofNat 32 (i 0).val
  let c5760_i32 : BitVec 32 := 5760#32
  let c0_i32_181 : BitVec 32 := 0#32
  ![arg0.toNat, 5760, 0]
def k0_off138 (v361 : BitVec 32) : Fin 3 → Nat :=
  let c0_i32_182 : BitVec 32 := 0#32
  let c0_i32_183 : BitVec 32 := 0#32
  ![v361.toNat, 0, 0]

def k0_chk46 (v361 : BitVec 32) : Prop :=
  (∀ a, (k0_off138 v361) a + S1x128x128.size a ≤ S10240x128x128.size a)
theorem k0_off138_inb : ∀ (v361 : BitVec 32) (k0_hw46 : k0_chk46 v361), ∀ a, (k0_off138 v361) a + S1x128x128.size a ≤ S10240x128x128.size a := fun v361 k0_hw46 => k0_hw46

def k0_off139 (i : grid0.Coords) : Fin 2 → Nat :=
  let arg0 : BitVec 32 := BitVec.ofNat 32 (i 0).val
  let v368 : Index := Scalar.indexCast arg0
  let c46 : Index := 46#32
  ![v368.toNat, 46]
def k0_off140 (i : grid0.Coords) : Fin 3 → Nat :=
  let arg0 : BitVec 32 := BitVec.ofNat 32 (i 0).val
  let c5888_i32 : BitVec 32 := 5888#32
  let c0_i32_185 : BitVec 32 := 0#32
  ![arg0.toNat, 5888, 0]
def k0_off141 (v369 : BitVec 32) : Fin 3 → Nat :=
  let c0_i32_186 : BitVec 32 := 0#32
  let c0_i32_187 : BitVec 32 := 0#32
  ![v369.toNat, 0, 0]

def k0_chk47 (v369 : BitVec 32) : Prop :=
  (∀ a, (k0_off141 v369) a + S1x128x128.size a ≤ S10240x128x128.size a)
theorem k0_off141_inb : ∀ (v369 : BitVec 32) (k0_hw47 : k0_chk47 v369), ∀ a, (k0_off141 v369) a + S1x128x128.size a ≤ S10240x128x128.size a := fun v369 k0_hw47 => k0_hw47

def k0_off142 (i : grid0.Coords) : Fin 2 → Nat :=
  let arg0 : BitVec 32 := BitVec.ofNat 32 (i 0).val
  let v376 : Index := Scalar.indexCast arg0
  let c47 : Index := 47#32
  ![v376.toNat, 47]
def k0_off143 (i : grid0.Coords) : Fin 3 → Nat :=
  let arg0 : BitVec 32 := BitVec.ofNat 32 (i 0).val
  let c6016_i32 : BitVec 32 := 6016#32
  let c0_i32_189 : BitVec 32 := 0#32
  ![arg0.toNat, 6016, 0]
def k0_off144 (v377 : BitVec 32) : Fin 3 → Nat :=
  let c0_i32_190 : BitVec 32 := 0#32
  let c0_i32_191 : BitVec 32 := 0#32
  ![v377.toNat, 0, 0]

def k0_chk48 (v377 : BitVec 32) : Prop :=
  (∀ a, (k0_off144 v377) a + S1x128x128.size a ≤ S10240x128x128.size a)
theorem k0_off144_inb : ∀ (v377 : BitVec 32) (k0_hw48 : k0_chk48 v377), ∀ a, (k0_off144 v377) a + S1x128x128.size a ≤ S10240x128x128.size a := fun v377 k0_hw48 => k0_hw48

def k0_off145 (i : grid0.Coords) : Fin 2 → Nat :=
  let arg0 : BitVec 32 := BitVec.ofNat 32 (i 0).val
  let v384 : Index := Scalar.indexCast arg0
  let c48 : Index := 48#32
  ![v384.toNat, 48]
def k0_off146 (i : grid0.Coords) : Fin 3 → Nat :=
  let arg0 : BitVec 32 := BitVec.ofNat 32 (i 0).val
  let c6144_i32 : BitVec 32 := 6144#32
  let c0_i32_193 : BitVec 32 := 0#32
  ![arg0.toNat, 6144, 0]
def k0_off147 (v385 : BitVec 32) : Fin 3 → Nat :=
  let c0_i32_194 : BitVec 32 := 0#32
  let c0_i32_195 : BitVec 32 := 0#32
  ![v385.toNat, 0, 0]

def k0_chk49 (v385 : BitVec 32) : Prop :=
  (∀ a, (k0_off147 v385) a + S1x128x128.size a ≤ S10240x128x128.size a)
theorem k0_off147_inb : ∀ (v385 : BitVec 32) (k0_hw49 : k0_chk49 v385), ∀ a, (k0_off147 v385) a + S1x128x128.size a ≤ S10240x128x128.size a := fun v385 k0_hw49 => k0_hw49

def k0_off148 (i : grid0.Coords) : Fin 2 → Nat :=
  let arg0 : BitVec 32 := BitVec.ofNat 32 (i 0).val
  let v392 : Index := Scalar.indexCast arg0
  let c49 : Index := 49#32
  ![v392.toNat, 49]
def k0_off149 (i : grid0.Coords) : Fin 3 → Nat :=
  let arg0 : BitVec 32 := BitVec.ofNat 32 (i 0).val
  let c6272_i32 : BitVec 32 := 6272#32
  let c0_i32_197 : BitVec 32 := 0#32
  ![arg0.toNat, 6272, 0]
def k0_off150 (v393 : BitVec 32) : Fin 3 → Nat :=
  let c0_i32_198 : BitVec 32 := 0#32
  let c0_i32_199 : BitVec 32 := 0#32
  ![v393.toNat, 0, 0]

def k0_chk50 (v393 : BitVec 32) : Prop :=
  (∀ a, (k0_off150 v393) a + S1x128x128.size a ≤ S10240x128x128.size a)
theorem k0_off150_inb : ∀ (v393 : BitVec 32) (k0_hw50 : k0_chk50 v393), ∀ a, (k0_off150 v393) a + S1x128x128.size a ≤ S10240x128x128.size a := fun v393 k0_hw50 => k0_hw50

def k0_off151 (i : grid0.Coords) : Fin 2 → Nat :=
  let arg0 : BitVec 32 := BitVec.ofNat 32 (i 0).val
  let v400 : Index := Scalar.indexCast arg0
  let c50 : Index := 50#32
  ![v400.toNat, 50]
def k0_off152 (i : grid0.Coords) : Fin 3 → Nat :=
  let arg0 : BitVec 32 := BitVec.ofNat 32 (i 0).val
  let c6400_i32 : BitVec 32 := 6400#32
  let c0_i32_201 : BitVec 32 := 0#32
  ![arg0.toNat, 6400, 0]
def k0_off153 (v401 : BitVec 32) : Fin 3 → Nat :=
  let c0_i32_202 : BitVec 32 := 0#32
  let c0_i32_203 : BitVec 32 := 0#32
  ![v401.toNat, 0, 0]

def k0_chk51 (v401 : BitVec 32) : Prop :=
  (∀ a, (k0_off153 v401) a + S1x128x128.size a ≤ S10240x128x128.size a)
theorem k0_off153_inb : ∀ (v401 : BitVec 32) (k0_hw51 : k0_chk51 v401), ∀ a, (k0_off153 v401) a + S1x128x128.size a ≤ S10240x128x128.size a := fun v401 k0_hw51 => k0_hw51

def k0_off154 (i : grid0.Coords) : Fin 2 → Nat :=
  let arg0 : BitVec 32 := BitVec.ofNat 32 (i 0).val
  let v408 : Index := Scalar.indexCast arg0
  let c51 : Index := 51#32
  ![v408.toNat, 51]
def k0_off155 (i : grid0.Coords) : Fin 3 → Nat :=
  let arg0 : BitVec 32 := BitVec.ofNat 32 (i 0).val
  let c6528_i32 : BitVec 32 := 6528#32
  let c0_i32_205 : BitVec 32 := 0#32
  ![arg0.toNat, 6528, 0]
def k0_off156 (v409 : BitVec 32) : Fin 3 → Nat :=
  let c0_i32_206 : BitVec 32 := 0#32
  let c0_i32_207 : BitVec 32 := 0#32
  ![v409.toNat, 0, 0]

def k0_chk52 (v409 : BitVec 32) : Prop :=
  (∀ a, (k0_off156 v409) a + S1x128x128.size a ≤ S10240x128x128.size a)
theorem k0_off156_inb : ∀ (v409 : BitVec 32) (k0_hw52 : k0_chk52 v409), ∀ a, (k0_off156 v409) a + S1x128x128.size a ≤ S10240x128x128.size a := fun v409 k0_hw52 => k0_hw52

def k0_off157 (i : grid0.Coords) : Fin 2 → Nat :=
  let arg0 : BitVec 32 := BitVec.ofNat 32 (i 0).val
  let v416 : Index := Scalar.indexCast arg0
  let c52 : Index := 52#32
  ![v416.toNat, 52]
def k0_off158 (i : grid0.Coords) : Fin 3 → Nat :=
  let arg0 : BitVec 32 := BitVec.ofNat 32 (i 0).val
  let c6656_i32 : BitVec 32 := 6656#32
  let c0_i32_209 : BitVec 32 := 0#32
  ![arg0.toNat, 6656, 0]
def k0_off159 (v417 : BitVec 32) : Fin 3 → Nat :=
  let c0_i32_210 : BitVec 32 := 0#32
  let c0_i32_211 : BitVec 32 := 0#32
  ![v417.toNat, 0, 0]

def k0_chk53 (v417 : BitVec 32) : Prop :=
  (∀ a, (k0_off159 v417) a + S1x128x128.size a ≤ S10240x128x128.size a)
theorem k0_off159_inb : ∀ (v417 : BitVec 32) (k0_hw53 : k0_chk53 v417), ∀ a, (k0_off159 v417) a + S1x128x128.size a ≤ S10240x128x128.size a := fun v417 k0_hw53 => k0_hw53

def k0_off160 (i : grid0.Coords) : Fin 2 → Nat :=
  let arg0 : BitVec 32 := BitVec.ofNat 32 (i 0).val
  let v424 : Index := Scalar.indexCast arg0
  let c53 : Index := 53#32
  ![v424.toNat, 53]
def k0_off161 (i : grid0.Coords) : Fin 3 → Nat :=
  let arg0 : BitVec 32 := BitVec.ofNat 32 (i 0).val
  let c6784_i32 : BitVec 32 := 6784#32
  let c0_i32_213 : BitVec 32 := 0#32
  ![arg0.toNat, 6784, 0]
def k0_off162 (v425 : BitVec 32) : Fin 3 → Nat :=
  let c0_i32_214 : BitVec 32 := 0#32
  let c0_i32_215 : BitVec 32 := 0#32
  ![v425.toNat, 0, 0]

def k0_chk54 (v425 : BitVec 32) : Prop :=
  (∀ a, (k0_off162 v425) a + S1x128x128.size a ≤ S10240x128x128.size a)
theorem k0_off162_inb : ∀ (v425 : BitVec 32) (k0_hw54 : k0_chk54 v425), ∀ a, (k0_off162 v425) a + S1x128x128.size a ≤ S10240x128x128.size a := fun v425 k0_hw54 => k0_hw54

def k0_off163 (i : grid0.Coords) : Fin 2 → Nat :=
  let arg0 : BitVec 32 := BitVec.ofNat 32 (i 0).val
  let v432 : Index := Scalar.indexCast arg0
  let c54 : Index := 54#32
  ![v432.toNat, 54]
def k0_off164 (i : grid0.Coords) : Fin 3 → Nat :=
  let arg0 : BitVec 32 := BitVec.ofNat 32 (i 0).val
  let c6912_i32 : BitVec 32 := 6912#32
  let c0_i32_217 : BitVec 32 := 0#32
  ![arg0.toNat, 6912, 0]
def k0_off165 (v433 : BitVec 32) : Fin 3 → Nat :=
  let c0_i32_218 : BitVec 32 := 0#32
  let c0_i32_219 : BitVec 32 := 0#32
  ![v433.toNat, 0, 0]

def k0_chk55 (v433 : BitVec 32) : Prop :=
  (∀ a, (k0_off165 v433) a + S1x128x128.size a ≤ S10240x128x128.size a)
theorem k0_off165_inb : ∀ (v433 : BitVec 32) (k0_hw55 : k0_chk55 v433), ∀ a, (k0_off165 v433) a + S1x128x128.size a ≤ S10240x128x128.size a := fun v433 k0_hw55 => k0_hw55

def k0_off166 (i : grid0.Coords) : Fin 2 → Nat :=
  let arg0 : BitVec 32 := BitVec.ofNat 32 (i 0).val
  let v440 : Index := Scalar.indexCast arg0
  let c55 : Index := 55#32
  ![v440.toNat, 55]
def k0_off167 (i : grid0.Coords) : Fin 3 → Nat :=
  let arg0 : BitVec 32 := BitVec.ofNat 32 (i 0).val
  let c7040_i32 : BitVec 32 := 7040#32
  let c0_i32_221 : BitVec 32 := 0#32
  ![arg0.toNat, 7040, 0]
def k0_off168 (v441 : BitVec 32) : Fin 3 → Nat :=
  let c0_i32_222 : BitVec 32 := 0#32
  let c0_i32_223 : BitVec 32 := 0#32
  ![v441.toNat, 0, 0]

def k0_chk56 (v441 : BitVec 32) : Prop :=
  (∀ a, (k0_off168 v441) a + S1x128x128.size a ≤ S10240x128x128.size a)
theorem k0_off168_inb : ∀ (v441 : BitVec 32) (k0_hw56 : k0_chk56 v441), ∀ a, (k0_off168 v441) a + S1x128x128.size a ≤ S10240x128x128.size a := fun v441 k0_hw56 => k0_hw56

def k0_off169 (i : grid0.Coords) : Fin 2 → Nat :=
  let arg0 : BitVec 32 := BitVec.ofNat 32 (i 0).val
  let v448 : Index := Scalar.indexCast arg0
  let c56 : Index := 56#32
  ![v448.toNat, 56]
def k0_off170 (i : grid0.Coords) : Fin 3 → Nat :=
  let arg0 : BitVec 32 := BitVec.ofNat 32 (i 0).val
  let c7168_i32 : BitVec 32 := 7168#32
  let c0_i32_225 : BitVec 32 := 0#32
  ![arg0.toNat, 7168, 0]
def k0_off171 (v449 : BitVec 32) : Fin 3 → Nat :=
  let c0_i32_226 : BitVec 32 := 0#32
  let c0_i32_227 : BitVec 32 := 0#32
  ![v449.toNat, 0, 0]

def k0_chk57 (v449 : BitVec 32) : Prop :=
  (∀ a, (k0_off171 v449) a + S1x128x128.size a ≤ S10240x128x128.size a)
theorem k0_off171_inb : ∀ (v449 : BitVec 32) (k0_hw57 : k0_chk57 v449), ∀ a, (k0_off171 v449) a + S1x128x128.size a ≤ S10240x128x128.size a := fun v449 k0_hw57 => k0_hw57

def k0_off172 (i : grid0.Coords) : Fin 2 → Nat :=
  let arg0 : BitVec 32 := BitVec.ofNat 32 (i 0).val
  let v456 : Index := Scalar.indexCast arg0
  let c57 : Index := 57#32
  ![v456.toNat, 57]
def k0_off173 (i : grid0.Coords) : Fin 3 → Nat :=
  let arg0 : BitVec 32 := BitVec.ofNat 32 (i 0).val
  let c7296_i32 : BitVec 32 := 7296#32
  let c0_i32_229 : BitVec 32 := 0#32
  ![arg0.toNat, 7296, 0]
def k0_off174 (v457 : BitVec 32) : Fin 3 → Nat :=
  let c0_i32_230 : BitVec 32 := 0#32
  let c0_i32_231 : BitVec 32 := 0#32
  ![v457.toNat, 0, 0]

def k0_chk58 (v457 : BitVec 32) : Prop :=
  (∀ a, (k0_off174 v457) a + S1x128x128.size a ≤ S10240x128x128.size a)
theorem k0_off174_inb : ∀ (v457 : BitVec 32) (k0_hw58 : k0_chk58 v457), ∀ a, (k0_off174 v457) a + S1x128x128.size a ≤ S10240x128x128.size a := fun v457 k0_hw58 => k0_hw58

def k0_off175 (i : grid0.Coords) : Fin 2 → Nat :=
  let arg0 : BitVec 32 := BitVec.ofNat 32 (i 0).val
  let v464 : Index := Scalar.indexCast arg0
  let c58 : Index := 58#32
  ![v464.toNat, 58]
def k0_off176 (i : grid0.Coords) : Fin 3 → Nat :=
  let arg0 : BitVec 32 := BitVec.ofNat 32 (i 0).val
  let c7424_i32 : BitVec 32 := 7424#32
  let c0_i32_233 : BitVec 32 := 0#32
  ![arg0.toNat, 7424, 0]
def k0_off177 (v465 : BitVec 32) : Fin 3 → Nat :=
  let c0_i32_234 : BitVec 32 := 0#32
  let c0_i32_235 : BitVec 32 := 0#32
  ![v465.toNat, 0, 0]

def k0_chk59 (v465 : BitVec 32) : Prop :=
  (∀ a, (k0_off177 v465) a + S1x128x128.size a ≤ S10240x128x128.size a)
theorem k0_off177_inb : ∀ (v465 : BitVec 32) (k0_hw59 : k0_chk59 v465), ∀ a, (k0_off177 v465) a + S1x128x128.size a ≤ S10240x128x128.size a := fun v465 k0_hw59 => k0_hw59

def k0_off178 (i : grid0.Coords) : Fin 2 → Nat :=
  let arg0 : BitVec 32 := BitVec.ofNat 32 (i 0).val
  let v472 : Index := Scalar.indexCast arg0
  let c59 : Index := 59#32
  ![v472.toNat, 59]
def k0_off179 (i : grid0.Coords) : Fin 3 → Nat :=
  let arg0 : BitVec 32 := BitVec.ofNat 32 (i 0).val
  let c7552_i32 : BitVec 32 := 7552#32
  let c0_i32_237 : BitVec 32 := 0#32
  ![arg0.toNat, 7552, 0]
def k0_off180 (v473 : BitVec 32) : Fin 3 → Nat :=
  let c0_i32_238 : BitVec 32 := 0#32
  let c0_i32_239 : BitVec 32 := 0#32
  ![v473.toNat, 0, 0]

def k0_chk60 (v473 : BitVec 32) : Prop :=
  (∀ a, (k0_off180 v473) a + S1x128x128.size a ≤ S10240x128x128.size a)
theorem k0_off180_inb : ∀ (v473 : BitVec 32) (k0_hw60 : k0_chk60 v473), ∀ a, (k0_off180 v473) a + S1x128x128.size a ≤ S10240x128x128.size a := fun v473 k0_hw60 => k0_hw60

def k0_off181 (i : grid0.Coords) : Fin 2 → Nat :=
  let arg0 : BitVec 32 := BitVec.ofNat 32 (i 0).val
  let v480 : Index := Scalar.indexCast arg0
  let c60 : Index := 60#32
  ![v480.toNat, 60]
def k0_off182 (i : grid0.Coords) : Fin 3 → Nat :=
  let arg0 : BitVec 32 := BitVec.ofNat 32 (i 0).val
  let c7680_i32 : BitVec 32 := 7680#32
  let c0_i32_241 : BitVec 32 := 0#32
  ![arg0.toNat, 7680, 0]
def k0_off183 (v481 : BitVec 32) : Fin 3 → Nat :=
  let c0_i32_242 : BitVec 32 := 0#32
  let c0_i32_243 : BitVec 32 := 0#32
  ![v481.toNat, 0, 0]

def k0_chk61 (v481 : BitVec 32) : Prop :=
  (∀ a, (k0_off183 v481) a + S1x128x128.size a ≤ S10240x128x128.size a)
theorem k0_off183_inb : ∀ (v481 : BitVec 32) (k0_hw61 : k0_chk61 v481), ∀ a, (k0_off183 v481) a + S1x128x128.size a ≤ S10240x128x128.size a := fun v481 k0_hw61 => k0_hw61

def k0_off184 (i : grid0.Coords) : Fin 2 → Nat :=
  let arg0 : BitVec 32 := BitVec.ofNat 32 (i 0).val
  let v488 : Index := Scalar.indexCast arg0
  let c61 : Index := 61#32
  ![v488.toNat, 61]
def k0_off185 (i : grid0.Coords) : Fin 3 → Nat :=
  let arg0 : BitVec 32 := BitVec.ofNat 32 (i 0).val
  let c7808_i32 : BitVec 32 := 7808#32
  let c0_i32_245 : BitVec 32 := 0#32
  ![arg0.toNat, 7808, 0]
def k0_off186 (v489 : BitVec 32) : Fin 3 → Nat :=
  let c0_i32_246 : BitVec 32 := 0#32
  let c0_i32_247 : BitVec 32 := 0#32
  ![v489.toNat, 0, 0]

def k0_chk62 (v489 : BitVec 32) : Prop :=
  (∀ a, (k0_off186 v489) a + S1x128x128.size a ≤ S10240x128x128.size a)
theorem k0_off186_inb : ∀ (v489 : BitVec 32) (k0_hw62 : k0_chk62 v489), ∀ a, (k0_off186 v489) a + S1x128x128.size a ≤ S10240x128x128.size a := fun v489 k0_hw62 => k0_hw62

def k0_off187 (i : grid0.Coords) : Fin 2 → Nat :=
  let arg0 : BitVec 32 := BitVec.ofNat 32 (i 0).val
  let v496 : Index := Scalar.indexCast arg0
  let c62 : Index := 62#32
  ![v496.toNat, 62]
def k0_off188 (i : grid0.Coords) : Fin 3 → Nat :=
  let arg0 : BitVec 32 := BitVec.ofNat 32 (i 0).val
  let c7936_i32 : BitVec 32 := 7936#32
  let c0_i32_249 : BitVec 32 := 0#32
  ![arg0.toNat, 7936, 0]
def k0_off189 (v497 : BitVec 32) : Fin 3 → Nat :=
  let c0_i32_250 : BitVec 32 := 0#32
  let c0_i32_251 : BitVec 32 := 0#32
  ![v497.toNat, 0, 0]

def k0_chk63 (v497 : BitVec 32) : Prop :=
  (∀ a, (k0_off189 v497) a + S1x128x128.size a ≤ S10240x128x128.size a)
theorem k0_off189_inb : ∀ (v497 : BitVec 32) (k0_hw63 : k0_chk63 v497), ∀ a, (k0_off189 v497) a + S1x128x128.size a ≤ S10240x128x128.size a := fun v497 k0_hw63 => k0_hw63

def k0_off190 (i : grid0.Coords) : Fin 2 → Nat :=
  let arg0 : BitVec 32 := BitVec.ofNat 32 (i 0).val
  let v504 : Index := Scalar.indexCast arg0
  let c63 : Index := 63#32
  ![v504.toNat, 63]
def k0_off191 (i : grid0.Coords) : Fin 3 → Nat :=
  let arg0 : BitVec 32 := BitVec.ofNat 32 (i 0).val
  let c8064_i32 : BitVec 32 := 8064#32
  let c0_i32_253 : BitVec 32 := 0#32
  ![arg0.toNat, 8064, 0]
def k0_off192 (v505 : BitVec 32) : Fin 3 → Nat :=
  let c0_i32_254 : BitVec 32 := 0#32
  let c0_i32_255 : BitVec 32 := 0#32
  ![v505.toNat, 0, 0]

def k0_chk64 (v505 : BitVec 32) : Prop :=
  (∀ a, (k0_off192 v505) a + S1x128x128.size a ≤ S10240x128x128.size a)
theorem k0_off192_inb : ∀ (v505 : BitVec 32) (k0_hw64 : k0_chk64 v505), ∀ a, (k0_off192 v505) a + S1x128x128.size a ≤ S10240x128x128.size a := fun v505 k0_hw64 => k0_hw64

def k0_off193 (i : grid0.Coords) : Fin 2 → Nat :=
  let arg0 : BitVec 32 := BitVec.ofNat 32 (i 0).val
  let v512 : Index := Scalar.indexCast arg0
  let c0_256 : Index := 0#32
  ![v512.toNat, 0]
def k0_off194 (i : grid0.Coords) : Fin 3 → Nat :=
  let arg0 : BitVec 32 := BitVec.ofNat 32 (i 0).val
  let c0_i32_257 : BitVec 32 := 0#32
  let c0_i32_258 : BitVec 32 := 0#32
  ![arg0.toNat, 0, 0]
def k0_off195 (v513 : BitVec 32) : Fin 3 → Nat :=
  let c0_i32_259 : BitVec 32 := 0#32
  let c0_i32_260 : BitVec 32 := 0#32
  ![v513.toNat, 0, 0]

def k0_chk65 (v513 : BitVec 32) : Prop :=
  (∀ a, (k0_off195 v513) a + S1x128x128.size a ≤ S10240x128x128.size a)
theorem k0_off195_inb : ∀ (v513 : BitVec 32) (k0_hw65 : k0_chk65 v513), ∀ a, (k0_off195 v513) a + S1x128x128.size a ≤ S10240x128x128.size a := fun v513 k0_hw65 => k0_hw65

def k0_off196 (i : grid0.Coords) : Fin 2 → Nat :=
  let arg0 : BitVec 32 := BitVec.ofNat 32 (i 0).val
  let v520 : Index := Scalar.indexCast arg0
  let c1_261 : Index := 1#32
  ![v520.toNat, 1]
def k0_off197 (i : grid0.Coords) : Fin 3 → Nat :=
  let arg0 : BitVec 32 := BitVec.ofNat 32 (i 0).val
  let c128_i32_263 : BitVec 32 := 128#32
  let c0_i32_264 : BitVec 32 := 0#32
  ![arg0.toNat, 128, 0]
def k0_off198 (v521 : BitVec 32) : Fin 3 → Nat :=
  let c0_i32_265 : BitVec 32 := 0#32
  let c0_i32_266 : BitVec 32 := 0#32
  ![v521.toNat, 0, 0]

def k0_chk66 (v521 : BitVec 32) : Prop :=
  (∀ a, (k0_off198 v521) a + S1x128x128.size a ≤ S10240x128x128.size a)
theorem k0_off198_inb : ∀ (v521 : BitVec 32) (k0_hw66 : k0_chk66 v521), ∀ a, (k0_off198 v521) a + S1x128x128.size a ≤ S10240x128x128.size a := fun v521 k0_hw66 => k0_hw66

def k0_off199 (i : grid0.Coords) : Fin 2 → Nat :=
  let arg0 : BitVec 32 := BitVec.ofNat 32 (i 0).val
  let v528 : Index := Scalar.indexCast arg0
  let c2_267 : Index := 2#32
  ![v528.toNat, 2]
def k0_off200 (i : grid0.Coords) : Fin 3 → Nat :=
  let arg0 : BitVec 32 := BitVec.ofNat 32 (i 0).val
  let c256_i32_269 : BitVec 32 := 256#32
  let c0_i32_270 : BitVec 32 := 0#32
  ![arg0.toNat, 256, 0]
def k0_off201 (v529 : BitVec 32) : Fin 3 → Nat :=
  let c0_i32_271 : BitVec 32 := 0#32
  let c0_i32_272 : BitVec 32 := 0#32
  ![v529.toNat, 0, 0]

def k0_chk67 (v529 : BitVec 32) : Prop :=
  (∀ a, (k0_off201 v529) a + S1x128x128.size a ≤ S10240x128x128.size a)
theorem k0_off201_inb : ∀ (v529 : BitVec 32) (k0_hw67 : k0_chk67 v529), ∀ a, (k0_off201 v529) a + S1x128x128.size a ≤ S10240x128x128.size a := fun v529 k0_hw67 => k0_hw67

def k0_off202 (i : grid0.Coords) : Fin 2 → Nat :=
  let arg0 : BitVec 32 := BitVec.ofNat 32 (i 0).val
  let v536 : Index := Scalar.indexCast arg0
  let c3_273 : Index := 3#32
  ![v536.toNat, 3]
def k0_off203 (i : grid0.Coords) : Fin 3 → Nat :=
  let arg0 : BitVec 32 := BitVec.ofNat 32 (i 0).val
  let c384_i32_275 : BitVec 32 := 384#32
  let c0_i32_276 : BitVec 32 := 0#32
  ![arg0.toNat, 384, 0]
def k0_off204 (v537 : BitVec 32) : Fin 3 → Nat :=
  let c0_i32_277 : BitVec 32 := 0#32
  let c0_i32_278 : BitVec 32 := 0#32
  ![v537.toNat, 0, 0]

def k0_chk68 (v537 : BitVec 32) : Prop :=
  (∀ a, (k0_off204 v537) a + S1x128x128.size a ≤ S10240x128x128.size a)
theorem k0_off204_inb : ∀ (v537 : BitVec 32) (k0_hw68 : k0_chk68 v537), ∀ a, (k0_off204 v537) a + S1x128x128.size a ≤ S10240x128x128.size a := fun v537 k0_hw68 => k0_hw68

def k0_off205 (i : grid0.Coords) : Fin 2 → Nat :=
  let arg0 : BitVec 32 := BitVec.ofNat 32 (i 0).val
  let v544 : Index := Scalar.indexCast arg0
  let c4_279 : Index := 4#32
  ![v544.toNat, 4]
def k0_off206 (i : grid0.Coords) : Fin 3 → Nat :=
  let arg0 : BitVec 32 := BitVec.ofNat 32 (i 0).val
  let c512_i32_281 : BitVec 32 := 512#32
  let c0_i32_282 : BitVec 32 := 0#32
  ![arg0.toNat, 512, 0]
def k0_off207 (v545 : BitVec 32) : Fin 3 → Nat :=
  let c0_i32_283 : BitVec 32 := 0#32
  let c0_i32_284 : BitVec 32 := 0#32
  ![v545.toNat, 0, 0]

def k0_chk69 (v545 : BitVec 32) : Prop :=
  (∀ a, (k0_off207 v545) a + S1x128x128.size a ≤ S10240x128x128.size a)
theorem k0_off207_inb : ∀ (v545 : BitVec 32) (k0_hw69 : k0_chk69 v545), ∀ a, (k0_off207 v545) a + S1x128x128.size a ≤ S10240x128x128.size a := fun v545 k0_hw69 => k0_hw69

def k0_off208 (i : grid0.Coords) : Fin 2 → Nat :=
  let arg0 : BitVec 32 := BitVec.ofNat 32 (i 0).val
  let v552 : Index := Scalar.indexCast arg0
  let c5_285 : Index := 5#32
  ![v552.toNat, 5]
def k0_off209 (i : grid0.Coords) : Fin 3 → Nat :=
  let arg0 : BitVec 32 := BitVec.ofNat 32 (i 0).val
  let c640_i32_287 : BitVec 32 := 640#32
  let c0_i32_288 : BitVec 32 := 0#32
  ![arg0.toNat, 640, 0]
def k0_off210 (v553 : BitVec 32) : Fin 3 → Nat :=
  let c0_i32_289 : BitVec 32 := 0#32
  let c0_i32_290 : BitVec 32 := 0#32
  ![v553.toNat, 0, 0]

def k0_chk70 (v553 : BitVec 32) : Prop :=
  (∀ a, (k0_off210 v553) a + S1x128x128.size a ≤ S10240x128x128.size a)
theorem k0_off210_inb : ∀ (v553 : BitVec 32) (k0_hw70 : k0_chk70 v553), ∀ a, (k0_off210 v553) a + S1x128x128.size a ≤ S10240x128x128.size a := fun v553 k0_hw70 => k0_hw70

def k0_off211 (i : grid0.Coords) : Fin 2 → Nat :=
  let arg0 : BitVec 32 := BitVec.ofNat 32 (i 0).val
  let v560 : Index := Scalar.indexCast arg0
  let c6_291 : Index := 6#32
  ![v560.toNat, 6]
def k0_off212 (i : grid0.Coords) : Fin 3 → Nat :=
  let arg0 : BitVec 32 := BitVec.ofNat 32 (i 0).val
  let c768_i32_293 : BitVec 32 := 768#32
  let c0_i32_294 : BitVec 32 := 0#32
  ![arg0.toNat, 768, 0]
def k0_off213 (v561 : BitVec 32) : Fin 3 → Nat :=
  let c0_i32_295 : BitVec 32 := 0#32
  let c0_i32_296 : BitVec 32 := 0#32
  ![v561.toNat, 0, 0]

def k0_chk71 (v561 : BitVec 32) : Prop :=
  (∀ a, (k0_off213 v561) a + S1x128x128.size a ≤ S10240x128x128.size a)
theorem k0_off213_inb : ∀ (v561 : BitVec 32) (k0_hw71 : k0_chk71 v561), ∀ a, (k0_off213 v561) a + S1x128x128.size a ≤ S10240x128x128.size a := fun v561 k0_hw71 => k0_hw71

def k0_off214 (i : grid0.Coords) : Fin 2 → Nat :=
  let arg0 : BitVec 32 := BitVec.ofNat 32 (i 0).val
  let v568 : Index := Scalar.indexCast arg0
  let c7_297 : Index := 7#32
  ![v568.toNat, 7]
def k0_off215 (i : grid0.Coords) : Fin 3 → Nat :=
  let arg0 : BitVec 32 := BitVec.ofNat 32 (i 0).val
  let c896_i32_299 : BitVec 32 := 896#32
  let c0_i32_300 : BitVec 32 := 0#32
  ![arg0.toNat, 896, 0]
def k0_off216 (v569 : BitVec 32) : Fin 3 → Nat :=
  let c0_i32_301 : BitVec 32 := 0#32
  let c0_i32_302 : BitVec 32 := 0#32
  ![v569.toNat, 0, 0]

def k0_chk72 (v569 : BitVec 32) : Prop :=
  (∀ a, (k0_off216 v569) a + S1x128x128.size a ≤ S10240x128x128.size a)
theorem k0_off216_inb : ∀ (v569 : BitVec 32) (k0_hw72 : k0_chk72 v569), ∀ a, (k0_off216 v569) a + S1x128x128.size a ≤ S10240x128x128.size a := fun v569 k0_hw72 => k0_hw72

def k0_off217 (i : grid0.Coords) : Fin 2 → Nat :=
  let arg0 : BitVec 32 := BitVec.ofNat 32 (i 0).val
  let v576 : Index := Scalar.indexCast arg0
  let c8_303 : Index := 8#32
  ![v576.toNat, 8]
def k0_off218 (i : grid0.Coords) : Fin 3 → Nat :=
  let arg0 : BitVec 32 := BitVec.ofNat 32 (i 0).val
  let c1024_i32_305 : BitVec 32 := 1024#32
  let c0_i32_306 : BitVec 32 := 0#32
  ![arg0.toNat, 1024, 0]
def k0_off219 (v577 : BitVec 32) : Fin 3 → Nat :=
  let c0_i32_307 : BitVec 32 := 0#32
  let c0_i32_308 : BitVec 32 := 0#32
  ![v577.toNat, 0, 0]

def k0_chk73 (v577 : BitVec 32) : Prop :=
  (∀ a, (k0_off219 v577) a + S1x128x128.size a ≤ S10240x128x128.size a)
theorem k0_off219_inb : ∀ (v577 : BitVec 32) (k0_hw73 : k0_chk73 v577), ∀ a, (k0_off219 v577) a + S1x128x128.size a ≤ S10240x128x128.size a := fun v577 k0_hw73 => k0_hw73

def k0_off220 (i : grid0.Coords) : Fin 2 → Nat :=
  let arg0 : BitVec 32 := BitVec.ofNat 32 (i 0).val
  let v584 : Index := Scalar.indexCast arg0
  let c9_309 : Index := 9#32
  ![v584.toNat, 9]
def k0_off221 (i : grid0.Coords) : Fin 3 → Nat :=
  let arg0 : BitVec 32 := BitVec.ofNat 32 (i 0).val
  let c1152_i32_311 : BitVec 32 := 1152#32
  let c0_i32_312 : BitVec 32 := 0#32
  ![arg0.toNat, 1152, 0]
def k0_off222 (v585 : BitVec 32) : Fin 3 → Nat :=
  let c0_i32_313 : BitVec 32 := 0#32
  let c0_i32_314 : BitVec 32 := 0#32
  ![v585.toNat, 0, 0]

def k0_chk74 (v585 : BitVec 32) : Prop :=
  (∀ a, (k0_off222 v585) a + S1x128x128.size a ≤ S10240x128x128.size a)
theorem k0_off222_inb : ∀ (v585 : BitVec 32) (k0_hw74 : k0_chk74 v585), ∀ a, (k0_off222 v585) a + S1x128x128.size a ≤ S10240x128x128.size a := fun v585 k0_hw74 => k0_hw74

def k0_off223 (i : grid0.Coords) : Fin 2 → Nat :=
  let arg0 : BitVec 32 := BitVec.ofNat 32 (i 0).val
  let v592 : Index := Scalar.indexCast arg0
  let c10_315 : Index := 10#32
  ![v592.toNat, 10]
def k0_off224 (i : grid0.Coords) : Fin 3 → Nat :=
  let arg0 : BitVec 32 := BitVec.ofNat 32 (i 0).val
  let c1280_i32_317 : BitVec 32 := 1280#32
  let c0_i32_318 : BitVec 32 := 0#32
  ![arg0.toNat, 1280, 0]
def k0_off225 (v593 : BitVec 32) : Fin 3 → Nat :=
  let c0_i32_319 : BitVec 32 := 0#32
  let c0_i32_320 : BitVec 32 := 0#32
  ![v593.toNat, 0, 0]

def k0_chk75 (v593 : BitVec 32) : Prop :=
  (∀ a, (k0_off225 v593) a + S1x128x128.size a ≤ S10240x128x128.size a)
theorem k0_off225_inb : ∀ (v593 : BitVec 32) (k0_hw75 : k0_chk75 v593), ∀ a, (k0_off225 v593) a + S1x128x128.size a ≤ S10240x128x128.size a := fun v593 k0_hw75 => k0_hw75

def k0_off226 (i : grid0.Coords) : Fin 2 → Nat :=
  let arg0 : BitVec 32 := BitVec.ofNat 32 (i 0).val
  let v600 : Index := Scalar.indexCast arg0
  let c11_321 : Index := 11#32
  ![v600.toNat, 11]
def k0_off227 (i : grid0.Coords) : Fin 3 → Nat :=
  let arg0 : BitVec 32 := BitVec.ofNat 32 (i 0).val
  let c1408_i32_323 : BitVec 32 := 1408#32
  let c0_i32_324 : BitVec 32 := 0#32
  ![arg0.toNat, 1408, 0]
def k0_off228 (v601 : BitVec 32) : Fin 3 → Nat :=
  let c0_i32_325 : BitVec 32 := 0#32
  let c0_i32_326 : BitVec 32 := 0#32
  ![v601.toNat, 0, 0]

def k0_chk76 (v601 : BitVec 32) : Prop :=
  (∀ a, (k0_off228 v601) a + S1x128x128.size a ≤ S10240x128x128.size a)
theorem k0_off228_inb : ∀ (v601 : BitVec 32) (k0_hw76 : k0_chk76 v601), ∀ a, (k0_off228 v601) a + S1x128x128.size a ≤ S10240x128x128.size a := fun v601 k0_hw76 => k0_hw76

def k0_off229 (i : grid0.Coords) : Fin 2 → Nat :=
  let arg0 : BitVec 32 := BitVec.ofNat 32 (i 0).val
  let v608 : Index := Scalar.indexCast arg0
  let c12_327 : Index := 12#32
  ![v608.toNat, 12]
def k0_off230 (i : grid0.Coords) : Fin 3 → Nat :=
  let arg0 : BitVec 32 := BitVec.ofNat 32 (i 0).val
  let c1536_i32_329 : BitVec 32 := 1536#32
  let c0_i32_330 : BitVec 32 := 0#32
  ![arg0.toNat, 1536, 0]
def k0_off231 (v609 : BitVec 32) : Fin 3 → Nat :=
  let c0_i32_331 : BitVec 32 := 0#32
  let c0_i32_332 : BitVec 32 := 0#32
  ![v609.toNat, 0, 0]

def k0_chk77 (v609 : BitVec 32) : Prop :=
  (∀ a, (k0_off231 v609) a + S1x128x128.size a ≤ S10240x128x128.size a)
theorem k0_off231_inb : ∀ (v609 : BitVec 32) (k0_hw77 : k0_chk77 v609), ∀ a, (k0_off231 v609) a + S1x128x128.size a ≤ S10240x128x128.size a := fun v609 k0_hw77 => k0_hw77

def k0_off232 (i : grid0.Coords) : Fin 2 → Nat :=
  let arg0 : BitVec 32 := BitVec.ofNat 32 (i 0).val
  let v616 : Index := Scalar.indexCast arg0
  let c13_333 : Index := 13#32
  ![v616.toNat, 13]
def k0_off233 (i : grid0.Coords) : Fin 3 → Nat :=
  let arg0 : BitVec 32 := BitVec.ofNat 32 (i 0).val
  let c1664_i32_335 : BitVec 32 := 1664#32
  let c0_i32_336 : BitVec 32 := 0#32
  ![arg0.toNat, 1664, 0]
def k0_off234 (v617 : BitVec 32) : Fin 3 → Nat :=
  let c0_i32_337 : BitVec 32 := 0#32
  let c0_i32_338 : BitVec 32 := 0#32
  ![v617.toNat, 0, 0]

def k0_chk78 (v617 : BitVec 32) : Prop :=
  (∀ a, (k0_off234 v617) a + S1x128x128.size a ≤ S10240x128x128.size a)
theorem k0_off234_inb : ∀ (v617 : BitVec 32) (k0_hw78 : k0_chk78 v617), ∀ a, (k0_off234 v617) a + S1x128x128.size a ≤ S10240x128x128.size a := fun v617 k0_hw78 => k0_hw78

def k0_off235 (i : grid0.Coords) : Fin 2 → Nat :=
  let arg0 : BitVec 32 := BitVec.ofNat 32 (i 0).val
  let v624 : Index := Scalar.indexCast arg0
  let c14_339 : Index := 14#32
  ![v624.toNat, 14]
def k0_off236 (i : grid0.Coords) : Fin 3 → Nat :=
  let arg0 : BitVec 32 := BitVec.ofNat 32 (i 0).val
  let c1792_i32_341 : BitVec 32 := 1792#32
  let c0_i32_342 : BitVec 32 := 0#32
  ![arg0.toNat, 1792, 0]
def k0_off237 (v625 : BitVec 32) : Fin 3 → Nat :=
  let c0_i32_343 : BitVec 32 := 0#32
  let c0_i32_344 : BitVec 32 := 0#32
  ![v625.toNat, 0, 0]

def k0_chk79 (v625 : BitVec 32) : Prop :=
  (∀ a, (k0_off237 v625) a + S1x128x128.size a ≤ S10240x128x128.size a)
theorem k0_off237_inb : ∀ (v625 : BitVec 32) (k0_hw79 : k0_chk79 v625), ∀ a, (k0_off237 v625) a + S1x128x128.size a ≤ S10240x128x128.size a := fun v625 k0_hw79 => k0_hw79

def k0_off238 (i : grid0.Coords) : Fin 2 → Nat :=
  let arg0 : BitVec 32 := BitVec.ofNat 32 (i 0).val
  let v632 : Index := Scalar.indexCast arg0
  let c15_345 : Index := 15#32
  ![v632.toNat, 15]
def k0_off239 (i : grid0.Coords) : Fin 3 → Nat :=
  let arg0 : BitVec 32 := BitVec.ofNat 32 (i 0).val
  let c1920_i32_347 : BitVec 32 := 1920#32
  let c0_i32_348 : BitVec 32 := 0#32
  ![arg0.toNat, 1920, 0]
def k0_off240 (v633 : BitVec 32) : Fin 3 → Nat :=
  let c0_i32_349 : BitVec 32 := 0#32
  let c0_i32_350 : BitVec 32 := 0#32
  ![v633.toNat, 0, 0]

def k0_chk80 (v633 : BitVec 32) : Prop :=
  (∀ a, (k0_off240 v633) a + S1x128x128.size a ≤ S10240x128x128.size a)
theorem k0_off240_inb : ∀ (v633 : BitVec 32) (k0_hw80 : k0_chk80 v633), ∀ a, (k0_off240 v633) a + S1x128x128.size a ≤ S10240x128x128.size a := fun v633 k0_hw80 => k0_hw80

def k0_off241 (i : grid0.Coords) : Fin 2 → Nat :=
  let arg0 : BitVec 32 := BitVec.ofNat 32 (i 0).val
  let v640 : Index := Scalar.indexCast arg0
  let c16_351 : Index := 16#32
  ![v640.toNat, 16]
def k0_off242 (i : grid0.Coords) : Fin 3 → Nat :=
  let arg0 : BitVec 32 := BitVec.ofNat 32 (i 0).val
  let c2048_i32_353 : BitVec 32 := 2048#32
  let c0_i32_354 : BitVec 32 := 0#32
  ![arg0.toNat, 2048, 0]
def k0_off243 (v641 : BitVec 32) : Fin 3 → Nat :=
  let c0_i32_355 : BitVec 32 := 0#32
  let c0_i32_356 : BitVec 32 := 0#32
  ![v641.toNat, 0, 0]

def k0_chk81 (v641 : BitVec 32) : Prop :=
  (∀ a, (k0_off243 v641) a + S1x128x128.size a ≤ S10240x128x128.size a)
theorem k0_off243_inb : ∀ (v641 : BitVec 32) (k0_hw81 : k0_chk81 v641), ∀ a, (k0_off243 v641) a + S1x128x128.size a ≤ S10240x128x128.size a := fun v641 k0_hw81 => k0_hw81

def k0_off244 (i : grid0.Coords) : Fin 2 → Nat :=
  let arg0 : BitVec 32 := BitVec.ofNat 32 (i 0).val
  let v648 : Index := Scalar.indexCast arg0
  let c17_357 : Index := 17#32
  ![v648.toNat, 17]
def k0_off245 (i : grid0.Coords) : Fin 3 → Nat :=
  let arg0 : BitVec 32 := BitVec.ofNat 32 (i 0).val
  let c2176_i32_359 : BitVec 32 := 2176#32
  let c0_i32_360 : BitVec 32 := 0#32
  ![arg0.toNat, 2176, 0]
def k0_off246 (v649 : BitVec 32) : Fin 3 → Nat :=
  let c0_i32_361 : BitVec 32 := 0#32
  let c0_i32_362 : BitVec 32 := 0#32
  ![v649.toNat, 0, 0]

def k0_chk82 (v649 : BitVec 32) : Prop :=
  (∀ a, (k0_off246 v649) a + S1x128x128.size a ≤ S10240x128x128.size a)
theorem k0_off246_inb : ∀ (v649 : BitVec 32) (k0_hw82 : k0_chk82 v649), ∀ a, (k0_off246 v649) a + S1x128x128.size a ≤ S10240x128x128.size a := fun v649 k0_hw82 => k0_hw82

def k0_off247 (i : grid0.Coords) : Fin 2 → Nat :=
  let arg0 : BitVec 32 := BitVec.ofNat 32 (i 0).val
  let v656 : Index := Scalar.indexCast arg0
  let c18_363 : Index := 18#32
  ![v656.toNat, 18]
def k0_off248 (i : grid0.Coords) : Fin 3 → Nat :=
  let arg0 : BitVec 32 := BitVec.ofNat 32 (i 0).val
  let c2304_i32_365 : BitVec 32 := 2304#32
  let c0_i32_366 : BitVec 32 := 0#32
  ![arg0.toNat, 2304, 0]
def k0_off249 (v657 : BitVec 32) : Fin 3 → Nat :=
  let c0_i32_367 : BitVec 32 := 0#32
  let c0_i32_368 : BitVec 32 := 0#32
  ![v657.toNat, 0, 0]

def k0_chk83 (v657 : BitVec 32) : Prop :=
  (∀ a, (k0_off249 v657) a + S1x128x128.size a ≤ S10240x128x128.size a)
theorem k0_off249_inb : ∀ (v657 : BitVec 32) (k0_hw83 : k0_chk83 v657), ∀ a, (k0_off249 v657) a + S1x128x128.size a ≤ S10240x128x128.size a := fun v657 k0_hw83 => k0_hw83

def k0_off250 (i : grid0.Coords) : Fin 2 → Nat :=
  let arg0 : BitVec 32 := BitVec.ofNat 32 (i 0).val
  let v664 : Index := Scalar.indexCast arg0
  let c19_369 : Index := 19#32
  ![v664.toNat, 19]
def k0_off251 (i : grid0.Coords) : Fin 3 → Nat :=
  let arg0 : BitVec 32 := BitVec.ofNat 32 (i 0).val
  let c2432_i32_371 : BitVec 32 := 2432#32
  let c0_i32_372 : BitVec 32 := 0#32
  ![arg0.toNat, 2432, 0]
def k0_off252 (v665 : BitVec 32) : Fin 3 → Nat :=
  let c0_i32_373 : BitVec 32 := 0#32
  let c0_i32_374 : BitVec 32 := 0#32
  ![v665.toNat, 0, 0]

def k0_chk84 (v665 : BitVec 32) : Prop :=
  (∀ a, (k0_off252 v665) a + S1x128x128.size a ≤ S10240x128x128.size a)
theorem k0_off252_inb : ∀ (v665 : BitVec 32) (k0_hw84 : k0_chk84 v665), ∀ a, (k0_off252 v665) a + S1x128x128.size a ≤ S10240x128x128.size a := fun v665 k0_hw84 => k0_hw84

def k0_off253 (i : grid0.Coords) : Fin 2 → Nat :=
  let arg0 : BitVec 32 := BitVec.ofNat 32 (i 0).val
  let v672 : Index := Scalar.indexCast arg0
  let c20_375 : Index := 20#32
  ![v672.toNat, 20]
def k0_off254 (i : grid0.Coords) : Fin 3 → Nat :=
  let arg0 : BitVec 32 := BitVec.ofNat 32 (i 0).val
  let c2560_i32_377 : BitVec 32 := 2560#32
  let c0_i32_378 : BitVec 32 := 0#32
  ![arg0.toNat, 2560, 0]
def k0_off255 (v673 : BitVec 32) : Fin 3 → Nat :=
  let c0_i32_379 : BitVec 32 := 0#32
  let c0_i32_380 : BitVec 32 := 0#32
  ![v673.toNat, 0, 0]

def k0_chk85 (v673 : BitVec 32) : Prop :=
  (∀ a, (k0_off255 v673) a + S1x128x128.size a ≤ S10240x128x128.size a)
theorem k0_off255_inb : ∀ (v673 : BitVec 32) (k0_hw85 : k0_chk85 v673), ∀ a, (k0_off255 v673) a + S1x128x128.size a ≤ S10240x128x128.size a := fun v673 k0_hw85 => k0_hw85

def k0_off256 (i : grid0.Coords) : Fin 2 → Nat :=
  let arg0 : BitVec 32 := BitVec.ofNat 32 (i 0).val
  let v680 : Index := Scalar.indexCast arg0
  let c21_381 : Index := 21#32
  ![v680.toNat, 21]
def k0_off257 (i : grid0.Coords) : Fin 3 → Nat :=
  let arg0 : BitVec 32 := BitVec.ofNat 32 (i 0).val
  let c2688_i32_383 : BitVec 32 := 2688#32
  let c0_i32_384 : BitVec 32 := 0#32
  ![arg0.toNat, 2688, 0]
def k0_off258 (v681 : BitVec 32) : Fin 3 → Nat :=
  let c0_i32_385 : BitVec 32 := 0#32
  let c0_i32_386 : BitVec 32 := 0#32
  ![v681.toNat, 0, 0]

def k0_chk86 (v681 : BitVec 32) : Prop :=
  (∀ a, (k0_off258 v681) a + S1x128x128.size a ≤ S10240x128x128.size a)
theorem k0_off258_inb : ∀ (v681 : BitVec 32) (k0_hw86 : k0_chk86 v681), ∀ a, (k0_off258 v681) a + S1x128x128.size a ≤ S10240x128x128.size a := fun v681 k0_hw86 => k0_hw86

def k0_off259 (i : grid0.Coords) : Fin 2 → Nat :=
  let arg0 : BitVec 32 := BitVec.ofNat 32 (i 0).val
  let v688 : Index := Scalar.indexCast arg0
  let c22_387 : Index := 22#32
  ![v688.toNat, 22]
def k0_off260 (i : grid0.Coords) : Fin 3 → Nat :=
  let arg0 : BitVec 32 := BitVec.ofNat 32 (i 0).val
  let c2816_i32_389 : BitVec 32 := 2816#32
  let c0_i32_390 : BitVec 32 := 0#32
  ![arg0.toNat, 2816, 0]
def k0_off261 (v689 : BitVec 32) : Fin 3 → Nat :=
  let c0_i32_391 : BitVec 32 := 0#32
  let c0_i32_392 : BitVec 32 := 0#32
  ![v689.toNat, 0, 0]

def k0_chk87 (v689 : BitVec 32) : Prop :=
  (∀ a, (k0_off261 v689) a + S1x128x128.size a ≤ S10240x128x128.size a)
theorem k0_off261_inb : ∀ (v689 : BitVec 32) (k0_hw87 : k0_chk87 v689), ∀ a, (k0_off261 v689) a + S1x128x128.size a ≤ S10240x128x128.size a := fun v689 k0_hw87 => k0_hw87

def k0_off262 (i : grid0.Coords) : Fin 2 → Nat :=
  let arg0 : BitVec 32 := BitVec.ofNat 32 (i 0).val
  let v696 : Index := Scalar.indexCast arg0
  let c23_393 : Index := 23#32
  ![v696.toNat, 23]
def k0_off263 (i : grid0.Coords) : Fin 3 → Nat :=
  let arg0 : BitVec 32 := BitVec.ofNat 32 (i 0).val
  let c2944_i32_395 : BitVec 32 := 2944#32
  let c0_i32_396 : BitVec 32 := 0#32
  ![arg0.toNat, 2944, 0]
def k0_off264 (v697 : BitVec 32) : Fin 3 → Nat :=
  let c0_i32_397 : BitVec 32 := 0#32
  let c0_i32_398 : BitVec 32 := 0#32
  ![v697.toNat, 0, 0]

def k0_chk88 (v697 : BitVec 32) : Prop :=
  (∀ a, (k0_off264 v697) a + S1x128x128.size a ≤ S10240x128x128.size a)
theorem k0_off264_inb : ∀ (v697 : BitVec 32) (k0_hw88 : k0_chk88 v697), ∀ a, (k0_off264 v697) a + S1x128x128.size a ≤ S10240x128x128.size a := fun v697 k0_hw88 => k0_hw88

def k0_off265 (i : grid0.Coords) : Fin 2 → Nat :=
  let arg0 : BitVec 32 := BitVec.ofNat 32 (i 0).val
  let v704 : Index := Scalar.indexCast arg0
  let c24_399 : Index := 24#32
  ![v704.toNat, 24]
def k0_off266 (i : grid0.Coords) : Fin 3 → Nat :=
  let arg0 : BitVec 32 := BitVec.ofNat 32 (i 0).val
  let c3072_i32_401 : BitVec 32 := 3072#32
  let c0_i32_402 : BitVec 32 := 0#32
  ![arg0.toNat, 3072, 0]
def k0_off267 (v705 : BitVec 32) : Fin 3 → Nat :=
  let c0_i32_403 : BitVec 32 := 0#32
  let c0_i32_404 : BitVec 32 := 0#32
  ![v705.toNat, 0, 0]

def k0_chk89 (v705 : BitVec 32) : Prop :=
  (∀ a, (k0_off267 v705) a + S1x128x128.size a ≤ S10240x128x128.size a)
theorem k0_off267_inb : ∀ (v705 : BitVec 32) (k0_hw89 : k0_chk89 v705), ∀ a, (k0_off267 v705) a + S1x128x128.size a ≤ S10240x128x128.size a := fun v705 k0_hw89 => k0_hw89

def k0_off268 (i : grid0.Coords) : Fin 2 → Nat :=
  let arg0 : BitVec 32 := BitVec.ofNat 32 (i 0).val
  let v712 : Index := Scalar.indexCast arg0
  let c25_405 : Index := 25#32
  ![v712.toNat, 25]
def k0_off269 (i : grid0.Coords) : Fin 3 → Nat :=
  let arg0 : BitVec 32 := BitVec.ofNat 32 (i 0).val
  let c3200_i32_407 : BitVec 32 := 3200#32
  let c0_i32_408 : BitVec 32 := 0#32
  ![arg0.toNat, 3200, 0]
def k0_off270 (v713 : BitVec 32) : Fin 3 → Nat :=
  let c0_i32_409 : BitVec 32 := 0#32
  let c0_i32_410 : BitVec 32 := 0#32
  ![v713.toNat, 0, 0]

def k0_chk90 (v713 : BitVec 32) : Prop :=
  (∀ a, (k0_off270 v713) a + S1x128x128.size a ≤ S10240x128x128.size a)
theorem k0_off270_inb : ∀ (v713 : BitVec 32) (k0_hw90 : k0_chk90 v713), ∀ a, (k0_off270 v713) a + S1x128x128.size a ≤ S10240x128x128.size a := fun v713 k0_hw90 => k0_hw90

def k0_off271 (i : grid0.Coords) : Fin 2 → Nat :=
  let arg0 : BitVec 32 := BitVec.ofNat 32 (i 0).val
  let v720 : Index := Scalar.indexCast arg0
  let c26_411 : Index := 26#32
  ![v720.toNat, 26]
def k0_off272 (i : grid0.Coords) : Fin 3 → Nat :=
  let arg0 : BitVec 32 := BitVec.ofNat 32 (i 0).val
  let c3328_i32_413 : BitVec 32 := 3328#32
  let c0_i32_414 : BitVec 32 := 0#32
  ![arg0.toNat, 3328, 0]
def k0_off273 (v721 : BitVec 32) : Fin 3 → Nat :=
  let c0_i32_415 : BitVec 32 := 0#32
  let c0_i32_416 : BitVec 32 := 0#32
  ![v721.toNat, 0, 0]

def k0_chk91 (v721 : BitVec 32) : Prop :=
  (∀ a, (k0_off273 v721) a + S1x128x128.size a ≤ S10240x128x128.size a)
theorem k0_off273_inb : ∀ (v721 : BitVec 32) (k0_hw91 : k0_chk91 v721), ∀ a, (k0_off273 v721) a + S1x128x128.size a ≤ S10240x128x128.size a := fun v721 k0_hw91 => k0_hw91

def k0_off274 (i : grid0.Coords) : Fin 2 → Nat :=
  let arg0 : BitVec 32 := BitVec.ofNat 32 (i 0).val
  let v728 : Index := Scalar.indexCast arg0
  let c27_417 : Index := 27#32
  ![v728.toNat, 27]
def k0_off275 (i : grid0.Coords) : Fin 3 → Nat :=
  let arg0 : BitVec 32 := BitVec.ofNat 32 (i 0).val
  let c3456_i32_419 : BitVec 32 := 3456#32
  let c0_i32_420 : BitVec 32 := 0#32
  ![arg0.toNat, 3456, 0]
def k0_off276 (v729 : BitVec 32) : Fin 3 → Nat :=
  let c0_i32_421 : BitVec 32 := 0#32
  let c0_i32_422 : BitVec 32 := 0#32
  ![v729.toNat, 0, 0]

def k0_chk92 (v729 : BitVec 32) : Prop :=
  (∀ a, (k0_off276 v729) a + S1x128x128.size a ≤ S10240x128x128.size a)
theorem k0_off276_inb : ∀ (v729 : BitVec 32) (k0_hw92 : k0_chk92 v729), ∀ a, (k0_off276 v729) a + S1x128x128.size a ≤ S10240x128x128.size a := fun v729 k0_hw92 => k0_hw92

def k0_off277 (i : grid0.Coords) : Fin 2 → Nat :=
  let arg0 : BitVec 32 := BitVec.ofNat 32 (i 0).val
  let v736 : Index := Scalar.indexCast arg0
  let c28_423 : Index := 28#32
  ![v736.toNat, 28]
def k0_off278 (i : grid0.Coords) : Fin 3 → Nat :=
  let arg0 : BitVec 32 := BitVec.ofNat 32 (i 0).val
  let c3584_i32_425 : BitVec 32 := 3584#32
  let c0_i32_426 : BitVec 32 := 0#32
  ![arg0.toNat, 3584, 0]
def k0_off279 (v737 : BitVec 32) : Fin 3 → Nat :=
  let c0_i32_427 : BitVec 32 := 0#32
  let c0_i32_428 : BitVec 32 := 0#32
  ![v737.toNat, 0, 0]

def k0_chk93 (v737 : BitVec 32) : Prop :=
  (∀ a, (k0_off279 v737) a + S1x128x128.size a ≤ S10240x128x128.size a)
theorem k0_off279_inb : ∀ (v737 : BitVec 32) (k0_hw93 : k0_chk93 v737), ∀ a, (k0_off279 v737) a + S1x128x128.size a ≤ S10240x128x128.size a := fun v737 k0_hw93 => k0_hw93

def k0_off280 (i : grid0.Coords) : Fin 2 → Nat :=
  let arg0 : BitVec 32 := BitVec.ofNat 32 (i 0).val
  let v744 : Index := Scalar.indexCast arg0
  let c29_429 : Index := 29#32
  ![v744.toNat, 29]
def k0_off281 (i : grid0.Coords) : Fin 3 → Nat :=
  let arg0 : BitVec 32 := BitVec.ofNat 32 (i 0).val
  let c3712_i32_431 : BitVec 32 := 3712#32
  let c0_i32_432 : BitVec 32 := 0#32
  ![arg0.toNat, 3712, 0]
def k0_off282 (v745 : BitVec 32) : Fin 3 → Nat :=
  let c0_i32_433 : BitVec 32 := 0#32
  let c0_i32_434 : BitVec 32 := 0#32
  ![v745.toNat, 0, 0]

def k0_chk94 (v745 : BitVec 32) : Prop :=
  (∀ a, (k0_off282 v745) a + S1x128x128.size a ≤ S10240x128x128.size a)
theorem k0_off282_inb : ∀ (v745 : BitVec 32) (k0_hw94 : k0_chk94 v745), ∀ a, (k0_off282 v745) a + S1x128x128.size a ≤ S10240x128x128.size a := fun v745 k0_hw94 => k0_hw94

def k0_off283 (i : grid0.Coords) : Fin 2 → Nat :=
  let arg0 : BitVec 32 := BitVec.ofNat 32 (i 0).val
  let v752 : Index := Scalar.indexCast arg0
  let c30_435 : Index := 30#32
  ![v752.toNat, 30]
def k0_off284 (i : grid0.Coords) : Fin 3 → Nat :=
  let arg0 : BitVec 32 := BitVec.ofNat 32 (i 0).val
  let c3840_i32_437 : BitVec 32 := 3840#32
  let c0_i32_438 : BitVec 32 := 0#32
  ![arg0.toNat, 3840, 0]
def k0_off285 (v753 : BitVec 32) : Fin 3 → Nat :=
  let c0_i32_439 : BitVec 32 := 0#32
  let c0_i32_440 : BitVec 32 := 0#32
  ![v753.toNat, 0, 0]

def k0_chk95 (v753 : BitVec 32) : Prop :=
  (∀ a, (k0_off285 v753) a + S1x128x128.size a ≤ S10240x128x128.size a)
theorem k0_off285_inb : ∀ (v753 : BitVec 32) (k0_hw95 : k0_chk95 v753), ∀ a, (k0_off285 v753) a + S1x128x128.size a ≤ S10240x128x128.size a := fun v753 k0_hw95 => k0_hw95

def k0_off286 (i : grid0.Coords) : Fin 2 → Nat :=
  let arg0 : BitVec 32 := BitVec.ofNat 32 (i 0).val
  let v760 : Index := Scalar.indexCast arg0
  let c31_441 : Index := 31#32
  ![v760.toNat, 31]
def k0_off287 (i : grid0.Coords) : Fin 3 → Nat :=
  let arg0 : BitVec 32 := BitVec.ofNat 32 (i 0).val
  let c3968_i32_443 : BitVec 32 := 3968#32
  let c0_i32_444 : BitVec 32 := 0#32
  ![arg0.toNat, 3968, 0]
def k0_off288 (v761 : BitVec 32) : Fin 3 → Nat :=
  let c0_i32_445 : BitVec 32 := 0#32
  let c0_i32_446 : BitVec 32 := 0#32
  ![v761.toNat, 0, 0]

def k0_chk96 (v761 : BitVec 32) : Prop :=
  (∀ a, (k0_off288 v761) a + S1x128x128.size a ≤ S10240x128x128.size a)
theorem k0_off288_inb : ∀ (v761 : BitVec 32) (k0_hw96 : k0_chk96 v761), ∀ a, (k0_off288 v761) a + S1x128x128.size a ≤ S10240x128x128.size a := fun v761 k0_hw96 => k0_hw96

def k0_off289 (i : grid0.Coords) : Fin 2 → Nat :=
  let arg0 : BitVec 32 := BitVec.ofNat 32 (i 0).val
  let v768 : Index := Scalar.indexCast arg0
  let c32_447 : Index := 32#32
  ![v768.toNat, 32]
def k0_off290 (i : grid0.Coords) : Fin 3 → Nat :=
  let arg0 : BitVec 32 := BitVec.ofNat 32 (i 0).val
  let c4096_i32_449 : BitVec 32 := 4096#32
  let c0_i32_450 : BitVec 32 := 0#32
  ![arg0.toNat, 4096, 0]
def k0_off291 (v769 : BitVec 32) : Fin 3 → Nat :=
  let c0_i32_451 : BitVec 32 := 0#32
  let c0_i32_452 : BitVec 32 := 0#32
  ![v769.toNat, 0, 0]

def k0_chk97 (v769 : BitVec 32) : Prop :=
  (∀ a, (k0_off291 v769) a + S1x128x128.size a ≤ S10240x128x128.size a)
theorem k0_off291_inb : ∀ (v769 : BitVec 32) (k0_hw97 : k0_chk97 v769), ∀ a, (k0_off291 v769) a + S1x128x128.size a ≤ S10240x128x128.size a := fun v769 k0_hw97 => k0_hw97

def k0_off292 (i : grid0.Coords) : Fin 2 → Nat :=
  let arg0 : BitVec 32 := BitVec.ofNat 32 (i 0).val
  let v776 : Index := Scalar.indexCast arg0
  let c33_453 : Index := 33#32
  ![v776.toNat, 33]
def k0_off293 (i : grid0.Coords) : Fin 3 → Nat :=
  let arg0 : BitVec 32 := BitVec.ofNat 32 (i 0).val
  let c4224_i32_455 : BitVec 32 := 4224#32
  let c0_i32_456 : BitVec 32 := 0#32
  ![arg0.toNat, 4224, 0]
def k0_off294 (v777 : BitVec 32) : Fin 3 → Nat :=
  let c0_i32_457 : BitVec 32 := 0#32
  let c0_i32_458 : BitVec 32 := 0#32
  ![v777.toNat, 0, 0]

def k0_chk98 (v777 : BitVec 32) : Prop :=
  (∀ a, (k0_off294 v777) a + S1x128x128.size a ≤ S10240x128x128.size a)
theorem k0_off294_inb : ∀ (v777 : BitVec 32) (k0_hw98 : k0_chk98 v777), ∀ a, (k0_off294 v777) a + S1x128x128.size a ≤ S10240x128x128.size a := fun v777 k0_hw98 => k0_hw98

def k0_off295 (i : grid0.Coords) : Fin 2 → Nat :=
  let arg0 : BitVec 32 := BitVec.ofNat 32 (i 0).val
  let v784 : Index := Scalar.indexCast arg0
  let c34_459 : Index := 34#32
  ![v784.toNat, 34]
def k0_off296 (i : grid0.Coords) : Fin 3 → Nat :=
  let arg0 : BitVec 32 := BitVec.ofNat 32 (i 0).val
  let c4352_i32_461 : BitVec 32 := 4352#32
  let c0_i32_462 : BitVec 32 := 0#32
  ![arg0.toNat, 4352, 0]
def k0_off297 (v785 : BitVec 32) : Fin 3 → Nat :=
  let c0_i32_463 : BitVec 32 := 0#32
  let c0_i32_464 : BitVec 32 := 0#32
  ![v785.toNat, 0, 0]

def k0_chk99 (v785 : BitVec 32) : Prop :=
  (∀ a, (k0_off297 v785) a + S1x128x128.size a ≤ S10240x128x128.size a)
theorem k0_off297_inb : ∀ (v785 : BitVec 32) (k0_hw99 : k0_chk99 v785), ∀ a, (k0_off297 v785) a + S1x128x128.size a ≤ S10240x128x128.size a := fun v785 k0_hw99 => k0_hw99

def k0_off298 (i : grid0.Coords) : Fin 2 → Nat :=
  let arg0 : BitVec 32 := BitVec.ofNat 32 (i 0).val
  let v792 : Index := Scalar.indexCast arg0
  let c35_465 : Index := 35#32
  ![v792.toNat, 35]
def k0_off299 (i : grid0.Coords) : Fin 3 → Nat :=
  let arg0 : BitVec 32 := BitVec.ofNat 32 (i 0).val
  let c4480_i32_467 : BitVec 32 := 4480#32
  let c0_i32_468 : BitVec 32 := 0#32
  ![arg0.toNat, 4480, 0]
def k0_off300 (v793 : BitVec 32) : Fin 3 → Nat :=
  let c0_i32_469 : BitVec 32 := 0#32
  let c0_i32_470 : BitVec 32 := 0#32
  ![v793.toNat, 0, 0]

def k0_chk100 (v793 : BitVec 32) : Prop :=
  (∀ a, (k0_off300 v793) a + S1x128x128.size a ≤ S10240x128x128.size a)
theorem k0_off300_inb : ∀ (v793 : BitVec 32) (k0_hw100 : k0_chk100 v793), ∀ a, (k0_off300 v793) a + S1x128x128.size a ≤ S10240x128x128.size a := fun v793 k0_hw100 => k0_hw100

def k0_off301 (i : grid0.Coords) : Fin 2 → Nat :=
  let arg0 : BitVec 32 := BitVec.ofNat 32 (i 0).val
  let v800 : Index := Scalar.indexCast arg0
  let c36_471 : Index := 36#32
  ![v800.toNat, 36]
def k0_off302 (i : grid0.Coords) : Fin 3 → Nat :=
  let arg0 : BitVec 32 := BitVec.ofNat 32 (i 0).val
  let c4608_i32_473 : BitVec 32 := 4608#32
  let c0_i32_474 : BitVec 32 := 0#32
  ![arg0.toNat, 4608, 0]
def k0_off303 (v801 : BitVec 32) : Fin 3 → Nat :=
  let c0_i32_475 : BitVec 32 := 0#32
  let c0_i32_476 : BitVec 32 := 0#32
  ![v801.toNat, 0, 0]

def k0_chk101 (v801 : BitVec 32) : Prop :=
  (∀ a, (k0_off303 v801) a + S1x128x128.size a ≤ S10240x128x128.size a)
theorem k0_off303_inb : ∀ (v801 : BitVec 32) (k0_hw101 : k0_chk101 v801), ∀ a, (k0_off303 v801) a + S1x128x128.size a ≤ S10240x128x128.size a := fun v801 k0_hw101 => k0_hw101

def k0_off304 (i : grid0.Coords) : Fin 2 → Nat :=
  let arg0 : BitVec 32 := BitVec.ofNat 32 (i 0).val
  let v808 : Index := Scalar.indexCast arg0
  let c37_477 : Index := 37#32
  ![v808.toNat, 37]
def k0_off305 (i : grid0.Coords) : Fin 3 → Nat :=
  let arg0 : BitVec 32 := BitVec.ofNat 32 (i 0).val
  let c4736_i32_479 : BitVec 32 := 4736#32
  let c0_i32_480 : BitVec 32 := 0#32
  ![arg0.toNat, 4736, 0]
def k0_off306 (v809 : BitVec 32) : Fin 3 → Nat :=
  let c0_i32_481 : BitVec 32 := 0#32
  let c0_i32_482 : BitVec 32 := 0#32
  ![v809.toNat, 0, 0]

def k0_chk102 (v809 : BitVec 32) : Prop :=
  (∀ a, (k0_off306 v809) a + S1x128x128.size a ≤ S10240x128x128.size a)
theorem k0_off306_inb : ∀ (v809 : BitVec 32) (k0_hw102 : k0_chk102 v809), ∀ a, (k0_off306 v809) a + S1x128x128.size a ≤ S10240x128x128.size a := fun v809 k0_hw102 => k0_hw102

def k0_off307 (i : grid0.Coords) : Fin 2 → Nat :=
  let arg0 : BitVec 32 := BitVec.ofNat 32 (i 0).val
  let v816 : Index := Scalar.indexCast arg0
  let c38_483 : Index := 38#32
  ![v816.toNat, 38]
def k0_off308 (i : grid0.Coords) : Fin 3 → Nat :=
  let arg0 : BitVec 32 := BitVec.ofNat 32 (i 0).val
  let c4864_i32_485 : BitVec 32 := 4864#32
  let c0_i32_486 : BitVec 32 := 0#32
  ![arg0.toNat, 4864, 0]
def k0_off309 (v817 : BitVec 32) : Fin 3 → Nat :=
  let c0_i32_487 : BitVec 32 := 0#32
  let c0_i32_488 : BitVec 32 := 0#32
  ![v817.toNat, 0, 0]

def k0_chk103 (v817 : BitVec 32) : Prop :=
  (∀ a, (k0_off309 v817) a + S1x128x128.size a ≤ S10240x128x128.size a)
theorem k0_off309_inb : ∀ (v817 : BitVec 32) (k0_hw103 : k0_chk103 v817), ∀ a, (k0_off309 v817) a + S1x128x128.size a ≤ S10240x128x128.size a := fun v817 k0_hw103 => k0_hw103

def k0_off310 (i : grid0.Coords) : Fin 2 → Nat :=
  let arg0 : BitVec 32 := BitVec.ofNat 32 (i 0).val
  let v824 : Index := Scalar.indexCast arg0
  let c39_489 : Index := 39#32
  ![v824.toNat, 39]
def k0_off311 (i : grid0.Coords) : Fin 3 → Nat :=
  let arg0 : BitVec 32 := BitVec.ofNat 32 (i 0).val
  let c4992_i32_491 : BitVec 32 := 4992#32
  let c0_i32_492 : BitVec 32 := 0#32
  ![arg0.toNat, 4992, 0]
def k0_off312 (v825 : BitVec 32) : Fin 3 → Nat :=
  let c0_i32_493 : BitVec 32 := 0#32
  let c0_i32_494 : BitVec 32 := 0#32
  ![v825.toNat, 0, 0]

def k0_chk104 (v825 : BitVec 32) : Prop :=
  (∀ a, (k0_off312 v825) a + S1x128x128.size a ≤ S10240x128x128.size a)
theorem k0_off312_inb : ∀ (v825 : BitVec 32) (k0_hw104 : k0_chk104 v825), ∀ a, (k0_off312 v825) a + S1x128x128.size a ≤ S10240x128x128.size a := fun v825 k0_hw104 => k0_hw104

def k0_off313 (i : grid0.Coords) : Fin 2 → Nat :=
  let arg0 : BitVec 32 := BitVec.ofNat 32 (i 0).val
  let v832 : Index := Scalar.indexCast arg0
  let c40_495 : Index := 40#32
  ![v832.toNat, 40]
def k0_off314 (i : grid0.Coords) : Fin 3 → Nat :=
  let arg0 : BitVec 32 := BitVec.ofNat 32 (i 0).val
  let c5120_i32_497 : BitVec 32 := 5120#32
  let c0_i32_498 : BitVec 32 := 0#32
  ![arg0.toNat, 5120, 0]
def k0_off315 (v833 : BitVec 32) : Fin 3 → Nat :=
  let c0_i32_499 : BitVec 32 := 0#32
  let c0_i32_500 : BitVec 32 := 0#32
  ![v833.toNat, 0, 0]

def k0_chk105 (v833 : BitVec 32) : Prop :=
  (∀ a, (k0_off315 v833) a + S1x128x128.size a ≤ S10240x128x128.size a)
theorem k0_off315_inb : ∀ (v833 : BitVec 32) (k0_hw105 : k0_chk105 v833), ∀ a, (k0_off315 v833) a + S1x128x128.size a ≤ S10240x128x128.size a := fun v833 k0_hw105 => k0_hw105

def k0_off316 (i : grid0.Coords) : Fin 2 → Nat :=
  let arg0 : BitVec 32 := BitVec.ofNat 32 (i 0).val
  let v840 : Index := Scalar.indexCast arg0
  let c41_501 : Index := 41#32
  ![v840.toNat, 41]
def k0_off317 (i : grid0.Coords) : Fin 3 → Nat :=
  let arg0 : BitVec 32 := BitVec.ofNat 32 (i 0).val
  let c5248_i32_503 : BitVec 32 := 5248#32
  let c0_i32_504 : BitVec 32 := 0#32
  ![arg0.toNat, 5248, 0]
def k0_off318 (v841 : BitVec 32) : Fin 3 → Nat :=
  let c0_i32_505 : BitVec 32 := 0#32
  let c0_i32_506 : BitVec 32 := 0#32
  ![v841.toNat, 0, 0]

def k0_chk106 (v841 : BitVec 32) : Prop :=
  (∀ a, (k0_off318 v841) a + S1x128x128.size a ≤ S10240x128x128.size a)
theorem k0_off318_inb : ∀ (v841 : BitVec 32) (k0_hw106 : k0_chk106 v841), ∀ a, (k0_off318 v841) a + S1x128x128.size a ≤ S10240x128x128.size a := fun v841 k0_hw106 => k0_hw106

def k0_off319 (i : grid0.Coords) : Fin 2 → Nat :=
  let arg0 : BitVec 32 := BitVec.ofNat 32 (i 0).val
  let v848 : Index := Scalar.indexCast arg0
  let c42_507 : Index := 42#32
  ![v848.toNat, 42]
def k0_off320 (i : grid0.Coords) : Fin 3 → Nat :=
  let arg0 : BitVec 32 := BitVec.ofNat 32 (i 0).val
  let c5376_i32_509 : BitVec 32 := 5376#32
  let c0_i32_510 : BitVec 32 := 0#32
  ![arg0.toNat, 5376, 0]
def k0_off321 (v849 : BitVec 32) : Fin 3 → Nat :=
  let c0_i32_511 : BitVec 32 := 0#32
  let c0_i32_512 : BitVec 32 := 0#32
  ![v849.toNat, 0, 0]

def k0_chk107 (v849 : BitVec 32) : Prop :=
  (∀ a, (k0_off321 v849) a + S1x128x128.size a ≤ S10240x128x128.size a)
theorem k0_off321_inb : ∀ (v849 : BitVec 32) (k0_hw107 : k0_chk107 v849), ∀ a, (k0_off321 v849) a + S1x128x128.size a ≤ S10240x128x128.size a := fun v849 k0_hw107 => k0_hw107

def k0_off322 (i : grid0.Coords) : Fin 2 → Nat :=
  let arg0 : BitVec 32 := BitVec.ofNat 32 (i 0).val
  let v856 : Index := Scalar.indexCast arg0
  let c43_513 : Index := 43#32
  ![v856.toNat, 43]
def k0_off323 (i : grid0.Coords) : Fin 3 → Nat :=
  let arg0 : BitVec 32 := BitVec.ofNat 32 (i 0).val
  let c5504_i32_515 : BitVec 32 := 5504#32
  let c0_i32_516 : BitVec 32 := 0#32
  ![arg0.toNat, 5504, 0]
def k0_off324 (v857 : BitVec 32) : Fin 3 → Nat :=
  let c0_i32_517 : BitVec 32 := 0#32
  let c0_i32_518 : BitVec 32 := 0#32
  ![v857.toNat, 0, 0]

def k0_chk108 (v857 : BitVec 32) : Prop :=
  (∀ a, (k0_off324 v857) a + S1x128x128.size a ≤ S10240x128x128.size a)
theorem k0_off324_inb : ∀ (v857 : BitVec 32) (k0_hw108 : k0_chk108 v857), ∀ a, (k0_off324 v857) a + S1x128x128.size a ≤ S10240x128x128.size a := fun v857 k0_hw108 => k0_hw108

def k0_off325 (i : grid0.Coords) : Fin 2 → Nat :=
  let arg0 : BitVec 32 := BitVec.ofNat 32 (i 0).val
  let v864 : Index := Scalar.indexCast arg0
  let c44_519 : Index := 44#32
  ![v864.toNat, 44]
def k0_off326 (i : grid0.Coords) : Fin 3 → Nat :=
  let arg0 : BitVec 32 := BitVec.ofNat 32 (i 0).val
  let c5632_i32_521 : BitVec 32 := 5632#32
  let c0_i32_522 : BitVec 32 := 0#32
  ![arg0.toNat, 5632, 0]
def k0_off327 (v865 : BitVec 32) : Fin 3 → Nat :=
  let c0_i32_523 : BitVec 32 := 0#32
  let c0_i32_524 : BitVec 32 := 0#32
  ![v865.toNat, 0, 0]

def k0_chk109 (v865 : BitVec 32) : Prop :=
  (∀ a, (k0_off327 v865) a + S1x128x128.size a ≤ S10240x128x128.size a)
theorem k0_off327_inb : ∀ (v865 : BitVec 32) (k0_hw109 : k0_chk109 v865), ∀ a, (k0_off327 v865) a + S1x128x128.size a ≤ S10240x128x128.size a := fun v865 k0_hw109 => k0_hw109

def k0_off328 (i : grid0.Coords) : Fin 2 → Nat :=
  let arg0 : BitVec 32 := BitVec.ofNat 32 (i 0).val
  let v872 : Index := Scalar.indexCast arg0
  let c45_525 : Index := 45#32
  ![v872.toNat, 45]
def k0_off329 (i : grid0.Coords) : Fin 3 → Nat :=
  let arg0 : BitVec 32 := BitVec.ofNat 32 (i 0).val
  let c5760_i32_527 : BitVec 32 := 5760#32
  let c0_i32_528 : BitVec 32 := 0#32
  ![arg0.toNat, 5760, 0]
def k0_off330 (v873 : BitVec 32) : Fin 3 → Nat :=
  let c0_i32_529 : BitVec 32 := 0#32
  let c0_i32_530 : BitVec 32 := 0#32
  ![v873.toNat, 0, 0]

def k0_chk110 (v873 : BitVec 32) : Prop :=
  (∀ a, (k0_off330 v873) a + S1x128x128.size a ≤ S10240x128x128.size a)
theorem k0_off330_inb : ∀ (v873 : BitVec 32) (k0_hw110 : k0_chk110 v873), ∀ a, (k0_off330 v873) a + S1x128x128.size a ≤ S10240x128x128.size a := fun v873 k0_hw110 => k0_hw110

def k0_off331 (i : grid0.Coords) : Fin 2 → Nat :=
  let arg0 : BitVec 32 := BitVec.ofNat 32 (i 0).val
  let v880 : Index := Scalar.indexCast arg0
  let c46_531 : Index := 46#32
  ![v880.toNat, 46]
def k0_off332 (i : grid0.Coords) : Fin 3 → Nat :=
  let arg0 : BitVec 32 := BitVec.ofNat 32 (i 0).val
  let c5888_i32_533 : BitVec 32 := 5888#32
  let c0_i32_534 : BitVec 32 := 0#32
  ![arg0.toNat, 5888, 0]
def k0_off333 (v881 : BitVec 32) : Fin 3 → Nat :=
  let c0_i32_535 : BitVec 32 := 0#32
  let c0_i32_536 : BitVec 32 := 0#32
  ![v881.toNat, 0, 0]

def k0_chk111 (v881 : BitVec 32) : Prop :=
  (∀ a, (k0_off333 v881) a + S1x128x128.size a ≤ S10240x128x128.size a)
theorem k0_off333_inb : ∀ (v881 : BitVec 32) (k0_hw111 : k0_chk111 v881), ∀ a, (k0_off333 v881) a + S1x128x128.size a ≤ S10240x128x128.size a := fun v881 k0_hw111 => k0_hw111

def k0_off334 (i : grid0.Coords) : Fin 2 → Nat :=
  let arg0 : BitVec 32 := BitVec.ofNat 32 (i 0).val
  let v888 : Index := Scalar.indexCast arg0
  let c47_537 : Index := 47#32
  ![v888.toNat, 47]
def k0_off335 (i : grid0.Coords) : Fin 3 → Nat :=
  let arg0 : BitVec 32 := BitVec.ofNat 32 (i 0).val
  let c6016_i32_539 : BitVec 32 := 6016#32
  let c0_i32_540 : BitVec 32 := 0#32
  ![arg0.toNat, 6016, 0]
def k0_off336 (v889 : BitVec 32) : Fin 3 → Nat :=
  let c0_i32_541 : BitVec 32 := 0#32
  let c0_i32_542 : BitVec 32 := 0#32
  ![v889.toNat, 0, 0]

def k0_chk112 (v889 : BitVec 32) : Prop :=
  (∀ a, (k0_off336 v889) a + S1x128x128.size a ≤ S10240x128x128.size a)
theorem k0_off336_inb : ∀ (v889 : BitVec 32) (k0_hw112 : k0_chk112 v889), ∀ a, (k0_off336 v889) a + S1x128x128.size a ≤ S10240x128x128.size a := fun v889 k0_hw112 => k0_hw112

def k0_off337 (i : grid0.Coords) : Fin 2 → Nat :=
  let arg0 : BitVec 32 := BitVec.ofNat 32 (i 0).val
  let v896 : Index := Scalar.indexCast arg0
  let c48_543 : Index := 48#32
  ![v896.toNat, 48]
def k0_off338 (i : grid0.Coords) : Fin 3 → Nat :=
  let arg0 : BitVec 32 := BitVec.ofNat 32 (i 0).val
  let c6144_i32_545 : BitVec 32 := 6144#32
  let c0_i32_546 : BitVec 32 := 0#32
  ![arg0.toNat, 6144, 0]
def k0_off339 (v897 : BitVec 32) : Fin 3 → Nat :=
  let c0_i32_547 : BitVec 32 := 0#32
  let c0_i32_548 : BitVec 32 := 0#32
  ![v897.toNat, 0, 0]

def k0_chk113 (v897 : BitVec 32) : Prop :=
  (∀ a, (k0_off339 v897) a + S1x128x128.size a ≤ S10240x128x128.size a)
theorem k0_off339_inb : ∀ (v897 : BitVec 32) (k0_hw113 : k0_chk113 v897), ∀ a, (k0_off339 v897) a + S1x128x128.size a ≤ S10240x128x128.size a := fun v897 k0_hw113 => k0_hw113

def k0_off340 (i : grid0.Coords) : Fin 2 → Nat :=
  let arg0 : BitVec 32 := BitVec.ofNat 32 (i 0).val
  let v904 : Index := Scalar.indexCast arg0
  let c49_549 : Index := 49#32
  ![v904.toNat, 49]
def k0_off341 (i : grid0.Coords) : Fin 3 → Nat :=
  let arg0 : BitVec 32 := BitVec.ofNat 32 (i 0).val
  let c6272_i32_551 : BitVec 32 := 6272#32
  let c0_i32_552 : BitVec 32 := 0#32
  ![arg0.toNat, 6272, 0]
def k0_off342 (v905 : BitVec 32) : Fin 3 → Nat :=
  let c0_i32_553 : BitVec 32 := 0#32
  let c0_i32_554 : BitVec 32 := 0#32
  ![v905.toNat, 0, 0]

def k0_chk114 (v905 : BitVec 32) : Prop :=
  (∀ a, (k0_off342 v905) a + S1x128x128.size a ≤ S10240x128x128.size a)
theorem k0_off342_inb : ∀ (v905 : BitVec 32) (k0_hw114 : k0_chk114 v905), ∀ a, (k0_off342 v905) a + S1x128x128.size a ≤ S10240x128x128.size a := fun v905 k0_hw114 => k0_hw114

def k0_off343 (i : grid0.Coords) : Fin 2 → Nat :=
  let arg0 : BitVec 32 := BitVec.ofNat 32 (i 0).val
  let v912 : Index := Scalar.indexCast arg0
  let c50_555 : Index := 50#32
  ![v912.toNat, 50]
def k0_off344 (i : grid0.Coords) : Fin 3 → Nat :=
  let arg0 : BitVec 32 := BitVec.ofNat 32 (i 0).val
  let c6400_i32_557 : BitVec 32 := 6400#32
  let c0_i32_558 : BitVec 32 := 0#32
  ![arg0.toNat, 6400, 0]
def k0_off345 (v913 : BitVec 32) : Fin 3 → Nat :=
  let c0_i32_559 : BitVec 32 := 0#32
  let c0_i32_560 : BitVec 32 := 0#32
  ![v913.toNat, 0, 0]

def k0_chk115 (v913 : BitVec 32) : Prop :=
  (∀ a, (k0_off345 v913) a + S1x128x128.size a ≤ S10240x128x128.size a)
theorem k0_off345_inb : ∀ (v913 : BitVec 32) (k0_hw115 : k0_chk115 v913), ∀ a, (k0_off345 v913) a + S1x128x128.size a ≤ S10240x128x128.size a := fun v913 k0_hw115 => k0_hw115

def k0_off346 (i : grid0.Coords) : Fin 2 → Nat :=
  let arg0 : BitVec 32 := BitVec.ofNat 32 (i 0).val
  let v920 : Index := Scalar.indexCast arg0
  let c51_561 : Index := 51#32
  ![v920.toNat, 51]
def k0_off347 (i : grid0.Coords) : Fin 3 → Nat :=
  let arg0 : BitVec 32 := BitVec.ofNat 32 (i 0).val
  let c6528_i32_563 : BitVec 32 := 6528#32
  let c0_i32_564 : BitVec 32 := 0#32
  ![arg0.toNat, 6528, 0]
def k0_off348 (v921 : BitVec 32) : Fin 3 → Nat :=
  let c0_i32_565 : BitVec 32 := 0#32
  let c0_i32_566 : BitVec 32 := 0#32
  ![v921.toNat, 0, 0]

def k0_chk116 (v921 : BitVec 32) : Prop :=
  (∀ a, (k0_off348 v921) a + S1x128x128.size a ≤ S10240x128x128.size a)
theorem k0_off348_inb : ∀ (v921 : BitVec 32) (k0_hw116 : k0_chk116 v921), ∀ a, (k0_off348 v921) a + S1x128x128.size a ≤ S10240x128x128.size a := fun v921 k0_hw116 => k0_hw116

def k0_off349 (i : grid0.Coords) : Fin 2 → Nat :=
  let arg0 : BitVec 32 := BitVec.ofNat 32 (i 0).val
  let v928 : Index := Scalar.indexCast arg0
  let c52_567 : Index := 52#32
  ![v928.toNat, 52]
def k0_off350 (i : grid0.Coords) : Fin 3 → Nat :=
  let arg0 : BitVec 32 := BitVec.ofNat 32 (i 0).val
  let c6656_i32_569 : BitVec 32 := 6656#32
  let c0_i32_570 : BitVec 32 := 0#32
  ![arg0.toNat, 6656, 0]
def k0_off351 (v929 : BitVec 32) : Fin 3 → Nat :=
  let c0_i32_571 : BitVec 32 := 0#32
  let c0_i32_572 : BitVec 32 := 0#32
  ![v929.toNat, 0, 0]

def k0_chk117 (v929 : BitVec 32) : Prop :=
  (∀ a, (k0_off351 v929) a + S1x128x128.size a ≤ S10240x128x128.size a)
theorem k0_off351_inb : ∀ (v929 : BitVec 32) (k0_hw117 : k0_chk117 v929), ∀ a, (k0_off351 v929) a + S1x128x128.size a ≤ S10240x128x128.size a := fun v929 k0_hw117 => k0_hw117

def k0_off352 (i : grid0.Coords) : Fin 2 → Nat :=
  let arg0 : BitVec 32 := BitVec.ofNat 32 (i 0).val
  let v936 : Index := Scalar.indexCast arg0
  let c53_573 : Index := 53#32
  ![v936.toNat, 53]
def k0_off353 (i : grid0.Coords) : Fin 3 → Nat :=
  let arg0 : BitVec 32 := BitVec.ofNat 32 (i 0).val
  let c6784_i32_575 : BitVec 32 := 6784#32
  let c0_i32_576 : BitVec 32 := 0#32
  ![arg0.toNat, 6784, 0]
def k0_off354 (v937 : BitVec 32) : Fin 3 → Nat :=
  let c0_i32_577 : BitVec 32 := 0#32
  let c0_i32_578 : BitVec 32 := 0#32
  ![v937.toNat, 0, 0]

def k0_chk118 (v937 : BitVec 32) : Prop :=
  (∀ a, (k0_off354 v937) a + S1x128x128.size a ≤ S10240x128x128.size a)
theorem k0_off354_inb : ∀ (v937 : BitVec 32) (k0_hw118 : k0_chk118 v937), ∀ a, (k0_off354 v937) a + S1x128x128.size a ≤ S10240x128x128.size a := fun v937 k0_hw118 => k0_hw118

def k0_off355 (i : grid0.Coords) : Fin 2 → Nat :=
  let arg0 : BitVec 32 := BitVec.ofNat 32 (i 0).val
  let v944 : Index := Scalar.indexCast arg0
  let c54_579 : Index := 54#32
  ![v944.toNat, 54]
def k0_off356 (i : grid0.Coords) : Fin 3 → Nat :=
  let arg0 : BitVec 32 := BitVec.ofNat 32 (i 0).val
  let c6912_i32_581 : BitVec 32 := 6912#32
  let c0_i32_582 : BitVec 32 := 0#32
  ![arg0.toNat, 6912, 0]
def k0_off357 (v945 : BitVec 32) : Fin 3 → Nat :=
  let c0_i32_583 : BitVec 32 := 0#32
  let c0_i32_584 : BitVec 32 := 0#32
  ![v945.toNat, 0, 0]

def k0_chk119 (v945 : BitVec 32) : Prop :=
  (∀ a, (k0_off357 v945) a + S1x128x128.size a ≤ S10240x128x128.size a)
theorem k0_off357_inb : ∀ (v945 : BitVec 32) (k0_hw119 : k0_chk119 v945), ∀ a, (k0_off357 v945) a + S1x128x128.size a ≤ S10240x128x128.size a := fun v945 k0_hw119 => k0_hw119

def k0_off358 (i : grid0.Coords) : Fin 2 → Nat :=
  let arg0 : BitVec 32 := BitVec.ofNat 32 (i 0).val
  let v952 : Index := Scalar.indexCast arg0
  let c55_585 : Index := 55#32
  ![v952.toNat, 55]
def k0_off359 (i : grid0.Coords) : Fin 3 → Nat :=
  let arg0 : BitVec 32 := BitVec.ofNat 32 (i 0).val
  let c7040_i32_587 : BitVec 32 := 7040#32
  let c0_i32_588 : BitVec 32 := 0#32
  ![arg0.toNat, 7040, 0]
def k0_off360 (v953 : BitVec 32) : Fin 3 → Nat :=
  let c0_i32_589 : BitVec 32 := 0#32
  let c0_i32_590 : BitVec 32 := 0#32
  ![v953.toNat, 0, 0]

def k0_chk120 (v953 : BitVec 32) : Prop :=
  (∀ a, (k0_off360 v953) a + S1x128x128.size a ≤ S10240x128x128.size a)
theorem k0_off360_inb : ∀ (v953 : BitVec 32) (k0_hw120 : k0_chk120 v953), ∀ a, (k0_off360 v953) a + S1x128x128.size a ≤ S10240x128x128.size a := fun v953 k0_hw120 => k0_hw120

def k0_off361 (i : grid0.Coords) : Fin 2 → Nat :=
  let arg0 : BitVec 32 := BitVec.ofNat 32 (i 0).val
  let v960 : Index := Scalar.indexCast arg0
  let c56_591 : Index := 56#32
  ![v960.toNat, 56]
def k0_off362 (i : grid0.Coords) : Fin 3 → Nat :=
  let arg0 : BitVec 32 := BitVec.ofNat 32 (i 0).val
  let c7168_i32_593 : BitVec 32 := 7168#32
  let c0_i32_594 : BitVec 32 := 0#32
  ![arg0.toNat, 7168, 0]
def k0_off363 (v961 : BitVec 32) : Fin 3 → Nat :=
  let c0_i32_595 : BitVec 32 := 0#32
  let c0_i32_596 : BitVec 32 := 0#32
  ![v961.toNat, 0, 0]

def k0_chk121 (v961 : BitVec 32) : Prop :=
  (∀ a, (k0_off363 v961) a + S1x128x128.size a ≤ S10240x128x128.size a)
theorem k0_off363_inb : ∀ (v961 : BitVec 32) (k0_hw121 : k0_chk121 v961), ∀ a, (k0_off363 v961) a + S1x128x128.size a ≤ S10240x128x128.size a := fun v961 k0_hw121 => k0_hw121

def k0_off364 (i : grid0.Coords) : Fin 2 → Nat :=
  let arg0 : BitVec 32 := BitVec.ofNat 32 (i 0).val
  let v968 : Index := Scalar.indexCast arg0
  let c57_597 : Index := 57#32
  ![v968.toNat, 57]
def k0_off365 (i : grid0.Coords) : Fin 3 → Nat :=
  let arg0 : BitVec 32 := BitVec.ofNat 32 (i 0).val
  let c7296_i32_599 : BitVec 32 := 7296#32
  let c0_i32_600 : BitVec 32 := 0#32
  ![arg0.toNat, 7296, 0]
def k0_off366 (v969 : BitVec 32) : Fin 3 → Nat :=
  let c0_i32_601 : BitVec 32 := 0#32
  let c0_i32_602 : BitVec 32 := 0#32
  ![v969.toNat, 0, 0]

def k0_chk122 (v969 : BitVec 32) : Prop :=
  (∀ a, (k0_off366 v969) a + S1x128x128.size a ≤ S10240x128x128.size a)
theorem k0_off366_inb : ∀ (v969 : BitVec 32) (k0_hw122 : k0_chk122 v969), ∀ a, (k0_off366 v969) a + S1x128x128.size a ≤ S10240x128x128.size a := fun v969 k0_hw122 => k0_hw122

def k0_off367 (i : grid0.Coords) : Fin 2 → Nat :=
  let arg0 : BitVec 32 := BitVec.ofNat 32 (i 0).val
  let v976 : Index := Scalar.indexCast arg0
  let c58_603 : Index := 58#32
  ![v976.toNat, 58]
def k0_off368 (i : grid0.Coords) : Fin 3 → Nat :=
  let arg0 : BitVec 32 := BitVec.ofNat 32 (i 0).val
  let c7424_i32_605 : BitVec 32 := 7424#32
  let c0_i32_606 : BitVec 32 := 0#32
  ![arg0.toNat, 7424, 0]
def k0_off369 (v977 : BitVec 32) : Fin 3 → Nat :=
  let c0_i32_607 : BitVec 32 := 0#32
  let c0_i32_608 : BitVec 32 := 0#32
  ![v977.toNat, 0, 0]

def k0_chk123 (v977 : BitVec 32) : Prop :=
  (∀ a, (k0_off369 v977) a + S1x128x128.size a ≤ S10240x128x128.size a)
theorem k0_off369_inb : ∀ (v977 : BitVec 32) (k0_hw123 : k0_chk123 v977), ∀ a, (k0_off369 v977) a + S1x128x128.size a ≤ S10240x128x128.size a := fun v977 k0_hw123 => k0_hw123

def k0_off370 (i : grid0.Coords) : Fin 2 → Nat :=
  let arg0 : BitVec 32 := BitVec.ofNat 32 (i 0).val
  let v984 : Index := Scalar.indexCast arg0
  let c59_609 : Index := 59#32
  ![v984.toNat, 59]
def k0_off371 (i : grid0.Coords) : Fin 3 → Nat :=
  let arg0 : BitVec 32 := BitVec.ofNat 32 (i 0).val
  let c7552_i32_611 : BitVec 32 := 7552#32
  let c0_i32_612 : BitVec 32 := 0#32
  ![arg0.toNat, 7552, 0]
def k0_off372 (v985 : BitVec 32) : Fin 3 → Nat :=
  let c0_i32_613 : BitVec 32 := 0#32
  let c0_i32_614 : BitVec 32 := 0#32
  ![v985.toNat, 0, 0]

def k0_chk124 (v985 : BitVec 32) : Prop :=
  (∀ a, (k0_off372 v985) a + S1x128x128.size a ≤ S10240x128x128.size a)
theorem k0_off372_inb : ∀ (v985 : BitVec 32) (k0_hw124 : k0_chk124 v985), ∀ a, (k0_off372 v985) a + S1x128x128.size a ≤ S10240x128x128.size a := fun v985 k0_hw124 => k0_hw124

def k0_off373 (i : grid0.Coords) : Fin 2 → Nat :=
  let arg0 : BitVec 32 := BitVec.ofNat 32 (i 0).val
  let v992 : Index := Scalar.indexCast arg0
  let c60_615 : Index := 60#32
  ![v992.toNat, 60]
def k0_off374 (i : grid0.Coords) : Fin 3 → Nat :=
  let arg0 : BitVec 32 := BitVec.ofNat 32 (i 0).val
  let c7680_i32_617 : BitVec 32 := 7680#32
  let c0_i32_618 : BitVec 32 := 0#32
  ![arg0.toNat, 7680, 0]
def k0_off375 (v993 : BitVec 32) : Fin 3 → Nat :=
  let c0_i32_619 : BitVec 32 := 0#32
  let c0_i32_620 : BitVec 32 := 0#32
  ![v993.toNat, 0, 0]

def k0_chk125 (v993 : BitVec 32) : Prop :=
  (∀ a, (k0_off375 v993) a + S1x128x128.size a ≤ S10240x128x128.size a)
theorem k0_off375_inb : ∀ (v993 : BitVec 32) (k0_hw125 : k0_chk125 v993), ∀ a, (k0_off375 v993) a + S1x128x128.size a ≤ S10240x128x128.size a := fun v993 k0_hw125 => k0_hw125

def k0_off376 (i : grid0.Coords) : Fin 2 → Nat :=
  let arg0 : BitVec 32 := BitVec.ofNat 32 (i 0).val
  let v1000 : Index := Scalar.indexCast arg0
  let c61_621 : Index := 61#32
  ![v1000.toNat, 61]
def k0_off377 (i : grid0.Coords) : Fin 3 → Nat :=
  let arg0 : BitVec 32 := BitVec.ofNat 32 (i 0).val
  let c7808_i32_623 : BitVec 32 := 7808#32
  let c0_i32_624 : BitVec 32 := 0#32
  ![arg0.toNat, 7808, 0]
def k0_off378 (v1001 : BitVec 32) : Fin 3 → Nat :=
  let c0_i32_625 : BitVec 32 := 0#32
  let c0_i32_626 : BitVec 32 := 0#32
  ![v1001.toNat, 0, 0]

def k0_chk126 (v1001 : BitVec 32) : Prop :=
  (∀ a, (k0_off378 v1001) a + S1x128x128.size a ≤ S10240x128x128.size a)
theorem k0_off378_inb : ∀ (v1001 : BitVec 32) (k0_hw126 : k0_chk126 v1001), ∀ a, (k0_off378 v1001) a + S1x128x128.size a ≤ S10240x128x128.size a := fun v1001 k0_hw126 => k0_hw126

def k0_off379 (i : grid0.Coords) : Fin 2 → Nat :=
  let arg0 : BitVec 32 := BitVec.ofNat 32 (i 0).val
  let v1008 : Index := Scalar.indexCast arg0
  let c62_627 : Index := 62#32
  ![v1008.toNat, 62]
def k0_off380 (i : grid0.Coords) : Fin 3 → Nat :=
  let arg0 : BitVec 32 := BitVec.ofNat 32 (i 0).val
  let c7936_i32_629 : BitVec 32 := 7936#32
  let c0_i32_630 : BitVec 32 := 0#32
  ![arg0.toNat, 7936, 0]
def k0_off381 (v1009 : BitVec 32) : Fin 3 → Nat :=
  let c0_i32_631 : BitVec 32 := 0#32
  let c0_i32_632 : BitVec 32 := 0#32
  ![v1009.toNat, 0, 0]

def k0_chk127 (v1009 : BitVec 32) : Prop :=
  (∀ a, (k0_off381 v1009) a + S1x128x128.size a ≤ S10240x128x128.size a)
theorem k0_off381_inb : ∀ (v1009 : BitVec 32) (k0_hw127 : k0_chk127 v1009), ∀ a, (k0_off381 v1009) a + S1x128x128.size a ≤ S10240x128x128.size a := fun v1009 k0_hw127 => k0_hw127

def k0_off382 (i : grid0.Coords) : Fin 2 → Nat :=
  let arg0 : BitVec 32 := BitVec.ofNat 32 (i 0).val
  let v1016 : Index := Scalar.indexCast arg0
  let c63_633 : Index := 63#32
  ![v1016.toNat, 63]
def k0_off383 (i : grid0.Coords) : Fin 3 → Nat :=
  let arg0 : BitVec 32 := BitVec.ofNat 32 (i 0).val
  let c8064_i32_635 : BitVec 32 := 8064#32
  let c0_i32_636 : BitVec 32 := 0#32
  ![arg0.toNat, 8064, 0]
def k0_off384 (v1017 : BitVec 32) : Fin 3 → Nat :=
  let c0_i32_637 : BitVec 32 := 0#32
  let c0_i32_638 : BitVec 32 := 0#32
  ![v1017.toNat, 0, 0]

def k0_chk128 (v1017 : BitVec 32) : Prop :=
  (∀ a, (k0_off384 v1017) a + S1x128x128.size a ≤ S10240x128x128.size a)
theorem k0_off384_inb : ∀ (v1017 : BitVec 32) (k0_hw128 : k0_chk128 v1017), ∀ a, (k0_off384 v1017) a + S1x128x128.size a ≤ S10240x128x128.size a := fun v1017 k0_hw128 => k0_hw128

def k0_off385 (i : grid0.Coords) : Fin 2 → Nat :=
  let arg0 : BitVec 32 := BitVec.ofNat 32 (i 0).val
  let v1024 : Index := Scalar.indexCast arg0
  let c0_639 : Index := 0#32
  ![v1024.toNat, 0]
def k0_off386 (i : grid0.Coords) : Fin 3 → Nat :=
  let arg0 : BitVec 32 := BitVec.ofNat 32 (i 0).val
  let c0_i32_640 : BitVec 32 := 0#32
  let c0_i32_641 : BitVec 32 := 0#32
  ![arg0.toNat, 0, 0]
def k0_off387 (v1025 : BitVec 32) : Fin 3 → Nat :=
  let c0_i32_642 : BitVec 32 := 0#32
  let c0_i32_643 : BitVec 32 := 0#32
  ![v1025.toNat, 0, 0]

def k0_chk129 (v1025 : BitVec 32) : Prop :=
  (∀ a, (k0_off387 v1025) a + S1x128x128.size a ≤ S10240x128x128.size a)
theorem k0_off387_inb : ∀ (v1025 : BitVec 32) (k0_hw129 : k0_chk129 v1025), ∀ a, (k0_off387 v1025) a + S1x128x128.size a ≤ S10240x128x128.size a := fun v1025 k0_hw129 => k0_hw129

def k0_off388 (i : grid0.Coords) : Fin 2 → Nat :=
  let arg0 : BitVec 32 := BitVec.ofNat 32 (i 0).val
  let v1032 : Index := Scalar.indexCast arg0
  let c1_644 : Index := 1#32
  ![v1032.toNat, 1]
def k0_off389 (i : grid0.Coords) : Fin 3 → Nat :=
  let arg0 : BitVec 32 := BitVec.ofNat 32 (i 0).val
  let c128_i32_646 : BitVec 32 := 128#32
  let c0_i32_647 : BitVec 32 := 0#32
  ![arg0.toNat, 128, 0]
def k0_off390 (v1033 : BitVec 32) : Fin 3 → Nat :=
  let c0_i32_648 : BitVec 32 := 0#32
  let c0_i32_649 : BitVec 32 := 0#32
  ![v1033.toNat, 0, 0]

def k0_chk130 (v1033 : BitVec 32) : Prop :=
  (∀ a, (k0_off390 v1033) a + S1x128x128.size a ≤ S10240x128x128.size a)
theorem k0_off390_inb : ∀ (v1033 : BitVec 32) (k0_hw130 : k0_chk130 v1033), ∀ a, (k0_off390 v1033) a + S1x128x128.size a ≤ S10240x128x128.size a := fun v1033 k0_hw130 => k0_hw130

def k0_off391 (i : grid0.Coords) : Fin 2 → Nat :=
  let arg0 : BitVec 32 := BitVec.ofNat 32 (i 0).val
  let v1040 : Index := Scalar.indexCast arg0
  let c2_650 : Index := 2#32
  ![v1040.toNat, 2]
def k0_off392 (i : grid0.Coords) : Fin 3 → Nat :=
  let arg0 : BitVec 32 := BitVec.ofNat 32 (i 0).val
  let c256_i32_652 : BitVec 32 := 256#32
  let c0_i32_653 : BitVec 32 := 0#32
  ![arg0.toNat, 256, 0]
def k0_off393 (v1041 : BitVec 32) : Fin 3 → Nat :=
  let c0_i32_654 : BitVec 32 := 0#32
  let c0_i32_655 : BitVec 32 := 0#32
  ![v1041.toNat, 0, 0]

def k0_chk131 (v1041 : BitVec 32) : Prop :=
  (∀ a, (k0_off393 v1041) a + S1x128x128.size a ≤ S10240x128x128.size a)
theorem k0_off393_inb : ∀ (v1041 : BitVec 32) (k0_hw131 : k0_chk131 v1041), ∀ a, (k0_off393 v1041) a + S1x128x128.size a ≤ S10240x128x128.size a := fun v1041 k0_hw131 => k0_hw131

def k0_off394 (i : grid0.Coords) : Fin 2 → Nat :=
  let arg0 : BitVec 32 := BitVec.ofNat 32 (i 0).val
  let v1048 : Index := Scalar.indexCast arg0
  let c3_656 : Index := 3#32
  ![v1048.toNat, 3]
def k0_off395 (i : grid0.Coords) : Fin 3 → Nat :=
  let arg0 : BitVec 32 := BitVec.ofNat 32 (i 0).val
  let c384_i32_658 : BitVec 32 := 384#32
  let c0_i32_659 : BitVec 32 := 0#32
  ![arg0.toNat, 384, 0]
def k0_off396 (v1049 : BitVec 32) : Fin 3 → Nat :=
  let c0_i32_660 : BitVec 32 := 0#32
  let c0_i32_661 : BitVec 32 := 0#32
  ![v1049.toNat, 0, 0]

def k0_chk132 (v1049 : BitVec 32) : Prop :=
  (∀ a, (k0_off396 v1049) a + S1x128x128.size a ≤ S10240x128x128.size a)
theorem k0_off396_inb : ∀ (v1049 : BitVec 32) (k0_hw132 : k0_chk132 v1049), ∀ a, (k0_off396 v1049) a + S1x128x128.size a ≤ S10240x128x128.size a := fun v1049 k0_hw132 => k0_hw132

def k0_off397 (i : grid0.Coords) : Fin 2 → Nat :=
  let arg0 : BitVec 32 := BitVec.ofNat 32 (i 0).val
  let v1056 : Index := Scalar.indexCast arg0
  let c4_662 : Index := 4#32
  ![v1056.toNat, 4]
def k0_off398 (i : grid0.Coords) : Fin 3 → Nat :=
  let arg0 : BitVec 32 := BitVec.ofNat 32 (i 0).val
  let c512_i32_664 : BitVec 32 := 512#32
  let c0_i32_665 : BitVec 32 := 0#32
  ![arg0.toNat, 512, 0]
def k0_off399 (v1057 : BitVec 32) : Fin 3 → Nat :=
  let c0_i32_666 : BitVec 32 := 0#32
  let c0_i32_667 : BitVec 32 := 0#32
  ![v1057.toNat, 0, 0]

def k0_chk133 (v1057 : BitVec 32) : Prop :=
  (∀ a, (k0_off399 v1057) a + S1x128x128.size a ≤ S10240x128x128.size a)
theorem k0_off399_inb : ∀ (v1057 : BitVec 32) (k0_hw133 : k0_chk133 v1057), ∀ a, (k0_off399 v1057) a + S1x128x128.size a ≤ S10240x128x128.size a := fun v1057 k0_hw133 => k0_hw133

def k0_off400 (i : grid0.Coords) : Fin 2 → Nat :=
  let arg0 : BitVec 32 := BitVec.ofNat 32 (i 0).val
  let v1064 : Index := Scalar.indexCast arg0
  let c5_668 : Index := 5#32
  ![v1064.toNat, 5]
def k0_off401 (i : grid0.Coords) : Fin 3 → Nat :=
  let arg0 : BitVec 32 := BitVec.ofNat 32 (i 0).val
  let c640_i32_670 : BitVec 32 := 640#32
  let c0_i32_671 : BitVec 32 := 0#32
  ![arg0.toNat, 640, 0]
def k0_off402 (v1065 : BitVec 32) : Fin 3 → Nat :=
  let c0_i32_672 : BitVec 32 := 0#32
  let c0_i32_673 : BitVec 32 := 0#32
  ![v1065.toNat, 0, 0]

def k0_chk134 (v1065 : BitVec 32) : Prop :=
  (∀ a, (k0_off402 v1065) a + S1x128x128.size a ≤ S10240x128x128.size a)
theorem k0_off402_inb : ∀ (v1065 : BitVec 32) (k0_hw134 : k0_chk134 v1065), ∀ a, (k0_off402 v1065) a + S1x128x128.size a ≤ S10240x128x128.size a := fun v1065 k0_hw134 => k0_hw134

def k0_off403 (i : grid0.Coords) : Fin 2 → Nat :=
  let arg0 : BitVec 32 := BitVec.ofNat 32 (i 0).val
  let v1072 : Index := Scalar.indexCast arg0
  let c6_674 : Index := 6#32
  ![v1072.toNat, 6]
def k0_off404 (i : grid0.Coords) : Fin 3 → Nat :=
  let arg0 : BitVec 32 := BitVec.ofNat 32 (i 0).val
  let c768_i32_676 : BitVec 32 := 768#32
  let c0_i32_677 : BitVec 32 := 0#32
  ![arg0.toNat, 768, 0]
def k0_off405 (v1073 : BitVec 32) : Fin 3 → Nat :=
  let c0_i32_678 : BitVec 32 := 0#32
  let c0_i32_679 : BitVec 32 := 0#32
  ![v1073.toNat, 0, 0]

def k0_chk135 (v1073 : BitVec 32) : Prop :=
  (∀ a, (k0_off405 v1073) a + S1x128x128.size a ≤ S10240x128x128.size a)
theorem k0_off405_inb : ∀ (v1073 : BitVec 32) (k0_hw135 : k0_chk135 v1073), ∀ a, (k0_off405 v1073) a + S1x128x128.size a ≤ S10240x128x128.size a := fun v1073 k0_hw135 => k0_hw135

def k0_off406 (i : grid0.Coords) : Fin 2 → Nat :=
  let arg0 : BitVec 32 := BitVec.ofNat 32 (i 0).val
  let v1080 : Index := Scalar.indexCast arg0
  let c7_680 : Index := 7#32
  ![v1080.toNat, 7]
def k0_off407 (i : grid0.Coords) : Fin 3 → Nat :=
  let arg0 : BitVec 32 := BitVec.ofNat 32 (i 0).val
  let c896_i32_682 : BitVec 32 := 896#32
  let c0_i32_683 : BitVec 32 := 0#32
  ![arg0.toNat, 896, 0]
def k0_off408 (v1081 : BitVec 32) : Fin 3 → Nat :=
  let c0_i32_684 : BitVec 32 := 0#32
  let c0_i32_685 : BitVec 32 := 0#32
  ![v1081.toNat, 0, 0]

def k0_chk136 (v1081 : BitVec 32) : Prop :=
  (∀ a, (k0_off408 v1081) a + S1x128x128.size a ≤ S10240x128x128.size a)
theorem k0_off408_inb : ∀ (v1081 : BitVec 32) (k0_hw136 : k0_chk136 v1081), ∀ a, (k0_off408 v1081) a + S1x128x128.size a ≤ S10240x128x128.size a := fun v1081 k0_hw136 => k0_hw136

def k0_off409 (i : grid0.Coords) : Fin 2 → Nat :=
  let arg0 : BitVec 32 := BitVec.ofNat 32 (i 0).val
  let v1088 : Index := Scalar.indexCast arg0
  let c8_686 : Index := 8#32
  ![v1088.toNat, 8]
def k0_off410 (i : grid0.Coords) : Fin 3 → Nat :=
  let arg0 : BitVec 32 := BitVec.ofNat 32 (i 0).val
  let c1024_i32_688 : BitVec 32 := 1024#32
  let c0_i32_689 : BitVec 32 := 0#32
  ![arg0.toNat, 1024, 0]
def k0_off411 (v1089 : BitVec 32) : Fin 3 → Nat :=
  let c0_i32_690 : BitVec 32 := 0#32
  let c0_i32_691 : BitVec 32 := 0#32
  ![v1089.toNat, 0, 0]

def k0_chk137 (v1089 : BitVec 32) : Prop :=
  (∀ a, (k0_off411 v1089) a + S1x128x128.size a ≤ S10240x128x128.size a)
theorem k0_off411_inb : ∀ (v1089 : BitVec 32) (k0_hw137 : k0_chk137 v1089), ∀ a, (k0_off411 v1089) a + S1x128x128.size a ≤ S10240x128x128.size a := fun v1089 k0_hw137 => k0_hw137

def k0_off412 (i : grid0.Coords) : Fin 2 → Nat :=
  let arg0 : BitVec 32 := BitVec.ofNat 32 (i 0).val
  let v1096 : Index := Scalar.indexCast arg0
  let c9_692 : Index := 9#32
  ![v1096.toNat, 9]
def k0_off413 (i : grid0.Coords) : Fin 3 → Nat :=
  let arg0 : BitVec 32 := BitVec.ofNat 32 (i 0).val
  let c1152_i32_694 : BitVec 32 := 1152#32
  let c0_i32_695 : BitVec 32 := 0#32
  ![arg0.toNat, 1152, 0]
def k0_off414 (v1097 : BitVec 32) : Fin 3 → Nat :=
  let c0_i32_696 : BitVec 32 := 0#32
  let c0_i32_697 : BitVec 32 := 0#32
  ![v1097.toNat, 0, 0]

def k0_chk138 (v1097 : BitVec 32) : Prop :=
  (∀ a, (k0_off414 v1097) a + S1x128x128.size a ≤ S10240x128x128.size a)
theorem k0_off414_inb : ∀ (v1097 : BitVec 32) (k0_hw138 : k0_chk138 v1097), ∀ a, (k0_off414 v1097) a + S1x128x128.size a ≤ S10240x128x128.size a := fun v1097 k0_hw138 => k0_hw138

def k0_off415 (i : grid0.Coords) : Fin 2 → Nat :=
  let arg0 : BitVec 32 := BitVec.ofNat 32 (i 0).val
  let v1104 : Index := Scalar.indexCast arg0
  let c10_698 : Index := 10#32
  ![v1104.toNat, 10]
def k0_off416 (i : grid0.Coords) : Fin 3 → Nat :=
  let arg0 : BitVec 32 := BitVec.ofNat 32 (i 0).val
  let c1280_i32_700 : BitVec 32 := 1280#32
  let c0_i32_701 : BitVec 32 := 0#32
  ![arg0.toNat, 1280, 0]
def k0_off417 (v1105 : BitVec 32) : Fin 3 → Nat :=
  let c0_i32_702 : BitVec 32 := 0#32
  let c0_i32_703 : BitVec 32 := 0#32
  ![v1105.toNat, 0, 0]

def k0_chk139 (v1105 : BitVec 32) : Prop :=
  (∀ a, (k0_off417 v1105) a + S1x128x128.size a ≤ S10240x128x128.size a)
theorem k0_off417_inb : ∀ (v1105 : BitVec 32) (k0_hw139 : k0_chk139 v1105), ∀ a, (k0_off417 v1105) a + S1x128x128.size a ≤ S10240x128x128.size a := fun v1105 k0_hw139 => k0_hw139

def k0_off418 (i : grid0.Coords) : Fin 2 → Nat :=
  let arg0 : BitVec 32 := BitVec.ofNat 32 (i 0).val
  let v1112 : Index := Scalar.indexCast arg0
  let c11_704 : Index := 11#32
  ![v1112.toNat, 11]
def k0_off419 (i : grid0.Coords) : Fin 3 → Nat :=
  let arg0 : BitVec 32 := BitVec.ofNat 32 (i 0).val
  let c1408_i32_706 : BitVec 32 := 1408#32
  let c0_i32_707 : BitVec 32 := 0#32
  ![arg0.toNat, 1408, 0]
def k0_off420 (v1113 : BitVec 32) : Fin 3 → Nat :=
  let c0_i32_708 : BitVec 32 := 0#32
  let c0_i32_709 : BitVec 32 := 0#32
  ![v1113.toNat, 0, 0]

def k0_chk140 (v1113 : BitVec 32) : Prop :=
  (∀ a, (k0_off420 v1113) a + S1x128x128.size a ≤ S10240x128x128.size a)
theorem k0_off420_inb : ∀ (v1113 : BitVec 32) (k0_hw140 : k0_chk140 v1113), ∀ a, (k0_off420 v1113) a + S1x128x128.size a ≤ S10240x128x128.size a := fun v1113 k0_hw140 => k0_hw140

def k0_off421 (i : grid0.Coords) : Fin 2 → Nat :=
  let arg0 : BitVec 32 := BitVec.ofNat 32 (i 0).val
  let v1120 : Index := Scalar.indexCast arg0
  let c12_710 : Index := 12#32
  ![v1120.toNat, 12]
def k0_off422 (i : grid0.Coords) : Fin 3 → Nat :=
  let arg0 : BitVec 32 := BitVec.ofNat 32 (i 0).val
  let c1536_i32_712 : BitVec 32 := 1536#32
  let c0_i32_713 : BitVec 32 := 0#32
  ![arg0.toNat, 1536, 0]
def k0_off423 (v1121 : BitVec 32) : Fin 3 → Nat :=
  let c0_i32_714 : BitVec 32 := 0#32
  let c0_i32_715 : BitVec 32 := 0#32
  ![v1121.toNat, 0, 0]

def k0_chk141 (v1121 : BitVec 32) : Prop :=
  (∀ a, (k0_off423 v1121) a + S1x128x128.size a ≤ S10240x128x128.size a)
theorem k0_off423_inb : ∀ (v1121 : BitVec 32) (k0_hw141 : k0_chk141 v1121), ∀ a, (k0_off423 v1121) a + S1x128x128.size a ≤ S10240x128x128.size a := fun v1121 k0_hw141 => k0_hw141

def k0_off424 (i : grid0.Coords) : Fin 2 → Nat :=
  let arg0 : BitVec 32 := BitVec.ofNat 32 (i 0).val
  let v1128 : Index := Scalar.indexCast arg0
  let c13_716 : Index := 13#32
  ![v1128.toNat, 13]
def k0_off425 (i : grid0.Coords) : Fin 3 → Nat :=
  let arg0 : BitVec 32 := BitVec.ofNat 32 (i 0).val
  let c1664_i32_718 : BitVec 32 := 1664#32
  let c0_i32_719 : BitVec 32 := 0#32
  ![arg0.toNat, 1664, 0]
def k0_off426 (v1129 : BitVec 32) : Fin 3 → Nat :=
  let c0_i32_720 : BitVec 32 := 0#32
  let c0_i32_721 : BitVec 32 := 0#32
  ![v1129.toNat, 0, 0]

def k0_chk142 (v1129 : BitVec 32) : Prop :=
  (∀ a, (k0_off426 v1129) a + S1x128x128.size a ≤ S10240x128x128.size a)
theorem k0_off426_inb : ∀ (v1129 : BitVec 32) (k0_hw142 : k0_chk142 v1129), ∀ a, (k0_off426 v1129) a + S1x128x128.size a ≤ S10240x128x128.size a := fun v1129 k0_hw142 => k0_hw142

def k0_off427 (i : grid0.Coords) : Fin 2 → Nat :=
  let arg0 : BitVec 32 := BitVec.ofNat 32 (i 0).val
  let v1136 : Index := Scalar.indexCast arg0
  let c14_722 : Index := 14#32
  ![v1136.toNat, 14]
def k0_off428 (i : grid0.Coords) : Fin 3 → Nat :=
  let arg0 : BitVec 32 := BitVec.ofNat 32 (i 0).val
  let c1792_i32_724 : BitVec 32 := 1792#32
  let c0_i32_725 : BitVec 32 := 0#32
  ![arg0.toNat, 1792, 0]
def k0_off429 (v1137 : BitVec 32) : Fin 3 → Nat :=
  let c0_i32_726 : BitVec 32 := 0#32
  let c0_i32_727 : BitVec 32 := 0#32
  ![v1137.toNat, 0, 0]

def k0_chk143 (v1137 : BitVec 32) : Prop :=
  (∀ a, (k0_off429 v1137) a + S1x128x128.size a ≤ S10240x128x128.size a)
theorem k0_off429_inb : ∀ (v1137 : BitVec 32) (k0_hw143 : k0_chk143 v1137), ∀ a, (k0_off429 v1137) a + S1x128x128.size a ≤ S10240x128x128.size a := fun v1137 k0_hw143 => k0_hw143

def k0_off430 (i : grid0.Coords) : Fin 2 → Nat :=
  let arg0 : BitVec 32 := BitVec.ofNat 32 (i 0).val
  let v1144 : Index := Scalar.indexCast arg0
  let c15_728 : Index := 15#32
  ![v1144.toNat, 15]
def k0_off431 (i : grid0.Coords) : Fin 3 → Nat :=
  let arg0 : BitVec 32 := BitVec.ofNat 32 (i 0).val
  let c1920_i32_730 : BitVec 32 := 1920#32
  let c0_i32_731 : BitVec 32 := 0#32
  ![arg0.toNat, 1920, 0]
def k0_off432 (v1145 : BitVec 32) : Fin 3 → Nat :=
  let c0_i32_732 : BitVec 32 := 0#32
  let c0_i32_733 : BitVec 32 := 0#32
  ![v1145.toNat, 0, 0]

def k0_chk144 (v1145 : BitVec 32) : Prop :=
  (∀ a, (k0_off432 v1145) a + S1x128x128.size a ≤ S10240x128x128.size a)
theorem k0_off432_inb : ∀ (v1145 : BitVec 32) (k0_hw144 : k0_chk144 v1145), ∀ a, (k0_off432 v1145) a + S1x128x128.size a ≤ S10240x128x128.size a := fun v1145 k0_hw144 => k0_hw144

def k0_off433 (i : grid0.Coords) : Fin 2 → Nat :=
  let arg0 : BitVec 32 := BitVec.ofNat 32 (i 0).val
  let v1152 : Index := Scalar.indexCast arg0
  let c16_734 : Index := 16#32
  ![v1152.toNat, 16]
def k0_off434 (i : grid0.Coords) : Fin 3 → Nat :=
  let arg0 : BitVec 32 := BitVec.ofNat 32 (i 0).val
  let c2048_i32_736 : BitVec 32 := 2048#32
  let c0_i32_737 : BitVec 32 := 0#32
  ![arg0.toNat, 2048, 0]
def k0_off435 (v1153 : BitVec 32) : Fin 3 → Nat :=
  let c0_i32_738 : BitVec 32 := 0#32
  let c0_i32_739 : BitVec 32 := 0#32
  ![v1153.toNat, 0, 0]

def k0_chk145 (v1153 : BitVec 32) : Prop :=
  (∀ a, (k0_off435 v1153) a + S1x128x128.size a ≤ S10240x128x128.size a)
theorem k0_off435_inb : ∀ (v1153 : BitVec 32) (k0_hw145 : k0_chk145 v1153), ∀ a, (k0_off435 v1153) a + S1x128x128.size a ≤ S10240x128x128.size a := fun v1153 k0_hw145 => k0_hw145

def k0_off436 (i : grid0.Coords) : Fin 2 → Nat :=
  let arg0 : BitVec 32 := BitVec.ofNat 32 (i 0).val
  let v1160 : Index := Scalar.indexCast arg0
  let c17_740 : Index := 17#32
  ![v1160.toNat, 17]
def k0_off437 (i : grid0.Coords) : Fin 3 → Nat :=
  let arg0 : BitVec 32 := BitVec.ofNat 32 (i 0).val
  let c2176_i32_742 : BitVec 32 := 2176#32
  let c0_i32_743 : BitVec 32 := 0#32
  ![arg0.toNat, 2176, 0]
def k0_off438 (v1161 : BitVec 32) : Fin 3 → Nat :=
  let c0_i32_744 : BitVec 32 := 0#32
  let c0_i32_745 : BitVec 32 := 0#32
  ![v1161.toNat, 0, 0]

def k0_chk146 (v1161 : BitVec 32) : Prop :=
  (∀ a, (k0_off438 v1161) a + S1x128x128.size a ≤ S10240x128x128.size a)
theorem k0_off438_inb : ∀ (v1161 : BitVec 32) (k0_hw146 : k0_chk146 v1161), ∀ a, (k0_off438 v1161) a + S1x128x128.size a ≤ S10240x128x128.size a := fun v1161 k0_hw146 => k0_hw146

def k0_off439 (i : grid0.Coords) : Fin 2 → Nat :=
  let arg0 : BitVec 32 := BitVec.ofNat 32 (i 0).val
  let v1168 : Index := Scalar.indexCast arg0
  let c18_746 : Index := 18#32
  ![v1168.toNat, 18]
def k0_off440 (i : grid0.Coords) : Fin 3 → Nat :=
  let arg0 : BitVec 32 := BitVec.ofNat 32 (i 0).val
  let c2304_i32_748 : BitVec 32 := 2304#32
  let c0_i32_749 : BitVec 32 := 0#32
  ![arg0.toNat, 2304, 0]
def k0_off441 (v1169 : BitVec 32) : Fin 3 → Nat :=
  let c0_i32_750 : BitVec 32 := 0#32
  let c0_i32_751 : BitVec 32 := 0#32
  ![v1169.toNat, 0, 0]

def k0_chk147 (v1169 : BitVec 32) : Prop :=
  (∀ a, (k0_off441 v1169) a + S1x128x128.size a ≤ S10240x128x128.size a)
theorem k0_off441_inb : ∀ (v1169 : BitVec 32) (k0_hw147 : k0_chk147 v1169), ∀ a, (k0_off441 v1169) a + S1x128x128.size a ≤ S10240x128x128.size a := fun v1169 k0_hw147 => k0_hw147

def k0_off442 (i : grid0.Coords) : Fin 2 → Nat :=
  let arg0 : BitVec 32 := BitVec.ofNat 32 (i 0).val
  let v1176 : Index := Scalar.indexCast arg0
  let c19_752 : Index := 19#32
  ![v1176.toNat, 19]
def k0_off443 (i : grid0.Coords) : Fin 3 → Nat :=
  let arg0 : BitVec 32 := BitVec.ofNat 32 (i 0).val
  let c2432_i32_754 : BitVec 32 := 2432#32
  let c0_i32_755 : BitVec 32 := 0#32
  ![arg0.toNat, 2432, 0]
def k0_off444 (v1177 : BitVec 32) : Fin 3 → Nat :=
  let c0_i32_756 : BitVec 32 := 0#32
  let c0_i32_757 : BitVec 32 := 0#32
  ![v1177.toNat, 0, 0]

def k0_chk148 (v1177 : BitVec 32) : Prop :=
  (∀ a, (k0_off444 v1177) a + S1x128x128.size a ≤ S10240x128x128.size a)
theorem k0_off444_inb : ∀ (v1177 : BitVec 32) (k0_hw148 : k0_chk148 v1177), ∀ a, (k0_off444 v1177) a + S1x128x128.size a ≤ S10240x128x128.size a := fun v1177 k0_hw148 => k0_hw148

def k0_off445 (i : grid0.Coords) : Fin 2 → Nat :=
  let arg0 : BitVec 32 := BitVec.ofNat 32 (i 0).val
  let v1184 : Index := Scalar.indexCast arg0
  let c20_758 : Index := 20#32
  ![v1184.toNat, 20]
def k0_off446 (i : grid0.Coords) : Fin 3 → Nat :=
  let arg0 : BitVec 32 := BitVec.ofNat 32 (i 0).val
  let c2560_i32_760 : BitVec 32 := 2560#32
  let c0_i32_761 : BitVec 32 := 0#32
  ![arg0.toNat, 2560, 0]
def k0_off447 (v1185 : BitVec 32) : Fin 3 → Nat :=
  let c0_i32_762 : BitVec 32 := 0#32
  let c0_i32_763 : BitVec 32 := 0#32
  ![v1185.toNat, 0, 0]

def k0_chk149 (v1185 : BitVec 32) : Prop :=
  (∀ a, (k0_off447 v1185) a + S1x128x128.size a ≤ S10240x128x128.size a)
theorem k0_off447_inb : ∀ (v1185 : BitVec 32) (k0_hw149 : k0_chk149 v1185), ∀ a, (k0_off447 v1185) a + S1x128x128.size a ≤ S10240x128x128.size a := fun v1185 k0_hw149 => k0_hw149

def k0_off448 (i : grid0.Coords) : Fin 2 → Nat :=
  let arg0 : BitVec 32 := BitVec.ofNat 32 (i 0).val
  let v1192 : Index := Scalar.indexCast arg0
  let c21_764 : Index := 21#32
  ![v1192.toNat, 21]
def k0_off449 (i : grid0.Coords) : Fin 3 → Nat :=
  let arg0 : BitVec 32 := BitVec.ofNat 32 (i 0).val
  let c2688_i32_766 : BitVec 32 := 2688#32
  let c0_i32_767 : BitVec 32 := 0#32
  ![arg0.toNat, 2688, 0]
def k0_off450 (v1193 : BitVec 32) : Fin 3 → Nat :=
  let c0_i32_768 : BitVec 32 := 0#32
  let c0_i32_769 : BitVec 32 := 0#32
  ![v1193.toNat, 0, 0]

def k0_chk150 (v1193 : BitVec 32) : Prop :=
  (∀ a, (k0_off450 v1193) a + S1x128x128.size a ≤ S10240x128x128.size a)
theorem k0_off450_inb : ∀ (v1193 : BitVec 32) (k0_hw150 : k0_chk150 v1193), ∀ a, (k0_off450 v1193) a + S1x128x128.size a ≤ S10240x128x128.size a := fun v1193 k0_hw150 => k0_hw150

def k0_off451 (i : grid0.Coords) : Fin 2 → Nat :=
  let arg0 : BitVec 32 := BitVec.ofNat 32 (i 0).val
  let v1200 : Index := Scalar.indexCast arg0
  let c22_770 : Index := 22#32
  ![v1200.toNat, 22]
def k0_off452 (i : grid0.Coords) : Fin 3 → Nat :=
  let arg0 : BitVec 32 := BitVec.ofNat 32 (i 0).val
  let c2816_i32_772 : BitVec 32 := 2816#32
  let c0_i32_773 : BitVec 32 := 0#32
  ![arg0.toNat, 2816, 0]
def k0_off453 (v1201 : BitVec 32) : Fin 3 → Nat :=
  let c0_i32_774 : BitVec 32 := 0#32
  let c0_i32_775 : BitVec 32 := 0#32
  ![v1201.toNat, 0, 0]

def k0_chk151 (v1201 : BitVec 32) : Prop :=
  (∀ a, (k0_off453 v1201) a + S1x128x128.size a ≤ S10240x128x128.size a)
theorem k0_off453_inb : ∀ (v1201 : BitVec 32) (k0_hw151 : k0_chk151 v1201), ∀ a, (k0_off453 v1201) a + S1x128x128.size a ≤ S10240x128x128.size a := fun v1201 k0_hw151 => k0_hw151

def k0_off454 (i : grid0.Coords) : Fin 2 → Nat :=
  let arg0 : BitVec 32 := BitVec.ofNat 32 (i 0).val
  let v1208 : Index := Scalar.indexCast arg0
  let c23_776 : Index := 23#32
  ![v1208.toNat, 23]
def k0_off455 (i : grid0.Coords) : Fin 3 → Nat :=
  let arg0 : BitVec 32 := BitVec.ofNat 32 (i 0).val
  let c2944_i32_778 : BitVec 32 := 2944#32
  let c0_i32_779 : BitVec 32 := 0#32
  ![arg0.toNat, 2944, 0]
def k0_off456 (v1209 : BitVec 32) : Fin 3 → Nat :=
  let c0_i32_780 : BitVec 32 := 0#32
  let c0_i32_781 : BitVec 32 := 0#32
  ![v1209.toNat, 0, 0]

def k0_chk152 (v1209 : BitVec 32) : Prop :=
  (∀ a, (k0_off456 v1209) a + S1x128x128.size a ≤ S10240x128x128.size a)
theorem k0_off456_inb : ∀ (v1209 : BitVec 32) (k0_hw152 : k0_chk152 v1209), ∀ a, (k0_off456 v1209) a + S1x128x128.size a ≤ S10240x128x128.size a := fun v1209 k0_hw152 => k0_hw152

def k0_off457 (i : grid0.Coords) : Fin 2 → Nat :=
  let arg0 : BitVec 32 := BitVec.ofNat 32 (i 0).val
  let v1216 : Index := Scalar.indexCast arg0
  let c24_782 : Index := 24#32
  ![v1216.toNat, 24]
def k0_off458 (i : grid0.Coords) : Fin 3 → Nat :=
  let arg0 : BitVec 32 := BitVec.ofNat 32 (i 0).val
  let c3072_i32_784 : BitVec 32 := 3072#32
  let c0_i32_785 : BitVec 32 := 0#32
  ![arg0.toNat, 3072, 0]
def k0_off459 (v1217 : BitVec 32) : Fin 3 → Nat :=
  let c0_i32_786 : BitVec 32 := 0#32
  let c0_i32_787 : BitVec 32 := 0#32
  ![v1217.toNat, 0, 0]

def k0_chk153 (v1217 : BitVec 32) : Prop :=
  (∀ a, (k0_off459 v1217) a + S1x128x128.size a ≤ S10240x128x128.size a)
theorem k0_off459_inb : ∀ (v1217 : BitVec 32) (k0_hw153 : k0_chk153 v1217), ∀ a, (k0_off459 v1217) a + S1x128x128.size a ≤ S10240x128x128.size a := fun v1217 k0_hw153 => k0_hw153

def k0_off460 (i : grid0.Coords) : Fin 2 → Nat :=
  let arg0 : BitVec 32 := BitVec.ofNat 32 (i 0).val
  let v1224 : Index := Scalar.indexCast arg0
  let c25_788 : Index := 25#32
  ![v1224.toNat, 25]
def k0_off461 (i : grid0.Coords) : Fin 3 → Nat :=
  let arg0 : BitVec 32 := BitVec.ofNat 32 (i 0).val
  let c3200_i32_790 : BitVec 32 := 3200#32
  let c0_i32_791 : BitVec 32 := 0#32
  ![arg0.toNat, 3200, 0]
def k0_off462 (v1225 : BitVec 32) : Fin 3 → Nat :=
  let c0_i32_792 : BitVec 32 := 0#32
  let c0_i32_793 : BitVec 32 := 0#32
  ![v1225.toNat, 0, 0]

def k0_chk154 (v1225 : BitVec 32) : Prop :=
  (∀ a, (k0_off462 v1225) a + S1x128x128.size a ≤ S10240x128x128.size a)
theorem k0_off462_inb : ∀ (v1225 : BitVec 32) (k0_hw154 : k0_chk154 v1225), ∀ a, (k0_off462 v1225) a + S1x128x128.size a ≤ S10240x128x128.size a := fun v1225 k0_hw154 => k0_hw154

def k0_off463 (i : grid0.Coords) : Fin 2 → Nat :=
  let arg0 : BitVec 32 := BitVec.ofNat 32 (i 0).val
  let v1232 : Index := Scalar.indexCast arg0
  let c26_794 : Index := 26#32
  ![v1232.toNat, 26]
def k0_off464 (i : grid0.Coords) : Fin 3 → Nat :=
  let arg0 : BitVec 32 := BitVec.ofNat 32 (i 0).val
  let c3328_i32_796 : BitVec 32 := 3328#32
  let c0_i32_797 : BitVec 32 := 0#32
  ![arg0.toNat, 3328, 0]
def k0_off465 (v1233 : BitVec 32) : Fin 3 → Nat :=
  let c0_i32_798 : BitVec 32 := 0#32
  let c0_i32_799 : BitVec 32 := 0#32
  ![v1233.toNat, 0, 0]

def k0_chk155 (v1233 : BitVec 32) : Prop :=
  (∀ a, (k0_off465 v1233) a + S1x128x128.size a ≤ S10240x128x128.size a)
theorem k0_off465_inb : ∀ (v1233 : BitVec 32) (k0_hw155 : k0_chk155 v1233), ∀ a, (k0_off465 v1233) a + S1x128x128.size a ≤ S10240x128x128.size a := fun v1233 k0_hw155 => k0_hw155

def k0_off466 (i : grid0.Coords) : Fin 2 → Nat :=
  let arg0 : BitVec 32 := BitVec.ofNat 32 (i 0).val
  let v1240 : Index := Scalar.indexCast arg0
  let c27_800 : Index := 27#32
  ![v1240.toNat, 27]
def k0_off467 (i : grid0.Coords) : Fin 3 → Nat :=
  let arg0 : BitVec 32 := BitVec.ofNat 32 (i 0).val
  let c3456_i32_802 : BitVec 32 := 3456#32
  let c0_i32_803 : BitVec 32 := 0#32
  ![arg0.toNat, 3456, 0]
def k0_off468 (v1241 : BitVec 32) : Fin 3 → Nat :=
  let c0_i32_804 : BitVec 32 := 0#32
  let c0_i32_805 : BitVec 32 := 0#32
  ![v1241.toNat, 0, 0]

def k0_chk156 (v1241 : BitVec 32) : Prop :=
  (∀ a, (k0_off468 v1241) a + S1x128x128.size a ≤ S10240x128x128.size a)
theorem k0_off468_inb : ∀ (v1241 : BitVec 32) (k0_hw156 : k0_chk156 v1241), ∀ a, (k0_off468 v1241) a + S1x128x128.size a ≤ S10240x128x128.size a := fun v1241 k0_hw156 => k0_hw156

def k0_off469 (i : grid0.Coords) : Fin 2 → Nat :=
  let arg0 : BitVec 32 := BitVec.ofNat 32 (i 0).val
  let v1248 : Index := Scalar.indexCast arg0
  let c28_806 : Index := 28#32
  ![v1248.toNat, 28]
def k0_off470 (i : grid0.Coords) : Fin 3 → Nat :=
  let arg0 : BitVec 32 := BitVec.ofNat 32 (i 0).val
  let c3584_i32_808 : BitVec 32 := 3584#32
  let c0_i32_809 : BitVec 32 := 0#32
  ![arg0.toNat, 3584, 0]
def k0_off471 (v1249 : BitVec 32) : Fin 3 → Nat :=
  let c0_i32_810 : BitVec 32 := 0#32
  let c0_i32_811 : BitVec 32 := 0#32
  ![v1249.toNat, 0, 0]

def k0_chk157 (v1249 : BitVec 32) : Prop :=
  (∀ a, (k0_off471 v1249) a + S1x128x128.size a ≤ S10240x128x128.size a)
theorem k0_off471_inb : ∀ (v1249 : BitVec 32) (k0_hw157 : k0_chk157 v1249), ∀ a, (k0_off471 v1249) a + S1x128x128.size a ≤ S10240x128x128.size a := fun v1249 k0_hw157 => k0_hw157

def k0_off472 (i : grid0.Coords) : Fin 2 → Nat :=
  let arg0 : BitVec 32 := BitVec.ofNat 32 (i 0).val
  let v1256 : Index := Scalar.indexCast arg0
  let c29_812 : Index := 29#32
  ![v1256.toNat, 29]
def k0_off473 (i : grid0.Coords) : Fin 3 → Nat :=
  let arg0 : BitVec 32 := BitVec.ofNat 32 (i 0).val
  let c3712_i32_814 : BitVec 32 := 3712#32
  let c0_i32_815 : BitVec 32 := 0#32
  ![arg0.toNat, 3712, 0]
def k0_off474 (v1257 : BitVec 32) : Fin 3 → Nat :=
  let c0_i32_816 : BitVec 32 := 0#32
  let c0_i32_817 : BitVec 32 := 0#32
  ![v1257.toNat, 0, 0]

def k0_chk158 (v1257 : BitVec 32) : Prop :=
  (∀ a, (k0_off474 v1257) a + S1x128x128.size a ≤ S10240x128x128.size a)
theorem k0_off474_inb : ∀ (v1257 : BitVec 32) (k0_hw158 : k0_chk158 v1257), ∀ a, (k0_off474 v1257) a + S1x128x128.size a ≤ S10240x128x128.size a := fun v1257 k0_hw158 => k0_hw158

def k0_off475 (i : grid0.Coords) : Fin 2 → Nat :=
  let arg0 : BitVec 32 := BitVec.ofNat 32 (i 0).val
  let v1264 : Index := Scalar.indexCast arg0
  let c30_818 : Index := 30#32
  ![v1264.toNat, 30]
def k0_off476 (i : grid0.Coords) : Fin 3 → Nat :=
  let arg0 : BitVec 32 := BitVec.ofNat 32 (i 0).val
  let c3840_i32_820 : BitVec 32 := 3840#32
  let c0_i32_821 : BitVec 32 := 0#32
  ![arg0.toNat, 3840, 0]
def k0_off477 (v1265 : BitVec 32) : Fin 3 → Nat :=
  let c0_i32_822 : BitVec 32 := 0#32
  let c0_i32_823 : BitVec 32 := 0#32
  ![v1265.toNat, 0, 0]

def k0_chk159 (v1265 : BitVec 32) : Prop :=
  (∀ a, (k0_off477 v1265) a + S1x128x128.size a ≤ S10240x128x128.size a)
theorem k0_off477_inb : ∀ (v1265 : BitVec 32) (k0_hw159 : k0_chk159 v1265), ∀ a, (k0_off477 v1265) a + S1x128x128.size a ≤ S10240x128x128.size a := fun v1265 k0_hw159 => k0_hw159

def k0_off478 (i : grid0.Coords) : Fin 2 → Nat :=
  let arg0 : BitVec 32 := BitVec.ofNat 32 (i 0).val
  let v1272 : Index := Scalar.indexCast arg0
  let c31_824 : Index := 31#32
  ![v1272.toNat, 31]
def k0_off479 (i : grid0.Coords) : Fin 3 → Nat :=
  let arg0 : BitVec 32 := BitVec.ofNat 32 (i 0).val
  let c3968_i32_826 : BitVec 32 := 3968#32
  let c0_i32_827 : BitVec 32 := 0#32
  ![arg0.toNat, 3968, 0]
def k0_off480 (v1273 : BitVec 32) : Fin 3 → Nat :=
  let c0_i32_828 : BitVec 32 := 0#32
  let c0_i32_829 : BitVec 32 := 0#32
  ![v1273.toNat, 0, 0]

def k0_chk160 (v1273 : BitVec 32) : Prop :=
  (∀ a, (k0_off480 v1273) a + S1x128x128.size a ≤ S10240x128x128.size a)
theorem k0_off480_inb : ∀ (v1273 : BitVec 32) (k0_hw160 : k0_chk160 v1273), ∀ a, (k0_off480 v1273) a + S1x128x128.size a ≤ S10240x128x128.size a := fun v1273 k0_hw160 => k0_hw160

def k0_off481 (i : grid0.Coords) : Fin 2 → Nat :=
  let arg0 : BitVec 32 := BitVec.ofNat 32 (i 0).val
  let v1280 : Index := Scalar.indexCast arg0
  let c32_830 : Index := 32#32
  ![v1280.toNat, 32]
def k0_off482 (i : grid0.Coords) : Fin 3 → Nat :=
  let arg0 : BitVec 32 := BitVec.ofNat 32 (i 0).val
  let c4096_i32_832 : BitVec 32 := 4096#32
  let c0_i32_833 : BitVec 32 := 0#32
  ![arg0.toNat, 4096, 0]
def k0_off483 (v1281 : BitVec 32) : Fin 3 → Nat :=
  let c0_i32_834 : BitVec 32 := 0#32
  let c0_i32_835 : BitVec 32 := 0#32
  ![v1281.toNat, 0, 0]

def k0_chk161 (v1281 : BitVec 32) : Prop :=
  (∀ a, (k0_off483 v1281) a + S1x128x128.size a ≤ S10240x128x128.size a)
theorem k0_off483_inb : ∀ (v1281 : BitVec 32) (k0_hw161 : k0_chk161 v1281), ∀ a, (k0_off483 v1281) a + S1x128x128.size a ≤ S10240x128x128.size a := fun v1281 k0_hw161 => k0_hw161

def k0_off484 (i : grid0.Coords) : Fin 2 → Nat :=
  let arg0 : BitVec 32 := BitVec.ofNat 32 (i 0).val
  let v1288 : Index := Scalar.indexCast arg0
  let c33_836 : Index := 33#32
  ![v1288.toNat, 33]
def k0_off485 (i : grid0.Coords) : Fin 3 → Nat :=
  let arg0 : BitVec 32 := BitVec.ofNat 32 (i 0).val
  let c4224_i32_838 : BitVec 32 := 4224#32
  let c0_i32_839 : BitVec 32 := 0#32
  ![arg0.toNat, 4224, 0]
def k0_off486 (v1289 : BitVec 32) : Fin 3 → Nat :=
  let c0_i32_840 : BitVec 32 := 0#32
  let c0_i32_841 : BitVec 32 := 0#32
  ![v1289.toNat, 0, 0]

def k0_chk162 (v1289 : BitVec 32) : Prop :=
  (∀ a, (k0_off486 v1289) a + S1x128x128.size a ≤ S10240x128x128.size a)
theorem k0_off486_inb : ∀ (v1289 : BitVec 32) (k0_hw162 : k0_chk162 v1289), ∀ a, (k0_off486 v1289) a + S1x128x128.size a ≤ S10240x128x128.size a := fun v1289 k0_hw162 => k0_hw162

def k0_off487 (i : grid0.Coords) : Fin 2 → Nat :=
  let arg0 : BitVec 32 := BitVec.ofNat 32 (i 0).val
  let v1296 : Index := Scalar.indexCast arg0
  let c34_842 : Index := 34#32
  ![v1296.toNat, 34]
def k0_off488 (i : grid0.Coords) : Fin 3 → Nat :=
  let arg0 : BitVec 32 := BitVec.ofNat 32 (i 0).val
  let c4352_i32_844 : BitVec 32 := 4352#32
  let c0_i32_845 : BitVec 32 := 0#32
  ![arg0.toNat, 4352, 0]
def k0_off489 (v1297 : BitVec 32) : Fin 3 → Nat :=
  let c0_i32_846 : BitVec 32 := 0#32
  let c0_i32_847 : BitVec 32 := 0#32
  ![v1297.toNat, 0, 0]

def k0_chk163 (v1297 : BitVec 32) : Prop :=
  (∀ a, (k0_off489 v1297) a + S1x128x128.size a ≤ S10240x128x128.size a)
theorem k0_off489_inb : ∀ (v1297 : BitVec 32) (k0_hw163 : k0_chk163 v1297), ∀ a, (k0_off489 v1297) a + S1x128x128.size a ≤ S10240x128x128.size a := fun v1297 k0_hw163 => k0_hw163

def k0_off490 (i : grid0.Coords) : Fin 2 → Nat :=
  let arg0 : BitVec 32 := BitVec.ofNat 32 (i 0).val
  let v1304 : Index := Scalar.indexCast arg0
  let c35_848 : Index := 35#32
  ![v1304.toNat, 35]
def k0_off491 (i : grid0.Coords) : Fin 3 → Nat :=
  let arg0 : BitVec 32 := BitVec.ofNat 32 (i 0).val
  let c4480_i32_850 : BitVec 32 := 4480#32
  let c0_i32_851 : BitVec 32 := 0#32
  ![arg0.toNat, 4480, 0]
def k0_off492 (v1305 : BitVec 32) : Fin 3 → Nat :=
  let c0_i32_852 : BitVec 32 := 0#32
  let c0_i32_853 : BitVec 32 := 0#32
  ![v1305.toNat, 0, 0]

def k0_chk164 (v1305 : BitVec 32) : Prop :=
  (∀ a, (k0_off492 v1305) a + S1x128x128.size a ≤ S10240x128x128.size a)
theorem k0_off492_inb : ∀ (v1305 : BitVec 32) (k0_hw164 : k0_chk164 v1305), ∀ a, (k0_off492 v1305) a + S1x128x128.size a ≤ S10240x128x128.size a := fun v1305 k0_hw164 => k0_hw164

def k0_off493 (i : grid0.Coords) : Fin 2 → Nat :=
  let arg0 : BitVec 32 := BitVec.ofNat 32 (i 0).val
  let v1312 : Index := Scalar.indexCast arg0
  let c36_854 : Index := 36#32
  ![v1312.toNat, 36]
def k0_off494 (i : grid0.Coords) : Fin 3 → Nat :=
  let arg0 : BitVec 32 := BitVec.ofNat 32 (i 0).val
  let c4608_i32_856 : BitVec 32 := 4608#32
  let c0_i32_857 : BitVec 32 := 0#32
  ![arg0.toNat, 4608, 0]
def k0_off495 (v1313 : BitVec 32) : Fin 3 → Nat :=
  let c0_i32_858 : BitVec 32 := 0#32
  let c0_i32_859 : BitVec 32 := 0#32
  ![v1313.toNat, 0, 0]

def k0_chk165 (v1313 : BitVec 32) : Prop :=
  (∀ a, (k0_off495 v1313) a + S1x128x128.size a ≤ S10240x128x128.size a)
theorem k0_off495_inb : ∀ (v1313 : BitVec 32) (k0_hw165 : k0_chk165 v1313), ∀ a, (k0_off495 v1313) a + S1x128x128.size a ≤ S10240x128x128.size a := fun v1313 k0_hw165 => k0_hw165

def k0_off496 (i : grid0.Coords) : Fin 2 → Nat :=
  let arg0 : BitVec 32 := BitVec.ofNat 32 (i 0).val
  let v1320 : Index := Scalar.indexCast arg0
  let c37_860 : Index := 37#32
  ![v1320.toNat, 37]
def k0_off497 (i : grid0.Coords) : Fin 3 → Nat :=
  let arg0 : BitVec 32 := BitVec.ofNat 32 (i 0).val
  let c4736_i32_862 : BitVec 32 := 4736#32
  let c0_i32_863 : BitVec 32 := 0#32
  ![arg0.toNat, 4736, 0]
def k0_off498 (v1321 : BitVec 32) : Fin 3 → Nat :=
  let c0_i32_864 : BitVec 32 := 0#32
  let c0_i32_865 : BitVec 32 := 0#32
  ![v1321.toNat, 0, 0]

def k0_chk166 (v1321 : BitVec 32) : Prop :=
  (∀ a, (k0_off498 v1321) a + S1x128x128.size a ≤ S10240x128x128.size a)
theorem k0_off498_inb : ∀ (v1321 : BitVec 32) (k0_hw166 : k0_chk166 v1321), ∀ a, (k0_off498 v1321) a + S1x128x128.size a ≤ S10240x128x128.size a := fun v1321 k0_hw166 => k0_hw166

def k0_off499 (i : grid0.Coords) : Fin 2 → Nat :=
  let arg0 : BitVec 32 := BitVec.ofNat 32 (i 0).val
  let v1328 : Index := Scalar.indexCast arg0
  let c38_866 : Index := 38#32
  ![v1328.toNat, 38]
def k0_off500 (i : grid0.Coords) : Fin 3 → Nat :=
  let arg0 : BitVec 32 := BitVec.ofNat 32 (i 0).val
  let c4864_i32_868 : BitVec 32 := 4864#32
  let c0_i32_869 : BitVec 32 := 0#32
  ![arg0.toNat, 4864, 0]
def k0_off501 (v1329 : BitVec 32) : Fin 3 → Nat :=
  let c0_i32_870 : BitVec 32 := 0#32
  let c0_i32_871 : BitVec 32 := 0#32
  ![v1329.toNat, 0, 0]

def k0_chk167 (v1329 : BitVec 32) : Prop :=
  (∀ a, (k0_off501 v1329) a + S1x128x128.size a ≤ S10240x128x128.size a)
theorem k0_off501_inb : ∀ (v1329 : BitVec 32) (k0_hw167 : k0_chk167 v1329), ∀ a, (k0_off501 v1329) a + S1x128x128.size a ≤ S10240x128x128.size a := fun v1329 k0_hw167 => k0_hw167

def k0_off502 (i : grid0.Coords) : Fin 2 → Nat :=
  let arg0 : BitVec 32 := BitVec.ofNat 32 (i 0).val
  let v1336 : Index := Scalar.indexCast arg0
  let c39_872 : Index := 39#32
  ![v1336.toNat, 39]
def k0_off503 (i : grid0.Coords) : Fin 3 → Nat :=
  let arg0 : BitVec 32 := BitVec.ofNat 32 (i 0).val
  let c4992_i32_874 : BitVec 32 := 4992#32
  let c0_i32_875 : BitVec 32 := 0#32
  ![arg0.toNat, 4992, 0]
def k0_off504 (v1337 : BitVec 32) : Fin 3 → Nat :=
  let c0_i32_876 : BitVec 32 := 0#32
  let c0_i32_877 : BitVec 32 := 0#32
  ![v1337.toNat, 0, 0]

def k0_chk168 (v1337 : BitVec 32) : Prop :=
  (∀ a, (k0_off504 v1337) a + S1x128x128.size a ≤ S10240x128x128.size a)
theorem k0_off504_inb : ∀ (v1337 : BitVec 32) (k0_hw168 : k0_chk168 v1337), ∀ a, (k0_off504 v1337) a + S1x128x128.size a ≤ S10240x128x128.size a := fun v1337 k0_hw168 => k0_hw168

def k0_off505 (i : grid0.Coords) : Fin 2 → Nat :=
  let arg0 : BitVec 32 := BitVec.ofNat 32 (i 0).val
  let v1344 : Index := Scalar.indexCast arg0
  let c40_878 : Index := 40#32
  ![v1344.toNat, 40]
def k0_off506 (i : grid0.Coords) : Fin 3 → Nat :=
  let arg0 : BitVec 32 := BitVec.ofNat 32 (i 0).val
  let c5120_i32_880 : BitVec 32 := 5120#32
  let c0_i32_881 : BitVec 32 := 0#32
  ![arg0.toNat, 5120, 0]
def k0_off507 (v1345 : BitVec 32) : Fin 3 → Nat :=
  let c0_i32_882 : BitVec 32 := 0#32
  let c0_i32_883 : BitVec 32 := 0#32
  ![v1345.toNat, 0, 0]

def k0_chk169 (v1345 : BitVec 32) : Prop :=
  (∀ a, (k0_off507 v1345) a + S1x128x128.size a ≤ S10240x128x128.size a)
theorem k0_off507_inb : ∀ (v1345 : BitVec 32) (k0_hw169 : k0_chk169 v1345), ∀ a, (k0_off507 v1345) a + S1x128x128.size a ≤ S10240x128x128.size a := fun v1345 k0_hw169 => k0_hw169

def k0_off508 (i : grid0.Coords) : Fin 2 → Nat :=
  let arg0 : BitVec 32 := BitVec.ofNat 32 (i 0).val
  let v1352 : Index := Scalar.indexCast arg0
  let c41_884 : Index := 41#32
  ![v1352.toNat, 41]
def k0_off509 (i : grid0.Coords) : Fin 3 → Nat :=
  let arg0 : BitVec 32 := BitVec.ofNat 32 (i 0).val
  let c5248_i32_886 : BitVec 32 := 5248#32
  let c0_i32_887 : BitVec 32 := 0#32
  ![arg0.toNat, 5248, 0]
def k0_off510 (v1353 : BitVec 32) : Fin 3 → Nat :=
  let c0_i32_888 : BitVec 32 := 0#32
  let c0_i32_889 : BitVec 32 := 0#32
  ![v1353.toNat, 0, 0]

def k0_chk170 (v1353 : BitVec 32) : Prop :=
  (∀ a, (k0_off510 v1353) a + S1x128x128.size a ≤ S10240x128x128.size a)
theorem k0_off510_inb : ∀ (v1353 : BitVec 32) (k0_hw170 : k0_chk170 v1353), ∀ a, (k0_off510 v1353) a + S1x128x128.size a ≤ S10240x128x128.size a := fun v1353 k0_hw170 => k0_hw170

def k0_off511 (i : grid0.Coords) : Fin 2 → Nat :=
  let arg0 : BitVec 32 := BitVec.ofNat 32 (i 0).val
  let v1360 : Index := Scalar.indexCast arg0
  let c42_890 : Index := 42#32
  ![v1360.toNat, 42]
def k0_off512 (i : grid0.Coords) : Fin 3 → Nat :=
  let arg0 : BitVec 32 := BitVec.ofNat 32 (i 0).val
  let c5376_i32_892 : BitVec 32 := 5376#32
  let c0_i32_893 : BitVec 32 := 0#32
  ![arg0.toNat, 5376, 0]
def k0_off513 (v1361 : BitVec 32) : Fin 3 → Nat :=
  let c0_i32_894 : BitVec 32 := 0#32
  let c0_i32_895 : BitVec 32 := 0#32
  ![v1361.toNat, 0, 0]

def k0_chk171 (v1361 : BitVec 32) : Prop :=
  (∀ a, (k0_off513 v1361) a + S1x128x128.size a ≤ S10240x128x128.size a)
theorem k0_off513_inb : ∀ (v1361 : BitVec 32) (k0_hw171 : k0_chk171 v1361), ∀ a, (k0_off513 v1361) a + S1x128x128.size a ≤ S10240x128x128.size a := fun v1361 k0_hw171 => k0_hw171

def k0_off514 (i : grid0.Coords) : Fin 2 → Nat :=
  let arg0 : BitVec 32 := BitVec.ofNat 32 (i 0).val
  let v1368 : Index := Scalar.indexCast arg0
  let c43_896 : Index := 43#32
  ![v1368.toNat, 43]
def k0_off515 (i : grid0.Coords) : Fin 3 → Nat :=
  let arg0 : BitVec 32 := BitVec.ofNat 32 (i 0).val
  let c5504_i32_898 : BitVec 32 := 5504#32
  let c0_i32_899 : BitVec 32 := 0#32
  ![arg0.toNat, 5504, 0]
def k0_off516 (v1369 : BitVec 32) : Fin 3 → Nat :=
  let c0_i32_900 : BitVec 32 := 0#32
  let c0_i32_901 : BitVec 32 := 0#32
  ![v1369.toNat, 0, 0]

def k0_chk172 (v1369 : BitVec 32) : Prop :=
  (∀ a, (k0_off516 v1369) a + S1x128x128.size a ≤ S10240x128x128.size a)
theorem k0_off516_inb : ∀ (v1369 : BitVec 32) (k0_hw172 : k0_chk172 v1369), ∀ a, (k0_off516 v1369) a + S1x128x128.size a ≤ S10240x128x128.size a := fun v1369 k0_hw172 => k0_hw172

def k0_off517 (i : grid0.Coords) : Fin 2 → Nat :=
  let arg0 : BitVec 32 := BitVec.ofNat 32 (i 0).val
  let v1376 : Index := Scalar.indexCast arg0
  let c44_902 : Index := 44#32
  ![v1376.toNat, 44]
def k0_off518 (i : grid0.Coords) : Fin 3 → Nat :=
  let arg0 : BitVec 32 := BitVec.ofNat 32 (i 0).val
  let c5632_i32_904 : BitVec 32 := 5632#32
  let c0_i32_905 : BitVec 32 := 0#32
  ![arg0.toNat, 5632, 0]
def k0_off519 (v1377 : BitVec 32) : Fin 3 → Nat :=
  let c0_i32_906 : BitVec 32 := 0#32
  let c0_i32_907 : BitVec 32 := 0#32
  ![v1377.toNat, 0, 0]

def k0_chk173 (v1377 : BitVec 32) : Prop :=
  (∀ a, (k0_off519 v1377) a + S1x128x128.size a ≤ S10240x128x128.size a)
theorem k0_off519_inb : ∀ (v1377 : BitVec 32) (k0_hw173 : k0_chk173 v1377), ∀ a, (k0_off519 v1377) a + S1x128x128.size a ≤ S10240x128x128.size a := fun v1377 k0_hw173 => k0_hw173

def k0_off520 (i : grid0.Coords) : Fin 2 → Nat :=
  let arg0 : BitVec 32 := BitVec.ofNat 32 (i 0).val
  let v1384 : Index := Scalar.indexCast arg0
  let c45_908 : Index := 45#32
  ![v1384.toNat, 45]
def k0_off521 (i : grid0.Coords) : Fin 3 → Nat :=
  let arg0 : BitVec 32 := BitVec.ofNat 32 (i 0).val
  let c5760_i32_910 : BitVec 32 := 5760#32
  let c0_i32_911 : BitVec 32 := 0#32
  ![arg0.toNat, 5760, 0]
def k0_off522 (v1385 : BitVec 32) : Fin 3 → Nat :=
  let c0_i32_912 : BitVec 32 := 0#32
  let c0_i32_913 : BitVec 32 := 0#32
  ![v1385.toNat, 0, 0]

def k0_chk174 (v1385 : BitVec 32) : Prop :=
  (∀ a, (k0_off522 v1385) a + S1x128x128.size a ≤ S10240x128x128.size a)
theorem k0_off522_inb : ∀ (v1385 : BitVec 32) (k0_hw174 : k0_chk174 v1385), ∀ a, (k0_off522 v1385) a + S1x128x128.size a ≤ S10240x128x128.size a := fun v1385 k0_hw174 => k0_hw174

def k0_off523 (i : grid0.Coords) : Fin 2 → Nat :=
  let arg0 : BitVec 32 := BitVec.ofNat 32 (i 0).val
  let v1392 : Index := Scalar.indexCast arg0
  let c46_914 : Index := 46#32
  ![v1392.toNat, 46]
def k0_off524 (i : grid0.Coords) : Fin 3 → Nat :=
  let arg0 : BitVec 32 := BitVec.ofNat 32 (i 0).val
  let c5888_i32_916 : BitVec 32 := 5888#32
  let c0_i32_917 : BitVec 32 := 0#32
  ![arg0.toNat, 5888, 0]
def k0_off525 (v1393 : BitVec 32) : Fin 3 → Nat :=
  let c0_i32_918 : BitVec 32 := 0#32
  let c0_i32_919 : BitVec 32 := 0#32
  ![v1393.toNat, 0, 0]

def k0_chk175 (v1393 : BitVec 32) : Prop :=
  (∀ a, (k0_off525 v1393) a + S1x128x128.size a ≤ S10240x128x128.size a)
theorem k0_off525_inb : ∀ (v1393 : BitVec 32) (k0_hw175 : k0_chk175 v1393), ∀ a, (k0_off525 v1393) a + S1x128x128.size a ≤ S10240x128x128.size a := fun v1393 k0_hw175 => k0_hw175

def k0_off526 (i : grid0.Coords) : Fin 2 → Nat :=
  let arg0 : BitVec 32 := BitVec.ofNat 32 (i 0).val
  let v1400 : Index := Scalar.indexCast arg0
  let c47_920 : Index := 47#32
  ![v1400.toNat, 47]
def k0_off527 (i : grid0.Coords) : Fin 3 → Nat :=
  let arg0 : BitVec 32 := BitVec.ofNat 32 (i 0).val
  let c6016_i32_922 : BitVec 32 := 6016#32
  let c0_i32_923 : BitVec 32 := 0#32
  ![arg0.toNat, 6016, 0]
def k0_off528 (v1401 : BitVec 32) : Fin 3 → Nat :=
  let c0_i32_924 : BitVec 32 := 0#32
  let c0_i32_925 : BitVec 32 := 0#32
  ![v1401.toNat, 0, 0]

def k0_chk176 (v1401 : BitVec 32) : Prop :=
  (∀ a, (k0_off528 v1401) a + S1x128x128.size a ≤ S10240x128x128.size a)
theorem k0_off528_inb : ∀ (v1401 : BitVec 32) (k0_hw176 : k0_chk176 v1401), ∀ a, (k0_off528 v1401) a + S1x128x128.size a ≤ S10240x128x128.size a := fun v1401 k0_hw176 => k0_hw176

def k0_off529 (i : grid0.Coords) : Fin 2 → Nat :=
  let arg0 : BitVec 32 := BitVec.ofNat 32 (i 0).val
  let v1408 : Index := Scalar.indexCast arg0
  let c48_926 : Index := 48#32
  ![v1408.toNat, 48]
def k0_off530 (i : grid0.Coords) : Fin 3 → Nat :=
  let arg0 : BitVec 32 := BitVec.ofNat 32 (i 0).val
  let c6144_i32_928 : BitVec 32 := 6144#32
  let c0_i32_929 : BitVec 32 := 0#32
  ![arg0.toNat, 6144, 0]
def k0_off531 (v1409 : BitVec 32) : Fin 3 → Nat :=
  let c0_i32_930 : BitVec 32 := 0#32
  let c0_i32_931 : BitVec 32 := 0#32
  ![v1409.toNat, 0, 0]

def k0_chk177 (v1409 : BitVec 32) : Prop :=
  (∀ a, (k0_off531 v1409) a + S1x128x128.size a ≤ S10240x128x128.size a)
theorem k0_off531_inb : ∀ (v1409 : BitVec 32) (k0_hw177 : k0_chk177 v1409), ∀ a, (k0_off531 v1409) a + S1x128x128.size a ≤ S10240x128x128.size a := fun v1409 k0_hw177 => k0_hw177

def k0_off532 (i : grid0.Coords) : Fin 2 → Nat :=
  let arg0 : BitVec 32 := BitVec.ofNat 32 (i 0).val
  let v1416 : Index := Scalar.indexCast arg0
  let c49_932 : Index := 49#32
  ![v1416.toNat, 49]
def k0_off533 (i : grid0.Coords) : Fin 3 → Nat :=
  let arg0 : BitVec 32 := BitVec.ofNat 32 (i 0).val
  let c6272_i32_934 : BitVec 32 := 6272#32
  let c0_i32_935 : BitVec 32 := 0#32
  ![arg0.toNat, 6272, 0]
def k0_off534 (v1417 : BitVec 32) : Fin 3 → Nat :=
  let c0_i32_936 : BitVec 32 := 0#32
  let c0_i32_937 : BitVec 32 := 0#32
  ![v1417.toNat, 0, 0]

def k0_chk178 (v1417 : BitVec 32) : Prop :=
  (∀ a, (k0_off534 v1417) a + S1x128x128.size a ≤ S10240x128x128.size a)
theorem k0_off534_inb : ∀ (v1417 : BitVec 32) (k0_hw178 : k0_chk178 v1417), ∀ a, (k0_off534 v1417) a + S1x128x128.size a ≤ S10240x128x128.size a := fun v1417 k0_hw178 => k0_hw178

def k0_off535 (i : grid0.Coords) : Fin 2 → Nat :=
  let arg0 : BitVec 32 := BitVec.ofNat 32 (i 0).val
  let v1424 : Index := Scalar.indexCast arg0
  let c50_938 : Index := 50#32
  ![v1424.toNat, 50]
def k0_off536 (i : grid0.Coords) : Fin 3 → Nat :=
  let arg0 : BitVec 32 := BitVec.ofNat 32 (i 0).val
  let c6400_i32_940 : BitVec 32 := 6400#32
  let c0_i32_941 : BitVec 32 := 0#32
  ![arg0.toNat, 6400, 0]
def k0_off537 (v1425 : BitVec 32) : Fin 3 → Nat :=
  let c0_i32_942 : BitVec 32 := 0#32
  let c0_i32_943 : BitVec 32 := 0#32
  ![v1425.toNat, 0, 0]

def k0_chk179 (v1425 : BitVec 32) : Prop :=
  (∀ a, (k0_off537 v1425) a + S1x128x128.size a ≤ S10240x128x128.size a)
theorem k0_off537_inb : ∀ (v1425 : BitVec 32) (k0_hw179 : k0_chk179 v1425), ∀ a, (k0_off537 v1425) a + S1x128x128.size a ≤ S10240x128x128.size a := fun v1425 k0_hw179 => k0_hw179

def k0_off538 (i : grid0.Coords) : Fin 2 → Nat :=
  let arg0 : BitVec 32 := BitVec.ofNat 32 (i 0).val
  let v1432 : Index := Scalar.indexCast arg0
  let c51_944 : Index := 51#32
  ![v1432.toNat, 51]
def k0_off539 (i : grid0.Coords) : Fin 3 → Nat :=
  let arg0 : BitVec 32 := BitVec.ofNat 32 (i 0).val
  let c6528_i32_946 : BitVec 32 := 6528#32
  let c0_i32_947 : BitVec 32 := 0#32
  ![arg0.toNat, 6528, 0]
def k0_off540 (v1433 : BitVec 32) : Fin 3 → Nat :=
  let c0_i32_948 : BitVec 32 := 0#32
  let c0_i32_949 : BitVec 32 := 0#32
  ![v1433.toNat, 0, 0]

def k0_chk180 (v1433 : BitVec 32) : Prop :=
  (∀ a, (k0_off540 v1433) a + S1x128x128.size a ≤ S10240x128x128.size a)
theorem k0_off540_inb : ∀ (v1433 : BitVec 32) (k0_hw180 : k0_chk180 v1433), ∀ a, (k0_off540 v1433) a + S1x128x128.size a ≤ S10240x128x128.size a := fun v1433 k0_hw180 => k0_hw180

def k0_off541 (i : grid0.Coords) : Fin 2 → Nat :=
  let arg0 : BitVec 32 := BitVec.ofNat 32 (i 0).val
  let v1440 : Index := Scalar.indexCast arg0
  let c52_950 : Index := 52#32
  ![v1440.toNat, 52]
def k0_off542 (i : grid0.Coords) : Fin 3 → Nat :=
  let arg0 : BitVec 32 := BitVec.ofNat 32 (i 0).val
  let c6656_i32_952 : BitVec 32 := 6656#32
  let c0_i32_953 : BitVec 32 := 0#32
  ![arg0.toNat, 6656, 0]
def k0_off543 (v1441 : BitVec 32) : Fin 3 → Nat :=
  let c0_i32_954 : BitVec 32 := 0#32
  let c0_i32_955 : BitVec 32 := 0#32
  ![v1441.toNat, 0, 0]

def k0_chk181 (v1441 : BitVec 32) : Prop :=
  (∀ a, (k0_off543 v1441) a + S1x128x128.size a ≤ S10240x128x128.size a)
theorem k0_off543_inb : ∀ (v1441 : BitVec 32) (k0_hw181 : k0_chk181 v1441), ∀ a, (k0_off543 v1441) a + S1x128x128.size a ≤ S10240x128x128.size a := fun v1441 k0_hw181 => k0_hw181

def k0_off544 (i : grid0.Coords) : Fin 2 → Nat :=
  let arg0 : BitVec 32 := BitVec.ofNat 32 (i 0).val
  let v1448 : Index := Scalar.indexCast arg0
  let c53_956 : Index := 53#32
  ![v1448.toNat, 53]
def k0_off545 (i : grid0.Coords) : Fin 3 → Nat :=
  let arg0 : BitVec 32 := BitVec.ofNat 32 (i 0).val
  let c6784_i32_958 : BitVec 32 := 6784#32
  let c0_i32_959 : BitVec 32 := 0#32
  ![arg0.toNat, 6784, 0]
def k0_off546 (v1449 : BitVec 32) : Fin 3 → Nat :=
  let c0_i32_960 : BitVec 32 := 0#32
  let c0_i32_961 : BitVec 32 := 0#32
  ![v1449.toNat, 0, 0]

def k0_chk182 (v1449 : BitVec 32) : Prop :=
  (∀ a, (k0_off546 v1449) a + S1x128x128.size a ≤ S10240x128x128.size a)
theorem k0_off546_inb : ∀ (v1449 : BitVec 32) (k0_hw182 : k0_chk182 v1449), ∀ a, (k0_off546 v1449) a + S1x128x128.size a ≤ S10240x128x128.size a := fun v1449 k0_hw182 => k0_hw182

def k0_off547 (i : grid0.Coords) : Fin 2 → Nat :=
  let arg0 : BitVec 32 := BitVec.ofNat 32 (i 0).val
  let v1456 : Index := Scalar.indexCast arg0
  let c54_962 : Index := 54#32
  ![v1456.toNat, 54]
def k0_off548 (i : grid0.Coords) : Fin 3 → Nat :=
  let arg0 : BitVec 32 := BitVec.ofNat 32 (i 0).val
  let c6912_i32_964 : BitVec 32 := 6912#32
  let c0_i32_965 : BitVec 32 := 0#32
  ![arg0.toNat, 6912, 0]
def k0_off549 (v1457 : BitVec 32) : Fin 3 → Nat :=
  let c0_i32_966 : BitVec 32 := 0#32
  let c0_i32_967 : BitVec 32 := 0#32
  ![v1457.toNat, 0, 0]

def k0_chk183 (v1457 : BitVec 32) : Prop :=
  (∀ a, (k0_off549 v1457) a + S1x128x128.size a ≤ S10240x128x128.size a)
theorem k0_off549_inb : ∀ (v1457 : BitVec 32) (k0_hw183 : k0_chk183 v1457), ∀ a, (k0_off549 v1457) a + S1x128x128.size a ≤ S10240x128x128.size a := fun v1457 k0_hw183 => k0_hw183

def k0_off550 (i : grid0.Coords) : Fin 2 → Nat :=
  let arg0 : BitVec 32 := BitVec.ofNat 32 (i 0).val
  let v1464 : Index := Scalar.indexCast arg0
  let c55_968 : Index := 55#32
  ![v1464.toNat, 55]
def k0_off551 (i : grid0.Coords) : Fin 3 → Nat :=
  let arg0 : BitVec 32 := BitVec.ofNat 32 (i 0).val
  let c7040_i32_970 : BitVec 32 := 7040#32
  let c0_i32_971 : BitVec 32 := 0#32
  ![arg0.toNat, 7040, 0]
def k0_off552 (v1465 : BitVec 32) : Fin 3 → Nat :=
  let c0_i32_972 : BitVec 32 := 0#32
  let c0_i32_973 : BitVec 32 := 0#32
  ![v1465.toNat, 0, 0]

def k0_chk184 (v1465 : BitVec 32) : Prop :=
  (∀ a, (k0_off552 v1465) a + S1x128x128.size a ≤ S10240x128x128.size a)
theorem k0_off552_inb : ∀ (v1465 : BitVec 32) (k0_hw184 : k0_chk184 v1465), ∀ a, (k0_off552 v1465) a + S1x128x128.size a ≤ S10240x128x128.size a := fun v1465 k0_hw184 => k0_hw184

def k0_off553 (i : grid0.Coords) : Fin 2 → Nat :=
  let arg0 : BitVec 32 := BitVec.ofNat 32 (i 0).val
  let v1472 : Index := Scalar.indexCast arg0
  let c56_974 : Index := 56#32
  ![v1472.toNat, 56]
def k0_off554 (i : grid0.Coords) : Fin 3 → Nat :=
  let arg0 : BitVec 32 := BitVec.ofNat 32 (i 0).val
  let c7168_i32_976 : BitVec 32 := 7168#32
  let c0_i32_977 : BitVec 32 := 0#32
  ![arg0.toNat, 7168, 0]
def k0_off555 (v1473 : BitVec 32) : Fin 3 → Nat :=
  let c0_i32_978 : BitVec 32 := 0#32
  let c0_i32_979 : BitVec 32 := 0#32
  ![v1473.toNat, 0, 0]

def k0_chk185 (v1473 : BitVec 32) : Prop :=
  (∀ a, (k0_off555 v1473) a + S1x128x128.size a ≤ S10240x128x128.size a)
theorem k0_off555_inb : ∀ (v1473 : BitVec 32) (k0_hw185 : k0_chk185 v1473), ∀ a, (k0_off555 v1473) a + S1x128x128.size a ≤ S10240x128x128.size a := fun v1473 k0_hw185 => k0_hw185

def k0_off556 (i : grid0.Coords) : Fin 2 → Nat :=
  let arg0 : BitVec 32 := BitVec.ofNat 32 (i 0).val
  let v1480 : Index := Scalar.indexCast arg0
  let c57_980 : Index := 57#32
  ![v1480.toNat, 57]
def k0_off557 (i : grid0.Coords) : Fin 3 → Nat :=
  let arg0 : BitVec 32 := BitVec.ofNat 32 (i 0).val
  let c7296_i32_982 : BitVec 32 := 7296#32
  let c0_i32_983 : BitVec 32 := 0#32
  ![arg0.toNat, 7296, 0]
def k0_off558 (v1481 : BitVec 32) : Fin 3 → Nat :=
  let c0_i32_984 : BitVec 32 := 0#32
  let c0_i32_985 : BitVec 32 := 0#32
  ![v1481.toNat, 0, 0]

def k0_chk186 (v1481 : BitVec 32) : Prop :=
  (∀ a, (k0_off558 v1481) a + S1x128x128.size a ≤ S10240x128x128.size a)
theorem k0_off558_inb : ∀ (v1481 : BitVec 32) (k0_hw186 : k0_chk186 v1481), ∀ a, (k0_off558 v1481) a + S1x128x128.size a ≤ S10240x128x128.size a := fun v1481 k0_hw186 => k0_hw186

def k0_off559 (i : grid0.Coords) : Fin 2 → Nat :=
  let arg0 : BitVec 32 := BitVec.ofNat 32 (i 0).val
  let v1488 : Index := Scalar.indexCast arg0
  let c58_986 : Index := 58#32
  ![v1488.toNat, 58]
def k0_off560 (i : grid0.Coords) : Fin 3 → Nat :=
  let arg0 : BitVec 32 := BitVec.ofNat 32 (i 0).val
  let c7424_i32_988 : BitVec 32 := 7424#32
  let c0_i32_989 : BitVec 32 := 0#32
  ![arg0.toNat, 7424, 0]
def k0_off561 (v1489 : BitVec 32) : Fin 3 → Nat :=
  let c0_i32_990 : BitVec 32 := 0#32
  let c0_i32_991 : BitVec 32 := 0#32
  ![v1489.toNat, 0, 0]

def k0_chk187 (v1489 : BitVec 32) : Prop :=
  (∀ a, (k0_off561 v1489) a + S1x128x128.size a ≤ S10240x128x128.size a)
theorem k0_off561_inb : ∀ (v1489 : BitVec 32) (k0_hw187 : k0_chk187 v1489), ∀ a, (k0_off561 v1489) a + S1x128x128.size a ≤ S10240x128x128.size a := fun v1489 k0_hw187 => k0_hw187

def k0_off562 (i : grid0.Coords) : Fin 2 → Nat :=
  let arg0 : BitVec 32 := BitVec.ofNat 32 (i 0).val
  let v1496 : Index := Scalar.indexCast arg0
  let c59_992 : Index := 59#32
  ![v1496.toNat, 59]
def k0_off563 (i : grid0.Coords) : Fin 3 → Nat :=
  let arg0 : BitVec 32 := BitVec.ofNat 32 (i 0).val
  let c7552_i32_994 : BitVec 32 := 7552#32
  let c0_i32_995 : BitVec 32 := 0#32
  ![arg0.toNat, 7552, 0]
def k0_off564 (v1497 : BitVec 32) : Fin 3 → Nat :=
  let c0_i32_996 : BitVec 32 := 0#32
  let c0_i32_997 : BitVec 32 := 0#32
  ![v1497.toNat, 0, 0]

def k0_chk188 (v1497 : BitVec 32) : Prop :=
  (∀ a, (k0_off564 v1497) a + S1x128x128.size a ≤ S10240x128x128.size a)
theorem k0_off564_inb : ∀ (v1497 : BitVec 32) (k0_hw188 : k0_chk188 v1497), ∀ a, (k0_off564 v1497) a + S1x128x128.size a ≤ S10240x128x128.size a := fun v1497 k0_hw188 => k0_hw188

def k0_off565 (i : grid0.Coords) : Fin 2 → Nat :=
  let arg0 : BitVec 32 := BitVec.ofNat 32 (i 0).val
  let v1504 : Index := Scalar.indexCast arg0
  let c60_998 : Index := 60#32
  ![v1504.toNat, 60]
def k0_off566 (i : grid0.Coords) : Fin 3 → Nat :=
  let arg0 : BitVec 32 := BitVec.ofNat 32 (i 0).val
  let c7680_i32_1000 : BitVec 32 := 7680#32
  let c0_i32_1001 : BitVec 32 := 0#32
  ![arg0.toNat, 7680, 0]
def k0_off567 (v1505 : BitVec 32) : Fin 3 → Nat :=
  let c0_i32_1002 : BitVec 32 := 0#32
  let c0_i32_1003 : BitVec 32 := 0#32
  ![v1505.toNat, 0, 0]

def k0_chk189 (v1505 : BitVec 32) : Prop :=
  (∀ a, (k0_off567 v1505) a + S1x128x128.size a ≤ S10240x128x128.size a)
theorem k0_off567_inb : ∀ (v1505 : BitVec 32) (k0_hw189 : k0_chk189 v1505), ∀ a, (k0_off567 v1505) a + S1x128x128.size a ≤ S10240x128x128.size a := fun v1505 k0_hw189 => k0_hw189

def k0_off568 (i : grid0.Coords) : Fin 2 → Nat :=
  let arg0 : BitVec 32 := BitVec.ofNat 32 (i 0).val
  let v1512 : Index := Scalar.indexCast arg0
  let c61_1004 : Index := 61#32
  ![v1512.toNat, 61]
def k0_off569 (i : grid0.Coords) : Fin 3 → Nat :=
  let arg0 : BitVec 32 := BitVec.ofNat 32 (i 0).val
  let c7808_i32_1006 : BitVec 32 := 7808#32
  let c0_i32_1007 : BitVec 32 := 0#32
  ![arg0.toNat, 7808, 0]
def k0_off570 (v1513 : BitVec 32) : Fin 3 → Nat :=
  let c0_i32_1008 : BitVec 32 := 0#32
  let c0_i32_1009 : BitVec 32 := 0#32
  ![v1513.toNat, 0, 0]

def k0_chk190 (v1513 : BitVec 32) : Prop :=
  (∀ a, (k0_off570 v1513) a + S1x128x128.size a ≤ S10240x128x128.size a)
theorem k0_off570_inb : ∀ (v1513 : BitVec 32) (k0_hw190 : k0_chk190 v1513), ∀ a, (k0_off570 v1513) a + S1x128x128.size a ≤ S10240x128x128.size a := fun v1513 k0_hw190 => k0_hw190

def k0_off571 (i : grid0.Coords) : Fin 2 → Nat :=
  let arg0 : BitVec 32 := BitVec.ofNat 32 (i 0).val
  let v1520 : Index := Scalar.indexCast arg0
  let c62_1010 : Index := 62#32
  ![v1520.toNat, 62]
def k0_off572 (i : grid0.Coords) : Fin 3 → Nat :=
  let arg0 : BitVec 32 := BitVec.ofNat 32 (i 0).val
  let c7936_i32_1012 : BitVec 32 := 7936#32
  let c0_i32_1013 : BitVec 32 := 0#32
  ![arg0.toNat, 7936, 0]
def k0_off573 (v1521 : BitVec 32) : Fin 3 → Nat :=
  let c0_i32_1014 : BitVec 32 := 0#32
  let c0_i32_1015 : BitVec 32 := 0#32
  ![v1521.toNat, 0, 0]

def k0_chk191 (v1521 : BitVec 32) : Prop :=
  (∀ a, (k0_off573 v1521) a + S1x128x128.size a ≤ S10240x128x128.size a)
theorem k0_off573_inb : ∀ (v1521 : BitVec 32) (k0_hw191 : k0_chk191 v1521), ∀ a, (k0_off573 v1521) a + S1x128x128.size a ≤ S10240x128x128.size a := fun v1521 k0_hw191 => k0_hw191

def k0_off574 (i : grid0.Coords) : Fin 2 → Nat :=
  let arg0 : BitVec 32 := BitVec.ofNat 32 (i 0).val
  let v1528 : Index := Scalar.indexCast arg0
  let c63_1016 : Index := 63#32
  ![v1528.toNat, 63]
def k0_off575 (i : grid0.Coords) : Fin 3 → Nat :=
  let arg0 : BitVec 32 := BitVec.ofNat 32 (i 0).val
  let c8064_i32_1018 : BitVec 32 := 8064#32
  let c0_i32_1019 : BitVec 32 := 0#32
  ![arg0.toNat, 8064, 0]
def k0_off576 (v1529 : BitVec 32) : Fin 3 → Nat :=
  let c0_i32_1020 : BitVec 32 := 0#32
  let c0_i32_1021 : BitVec 32 := 0#32
  ![v1529.toNat, 0, 0]

def k0_chk192 (v1529 : BitVec 32) : Prop :=
  (∀ a, (k0_off576 v1529) a + S1x128x128.size a ≤ S10240x128x128.size a)
theorem k0_off576_inb : ∀ (v1529 : BitVec 32) (k0_hw192 : k0_chk192 v1529), ∀ a, (k0_off576 v1529) a + S1x128x128.size a ≤ S10240x128x128.size a := fun v1529 k0_hw192 => k0_hw192

def k0_off577 (i : grid0.Coords) : Fin 2 → Nat :=
  let arg0 : BitVec 32 := BitVec.ofNat 32 (i 0).val
  let v1536 : Index := Scalar.indexCast arg0
  let c0_1022 : Index := 0#32
  ![v1536.toNat, 0]
def k0_off578 (i : grid0.Coords) : Fin 3 → Nat :=
  let arg0 : BitVec 32 := BitVec.ofNat 32 (i 0).val
  let c0_i32_1023 : BitVec 32 := 0#32
  let c0_i32_1024 : BitVec 32 := 0#32
  ![arg0.toNat, 0, 0]
def k0_off579 (v1537 : BitVec 32) : Fin 3 → Nat :=
  let c0_i32_1025 : BitVec 32 := 0#32
  let c0_i32_1026 : BitVec 32 := 0#32
  ![v1537.toNat, 0, 0]

def k0_chk193 (v1537 : BitVec 32) : Prop :=
  (∀ a, (k0_off579 v1537) a + S1x128x128.size a ≤ S10240x128x128.size a)
theorem k0_off579_inb : ∀ (v1537 : BitVec 32) (k0_hw193 : k0_chk193 v1537), ∀ a, (k0_off579 v1537) a + S1x128x128.size a ≤ S10240x128x128.size a := fun v1537 k0_hw193 => k0_hw193

def k0_off580 (i : grid0.Coords) : Fin 2 → Nat :=
  let arg0 : BitVec 32 := BitVec.ofNat 32 (i 0).val
  let v1544 : Index := Scalar.indexCast arg0
  let c1_1027 : Index := 1#32
  ![v1544.toNat, 1]
def k0_off581 (i : grid0.Coords) : Fin 3 → Nat :=
  let arg0 : BitVec 32 := BitVec.ofNat 32 (i 0).val
  let c128_i32_1029 : BitVec 32 := 128#32
  let c0_i32_1030 : BitVec 32 := 0#32
  ![arg0.toNat, 128, 0]
def k0_off582 (v1545 : BitVec 32) : Fin 3 → Nat :=
  let c0_i32_1031 : BitVec 32 := 0#32
  let c0_i32_1032 : BitVec 32 := 0#32
  ![v1545.toNat, 0, 0]

def k0_chk194 (v1545 : BitVec 32) : Prop :=
  (∀ a, (k0_off582 v1545) a + S1x128x128.size a ≤ S10240x128x128.size a)
theorem k0_off582_inb : ∀ (v1545 : BitVec 32) (k0_hw194 : k0_chk194 v1545), ∀ a, (k0_off582 v1545) a + S1x128x128.size a ≤ S10240x128x128.size a := fun v1545 k0_hw194 => k0_hw194

def k0_off583 (i : grid0.Coords) : Fin 2 → Nat :=
  let arg0 : BitVec 32 := BitVec.ofNat 32 (i 0).val
  let v1552 : Index := Scalar.indexCast arg0
  let c2_1033 : Index := 2#32
  ![v1552.toNat, 2]
def k0_off584 (i : grid0.Coords) : Fin 3 → Nat :=
  let arg0 : BitVec 32 := BitVec.ofNat 32 (i 0).val
  let c256_i32_1035 : BitVec 32 := 256#32
  let c0_i32_1036 : BitVec 32 := 0#32
  ![arg0.toNat, 256, 0]
def k0_off585 (v1553 : BitVec 32) : Fin 3 → Nat :=
  let c0_i32_1037 : BitVec 32 := 0#32
  let c0_i32_1038 : BitVec 32 := 0#32
  ![v1553.toNat, 0, 0]

def k0_chk195 (v1553 : BitVec 32) : Prop :=
  (∀ a, (k0_off585 v1553) a + S1x128x128.size a ≤ S10240x128x128.size a)
theorem k0_off585_inb : ∀ (v1553 : BitVec 32) (k0_hw195 : k0_chk195 v1553), ∀ a, (k0_off585 v1553) a + S1x128x128.size a ≤ S10240x128x128.size a := fun v1553 k0_hw195 => k0_hw195

def k0_off586 (i : grid0.Coords) : Fin 2 → Nat :=
  let arg0 : BitVec 32 := BitVec.ofNat 32 (i 0).val
  let v1560 : Index := Scalar.indexCast arg0
  let c3_1039 : Index := 3#32
  ![v1560.toNat, 3]
def k0_off587 (i : grid0.Coords) : Fin 3 → Nat :=
  let arg0 : BitVec 32 := BitVec.ofNat 32 (i 0).val
  let c384_i32_1041 : BitVec 32 := 384#32
  let c0_i32_1042 : BitVec 32 := 0#32
  ![arg0.toNat, 384, 0]
def k0_off588 (v1561 : BitVec 32) : Fin 3 → Nat :=
  let c0_i32_1043 : BitVec 32 := 0#32
  let c0_i32_1044 : BitVec 32 := 0#32
  ![v1561.toNat, 0, 0]

def k0_chk196 (v1561 : BitVec 32) : Prop :=
  (∀ a, (k0_off588 v1561) a + S1x128x128.size a ≤ S10240x128x128.size a)
theorem k0_off588_inb : ∀ (v1561 : BitVec 32) (k0_hw196 : k0_chk196 v1561), ∀ a, (k0_off588 v1561) a + S1x128x128.size a ≤ S10240x128x128.size a := fun v1561 k0_hw196 => k0_hw196

def k0_off589 (i : grid0.Coords) : Fin 2 → Nat :=
  let arg0 : BitVec 32 := BitVec.ofNat 32 (i 0).val
  let v1568 : Index := Scalar.indexCast arg0
  let c4_1045 : Index := 4#32
  ![v1568.toNat, 4]
def k0_off590 (i : grid0.Coords) : Fin 3 → Nat :=
  let arg0 : BitVec 32 := BitVec.ofNat 32 (i 0).val
  let c512_i32_1047 : BitVec 32 := 512#32
  let c0_i32_1048 : BitVec 32 := 0#32
  ![arg0.toNat, 512, 0]
def k0_off591 (v1569 : BitVec 32) : Fin 3 → Nat :=
  let c0_i32_1049 : BitVec 32 := 0#32
  let c0_i32_1050 : BitVec 32 := 0#32
  ![v1569.toNat, 0, 0]

def k0_chk197 (v1569 : BitVec 32) : Prop :=
  (∀ a, (k0_off591 v1569) a + S1x128x128.size a ≤ S10240x128x128.size a)
theorem k0_off591_inb : ∀ (v1569 : BitVec 32) (k0_hw197 : k0_chk197 v1569), ∀ a, (k0_off591 v1569) a + S1x128x128.size a ≤ S10240x128x128.size a := fun v1569 k0_hw197 => k0_hw197

def k0_off592 (i : grid0.Coords) : Fin 2 → Nat :=
  let arg0 : BitVec 32 := BitVec.ofNat 32 (i 0).val
  let v1576 : Index := Scalar.indexCast arg0
  let c5_1051 : Index := 5#32
  ![v1576.toNat, 5]
def k0_off593 (i : grid0.Coords) : Fin 3 → Nat :=
  let arg0 : BitVec 32 := BitVec.ofNat 32 (i 0).val
  let c640_i32_1053 : BitVec 32 := 640#32
  let c0_i32_1054 : BitVec 32 := 0#32
  ![arg0.toNat, 640, 0]
def k0_off594 (v1577 : BitVec 32) : Fin 3 → Nat :=
  let c0_i32_1055 : BitVec 32 := 0#32
  let c0_i32_1056 : BitVec 32 := 0#32
  ![v1577.toNat, 0, 0]

def k0_chk198 (v1577 : BitVec 32) : Prop :=
  (∀ a, (k0_off594 v1577) a + S1x128x128.size a ≤ S10240x128x128.size a)
theorem k0_off594_inb : ∀ (v1577 : BitVec 32) (k0_hw198 : k0_chk198 v1577), ∀ a, (k0_off594 v1577) a + S1x128x128.size a ≤ S10240x128x128.size a := fun v1577 k0_hw198 => k0_hw198

def k0_off595 (i : grid0.Coords) : Fin 2 → Nat :=
  let arg0 : BitVec 32 := BitVec.ofNat 32 (i 0).val
  let v1584 : Index := Scalar.indexCast arg0
  let c6_1057 : Index := 6#32
  ![v1584.toNat, 6]
def k0_off596 (i : grid0.Coords) : Fin 3 → Nat :=
  let arg0 : BitVec 32 := BitVec.ofNat 32 (i 0).val
  let c768_i32_1059 : BitVec 32 := 768#32
  let c0_i32_1060 : BitVec 32 := 0#32
  ![arg0.toNat, 768, 0]
def k0_off597 (v1585 : BitVec 32) : Fin 3 → Nat :=
  let c0_i32_1061 : BitVec 32 := 0#32
  let c0_i32_1062 : BitVec 32 := 0#32
  ![v1585.toNat, 0, 0]

def k0_chk199 (v1585 : BitVec 32) : Prop :=
  (∀ a, (k0_off597 v1585) a + S1x128x128.size a ≤ S10240x128x128.size a)
theorem k0_off597_inb : ∀ (v1585 : BitVec 32) (k0_hw199 : k0_chk199 v1585), ∀ a, (k0_off597 v1585) a + S1x128x128.size a ≤ S10240x128x128.size a := fun v1585 k0_hw199 => k0_hw199

def k0_off598 (i : grid0.Coords) : Fin 2 → Nat :=
  let arg0 : BitVec 32 := BitVec.ofNat 32 (i 0).val
  let v1592 : Index := Scalar.indexCast arg0
  let c7_1063 : Index := 7#32
  ![v1592.toNat, 7]
def k0_off599 (i : grid0.Coords) : Fin 3 → Nat :=
  let arg0 : BitVec 32 := BitVec.ofNat 32 (i 0).val
  let c896_i32_1065 : BitVec 32 := 896#32
  let c0_i32_1066 : BitVec 32 := 0#32
  ![arg0.toNat, 896, 0]
def k0_off600 (v1593 : BitVec 32) : Fin 3 → Nat :=
  let c0_i32_1067 : BitVec 32 := 0#32
  let c0_i32_1068 : BitVec 32 := 0#32
  ![v1593.toNat, 0, 0]

def k0_chk200 (v1593 : BitVec 32) : Prop :=
  (∀ a, (k0_off600 v1593) a + S1x128x128.size a ≤ S10240x128x128.size a)
theorem k0_off600_inb : ∀ (v1593 : BitVec 32) (k0_hw200 : k0_chk200 v1593), ∀ a, (k0_off600 v1593) a + S1x128x128.size a ≤ S10240x128x128.size a := fun v1593 k0_hw200 => k0_hw200

def k0_off601 (i : grid0.Coords) : Fin 2 → Nat :=
  let arg0 : BitVec 32 := BitVec.ofNat 32 (i 0).val
  let v1600 : Index := Scalar.indexCast arg0
  let c8_1069 : Index := 8#32
  ![v1600.toNat, 8]
def k0_off602 (i : grid0.Coords) : Fin 3 → Nat :=
  let arg0 : BitVec 32 := BitVec.ofNat 32 (i 0).val
  let c1024_i32_1071 : BitVec 32 := 1024#32
  let c0_i32_1072 : BitVec 32 := 0#32
  ![arg0.toNat, 1024, 0]
def k0_off603 (v1601 : BitVec 32) : Fin 3 → Nat :=
  let c0_i32_1073 : BitVec 32 := 0#32
  let c0_i32_1074 : BitVec 32 := 0#32
  ![v1601.toNat, 0, 0]

def k0_chk201 (v1601 : BitVec 32) : Prop :=
  (∀ a, (k0_off603 v1601) a + S1x128x128.size a ≤ S10240x128x128.size a)
theorem k0_off603_inb : ∀ (v1601 : BitVec 32) (k0_hw201 : k0_chk201 v1601), ∀ a, (k0_off603 v1601) a + S1x128x128.size a ≤ S10240x128x128.size a := fun v1601 k0_hw201 => k0_hw201

def k0_off604 (i : grid0.Coords) : Fin 2 → Nat :=
  let arg0 : BitVec 32 := BitVec.ofNat 32 (i 0).val
  let v1608 : Index := Scalar.indexCast arg0
  let c9_1075 : Index := 9#32
  ![v1608.toNat, 9]
def k0_off605 (i : grid0.Coords) : Fin 3 → Nat :=
  let arg0 : BitVec 32 := BitVec.ofNat 32 (i 0).val
  let c1152_i32_1077 : BitVec 32 := 1152#32
  let c0_i32_1078 : BitVec 32 := 0#32
  ![arg0.toNat, 1152, 0]
def k0_off606 (v1609 : BitVec 32) : Fin 3 → Nat :=
  let c0_i32_1079 : BitVec 32 := 0#32
  let c0_i32_1080 : BitVec 32 := 0#32
  ![v1609.toNat, 0, 0]

def k0_chk202 (v1609 : BitVec 32) : Prop :=
  (∀ a, (k0_off606 v1609) a + S1x128x128.size a ≤ S10240x128x128.size a)
theorem k0_off606_inb : ∀ (v1609 : BitVec 32) (k0_hw202 : k0_chk202 v1609), ∀ a, (k0_off606 v1609) a + S1x128x128.size a ≤ S10240x128x128.size a := fun v1609 k0_hw202 => k0_hw202

def k0_off607 (i : grid0.Coords) : Fin 2 → Nat :=
  let arg0 : BitVec 32 := BitVec.ofNat 32 (i 0).val
  let v1616 : Index := Scalar.indexCast arg0
  let c10_1081 : Index := 10#32
  ![v1616.toNat, 10]
def k0_off608 (i : grid0.Coords) : Fin 3 → Nat :=
  let arg0 : BitVec 32 := BitVec.ofNat 32 (i 0).val
  let c1280_i32_1083 : BitVec 32 := 1280#32
  let c0_i32_1084 : BitVec 32 := 0#32
  ![arg0.toNat, 1280, 0]
def k0_off609 (v1617 : BitVec 32) : Fin 3 → Nat :=
  let c0_i32_1085 : BitVec 32 := 0#32
  let c0_i32_1086 : BitVec 32 := 0#32
  ![v1617.toNat, 0, 0]

def k0_chk203 (v1617 : BitVec 32) : Prop :=
  (∀ a, (k0_off609 v1617) a + S1x128x128.size a ≤ S10240x128x128.size a)
theorem k0_off609_inb : ∀ (v1617 : BitVec 32) (k0_hw203 : k0_chk203 v1617), ∀ a, (k0_off609 v1617) a + S1x128x128.size a ≤ S10240x128x128.size a := fun v1617 k0_hw203 => k0_hw203

def k0_off610 (i : grid0.Coords) : Fin 2 → Nat :=
  let arg0 : BitVec 32 := BitVec.ofNat 32 (i 0).val
  let v1624 : Index := Scalar.indexCast arg0
  let c11_1087 : Index := 11#32
  ![v1624.toNat, 11]
def k0_off611 (i : grid0.Coords) : Fin 3 → Nat :=
  let arg0 : BitVec 32 := BitVec.ofNat 32 (i 0).val
  let c1408_i32_1089 : BitVec 32 := 1408#32
  let c0_i32_1090 : BitVec 32 := 0#32
  ![arg0.toNat, 1408, 0]
def k0_off612 (v1625 : BitVec 32) : Fin 3 → Nat :=
  let c0_i32_1091 : BitVec 32 := 0#32
  let c0_i32_1092 : BitVec 32 := 0#32
  ![v1625.toNat, 0, 0]

def k0_chk204 (v1625 : BitVec 32) : Prop :=
  (∀ a, (k0_off612 v1625) a + S1x128x128.size a ≤ S10240x128x128.size a)
theorem k0_off612_inb : ∀ (v1625 : BitVec 32) (k0_hw204 : k0_chk204 v1625), ∀ a, (k0_off612 v1625) a + S1x128x128.size a ≤ S10240x128x128.size a := fun v1625 k0_hw204 => k0_hw204

def k0_off613 (i : grid0.Coords) : Fin 2 → Nat :=
  let arg0 : BitVec 32 := BitVec.ofNat 32 (i 0).val
  let v1632 : Index := Scalar.indexCast arg0
  let c12_1093 : Index := 12#32
  ![v1632.toNat, 12]
def k0_off614 (i : grid0.Coords) : Fin 3 → Nat :=
  let arg0 : BitVec 32 := BitVec.ofNat 32 (i 0).val
  let c1536_i32_1095 : BitVec 32 := 1536#32
  let c0_i32_1096 : BitVec 32 := 0#32
  ![arg0.toNat, 1536, 0]
def k0_off615 (v1633 : BitVec 32) : Fin 3 → Nat :=
  let c0_i32_1097 : BitVec 32 := 0#32
  let c0_i32_1098 : BitVec 32 := 0#32
  ![v1633.toNat, 0, 0]

def k0_chk205 (v1633 : BitVec 32) : Prop :=
  (∀ a, (k0_off615 v1633) a + S1x128x128.size a ≤ S10240x128x128.size a)
theorem k0_off615_inb : ∀ (v1633 : BitVec 32) (k0_hw205 : k0_chk205 v1633), ∀ a, (k0_off615 v1633) a + S1x128x128.size a ≤ S10240x128x128.size a := fun v1633 k0_hw205 => k0_hw205

def k0_off616 (i : grid0.Coords) : Fin 2 → Nat :=
  let arg0 : BitVec 32 := BitVec.ofNat 32 (i 0).val
  let v1640 : Index := Scalar.indexCast arg0
  let c13_1099 : Index := 13#32
  ![v1640.toNat, 13]
def k0_off617 (i : grid0.Coords) : Fin 3 → Nat :=
  let arg0 : BitVec 32 := BitVec.ofNat 32 (i 0).val
  let c1664_i32_1101 : BitVec 32 := 1664#32
  let c0_i32_1102 : BitVec 32 := 0#32
  ![arg0.toNat, 1664, 0]
def k0_off618 (v1641 : BitVec 32) : Fin 3 → Nat :=
  let c0_i32_1103 : BitVec 32 := 0#32
  let c0_i32_1104 : BitVec 32 := 0#32
  ![v1641.toNat, 0, 0]

def k0_chk206 (v1641 : BitVec 32) : Prop :=
  (∀ a, (k0_off618 v1641) a + S1x128x128.size a ≤ S10240x128x128.size a)
theorem k0_off618_inb : ∀ (v1641 : BitVec 32) (k0_hw206 : k0_chk206 v1641), ∀ a, (k0_off618 v1641) a + S1x128x128.size a ≤ S10240x128x128.size a := fun v1641 k0_hw206 => k0_hw206

def k0_off619 (i : grid0.Coords) : Fin 2 → Nat :=
  let arg0 : BitVec 32 := BitVec.ofNat 32 (i 0).val
  let v1648 : Index := Scalar.indexCast arg0
  let c14_1105 : Index := 14#32
  ![v1648.toNat, 14]
def k0_off620 (i : grid0.Coords) : Fin 3 → Nat :=
  let arg0 : BitVec 32 := BitVec.ofNat 32 (i 0).val
  let c1792_i32_1107 : BitVec 32 := 1792#32
  let c0_i32_1108 : BitVec 32 := 0#32
  ![arg0.toNat, 1792, 0]
def k0_off621 (v1649 : BitVec 32) : Fin 3 → Nat :=
  let c0_i32_1109 : BitVec 32 := 0#32
  let c0_i32_1110 : BitVec 32 := 0#32
  ![v1649.toNat, 0, 0]

def k0_chk207 (v1649 : BitVec 32) : Prop :=
  (∀ a, (k0_off621 v1649) a + S1x128x128.size a ≤ S10240x128x128.size a)
theorem k0_off621_inb : ∀ (v1649 : BitVec 32) (k0_hw207 : k0_chk207 v1649), ∀ a, (k0_off621 v1649) a + S1x128x128.size a ≤ S10240x128x128.size a := fun v1649 k0_hw207 => k0_hw207

def k0_off622 (i : grid0.Coords) : Fin 2 → Nat :=
  let arg0 : BitVec 32 := BitVec.ofNat 32 (i 0).val
  let v1656 : Index := Scalar.indexCast arg0
  let c15_1111 : Index := 15#32
  ![v1656.toNat, 15]
def k0_off623 (i : grid0.Coords) : Fin 3 → Nat :=
  let arg0 : BitVec 32 := BitVec.ofNat 32 (i 0).val
  let c1920_i32_1113 : BitVec 32 := 1920#32
  let c0_i32_1114 : BitVec 32 := 0#32
  ![arg0.toNat, 1920, 0]
def k0_off624 (v1657 : BitVec 32) : Fin 3 → Nat :=
  let c0_i32_1115 : BitVec 32 := 0#32
  let c0_i32_1116 : BitVec 32 := 0#32
  ![v1657.toNat, 0, 0]

def k0_chk208 (v1657 : BitVec 32) : Prop :=
  (∀ a, (k0_off624 v1657) a + S1x128x128.size a ≤ S10240x128x128.size a)
theorem k0_off624_inb : ∀ (v1657 : BitVec 32) (k0_hw208 : k0_chk208 v1657), ∀ a, (k0_off624 v1657) a + S1x128x128.size a ≤ S10240x128x128.size a := fun v1657 k0_hw208 => k0_hw208

def k0_off625 (i : grid0.Coords) : Fin 2 → Nat :=
  let arg0 : BitVec 32 := BitVec.ofNat 32 (i 0).val
  let v1664 : Index := Scalar.indexCast arg0
  let c16_1117 : Index := 16#32
  ![v1664.toNat, 16]
def k0_off626 (i : grid0.Coords) : Fin 3 → Nat :=
  let arg0 : BitVec 32 := BitVec.ofNat 32 (i 0).val
  let c2048_i32_1119 : BitVec 32 := 2048#32
  let c0_i32_1120 : BitVec 32 := 0#32
  ![arg0.toNat, 2048, 0]
def k0_off627 (v1665 : BitVec 32) : Fin 3 → Nat :=
  let c0_i32_1121 : BitVec 32 := 0#32
  let c0_i32_1122 : BitVec 32 := 0#32
  ![v1665.toNat, 0, 0]

def k0_chk209 (v1665 : BitVec 32) : Prop :=
  (∀ a, (k0_off627 v1665) a + S1x128x128.size a ≤ S10240x128x128.size a)
theorem k0_off627_inb : ∀ (v1665 : BitVec 32) (k0_hw209 : k0_chk209 v1665), ∀ a, (k0_off627 v1665) a + S1x128x128.size a ≤ S10240x128x128.size a := fun v1665 k0_hw209 => k0_hw209

def k0_off628 (i : grid0.Coords) : Fin 2 → Nat :=
  let arg0 : BitVec 32 := BitVec.ofNat 32 (i 0).val
  let v1672 : Index := Scalar.indexCast arg0
  let c17_1123 : Index := 17#32
  ![v1672.toNat, 17]
def k0_off629 (i : grid0.Coords) : Fin 3 → Nat :=
  let arg0 : BitVec 32 := BitVec.ofNat 32 (i 0).val
  let c2176_i32_1125 : BitVec 32 := 2176#32
  let c0_i32_1126 : BitVec 32 := 0#32
  ![arg0.toNat, 2176, 0]
def k0_off630 (v1673 : BitVec 32) : Fin 3 → Nat :=
  let c0_i32_1127 : BitVec 32 := 0#32
  let c0_i32_1128 : BitVec 32 := 0#32
  ![v1673.toNat, 0, 0]

def k0_chk210 (v1673 : BitVec 32) : Prop :=
  (∀ a, (k0_off630 v1673) a + S1x128x128.size a ≤ S10240x128x128.size a)
theorem k0_off630_inb : ∀ (v1673 : BitVec 32) (k0_hw210 : k0_chk210 v1673), ∀ a, (k0_off630 v1673) a + S1x128x128.size a ≤ S10240x128x128.size a := fun v1673 k0_hw210 => k0_hw210

def k0_off631 (i : grid0.Coords) : Fin 2 → Nat :=
  let arg0 : BitVec 32 := BitVec.ofNat 32 (i 0).val
  let v1680 : Index := Scalar.indexCast arg0
  let c18_1129 : Index := 18#32
  ![v1680.toNat, 18]
def k0_off632 (i : grid0.Coords) : Fin 3 → Nat :=
  let arg0 : BitVec 32 := BitVec.ofNat 32 (i 0).val
  let c2304_i32_1131 : BitVec 32 := 2304#32
  let c0_i32_1132 : BitVec 32 := 0#32
  ![arg0.toNat, 2304, 0]
def k0_off633 (v1681 : BitVec 32) : Fin 3 → Nat :=
  let c0_i32_1133 : BitVec 32 := 0#32
  let c0_i32_1134 : BitVec 32 := 0#32
  ![v1681.toNat, 0, 0]

def k0_chk211 (v1681 : BitVec 32) : Prop :=
  (∀ a, (k0_off633 v1681) a + S1x128x128.size a ≤ S10240x128x128.size a)
theorem k0_off633_inb : ∀ (v1681 : BitVec 32) (k0_hw211 : k0_chk211 v1681), ∀ a, (k0_off633 v1681) a + S1x128x128.size a ≤ S10240x128x128.size a := fun v1681 k0_hw211 => k0_hw211

def k0_off634 (i : grid0.Coords) : Fin 2 → Nat :=
  let arg0 : BitVec 32 := BitVec.ofNat 32 (i 0).val
  let v1688 : Index := Scalar.indexCast arg0
  let c19_1135 : Index := 19#32
  ![v1688.toNat, 19]
def k0_off635 (i : grid0.Coords) : Fin 3 → Nat :=
  let arg0 : BitVec 32 := BitVec.ofNat 32 (i 0).val
  let c2432_i32_1137 : BitVec 32 := 2432#32
  let c0_i32_1138 : BitVec 32 := 0#32
  ![arg0.toNat, 2432, 0]
def k0_off636 (v1689 : BitVec 32) : Fin 3 → Nat :=
  let c0_i32_1139 : BitVec 32 := 0#32
  let c0_i32_1140 : BitVec 32 := 0#32
  ![v1689.toNat, 0, 0]

def k0_chk212 (v1689 : BitVec 32) : Prop :=
  (∀ a, (k0_off636 v1689) a + S1x128x128.size a ≤ S10240x128x128.size a)
theorem k0_off636_inb : ∀ (v1689 : BitVec 32) (k0_hw212 : k0_chk212 v1689), ∀ a, (k0_off636 v1689) a + S1x128x128.size a ≤ S10240x128x128.size a := fun v1689 k0_hw212 => k0_hw212

def k0_off637 (i : grid0.Coords) : Fin 2 → Nat :=
  let arg0 : BitVec 32 := BitVec.ofNat 32 (i 0).val
  let v1696 : Index := Scalar.indexCast arg0
  let c20_1141 : Index := 20#32
  ![v1696.toNat, 20]
def k0_off638 (i : grid0.Coords) : Fin 3 → Nat :=
  let arg0 : BitVec 32 := BitVec.ofNat 32 (i 0).val
  let c2560_i32_1143 : BitVec 32 := 2560#32
  let c0_i32_1144 : BitVec 32 := 0#32
  ![arg0.toNat, 2560, 0]
def k0_off639 (v1697 : BitVec 32) : Fin 3 → Nat :=
  let c0_i32_1145 : BitVec 32 := 0#32
  let c0_i32_1146 : BitVec 32 := 0#32
  ![v1697.toNat, 0, 0]

def k0_chk213 (v1697 : BitVec 32) : Prop :=
  (∀ a, (k0_off639 v1697) a + S1x128x128.size a ≤ S10240x128x128.size a)
theorem k0_off639_inb : ∀ (v1697 : BitVec 32) (k0_hw213 : k0_chk213 v1697), ∀ a, (k0_off639 v1697) a + S1x128x128.size a ≤ S10240x128x128.size a := fun v1697 k0_hw213 => k0_hw213

def k0_off640 (i : grid0.Coords) : Fin 2 → Nat :=
  let arg0 : BitVec 32 := BitVec.ofNat 32 (i 0).val
  let v1704 : Index := Scalar.indexCast arg0
  let c21_1147 : Index := 21#32
  ![v1704.toNat, 21]
def k0_off641 (i : grid0.Coords) : Fin 3 → Nat :=
  let arg0 : BitVec 32 := BitVec.ofNat 32 (i 0).val
  let c2688_i32_1149 : BitVec 32 := 2688#32
  let c0_i32_1150 : BitVec 32 := 0#32
  ![arg0.toNat, 2688, 0]
def k0_off642 (v1705 : BitVec 32) : Fin 3 → Nat :=
  let c0_i32_1151 : BitVec 32 := 0#32
  let c0_i32_1152 : BitVec 32 := 0#32
  ![v1705.toNat, 0, 0]

def k0_chk214 (v1705 : BitVec 32) : Prop :=
  (∀ a, (k0_off642 v1705) a + S1x128x128.size a ≤ S10240x128x128.size a)
theorem k0_off642_inb : ∀ (v1705 : BitVec 32) (k0_hw214 : k0_chk214 v1705), ∀ a, (k0_off642 v1705) a + S1x128x128.size a ≤ S10240x128x128.size a := fun v1705 k0_hw214 => k0_hw214

def k0_off643 (i : grid0.Coords) : Fin 2 → Nat :=
  let arg0 : BitVec 32 := BitVec.ofNat 32 (i 0).val
  let v1712 : Index := Scalar.indexCast arg0
  let c22_1153 : Index := 22#32
  ![v1712.toNat, 22]
def k0_off644 (i : grid0.Coords) : Fin 3 → Nat :=
  let arg0 : BitVec 32 := BitVec.ofNat 32 (i 0).val
  let c2816_i32_1155 : BitVec 32 := 2816#32
  let c0_i32_1156 : BitVec 32 := 0#32
  ![arg0.toNat, 2816, 0]
def k0_off645 (v1713 : BitVec 32) : Fin 3 → Nat :=
  let c0_i32_1157 : BitVec 32 := 0#32
  let c0_i32_1158 : BitVec 32 := 0#32
  ![v1713.toNat, 0, 0]

def k0_chk215 (v1713 : BitVec 32) : Prop :=
  (∀ a, (k0_off645 v1713) a + S1x128x128.size a ≤ S10240x128x128.size a)
theorem k0_off645_inb : ∀ (v1713 : BitVec 32) (k0_hw215 : k0_chk215 v1713), ∀ a, (k0_off645 v1713) a + S1x128x128.size a ≤ S10240x128x128.size a := fun v1713 k0_hw215 => k0_hw215

def k0_off646 (i : grid0.Coords) : Fin 2 → Nat :=
  let arg0 : BitVec 32 := BitVec.ofNat 32 (i 0).val
  let v1720 : Index := Scalar.indexCast arg0
  let c23_1159 : Index := 23#32
  ![v1720.toNat, 23]
def k0_off647 (i : grid0.Coords) : Fin 3 → Nat :=
  let arg0 : BitVec 32 := BitVec.ofNat 32 (i 0).val
  let c2944_i32_1161 : BitVec 32 := 2944#32
  let c0_i32_1162 : BitVec 32 := 0#32
  ![arg0.toNat, 2944, 0]
def k0_off648 (v1721 : BitVec 32) : Fin 3 → Nat :=
  let c0_i32_1163 : BitVec 32 := 0#32
  let c0_i32_1164 : BitVec 32 := 0#32
  ![v1721.toNat, 0, 0]

def k0_chk216 (v1721 : BitVec 32) : Prop :=
  (∀ a, (k0_off648 v1721) a + S1x128x128.size a ≤ S10240x128x128.size a)
theorem k0_off648_inb : ∀ (v1721 : BitVec 32) (k0_hw216 : k0_chk216 v1721), ∀ a, (k0_off648 v1721) a + S1x128x128.size a ≤ S10240x128x128.size a := fun v1721 k0_hw216 => k0_hw216

def k0_off649 (i : grid0.Coords) : Fin 2 → Nat :=
  let arg0 : BitVec 32 := BitVec.ofNat 32 (i 0).val
  let v1728 : Index := Scalar.indexCast arg0
  let c24_1165 : Index := 24#32
  ![v1728.toNat, 24]
def k0_off650 (i : grid0.Coords) : Fin 3 → Nat :=
  let arg0 : BitVec 32 := BitVec.ofNat 32 (i 0).val
  let c3072_i32_1167 : BitVec 32 := 3072#32
  let c0_i32_1168 : BitVec 32 := 0#32
  ![arg0.toNat, 3072, 0]
def k0_off651 (v1729 : BitVec 32) : Fin 3 → Nat :=
  let c0_i32_1169 : BitVec 32 := 0#32
  let c0_i32_1170 : BitVec 32 := 0#32
  ![v1729.toNat, 0, 0]

def k0_chk217 (v1729 : BitVec 32) : Prop :=
  (∀ a, (k0_off651 v1729) a + S1x128x128.size a ≤ S10240x128x128.size a)
theorem k0_off651_inb : ∀ (v1729 : BitVec 32) (k0_hw217 : k0_chk217 v1729), ∀ a, (k0_off651 v1729) a + S1x128x128.size a ≤ S10240x128x128.size a := fun v1729 k0_hw217 => k0_hw217

def k0_off652 (i : grid0.Coords) : Fin 2 → Nat :=
  let arg0 : BitVec 32 := BitVec.ofNat 32 (i 0).val
  let v1736 : Index := Scalar.indexCast arg0
  let c25_1171 : Index := 25#32
  ![v1736.toNat, 25]
def k0_off653 (i : grid0.Coords) : Fin 3 → Nat :=
  let arg0 : BitVec 32 := BitVec.ofNat 32 (i 0).val
  let c3200_i32_1173 : BitVec 32 := 3200#32
  let c0_i32_1174 : BitVec 32 := 0#32
  ![arg0.toNat, 3200, 0]
def k0_off654 (v1737 : BitVec 32) : Fin 3 → Nat :=
  let c0_i32_1175 : BitVec 32 := 0#32
  let c0_i32_1176 : BitVec 32 := 0#32
  ![v1737.toNat, 0, 0]

def k0_chk218 (v1737 : BitVec 32) : Prop :=
  (∀ a, (k0_off654 v1737) a + S1x128x128.size a ≤ S10240x128x128.size a)
theorem k0_off654_inb : ∀ (v1737 : BitVec 32) (k0_hw218 : k0_chk218 v1737), ∀ a, (k0_off654 v1737) a + S1x128x128.size a ≤ S10240x128x128.size a := fun v1737 k0_hw218 => k0_hw218

def k0_off655 (i : grid0.Coords) : Fin 2 → Nat :=
  let arg0 : BitVec 32 := BitVec.ofNat 32 (i 0).val
  let v1744 : Index := Scalar.indexCast arg0
  let c26_1177 : Index := 26#32
  ![v1744.toNat, 26]
def k0_off656 (i : grid0.Coords) : Fin 3 → Nat :=
  let arg0 : BitVec 32 := BitVec.ofNat 32 (i 0).val
  let c3328_i32_1179 : BitVec 32 := 3328#32
  let c0_i32_1180 : BitVec 32 := 0#32
  ![arg0.toNat, 3328, 0]
def k0_off657 (v1745 : BitVec 32) : Fin 3 → Nat :=
  let c0_i32_1181 : BitVec 32 := 0#32
  let c0_i32_1182 : BitVec 32 := 0#32
  ![v1745.toNat, 0, 0]

def k0_chk219 (v1745 : BitVec 32) : Prop :=
  (∀ a, (k0_off657 v1745) a + S1x128x128.size a ≤ S10240x128x128.size a)
theorem k0_off657_inb : ∀ (v1745 : BitVec 32) (k0_hw219 : k0_chk219 v1745), ∀ a, (k0_off657 v1745) a + S1x128x128.size a ≤ S10240x128x128.size a := fun v1745 k0_hw219 => k0_hw219

def k0_off658 (i : grid0.Coords) : Fin 2 → Nat :=
  let arg0 : BitVec 32 := BitVec.ofNat 32 (i 0).val
  let v1752 : Index := Scalar.indexCast arg0
  let c27_1183 : Index := 27#32
  ![v1752.toNat, 27]
def k0_off659 (i : grid0.Coords) : Fin 3 → Nat :=
  let arg0 : BitVec 32 := BitVec.ofNat 32 (i 0).val
  let c3456_i32_1185 : BitVec 32 := 3456#32
  let c0_i32_1186 : BitVec 32 := 0#32
  ![arg0.toNat, 3456, 0]
def k0_off660 (v1753 : BitVec 32) : Fin 3 → Nat :=
  let c0_i32_1187 : BitVec 32 := 0#32
  let c0_i32_1188 : BitVec 32 := 0#32
  ![v1753.toNat, 0, 0]

def k0_chk220 (v1753 : BitVec 32) : Prop :=
  (∀ a, (k0_off660 v1753) a + S1x128x128.size a ≤ S10240x128x128.size a)
theorem k0_off660_inb : ∀ (v1753 : BitVec 32) (k0_hw220 : k0_chk220 v1753), ∀ a, (k0_off660 v1753) a + S1x128x128.size a ≤ S10240x128x128.size a := fun v1753 k0_hw220 => k0_hw220

def k0_off661 (i : grid0.Coords) : Fin 2 → Nat :=
  let arg0 : BitVec 32 := BitVec.ofNat 32 (i 0).val
  let v1760 : Index := Scalar.indexCast arg0
  let c28_1189 : Index := 28#32
  ![v1760.toNat, 28]
def k0_off662 (i : grid0.Coords) : Fin 3 → Nat :=
  let arg0 : BitVec 32 := BitVec.ofNat 32 (i 0).val
  let c3584_i32_1191 : BitVec 32 := 3584#32
  let c0_i32_1192 : BitVec 32 := 0#32
  ![arg0.toNat, 3584, 0]
def k0_off663 (v1761 : BitVec 32) : Fin 3 → Nat :=
  let c0_i32_1193 : BitVec 32 := 0#32
  let c0_i32_1194 : BitVec 32 := 0#32
  ![v1761.toNat, 0, 0]

def k0_chk221 (v1761 : BitVec 32) : Prop :=
  (∀ a, (k0_off663 v1761) a + S1x128x128.size a ≤ S10240x128x128.size a)
theorem k0_off663_inb : ∀ (v1761 : BitVec 32) (k0_hw221 : k0_chk221 v1761), ∀ a, (k0_off663 v1761) a + S1x128x128.size a ≤ S10240x128x128.size a := fun v1761 k0_hw221 => k0_hw221

def k0_off664 (i : grid0.Coords) : Fin 2 → Nat :=
  let arg0 : BitVec 32 := BitVec.ofNat 32 (i 0).val
  let v1768 : Index := Scalar.indexCast arg0
  let c29_1195 : Index := 29#32
  ![v1768.toNat, 29]
def k0_off665 (i : grid0.Coords) : Fin 3 → Nat :=
  let arg0 : BitVec 32 := BitVec.ofNat 32 (i 0).val
  let c3712_i32_1197 : BitVec 32 := 3712#32
  let c0_i32_1198 : BitVec 32 := 0#32
  ![arg0.toNat, 3712, 0]
def k0_off666 (v1769 : BitVec 32) : Fin 3 → Nat :=
  let c0_i32_1199 : BitVec 32 := 0#32
  let c0_i32_1200 : BitVec 32 := 0#32
  ![v1769.toNat, 0, 0]

def k0_chk222 (v1769 : BitVec 32) : Prop :=
  (∀ a, (k0_off666 v1769) a + S1x128x128.size a ≤ S10240x128x128.size a)
theorem k0_off666_inb : ∀ (v1769 : BitVec 32) (k0_hw222 : k0_chk222 v1769), ∀ a, (k0_off666 v1769) a + S1x128x128.size a ≤ S10240x128x128.size a := fun v1769 k0_hw222 => k0_hw222

def k0_off667 (i : grid0.Coords) : Fin 2 → Nat :=
  let arg0 : BitVec 32 := BitVec.ofNat 32 (i 0).val
  let v1776 : Index := Scalar.indexCast arg0
  let c30_1201 : Index := 30#32
  ![v1776.toNat, 30]
def k0_off668 (i : grid0.Coords) : Fin 3 → Nat :=
  let arg0 : BitVec 32 := BitVec.ofNat 32 (i 0).val
  let c3840_i32_1203 : BitVec 32 := 3840#32
  let c0_i32_1204 : BitVec 32 := 0#32
  ![arg0.toNat, 3840, 0]
def k0_off669 (v1777 : BitVec 32) : Fin 3 → Nat :=
  let c0_i32_1205 : BitVec 32 := 0#32
  let c0_i32_1206 : BitVec 32 := 0#32
  ![v1777.toNat, 0, 0]

def k0_chk223 (v1777 : BitVec 32) : Prop :=
  (∀ a, (k0_off669 v1777) a + S1x128x128.size a ≤ S10240x128x128.size a)
theorem k0_off669_inb : ∀ (v1777 : BitVec 32) (k0_hw223 : k0_chk223 v1777), ∀ a, (k0_off669 v1777) a + S1x128x128.size a ≤ S10240x128x128.size a := fun v1777 k0_hw223 => k0_hw223

def k0_off670 (i : grid0.Coords) : Fin 2 → Nat :=
  let arg0 : BitVec 32 := BitVec.ofNat 32 (i 0).val
  let v1784 : Index := Scalar.indexCast arg0
  let c31_1207 : Index := 31#32
  ![v1784.toNat, 31]
def k0_off671 (i : grid0.Coords) : Fin 3 → Nat :=
  let arg0 : BitVec 32 := BitVec.ofNat 32 (i 0).val
  let c3968_i32_1209 : BitVec 32 := 3968#32
  let c0_i32_1210 : BitVec 32 := 0#32
  ![arg0.toNat, 3968, 0]
def k0_off672 (v1785 : BitVec 32) : Fin 3 → Nat :=
  let c0_i32_1211 : BitVec 32 := 0#32
  let c0_i32_1212 : BitVec 32 := 0#32
  ![v1785.toNat, 0, 0]

def k0_chk224 (v1785 : BitVec 32) : Prop :=
  (∀ a, (k0_off672 v1785) a + S1x128x128.size a ≤ S10240x128x128.size a)
theorem k0_off672_inb : ∀ (v1785 : BitVec 32) (k0_hw224 : k0_chk224 v1785), ∀ a, (k0_off672 v1785) a + S1x128x128.size a ≤ S10240x128x128.size a := fun v1785 k0_hw224 => k0_hw224

def k0_off673 (i : grid0.Coords) : Fin 2 → Nat :=
  let arg0 : BitVec 32 := BitVec.ofNat 32 (i 0).val
  let v1792 : Index := Scalar.indexCast arg0
  let c32_1213 : Index := 32#32
  ![v1792.toNat, 32]
def k0_off674 (i : grid0.Coords) : Fin 3 → Nat :=
  let arg0 : BitVec 32 := BitVec.ofNat 32 (i 0).val
  let c4096_i32_1215 : BitVec 32 := 4096#32
  let c0_i32_1216 : BitVec 32 := 0#32
  ![arg0.toNat, 4096, 0]
def k0_off675 (v1793 : BitVec 32) : Fin 3 → Nat :=
  let c0_i32_1217 : BitVec 32 := 0#32
  let c0_i32_1218 : BitVec 32 := 0#32
  ![v1793.toNat, 0, 0]

def k0_chk225 (v1793 : BitVec 32) : Prop :=
  (∀ a, (k0_off675 v1793) a + S1x128x128.size a ≤ S10240x128x128.size a)
theorem k0_off675_inb : ∀ (v1793 : BitVec 32) (k0_hw225 : k0_chk225 v1793), ∀ a, (k0_off675 v1793) a + S1x128x128.size a ≤ S10240x128x128.size a := fun v1793 k0_hw225 => k0_hw225

def k0_off676 (i : grid0.Coords) : Fin 2 → Nat :=
  let arg0 : BitVec 32 := BitVec.ofNat 32 (i 0).val
  let v1800 : Index := Scalar.indexCast arg0
  let c33_1219 : Index := 33#32
  ![v1800.toNat, 33]
def k0_off677 (i : grid0.Coords) : Fin 3 → Nat :=
  let arg0 : BitVec 32 := BitVec.ofNat 32 (i 0).val
  let c4224_i32_1221 : BitVec 32 := 4224#32
  let c0_i32_1222 : BitVec 32 := 0#32
  ![arg0.toNat, 4224, 0]
def k0_off678 (v1801 : BitVec 32) : Fin 3 → Nat :=
  let c0_i32_1223 : BitVec 32 := 0#32
  let c0_i32_1224 : BitVec 32 := 0#32
  ![v1801.toNat, 0, 0]

def k0_chk226 (v1801 : BitVec 32) : Prop :=
  (∀ a, (k0_off678 v1801) a + S1x128x128.size a ≤ S10240x128x128.size a)
theorem k0_off678_inb : ∀ (v1801 : BitVec 32) (k0_hw226 : k0_chk226 v1801), ∀ a, (k0_off678 v1801) a + S1x128x128.size a ≤ S10240x128x128.size a := fun v1801 k0_hw226 => k0_hw226

def k0_off679 (i : grid0.Coords) : Fin 2 → Nat :=
  let arg0 : BitVec 32 := BitVec.ofNat 32 (i 0).val
  let v1808 : Index := Scalar.indexCast arg0
  let c34_1225 : Index := 34#32
  ![v1808.toNat, 34]
def k0_off680 (i : grid0.Coords) : Fin 3 → Nat :=
  let arg0 : BitVec 32 := BitVec.ofNat 32 (i 0).val
  let c4352_i32_1227 : BitVec 32 := 4352#32
  let c0_i32_1228 : BitVec 32 := 0#32
  ![arg0.toNat, 4352, 0]
def k0_off681 (v1809 : BitVec 32) : Fin 3 → Nat :=
  let c0_i32_1229 : BitVec 32 := 0#32
  let c0_i32_1230 : BitVec 32 := 0#32
  ![v1809.toNat, 0, 0]

def k0_chk227 (v1809 : BitVec 32) : Prop :=
  (∀ a, (k0_off681 v1809) a + S1x128x128.size a ≤ S10240x128x128.size a)
theorem k0_off681_inb : ∀ (v1809 : BitVec 32) (k0_hw227 : k0_chk227 v1809), ∀ a, (k0_off681 v1809) a + S1x128x128.size a ≤ S10240x128x128.size a := fun v1809 k0_hw227 => k0_hw227

def k0_off682 (i : grid0.Coords) : Fin 2 → Nat :=
  let arg0 : BitVec 32 := BitVec.ofNat 32 (i 0).val
  let v1816 : Index := Scalar.indexCast arg0
  let c35_1231 : Index := 35#32
  ![v1816.toNat, 35]
def k0_off683 (i : grid0.Coords) : Fin 3 → Nat :=
  let arg0 : BitVec 32 := BitVec.ofNat 32 (i 0).val
  let c4480_i32_1233 : BitVec 32 := 4480#32
  let c0_i32_1234 : BitVec 32 := 0#32
  ![arg0.toNat, 4480, 0]
def k0_off684 (v1817 : BitVec 32) : Fin 3 → Nat :=
  let c0_i32_1235 : BitVec 32 := 0#32
  let c0_i32_1236 : BitVec 32 := 0#32
  ![v1817.toNat, 0, 0]

def k0_chk228 (v1817 : BitVec 32) : Prop :=
  (∀ a, (k0_off684 v1817) a + S1x128x128.size a ≤ S10240x128x128.size a)
theorem k0_off684_inb : ∀ (v1817 : BitVec 32) (k0_hw228 : k0_chk228 v1817), ∀ a, (k0_off684 v1817) a + S1x128x128.size a ≤ S10240x128x128.size a := fun v1817 k0_hw228 => k0_hw228

def k0_off685 (i : grid0.Coords) : Fin 2 → Nat :=
  let arg0 : BitVec 32 := BitVec.ofNat 32 (i 0).val
  let v1824 : Index := Scalar.indexCast arg0
  let c36_1237 : Index := 36#32
  ![v1824.toNat, 36]
def k0_off686 (i : grid0.Coords) : Fin 3 → Nat :=
  let arg0 : BitVec 32 := BitVec.ofNat 32 (i 0).val
  let c4608_i32_1239 : BitVec 32 := 4608#32
  let c0_i32_1240 : BitVec 32 := 0#32
  ![arg0.toNat, 4608, 0]
def k0_off687 (v1825 : BitVec 32) : Fin 3 → Nat :=
  let c0_i32_1241 : BitVec 32 := 0#32
  let c0_i32_1242 : BitVec 32 := 0#32
  ![v1825.toNat, 0, 0]

def k0_chk229 (v1825 : BitVec 32) : Prop :=
  (∀ a, (k0_off687 v1825) a + S1x128x128.size a ≤ S10240x128x128.size a)
theorem k0_off687_inb : ∀ (v1825 : BitVec 32) (k0_hw229 : k0_chk229 v1825), ∀ a, (k0_off687 v1825) a + S1x128x128.size a ≤ S10240x128x128.size a := fun v1825 k0_hw229 => k0_hw229

def k0_off688 (i : grid0.Coords) : Fin 2 → Nat :=
  let arg0 : BitVec 32 := BitVec.ofNat 32 (i 0).val
  let v1832 : Index := Scalar.indexCast arg0
  let c37_1243 : Index := 37#32
  ![v1832.toNat, 37]
def k0_off689 (i : grid0.Coords) : Fin 3 → Nat :=
  let arg0 : BitVec 32 := BitVec.ofNat 32 (i 0).val
  let c4736_i32_1245 : BitVec 32 := 4736#32
  let c0_i32_1246 : BitVec 32 := 0#32
  ![arg0.toNat, 4736, 0]
def k0_off690 (v1833 : BitVec 32) : Fin 3 → Nat :=
  let c0_i32_1247 : BitVec 32 := 0#32
  let c0_i32_1248 : BitVec 32 := 0#32
  ![v1833.toNat, 0, 0]

def k0_chk230 (v1833 : BitVec 32) : Prop :=
  (∀ a, (k0_off690 v1833) a + S1x128x128.size a ≤ S10240x128x128.size a)
theorem k0_off690_inb : ∀ (v1833 : BitVec 32) (k0_hw230 : k0_chk230 v1833), ∀ a, (k0_off690 v1833) a + S1x128x128.size a ≤ S10240x128x128.size a := fun v1833 k0_hw230 => k0_hw230

def k0_off691 (i : grid0.Coords) : Fin 2 → Nat :=
  let arg0 : BitVec 32 := BitVec.ofNat 32 (i 0).val
  let v1840 : Index := Scalar.indexCast arg0
  let c38_1249 : Index := 38#32
  ![v1840.toNat, 38]
def k0_off692 (i : grid0.Coords) : Fin 3 → Nat :=
  let arg0 : BitVec 32 := BitVec.ofNat 32 (i 0).val
  let c4864_i32_1251 : BitVec 32 := 4864#32
  let c0_i32_1252 : BitVec 32 := 0#32
  ![arg0.toNat, 4864, 0]
def k0_off693 (v1841 : BitVec 32) : Fin 3 → Nat :=
  let c0_i32_1253 : BitVec 32 := 0#32
  let c0_i32_1254 : BitVec 32 := 0#32
  ![v1841.toNat, 0, 0]

def k0_chk231 (v1841 : BitVec 32) : Prop :=
  (∀ a, (k0_off693 v1841) a + S1x128x128.size a ≤ S10240x128x128.size a)
theorem k0_off693_inb : ∀ (v1841 : BitVec 32) (k0_hw231 : k0_chk231 v1841), ∀ a, (k0_off693 v1841) a + S1x128x128.size a ≤ S10240x128x128.size a := fun v1841 k0_hw231 => k0_hw231

def k0_off694 (i : grid0.Coords) : Fin 2 → Nat :=
  let arg0 : BitVec 32 := BitVec.ofNat 32 (i 0).val
  let v1848 : Index := Scalar.indexCast arg0
  let c39_1255 : Index := 39#32
  ![v1848.toNat, 39]
def k0_off695 (i : grid0.Coords) : Fin 3 → Nat :=
  let arg0 : BitVec 32 := BitVec.ofNat 32 (i 0).val
  let c4992_i32_1257 : BitVec 32 := 4992#32
  let c0_i32_1258 : BitVec 32 := 0#32
  ![arg0.toNat, 4992, 0]
def k0_off696 (v1849 : BitVec 32) : Fin 3 → Nat :=
  let c0_i32_1259 : BitVec 32 := 0#32
  let c0_i32_1260 : BitVec 32 := 0#32
  ![v1849.toNat, 0, 0]

def k0_chk232 (v1849 : BitVec 32) : Prop :=
  (∀ a, (k0_off696 v1849) a + S1x128x128.size a ≤ S10240x128x128.size a)
theorem k0_off696_inb : ∀ (v1849 : BitVec 32) (k0_hw232 : k0_chk232 v1849), ∀ a, (k0_off696 v1849) a + S1x128x128.size a ≤ S10240x128x128.size a := fun v1849 k0_hw232 => k0_hw232

def k0_off697 (i : grid0.Coords) : Fin 2 → Nat :=
  let arg0 : BitVec 32 := BitVec.ofNat 32 (i 0).val
  let v1856 : Index := Scalar.indexCast arg0
  let c40_1261 : Index := 40#32
  ![v1856.toNat, 40]
def k0_off698 (i : grid0.Coords) : Fin 3 → Nat :=
  let arg0 : BitVec 32 := BitVec.ofNat 32 (i 0).val
  let c5120_i32_1263 : BitVec 32 := 5120#32
  let c0_i32_1264 : BitVec 32 := 0#32
  ![arg0.toNat, 5120, 0]
def k0_off699 (v1857 : BitVec 32) : Fin 3 → Nat :=
  let c0_i32_1265 : BitVec 32 := 0#32
  let c0_i32_1266 : BitVec 32 := 0#32
  ![v1857.toNat, 0, 0]

def k0_chk233 (v1857 : BitVec 32) : Prop :=
  (∀ a, (k0_off699 v1857) a + S1x128x128.size a ≤ S10240x128x128.size a)
theorem k0_off699_inb : ∀ (v1857 : BitVec 32) (k0_hw233 : k0_chk233 v1857), ∀ a, (k0_off699 v1857) a + S1x128x128.size a ≤ S10240x128x128.size a := fun v1857 k0_hw233 => k0_hw233

def k0_off700 (i : grid0.Coords) : Fin 2 → Nat :=
  let arg0 : BitVec 32 := BitVec.ofNat 32 (i 0).val
  let v1864 : Index := Scalar.indexCast arg0
  let c41_1267 : Index := 41#32
  ![v1864.toNat, 41]
def k0_off701 (i : grid0.Coords) : Fin 3 → Nat :=
  let arg0 : BitVec 32 := BitVec.ofNat 32 (i 0).val
  let c5248_i32_1269 : BitVec 32 := 5248#32
  let c0_i32_1270 : BitVec 32 := 0#32
  ![arg0.toNat, 5248, 0]
def k0_off702 (v1865 : BitVec 32) : Fin 3 → Nat :=
  let c0_i32_1271 : BitVec 32 := 0#32
  let c0_i32_1272 : BitVec 32 := 0#32
  ![v1865.toNat, 0, 0]

def k0_chk234 (v1865 : BitVec 32) : Prop :=
  (∀ a, (k0_off702 v1865) a + S1x128x128.size a ≤ S10240x128x128.size a)
theorem k0_off702_inb : ∀ (v1865 : BitVec 32) (k0_hw234 : k0_chk234 v1865), ∀ a, (k0_off702 v1865) a + S1x128x128.size a ≤ S10240x128x128.size a := fun v1865 k0_hw234 => k0_hw234

def k0_off703 (i : grid0.Coords) : Fin 2 → Nat :=
  let arg0 : BitVec 32 := BitVec.ofNat 32 (i 0).val
  let v1872 : Index := Scalar.indexCast arg0
  let c42_1273 : Index := 42#32
  ![v1872.toNat, 42]
def k0_off704 (i : grid0.Coords) : Fin 3 → Nat :=
  let arg0 : BitVec 32 := BitVec.ofNat 32 (i 0).val
  let c5376_i32_1275 : BitVec 32 := 5376#32
  let c0_i32_1276 : BitVec 32 := 0#32
  ![arg0.toNat, 5376, 0]
def k0_off705 (v1873 : BitVec 32) : Fin 3 → Nat :=
  let c0_i32_1277 : BitVec 32 := 0#32
  let c0_i32_1278 : BitVec 32 := 0#32
  ![v1873.toNat, 0, 0]

def k0_chk235 (v1873 : BitVec 32) : Prop :=
  (∀ a, (k0_off705 v1873) a + S1x128x128.size a ≤ S10240x128x128.size a)
theorem k0_off705_inb : ∀ (v1873 : BitVec 32) (k0_hw235 : k0_chk235 v1873), ∀ a, (k0_off705 v1873) a + S1x128x128.size a ≤ S10240x128x128.size a := fun v1873 k0_hw235 => k0_hw235

def k0_off706 (i : grid0.Coords) : Fin 2 → Nat :=
  let arg0 : BitVec 32 := BitVec.ofNat 32 (i 0).val
  let v1880 : Index := Scalar.indexCast arg0
  let c43_1279 : Index := 43#32
  ![v1880.toNat, 43]
def k0_off707 (i : grid0.Coords) : Fin 3 → Nat :=
  let arg0 : BitVec 32 := BitVec.ofNat 32 (i 0).val
  let c5504_i32_1281 : BitVec 32 := 5504#32
  let c0_i32_1282 : BitVec 32 := 0#32
  ![arg0.toNat, 5504, 0]
def k0_off708 (v1881 : BitVec 32) : Fin 3 → Nat :=
  let c0_i32_1283 : BitVec 32 := 0#32
  let c0_i32_1284 : BitVec 32 := 0#32
  ![v1881.toNat, 0, 0]

def k0_chk236 (v1881 : BitVec 32) : Prop :=
  (∀ a, (k0_off708 v1881) a + S1x128x128.size a ≤ S10240x128x128.size a)
theorem k0_off708_inb : ∀ (v1881 : BitVec 32) (k0_hw236 : k0_chk236 v1881), ∀ a, (k0_off708 v1881) a + S1x128x128.size a ≤ S10240x128x128.size a := fun v1881 k0_hw236 => k0_hw236

def k0_off709 (i : grid0.Coords) : Fin 2 → Nat :=
  let arg0 : BitVec 32 := BitVec.ofNat 32 (i 0).val
  let v1888 : Index := Scalar.indexCast arg0
  let c44_1285 : Index := 44#32
  ![v1888.toNat, 44]
def k0_off710 (i : grid0.Coords) : Fin 3 → Nat :=
  let arg0 : BitVec 32 := BitVec.ofNat 32 (i 0).val
  let c5632_i32_1287 : BitVec 32 := 5632#32
  let c0_i32_1288 : BitVec 32 := 0#32
  ![arg0.toNat, 5632, 0]
def k0_off711 (v1889 : BitVec 32) : Fin 3 → Nat :=
  let c0_i32_1289 : BitVec 32 := 0#32
  let c0_i32_1290 : BitVec 32 := 0#32
  ![v1889.toNat, 0, 0]

def k0_chk237 (v1889 : BitVec 32) : Prop :=
  (∀ a, (k0_off711 v1889) a + S1x128x128.size a ≤ S10240x128x128.size a)
theorem k0_off711_inb : ∀ (v1889 : BitVec 32) (k0_hw237 : k0_chk237 v1889), ∀ a, (k0_off711 v1889) a + S1x128x128.size a ≤ S10240x128x128.size a := fun v1889 k0_hw237 => k0_hw237

def k0_off712 (i : grid0.Coords) : Fin 2 → Nat :=
  let arg0 : BitVec 32 := BitVec.ofNat 32 (i 0).val
  let v1896 : Index := Scalar.indexCast arg0
  let c45_1291 : Index := 45#32
  ![v1896.toNat, 45]
def k0_off713 (i : grid0.Coords) : Fin 3 → Nat :=
  let arg0 : BitVec 32 := BitVec.ofNat 32 (i 0).val
  let c5760_i32_1293 : BitVec 32 := 5760#32
  let c0_i32_1294 : BitVec 32 := 0#32
  ![arg0.toNat, 5760, 0]
def k0_off714 (v1897 : BitVec 32) : Fin 3 → Nat :=
  let c0_i32_1295 : BitVec 32 := 0#32
  let c0_i32_1296 : BitVec 32 := 0#32
  ![v1897.toNat, 0, 0]

def k0_chk238 (v1897 : BitVec 32) : Prop :=
  (∀ a, (k0_off714 v1897) a + S1x128x128.size a ≤ S10240x128x128.size a)
theorem k0_off714_inb : ∀ (v1897 : BitVec 32) (k0_hw238 : k0_chk238 v1897), ∀ a, (k0_off714 v1897) a + S1x128x128.size a ≤ S10240x128x128.size a := fun v1897 k0_hw238 => k0_hw238

def k0_off715 (i : grid0.Coords) : Fin 2 → Nat :=
  let arg0 : BitVec 32 := BitVec.ofNat 32 (i 0).val
  let v1904 : Index := Scalar.indexCast arg0
  let c46_1297 : Index := 46#32
  ![v1904.toNat, 46]
def k0_off716 (i : grid0.Coords) : Fin 3 → Nat :=
  let arg0 : BitVec 32 := BitVec.ofNat 32 (i 0).val
  let c5888_i32_1299 : BitVec 32 := 5888#32
  let c0_i32_1300 : BitVec 32 := 0#32
  ![arg0.toNat, 5888, 0]
def k0_off717 (v1905 : BitVec 32) : Fin 3 → Nat :=
  let c0_i32_1301 : BitVec 32 := 0#32
  let c0_i32_1302 : BitVec 32 := 0#32
  ![v1905.toNat, 0, 0]

def k0_chk239 (v1905 : BitVec 32) : Prop :=
  (∀ a, (k0_off717 v1905) a + S1x128x128.size a ≤ S10240x128x128.size a)
theorem k0_off717_inb : ∀ (v1905 : BitVec 32) (k0_hw239 : k0_chk239 v1905), ∀ a, (k0_off717 v1905) a + S1x128x128.size a ≤ S10240x128x128.size a := fun v1905 k0_hw239 => k0_hw239

def k0_off718 (i : grid0.Coords) : Fin 2 → Nat :=
  let arg0 : BitVec 32 := BitVec.ofNat 32 (i 0).val
  let v1912 : Index := Scalar.indexCast arg0
  let c47_1303 : Index := 47#32
  ![v1912.toNat, 47]
def k0_off719 (i : grid0.Coords) : Fin 3 → Nat :=
  let arg0 : BitVec 32 := BitVec.ofNat 32 (i 0).val
  let c6016_i32_1305 : BitVec 32 := 6016#32
  let c0_i32_1306 : BitVec 32 := 0#32
  ![arg0.toNat, 6016, 0]
def k0_off720 (v1913 : BitVec 32) : Fin 3 → Nat :=
  let c0_i32_1307 : BitVec 32 := 0#32
  let c0_i32_1308 : BitVec 32 := 0#32
  ![v1913.toNat, 0, 0]

def k0_chk240 (v1913 : BitVec 32) : Prop :=
  (∀ a, (k0_off720 v1913) a + S1x128x128.size a ≤ S10240x128x128.size a)
theorem k0_off720_inb : ∀ (v1913 : BitVec 32) (k0_hw240 : k0_chk240 v1913), ∀ a, (k0_off720 v1913) a + S1x128x128.size a ≤ S10240x128x128.size a := fun v1913 k0_hw240 => k0_hw240

def k0_off721 (i : grid0.Coords) : Fin 2 → Nat :=
  let arg0 : BitVec 32 := BitVec.ofNat 32 (i 0).val
  let v1920 : Index := Scalar.indexCast arg0
  let c48_1309 : Index := 48#32
  ![v1920.toNat, 48]
def k0_off722 (i : grid0.Coords) : Fin 3 → Nat :=
  let arg0 : BitVec 32 := BitVec.ofNat 32 (i 0).val
  let c6144_i32_1311 : BitVec 32 := 6144#32
  let c0_i32_1312 : BitVec 32 := 0#32
  ![arg0.toNat, 6144, 0]
def k0_off723 (v1921 : BitVec 32) : Fin 3 → Nat :=
  let c0_i32_1313 : BitVec 32 := 0#32
  let c0_i32_1314 : BitVec 32 := 0#32
  ![v1921.toNat, 0, 0]

def k0_chk241 (v1921 : BitVec 32) : Prop :=
  (∀ a, (k0_off723 v1921) a + S1x128x128.size a ≤ S10240x128x128.size a)
theorem k0_off723_inb : ∀ (v1921 : BitVec 32) (k0_hw241 : k0_chk241 v1921), ∀ a, (k0_off723 v1921) a + S1x128x128.size a ≤ S10240x128x128.size a := fun v1921 k0_hw241 => k0_hw241

def k0_off724 (i : grid0.Coords) : Fin 2 → Nat :=
  let arg0 : BitVec 32 := BitVec.ofNat 32 (i 0).val
  let v1928 : Index := Scalar.indexCast arg0
  let c49_1315 : Index := 49#32
  ![v1928.toNat, 49]
def k0_off725 (i : grid0.Coords) : Fin 3 → Nat :=
  let arg0 : BitVec 32 := BitVec.ofNat 32 (i 0).val
  let c6272_i32_1317 : BitVec 32 := 6272#32
  let c0_i32_1318 : BitVec 32 := 0#32
  ![arg0.toNat, 6272, 0]
def k0_off726 (v1929 : BitVec 32) : Fin 3 → Nat :=
  let c0_i32_1319 : BitVec 32 := 0#32
  let c0_i32_1320 : BitVec 32 := 0#32
  ![v1929.toNat, 0, 0]

def k0_chk242 (v1929 : BitVec 32) : Prop :=
  (∀ a, (k0_off726 v1929) a + S1x128x128.size a ≤ S10240x128x128.size a)
theorem k0_off726_inb : ∀ (v1929 : BitVec 32) (k0_hw242 : k0_chk242 v1929), ∀ a, (k0_off726 v1929) a + S1x128x128.size a ≤ S10240x128x128.size a := fun v1929 k0_hw242 => k0_hw242

def k0_off727 (i : grid0.Coords) : Fin 2 → Nat :=
  let arg0 : BitVec 32 := BitVec.ofNat 32 (i 0).val
  let v1936 : Index := Scalar.indexCast arg0
  let c50_1321 : Index := 50#32
  ![v1936.toNat, 50]
def k0_off728 (i : grid0.Coords) : Fin 3 → Nat :=
  let arg0 : BitVec 32 := BitVec.ofNat 32 (i 0).val
  let c6400_i32_1323 : BitVec 32 := 6400#32
  let c0_i32_1324 : BitVec 32 := 0#32
  ![arg0.toNat, 6400, 0]
def k0_off729 (v1937 : BitVec 32) : Fin 3 → Nat :=
  let c0_i32_1325 : BitVec 32 := 0#32
  let c0_i32_1326 : BitVec 32 := 0#32
  ![v1937.toNat, 0, 0]

def k0_chk243 (v1937 : BitVec 32) : Prop :=
  (∀ a, (k0_off729 v1937) a + S1x128x128.size a ≤ S10240x128x128.size a)
theorem k0_off729_inb : ∀ (v1937 : BitVec 32) (k0_hw243 : k0_chk243 v1937), ∀ a, (k0_off729 v1937) a + S1x128x128.size a ≤ S10240x128x128.size a := fun v1937 k0_hw243 => k0_hw243

def k0_off730 (i : grid0.Coords) : Fin 2 → Nat :=
  let arg0 : BitVec 32 := BitVec.ofNat 32 (i 0).val
  let v1944 : Index := Scalar.indexCast arg0
  let c51_1327 : Index := 51#32
  ![v1944.toNat, 51]
def k0_off731 (i : grid0.Coords) : Fin 3 → Nat :=
  let arg0 : BitVec 32 := BitVec.ofNat 32 (i 0).val
  let c6528_i32_1329 : BitVec 32 := 6528#32
  let c0_i32_1330 : BitVec 32 := 0#32
  ![arg0.toNat, 6528, 0]
def k0_off732 (v1945 : BitVec 32) : Fin 3 → Nat :=
  let c0_i32_1331 : BitVec 32 := 0#32
  let c0_i32_1332 : BitVec 32 := 0#32
  ![v1945.toNat, 0, 0]

def k0_chk244 (v1945 : BitVec 32) : Prop :=
  (∀ a, (k0_off732 v1945) a + S1x128x128.size a ≤ S10240x128x128.size a)
theorem k0_off732_inb : ∀ (v1945 : BitVec 32) (k0_hw244 : k0_chk244 v1945), ∀ a, (k0_off732 v1945) a + S1x128x128.size a ≤ S10240x128x128.size a := fun v1945 k0_hw244 => k0_hw244

def k0_off733 (i : grid0.Coords) : Fin 2 → Nat :=
  let arg0 : BitVec 32 := BitVec.ofNat 32 (i 0).val
  let v1952 : Index := Scalar.indexCast arg0
  let c52_1333 : Index := 52#32
  ![v1952.toNat, 52]
def k0_off734 (i : grid0.Coords) : Fin 3 → Nat :=
  let arg0 : BitVec 32 := BitVec.ofNat 32 (i 0).val
  let c6656_i32_1335 : BitVec 32 := 6656#32
  let c0_i32_1336 : BitVec 32 := 0#32
  ![arg0.toNat, 6656, 0]
def k0_off735 (v1953 : BitVec 32) : Fin 3 → Nat :=
  let c0_i32_1337 : BitVec 32 := 0#32
  let c0_i32_1338 : BitVec 32 := 0#32
  ![v1953.toNat, 0, 0]

def k0_chk245 (v1953 : BitVec 32) : Prop :=
  (∀ a, (k0_off735 v1953) a + S1x128x128.size a ≤ S10240x128x128.size a)
theorem k0_off735_inb : ∀ (v1953 : BitVec 32) (k0_hw245 : k0_chk245 v1953), ∀ a, (k0_off735 v1953) a + S1x128x128.size a ≤ S10240x128x128.size a := fun v1953 k0_hw245 => k0_hw245

def k0_off736 (i : grid0.Coords) : Fin 2 → Nat :=
  let arg0 : BitVec 32 := BitVec.ofNat 32 (i 0).val
  let v1960 : Index := Scalar.indexCast arg0
  let c53_1339 : Index := 53#32
  ![v1960.toNat, 53]
def k0_off737 (i : grid0.Coords) : Fin 3 → Nat :=
  let arg0 : BitVec 32 := BitVec.ofNat 32 (i 0).val
  let c6784_i32_1341 : BitVec 32 := 6784#32
  let c0_i32_1342 : BitVec 32 := 0#32
  ![arg0.toNat, 6784, 0]
def k0_off738 (v1961 : BitVec 32) : Fin 3 → Nat :=
  let c0_i32_1343 : BitVec 32 := 0#32
  let c0_i32_1344 : BitVec 32 := 0#32
  ![v1961.toNat, 0, 0]

def k0_chk246 (v1961 : BitVec 32) : Prop :=
  (∀ a, (k0_off738 v1961) a + S1x128x128.size a ≤ S10240x128x128.size a)
theorem k0_off738_inb : ∀ (v1961 : BitVec 32) (k0_hw246 : k0_chk246 v1961), ∀ a, (k0_off738 v1961) a + S1x128x128.size a ≤ S10240x128x128.size a := fun v1961 k0_hw246 => k0_hw246

def k0_off739 (i : grid0.Coords) : Fin 2 → Nat :=
  let arg0 : BitVec 32 := BitVec.ofNat 32 (i 0).val
  let v1968 : Index := Scalar.indexCast arg0
  let c54_1345 : Index := 54#32
  ![v1968.toNat, 54]
def k0_off740 (i : grid0.Coords) : Fin 3 → Nat :=
  let arg0 : BitVec 32 := BitVec.ofNat 32 (i 0).val
  let c6912_i32_1347 : BitVec 32 := 6912#32
  let c0_i32_1348 : BitVec 32 := 0#32
  ![arg0.toNat, 6912, 0]
def k0_off741 (v1969 : BitVec 32) : Fin 3 → Nat :=
  let c0_i32_1349 : BitVec 32 := 0#32
  let c0_i32_1350 : BitVec 32 := 0#32
  ![v1969.toNat, 0, 0]

def k0_chk247 (v1969 : BitVec 32) : Prop :=
  (∀ a, (k0_off741 v1969) a + S1x128x128.size a ≤ S10240x128x128.size a)
theorem k0_off741_inb : ∀ (v1969 : BitVec 32) (k0_hw247 : k0_chk247 v1969), ∀ a, (k0_off741 v1969) a + S1x128x128.size a ≤ S10240x128x128.size a := fun v1969 k0_hw247 => k0_hw247

def k0_off742 (i : grid0.Coords) : Fin 2 → Nat :=
  let arg0 : BitVec 32 := BitVec.ofNat 32 (i 0).val
  let v1976 : Index := Scalar.indexCast arg0
  let c55_1351 : Index := 55#32
  ![v1976.toNat, 55]
def k0_off743 (i : grid0.Coords) : Fin 3 → Nat :=
  let arg0 : BitVec 32 := BitVec.ofNat 32 (i 0).val
  let c7040_i32_1353 : BitVec 32 := 7040#32
  let c0_i32_1354 : BitVec 32 := 0#32
  ![arg0.toNat, 7040, 0]
def k0_off744 (v1977 : BitVec 32) : Fin 3 → Nat :=
  let c0_i32_1355 : BitVec 32 := 0#32
  let c0_i32_1356 : BitVec 32 := 0#32
  ![v1977.toNat, 0, 0]

def k0_chk248 (v1977 : BitVec 32) : Prop :=
  (∀ a, (k0_off744 v1977) a + S1x128x128.size a ≤ S10240x128x128.size a)
theorem k0_off744_inb : ∀ (v1977 : BitVec 32) (k0_hw248 : k0_chk248 v1977), ∀ a, (k0_off744 v1977) a + S1x128x128.size a ≤ S10240x128x128.size a := fun v1977 k0_hw248 => k0_hw248

def k0_off745 (i : grid0.Coords) : Fin 2 → Nat :=
  let arg0 : BitVec 32 := BitVec.ofNat 32 (i 0).val
  let v1984 : Index := Scalar.indexCast arg0
  let c56_1357 : Index := 56#32
  ![v1984.toNat, 56]
def k0_off746 (i : grid0.Coords) : Fin 3 → Nat :=
  let arg0 : BitVec 32 := BitVec.ofNat 32 (i 0).val
  let c7168_i32_1359 : BitVec 32 := 7168#32
  let c0_i32_1360 : BitVec 32 := 0#32
  ![arg0.toNat, 7168, 0]
def k0_off747 (v1985 : BitVec 32) : Fin 3 → Nat :=
  let c0_i32_1361 : BitVec 32 := 0#32
  let c0_i32_1362 : BitVec 32 := 0#32
  ![v1985.toNat, 0, 0]

def k0_chk249 (v1985 : BitVec 32) : Prop :=
  (∀ a, (k0_off747 v1985) a + S1x128x128.size a ≤ S10240x128x128.size a)
theorem k0_off747_inb : ∀ (v1985 : BitVec 32) (k0_hw249 : k0_chk249 v1985), ∀ a, (k0_off747 v1985) a + S1x128x128.size a ≤ S10240x128x128.size a := fun v1985 k0_hw249 => k0_hw249

def k0_off748 (i : grid0.Coords) : Fin 2 → Nat :=
  let arg0 : BitVec 32 := BitVec.ofNat 32 (i 0).val
  let v1992 : Index := Scalar.indexCast arg0
  let c57_1363 : Index := 57#32
  ![v1992.toNat, 57]
def k0_off749 (i : grid0.Coords) : Fin 3 → Nat :=
  let arg0 : BitVec 32 := BitVec.ofNat 32 (i 0).val
  let c7296_i32_1365 : BitVec 32 := 7296#32
  let c0_i32_1366 : BitVec 32 := 0#32
  ![arg0.toNat, 7296, 0]
def k0_off750 (v1993 : BitVec 32) : Fin 3 → Nat :=
  let c0_i32_1367 : BitVec 32 := 0#32
  let c0_i32_1368 : BitVec 32 := 0#32
  ![v1993.toNat, 0, 0]

def k0_chk250 (v1993 : BitVec 32) : Prop :=
  (∀ a, (k0_off750 v1993) a + S1x128x128.size a ≤ S10240x128x128.size a)
theorem k0_off750_inb : ∀ (v1993 : BitVec 32) (k0_hw250 : k0_chk250 v1993), ∀ a, (k0_off750 v1993) a + S1x128x128.size a ≤ S10240x128x128.size a := fun v1993 k0_hw250 => k0_hw250

def k0_off751 (i : grid0.Coords) : Fin 2 → Nat :=
  let arg0 : BitVec 32 := BitVec.ofNat 32 (i 0).val
  let v2000 : Index := Scalar.indexCast arg0
  let c58_1369 : Index := 58#32
  ![v2000.toNat, 58]
def k0_off752 (i : grid0.Coords) : Fin 3 → Nat :=
  let arg0 : BitVec 32 := BitVec.ofNat 32 (i 0).val
  let c7424_i32_1371 : BitVec 32 := 7424#32
  let c0_i32_1372 : BitVec 32 := 0#32
  ![arg0.toNat, 7424, 0]
def k0_off753 (v2001 : BitVec 32) : Fin 3 → Nat :=
  let c0_i32_1373 : BitVec 32 := 0#32
  let c0_i32_1374 : BitVec 32 := 0#32
  ![v2001.toNat, 0, 0]

def k0_chk251 (v2001 : BitVec 32) : Prop :=
  (∀ a, (k0_off753 v2001) a + S1x128x128.size a ≤ S10240x128x128.size a)
theorem k0_off753_inb : ∀ (v2001 : BitVec 32) (k0_hw251 : k0_chk251 v2001), ∀ a, (k0_off753 v2001) a + S1x128x128.size a ≤ S10240x128x128.size a := fun v2001 k0_hw251 => k0_hw251

def k0_off754 (i : grid0.Coords) : Fin 2 → Nat :=
  let arg0 : BitVec 32 := BitVec.ofNat 32 (i 0).val
  let v2008 : Index := Scalar.indexCast arg0
  let c59_1375 : Index := 59#32
  ![v2008.toNat, 59]
def k0_off755 (i : grid0.Coords) : Fin 3 → Nat :=
  let arg0 : BitVec 32 := BitVec.ofNat 32 (i 0).val
  let c7552_i32_1377 : BitVec 32 := 7552#32
  let c0_i32_1378 : BitVec 32 := 0#32
  ![arg0.toNat, 7552, 0]
def k0_off756 (v2009 : BitVec 32) : Fin 3 → Nat :=
  let c0_i32_1379 : BitVec 32 := 0#32
  let c0_i32_1380 : BitVec 32 := 0#32
  ![v2009.toNat, 0, 0]

def k0_chk252 (v2009 : BitVec 32) : Prop :=
  (∀ a, (k0_off756 v2009) a + S1x128x128.size a ≤ S10240x128x128.size a)
theorem k0_off756_inb : ∀ (v2009 : BitVec 32) (k0_hw252 : k0_chk252 v2009), ∀ a, (k0_off756 v2009) a + S1x128x128.size a ≤ S10240x128x128.size a := fun v2009 k0_hw252 => k0_hw252

def k0_off757 (i : grid0.Coords) : Fin 2 → Nat :=
  let arg0 : BitVec 32 := BitVec.ofNat 32 (i 0).val
  let v2016 : Index := Scalar.indexCast arg0
  let c60_1381 : Index := 60#32
  ![v2016.toNat, 60]
def k0_off758 (i : grid0.Coords) : Fin 3 → Nat :=
  let arg0 : BitVec 32 := BitVec.ofNat 32 (i 0).val
  let c7680_i32_1383 : BitVec 32 := 7680#32
  let c0_i32_1384 : BitVec 32 := 0#32
  ![arg0.toNat, 7680, 0]
def k0_off759 (v2017 : BitVec 32) : Fin 3 → Nat :=
  let c0_i32_1385 : BitVec 32 := 0#32
  let c0_i32_1386 : BitVec 32 := 0#32
  ![v2017.toNat, 0, 0]

def k0_chk253 (v2017 : BitVec 32) : Prop :=
  (∀ a, (k0_off759 v2017) a + S1x128x128.size a ≤ S10240x128x128.size a)
theorem k0_off759_inb : ∀ (v2017 : BitVec 32) (k0_hw253 : k0_chk253 v2017), ∀ a, (k0_off759 v2017) a + S1x128x128.size a ≤ S10240x128x128.size a := fun v2017 k0_hw253 => k0_hw253

def k0_off760 (i : grid0.Coords) : Fin 2 → Nat :=
  let arg0 : BitVec 32 := BitVec.ofNat 32 (i 0).val
  let v2024 : Index := Scalar.indexCast arg0
  let c61_1387 : Index := 61#32
  ![v2024.toNat, 61]
def k0_off761 (i : grid0.Coords) : Fin 3 → Nat :=
  let arg0 : BitVec 32 := BitVec.ofNat 32 (i 0).val
  let c7808_i32_1389 : BitVec 32 := 7808#32
  let c0_i32_1390 : BitVec 32 := 0#32
  ![arg0.toNat, 7808, 0]
def k0_off762 (v2025 : BitVec 32) : Fin 3 → Nat :=
  let c0_i32_1391 : BitVec 32 := 0#32
  let c0_i32_1392 : BitVec 32 := 0#32
  ![v2025.toNat, 0, 0]

def k0_chk254 (v2025 : BitVec 32) : Prop :=
  (∀ a, (k0_off762 v2025) a + S1x128x128.size a ≤ S10240x128x128.size a)
theorem k0_off762_inb : ∀ (v2025 : BitVec 32) (k0_hw254 : k0_chk254 v2025), ∀ a, (k0_off762 v2025) a + S1x128x128.size a ≤ S10240x128x128.size a := fun v2025 k0_hw254 => k0_hw254

def k0_off763 (i : grid0.Coords) : Fin 2 → Nat :=
  let arg0 : BitVec 32 := BitVec.ofNat 32 (i 0).val
  let v2032 : Index := Scalar.indexCast arg0
  let c62_1393 : Index := 62#32
  ![v2032.toNat, 62]
def k0_off764 (i : grid0.Coords) : Fin 3 → Nat :=
  let arg0 : BitVec 32 := BitVec.ofNat 32 (i 0).val
  let c7936_i32_1395 : BitVec 32 := 7936#32
  let c0_i32_1396 : BitVec 32 := 0#32
  ![arg0.toNat, 7936, 0]
def k0_off765 (v2033 : BitVec 32) : Fin 3 → Nat :=
  let c0_i32_1397 : BitVec 32 := 0#32
  let c0_i32_1398 : BitVec 32 := 0#32
  ![v2033.toNat, 0, 0]

def k0_chk255 (v2033 : BitVec 32) : Prop :=
  (∀ a, (k0_off765 v2033) a + S1x128x128.size a ≤ S10240x128x128.size a)
theorem k0_off765_inb : ∀ (v2033 : BitVec 32) (k0_hw255 : k0_chk255 v2033), ∀ a, (k0_off765 v2033) a + S1x128x128.size a ≤ S10240x128x128.size a := fun v2033 k0_hw255 => k0_hw255

def k0_off766 (i : grid0.Coords) : Fin 2 → Nat :=
  let arg0 : BitVec 32 := BitVec.ofNat 32 (i 0).val
  let v2040 : Index := Scalar.indexCast arg0
  let c63_1399 : Index := 63#32
  ![v2040.toNat, 63]
def k0_off767 (i : grid0.Coords) : Fin 3 → Nat :=
  let arg0 : BitVec 32 := BitVec.ofNat 32 (i 0).val
  let c8064_i32_1401 : BitVec 32 := 8064#32
  let c0_i32_1402 : BitVec 32 := 0#32
  ![arg0.toNat, 8064, 0]
def k0_off768 (v2041 : BitVec 32) : Fin 3 → Nat :=
  let c0_i32_1403 : BitVec 32 := 0#32
  let c0_i32_1404 : BitVec 32 := 0#32
  ![v2041.toNat, 0, 0]

def k0_chk256 (v2041 : BitVec 32) : Prop :=
  (∀ a, (k0_off768 v2041) a + S1x128x128.size a ≤ S10240x128x128.size a)
theorem k0_off768_inb : ∀ (v2041 : BitVec 32) (k0_hw256 : k0_chk256 v2041), ∀ a, (k0_off768 v2041) a + S1x128x128.size a ≤ S10240x128x128.size a := fun v2041 k0_hw256 => k0_hw256

def k0_off769 (i : grid0.Coords) : Fin 2 → Nat :=
  let arg0 : BitVec 32 := BitVec.ofNat 32 (i 0).val
  let v2048 : Index := Scalar.indexCast arg0
  let c0_1405 : Index := 0#32
  ![v2048.toNat, 0]
def k0_off770 (i : grid0.Coords) : Fin 3 → Nat :=
  let arg0 : BitVec 32 := BitVec.ofNat 32 (i 0).val
  let c0_i32_1407 : BitVec 32 := 0#32
  let c0_i32_1408 : BitVec 32 := 0#32
  ![arg0.toNat, 0, 0]
def k0_off771 (v2049 : BitVec 32) : Fin 3 → Nat :=
  let c0_i32_1409 : BitVec 32 := 0#32
  let c0_i32_1410 : BitVec 32 := 0#32
  ![v2049.toNat, 0, 0]

def k0_chk257 (v2049 : BitVec 32) : Prop :=
  (∀ a, (k0_off771 v2049) a + S1x128x128.size a ≤ S10240x128x128.size a)
theorem k0_off771_inb : ∀ (v2049 : BitVec 32) (k0_hw257 : k0_chk257 v2049), ∀ a, (k0_off771 v2049) a + S1x128x128.size a ≤ S10240x128x128.size a := fun v2049 k0_hw257 => k0_hw257

def k0_off772 (i : grid0.Coords) : Fin 2 → Nat :=
  let arg0 : BitVec 32 := BitVec.ofNat 32 (i 0).val
  let v2056 : Index := Scalar.indexCast arg0
  let c1_1411 : Index := 1#32
  ![v2056.toNat, 1]
def k0_off773 (i : grid0.Coords) : Fin 3 → Nat :=
  let arg0 : BitVec 32 := BitVec.ofNat 32 (i 0).val
  let c128_i32_1413 : BitVec 32 := 128#32
  let c0_i32_1414 : BitVec 32 := 0#32
  ![arg0.toNat, 128, 0]
def k0_off774 (v2057 : BitVec 32) : Fin 3 → Nat :=
  let c0_i32_1415 : BitVec 32 := 0#32
  let c0_i32_1416 : BitVec 32 := 0#32
  ![v2057.toNat, 0, 0]

def k0_chk258 (v2057 : BitVec 32) : Prop :=
  (∀ a, (k0_off774 v2057) a + S1x128x128.size a ≤ S10240x128x128.size a)
theorem k0_off774_inb : ∀ (v2057 : BitVec 32) (k0_hw258 : k0_chk258 v2057), ∀ a, (k0_off774 v2057) a + S1x128x128.size a ≤ S10240x128x128.size a := fun v2057 k0_hw258 => k0_hw258

def k0_off775 (i : grid0.Coords) : Fin 2 → Nat :=
  let arg0 : BitVec 32 := BitVec.ofNat 32 (i 0).val
  let v2064 : Index := Scalar.indexCast arg0
  let c2_1417 : Index := 2#32
  ![v2064.toNat, 2]
def k0_off776 (i : grid0.Coords) : Fin 3 → Nat :=
  let arg0 : BitVec 32 := BitVec.ofNat 32 (i 0).val
  let c256_i32_1419 : BitVec 32 := 256#32
  let c0_i32_1420 : BitVec 32 := 0#32
  ![arg0.toNat, 256, 0]
def k0_off777 (v2065 : BitVec 32) : Fin 3 → Nat :=
  let c0_i32_1421 : BitVec 32 := 0#32
  let c0_i32_1422 : BitVec 32 := 0#32
  ![v2065.toNat, 0, 0]

def k0_chk259 (v2065 : BitVec 32) : Prop :=
  (∀ a, (k0_off777 v2065) a + S1x128x128.size a ≤ S10240x128x128.size a)
theorem k0_off777_inb : ∀ (v2065 : BitVec 32) (k0_hw259 : k0_chk259 v2065), ∀ a, (k0_off777 v2065) a + S1x128x128.size a ≤ S10240x128x128.size a := fun v2065 k0_hw259 => k0_hw259

def k0_off778 (i : grid0.Coords) : Fin 2 → Nat :=
  let arg0 : BitVec 32 := BitVec.ofNat 32 (i 0).val
  let v2072 : Index := Scalar.indexCast arg0
  let c3_1423 : Index := 3#32
  ![v2072.toNat, 3]
def k0_off779 (i : grid0.Coords) : Fin 3 → Nat :=
  let arg0 : BitVec 32 := BitVec.ofNat 32 (i 0).val
  let c384_i32_1425 : BitVec 32 := 384#32
  let c0_i32_1426 : BitVec 32 := 0#32
  ![arg0.toNat, 384, 0]
def k0_off780 (v2073 : BitVec 32) : Fin 3 → Nat :=
  let c0_i32_1427 : BitVec 32 := 0#32
  let c0_i32_1428 : BitVec 32 := 0#32
  ![v2073.toNat, 0, 0]

def k0_chk260 (v2073 : BitVec 32) : Prop :=
  (∀ a, (k0_off780 v2073) a + S1x128x128.size a ≤ S10240x128x128.size a)
theorem k0_off780_inb : ∀ (v2073 : BitVec 32) (k0_hw260 : k0_chk260 v2073), ∀ a, (k0_off780 v2073) a + S1x128x128.size a ≤ S10240x128x128.size a := fun v2073 k0_hw260 => k0_hw260

def k0_off781 (i : grid0.Coords) : Fin 2 → Nat :=
  let arg0 : BitVec 32 := BitVec.ofNat 32 (i 0).val
  let v2080 : Index := Scalar.indexCast arg0
  let c4_1429 : Index := 4#32
  ![v2080.toNat, 4]
def k0_off782 (i : grid0.Coords) : Fin 3 → Nat :=
  let arg0 : BitVec 32 := BitVec.ofNat 32 (i 0).val
  let c512_i32_1431 : BitVec 32 := 512#32
  let c0_i32_1432 : BitVec 32 := 0#32
  ![arg0.toNat, 512, 0]
def k0_off783 (v2081 : BitVec 32) : Fin 3 → Nat :=
  let c0_i32_1433 : BitVec 32 := 0#32
  let c0_i32_1434 : BitVec 32 := 0#32
  ![v2081.toNat, 0, 0]

def k0_chk261 (v2081 : BitVec 32) : Prop :=
  (∀ a, (k0_off783 v2081) a + S1x128x128.size a ≤ S10240x128x128.size a)
theorem k0_off783_inb : ∀ (v2081 : BitVec 32) (k0_hw261 : k0_chk261 v2081), ∀ a, (k0_off783 v2081) a + S1x128x128.size a ≤ S10240x128x128.size a := fun v2081 k0_hw261 => k0_hw261

def k0_off784 (i : grid0.Coords) : Fin 2 → Nat :=
  let arg0 : BitVec 32 := BitVec.ofNat 32 (i 0).val
  let v2088 : Index := Scalar.indexCast arg0
  let c5_1435 : Index := 5#32
  ![v2088.toNat, 5]
def k0_off785 (i : grid0.Coords) : Fin 3 → Nat :=
  let arg0 : BitVec 32 := BitVec.ofNat 32 (i 0).val
  let c640_i32_1437 : BitVec 32 := 640#32
  let c0_i32_1438 : BitVec 32 := 0#32
  ![arg0.toNat, 640, 0]
def k0_off786 (v2089 : BitVec 32) : Fin 3 → Nat :=
  let c0_i32_1439 : BitVec 32 := 0#32
  let c0_i32_1440 : BitVec 32 := 0#32
  ![v2089.toNat, 0, 0]

def k0_chk262 (v2089 : BitVec 32) : Prop :=
  (∀ a, (k0_off786 v2089) a + S1x128x128.size a ≤ S10240x128x128.size a)
theorem k0_off786_inb : ∀ (v2089 : BitVec 32) (k0_hw262 : k0_chk262 v2089), ∀ a, (k0_off786 v2089) a + S1x128x128.size a ≤ S10240x128x128.size a := fun v2089 k0_hw262 => k0_hw262

def k0_off787 (i : grid0.Coords) : Fin 2 → Nat :=
  let arg0 : BitVec 32 := BitVec.ofNat 32 (i 0).val
  let v2096 : Index := Scalar.indexCast arg0
  let c6_1441 : Index := 6#32
  ![v2096.toNat, 6]
def k0_off788 (i : grid0.Coords) : Fin 3 → Nat :=
  let arg0 : BitVec 32 := BitVec.ofNat 32 (i 0).val
  let c768_i32_1443 : BitVec 32 := 768#32
  let c0_i32_1444 : BitVec 32 := 0#32
  ![arg0.toNat, 768, 0]
def k0_off789 (v2097 : BitVec 32) : Fin 3 → Nat :=
  let c0_i32_1445 : BitVec 32 := 0#32
  let c0_i32_1446 : BitVec 32 := 0#32
  ![v2097.toNat, 0, 0]

def k0_chk263 (v2097 : BitVec 32) : Prop :=
  (∀ a, (k0_off789 v2097) a + S1x128x128.size a ≤ S10240x128x128.size a)
theorem k0_off789_inb : ∀ (v2097 : BitVec 32) (k0_hw263 : k0_chk263 v2097), ∀ a, (k0_off789 v2097) a + S1x128x128.size a ≤ S10240x128x128.size a := fun v2097 k0_hw263 => k0_hw263

def k0_off790 (i : grid0.Coords) : Fin 2 → Nat :=
  let arg0 : BitVec 32 := BitVec.ofNat 32 (i 0).val
  let v2104 : Index := Scalar.indexCast arg0
  let c7_1447 : Index := 7#32
  ![v2104.toNat, 7]
def k0_off791 (i : grid0.Coords) : Fin 3 → Nat :=
  let arg0 : BitVec 32 := BitVec.ofNat 32 (i 0).val
  let c896_i32_1449 : BitVec 32 := 896#32
  let c0_i32_1450 : BitVec 32 := 0#32
  ![arg0.toNat, 896, 0]
def k0_off792 (v2105 : BitVec 32) : Fin 3 → Nat :=
  let c0_i32_1451 : BitVec 32 := 0#32
  let c0_i32_1452 : BitVec 32 := 0#32
  ![v2105.toNat, 0, 0]

def k0_chk264 (v2105 : BitVec 32) : Prop :=
  (∀ a, (k0_off792 v2105) a + S1x128x128.size a ≤ S10240x128x128.size a)
theorem k0_off792_inb : ∀ (v2105 : BitVec 32) (k0_hw264 : k0_chk264 v2105), ∀ a, (k0_off792 v2105) a + S1x128x128.size a ≤ S10240x128x128.size a := fun v2105 k0_hw264 => k0_hw264

def k0_off793 (i : grid0.Coords) : Fin 2 → Nat :=
  let arg0 : BitVec 32 := BitVec.ofNat 32 (i 0).val
  let v2112 : Index := Scalar.indexCast arg0
  let c8_1453 : Index := 8#32
  ![v2112.toNat, 8]
def k0_off794 (i : grid0.Coords) : Fin 3 → Nat :=
  let arg0 : BitVec 32 := BitVec.ofNat 32 (i 0).val
  let c1024_i32_1455 : BitVec 32 := 1024#32
  let c0_i32_1456 : BitVec 32 := 0#32
  ![arg0.toNat, 1024, 0]
def k0_off795 (v2113 : BitVec 32) : Fin 3 → Nat :=
  let c0_i32_1457 : BitVec 32 := 0#32
  let c0_i32_1458 : BitVec 32 := 0#32
  ![v2113.toNat, 0, 0]

def k0_chk265 (v2113 : BitVec 32) : Prop :=
  (∀ a, (k0_off795 v2113) a + S1x128x128.size a ≤ S10240x128x128.size a)
theorem k0_off795_inb : ∀ (v2113 : BitVec 32) (k0_hw265 : k0_chk265 v2113), ∀ a, (k0_off795 v2113) a + S1x128x128.size a ≤ S10240x128x128.size a := fun v2113 k0_hw265 => k0_hw265

def k0_off796 (i : grid0.Coords) : Fin 2 → Nat :=
  let arg0 : BitVec 32 := BitVec.ofNat 32 (i 0).val
  let v2120 : Index := Scalar.indexCast arg0
  let c9_1459 : Index := 9#32
  ![v2120.toNat, 9]
def k0_off797 (i : grid0.Coords) : Fin 3 → Nat :=
  let arg0 : BitVec 32 := BitVec.ofNat 32 (i 0).val
  let c1152_i32_1461 : BitVec 32 := 1152#32
  let c0_i32_1462 : BitVec 32 := 0#32
  ![arg0.toNat, 1152, 0]
def k0_off798 (v2121 : BitVec 32) : Fin 3 → Nat :=
  let c0_i32_1463 : BitVec 32 := 0#32
  let c0_i32_1464 : BitVec 32 := 0#32
  ![v2121.toNat, 0, 0]

def k0_chk266 (v2121 : BitVec 32) : Prop :=
  (∀ a, (k0_off798 v2121) a + S1x128x128.size a ≤ S10240x128x128.size a)
theorem k0_off798_inb : ∀ (v2121 : BitVec 32) (k0_hw266 : k0_chk266 v2121), ∀ a, (k0_off798 v2121) a + S1x128x128.size a ≤ S10240x128x128.size a := fun v2121 k0_hw266 => k0_hw266

def k0_off799 (i : grid0.Coords) : Fin 2 → Nat :=
  let arg0 : BitVec 32 := BitVec.ofNat 32 (i 0).val
  let v2128 : Index := Scalar.indexCast arg0
  let c10_1465 : Index := 10#32
  ![v2128.toNat, 10]
def k0_off800 (i : grid0.Coords) : Fin 3 → Nat :=
  let arg0 : BitVec 32 := BitVec.ofNat 32 (i 0).val
  let c1280_i32_1467 : BitVec 32 := 1280#32
  let c0_i32_1468 : BitVec 32 := 0#32
  ![arg0.toNat, 1280, 0]
def k0_off801 (v2129 : BitVec 32) : Fin 3 → Nat :=
  let c0_i32_1469 : BitVec 32 := 0#32
  let c0_i32_1470 : BitVec 32 := 0#32
  ![v2129.toNat, 0, 0]

def k0_chk267 (v2129 : BitVec 32) : Prop :=
  (∀ a, (k0_off801 v2129) a + S1x128x128.size a ≤ S10240x128x128.size a)
theorem k0_off801_inb : ∀ (v2129 : BitVec 32) (k0_hw267 : k0_chk267 v2129), ∀ a, (k0_off801 v2129) a + S1x128x128.size a ≤ S10240x128x128.size a := fun v2129 k0_hw267 => k0_hw267

def k0_off802 (i : grid0.Coords) : Fin 2 → Nat :=
  let arg0 : BitVec 32 := BitVec.ofNat 32 (i 0).val
  let v2136 : Index := Scalar.indexCast arg0
  let c11_1471 : Index := 11#32
  ![v2136.toNat, 11]
def k0_off803 (i : grid0.Coords) : Fin 3 → Nat :=
  let arg0 : BitVec 32 := BitVec.ofNat 32 (i 0).val
  let c1408_i32_1473 : BitVec 32 := 1408#32
  let c0_i32_1474 : BitVec 32 := 0#32
  ![arg0.toNat, 1408, 0]
def k0_off804 (v2137 : BitVec 32) : Fin 3 → Nat :=
  let c0_i32_1475 : BitVec 32 := 0#32
  let c0_i32_1476 : BitVec 32 := 0#32
  ![v2137.toNat, 0, 0]

def k0_chk268 (v2137 : BitVec 32) : Prop :=
  (∀ a, (k0_off804 v2137) a + S1x128x128.size a ≤ S10240x128x128.size a)
theorem k0_off804_inb : ∀ (v2137 : BitVec 32) (k0_hw268 : k0_chk268 v2137), ∀ a, (k0_off804 v2137) a + S1x128x128.size a ≤ S10240x128x128.size a := fun v2137 k0_hw268 => k0_hw268

def k0_off805 (i : grid0.Coords) : Fin 2 → Nat :=
  let arg0 : BitVec 32 := BitVec.ofNat 32 (i 0).val
  let v2144 : Index := Scalar.indexCast arg0
  let c12_1477 : Index := 12#32
  ![v2144.toNat, 12]
def k0_off806 (i : grid0.Coords) : Fin 3 → Nat :=
  let arg0 : BitVec 32 := BitVec.ofNat 32 (i 0).val
  let c1536_i32_1479 : BitVec 32 := 1536#32
  let c0_i32_1480 : BitVec 32 := 0#32
  ![arg0.toNat, 1536, 0]
def k0_off807 (v2145 : BitVec 32) : Fin 3 → Nat :=
  let c0_i32_1481 : BitVec 32 := 0#32
  let c0_i32_1482 : BitVec 32 := 0#32
  ![v2145.toNat, 0, 0]

def k0_chk269 (v2145 : BitVec 32) : Prop :=
  (∀ a, (k0_off807 v2145) a + S1x128x128.size a ≤ S10240x128x128.size a)
theorem k0_off807_inb : ∀ (v2145 : BitVec 32) (k0_hw269 : k0_chk269 v2145), ∀ a, (k0_off807 v2145) a + S1x128x128.size a ≤ S10240x128x128.size a := fun v2145 k0_hw269 => k0_hw269

def k0_off808 (i : grid0.Coords) : Fin 2 → Nat :=
  let arg0 : BitVec 32 := BitVec.ofNat 32 (i 0).val
  let v2152 : Index := Scalar.indexCast arg0
  let c13_1483 : Index := 13#32
  ![v2152.toNat, 13]
def k0_off809 (i : grid0.Coords) : Fin 3 → Nat :=
  let arg0 : BitVec 32 := BitVec.ofNat 32 (i 0).val
  let c1664_i32_1485 : BitVec 32 := 1664#32
  let c0_i32_1486 : BitVec 32 := 0#32
  ![arg0.toNat, 1664, 0]
def k0_off810 (v2153 : BitVec 32) : Fin 3 → Nat :=
  let c0_i32_1487 : BitVec 32 := 0#32
  let c0_i32_1488 : BitVec 32 := 0#32
  ![v2153.toNat, 0, 0]

def k0_chk270 (v2153 : BitVec 32) : Prop :=
  (∀ a, (k0_off810 v2153) a + S1x128x128.size a ≤ S10240x128x128.size a)
theorem k0_off810_inb : ∀ (v2153 : BitVec 32) (k0_hw270 : k0_chk270 v2153), ∀ a, (k0_off810 v2153) a + S1x128x128.size a ≤ S10240x128x128.size a := fun v2153 k0_hw270 => k0_hw270

def k0_off811 (i : grid0.Coords) : Fin 2 → Nat :=
  let arg0 : BitVec 32 := BitVec.ofNat 32 (i 0).val
  let v2160 : Index := Scalar.indexCast arg0
  let c14_1489 : Index := 14#32
  ![v2160.toNat, 14]
def k0_off812 (i : grid0.Coords) : Fin 3 → Nat :=
  let arg0 : BitVec 32 := BitVec.ofNat 32 (i 0).val
  let c1792_i32_1491 : BitVec 32 := 1792#32
  let c0_i32_1492 : BitVec 32 := 0#32
  ![arg0.toNat, 1792, 0]
def k0_off813 (v2161 : BitVec 32) : Fin 3 → Nat :=
  let c0_i32_1493 : BitVec 32 := 0#32
  let c0_i32_1494 : BitVec 32 := 0#32
  ![v2161.toNat, 0, 0]

def k0_chk271 (v2161 : BitVec 32) : Prop :=
  (∀ a, (k0_off813 v2161) a + S1x128x128.size a ≤ S10240x128x128.size a)
theorem k0_off813_inb : ∀ (v2161 : BitVec 32) (k0_hw271 : k0_chk271 v2161), ∀ a, (k0_off813 v2161) a + S1x128x128.size a ≤ S10240x128x128.size a := fun v2161 k0_hw271 => k0_hw271

def k0_off814 (i : grid0.Coords) : Fin 2 → Nat :=
  let arg0 : BitVec 32 := BitVec.ofNat 32 (i 0).val
  let v2168 : Index := Scalar.indexCast arg0
  let c15_1495 : Index := 15#32
  ![v2168.toNat, 15]
def k0_off815 (i : grid0.Coords) : Fin 3 → Nat :=
  let arg0 : BitVec 32 := BitVec.ofNat 32 (i 0).val
  let c1920_i32_1497 : BitVec 32 := 1920#32
  let c0_i32_1498 : BitVec 32 := 0#32
  ![arg0.toNat, 1920, 0]
def k0_off816 (v2169 : BitVec 32) : Fin 3 → Nat :=
  let c0_i32_1499 : BitVec 32 := 0#32
  let c0_i32_1500 : BitVec 32 := 0#32
  ![v2169.toNat, 0, 0]

def k0_chk272 (v2169 : BitVec 32) : Prop :=
  (∀ a, (k0_off816 v2169) a + S1x128x128.size a ≤ S10240x128x128.size a)
theorem k0_off816_inb : ∀ (v2169 : BitVec 32) (k0_hw272 : k0_chk272 v2169), ∀ a, (k0_off816 v2169) a + S1x128x128.size a ≤ S10240x128x128.size a := fun v2169 k0_hw272 => k0_hw272

def k0_off817 (i : grid0.Coords) : Fin 2 → Nat :=
  let arg0 : BitVec 32 := BitVec.ofNat 32 (i 0).val
  let v2176 : Index := Scalar.indexCast arg0
  let c16_1501 : Index := 16#32
  ![v2176.toNat, 16]
def k0_off818 (i : grid0.Coords) : Fin 3 → Nat :=
  let arg0 : BitVec 32 := BitVec.ofNat 32 (i 0).val
  let c2048_i32_1503 : BitVec 32 := 2048#32
  let c0_i32_1504 : BitVec 32 := 0#32
  ![arg0.toNat, 2048, 0]
def k0_off819 (v2177 : BitVec 32) : Fin 3 → Nat :=
  let c0_i32_1505 : BitVec 32 := 0#32
  let c0_i32_1506 : BitVec 32 := 0#32
  ![v2177.toNat, 0, 0]

def k0_chk273 (v2177 : BitVec 32) : Prop :=
  (∀ a, (k0_off819 v2177) a + S1x128x128.size a ≤ S10240x128x128.size a)
theorem k0_off819_inb : ∀ (v2177 : BitVec 32) (k0_hw273 : k0_chk273 v2177), ∀ a, (k0_off819 v2177) a + S1x128x128.size a ≤ S10240x128x128.size a := fun v2177 k0_hw273 => k0_hw273

def k0_off820 (i : grid0.Coords) : Fin 2 → Nat :=
  let arg0 : BitVec 32 := BitVec.ofNat 32 (i 0).val
  let v2184 : Index := Scalar.indexCast arg0
  let c17_1507 : Index := 17#32
  ![v2184.toNat, 17]
def k0_off821 (i : grid0.Coords) : Fin 3 → Nat :=
  let arg0 : BitVec 32 := BitVec.ofNat 32 (i 0).val
  let c2176_i32_1509 : BitVec 32 := 2176#32
  let c0_i32_1510 : BitVec 32 := 0#32
  ![arg0.toNat, 2176, 0]
def k0_off822 (v2185 : BitVec 32) : Fin 3 → Nat :=
  let c0_i32_1511 : BitVec 32 := 0#32
  let c0_i32_1512 : BitVec 32 := 0#32
  ![v2185.toNat, 0, 0]

def k0_chk274 (v2185 : BitVec 32) : Prop :=
  (∀ a, (k0_off822 v2185) a + S1x128x128.size a ≤ S10240x128x128.size a)
theorem k0_off822_inb : ∀ (v2185 : BitVec 32) (k0_hw274 : k0_chk274 v2185), ∀ a, (k0_off822 v2185) a + S1x128x128.size a ≤ S10240x128x128.size a := fun v2185 k0_hw274 => k0_hw274

def k0_off823 (i : grid0.Coords) : Fin 2 → Nat :=
  let arg0 : BitVec 32 := BitVec.ofNat 32 (i 0).val
  let v2192 : Index := Scalar.indexCast arg0
  let c18_1513 : Index := 18#32
  ![v2192.toNat, 18]
def k0_off824 (i : grid0.Coords) : Fin 3 → Nat :=
  let arg0 : BitVec 32 := BitVec.ofNat 32 (i 0).val
  let c2304_i32_1515 : BitVec 32 := 2304#32
  let c0_i32_1516 : BitVec 32 := 0#32
  ![arg0.toNat, 2304, 0]
def k0_off825 (v2193 : BitVec 32) : Fin 3 → Nat :=
  let c0_i32_1517 : BitVec 32 := 0#32
  let c0_i32_1518 : BitVec 32 := 0#32
  ![v2193.toNat, 0, 0]

def k0_chk275 (v2193 : BitVec 32) : Prop :=
  (∀ a, (k0_off825 v2193) a + S1x128x128.size a ≤ S10240x128x128.size a)
theorem k0_off825_inb : ∀ (v2193 : BitVec 32) (k0_hw275 : k0_chk275 v2193), ∀ a, (k0_off825 v2193) a + S1x128x128.size a ≤ S10240x128x128.size a := fun v2193 k0_hw275 => k0_hw275

def k0_off826 (i : grid0.Coords) : Fin 2 → Nat :=
  let arg0 : BitVec 32 := BitVec.ofNat 32 (i 0).val
  let v2200 : Index := Scalar.indexCast arg0
  let c19_1519 : Index := 19#32
  ![v2200.toNat, 19]
def k0_off827 (i : grid0.Coords) : Fin 3 → Nat :=
  let arg0 : BitVec 32 := BitVec.ofNat 32 (i 0).val
  let c2432_i32_1521 : BitVec 32 := 2432#32
  let c0_i32_1522 : BitVec 32 := 0#32
  ![arg0.toNat, 2432, 0]
def k0_off828 (v2201 : BitVec 32) : Fin 3 → Nat :=
  let c0_i32_1523 : BitVec 32 := 0#32
  let c0_i32_1524 : BitVec 32 := 0#32
  ![v2201.toNat, 0, 0]

def k0_chk276 (v2201 : BitVec 32) : Prop :=
  (∀ a, (k0_off828 v2201) a + S1x128x128.size a ≤ S10240x128x128.size a)
theorem k0_off828_inb : ∀ (v2201 : BitVec 32) (k0_hw276 : k0_chk276 v2201), ∀ a, (k0_off828 v2201) a + S1x128x128.size a ≤ S10240x128x128.size a := fun v2201 k0_hw276 => k0_hw276

def k0_off829 (i : grid0.Coords) : Fin 2 → Nat :=
  let arg0 : BitVec 32 := BitVec.ofNat 32 (i 0).val
  let v2208 : Index := Scalar.indexCast arg0
  let c20_1525 : Index := 20#32
  ![v2208.toNat, 20]
def k0_off830 (i : grid0.Coords) : Fin 3 → Nat :=
  let arg0 : BitVec 32 := BitVec.ofNat 32 (i 0).val
  let c2560_i32_1527 : BitVec 32 := 2560#32
  let c0_i32_1528 : BitVec 32 := 0#32
  ![arg0.toNat, 2560, 0]
def k0_off831 (v2209 : BitVec 32) : Fin 3 → Nat :=
  let c0_i32_1529 : BitVec 32 := 0#32
  let c0_i32_1530 : BitVec 32 := 0#32
  ![v2209.toNat, 0, 0]

def k0_chk277 (v2209 : BitVec 32) : Prop :=
  (∀ a, (k0_off831 v2209) a + S1x128x128.size a ≤ S10240x128x128.size a)
theorem k0_off831_inb : ∀ (v2209 : BitVec 32) (k0_hw277 : k0_chk277 v2209), ∀ a, (k0_off831 v2209) a + S1x128x128.size a ≤ S10240x128x128.size a := fun v2209 k0_hw277 => k0_hw277

def k0_off832 (i : grid0.Coords) : Fin 2 → Nat :=
  let arg0 : BitVec 32 := BitVec.ofNat 32 (i 0).val
  let v2216 : Index := Scalar.indexCast arg0
  let c21_1531 : Index := 21#32
  ![v2216.toNat, 21]
def k0_off833 (i : grid0.Coords) : Fin 3 → Nat :=
  let arg0 : BitVec 32 := BitVec.ofNat 32 (i 0).val
  let c2688_i32_1533 : BitVec 32 := 2688#32
  let c0_i32_1534 : BitVec 32 := 0#32
  ![arg0.toNat, 2688, 0]
def k0_off834 (v2217 : BitVec 32) : Fin 3 → Nat :=
  let c0_i32_1535 : BitVec 32 := 0#32
  let c0_i32_1536 : BitVec 32 := 0#32
  ![v2217.toNat, 0, 0]

def k0_chk278 (v2217 : BitVec 32) : Prop :=
  (∀ a, (k0_off834 v2217) a + S1x128x128.size a ≤ S10240x128x128.size a)
theorem k0_off834_inb : ∀ (v2217 : BitVec 32) (k0_hw278 : k0_chk278 v2217), ∀ a, (k0_off834 v2217) a + S1x128x128.size a ≤ S10240x128x128.size a := fun v2217 k0_hw278 => k0_hw278

def k0_off835 (i : grid0.Coords) : Fin 2 → Nat :=
  let arg0 : BitVec 32 := BitVec.ofNat 32 (i 0).val
  let v2224 : Index := Scalar.indexCast arg0
  let c22_1537 : Index := 22#32
  ![v2224.toNat, 22]
def k0_off836 (i : grid0.Coords) : Fin 3 → Nat :=
  let arg0 : BitVec 32 := BitVec.ofNat 32 (i 0).val
  let c2816_i32_1539 : BitVec 32 := 2816#32
  let c0_i32_1540 : BitVec 32 := 0#32
  ![arg0.toNat, 2816, 0]
def k0_off837 (v2225 : BitVec 32) : Fin 3 → Nat :=
  let c0_i32_1541 : BitVec 32 := 0#32
  let c0_i32_1542 : BitVec 32 := 0#32
  ![v2225.toNat, 0, 0]

def k0_chk279 (v2225 : BitVec 32) : Prop :=
  (∀ a, (k0_off837 v2225) a + S1x128x128.size a ≤ S10240x128x128.size a)
theorem k0_off837_inb : ∀ (v2225 : BitVec 32) (k0_hw279 : k0_chk279 v2225), ∀ a, (k0_off837 v2225) a + S1x128x128.size a ≤ S10240x128x128.size a := fun v2225 k0_hw279 => k0_hw279

def k0_off838 (i : grid0.Coords) : Fin 2 → Nat :=
  let arg0 : BitVec 32 := BitVec.ofNat 32 (i 0).val
  let v2232 : Index := Scalar.indexCast arg0
  let c23_1543 : Index := 23#32
  ![v2232.toNat, 23]
def k0_off839 (i : grid0.Coords) : Fin 3 → Nat :=
  let arg0 : BitVec 32 := BitVec.ofNat 32 (i 0).val
  let c2944_i32_1545 : BitVec 32 := 2944#32
  let c0_i32_1546 : BitVec 32 := 0#32
  ![arg0.toNat, 2944, 0]
def k0_off840 (v2233 : BitVec 32) : Fin 3 → Nat :=
  let c0_i32_1547 : BitVec 32 := 0#32
  let c0_i32_1548 : BitVec 32 := 0#32
  ![v2233.toNat, 0, 0]

def k0_chk280 (v2233 : BitVec 32) : Prop :=
  (∀ a, (k0_off840 v2233) a + S1x128x128.size a ≤ S10240x128x128.size a)
theorem k0_off840_inb : ∀ (v2233 : BitVec 32) (k0_hw280 : k0_chk280 v2233), ∀ a, (k0_off840 v2233) a + S1x128x128.size a ≤ S10240x128x128.size a := fun v2233 k0_hw280 => k0_hw280

def k0_off841 (i : grid0.Coords) : Fin 2 → Nat :=
  let arg0 : BitVec 32 := BitVec.ofNat 32 (i 0).val
  let v2240 : Index := Scalar.indexCast arg0
  let c24_1549 : Index := 24#32
  ![v2240.toNat, 24]
def k0_off842 (i : grid0.Coords) : Fin 3 → Nat :=
  let arg0 : BitVec 32 := BitVec.ofNat 32 (i 0).val
  let c3072_i32_1551 : BitVec 32 := 3072#32
  let c0_i32_1552 : BitVec 32 := 0#32
  ![arg0.toNat, 3072, 0]
def k0_off843 (v2241 : BitVec 32) : Fin 3 → Nat :=
  let c0_i32_1553 : BitVec 32 := 0#32
  let c0_i32_1554 : BitVec 32 := 0#32
  ![v2241.toNat, 0, 0]

def k0_chk281 (v2241 : BitVec 32) : Prop :=
  (∀ a, (k0_off843 v2241) a + S1x128x128.size a ≤ S10240x128x128.size a)
theorem k0_off843_inb : ∀ (v2241 : BitVec 32) (k0_hw281 : k0_chk281 v2241), ∀ a, (k0_off843 v2241) a + S1x128x128.size a ≤ S10240x128x128.size a := fun v2241 k0_hw281 => k0_hw281

def k0_off844 (i : grid0.Coords) : Fin 2 → Nat :=
  let arg0 : BitVec 32 := BitVec.ofNat 32 (i 0).val
  let v2248 : Index := Scalar.indexCast arg0
  let c25_1555 : Index := 25#32
  ![v2248.toNat, 25]
def k0_off845 (i : grid0.Coords) : Fin 3 → Nat :=
  let arg0 : BitVec 32 := BitVec.ofNat 32 (i 0).val
  let c3200_i32_1557 : BitVec 32 := 3200#32
  let c0_i32_1558 : BitVec 32 := 0#32
  ![arg0.toNat, 3200, 0]
def k0_off846 (v2249 : BitVec 32) : Fin 3 → Nat :=
  let c0_i32_1559 : BitVec 32 := 0#32
  let c0_i32_1560 : BitVec 32 := 0#32
  ![v2249.toNat, 0, 0]

def k0_chk282 (v2249 : BitVec 32) : Prop :=
  (∀ a, (k0_off846 v2249) a + S1x128x128.size a ≤ S10240x128x128.size a)
theorem k0_off846_inb : ∀ (v2249 : BitVec 32) (k0_hw282 : k0_chk282 v2249), ∀ a, (k0_off846 v2249) a + S1x128x128.size a ≤ S10240x128x128.size a := fun v2249 k0_hw282 => k0_hw282

def k0_off847 (i : grid0.Coords) : Fin 2 → Nat :=
  let arg0 : BitVec 32 := BitVec.ofNat 32 (i 0).val
  let v2256 : Index := Scalar.indexCast arg0
  let c26_1561 : Index := 26#32
  ![v2256.toNat, 26]
def k0_off848 (i : grid0.Coords) : Fin 3 → Nat :=
  let arg0 : BitVec 32 := BitVec.ofNat 32 (i 0).val
  let c3328_i32_1563 : BitVec 32 := 3328#32
  let c0_i32_1564 : BitVec 32 := 0#32
  ![arg0.toNat, 3328, 0]
def k0_off849 (v2257 : BitVec 32) : Fin 3 → Nat :=
  let c0_i32_1565 : BitVec 32 := 0#32
  let c0_i32_1566 : BitVec 32 := 0#32
  ![v2257.toNat, 0, 0]

def k0_chk283 (v2257 : BitVec 32) : Prop :=
  (∀ a, (k0_off849 v2257) a + S1x128x128.size a ≤ S10240x128x128.size a)
theorem k0_off849_inb : ∀ (v2257 : BitVec 32) (k0_hw283 : k0_chk283 v2257), ∀ a, (k0_off849 v2257) a + S1x128x128.size a ≤ S10240x128x128.size a := fun v2257 k0_hw283 => k0_hw283

def k0_off850 (i : grid0.Coords) : Fin 2 → Nat :=
  let arg0 : BitVec 32 := BitVec.ofNat 32 (i 0).val
  let v2264 : Index := Scalar.indexCast arg0
  let c27_1567 : Index := 27#32
  ![v2264.toNat, 27]
def k0_off851 (i : grid0.Coords) : Fin 3 → Nat :=
  let arg0 : BitVec 32 := BitVec.ofNat 32 (i 0).val
  let c3456_i32_1569 : BitVec 32 := 3456#32
  let c0_i32_1570 : BitVec 32 := 0#32
  ![arg0.toNat, 3456, 0]
def k0_off852 (v2265 : BitVec 32) : Fin 3 → Nat :=
  let c0_i32_1571 : BitVec 32 := 0#32
  let c0_i32_1572 : BitVec 32 := 0#32
  ![v2265.toNat, 0, 0]

def k0_chk284 (v2265 : BitVec 32) : Prop :=
  (∀ a, (k0_off852 v2265) a + S1x128x128.size a ≤ S10240x128x128.size a)
theorem k0_off852_inb : ∀ (v2265 : BitVec 32) (k0_hw284 : k0_chk284 v2265), ∀ a, (k0_off852 v2265) a + S1x128x128.size a ≤ S10240x128x128.size a := fun v2265 k0_hw284 => k0_hw284

def k0_off853 (i : grid0.Coords) : Fin 2 → Nat :=
  let arg0 : BitVec 32 := BitVec.ofNat 32 (i 0).val
  let v2272 : Index := Scalar.indexCast arg0
  let c28_1573 : Index := 28#32
  ![v2272.toNat, 28]
def k0_off854 (i : grid0.Coords) : Fin 3 → Nat :=
  let arg0 : BitVec 32 := BitVec.ofNat 32 (i 0).val
  let c3584_i32_1575 : BitVec 32 := 3584#32
  let c0_i32_1576 : BitVec 32 := 0#32
  ![arg0.toNat, 3584, 0]
def k0_off855 (v2273 : BitVec 32) : Fin 3 → Nat :=
  let c0_i32_1577 : BitVec 32 := 0#32
  let c0_i32_1578 : BitVec 32 := 0#32
  ![v2273.toNat, 0, 0]

def k0_chk285 (v2273 : BitVec 32) : Prop :=
  (∀ a, (k0_off855 v2273) a + S1x128x128.size a ≤ S10240x128x128.size a)
theorem k0_off855_inb : ∀ (v2273 : BitVec 32) (k0_hw285 : k0_chk285 v2273), ∀ a, (k0_off855 v2273) a + S1x128x128.size a ≤ S10240x128x128.size a := fun v2273 k0_hw285 => k0_hw285

def k0_off856 (i : grid0.Coords) : Fin 2 → Nat :=
  let arg0 : BitVec 32 := BitVec.ofNat 32 (i 0).val
  let v2280 : Index := Scalar.indexCast arg0
  let c29_1579 : Index := 29#32
  ![v2280.toNat, 29]
def k0_off857 (i : grid0.Coords) : Fin 3 → Nat :=
  let arg0 : BitVec 32 := BitVec.ofNat 32 (i 0).val
  let c3712_i32_1581 : BitVec 32 := 3712#32
  let c0_i32_1582 : BitVec 32 := 0#32
  ![arg0.toNat, 3712, 0]
def k0_off858 (v2281 : BitVec 32) : Fin 3 → Nat :=
  let c0_i32_1583 : BitVec 32 := 0#32
  let c0_i32_1584 : BitVec 32 := 0#32
  ![v2281.toNat, 0, 0]

def k0_chk286 (v2281 : BitVec 32) : Prop :=
  (∀ a, (k0_off858 v2281) a + S1x128x128.size a ≤ S10240x128x128.size a)
theorem k0_off858_inb : ∀ (v2281 : BitVec 32) (k0_hw286 : k0_chk286 v2281), ∀ a, (k0_off858 v2281) a + S1x128x128.size a ≤ S10240x128x128.size a := fun v2281 k0_hw286 => k0_hw286

def k0_off859 (i : grid0.Coords) : Fin 2 → Nat :=
  let arg0 : BitVec 32 := BitVec.ofNat 32 (i 0).val
  let v2288 : Index := Scalar.indexCast arg0
  let c30_1585 : Index := 30#32
  ![v2288.toNat, 30]
def k0_off860 (i : grid0.Coords) : Fin 3 → Nat :=
  let arg0 : BitVec 32 := BitVec.ofNat 32 (i 0).val
  let c3840_i32_1587 : BitVec 32 := 3840#32
  let c0_i32_1588 : BitVec 32 := 0#32
  ![arg0.toNat, 3840, 0]
def k0_off861 (v2289 : BitVec 32) : Fin 3 → Nat :=
  let c0_i32_1589 : BitVec 32 := 0#32
  let c0_i32_1590 : BitVec 32 := 0#32
  ![v2289.toNat, 0, 0]

def k0_chk287 (v2289 : BitVec 32) : Prop :=
  (∀ a, (k0_off861 v2289) a + S1x128x128.size a ≤ S10240x128x128.size a)
theorem k0_off861_inb : ∀ (v2289 : BitVec 32) (k0_hw287 : k0_chk287 v2289), ∀ a, (k0_off861 v2289) a + S1x128x128.size a ≤ S10240x128x128.size a := fun v2289 k0_hw287 => k0_hw287

def k0_off862 (i : grid0.Coords) : Fin 2 → Nat :=
  let arg0 : BitVec 32 := BitVec.ofNat 32 (i 0).val
  let v2296 : Index := Scalar.indexCast arg0
  let c31_1591 : Index := 31#32
  ![v2296.toNat, 31]
def k0_off863 (i : grid0.Coords) : Fin 3 → Nat :=
  let arg0 : BitVec 32 := BitVec.ofNat 32 (i 0).val
  let c3968_i32_1593 : BitVec 32 := 3968#32
  let c0_i32_1594 : BitVec 32 := 0#32
  ![arg0.toNat, 3968, 0]
def k0_off864 (v2297 : BitVec 32) : Fin 3 → Nat :=
  let c0_i32_1595 : BitVec 32 := 0#32
  let c0_i32_1596 : BitVec 32 := 0#32
  ![v2297.toNat, 0, 0]

def k0_chk288 (v2297 : BitVec 32) : Prop :=
  (∀ a, (k0_off864 v2297) a + S1x128x128.size a ≤ S10240x128x128.size a)
theorem k0_off864_inb : ∀ (v2297 : BitVec 32) (k0_hw288 : k0_chk288 v2297), ∀ a, (k0_off864 v2297) a + S1x128x128.size a ≤ S10240x128x128.size a := fun v2297 k0_hw288 => k0_hw288

def k0_off865 (i : grid0.Coords) : Fin 2 → Nat :=
  let arg0 : BitVec 32 := BitVec.ofNat 32 (i 0).val
  let v2304 : Index := Scalar.indexCast arg0
  let c32_1597 : Index := 32#32
  ![v2304.toNat, 32]
def k0_off866 (i : grid0.Coords) : Fin 3 → Nat :=
  let arg0 : BitVec 32 := BitVec.ofNat 32 (i 0).val
  let c4096_i32_1599 : BitVec 32 := 4096#32
  let c0_i32_1600 : BitVec 32 := 0#32
  ![arg0.toNat, 4096, 0]
def k0_off867 (v2305 : BitVec 32) : Fin 3 → Nat :=
  let c0_i32_1601 : BitVec 32 := 0#32
  let c0_i32_1602 : BitVec 32 := 0#32
  ![v2305.toNat, 0, 0]

def k0_chk289 (v2305 : BitVec 32) : Prop :=
  (∀ a, (k0_off867 v2305) a + S1x128x128.size a ≤ S10240x128x128.size a)
theorem k0_off867_inb : ∀ (v2305 : BitVec 32) (k0_hw289 : k0_chk289 v2305), ∀ a, (k0_off867 v2305) a + S1x128x128.size a ≤ S10240x128x128.size a := fun v2305 k0_hw289 => k0_hw289

def k0_off868 (i : grid0.Coords) : Fin 2 → Nat :=
  let arg0 : BitVec 32 := BitVec.ofNat 32 (i 0).val
  let v2312 : Index := Scalar.indexCast arg0
  let c33_1603 : Index := 33#32
  ![v2312.toNat, 33]
def k0_off869 (i : grid0.Coords) : Fin 3 → Nat :=
  let arg0 : BitVec 32 := BitVec.ofNat 32 (i 0).val
  let c4224_i32_1605 : BitVec 32 := 4224#32
  let c0_i32_1606 : BitVec 32 := 0#32
  ![arg0.toNat, 4224, 0]
def k0_off870 (v2313 : BitVec 32) : Fin 3 → Nat :=
  let c0_i32_1607 : BitVec 32 := 0#32
  let c0_i32_1608 : BitVec 32 := 0#32
  ![v2313.toNat, 0, 0]

def k0_chk290 (v2313 : BitVec 32) : Prop :=
  (∀ a, (k0_off870 v2313) a + S1x128x128.size a ≤ S10240x128x128.size a)
theorem k0_off870_inb : ∀ (v2313 : BitVec 32) (k0_hw290 : k0_chk290 v2313), ∀ a, (k0_off870 v2313) a + S1x128x128.size a ≤ S10240x128x128.size a := fun v2313 k0_hw290 => k0_hw290

def k0_off871 (i : grid0.Coords) : Fin 2 → Nat :=
  let arg0 : BitVec 32 := BitVec.ofNat 32 (i 0).val
  let v2320 : Index := Scalar.indexCast arg0
  let c34_1609 : Index := 34#32
  ![v2320.toNat, 34]
def k0_off872 (i : grid0.Coords) : Fin 3 → Nat :=
  let arg0 : BitVec 32 := BitVec.ofNat 32 (i 0).val
  let c4352_i32_1611 : BitVec 32 := 4352#32
  let c0_i32_1612 : BitVec 32 := 0#32
  ![arg0.toNat, 4352, 0]
def k0_off873 (v2321 : BitVec 32) : Fin 3 → Nat :=
  let c0_i32_1613 : BitVec 32 := 0#32
  let c0_i32_1614 : BitVec 32 := 0#32
  ![v2321.toNat, 0, 0]

def k0_chk291 (v2321 : BitVec 32) : Prop :=
  (∀ a, (k0_off873 v2321) a + S1x128x128.size a ≤ S10240x128x128.size a)
theorem k0_off873_inb : ∀ (v2321 : BitVec 32) (k0_hw291 : k0_chk291 v2321), ∀ a, (k0_off873 v2321) a + S1x128x128.size a ≤ S10240x128x128.size a := fun v2321 k0_hw291 => k0_hw291

def k0_off874 (i : grid0.Coords) : Fin 2 → Nat :=
  let arg0 : BitVec 32 := BitVec.ofNat 32 (i 0).val
  let v2328 : Index := Scalar.indexCast arg0
  let c35_1615 : Index := 35#32
  ![v2328.toNat, 35]
def k0_off875 (i : grid0.Coords) : Fin 3 → Nat :=
  let arg0 : BitVec 32 := BitVec.ofNat 32 (i 0).val
  let c4480_i32_1617 : BitVec 32 := 4480#32
  let c0_i32_1618 : BitVec 32 := 0#32
  ![arg0.toNat, 4480, 0]
def k0_off876 (v2329 : BitVec 32) : Fin 3 → Nat :=
  let c0_i32_1619 : BitVec 32 := 0#32
  let c0_i32_1620 : BitVec 32 := 0#32
  ![v2329.toNat, 0, 0]

def k0_chk292 (v2329 : BitVec 32) : Prop :=
  (∀ a, (k0_off876 v2329) a + S1x128x128.size a ≤ S10240x128x128.size a)
theorem k0_off876_inb : ∀ (v2329 : BitVec 32) (k0_hw292 : k0_chk292 v2329), ∀ a, (k0_off876 v2329) a + S1x128x128.size a ≤ S10240x128x128.size a := fun v2329 k0_hw292 => k0_hw292

def k0_off877 (i : grid0.Coords) : Fin 2 → Nat :=
  let arg0 : BitVec 32 := BitVec.ofNat 32 (i 0).val
  let v2336 : Index := Scalar.indexCast arg0
  let c36_1621 : Index := 36#32
  ![v2336.toNat, 36]
def k0_off878 (i : grid0.Coords) : Fin 3 → Nat :=
  let arg0 : BitVec 32 := BitVec.ofNat 32 (i 0).val
  let c4608_i32_1623 : BitVec 32 := 4608#32
  let c0_i32_1624 : BitVec 32 := 0#32
  ![arg0.toNat, 4608, 0]
def k0_off879 (v2337 : BitVec 32) : Fin 3 → Nat :=
  let c0_i32_1625 : BitVec 32 := 0#32
  let c0_i32_1626 : BitVec 32 := 0#32
  ![v2337.toNat, 0, 0]

def k0_chk293 (v2337 : BitVec 32) : Prop :=
  (∀ a, (k0_off879 v2337) a + S1x128x128.size a ≤ S10240x128x128.size a)
theorem k0_off879_inb : ∀ (v2337 : BitVec 32) (k0_hw293 : k0_chk293 v2337), ∀ a, (k0_off879 v2337) a + S1x128x128.size a ≤ S10240x128x128.size a := fun v2337 k0_hw293 => k0_hw293

def k0_off880 (i : grid0.Coords) : Fin 2 → Nat :=
  let arg0 : BitVec 32 := BitVec.ofNat 32 (i 0).val
  let v2344 : Index := Scalar.indexCast arg0
  let c37_1627 : Index := 37#32
  ![v2344.toNat, 37]
def k0_off881 (i : grid0.Coords) : Fin 3 → Nat :=
  let arg0 : BitVec 32 := BitVec.ofNat 32 (i 0).val
  let c4736_i32_1629 : BitVec 32 := 4736#32
  let c0_i32_1630 : BitVec 32 := 0#32
  ![arg0.toNat, 4736, 0]
def k0_off882 (v2345 : BitVec 32) : Fin 3 → Nat :=
  let c0_i32_1631 : BitVec 32 := 0#32
  let c0_i32_1632 : BitVec 32 := 0#32
  ![v2345.toNat, 0, 0]

def k0_chk294 (v2345 : BitVec 32) : Prop :=
  (∀ a, (k0_off882 v2345) a + S1x128x128.size a ≤ S10240x128x128.size a)
theorem k0_off882_inb : ∀ (v2345 : BitVec 32) (k0_hw294 : k0_chk294 v2345), ∀ a, (k0_off882 v2345) a + S1x128x128.size a ≤ S10240x128x128.size a := fun v2345 k0_hw294 => k0_hw294

def k0_off883 (i : grid0.Coords) : Fin 2 → Nat :=
  let arg0 : BitVec 32 := BitVec.ofNat 32 (i 0).val
  let v2352 : Index := Scalar.indexCast arg0
  let c38_1633 : Index := 38#32
  ![v2352.toNat, 38]
def k0_off884 (i : grid0.Coords) : Fin 3 → Nat :=
  let arg0 : BitVec 32 := BitVec.ofNat 32 (i 0).val
  let c4864_i32_1635 : BitVec 32 := 4864#32
  let c0_i32_1636 : BitVec 32 := 0#32
  ![arg0.toNat, 4864, 0]
def k0_off885 (v2353 : BitVec 32) : Fin 3 → Nat :=
  let c0_i32_1637 : BitVec 32 := 0#32
  let c0_i32_1638 : BitVec 32 := 0#32
  ![v2353.toNat, 0, 0]

def k0_chk295 (v2353 : BitVec 32) : Prop :=
  (∀ a, (k0_off885 v2353) a + S1x128x128.size a ≤ S10240x128x128.size a)
theorem k0_off885_inb : ∀ (v2353 : BitVec 32) (k0_hw295 : k0_chk295 v2353), ∀ a, (k0_off885 v2353) a + S1x128x128.size a ≤ S10240x128x128.size a := fun v2353 k0_hw295 => k0_hw295

def k0_off886 (i : grid0.Coords) : Fin 2 → Nat :=
  let arg0 : BitVec 32 := BitVec.ofNat 32 (i 0).val
  let v2360 : Index := Scalar.indexCast arg0
  let c39_1639 : Index := 39#32
  ![v2360.toNat, 39]
def k0_off887 (i : grid0.Coords) : Fin 3 → Nat :=
  let arg0 : BitVec 32 := BitVec.ofNat 32 (i 0).val
  let c4992_i32_1641 : BitVec 32 := 4992#32
  let c0_i32_1642 : BitVec 32 := 0#32
  ![arg0.toNat, 4992, 0]
def k0_off888 (v2361 : BitVec 32) : Fin 3 → Nat :=
  let c0_i32_1643 : BitVec 32 := 0#32
  let c0_i32_1644 : BitVec 32 := 0#32
  ![v2361.toNat, 0, 0]

def k0_chk296 (v2361 : BitVec 32) : Prop :=
  (∀ a, (k0_off888 v2361) a + S1x128x128.size a ≤ S10240x128x128.size a)
theorem k0_off888_inb : ∀ (v2361 : BitVec 32) (k0_hw296 : k0_chk296 v2361), ∀ a, (k0_off888 v2361) a + S1x128x128.size a ≤ S10240x128x128.size a := fun v2361 k0_hw296 => k0_hw296

def k0_off889 (i : grid0.Coords) : Fin 2 → Nat :=
  let arg0 : BitVec 32 := BitVec.ofNat 32 (i 0).val
  let v2368 : Index := Scalar.indexCast arg0
  let c40_1645 : Index := 40#32
  ![v2368.toNat, 40]
def k0_off890 (i : grid0.Coords) : Fin 3 → Nat :=
  let arg0 : BitVec 32 := BitVec.ofNat 32 (i 0).val
  let c5120_i32_1647 : BitVec 32 := 5120#32
  let c0_i32_1648 : BitVec 32 := 0#32
  ![arg0.toNat, 5120, 0]
def k0_off891 (v2369 : BitVec 32) : Fin 3 → Nat :=
  let c0_i32_1649 : BitVec 32 := 0#32
  let c0_i32_1650 : BitVec 32 := 0#32
  ![v2369.toNat, 0, 0]

def k0_chk297 (v2369 : BitVec 32) : Prop :=
  (∀ a, (k0_off891 v2369) a + S1x128x128.size a ≤ S10240x128x128.size a)
theorem k0_off891_inb : ∀ (v2369 : BitVec 32) (k0_hw297 : k0_chk297 v2369), ∀ a, (k0_off891 v2369) a + S1x128x128.size a ≤ S10240x128x128.size a := fun v2369 k0_hw297 => k0_hw297

def k0_off892 (i : grid0.Coords) : Fin 2 → Nat :=
  let arg0 : BitVec 32 := BitVec.ofNat 32 (i 0).val
  let v2376 : Index := Scalar.indexCast arg0
  let c41_1651 : Index := 41#32
  ![v2376.toNat, 41]
def k0_off893 (i : grid0.Coords) : Fin 3 → Nat :=
  let arg0 : BitVec 32 := BitVec.ofNat 32 (i 0).val
  let c5248_i32_1653 : BitVec 32 := 5248#32
  let c0_i32_1654 : BitVec 32 := 0#32
  ![arg0.toNat, 5248, 0]
def k0_off894 (v2377 : BitVec 32) : Fin 3 → Nat :=
  let c0_i32_1655 : BitVec 32 := 0#32
  let c0_i32_1656 : BitVec 32 := 0#32
  ![v2377.toNat, 0, 0]

def k0_chk298 (v2377 : BitVec 32) : Prop :=
  (∀ a, (k0_off894 v2377) a + S1x128x128.size a ≤ S10240x128x128.size a)
theorem k0_off894_inb : ∀ (v2377 : BitVec 32) (k0_hw298 : k0_chk298 v2377), ∀ a, (k0_off894 v2377) a + S1x128x128.size a ≤ S10240x128x128.size a := fun v2377 k0_hw298 => k0_hw298

def k0_off895 (i : grid0.Coords) : Fin 2 → Nat :=
  let arg0 : BitVec 32 := BitVec.ofNat 32 (i 0).val
  let v2384 : Index := Scalar.indexCast arg0
  let c42_1657 : Index := 42#32
  ![v2384.toNat, 42]
def k0_off896 (i : grid0.Coords) : Fin 3 → Nat :=
  let arg0 : BitVec 32 := BitVec.ofNat 32 (i 0).val
  let c5376_i32_1659 : BitVec 32 := 5376#32
  let c0_i32_1660 : BitVec 32 := 0#32
  ![arg0.toNat, 5376, 0]
def k0_off897 (v2385 : BitVec 32) : Fin 3 → Nat :=
  let c0_i32_1661 : BitVec 32 := 0#32
  let c0_i32_1662 : BitVec 32 := 0#32
  ![v2385.toNat, 0, 0]

def k0_chk299 (v2385 : BitVec 32) : Prop :=
  (∀ a, (k0_off897 v2385) a + S1x128x128.size a ≤ S10240x128x128.size a)
theorem k0_off897_inb : ∀ (v2385 : BitVec 32) (k0_hw299 : k0_chk299 v2385), ∀ a, (k0_off897 v2385) a + S1x128x128.size a ≤ S10240x128x128.size a := fun v2385 k0_hw299 => k0_hw299

def k0_off898 (i : grid0.Coords) : Fin 2 → Nat :=
  let arg0 : BitVec 32 := BitVec.ofNat 32 (i 0).val
  let v2392 : Index := Scalar.indexCast arg0
  let c43_1663 : Index := 43#32
  ![v2392.toNat, 43]
def k0_off899 (i : grid0.Coords) : Fin 3 → Nat :=
  let arg0 : BitVec 32 := BitVec.ofNat 32 (i 0).val
  let c5504_i32_1665 : BitVec 32 := 5504#32
  let c0_i32_1666 : BitVec 32 := 0#32
  ![arg0.toNat, 5504, 0]
def k0_off900 (v2393 : BitVec 32) : Fin 3 → Nat :=
  let c0_i32_1667 : BitVec 32 := 0#32
  let c0_i32_1668 : BitVec 32 := 0#32
  ![v2393.toNat, 0, 0]

def k0_chk300 (v2393 : BitVec 32) : Prop :=
  (∀ a, (k0_off900 v2393) a + S1x128x128.size a ≤ S10240x128x128.size a)
theorem k0_off900_inb : ∀ (v2393 : BitVec 32) (k0_hw300 : k0_chk300 v2393), ∀ a, (k0_off900 v2393) a + S1x128x128.size a ≤ S10240x128x128.size a := fun v2393 k0_hw300 => k0_hw300

def k0_off901 (i : grid0.Coords) : Fin 2 → Nat :=
  let arg0 : BitVec 32 := BitVec.ofNat 32 (i 0).val
  let v2400 : Index := Scalar.indexCast arg0
  let c44_1669 : Index := 44#32
  ![v2400.toNat, 44]
def k0_off902 (i : grid0.Coords) : Fin 3 → Nat :=
  let arg0 : BitVec 32 := BitVec.ofNat 32 (i 0).val
  let c5632_i32_1671 : BitVec 32 := 5632#32
  let c0_i32_1672 : BitVec 32 := 0#32
  ![arg0.toNat, 5632, 0]
def k0_off903 (v2401 : BitVec 32) : Fin 3 → Nat :=
  let c0_i32_1673 : BitVec 32 := 0#32
  let c0_i32_1674 : BitVec 32 := 0#32
  ![v2401.toNat, 0, 0]

def k0_chk301 (v2401 : BitVec 32) : Prop :=
  (∀ a, (k0_off903 v2401) a + S1x128x128.size a ≤ S10240x128x128.size a)
theorem k0_off903_inb : ∀ (v2401 : BitVec 32) (k0_hw301 : k0_chk301 v2401), ∀ a, (k0_off903 v2401) a + S1x128x128.size a ≤ S10240x128x128.size a := fun v2401 k0_hw301 => k0_hw301

def k0_off904 (i : grid0.Coords) : Fin 2 → Nat :=
  let arg0 : BitVec 32 := BitVec.ofNat 32 (i 0).val
  let v2408 : Index := Scalar.indexCast arg0
  let c45_1675 : Index := 45#32
  ![v2408.toNat, 45]
def k0_off905 (i : grid0.Coords) : Fin 3 → Nat :=
  let arg0 : BitVec 32 := BitVec.ofNat 32 (i 0).val
  let c5760_i32_1677 : BitVec 32 := 5760#32
  let c0_i32_1678 : BitVec 32 := 0#32
  ![arg0.toNat, 5760, 0]
def k0_off906 (v2409 : BitVec 32) : Fin 3 → Nat :=
  let c0_i32_1679 : BitVec 32 := 0#32
  let c0_i32_1680 : BitVec 32 := 0#32
  ![v2409.toNat, 0, 0]

def k0_chk302 (v2409 : BitVec 32) : Prop :=
  (∀ a, (k0_off906 v2409) a + S1x128x128.size a ≤ S10240x128x128.size a)
theorem k0_off906_inb : ∀ (v2409 : BitVec 32) (k0_hw302 : k0_chk302 v2409), ∀ a, (k0_off906 v2409) a + S1x128x128.size a ≤ S10240x128x128.size a := fun v2409 k0_hw302 => k0_hw302

def k0_off907 (i : grid0.Coords) : Fin 2 → Nat :=
  let arg0 : BitVec 32 := BitVec.ofNat 32 (i 0).val
  let v2416 : Index := Scalar.indexCast arg0
  let c46_1681 : Index := 46#32
  ![v2416.toNat, 46]
def k0_off908 (i : grid0.Coords) : Fin 3 → Nat :=
  let arg0 : BitVec 32 := BitVec.ofNat 32 (i 0).val
  let c5888_i32_1683 : BitVec 32 := 5888#32
  let c0_i32_1684 : BitVec 32 := 0#32
  ![arg0.toNat, 5888, 0]
def k0_off909 (v2417 : BitVec 32) : Fin 3 → Nat :=
  let c0_i32_1685 : BitVec 32 := 0#32
  let c0_i32_1686 : BitVec 32 := 0#32
  ![v2417.toNat, 0, 0]

def k0_chk303 (v2417 : BitVec 32) : Prop :=
  (∀ a, (k0_off909 v2417) a + S1x128x128.size a ≤ S10240x128x128.size a)
theorem k0_off909_inb : ∀ (v2417 : BitVec 32) (k0_hw303 : k0_chk303 v2417), ∀ a, (k0_off909 v2417) a + S1x128x128.size a ≤ S10240x128x128.size a := fun v2417 k0_hw303 => k0_hw303

def k0_off910 (i : grid0.Coords) : Fin 2 → Nat :=
  let arg0 : BitVec 32 := BitVec.ofNat 32 (i 0).val
  let v2424 : Index := Scalar.indexCast arg0
  let c47_1687 : Index := 47#32
  ![v2424.toNat, 47]
def k0_off911 (i : grid0.Coords) : Fin 3 → Nat :=
  let arg0 : BitVec 32 := BitVec.ofNat 32 (i 0).val
  let c6016_i32_1689 : BitVec 32 := 6016#32
  let c0_i32_1690 : BitVec 32 := 0#32
  ![arg0.toNat, 6016, 0]
def k0_off912 (v2425 : BitVec 32) : Fin 3 → Nat :=
  let c0_i32_1691 : BitVec 32 := 0#32
  let c0_i32_1692 : BitVec 32 := 0#32
  ![v2425.toNat, 0, 0]

def k0_chk304 (v2425 : BitVec 32) : Prop :=
  (∀ a, (k0_off912 v2425) a + S1x128x128.size a ≤ S10240x128x128.size a)
theorem k0_off912_inb : ∀ (v2425 : BitVec 32) (k0_hw304 : k0_chk304 v2425), ∀ a, (k0_off912 v2425) a + S1x128x128.size a ≤ S10240x128x128.size a := fun v2425 k0_hw304 => k0_hw304

def k0_off913 (i : grid0.Coords) : Fin 2 → Nat :=
  let arg0 : BitVec 32 := BitVec.ofNat 32 (i 0).val
  let v2432 : Index := Scalar.indexCast arg0
  let c48_1693 : Index := 48#32
  ![v2432.toNat, 48]
def k0_off914 (i : grid0.Coords) : Fin 3 → Nat :=
  let arg0 : BitVec 32 := BitVec.ofNat 32 (i 0).val
  let c6144_i32_1695 : BitVec 32 := 6144#32
  let c0_i32_1696 : BitVec 32 := 0#32
  ![arg0.toNat, 6144, 0]
def k0_off915 (v2433 : BitVec 32) : Fin 3 → Nat :=
  let c0_i32_1697 : BitVec 32 := 0#32
  let c0_i32_1698 : BitVec 32 := 0#32
  ![v2433.toNat, 0, 0]

def k0_chk305 (v2433 : BitVec 32) : Prop :=
  (∀ a, (k0_off915 v2433) a + S1x128x128.size a ≤ S10240x128x128.size a)
theorem k0_off915_inb : ∀ (v2433 : BitVec 32) (k0_hw305 : k0_chk305 v2433), ∀ a, (k0_off915 v2433) a + S1x128x128.size a ≤ S10240x128x128.size a := fun v2433 k0_hw305 => k0_hw305

def k0_off916 (i : grid0.Coords) : Fin 2 → Nat :=
  let arg0 : BitVec 32 := BitVec.ofNat 32 (i 0).val
  let v2440 : Index := Scalar.indexCast arg0
  let c49_1699 : Index := 49#32
  ![v2440.toNat, 49]
def k0_off917 (i : grid0.Coords) : Fin 3 → Nat :=
  let arg0 : BitVec 32 := BitVec.ofNat 32 (i 0).val
  let c6272_i32_1701 : BitVec 32 := 6272#32
  let c0_i32_1702 : BitVec 32 := 0#32
  ![arg0.toNat, 6272, 0]
def k0_off918 (v2441 : BitVec 32) : Fin 3 → Nat :=
  let c0_i32_1703 : BitVec 32 := 0#32
  let c0_i32_1704 : BitVec 32 := 0#32
  ![v2441.toNat, 0, 0]

def k0_chk306 (v2441 : BitVec 32) : Prop :=
  (∀ a, (k0_off918 v2441) a + S1x128x128.size a ≤ S10240x128x128.size a)
theorem k0_off918_inb : ∀ (v2441 : BitVec 32) (k0_hw306 : k0_chk306 v2441), ∀ a, (k0_off918 v2441) a + S1x128x128.size a ≤ S10240x128x128.size a := fun v2441 k0_hw306 => k0_hw306

def k0_off919 (i : grid0.Coords) : Fin 2 → Nat :=
  let arg0 : BitVec 32 := BitVec.ofNat 32 (i 0).val
  let v2448 : Index := Scalar.indexCast arg0
  let c50_1705 : Index := 50#32
  ![v2448.toNat, 50]
def k0_off920 (i : grid0.Coords) : Fin 3 → Nat :=
  let arg0 : BitVec 32 := BitVec.ofNat 32 (i 0).val
  let c6400_i32_1707 : BitVec 32 := 6400#32
  let c0_i32_1708 : BitVec 32 := 0#32
  ![arg0.toNat, 6400, 0]
def k0_off921 (v2449 : BitVec 32) : Fin 3 → Nat :=
  let c0_i32_1709 : BitVec 32 := 0#32
  let c0_i32_1710 : BitVec 32 := 0#32
  ![v2449.toNat, 0, 0]

def k0_chk307 (v2449 : BitVec 32) : Prop :=
  (∀ a, (k0_off921 v2449) a + S1x128x128.size a ≤ S10240x128x128.size a)
theorem k0_off921_inb : ∀ (v2449 : BitVec 32) (k0_hw307 : k0_chk307 v2449), ∀ a, (k0_off921 v2449) a + S1x128x128.size a ≤ S10240x128x128.size a := fun v2449 k0_hw307 => k0_hw307

def k0_off922 (i : grid0.Coords) : Fin 2 → Nat :=
  let arg0 : BitVec 32 := BitVec.ofNat 32 (i 0).val
  let v2456 : Index := Scalar.indexCast arg0
  let c51_1711 : Index := 51#32
  ![v2456.toNat, 51]
def k0_off923 (i : grid0.Coords) : Fin 3 → Nat :=
  let arg0 : BitVec 32 := BitVec.ofNat 32 (i 0).val
  let c6528_i32_1713 : BitVec 32 := 6528#32
  let c0_i32_1714 : BitVec 32 := 0#32
  ![arg0.toNat, 6528, 0]
def k0_off924 (v2457 : BitVec 32) : Fin 3 → Nat :=
  let c0_i32_1715 : BitVec 32 := 0#32
  let c0_i32_1716 : BitVec 32 := 0#32
  ![v2457.toNat, 0, 0]

def k0_chk308 (v2457 : BitVec 32) : Prop :=
  (∀ a, (k0_off924 v2457) a + S1x128x128.size a ≤ S10240x128x128.size a)
theorem k0_off924_inb : ∀ (v2457 : BitVec 32) (k0_hw308 : k0_chk308 v2457), ∀ a, (k0_off924 v2457) a + S1x128x128.size a ≤ S10240x128x128.size a := fun v2457 k0_hw308 => k0_hw308

def k0_off925 (i : grid0.Coords) : Fin 2 → Nat :=
  let arg0 : BitVec 32 := BitVec.ofNat 32 (i 0).val
  let v2464 : Index := Scalar.indexCast arg0
  let c52_1717 : Index := 52#32
  ![v2464.toNat, 52]
def k0_off926 (i : grid0.Coords) : Fin 3 → Nat :=
  let arg0 : BitVec 32 := BitVec.ofNat 32 (i 0).val
  let c6656_i32_1719 : BitVec 32 := 6656#32
  let c0_i32_1720 : BitVec 32 := 0#32
  ![arg0.toNat, 6656, 0]
def k0_off927 (v2465 : BitVec 32) : Fin 3 → Nat :=
  let c0_i32_1721 : BitVec 32 := 0#32
  let c0_i32_1722 : BitVec 32 := 0#32
  ![v2465.toNat, 0, 0]

def k0_chk309 (v2465 : BitVec 32) : Prop :=
  (∀ a, (k0_off927 v2465) a + S1x128x128.size a ≤ S10240x128x128.size a)
theorem k0_off927_inb : ∀ (v2465 : BitVec 32) (k0_hw309 : k0_chk309 v2465), ∀ a, (k0_off927 v2465) a + S1x128x128.size a ≤ S10240x128x128.size a := fun v2465 k0_hw309 => k0_hw309

def k0_off928 (i : grid0.Coords) : Fin 2 → Nat :=
  let arg0 : BitVec 32 := BitVec.ofNat 32 (i 0).val
  let v2472 : Index := Scalar.indexCast arg0
  let c53_1723 : Index := 53#32
  ![v2472.toNat, 53]
def k0_off929 (i : grid0.Coords) : Fin 3 → Nat :=
  let arg0 : BitVec 32 := BitVec.ofNat 32 (i 0).val
  let c6784_i32_1725 : BitVec 32 := 6784#32
  let c0_i32_1726 : BitVec 32 := 0#32
  ![arg0.toNat, 6784, 0]
def k0_off930 (v2473 : BitVec 32) : Fin 3 → Nat :=
  let c0_i32_1727 : BitVec 32 := 0#32
  let c0_i32_1728 : BitVec 32 := 0#32
  ![v2473.toNat, 0, 0]

def k0_chk310 (v2473 : BitVec 32) : Prop :=
  (∀ a, (k0_off930 v2473) a + S1x128x128.size a ≤ S10240x128x128.size a)
theorem k0_off930_inb : ∀ (v2473 : BitVec 32) (k0_hw310 : k0_chk310 v2473), ∀ a, (k0_off930 v2473) a + S1x128x128.size a ≤ S10240x128x128.size a := fun v2473 k0_hw310 => k0_hw310

def k0_off931 (i : grid0.Coords) : Fin 2 → Nat :=
  let arg0 : BitVec 32 := BitVec.ofNat 32 (i 0).val
  let v2480 : Index := Scalar.indexCast arg0
  let c54_1729 : Index := 54#32
  ![v2480.toNat, 54]
def k0_off932 (i : grid0.Coords) : Fin 3 → Nat :=
  let arg0 : BitVec 32 := BitVec.ofNat 32 (i 0).val
  let c6912_i32_1731 : BitVec 32 := 6912#32
  let c0_i32_1732 : BitVec 32 := 0#32
  ![arg0.toNat, 6912, 0]
def k0_off933 (v2481 : BitVec 32) : Fin 3 → Nat :=
  let c0_i32_1733 : BitVec 32 := 0#32
  let c0_i32_1734 : BitVec 32 := 0#32
  ![v2481.toNat, 0, 0]

def k0_chk311 (v2481 : BitVec 32) : Prop :=
  (∀ a, (k0_off933 v2481) a + S1x128x128.size a ≤ S10240x128x128.size a)
theorem k0_off933_inb : ∀ (v2481 : BitVec 32) (k0_hw311 : k0_chk311 v2481), ∀ a, (k0_off933 v2481) a + S1x128x128.size a ≤ S10240x128x128.size a := fun v2481 k0_hw311 => k0_hw311

def k0_off934 (i : grid0.Coords) : Fin 2 → Nat :=
  let arg0 : BitVec 32 := BitVec.ofNat 32 (i 0).val
  let v2488 : Index := Scalar.indexCast arg0
  let c55_1735 : Index := 55#32
  ![v2488.toNat, 55]
def k0_off935 (i : grid0.Coords) : Fin 3 → Nat :=
  let arg0 : BitVec 32 := BitVec.ofNat 32 (i 0).val
  let c7040_i32_1737 : BitVec 32 := 7040#32
  let c0_i32_1738 : BitVec 32 := 0#32
  ![arg0.toNat, 7040, 0]
def k0_off936 (v2489 : BitVec 32) : Fin 3 → Nat :=
  let c0_i32_1739 : BitVec 32 := 0#32
  let c0_i32_1740 : BitVec 32 := 0#32
  ![v2489.toNat, 0, 0]

def k0_chk312 (v2489 : BitVec 32) : Prop :=
  (∀ a, (k0_off936 v2489) a + S1x128x128.size a ≤ S10240x128x128.size a)
theorem k0_off936_inb : ∀ (v2489 : BitVec 32) (k0_hw312 : k0_chk312 v2489), ∀ a, (k0_off936 v2489) a + S1x128x128.size a ≤ S10240x128x128.size a := fun v2489 k0_hw312 => k0_hw312

def k0_off937 (i : grid0.Coords) : Fin 2 → Nat :=
  let arg0 : BitVec 32 := BitVec.ofNat 32 (i 0).val
  let v2496 : Index := Scalar.indexCast arg0
  let c56_1741 : Index := 56#32
  ![v2496.toNat, 56]
def k0_off938 (i : grid0.Coords) : Fin 3 → Nat :=
  let arg0 : BitVec 32 := BitVec.ofNat 32 (i 0).val
  let c7168_i32_1743 : BitVec 32 := 7168#32
  let c0_i32_1744 : BitVec 32 := 0#32
  ![arg0.toNat, 7168, 0]
def k0_off939 (v2497 : BitVec 32) : Fin 3 → Nat :=
  let c0_i32_1745 : BitVec 32 := 0#32
  let c0_i32_1746 : BitVec 32 := 0#32
  ![v2497.toNat, 0, 0]

def k0_chk313 (v2497 : BitVec 32) : Prop :=
  (∀ a, (k0_off939 v2497) a + S1x128x128.size a ≤ S10240x128x128.size a)
theorem k0_off939_inb : ∀ (v2497 : BitVec 32) (k0_hw313 : k0_chk313 v2497), ∀ a, (k0_off939 v2497) a + S1x128x128.size a ≤ S10240x128x128.size a := fun v2497 k0_hw313 => k0_hw313

def k0_off940 (i : grid0.Coords) : Fin 2 → Nat :=
  let arg0 : BitVec 32 := BitVec.ofNat 32 (i 0).val
  let v2504 : Index := Scalar.indexCast arg0
  let c57_1747 : Index := 57#32
  ![v2504.toNat, 57]
def k0_off941 (i : grid0.Coords) : Fin 3 → Nat :=
  let arg0 : BitVec 32 := BitVec.ofNat 32 (i 0).val
  let c7296_i32_1749 : BitVec 32 := 7296#32
  let c0_i32_1750 : BitVec 32 := 0#32
  ![arg0.toNat, 7296, 0]
def k0_off942 (v2505 : BitVec 32) : Fin 3 → Nat :=
  let c0_i32_1751 : BitVec 32 := 0#32
  let c0_i32_1752 : BitVec 32 := 0#32
  ![v2505.toNat, 0, 0]

def k0_chk314 (v2505 : BitVec 32) : Prop :=
  (∀ a, (k0_off942 v2505) a + S1x128x128.size a ≤ S10240x128x128.size a)
theorem k0_off942_inb : ∀ (v2505 : BitVec 32) (k0_hw314 : k0_chk314 v2505), ∀ a, (k0_off942 v2505) a + S1x128x128.size a ≤ S10240x128x128.size a := fun v2505 k0_hw314 => k0_hw314

def k0_off943 (i : grid0.Coords) : Fin 2 → Nat :=
  let arg0 : BitVec 32 := BitVec.ofNat 32 (i 0).val
  let v2512 : Index := Scalar.indexCast arg0
  let c58_1753 : Index := 58#32
  ![v2512.toNat, 58]
def k0_off944 (i : grid0.Coords) : Fin 3 → Nat :=
  let arg0 : BitVec 32 := BitVec.ofNat 32 (i 0).val
  let c7424_i32_1755 : BitVec 32 := 7424#32
  let c0_i32_1756 : BitVec 32 := 0#32
  ![arg0.toNat, 7424, 0]
def k0_off945 (v2513 : BitVec 32) : Fin 3 → Nat :=
  let c0_i32_1757 : BitVec 32 := 0#32
  let c0_i32_1758 : BitVec 32 := 0#32
  ![v2513.toNat, 0, 0]

def k0_chk315 (v2513 : BitVec 32) : Prop :=
  (∀ a, (k0_off945 v2513) a + S1x128x128.size a ≤ S10240x128x128.size a)
theorem k0_off945_inb : ∀ (v2513 : BitVec 32) (k0_hw315 : k0_chk315 v2513), ∀ a, (k0_off945 v2513) a + S1x128x128.size a ≤ S10240x128x128.size a := fun v2513 k0_hw315 => k0_hw315

def k0_off946 (i : grid0.Coords) : Fin 2 → Nat :=
  let arg0 : BitVec 32 := BitVec.ofNat 32 (i 0).val
  let v2520 : Index := Scalar.indexCast arg0
  let c59_1759 : Index := 59#32
  ![v2520.toNat, 59]
def k0_off947 (i : grid0.Coords) : Fin 3 → Nat :=
  let arg0 : BitVec 32 := BitVec.ofNat 32 (i 0).val
  let c7552_i32_1761 : BitVec 32 := 7552#32
  let c0_i32_1762 : BitVec 32 := 0#32
  ![arg0.toNat, 7552, 0]
def k0_off948 (v2521 : BitVec 32) : Fin 3 → Nat :=
  let c0_i32_1763 : BitVec 32 := 0#32
  let c0_i32_1764 : BitVec 32 := 0#32
  ![v2521.toNat, 0, 0]

def k0_chk316 (v2521 : BitVec 32) : Prop :=
  (∀ a, (k0_off948 v2521) a + S1x128x128.size a ≤ S10240x128x128.size a)
theorem k0_off948_inb : ∀ (v2521 : BitVec 32) (k0_hw316 : k0_chk316 v2521), ∀ a, (k0_off948 v2521) a + S1x128x128.size a ≤ S10240x128x128.size a := fun v2521 k0_hw316 => k0_hw316

def k0_off949 (i : grid0.Coords) : Fin 2 → Nat :=
  let arg0 : BitVec 32 := BitVec.ofNat 32 (i 0).val
  let v2528 : Index := Scalar.indexCast arg0
  let c60_1765 : Index := 60#32
  ![v2528.toNat, 60]
def k0_off950 (i : grid0.Coords) : Fin 3 → Nat :=
  let arg0 : BitVec 32 := BitVec.ofNat 32 (i 0).val
  let c7680_i32_1767 : BitVec 32 := 7680#32
  let c0_i32_1768 : BitVec 32 := 0#32
  ![arg0.toNat, 7680, 0]
def k0_off951 (v2529 : BitVec 32) : Fin 3 → Nat :=
  let c0_i32_1769 : BitVec 32 := 0#32
  let c0_i32_1770 : BitVec 32 := 0#32
  ![v2529.toNat, 0, 0]

def k0_chk317 (v2529 : BitVec 32) : Prop :=
  (∀ a, (k0_off951 v2529) a + S1x128x128.size a ≤ S10240x128x128.size a)
theorem k0_off951_inb : ∀ (v2529 : BitVec 32) (k0_hw317 : k0_chk317 v2529), ∀ a, (k0_off951 v2529) a + S1x128x128.size a ≤ S10240x128x128.size a := fun v2529 k0_hw317 => k0_hw317

def k0_off952 (i : grid0.Coords) : Fin 2 → Nat :=
  let arg0 : BitVec 32 := BitVec.ofNat 32 (i 0).val
  let v2536 : Index := Scalar.indexCast arg0
  let c61_1771 : Index := 61#32
  ![v2536.toNat, 61]
def k0_off953 (i : grid0.Coords) : Fin 3 → Nat :=
  let arg0 : BitVec 32 := BitVec.ofNat 32 (i 0).val
  let c7808_i32_1773 : BitVec 32 := 7808#32
  let c0_i32_1774 : BitVec 32 := 0#32
  ![arg0.toNat, 7808, 0]
def k0_off954 (v2537 : BitVec 32) : Fin 3 → Nat :=
  let c0_i32_1775 : BitVec 32 := 0#32
  let c0_i32_1776 : BitVec 32 := 0#32
  ![v2537.toNat, 0, 0]

def k0_chk318 (v2537 : BitVec 32) : Prop :=
  (∀ a, (k0_off954 v2537) a + S1x128x128.size a ≤ S10240x128x128.size a)
theorem k0_off954_inb : ∀ (v2537 : BitVec 32) (k0_hw318 : k0_chk318 v2537), ∀ a, (k0_off954 v2537) a + S1x128x128.size a ≤ S10240x128x128.size a := fun v2537 k0_hw318 => k0_hw318

def k0_off955 (i : grid0.Coords) : Fin 2 → Nat :=
  let arg0 : BitVec 32 := BitVec.ofNat 32 (i 0).val
  let v2544 : Index := Scalar.indexCast arg0
  let c62_1777 : Index := 62#32
  ![v2544.toNat, 62]
def k0_off956 (i : grid0.Coords) : Fin 3 → Nat :=
  let arg0 : BitVec 32 := BitVec.ofNat 32 (i 0).val
  let c7936_i32_1779 : BitVec 32 := 7936#32
  let c0_i32_1780 : BitVec 32 := 0#32
  ![arg0.toNat, 7936, 0]
def k0_off957 (v2545 : BitVec 32) : Fin 3 → Nat :=
  let c0_i32_1781 : BitVec 32 := 0#32
  let c0_i32_1782 : BitVec 32 := 0#32
  ![v2545.toNat, 0, 0]

def k0_chk319 (v2545 : BitVec 32) : Prop :=
  (∀ a, (k0_off957 v2545) a + S1x128x128.size a ≤ S10240x128x128.size a)
theorem k0_off957_inb : ∀ (v2545 : BitVec 32) (k0_hw319 : k0_chk319 v2545), ∀ a, (k0_off957 v2545) a + S1x128x128.size a ≤ S10240x128x128.size a := fun v2545 k0_hw319 => k0_hw319

def k0_off958 (i : grid0.Coords) : Fin 2 → Nat :=
  let arg0 : BitVec 32 := BitVec.ofNat 32 (i 0).val
  let v2552 : Index := Scalar.indexCast arg0
  let c63_1783 : Index := 63#32
  ![v2552.toNat, 63]
def k0_off959 (i : grid0.Coords) : Fin 3 → Nat :=
  let arg0 : BitVec 32 := BitVec.ofNat 32 (i 0).val
  let c8064_i32_1785 : BitVec 32 := 8064#32
  let c0_i32_1786 : BitVec 32 := 0#32
  ![arg0.toNat, 8064, 0]
def k0_off960 (v2553 : BitVec 32) : Fin 3 → Nat :=
  let c0_i32_1787 : BitVec 32 := 0#32
  let c0_i32_1788 : BitVec 32 := 0#32
  ![v2553.toNat, 0, 0]

def k0_chk320 (v2553 : BitVec 32) : Prop :=
  (∀ a, (k0_off960 v2553) a + S1x128x128.size a ≤ S10240x128x128.size a)
theorem k0_off960_inb : ∀ (v2553 : BitVec 32) (k0_hw320 : k0_chk320 v2553), ∀ a, (k0_off960 v2553) a + S1x128x128.size a ≤ S10240x128x128.size a := fun v2553 k0_hw320 => k0_hw320

def k0_off961 (i : grid0.Coords) : Fin 2 → Nat :=
  let arg0 : BitVec 32 := BitVec.ofNat 32 (i 0).val
  let v2560 : Index := Scalar.indexCast arg0
  let c0_1789 : Index := 0#32
  ![v2560.toNat, 0]
def k0_off962 (i : grid0.Coords) : Fin 3 → Nat :=
  let arg0 : BitVec 32 := BitVec.ofNat 32 (i 0).val
  let c0_i32_1791 : BitVec 32 := 0#32
  let c0_i32_1792 : BitVec 32 := 0#32
  ![arg0.toNat, 0, 0]
def k0_off963 (v2561 : BitVec 32) : Fin 3 → Nat :=
  let c0_i32_1793 : BitVec 32 := 0#32
  let c0_i32_1794 : BitVec 32 := 0#32
  ![v2561.toNat, 0, 0]

def k0_chk321 (v2561 : BitVec 32) : Prop :=
  (∀ a, (k0_off963 v2561) a + S1x128x128.size a ≤ S10240x128x128.size a)
theorem k0_off963_inb : ∀ (v2561 : BitVec 32) (k0_hw321 : k0_chk321 v2561), ∀ a, (k0_off963 v2561) a + S1x128x128.size a ≤ S10240x128x128.size a := fun v2561 k0_hw321 => k0_hw321

def k0_off964 (i : grid0.Coords) : Fin 2 → Nat :=
  let arg0 : BitVec 32 := BitVec.ofNat 32 (i 0).val
  let v2568 : Index := Scalar.indexCast arg0
  let c1_1795 : Index := 1#32
  ![v2568.toNat, 1]
def k0_off965 (i : grid0.Coords) : Fin 3 → Nat :=
  let arg0 : BitVec 32 := BitVec.ofNat 32 (i 0).val
  let c128_i32_1797 : BitVec 32 := 128#32
  let c0_i32_1798 : BitVec 32 := 0#32
  ![arg0.toNat, 128, 0]
def k0_off966 (v2569 : BitVec 32) : Fin 3 → Nat :=
  let c0_i32_1799 : BitVec 32 := 0#32
  let c0_i32_1800 : BitVec 32 := 0#32
  ![v2569.toNat, 0, 0]

def k0_chk322 (v2569 : BitVec 32) : Prop :=
  (∀ a, (k0_off966 v2569) a + S1x128x128.size a ≤ S10240x128x128.size a)
theorem k0_off966_inb : ∀ (v2569 : BitVec 32) (k0_hw322 : k0_chk322 v2569), ∀ a, (k0_off966 v2569) a + S1x128x128.size a ≤ S10240x128x128.size a := fun v2569 k0_hw322 => k0_hw322

def k0_off967 (i : grid0.Coords) : Fin 2 → Nat :=
  let arg0 : BitVec 32 := BitVec.ofNat 32 (i 0).val
  let v2576 : Index := Scalar.indexCast arg0
  let c2_1801 : Index := 2#32
  ![v2576.toNat, 2]
def k0_off968 (i : grid0.Coords) : Fin 3 → Nat :=
  let arg0 : BitVec 32 := BitVec.ofNat 32 (i 0).val
  let c256_i32_1803 : BitVec 32 := 256#32
  let c0_i32_1804 : BitVec 32 := 0#32
  ![arg0.toNat, 256, 0]
def k0_off969 (v2577 : BitVec 32) : Fin 3 → Nat :=
  let c0_i32_1805 : BitVec 32 := 0#32
  let c0_i32_1806 : BitVec 32 := 0#32
  ![v2577.toNat, 0, 0]

def k0_chk323 (v2577 : BitVec 32) : Prop :=
  (∀ a, (k0_off969 v2577) a + S1x128x128.size a ≤ S10240x128x128.size a)
theorem k0_off969_inb : ∀ (v2577 : BitVec 32) (k0_hw323 : k0_chk323 v2577), ∀ a, (k0_off969 v2577) a + S1x128x128.size a ≤ S10240x128x128.size a := fun v2577 k0_hw323 => k0_hw323

def k0_off970 (i : grid0.Coords) : Fin 2 → Nat :=
  let arg0 : BitVec 32 := BitVec.ofNat 32 (i 0).val
  let v2584 : Index := Scalar.indexCast arg0
  let c3_1807 : Index := 3#32
  ![v2584.toNat, 3]
def k0_off971 (i : grid0.Coords) : Fin 3 → Nat :=
  let arg0 : BitVec 32 := BitVec.ofNat 32 (i 0).val
  let c384_i32_1809 : BitVec 32 := 384#32
  let c0_i32_1810 : BitVec 32 := 0#32
  ![arg0.toNat, 384, 0]
def k0_off972 (v2585 : BitVec 32) : Fin 3 → Nat :=
  let c0_i32_1811 : BitVec 32 := 0#32
  let c0_i32_1812 : BitVec 32 := 0#32
  ![v2585.toNat, 0, 0]

def k0_chk324 (v2585 : BitVec 32) : Prop :=
  (∀ a, (k0_off972 v2585) a + S1x128x128.size a ≤ S10240x128x128.size a)
theorem k0_off972_inb : ∀ (v2585 : BitVec 32) (k0_hw324 : k0_chk324 v2585), ∀ a, (k0_off972 v2585) a + S1x128x128.size a ≤ S10240x128x128.size a := fun v2585 k0_hw324 => k0_hw324

def k0_off973 (i : grid0.Coords) : Fin 2 → Nat :=
  let arg0 : BitVec 32 := BitVec.ofNat 32 (i 0).val
  let v2592 : Index := Scalar.indexCast arg0
  let c4_1813 : Index := 4#32
  ![v2592.toNat, 4]
def k0_off974 (i : grid0.Coords) : Fin 3 → Nat :=
  let arg0 : BitVec 32 := BitVec.ofNat 32 (i 0).val
  let c512_i32_1815 : BitVec 32 := 512#32
  let c0_i32_1816 : BitVec 32 := 0#32
  ![arg0.toNat, 512, 0]
def k0_off975 (v2593 : BitVec 32) : Fin 3 → Nat :=
  let c0_i32_1817 : BitVec 32 := 0#32
  let c0_i32_1818 : BitVec 32 := 0#32
  ![v2593.toNat, 0, 0]

def k0_chk325 (v2593 : BitVec 32) : Prop :=
  (∀ a, (k0_off975 v2593) a + S1x128x128.size a ≤ S10240x128x128.size a)
theorem k0_off975_inb : ∀ (v2593 : BitVec 32) (k0_hw325 : k0_chk325 v2593), ∀ a, (k0_off975 v2593) a + S1x128x128.size a ≤ S10240x128x128.size a := fun v2593 k0_hw325 => k0_hw325

def k0_off976 (i : grid0.Coords) : Fin 2 → Nat :=
  let arg0 : BitVec 32 := BitVec.ofNat 32 (i 0).val
  let v2600 : Index := Scalar.indexCast arg0
  let c5_1819 : Index := 5#32
  ![v2600.toNat, 5]
def k0_off977 (i : grid0.Coords) : Fin 3 → Nat :=
  let arg0 : BitVec 32 := BitVec.ofNat 32 (i 0).val
  let c640_i32_1821 : BitVec 32 := 640#32
  let c0_i32_1822 : BitVec 32 := 0#32
  ![arg0.toNat, 640, 0]
def k0_off978 (v2601 : BitVec 32) : Fin 3 → Nat :=
  let c0_i32_1823 : BitVec 32 := 0#32
  let c0_i32_1824 : BitVec 32 := 0#32
  ![v2601.toNat, 0, 0]

def k0_chk326 (v2601 : BitVec 32) : Prop :=
  (∀ a, (k0_off978 v2601) a + S1x128x128.size a ≤ S10240x128x128.size a)
theorem k0_off978_inb : ∀ (v2601 : BitVec 32) (k0_hw326 : k0_chk326 v2601), ∀ a, (k0_off978 v2601) a + S1x128x128.size a ≤ S10240x128x128.size a := fun v2601 k0_hw326 => k0_hw326

def k0_off979 (i : grid0.Coords) : Fin 2 → Nat :=
  let arg0 : BitVec 32 := BitVec.ofNat 32 (i 0).val
  let v2608 : Index := Scalar.indexCast arg0
  let c6_1825 : Index := 6#32
  ![v2608.toNat, 6]
def k0_off980 (i : grid0.Coords) : Fin 3 → Nat :=
  let arg0 : BitVec 32 := BitVec.ofNat 32 (i 0).val
  let c768_i32_1827 : BitVec 32 := 768#32
  let c0_i32_1828 : BitVec 32 := 0#32
  ![arg0.toNat, 768, 0]
def k0_off981 (v2609 : BitVec 32) : Fin 3 → Nat :=
  let c0_i32_1829 : BitVec 32 := 0#32
  let c0_i32_1830 : BitVec 32 := 0#32
  ![v2609.toNat, 0, 0]

def k0_chk327 (v2609 : BitVec 32) : Prop :=
  (∀ a, (k0_off981 v2609) a + S1x128x128.size a ≤ S10240x128x128.size a)
theorem k0_off981_inb : ∀ (v2609 : BitVec 32) (k0_hw327 : k0_chk327 v2609), ∀ a, (k0_off981 v2609) a + S1x128x128.size a ≤ S10240x128x128.size a := fun v2609 k0_hw327 => k0_hw327

def k0_off982 (i : grid0.Coords) : Fin 2 → Nat :=
  let arg0 : BitVec 32 := BitVec.ofNat 32 (i 0).val
  let v2616 : Index := Scalar.indexCast arg0
  let c7_1831 : Index := 7#32
  ![v2616.toNat, 7]
def k0_off983 (i : grid0.Coords) : Fin 3 → Nat :=
  let arg0 : BitVec 32 := BitVec.ofNat 32 (i 0).val
  let c896_i32_1833 : BitVec 32 := 896#32
  let c0_i32_1834 : BitVec 32 := 0#32
  ![arg0.toNat, 896, 0]
def k0_off984 (v2617 : BitVec 32) : Fin 3 → Nat :=
  let c0_i32_1835 : BitVec 32 := 0#32
  let c0_i32_1836 : BitVec 32 := 0#32
  ![v2617.toNat, 0, 0]

def k0_chk328 (v2617 : BitVec 32) : Prop :=
  (∀ a, (k0_off984 v2617) a + S1x128x128.size a ≤ S10240x128x128.size a)
theorem k0_off984_inb : ∀ (v2617 : BitVec 32) (k0_hw328 : k0_chk328 v2617), ∀ a, (k0_off984 v2617) a + S1x128x128.size a ≤ S10240x128x128.size a := fun v2617 k0_hw328 => k0_hw328

def k0_off985 (i : grid0.Coords) : Fin 2 → Nat :=
  let arg0 : BitVec 32 := BitVec.ofNat 32 (i 0).val
  let v2624 : Index := Scalar.indexCast arg0
  let c8_1837 : Index := 8#32
  ![v2624.toNat, 8]
def k0_off986 (i : grid0.Coords) : Fin 3 → Nat :=
  let arg0 : BitVec 32 := BitVec.ofNat 32 (i 0).val
  let c1024_i32_1839 : BitVec 32 := 1024#32
  let c0_i32_1840 : BitVec 32 := 0#32
  ![arg0.toNat, 1024, 0]
def k0_off987 (v2625 : BitVec 32) : Fin 3 → Nat :=
  let c0_i32_1841 : BitVec 32 := 0#32
  let c0_i32_1842 : BitVec 32 := 0#32
  ![v2625.toNat, 0, 0]

def k0_chk329 (v2625 : BitVec 32) : Prop :=
  (∀ a, (k0_off987 v2625) a + S1x128x128.size a ≤ S10240x128x128.size a)
theorem k0_off987_inb : ∀ (v2625 : BitVec 32) (k0_hw329 : k0_chk329 v2625), ∀ a, (k0_off987 v2625) a + S1x128x128.size a ≤ S10240x128x128.size a := fun v2625 k0_hw329 => k0_hw329

def k0_off988 (i : grid0.Coords) : Fin 2 → Nat :=
  let arg0 : BitVec 32 := BitVec.ofNat 32 (i 0).val
  let v2632 : Index := Scalar.indexCast arg0
  let c9_1843 : Index := 9#32
  ![v2632.toNat, 9]
def k0_off989 (i : grid0.Coords) : Fin 3 → Nat :=
  let arg0 : BitVec 32 := BitVec.ofNat 32 (i 0).val
  let c1152_i32_1845 : BitVec 32 := 1152#32
  let c0_i32_1846 : BitVec 32 := 0#32
  ![arg0.toNat, 1152, 0]
def k0_off990 (v2633 : BitVec 32) : Fin 3 → Nat :=
  let c0_i32_1847 : BitVec 32 := 0#32
  let c0_i32_1848 : BitVec 32 := 0#32
  ![v2633.toNat, 0, 0]

def k0_chk330 (v2633 : BitVec 32) : Prop :=
  (∀ a, (k0_off990 v2633) a + S1x128x128.size a ≤ S10240x128x128.size a)
theorem k0_off990_inb : ∀ (v2633 : BitVec 32) (k0_hw330 : k0_chk330 v2633), ∀ a, (k0_off990 v2633) a + S1x128x128.size a ≤ S10240x128x128.size a := fun v2633 k0_hw330 => k0_hw330

def k0_off991 (i : grid0.Coords) : Fin 2 → Nat :=
  let arg0 : BitVec 32 := BitVec.ofNat 32 (i 0).val
  let v2640 : Index := Scalar.indexCast arg0
  let c10_1849 : Index := 10#32
  ![v2640.toNat, 10]
def k0_off992 (i : grid0.Coords) : Fin 3 → Nat :=
  let arg0 : BitVec 32 := BitVec.ofNat 32 (i 0).val
  let c1280_i32_1851 : BitVec 32 := 1280#32
  let c0_i32_1852 : BitVec 32 := 0#32
  ![arg0.toNat, 1280, 0]
def k0_off993 (v2641 : BitVec 32) : Fin 3 → Nat :=
  let c0_i32_1853 : BitVec 32 := 0#32
  let c0_i32_1854 : BitVec 32 := 0#32
  ![v2641.toNat, 0, 0]

def k0_chk331 (v2641 : BitVec 32) : Prop :=
  (∀ a, (k0_off993 v2641) a + S1x128x128.size a ≤ S10240x128x128.size a)
theorem k0_off993_inb : ∀ (v2641 : BitVec 32) (k0_hw331 : k0_chk331 v2641), ∀ a, (k0_off993 v2641) a + S1x128x128.size a ≤ S10240x128x128.size a := fun v2641 k0_hw331 => k0_hw331

def k0_off994 (i : grid0.Coords) : Fin 2 → Nat :=
  let arg0 : BitVec 32 := BitVec.ofNat 32 (i 0).val
  let v2648 : Index := Scalar.indexCast arg0
  let c11_1855 : Index := 11#32
  ![v2648.toNat, 11]
def k0_off995 (i : grid0.Coords) : Fin 3 → Nat :=
  let arg0 : BitVec 32 := BitVec.ofNat 32 (i 0).val
  let c1408_i32_1857 : BitVec 32 := 1408#32
  let c0_i32_1858 : BitVec 32 := 0#32
  ![arg0.toNat, 1408, 0]
def k0_off996 (v2649 : BitVec 32) : Fin 3 → Nat :=
  let c0_i32_1859 : BitVec 32 := 0#32
  let c0_i32_1860 : BitVec 32 := 0#32
  ![v2649.toNat, 0, 0]

def k0_chk332 (v2649 : BitVec 32) : Prop :=
  (∀ a, (k0_off996 v2649) a + S1x128x128.size a ≤ S10240x128x128.size a)
theorem k0_off996_inb : ∀ (v2649 : BitVec 32) (k0_hw332 : k0_chk332 v2649), ∀ a, (k0_off996 v2649) a + S1x128x128.size a ≤ S10240x128x128.size a := fun v2649 k0_hw332 => k0_hw332

def k0_off997 (i : grid0.Coords) : Fin 2 → Nat :=
  let arg0 : BitVec 32 := BitVec.ofNat 32 (i 0).val
  let v2656 : Index := Scalar.indexCast arg0
  let c12_1861 : Index := 12#32
  ![v2656.toNat, 12]
def k0_off998 (i : grid0.Coords) : Fin 3 → Nat :=
  let arg0 : BitVec 32 := BitVec.ofNat 32 (i 0).val
  let c1536_i32_1863 : BitVec 32 := 1536#32
  let c0_i32_1864 : BitVec 32 := 0#32
  ![arg0.toNat, 1536, 0]
def k0_off999 (v2657 : BitVec 32) : Fin 3 → Nat :=
  let c0_i32_1865 : BitVec 32 := 0#32
  let c0_i32_1866 : BitVec 32 := 0#32
  ![v2657.toNat, 0, 0]

def k0_chk333 (v2657 : BitVec 32) : Prop :=
  (∀ a, (k0_off999 v2657) a + S1x128x128.size a ≤ S10240x128x128.size a)
theorem k0_off999_inb : ∀ (v2657 : BitVec 32) (k0_hw333 : k0_chk333 v2657), ∀ a, (k0_off999 v2657) a + S1x128x128.size a ≤ S10240x128x128.size a := fun v2657 k0_hw333 => k0_hw333

def k0_off1000 (i : grid0.Coords) : Fin 2 → Nat :=
  let arg0 : BitVec 32 := BitVec.ofNat 32 (i 0).val
  let v2664 : Index := Scalar.indexCast arg0
  let c13_1867 : Index := 13#32
  ![v2664.toNat, 13]
def k0_off1001 (i : grid0.Coords) : Fin 3 → Nat :=
  let arg0 : BitVec 32 := BitVec.ofNat 32 (i 0).val
  let c1664_i32_1869 : BitVec 32 := 1664#32
  let c0_i32_1870 : BitVec 32 := 0#32
  ![arg0.toNat, 1664, 0]
def k0_off1002 (v2665 : BitVec 32) : Fin 3 → Nat :=
  let c0_i32_1871 : BitVec 32 := 0#32
  let c0_i32_1872 : BitVec 32 := 0#32
  ![v2665.toNat, 0, 0]

def k0_chk334 (v2665 : BitVec 32) : Prop :=
  (∀ a, (k0_off1002 v2665) a + S1x128x128.size a ≤ S10240x128x128.size a)
theorem k0_off1002_inb : ∀ (v2665 : BitVec 32) (k0_hw334 : k0_chk334 v2665), ∀ a, (k0_off1002 v2665) a + S1x128x128.size a ≤ S10240x128x128.size a := fun v2665 k0_hw334 => k0_hw334

def k0_off1003 (i : grid0.Coords) : Fin 2 → Nat :=
  let arg0 : BitVec 32 := BitVec.ofNat 32 (i 0).val
  let v2672 : Index := Scalar.indexCast arg0
  let c14_1873 : Index := 14#32
  ![v2672.toNat, 14]
def k0_off1004 (i : grid0.Coords) : Fin 3 → Nat :=
  let arg0 : BitVec 32 := BitVec.ofNat 32 (i 0).val
  let c1792_i32_1875 : BitVec 32 := 1792#32
  let c0_i32_1876 : BitVec 32 := 0#32
  ![arg0.toNat, 1792, 0]
def k0_off1005 (v2673 : BitVec 32) : Fin 3 → Nat :=
  let c0_i32_1877 : BitVec 32 := 0#32
  let c0_i32_1878 : BitVec 32 := 0#32
  ![v2673.toNat, 0, 0]

def k0_chk335 (v2673 : BitVec 32) : Prop :=
  (∀ a, (k0_off1005 v2673) a + S1x128x128.size a ≤ S10240x128x128.size a)
theorem k0_off1005_inb : ∀ (v2673 : BitVec 32) (k0_hw335 : k0_chk335 v2673), ∀ a, (k0_off1005 v2673) a + S1x128x128.size a ≤ S10240x128x128.size a := fun v2673 k0_hw335 => k0_hw335

def k0_off1006 (i : grid0.Coords) : Fin 2 → Nat :=
  let arg0 : BitVec 32 := BitVec.ofNat 32 (i 0).val
  let v2680 : Index := Scalar.indexCast arg0
  let c15_1879 : Index := 15#32
  ![v2680.toNat, 15]
def k0_off1007 (i : grid0.Coords) : Fin 3 → Nat :=
  let arg0 : BitVec 32 := BitVec.ofNat 32 (i 0).val
  let c1920_i32_1881 : BitVec 32 := 1920#32
  let c0_i32_1882 : BitVec 32 := 0#32
  ![arg0.toNat, 1920, 0]
def k0_off1008 (v2681 : BitVec 32) : Fin 3 → Nat :=
  let c0_i32_1883 : BitVec 32 := 0#32
  let c0_i32_1884 : BitVec 32 := 0#32
  ![v2681.toNat, 0, 0]

def k0_chk336 (v2681 : BitVec 32) : Prop :=
  (∀ a, (k0_off1008 v2681) a + S1x128x128.size a ≤ S10240x128x128.size a)
theorem k0_off1008_inb : ∀ (v2681 : BitVec 32) (k0_hw336 : k0_chk336 v2681), ∀ a, (k0_off1008 v2681) a + S1x128x128.size a ≤ S10240x128x128.size a := fun v2681 k0_hw336 => k0_hw336

def k0_off1009 (i : grid0.Coords) : Fin 2 → Nat :=
  let arg0 : BitVec 32 := BitVec.ofNat 32 (i 0).val
  let v2688 : Index := Scalar.indexCast arg0
  let c16_1885 : Index := 16#32
  ![v2688.toNat, 16]
def k0_off1010 (i : grid0.Coords) : Fin 3 → Nat :=
  let arg0 : BitVec 32 := BitVec.ofNat 32 (i 0).val
  let c2048_i32_1887 : BitVec 32 := 2048#32
  let c0_i32_1888 : BitVec 32 := 0#32
  ![arg0.toNat, 2048, 0]
def k0_off1011 (v2689 : BitVec 32) : Fin 3 → Nat :=
  let c0_i32_1889 : BitVec 32 := 0#32
  let c0_i32_1890 : BitVec 32 := 0#32
  ![v2689.toNat, 0, 0]

def k0_chk337 (v2689 : BitVec 32) : Prop :=
  (∀ a, (k0_off1011 v2689) a + S1x128x128.size a ≤ S10240x128x128.size a)
theorem k0_off1011_inb : ∀ (v2689 : BitVec 32) (k0_hw337 : k0_chk337 v2689), ∀ a, (k0_off1011 v2689) a + S1x128x128.size a ≤ S10240x128x128.size a := fun v2689 k0_hw337 => k0_hw337

def k0_off1012 (i : grid0.Coords) : Fin 2 → Nat :=
  let arg0 : BitVec 32 := BitVec.ofNat 32 (i 0).val
  let v2696 : Index := Scalar.indexCast arg0
  let c17_1891 : Index := 17#32
  ![v2696.toNat, 17]
def k0_off1013 (i : grid0.Coords) : Fin 3 → Nat :=
  let arg0 : BitVec 32 := BitVec.ofNat 32 (i 0).val
  let c2176_i32_1893 : BitVec 32 := 2176#32
  let c0_i32_1894 : BitVec 32 := 0#32
  ![arg0.toNat, 2176, 0]
def k0_off1014 (v2697 : BitVec 32) : Fin 3 → Nat :=
  let c0_i32_1895 : BitVec 32 := 0#32
  let c0_i32_1896 : BitVec 32 := 0#32
  ![v2697.toNat, 0, 0]

def k0_chk338 (v2697 : BitVec 32) : Prop :=
  (∀ a, (k0_off1014 v2697) a + S1x128x128.size a ≤ S10240x128x128.size a)
theorem k0_off1014_inb : ∀ (v2697 : BitVec 32) (k0_hw338 : k0_chk338 v2697), ∀ a, (k0_off1014 v2697) a + S1x128x128.size a ≤ S10240x128x128.size a := fun v2697 k0_hw338 => k0_hw338

def k0_off1015 (i : grid0.Coords) : Fin 2 → Nat :=
  let arg0 : BitVec 32 := BitVec.ofNat 32 (i 0).val
  let v2704 : Index := Scalar.indexCast arg0
  let c18_1897 : Index := 18#32
  ![v2704.toNat, 18]
def k0_off1016 (i : grid0.Coords) : Fin 3 → Nat :=
  let arg0 : BitVec 32 := BitVec.ofNat 32 (i 0).val
  let c2304_i32_1899 : BitVec 32 := 2304#32
  let c0_i32_1900 : BitVec 32 := 0#32
  ![arg0.toNat, 2304, 0]
def k0_off1017 (v2705 : BitVec 32) : Fin 3 → Nat :=
  let c0_i32_1901 : BitVec 32 := 0#32
  let c0_i32_1902 : BitVec 32 := 0#32
  ![v2705.toNat, 0, 0]

def k0_chk339 (v2705 : BitVec 32) : Prop :=
  (∀ a, (k0_off1017 v2705) a + S1x128x128.size a ≤ S10240x128x128.size a)
theorem k0_off1017_inb : ∀ (v2705 : BitVec 32) (k0_hw339 : k0_chk339 v2705), ∀ a, (k0_off1017 v2705) a + S1x128x128.size a ≤ S10240x128x128.size a := fun v2705 k0_hw339 => k0_hw339

def k0_off1018 (i : grid0.Coords) : Fin 2 → Nat :=
  let arg0 : BitVec 32 := BitVec.ofNat 32 (i 0).val
  let v2712 : Index := Scalar.indexCast arg0
  let c19_1903 : Index := 19#32
  ![v2712.toNat, 19]
def k0_off1019 (i : grid0.Coords) : Fin 3 → Nat :=
  let arg0 : BitVec 32 := BitVec.ofNat 32 (i 0).val
  let c2432_i32_1905 : BitVec 32 := 2432#32
  let c0_i32_1906 : BitVec 32 := 0#32
  ![arg0.toNat, 2432, 0]
def k0_off1020 (v2713 : BitVec 32) : Fin 3 → Nat :=
  let c0_i32_1907 : BitVec 32 := 0#32
  let c0_i32_1908 : BitVec 32 := 0#32
  ![v2713.toNat, 0, 0]

def k0_chk340 (v2713 : BitVec 32) : Prop :=
  (∀ a, (k0_off1020 v2713) a + S1x128x128.size a ≤ S10240x128x128.size a)
theorem k0_off1020_inb : ∀ (v2713 : BitVec 32) (k0_hw340 : k0_chk340 v2713), ∀ a, (k0_off1020 v2713) a + S1x128x128.size a ≤ S10240x128x128.size a := fun v2713 k0_hw340 => k0_hw340

def k0_off1021 (i : grid0.Coords) : Fin 2 → Nat :=
  let arg0 : BitVec 32 := BitVec.ofNat 32 (i 0).val
  let v2720 : Index := Scalar.indexCast arg0
  let c20_1909 : Index := 20#32
  ![v2720.toNat, 20]
def k0_off1022 (i : grid0.Coords) : Fin 3 → Nat :=
  let arg0 : BitVec 32 := BitVec.ofNat 32 (i 0).val
  let c2560_i32_1911 : BitVec 32 := 2560#32
  let c0_i32_1912 : BitVec 32 := 0#32
  ![arg0.toNat, 2560, 0]
def k0_off1023 (v2721 : BitVec 32) : Fin 3 → Nat :=
  let c0_i32_1913 : BitVec 32 := 0#32
  let c0_i32_1914 : BitVec 32 := 0#32
  ![v2721.toNat, 0, 0]

def k0_chk341 (v2721 : BitVec 32) : Prop :=
  (∀ a, (k0_off1023 v2721) a + S1x128x128.size a ≤ S10240x128x128.size a)
theorem k0_off1023_inb : ∀ (v2721 : BitVec 32) (k0_hw341 : k0_chk341 v2721), ∀ a, (k0_off1023 v2721) a + S1x128x128.size a ≤ S10240x128x128.size a := fun v2721 k0_hw341 => k0_hw341

def k0_off1024 (i : grid0.Coords) : Fin 2 → Nat :=
  let arg0 : BitVec 32 := BitVec.ofNat 32 (i 0).val
  let v2728 : Index := Scalar.indexCast arg0
  let c21_1915 : Index := 21#32
  ![v2728.toNat, 21]
def k0_off1025 (i : grid0.Coords) : Fin 3 → Nat :=
  let arg0 : BitVec 32 := BitVec.ofNat 32 (i 0).val
  let c2688_i32_1917 : BitVec 32 := 2688#32
  let c0_i32_1918 : BitVec 32 := 0#32
  ![arg0.toNat, 2688, 0]
def k0_off1026 (v2729 : BitVec 32) : Fin 3 → Nat :=
  let c0_i32_1919 : BitVec 32 := 0#32
  let c0_i32_1920 : BitVec 32 := 0#32
  ![v2729.toNat, 0, 0]

def k0_chk342 (v2729 : BitVec 32) : Prop :=
  (∀ a, (k0_off1026 v2729) a + S1x128x128.size a ≤ S10240x128x128.size a)
theorem k0_off1026_inb : ∀ (v2729 : BitVec 32) (k0_hw342 : k0_chk342 v2729), ∀ a, (k0_off1026 v2729) a + S1x128x128.size a ≤ S10240x128x128.size a := fun v2729 k0_hw342 => k0_hw342

def k0_off1027 (i : grid0.Coords) : Fin 2 → Nat :=
  let arg0 : BitVec 32 := BitVec.ofNat 32 (i 0).val
  let v2736 : Index := Scalar.indexCast arg0
  let c22_1921 : Index := 22#32
  ![v2736.toNat, 22]
def k0_off1028 (i : grid0.Coords) : Fin 3 → Nat :=
  let arg0 : BitVec 32 := BitVec.ofNat 32 (i 0).val
  let c2816_i32_1923 : BitVec 32 := 2816#32
  let c0_i32_1924 : BitVec 32 := 0#32
  ![arg0.toNat, 2816, 0]
def k0_off1029 (v2737 : BitVec 32) : Fin 3 → Nat :=
  let c0_i32_1925 : BitVec 32 := 0#32
  let c0_i32_1926 : BitVec 32 := 0#32
  ![v2737.toNat, 0, 0]

def k0_chk343 (v2737 : BitVec 32) : Prop :=
  (∀ a, (k0_off1029 v2737) a + S1x128x128.size a ≤ S10240x128x128.size a)
theorem k0_off1029_inb : ∀ (v2737 : BitVec 32) (k0_hw343 : k0_chk343 v2737), ∀ a, (k0_off1029 v2737) a + S1x128x128.size a ≤ S10240x128x128.size a := fun v2737 k0_hw343 => k0_hw343

def k0_off1030 (i : grid0.Coords) : Fin 2 → Nat :=
  let arg0 : BitVec 32 := BitVec.ofNat 32 (i 0).val
  let v2744 : Index := Scalar.indexCast arg0
  let c23_1927 : Index := 23#32
  ![v2744.toNat, 23]
def k0_off1031 (i : grid0.Coords) : Fin 3 → Nat :=
  let arg0 : BitVec 32 := BitVec.ofNat 32 (i 0).val
  let c2944_i32_1929 : BitVec 32 := 2944#32
  let c0_i32_1930 : BitVec 32 := 0#32
  ![arg0.toNat, 2944, 0]
def k0_off1032 (v2745 : BitVec 32) : Fin 3 → Nat :=
  let c0_i32_1931 : BitVec 32 := 0#32
  let c0_i32_1932 : BitVec 32 := 0#32
  ![v2745.toNat, 0, 0]

def k0_chk344 (v2745 : BitVec 32) : Prop :=
  (∀ a, (k0_off1032 v2745) a + S1x128x128.size a ≤ S10240x128x128.size a)
theorem k0_off1032_inb : ∀ (v2745 : BitVec 32) (k0_hw344 : k0_chk344 v2745), ∀ a, (k0_off1032 v2745) a + S1x128x128.size a ≤ S10240x128x128.size a := fun v2745 k0_hw344 => k0_hw344

def k0_off1033 (i : grid0.Coords) : Fin 2 → Nat :=
  let arg0 : BitVec 32 := BitVec.ofNat 32 (i 0).val
  let v2752 : Index := Scalar.indexCast arg0
  let c24_1933 : Index := 24#32
  ![v2752.toNat, 24]
def k0_off1034 (i : grid0.Coords) : Fin 3 → Nat :=
  let arg0 : BitVec 32 := BitVec.ofNat 32 (i 0).val
  let c3072_i32_1935 : BitVec 32 := 3072#32
  let c0_i32_1936 : BitVec 32 := 0#32
  ![arg0.toNat, 3072, 0]
def k0_off1035 (v2753 : BitVec 32) : Fin 3 → Nat :=
  let c0_i32_1937 : BitVec 32 := 0#32
  let c0_i32_1938 : BitVec 32 := 0#32
  ![v2753.toNat, 0, 0]

def k0_chk345 (v2753 : BitVec 32) : Prop :=
  (∀ a, (k0_off1035 v2753) a + S1x128x128.size a ≤ S10240x128x128.size a)
theorem k0_off1035_inb : ∀ (v2753 : BitVec 32) (k0_hw345 : k0_chk345 v2753), ∀ a, (k0_off1035 v2753) a + S1x128x128.size a ≤ S10240x128x128.size a := fun v2753 k0_hw345 => k0_hw345

def k0_off1036 (i : grid0.Coords) : Fin 2 → Nat :=
  let arg0 : BitVec 32 := BitVec.ofNat 32 (i 0).val
  let v2760 : Index := Scalar.indexCast arg0
  let c25_1939 : Index := 25#32
  ![v2760.toNat, 25]
def k0_off1037 (i : grid0.Coords) : Fin 3 → Nat :=
  let arg0 : BitVec 32 := BitVec.ofNat 32 (i 0).val
  let c3200_i32_1941 : BitVec 32 := 3200#32
  let c0_i32_1942 : BitVec 32 := 0#32
  ![arg0.toNat, 3200, 0]
def k0_off1038 (v2761 : BitVec 32) : Fin 3 → Nat :=
  let c0_i32_1943 : BitVec 32 := 0#32
  let c0_i32_1944 : BitVec 32 := 0#32
  ![v2761.toNat, 0, 0]

def k0_chk346 (v2761 : BitVec 32) : Prop :=
  (∀ a, (k0_off1038 v2761) a + S1x128x128.size a ≤ S10240x128x128.size a)
theorem k0_off1038_inb : ∀ (v2761 : BitVec 32) (k0_hw346 : k0_chk346 v2761), ∀ a, (k0_off1038 v2761) a + S1x128x128.size a ≤ S10240x128x128.size a := fun v2761 k0_hw346 => k0_hw346

def k0_off1039 (i : grid0.Coords) : Fin 2 → Nat :=
  let arg0 : BitVec 32 := BitVec.ofNat 32 (i 0).val
  let v2768 : Index := Scalar.indexCast arg0
  let c26_1945 : Index := 26#32
  ![v2768.toNat, 26]
def k0_off1040 (i : grid0.Coords) : Fin 3 → Nat :=
  let arg0 : BitVec 32 := BitVec.ofNat 32 (i 0).val
  let c3328_i32_1947 : BitVec 32 := 3328#32
  let c0_i32_1948 : BitVec 32 := 0#32
  ![arg0.toNat, 3328, 0]
def k0_off1041 (v2769 : BitVec 32) : Fin 3 → Nat :=
  let c0_i32_1949 : BitVec 32 := 0#32
  let c0_i32_1950 : BitVec 32 := 0#32
  ![v2769.toNat, 0, 0]

def k0_chk347 (v2769 : BitVec 32) : Prop :=
  (∀ a, (k0_off1041 v2769) a + S1x128x128.size a ≤ S10240x128x128.size a)
theorem k0_off1041_inb : ∀ (v2769 : BitVec 32) (k0_hw347 : k0_chk347 v2769), ∀ a, (k0_off1041 v2769) a + S1x128x128.size a ≤ S10240x128x128.size a := fun v2769 k0_hw347 => k0_hw347

def k0_off1042 (i : grid0.Coords) : Fin 2 → Nat :=
  let arg0 : BitVec 32 := BitVec.ofNat 32 (i 0).val
  let v2776 : Index := Scalar.indexCast arg0
  let c27_1951 : Index := 27#32
  ![v2776.toNat, 27]
def k0_off1043 (i : grid0.Coords) : Fin 3 → Nat :=
  let arg0 : BitVec 32 := BitVec.ofNat 32 (i 0).val
  let c3456_i32_1953 : BitVec 32 := 3456#32
  let c0_i32_1954 : BitVec 32 := 0#32
  ![arg0.toNat, 3456, 0]
def k0_off1044 (v2777 : BitVec 32) : Fin 3 → Nat :=
  let c0_i32_1955 : BitVec 32 := 0#32
  let c0_i32_1956 : BitVec 32 := 0#32
  ![v2777.toNat, 0, 0]

def k0_chk348 (v2777 : BitVec 32) : Prop :=
  (∀ a, (k0_off1044 v2777) a + S1x128x128.size a ≤ S10240x128x128.size a)
theorem k0_off1044_inb : ∀ (v2777 : BitVec 32) (k0_hw348 : k0_chk348 v2777), ∀ a, (k0_off1044 v2777) a + S1x128x128.size a ≤ S10240x128x128.size a := fun v2777 k0_hw348 => k0_hw348

def k0_off1045 (i : grid0.Coords) : Fin 2 → Nat :=
  let arg0 : BitVec 32 := BitVec.ofNat 32 (i 0).val
  let v2784 : Index := Scalar.indexCast arg0
  let c28_1957 : Index := 28#32
  ![v2784.toNat, 28]
def k0_off1046 (i : grid0.Coords) : Fin 3 → Nat :=
  let arg0 : BitVec 32 := BitVec.ofNat 32 (i 0).val
  let c3584_i32_1959 : BitVec 32 := 3584#32
  let c0_i32_1960 : BitVec 32 := 0#32
  ![arg0.toNat, 3584, 0]
def k0_off1047 (v2785 : BitVec 32) : Fin 3 → Nat :=
  let c0_i32_1961 : BitVec 32 := 0#32
  let c0_i32_1962 : BitVec 32 := 0#32
  ![v2785.toNat, 0, 0]

def k0_chk349 (v2785 : BitVec 32) : Prop :=
  (∀ a, (k0_off1047 v2785) a + S1x128x128.size a ≤ S10240x128x128.size a)
theorem k0_off1047_inb : ∀ (v2785 : BitVec 32) (k0_hw349 : k0_chk349 v2785), ∀ a, (k0_off1047 v2785) a + S1x128x128.size a ≤ S10240x128x128.size a := fun v2785 k0_hw349 => k0_hw349

def k0_off1048 (i : grid0.Coords) : Fin 2 → Nat :=
  let arg0 : BitVec 32 := BitVec.ofNat 32 (i 0).val
  let v2792 : Index := Scalar.indexCast arg0
  let c29_1963 : Index := 29#32
  ![v2792.toNat, 29]
def k0_off1049 (i : grid0.Coords) : Fin 3 → Nat :=
  let arg0 : BitVec 32 := BitVec.ofNat 32 (i 0).val
  let c3712_i32_1965 : BitVec 32 := 3712#32
  let c0_i32_1966 : BitVec 32 := 0#32
  ![arg0.toNat, 3712, 0]
def k0_off1050 (v2793 : BitVec 32) : Fin 3 → Nat :=
  let c0_i32_1967 : BitVec 32 := 0#32
  let c0_i32_1968 : BitVec 32 := 0#32
  ![v2793.toNat, 0, 0]

def k0_chk350 (v2793 : BitVec 32) : Prop :=
  (∀ a, (k0_off1050 v2793) a + S1x128x128.size a ≤ S10240x128x128.size a)
theorem k0_off1050_inb : ∀ (v2793 : BitVec 32) (k0_hw350 : k0_chk350 v2793), ∀ a, (k0_off1050 v2793) a + S1x128x128.size a ≤ S10240x128x128.size a := fun v2793 k0_hw350 => k0_hw350

def k0_off1051 (i : grid0.Coords) : Fin 2 → Nat :=
  let arg0 : BitVec 32 := BitVec.ofNat 32 (i 0).val
  let v2800 : Index := Scalar.indexCast arg0
  let c30_1969 : Index := 30#32
  ![v2800.toNat, 30]
def k0_off1052 (i : grid0.Coords) : Fin 3 → Nat :=
  let arg0 : BitVec 32 := BitVec.ofNat 32 (i 0).val
  let c3840_i32_1971 : BitVec 32 := 3840#32
  let c0_i32_1972 : BitVec 32 := 0#32
  ![arg0.toNat, 3840, 0]
def k0_off1053 (v2801 : BitVec 32) : Fin 3 → Nat :=
  let c0_i32_1973 : BitVec 32 := 0#32
  let c0_i32_1974 : BitVec 32 := 0#32
  ![v2801.toNat, 0, 0]

def k0_chk351 (v2801 : BitVec 32) : Prop :=
  (∀ a, (k0_off1053 v2801) a + S1x128x128.size a ≤ S10240x128x128.size a)
theorem k0_off1053_inb : ∀ (v2801 : BitVec 32) (k0_hw351 : k0_chk351 v2801), ∀ a, (k0_off1053 v2801) a + S1x128x128.size a ≤ S10240x128x128.size a := fun v2801 k0_hw351 => k0_hw351

def k0_off1054 (i : grid0.Coords) : Fin 2 → Nat :=
  let arg0 : BitVec 32 := BitVec.ofNat 32 (i 0).val
  let v2808 : Index := Scalar.indexCast arg0
  let c31_1975 : Index := 31#32
  ![v2808.toNat, 31]
def k0_off1055 (i : grid0.Coords) : Fin 3 → Nat :=
  let arg0 : BitVec 32 := BitVec.ofNat 32 (i 0).val
  let c3968_i32_1977 : BitVec 32 := 3968#32
  let c0_i32_1978 : BitVec 32 := 0#32
  ![arg0.toNat, 3968, 0]
def k0_off1056 (v2809 : BitVec 32) : Fin 3 → Nat :=
  let c0_i32_1979 : BitVec 32 := 0#32
  let c0_i32_1980 : BitVec 32 := 0#32
  ![v2809.toNat, 0, 0]

def k0_chk352 (v2809 : BitVec 32) : Prop :=
  (∀ a, (k0_off1056 v2809) a + S1x128x128.size a ≤ S10240x128x128.size a)
theorem k0_off1056_inb : ∀ (v2809 : BitVec 32) (k0_hw352 : k0_chk352 v2809), ∀ a, (k0_off1056 v2809) a + S1x128x128.size a ≤ S10240x128x128.size a := fun v2809 k0_hw352 => k0_hw352

def k0_off1057 (i : grid0.Coords) : Fin 2 → Nat :=
  let arg0 : BitVec 32 := BitVec.ofNat 32 (i 0).val
  let v2816 : Index := Scalar.indexCast arg0
  let c32_1981 : Index := 32#32
  ![v2816.toNat, 32]
def k0_off1058 (i : grid0.Coords) : Fin 3 → Nat :=
  let arg0 : BitVec 32 := BitVec.ofNat 32 (i 0).val
  let c4096_i32_1983 : BitVec 32 := 4096#32
  let c0_i32_1984 : BitVec 32 := 0#32
  ![arg0.toNat, 4096, 0]
def k0_off1059 (v2817 : BitVec 32) : Fin 3 → Nat :=
  let c0_i32_1985 : BitVec 32 := 0#32
  let c0_i32_1986 : BitVec 32 := 0#32
  ![v2817.toNat, 0, 0]

def k0_chk353 (v2817 : BitVec 32) : Prop :=
  (∀ a, (k0_off1059 v2817) a + S1x128x128.size a ≤ S10240x128x128.size a)
theorem k0_off1059_inb : ∀ (v2817 : BitVec 32) (k0_hw353 : k0_chk353 v2817), ∀ a, (k0_off1059 v2817) a + S1x128x128.size a ≤ S10240x128x128.size a := fun v2817 k0_hw353 => k0_hw353

def k0_off1060 (i : grid0.Coords) : Fin 2 → Nat :=
  let arg0 : BitVec 32 := BitVec.ofNat 32 (i 0).val
  let v2824 : Index := Scalar.indexCast arg0
  let c33_1987 : Index := 33#32
  ![v2824.toNat, 33]
def k0_off1061 (i : grid0.Coords) : Fin 3 → Nat :=
  let arg0 : BitVec 32 := BitVec.ofNat 32 (i 0).val
  let c4224_i32_1989 : BitVec 32 := 4224#32
  let c0_i32_1990 : BitVec 32 := 0#32
  ![arg0.toNat, 4224, 0]
def k0_off1062 (v2825 : BitVec 32) : Fin 3 → Nat :=
  let c0_i32_1991 : BitVec 32 := 0#32
  let c0_i32_1992 : BitVec 32 := 0#32
  ![v2825.toNat, 0, 0]

def k0_chk354 (v2825 : BitVec 32) : Prop :=
  (∀ a, (k0_off1062 v2825) a + S1x128x128.size a ≤ S10240x128x128.size a)
theorem k0_off1062_inb : ∀ (v2825 : BitVec 32) (k0_hw354 : k0_chk354 v2825), ∀ a, (k0_off1062 v2825) a + S1x128x128.size a ≤ S10240x128x128.size a := fun v2825 k0_hw354 => k0_hw354

def k0_off1063 (i : grid0.Coords) : Fin 2 → Nat :=
  let arg0 : BitVec 32 := BitVec.ofNat 32 (i 0).val
  let v2832 : Index := Scalar.indexCast arg0
  let c34_1993 : Index := 34#32
  ![v2832.toNat, 34]
def k0_off1064 (i : grid0.Coords) : Fin 3 → Nat :=
  let arg0 : BitVec 32 := BitVec.ofNat 32 (i 0).val
  let c4352_i32_1995 : BitVec 32 := 4352#32
  let c0_i32_1996 : BitVec 32 := 0#32
  ![arg0.toNat, 4352, 0]
def k0_off1065 (v2833 : BitVec 32) : Fin 3 → Nat :=
  let c0_i32_1997 : BitVec 32 := 0#32
  let c0_i32_1998 : BitVec 32 := 0#32
  ![v2833.toNat, 0, 0]

def k0_chk355 (v2833 : BitVec 32) : Prop :=
  (∀ a, (k0_off1065 v2833) a + S1x128x128.size a ≤ S10240x128x128.size a)
theorem k0_off1065_inb : ∀ (v2833 : BitVec 32) (k0_hw355 : k0_chk355 v2833), ∀ a, (k0_off1065 v2833) a + S1x128x128.size a ≤ S10240x128x128.size a := fun v2833 k0_hw355 => k0_hw355

def k0_off1066 (i : grid0.Coords) : Fin 2 → Nat :=
  let arg0 : BitVec 32 := BitVec.ofNat 32 (i 0).val
  let v2840 : Index := Scalar.indexCast arg0
  let c35_1999 : Index := 35#32
  ![v2840.toNat, 35]
def k0_off1067 (i : grid0.Coords) : Fin 3 → Nat :=
  let arg0 : BitVec 32 := BitVec.ofNat 32 (i 0).val
  let c4480_i32_2001 : BitVec 32 := 4480#32
  let c0_i32_2002 : BitVec 32 := 0#32
  ![arg0.toNat, 4480, 0]
def k0_off1068 (v2841 : BitVec 32) : Fin 3 → Nat :=
  let c0_i32_2003 : BitVec 32 := 0#32
  let c0_i32_2004 : BitVec 32 := 0#32
  ![v2841.toNat, 0, 0]

def k0_chk356 (v2841 : BitVec 32) : Prop :=
  (∀ a, (k0_off1068 v2841) a + S1x128x128.size a ≤ S10240x128x128.size a)
theorem k0_off1068_inb : ∀ (v2841 : BitVec 32) (k0_hw356 : k0_chk356 v2841), ∀ a, (k0_off1068 v2841) a + S1x128x128.size a ≤ S10240x128x128.size a := fun v2841 k0_hw356 => k0_hw356

def k0_off1069 (i : grid0.Coords) : Fin 2 → Nat :=
  let arg0 : BitVec 32 := BitVec.ofNat 32 (i 0).val
  let v2848 : Index := Scalar.indexCast arg0
  let c36_2005 : Index := 36#32
  ![v2848.toNat, 36]
def k0_off1070 (i : grid0.Coords) : Fin 3 → Nat :=
  let arg0 : BitVec 32 := BitVec.ofNat 32 (i 0).val
  let c4608_i32_2007 : BitVec 32 := 4608#32
  let c0_i32_2008 : BitVec 32 := 0#32
  ![arg0.toNat, 4608, 0]
def k0_off1071 (v2849 : BitVec 32) : Fin 3 → Nat :=
  let c0_i32_2009 : BitVec 32 := 0#32
  let c0_i32_2010 : BitVec 32 := 0#32
  ![v2849.toNat, 0, 0]

def k0_chk357 (v2849 : BitVec 32) : Prop :=
  (∀ a, (k0_off1071 v2849) a + S1x128x128.size a ≤ S10240x128x128.size a)
theorem k0_off1071_inb : ∀ (v2849 : BitVec 32) (k0_hw357 : k0_chk357 v2849), ∀ a, (k0_off1071 v2849) a + S1x128x128.size a ≤ S10240x128x128.size a := fun v2849 k0_hw357 => k0_hw357

def k0_off1072 (i : grid0.Coords) : Fin 2 → Nat :=
  let arg0 : BitVec 32 := BitVec.ofNat 32 (i 0).val
  let v2856 : Index := Scalar.indexCast arg0
  let c37_2011 : Index := 37#32
  ![v2856.toNat, 37]
def k0_off1073 (i : grid0.Coords) : Fin 3 → Nat :=
  let arg0 : BitVec 32 := BitVec.ofNat 32 (i 0).val
  let c4736_i32_2013 : BitVec 32 := 4736#32
  let c0_i32_2014 : BitVec 32 := 0#32
  ![arg0.toNat, 4736, 0]
def k0_off1074 (v2857 : BitVec 32) : Fin 3 → Nat :=
  let c0_i32_2015 : BitVec 32 := 0#32
  let c0_i32_2016 : BitVec 32 := 0#32
  ![v2857.toNat, 0, 0]

def k0_chk358 (v2857 : BitVec 32) : Prop :=
  (∀ a, (k0_off1074 v2857) a + S1x128x128.size a ≤ S10240x128x128.size a)
theorem k0_off1074_inb : ∀ (v2857 : BitVec 32) (k0_hw358 : k0_chk358 v2857), ∀ a, (k0_off1074 v2857) a + S1x128x128.size a ≤ S10240x128x128.size a := fun v2857 k0_hw358 => k0_hw358

def k0_off1075 (i : grid0.Coords) : Fin 2 → Nat :=
  let arg0 : BitVec 32 := BitVec.ofNat 32 (i 0).val
  let v2864 : Index := Scalar.indexCast arg0
  let c38_2017 : Index := 38#32
  ![v2864.toNat, 38]
def k0_off1076 (i : grid0.Coords) : Fin 3 → Nat :=
  let arg0 : BitVec 32 := BitVec.ofNat 32 (i 0).val
  let c4864_i32_2019 : BitVec 32 := 4864#32
  let c0_i32_2020 : BitVec 32 := 0#32
  ![arg0.toNat, 4864, 0]
def k0_off1077 (v2865 : BitVec 32) : Fin 3 → Nat :=
  let c0_i32_2021 : BitVec 32 := 0#32
  let c0_i32_2022 : BitVec 32 := 0#32
  ![v2865.toNat, 0, 0]

def k0_chk359 (v2865 : BitVec 32) : Prop :=
  (∀ a, (k0_off1077 v2865) a + S1x128x128.size a ≤ S10240x128x128.size a)
theorem k0_off1077_inb : ∀ (v2865 : BitVec 32) (k0_hw359 : k0_chk359 v2865), ∀ a, (k0_off1077 v2865) a + S1x128x128.size a ≤ S10240x128x128.size a := fun v2865 k0_hw359 => k0_hw359

def k0_off1078 (i : grid0.Coords) : Fin 2 → Nat :=
  let arg0 : BitVec 32 := BitVec.ofNat 32 (i 0).val
  let v2872 : Index := Scalar.indexCast arg0
  let c39_2023 : Index := 39#32
  ![v2872.toNat, 39]
def k0_off1079 (i : grid0.Coords) : Fin 3 → Nat :=
  let arg0 : BitVec 32 := BitVec.ofNat 32 (i 0).val
  let c4992_i32_2025 : BitVec 32 := 4992#32
  let c0_i32_2026 : BitVec 32 := 0#32
  ![arg0.toNat, 4992, 0]
def k0_off1080 (v2873 : BitVec 32) : Fin 3 → Nat :=
  let c0_i32_2027 : BitVec 32 := 0#32
  let c0_i32_2028 : BitVec 32 := 0#32
  ![v2873.toNat, 0, 0]

def k0_chk360 (v2873 : BitVec 32) : Prop :=
  (∀ a, (k0_off1080 v2873) a + S1x128x128.size a ≤ S10240x128x128.size a)
theorem k0_off1080_inb : ∀ (v2873 : BitVec 32) (k0_hw360 : k0_chk360 v2873), ∀ a, (k0_off1080 v2873) a + S1x128x128.size a ≤ S10240x128x128.size a := fun v2873 k0_hw360 => k0_hw360

def k0_off1081 (i : grid0.Coords) : Fin 2 → Nat :=
  let arg0 : BitVec 32 := BitVec.ofNat 32 (i 0).val
  let v2880 : Index := Scalar.indexCast arg0
  let c40_2029 : Index := 40#32
  ![v2880.toNat, 40]
def k0_off1082 (i : grid0.Coords) : Fin 3 → Nat :=
  let arg0 : BitVec 32 := BitVec.ofNat 32 (i 0).val
  let c5120_i32_2031 : BitVec 32 := 5120#32
  let c0_i32_2032 : BitVec 32 := 0#32
  ![arg0.toNat, 5120, 0]
def k0_off1083 (v2881 : BitVec 32) : Fin 3 → Nat :=
  let c0_i32_2033 : BitVec 32 := 0#32
  let c0_i32_2034 : BitVec 32 := 0#32
  ![v2881.toNat, 0, 0]

def k0_chk361 (v2881 : BitVec 32) : Prop :=
  (∀ a, (k0_off1083 v2881) a + S1x128x128.size a ≤ S10240x128x128.size a)
theorem k0_off1083_inb : ∀ (v2881 : BitVec 32) (k0_hw361 : k0_chk361 v2881), ∀ a, (k0_off1083 v2881) a + S1x128x128.size a ≤ S10240x128x128.size a := fun v2881 k0_hw361 => k0_hw361

def k0_off1084 (i : grid0.Coords) : Fin 2 → Nat :=
  let arg0 : BitVec 32 := BitVec.ofNat 32 (i 0).val
  let v2888 : Index := Scalar.indexCast arg0
  let c41_2035 : Index := 41#32
  ![v2888.toNat, 41]
def k0_off1085 (i : grid0.Coords) : Fin 3 → Nat :=
  let arg0 : BitVec 32 := BitVec.ofNat 32 (i 0).val
  let c5248_i32_2037 : BitVec 32 := 5248#32
  let c0_i32_2038 : BitVec 32 := 0#32
  ![arg0.toNat, 5248, 0]
def k0_off1086 (v2889 : BitVec 32) : Fin 3 → Nat :=
  let c0_i32_2039 : BitVec 32 := 0#32
  let c0_i32_2040 : BitVec 32 := 0#32
  ![v2889.toNat, 0, 0]

def k0_chk362 (v2889 : BitVec 32) : Prop :=
  (∀ a, (k0_off1086 v2889) a + S1x128x128.size a ≤ S10240x128x128.size a)
theorem k0_off1086_inb : ∀ (v2889 : BitVec 32) (k0_hw362 : k0_chk362 v2889), ∀ a, (k0_off1086 v2889) a + S1x128x128.size a ≤ S10240x128x128.size a := fun v2889 k0_hw362 => k0_hw362

def k0_off1087 (i : grid0.Coords) : Fin 2 → Nat :=
  let arg0 : BitVec 32 := BitVec.ofNat 32 (i 0).val
  let v2896 : Index := Scalar.indexCast arg0
  let c42_2041 : Index := 42#32
  ![v2896.toNat, 42]
def k0_off1088 (i : grid0.Coords) : Fin 3 → Nat :=
  let arg0 : BitVec 32 := BitVec.ofNat 32 (i 0).val
  let c5376_i32_2043 : BitVec 32 := 5376#32
  let c0_i32_2044 : BitVec 32 := 0#32
  ![arg0.toNat, 5376, 0]
def k0_off1089 (v2897 : BitVec 32) : Fin 3 → Nat :=
  let c0_i32_2045 : BitVec 32 := 0#32
  let c0_i32_2046 : BitVec 32 := 0#32
  ![v2897.toNat, 0, 0]

def k0_chk363 (v2897 : BitVec 32) : Prop :=
  (∀ a, (k0_off1089 v2897) a + S1x128x128.size a ≤ S10240x128x128.size a)
theorem k0_off1089_inb : ∀ (v2897 : BitVec 32) (k0_hw363 : k0_chk363 v2897), ∀ a, (k0_off1089 v2897) a + S1x128x128.size a ≤ S10240x128x128.size a := fun v2897 k0_hw363 => k0_hw363

def k0_off1090 (i : grid0.Coords) : Fin 2 → Nat :=
  let arg0 : BitVec 32 := BitVec.ofNat 32 (i 0).val
  let v2904 : Index := Scalar.indexCast arg0
  let c43_2047 : Index := 43#32
  ![v2904.toNat, 43]
def k0_off1091 (i : grid0.Coords) : Fin 3 → Nat :=
  let arg0 : BitVec 32 := BitVec.ofNat 32 (i 0).val
  let c5504_i32_2049 : BitVec 32 := 5504#32
  let c0_i32_2050 : BitVec 32 := 0#32
  ![arg0.toNat, 5504, 0]
def k0_off1092 (v2905 : BitVec 32) : Fin 3 → Nat :=
  let c0_i32_2051 : BitVec 32 := 0#32
  let c0_i32_2052 : BitVec 32 := 0#32
  ![v2905.toNat, 0, 0]

def k0_chk364 (v2905 : BitVec 32) : Prop :=
  (∀ a, (k0_off1092 v2905) a + S1x128x128.size a ≤ S10240x128x128.size a)
theorem k0_off1092_inb : ∀ (v2905 : BitVec 32) (k0_hw364 : k0_chk364 v2905), ∀ a, (k0_off1092 v2905) a + S1x128x128.size a ≤ S10240x128x128.size a := fun v2905 k0_hw364 => k0_hw364

def k0_off1093 (i : grid0.Coords) : Fin 2 → Nat :=
  let arg0 : BitVec 32 := BitVec.ofNat 32 (i 0).val
  let v2912 : Index := Scalar.indexCast arg0
  let c44_2053 : Index := 44#32
  ![v2912.toNat, 44]
def k0_off1094 (i : grid0.Coords) : Fin 3 → Nat :=
  let arg0 : BitVec 32 := BitVec.ofNat 32 (i 0).val
  let c5632_i32_2055 : BitVec 32 := 5632#32
  let c0_i32_2056 : BitVec 32 := 0#32
  ![arg0.toNat, 5632, 0]
def k0_off1095 (v2913 : BitVec 32) : Fin 3 → Nat :=
  let c0_i32_2057 : BitVec 32 := 0#32
  let c0_i32_2058 : BitVec 32 := 0#32
  ![v2913.toNat, 0, 0]

def k0_chk365 (v2913 : BitVec 32) : Prop :=
  (∀ a, (k0_off1095 v2913) a + S1x128x128.size a ≤ S10240x128x128.size a)
theorem k0_off1095_inb : ∀ (v2913 : BitVec 32) (k0_hw365 : k0_chk365 v2913), ∀ a, (k0_off1095 v2913) a + S1x128x128.size a ≤ S10240x128x128.size a := fun v2913 k0_hw365 => k0_hw365

def k0_off1096 (i : grid0.Coords) : Fin 2 → Nat :=
  let arg0 : BitVec 32 := BitVec.ofNat 32 (i 0).val
  let v2920 : Index := Scalar.indexCast arg0
  let c45_2059 : Index := 45#32
  ![v2920.toNat, 45]
def k0_off1097 (i : grid0.Coords) : Fin 3 → Nat :=
  let arg0 : BitVec 32 := BitVec.ofNat 32 (i 0).val
  let c5760_i32_2061 : BitVec 32 := 5760#32
  let c0_i32_2062 : BitVec 32 := 0#32
  ![arg0.toNat, 5760, 0]
def k0_off1098 (v2921 : BitVec 32) : Fin 3 → Nat :=
  let c0_i32_2063 : BitVec 32 := 0#32
  let c0_i32_2064 : BitVec 32 := 0#32
  ![v2921.toNat, 0, 0]

def k0_chk366 (v2921 : BitVec 32) : Prop :=
  (∀ a, (k0_off1098 v2921) a + S1x128x128.size a ≤ S10240x128x128.size a)
theorem k0_off1098_inb : ∀ (v2921 : BitVec 32) (k0_hw366 : k0_chk366 v2921), ∀ a, (k0_off1098 v2921) a + S1x128x128.size a ≤ S10240x128x128.size a := fun v2921 k0_hw366 => k0_hw366

def k0_off1099 (i : grid0.Coords) : Fin 2 → Nat :=
  let arg0 : BitVec 32 := BitVec.ofNat 32 (i 0).val
  let v2928 : Index := Scalar.indexCast arg0
  let c46_2065 : Index := 46#32
  ![v2928.toNat, 46]
def k0_off1100 (i : grid0.Coords) : Fin 3 → Nat :=
  let arg0 : BitVec 32 := BitVec.ofNat 32 (i 0).val
  let c5888_i32_2067 : BitVec 32 := 5888#32
  let c0_i32_2068 : BitVec 32 := 0#32
  ![arg0.toNat, 5888, 0]
def k0_off1101 (v2929 : BitVec 32) : Fin 3 → Nat :=
  let c0_i32_2069 : BitVec 32 := 0#32
  let c0_i32_2070 : BitVec 32 := 0#32
  ![v2929.toNat, 0, 0]

def k0_chk367 (v2929 : BitVec 32) : Prop :=
  (∀ a, (k0_off1101 v2929) a + S1x128x128.size a ≤ S10240x128x128.size a)
theorem k0_off1101_inb : ∀ (v2929 : BitVec 32) (k0_hw367 : k0_chk367 v2929), ∀ a, (k0_off1101 v2929) a + S1x128x128.size a ≤ S10240x128x128.size a := fun v2929 k0_hw367 => k0_hw367

def k0_off1102 (i : grid0.Coords) : Fin 2 → Nat :=
  let arg0 : BitVec 32 := BitVec.ofNat 32 (i 0).val
  let v2936 : Index := Scalar.indexCast arg0
  let c47_2071 : Index := 47#32
  ![v2936.toNat, 47]
def k0_off1103 (i : grid0.Coords) : Fin 3 → Nat :=
  let arg0 : BitVec 32 := BitVec.ofNat 32 (i 0).val
  let c6016_i32_2073 : BitVec 32 := 6016#32
  let c0_i32_2074 : BitVec 32 := 0#32
  ![arg0.toNat, 6016, 0]
def k0_off1104 (v2937 : BitVec 32) : Fin 3 → Nat :=
  let c0_i32_2075 : BitVec 32 := 0#32
  let c0_i32_2076 : BitVec 32 := 0#32
  ![v2937.toNat, 0, 0]

def k0_chk368 (v2937 : BitVec 32) : Prop :=
  (∀ a, (k0_off1104 v2937) a + S1x128x128.size a ≤ S10240x128x128.size a)
theorem k0_off1104_inb : ∀ (v2937 : BitVec 32) (k0_hw368 : k0_chk368 v2937), ∀ a, (k0_off1104 v2937) a + S1x128x128.size a ≤ S10240x128x128.size a := fun v2937 k0_hw368 => k0_hw368

def k0_off1105 (i : grid0.Coords) : Fin 2 → Nat :=
  let arg0 : BitVec 32 := BitVec.ofNat 32 (i 0).val
  let v2944 : Index := Scalar.indexCast arg0
  let c48_2077 : Index := 48#32
  ![v2944.toNat, 48]
def k0_off1106 (i : grid0.Coords) : Fin 3 → Nat :=
  let arg0 : BitVec 32 := BitVec.ofNat 32 (i 0).val
  let c6144_i32_2079 : BitVec 32 := 6144#32
  let c0_i32_2080 : BitVec 32 := 0#32
  ![arg0.toNat, 6144, 0]
def k0_off1107 (v2945 : BitVec 32) : Fin 3 → Nat :=
  let c0_i32_2081 : BitVec 32 := 0#32
  let c0_i32_2082 : BitVec 32 := 0#32
  ![v2945.toNat, 0, 0]

def k0_chk369 (v2945 : BitVec 32) : Prop :=
  (∀ a, (k0_off1107 v2945) a + S1x128x128.size a ≤ S10240x128x128.size a)
theorem k0_off1107_inb : ∀ (v2945 : BitVec 32) (k0_hw369 : k0_chk369 v2945), ∀ a, (k0_off1107 v2945) a + S1x128x128.size a ≤ S10240x128x128.size a := fun v2945 k0_hw369 => k0_hw369

def k0_off1108 (i : grid0.Coords) : Fin 2 → Nat :=
  let arg0 : BitVec 32 := BitVec.ofNat 32 (i 0).val
  let v2952 : Index := Scalar.indexCast arg0
  let c49_2083 : Index := 49#32
  ![v2952.toNat, 49]
def k0_off1109 (i : grid0.Coords) : Fin 3 → Nat :=
  let arg0 : BitVec 32 := BitVec.ofNat 32 (i 0).val
  let c6272_i32_2085 : BitVec 32 := 6272#32
  let c0_i32_2086 : BitVec 32 := 0#32
  ![arg0.toNat, 6272, 0]
def k0_off1110 (v2953 : BitVec 32) : Fin 3 → Nat :=
  let c0_i32_2087 : BitVec 32 := 0#32
  let c0_i32_2088 : BitVec 32 := 0#32
  ![v2953.toNat, 0, 0]

def k0_chk370 (v2953 : BitVec 32) : Prop :=
  (∀ a, (k0_off1110 v2953) a + S1x128x128.size a ≤ S10240x128x128.size a)
theorem k0_off1110_inb : ∀ (v2953 : BitVec 32) (k0_hw370 : k0_chk370 v2953), ∀ a, (k0_off1110 v2953) a + S1x128x128.size a ≤ S10240x128x128.size a := fun v2953 k0_hw370 => k0_hw370

def k0_off1111 (i : grid0.Coords) : Fin 2 → Nat :=
  let arg0 : BitVec 32 := BitVec.ofNat 32 (i 0).val
  let v2960 : Index := Scalar.indexCast arg0
  let c50_2089 : Index := 50#32
  ![v2960.toNat, 50]
def k0_off1112 (i : grid0.Coords) : Fin 3 → Nat :=
  let arg0 : BitVec 32 := BitVec.ofNat 32 (i 0).val
  let c6400_i32_2091 : BitVec 32 := 6400#32
  let c0_i32_2092 : BitVec 32 := 0#32
  ![arg0.toNat, 6400, 0]
def k0_off1113 (v2961 : BitVec 32) : Fin 3 → Nat :=
  let c0_i32_2093 : BitVec 32 := 0#32
  let c0_i32_2094 : BitVec 32 := 0#32
  ![v2961.toNat, 0, 0]

def k0_chk371 (v2961 : BitVec 32) : Prop :=
  (∀ a, (k0_off1113 v2961) a + S1x128x128.size a ≤ S10240x128x128.size a)
theorem k0_off1113_inb : ∀ (v2961 : BitVec 32) (k0_hw371 : k0_chk371 v2961), ∀ a, (k0_off1113 v2961) a + S1x128x128.size a ≤ S10240x128x128.size a := fun v2961 k0_hw371 => k0_hw371

def k0_off1114 (i : grid0.Coords) : Fin 2 → Nat :=
  let arg0 : BitVec 32 := BitVec.ofNat 32 (i 0).val
  let v2968 : Index := Scalar.indexCast arg0
  let c51_2095 : Index := 51#32
  ![v2968.toNat, 51]
def k0_off1115 (i : grid0.Coords) : Fin 3 → Nat :=
  let arg0 : BitVec 32 := BitVec.ofNat 32 (i 0).val
  let c6528_i32_2097 : BitVec 32 := 6528#32
  let c0_i32_2098 : BitVec 32 := 0#32
  ![arg0.toNat, 6528, 0]
def k0_off1116 (v2969 : BitVec 32) : Fin 3 → Nat :=
  let c0_i32_2099 : BitVec 32 := 0#32
  let c0_i32_2100 : BitVec 32 := 0#32
  ![v2969.toNat, 0, 0]

def k0_chk372 (v2969 : BitVec 32) : Prop :=
  (∀ a, (k0_off1116 v2969) a + S1x128x128.size a ≤ S10240x128x128.size a)
theorem k0_off1116_inb : ∀ (v2969 : BitVec 32) (k0_hw372 : k0_chk372 v2969), ∀ a, (k0_off1116 v2969) a + S1x128x128.size a ≤ S10240x128x128.size a := fun v2969 k0_hw372 => k0_hw372

def k0_off1117 (i : grid0.Coords) : Fin 2 → Nat :=
  let arg0 : BitVec 32 := BitVec.ofNat 32 (i 0).val
  let v2976 : Index := Scalar.indexCast arg0
  let c52_2101 : Index := 52#32
  ![v2976.toNat, 52]
def k0_off1118 (i : grid0.Coords) : Fin 3 → Nat :=
  let arg0 : BitVec 32 := BitVec.ofNat 32 (i 0).val
  let c6656_i32_2103 : BitVec 32 := 6656#32
  let c0_i32_2104 : BitVec 32 := 0#32
  ![arg0.toNat, 6656, 0]
def k0_off1119 (v2977 : BitVec 32) : Fin 3 → Nat :=
  let c0_i32_2105 : BitVec 32 := 0#32
  let c0_i32_2106 : BitVec 32 := 0#32
  ![v2977.toNat, 0, 0]

def k0_chk373 (v2977 : BitVec 32) : Prop :=
  (∀ a, (k0_off1119 v2977) a + S1x128x128.size a ≤ S10240x128x128.size a)
theorem k0_off1119_inb : ∀ (v2977 : BitVec 32) (k0_hw373 : k0_chk373 v2977), ∀ a, (k0_off1119 v2977) a + S1x128x128.size a ≤ S10240x128x128.size a := fun v2977 k0_hw373 => k0_hw373

def k0_off1120 (i : grid0.Coords) : Fin 2 → Nat :=
  let arg0 : BitVec 32 := BitVec.ofNat 32 (i 0).val
  let v2984 : Index := Scalar.indexCast arg0
  let c53_2107 : Index := 53#32
  ![v2984.toNat, 53]
def k0_off1121 (i : grid0.Coords) : Fin 3 → Nat :=
  let arg0 : BitVec 32 := BitVec.ofNat 32 (i 0).val
  let c6784_i32_2109 : BitVec 32 := 6784#32
  let c0_i32_2110 : BitVec 32 := 0#32
  ![arg0.toNat, 6784, 0]
def k0_off1122 (v2985 : BitVec 32) : Fin 3 → Nat :=
  let c0_i32_2111 : BitVec 32 := 0#32
  let c0_i32_2112 : BitVec 32 := 0#32
  ![v2985.toNat, 0, 0]

def k0_chk374 (v2985 : BitVec 32) : Prop :=
  (∀ a, (k0_off1122 v2985) a + S1x128x128.size a ≤ S10240x128x128.size a)
theorem k0_off1122_inb : ∀ (v2985 : BitVec 32) (k0_hw374 : k0_chk374 v2985), ∀ a, (k0_off1122 v2985) a + S1x128x128.size a ≤ S10240x128x128.size a := fun v2985 k0_hw374 => k0_hw374

def k0_off1123 (i : grid0.Coords) : Fin 2 → Nat :=
  let arg0 : BitVec 32 := BitVec.ofNat 32 (i 0).val
  let v2992 : Index := Scalar.indexCast arg0
  let c54_2113 : Index := 54#32
  ![v2992.toNat, 54]
def k0_off1124 (i : grid0.Coords) : Fin 3 → Nat :=
  let arg0 : BitVec 32 := BitVec.ofNat 32 (i 0).val
  let c6912_i32_2115 : BitVec 32 := 6912#32
  let c0_i32_2116 : BitVec 32 := 0#32
  ![arg0.toNat, 6912, 0]
def k0_off1125 (v2993 : BitVec 32) : Fin 3 → Nat :=
  let c0_i32_2117 : BitVec 32 := 0#32
  let c0_i32_2118 : BitVec 32 := 0#32
  ![v2993.toNat, 0, 0]

def k0_chk375 (v2993 : BitVec 32) : Prop :=
  (∀ a, (k0_off1125 v2993) a + S1x128x128.size a ≤ S10240x128x128.size a)
theorem k0_off1125_inb : ∀ (v2993 : BitVec 32) (k0_hw375 : k0_chk375 v2993), ∀ a, (k0_off1125 v2993) a + S1x128x128.size a ≤ S10240x128x128.size a := fun v2993 k0_hw375 => k0_hw375

def k0_off1126 (i : grid0.Coords) : Fin 2 → Nat :=
  let arg0 : BitVec 32 := BitVec.ofNat 32 (i 0).val
  let v3000 : Index := Scalar.indexCast arg0
  let c55_2119 : Index := 55#32
  ![v3000.toNat, 55]
def k0_off1127 (i : grid0.Coords) : Fin 3 → Nat :=
  let arg0 : BitVec 32 := BitVec.ofNat 32 (i 0).val
  let c7040_i32_2121 : BitVec 32 := 7040#32
  let c0_i32_2122 : BitVec 32 := 0#32
  ![arg0.toNat, 7040, 0]
def k0_off1128 (v3001 : BitVec 32) : Fin 3 → Nat :=
  let c0_i32_2123 : BitVec 32 := 0#32
  let c0_i32_2124 : BitVec 32 := 0#32
  ![v3001.toNat, 0, 0]

def k0_chk376 (v3001 : BitVec 32) : Prop :=
  (∀ a, (k0_off1128 v3001) a + S1x128x128.size a ≤ S10240x128x128.size a)
theorem k0_off1128_inb : ∀ (v3001 : BitVec 32) (k0_hw376 : k0_chk376 v3001), ∀ a, (k0_off1128 v3001) a + S1x128x128.size a ≤ S10240x128x128.size a := fun v3001 k0_hw376 => k0_hw376

def k0_off1129 (i : grid0.Coords) : Fin 2 → Nat :=
  let arg0 : BitVec 32 := BitVec.ofNat 32 (i 0).val
  let v3008 : Index := Scalar.indexCast arg0
  let c56_2125 : Index := 56#32
  ![v3008.toNat, 56]
def k0_off1130 (i : grid0.Coords) : Fin 3 → Nat :=
  let arg0 : BitVec 32 := BitVec.ofNat 32 (i 0).val
  let c7168_i32_2127 : BitVec 32 := 7168#32
  let c0_i32_2128 : BitVec 32 := 0#32
  ![arg0.toNat, 7168, 0]
def k0_off1131 (v3009 : BitVec 32) : Fin 3 → Nat :=
  let c0_i32_2129 : BitVec 32 := 0#32
  let c0_i32_2130 : BitVec 32 := 0#32
  ![v3009.toNat, 0, 0]

def k0_chk377 (v3009 : BitVec 32) : Prop :=
  (∀ a, (k0_off1131 v3009) a + S1x128x128.size a ≤ S10240x128x128.size a)
theorem k0_off1131_inb : ∀ (v3009 : BitVec 32) (k0_hw377 : k0_chk377 v3009), ∀ a, (k0_off1131 v3009) a + S1x128x128.size a ≤ S10240x128x128.size a := fun v3009 k0_hw377 => k0_hw377

def k0_off1132 (i : grid0.Coords) : Fin 2 → Nat :=
  let arg0 : BitVec 32 := BitVec.ofNat 32 (i 0).val
  let v3016 : Index := Scalar.indexCast arg0
  let c57_2131 : Index := 57#32
  ![v3016.toNat, 57]
def k0_off1133 (i : grid0.Coords) : Fin 3 → Nat :=
  let arg0 : BitVec 32 := BitVec.ofNat 32 (i 0).val
  let c7296_i32_2133 : BitVec 32 := 7296#32
  let c0_i32_2134 : BitVec 32 := 0#32
  ![arg0.toNat, 7296, 0]
def k0_off1134 (v3017 : BitVec 32) : Fin 3 → Nat :=
  let c0_i32_2135 : BitVec 32 := 0#32
  let c0_i32_2136 : BitVec 32 := 0#32
  ![v3017.toNat, 0, 0]

def k0_chk378 (v3017 : BitVec 32) : Prop :=
  (∀ a, (k0_off1134 v3017) a + S1x128x128.size a ≤ S10240x128x128.size a)
theorem k0_off1134_inb : ∀ (v3017 : BitVec 32) (k0_hw378 : k0_chk378 v3017), ∀ a, (k0_off1134 v3017) a + S1x128x128.size a ≤ S10240x128x128.size a := fun v3017 k0_hw378 => k0_hw378

def k0_off1135 (i : grid0.Coords) : Fin 2 → Nat :=
  let arg0 : BitVec 32 := BitVec.ofNat 32 (i 0).val
  let v3024 : Index := Scalar.indexCast arg0
  let c58_2137 : Index := 58#32
  ![v3024.toNat, 58]
def k0_off1136 (i : grid0.Coords) : Fin 3 → Nat :=
  let arg0 : BitVec 32 := BitVec.ofNat 32 (i 0).val
  let c7424_i32_2139 : BitVec 32 := 7424#32
  let c0_i32_2140 : BitVec 32 := 0#32
  ![arg0.toNat, 7424, 0]
def k0_off1137 (v3025 : BitVec 32) : Fin 3 → Nat :=
  let c0_i32_2141 : BitVec 32 := 0#32
  let c0_i32_2142 : BitVec 32 := 0#32
  ![v3025.toNat, 0, 0]

def k0_chk379 (v3025 : BitVec 32) : Prop :=
  (∀ a, (k0_off1137 v3025) a + S1x128x128.size a ≤ S10240x128x128.size a)
theorem k0_off1137_inb : ∀ (v3025 : BitVec 32) (k0_hw379 : k0_chk379 v3025), ∀ a, (k0_off1137 v3025) a + S1x128x128.size a ≤ S10240x128x128.size a := fun v3025 k0_hw379 => k0_hw379

def k0_off1138 (i : grid0.Coords) : Fin 2 → Nat :=
  let arg0 : BitVec 32 := BitVec.ofNat 32 (i 0).val
  let v3032 : Index := Scalar.indexCast arg0
  let c59_2143 : Index := 59#32
  ![v3032.toNat, 59]
def k0_off1139 (i : grid0.Coords) : Fin 3 → Nat :=
  let arg0 : BitVec 32 := BitVec.ofNat 32 (i 0).val
  let c7552_i32_2145 : BitVec 32 := 7552#32
  let c0_i32_2146 : BitVec 32 := 0#32
  ![arg0.toNat, 7552, 0]
def k0_off1140 (v3033 : BitVec 32) : Fin 3 → Nat :=
  let c0_i32_2147 : BitVec 32 := 0#32
  let c0_i32_2148 : BitVec 32 := 0#32
  ![v3033.toNat, 0, 0]

def k0_chk380 (v3033 : BitVec 32) : Prop :=
  (∀ a, (k0_off1140 v3033) a + S1x128x128.size a ≤ S10240x128x128.size a)
theorem k0_off1140_inb : ∀ (v3033 : BitVec 32) (k0_hw380 : k0_chk380 v3033), ∀ a, (k0_off1140 v3033) a + S1x128x128.size a ≤ S10240x128x128.size a := fun v3033 k0_hw380 => k0_hw380

def k0_off1141 (i : grid0.Coords) : Fin 2 → Nat :=
  let arg0 : BitVec 32 := BitVec.ofNat 32 (i 0).val
  let v3040 : Index := Scalar.indexCast arg0
  let c60_2149 : Index := 60#32
  ![v3040.toNat, 60]
def k0_off1142 (i : grid0.Coords) : Fin 3 → Nat :=
  let arg0 : BitVec 32 := BitVec.ofNat 32 (i 0).val
  let c7680_i32_2151 : BitVec 32 := 7680#32
  let c0_i32_2152 : BitVec 32 := 0#32
  ![arg0.toNat, 7680, 0]
def k0_off1143 (v3041 : BitVec 32) : Fin 3 → Nat :=
  let c0_i32_2153 : BitVec 32 := 0#32
  let c0_i32_2154 : BitVec 32 := 0#32
  ![v3041.toNat, 0, 0]

def k0_chk381 (v3041 : BitVec 32) : Prop :=
  (∀ a, (k0_off1143 v3041) a + S1x128x128.size a ≤ S10240x128x128.size a)
theorem k0_off1143_inb : ∀ (v3041 : BitVec 32) (k0_hw381 : k0_chk381 v3041), ∀ a, (k0_off1143 v3041) a + S1x128x128.size a ≤ S10240x128x128.size a := fun v3041 k0_hw381 => k0_hw381

def k0_off1144 (i : grid0.Coords) : Fin 2 → Nat :=
  let arg0 : BitVec 32 := BitVec.ofNat 32 (i 0).val
  let v3048 : Index := Scalar.indexCast arg0
  let c61_2155 : Index := 61#32
  ![v3048.toNat, 61]
def k0_off1145 (i : grid0.Coords) : Fin 3 → Nat :=
  let arg0 : BitVec 32 := BitVec.ofNat 32 (i 0).val
  let c7808_i32_2157 : BitVec 32 := 7808#32
  let c0_i32_2158 : BitVec 32 := 0#32
  ![arg0.toNat, 7808, 0]
def k0_off1146 (v3049 : BitVec 32) : Fin 3 → Nat :=
  let c0_i32_2159 : BitVec 32 := 0#32
  let c0_i32_2160 : BitVec 32 := 0#32
  ![v3049.toNat, 0, 0]

def k0_chk382 (v3049 : BitVec 32) : Prop :=
  (∀ a, (k0_off1146 v3049) a + S1x128x128.size a ≤ S10240x128x128.size a)
theorem k0_off1146_inb : ∀ (v3049 : BitVec 32) (k0_hw382 : k0_chk382 v3049), ∀ a, (k0_off1146 v3049) a + S1x128x128.size a ≤ S10240x128x128.size a := fun v3049 k0_hw382 => k0_hw382

def k0_off1147 (i : grid0.Coords) : Fin 2 → Nat :=
  let arg0 : BitVec 32 := BitVec.ofNat 32 (i 0).val
  let v3056 : Index := Scalar.indexCast arg0
  let c62_2161 : Index := 62#32
  ![v3056.toNat, 62]
def k0_off1148 (i : grid0.Coords) : Fin 3 → Nat :=
  let arg0 : BitVec 32 := BitVec.ofNat 32 (i 0).val
  let c7936_i32_2163 : BitVec 32 := 7936#32
  let c0_i32_2164 : BitVec 32 := 0#32
  ![arg0.toNat, 7936, 0]
def k0_off1149 (v3057 : BitVec 32) : Fin 3 → Nat :=
  let c0_i32_2165 : BitVec 32 := 0#32
  let c0_i32_2166 : BitVec 32 := 0#32
  ![v3057.toNat, 0, 0]

def k0_chk383 (v3057 : BitVec 32) : Prop :=
  (∀ a, (k0_off1149 v3057) a + S1x128x128.size a ≤ S10240x128x128.size a)
theorem k0_off1149_inb : ∀ (v3057 : BitVec 32) (k0_hw383 : k0_chk383 v3057), ∀ a, (k0_off1149 v3057) a + S1x128x128.size a ≤ S10240x128x128.size a := fun v3057 k0_hw383 => k0_hw383

def k0_off1150 (i : grid0.Coords) : Fin 2 → Nat :=
  let arg0 : BitVec 32 := BitVec.ofNat 32 (i 0).val
  let v3064 : Index := Scalar.indexCast arg0
  let c63_2167 : Index := 63#32
  ![v3064.toNat, 63]
def k0_off1151 (i : grid0.Coords) : Fin 3 → Nat :=
  let arg0 : BitVec 32 := BitVec.ofNat 32 (i 0).val
  let c8064_i32_2169 : BitVec 32 := 8064#32
  let c0_i32_2170 : BitVec 32 := 0#32
  ![arg0.toNat, 8064, 0]
def k0_off1152 (v3065 : BitVec 32) : Fin 3 → Nat :=
  let c0_i32_2171 : BitVec 32 := 0#32
  let c0_i32_2172 : BitVec 32 := 0#32
  ![v3065.toNat, 0, 0]

def k0_chk384 (v3065 : BitVec 32) : Prop :=
  (∀ a, (k0_off1152 v3065) a + S1x128x128.size a ≤ S10240x128x128.size a)
theorem k0_off1152_inb : ∀ (v3065 : BitVec 32) (k0_hw384 : k0_chk384 v3065), ∀ a, (k0_off1152 v3065) a + S1x128x128.size a ≤ S10240x128x128.size a := fun v3065 k0_hw384 => k0_hw384

def k0_off1153 (i : grid0.Coords) : Fin 2 → Nat :=
  let arg0 : BitVec 32 := BitVec.ofNat 32 (i 0).val
  let v3072 : Index := Scalar.indexCast arg0
  let c0_2173 : Index := 0#32
  ![v3072.toNat, 0]
def k0_off1154 (i : grid0.Coords) : Fin 3 → Nat :=
  let arg0 : BitVec 32 := BitVec.ofNat 32 (i 0).val
  let c0_i32_2175 : BitVec 32 := 0#32
  let c0_i32_2176 : BitVec 32 := 0#32
  ![arg0.toNat, 0, 0]
def k0_off1155 (v3073 : BitVec 32) : Fin 3 → Nat :=
  let c0_i32_2177 : BitVec 32 := 0#32
  let c0_i32_2178 : BitVec 32 := 0#32
  ![v3073.toNat, 0, 0]

def k0_chk385 (v3073 : BitVec 32) : Prop :=
  (∀ a, (k0_off1155 v3073) a + S1x128x128.size a ≤ S10240x128x128.size a)
theorem k0_off1155_inb : ∀ (v3073 : BitVec 32) (k0_hw385 : k0_chk385 v3073), ∀ a, (k0_off1155 v3073) a + S1x128x128.size a ≤ S10240x128x128.size a := fun v3073 k0_hw385 => k0_hw385

def k0_off1156 (i : grid0.Coords) : Fin 2 → Nat :=
  let arg0 : BitVec 32 := BitVec.ofNat 32 (i 0).val
  let v3080 : Index := Scalar.indexCast arg0
  let c1_2179 : Index := 1#32
  ![v3080.toNat, 1]
def k0_off1157 (i : grid0.Coords) : Fin 3 → Nat :=
  let arg0 : BitVec 32 := BitVec.ofNat 32 (i 0).val
  let c128_i32_2181 : BitVec 32 := 128#32
  let c0_i32_2182 : BitVec 32 := 0#32
  ![arg0.toNat, 128, 0]
def k0_off1158 (v3081 : BitVec 32) : Fin 3 → Nat :=
  let c0_i32_2183 : BitVec 32 := 0#32
  let c0_i32_2184 : BitVec 32 := 0#32
  ![v3081.toNat, 0, 0]

def k0_chk386 (v3081 : BitVec 32) : Prop :=
  (∀ a, (k0_off1158 v3081) a + S1x128x128.size a ≤ S10240x128x128.size a)
theorem k0_off1158_inb : ∀ (v3081 : BitVec 32) (k0_hw386 : k0_chk386 v3081), ∀ a, (k0_off1158 v3081) a + S1x128x128.size a ≤ S10240x128x128.size a := fun v3081 k0_hw386 => k0_hw386

def k0_off1159 (i : grid0.Coords) : Fin 2 → Nat :=
  let arg0 : BitVec 32 := BitVec.ofNat 32 (i 0).val
  let v3088 : Index := Scalar.indexCast arg0
  let c2_2185 : Index := 2#32
  ![v3088.toNat, 2]
def k0_off1160 (i : grid0.Coords) : Fin 3 → Nat :=
  let arg0 : BitVec 32 := BitVec.ofNat 32 (i 0).val
  let c256_i32_2187 : BitVec 32 := 256#32
  let c0_i32_2188 : BitVec 32 := 0#32
  ![arg0.toNat, 256, 0]
def k0_off1161 (v3089 : BitVec 32) : Fin 3 → Nat :=
  let c0_i32_2189 : BitVec 32 := 0#32
  let c0_i32_2190 : BitVec 32 := 0#32
  ![v3089.toNat, 0, 0]

def k0_chk387 (v3089 : BitVec 32) : Prop :=
  (∀ a, (k0_off1161 v3089) a + S1x128x128.size a ≤ S10240x128x128.size a)
theorem k0_off1161_inb : ∀ (v3089 : BitVec 32) (k0_hw387 : k0_chk387 v3089), ∀ a, (k0_off1161 v3089) a + S1x128x128.size a ≤ S10240x128x128.size a := fun v3089 k0_hw387 => k0_hw387

def k0_off1162 (i : grid0.Coords) : Fin 2 → Nat :=
  let arg0 : BitVec 32 := BitVec.ofNat 32 (i 0).val
  let v3096 : Index := Scalar.indexCast arg0
  let c3_2191 : Index := 3#32
  ![v3096.toNat, 3]
def k0_off1163 (i : grid0.Coords) : Fin 3 → Nat :=
  let arg0 : BitVec 32 := BitVec.ofNat 32 (i 0).val
  let c384_i32_2193 : BitVec 32 := 384#32
  let c0_i32_2194 : BitVec 32 := 0#32
  ![arg0.toNat, 384, 0]
def k0_off1164 (v3097 : BitVec 32) : Fin 3 → Nat :=
  let c0_i32_2195 : BitVec 32 := 0#32
  let c0_i32_2196 : BitVec 32 := 0#32
  ![v3097.toNat, 0, 0]

def k0_chk388 (v3097 : BitVec 32) : Prop :=
  (∀ a, (k0_off1164 v3097) a + S1x128x128.size a ≤ S10240x128x128.size a)
theorem k0_off1164_inb : ∀ (v3097 : BitVec 32) (k0_hw388 : k0_chk388 v3097), ∀ a, (k0_off1164 v3097) a + S1x128x128.size a ≤ S10240x128x128.size a := fun v3097 k0_hw388 => k0_hw388

def k0_off1165 (i : grid0.Coords) : Fin 2 → Nat :=
  let arg0 : BitVec 32 := BitVec.ofNat 32 (i 0).val
  let v3104 : Index := Scalar.indexCast arg0
  let c4_2197 : Index := 4#32
  ![v3104.toNat, 4]
def k0_off1166 (i : grid0.Coords) : Fin 3 → Nat :=
  let arg0 : BitVec 32 := BitVec.ofNat 32 (i 0).val
  let c512_i32_2199 : BitVec 32 := 512#32
  let c0_i32_2200 : BitVec 32 := 0#32
  ![arg0.toNat, 512, 0]
def k0_off1167 (v3105 : BitVec 32) : Fin 3 → Nat :=
  let c0_i32_2201 : BitVec 32 := 0#32
  let c0_i32_2202 : BitVec 32 := 0#32
  ![v3105.toNat, 0, 0]

def k0_chk389 (v3105 : BitVec 32) : Prop :=
  (∀ a, (k0_off1167 v3105) a + S1x128x128.size a ≤ S10240x128x128.size a)
theorem k0_off1167_inb : ∀ (v3105 : BitVec 32) (k0_hw389 : k0_chk389 v3105), ∀ a, (k0_off1167 v3105) a + S1x128x128.size a ≤ S10240x128x128.size a := fun v3105 k0_hw389 => k0_hw389

def k0_off1168 (i : grid0.Coords) : Fin 2 → Nat :=
  let arg0 : BitVec 32 := BitVec.ofNat 32 (i 0).val
  let v3112 : Index := Scalar.indexCast arg0
  let c5_2203 : Index := 5#32
  ![v3112.toNat, 5]
def k0_off1169 (i : grid0.Coords) : Fin 3 → Nat :=
  let arg0 : BitVec 32 := BitVec.ofNat 32 (i 0).val
  let c640_i32_2205 : BitVec 32 := 640#32
  let c0_i32_2206 : BitVec 32 := 0#32
  ![arg0.toNat, 640, 0]
def k0_off1170 (v3113 : BitVec 32) : Fin 3 → Nat :=
  let c0_i32_2207 : BitVec 32 := 0#32
  let c0_i32_2208 : BitVec 32 := 0#32
  ![v3113.toNat, 0, 0]

def k0_chk390 (v3113 : BitVec 32) : Prop :=
  (∀ a, (k0_off1170 v3113) a + S1x128x128.size a ≤ S10240x128x128.size a)
theorem k0_off1170_inb : ∀ (v3113 : BitVec 32) (k0_hw390 : k0_chk390 v3113), ∀ a, (k0_off1170 v3113) a + S1x128x128.size a ≤ S10240x128x128.size a := fun v3113 k0_hw390 => k0_hw390

def k0_off1171 (i : grid0.Coords) : Fin 2 → Nat :=
  let arg0 : BitVec 32 := BitVec.ofNat 32 (i 0).val
  let v3120 : Index := Scalar.indexCast arg0
  let c6_2209 : Index := 6#32
  ![v3120.toNat, 6]
def k0_off1172 (i : grid0.Coords) : Fin 3 → Nat :=
  let arg0 : BitVec 32 := BitVec.ofNat 32 (i 0).val
  let c768_i32_2211 : BitVec 32 := 768#32
  let c0_i32_2212 : BitVec 32 := 0#32
  ![arg0.toNat, 768, 0]
def k0_off1173 (v3121 : BitVec 32) : Fin 3 → Nat :=
  let c0_i32_2213 : BitVec 32 := 0#32
  let c0_i32_2214 : BitVec 32 := 0#32
  ![v3121.toNat, 0, 0]

def k0_chk391 (v3121 : BitVec 32) : Prop :=
  (∀ a, (k0_off1173 v3121) a + S1x128x128.size a ≤ S10240x128x128.size a)
theorem k0_off1173_inb : ∀ (v3121 : BitVec 32) (k0_hw391 : k0_chk391 v3121), ∀ a, (k0_off1173 v3121) a + S1x128x128.size a ≤ S10240x128x128.size a := fun v3121 k0_hw391 => k0_hw391

def k0_off1174 (i : grid0.Coords) : Fin 2 → Nat :=
  let arg0 : BitVec 32 := BitVec.ofNat 32 (i 0).val
  let v3128 : Index := Scalar.indexCast arg0
  let c7_2215 : Index := 7#32
  ![v3128.toNat, 7]
def k0_off1175 (i : grid0.Coords) : Fin 3 → Nat :=
  let arg0 : BitVec 32 := BitVec.ofNat 32 (i 0).val
  let c896_i32_2217 : BitVec 32 := 896#32
  let c0_i32_2218 : BitVec 32 := 0#32
  ![arg0.toNat, 896, 0]
def k0_off1176 (v3129 : BitVec 32) : Fin 3 → Nat :=
  let c0_i32_2219 : BitVec 32 := 0#32
  let c0_i32_2220 : BitVec 32 := 0#32
  ![v3129.toNat, 0, 0]

def k0_chk392 (v3129 : BitVec 32) : Prop :=
  (∀ a, (k0_off1176 v3129) a + S1x128x128.size a ≤ S10240x128x128.size a)
theorem k0_off1176_inb : ∀ (v3129 : BitVec 32) (k0_hw392 : k0_chk392 v3129), ∀ a, (k0_off1176 v3129) a + S1x128x128.size a ≤ S10240x128x128.size a := fun v3129 k0_hw392 => k0_hw392

def k0_off1177 (i : grid0.Coords) : Fin 2 → Nat :=
  let arg0 : BitVec 32 := BitVec.ofNat 32 (i 0).val
  let v3136 : Index := Scalar.indexCast arg0
  let c8_2221 : Index := 8#32
  ![v3136.toNat, 8]
def k0_off1178 (i : grid0.Coords) : Fin 3 → Nat :=
  let arg0 : BitVec 32 := BitVec.ofNat 32 (i 0).val
  let c1024_i32_2223 : BitVec 32 := 1024#32
  let c0_i32_2224 : BitVec 32 := 0#32
  ![arg0.toNat, 1024, 0]
def k0_off1179 (v3137 : BitVec 32) : Fin 3 → Nat :=
  let c0_i32_2225 : BitVec 32 := 0#32
  let c0_i32_2226 : BitVec 32 := 0#32
  ![v3137.toNat, 0, 0]

def k0_chk393 (v3137 : BitVec 32) : Prop :=
  (∀ a, (k0_off1179 v3137) a + S1x128x128.size a ≤ S10240x128x128.size a)
theorem k0_off1179_inb : ∀ (v3137 : BitVec 32) (k0_hw393 : k0_chk393 v3137), ∀ a, (k0_off1179 v3137) a + S1x128x128.size a ≤ S10240x128x128.size a := fun v3137 k0_hw393 => k0_hw393

def k0_off1180 (i : grid0.Coords) : Fin 2 → Nat :=
  let arg0 : BitVec 32 := BitVec.ofNat 32 (i 0).val
  let v3144 : Index := Scalar.indexCast arg0
  let c9_2227 : Index := 9#32
  ![v3144.toNat, 9]
def k0_off1181 (i : grid0.Coords) : Fin 3 → Nat :=
  let arg0 : BitVec 32 := BitVec.ofNat 32 (i 0).val
  let c1152_i32_2229 : BitVec 32 := 1152#32
  let c0_i32_2230 : BitVec 32 := 0#32
  ![arg0.toNat, 1152, 0]
def k0_off1182 (v3145 : BitVec 32) : Fin 3 → Nat :=
  let c0_i32_2231 : BitVec 32 := 0#32
  let c0_i32_2232 : BitVec 32 := 0#32
  ![v3145.toNat, 0, 0]

def k0_chk394 (v3145 : BitVec 32) : Prop :=
  (∀ a, (k0_off1182 v3145) a + S1x128x128.size a ≤ S10240x128x128.size a)
theorem k0_off1182_inb : ∀ (v3145 : BitVec 32) (k0_hw394 : k0_chk394 v3145), ∀ a, (k0_off1182 v3145) a + S1x128x128.size a ≤ S10240x128x128.size a := fun v3145 k0_hw394 => k0_hw394

def k0_off1183 (i : grid0.Coords) : Fin 2 → Nat :=
  let arg0 : BitVec 32 := BitVec.ofNat 32 (i 0).val
  let v3152 : Index := Scalar.indexCast arg0
  let c10_2233 : Index := 10#32
  ![v3152.toNat, 10]
def k0_off1184 (i : grid0.Coords) : Fin 3 → Nat :=
  let arg0 : BitVec 32 := BitVec.ofNat 32 (i 0).val
  let c1280_i32_2235 : BitVec 32 := 1280#32
  let c0_i32_2236 : BitVec 32 := 0#32
  ![arg0.toNat, 1280, 0]
def k0_off1185 (v3153 : BitVec 32) : Fin 3 → Nat :=
  let c0_i32_2237 : BitVec 32 := 0#32
  let c0_i32_2238 : BitVec 32 := 0#32
  ![v3153.toNat, 0, 0]

def k0_chk395 (v3153 : BitVec 32) : Prop :=
  (∀ a, (k0_off1185 v3153) a + S1x128x128.size a ≤ S10240x128x128.size a)
theorem k0_off1185_inb : ∀ (v3153 : BitVec 32) (k0_hw395 : k0_chk395 v3153), ∀ a, (k0_off1185 v3153) a + S1x128x128.size a ≤ S10240x128x128.size a := fun v3153 k0_hw395 => k0_hw395

def k0_off1186 (i : grid0.Coords) : Fin 2 → Nat :=
  let arg0 : BitVec 32 := BitVec.ofNat 32 (i 0).val
  let v3160 : Index := Scalar.indexCast arg0
  let c11_2239 : Index := 11#32
  ![v3160.toNat, 11]
def k0_off1187 (i : grid0.Coords) : Fin 3 → Nat :=
  let arg0 : BitVec 32 := BitVec.ofNat 32 (i 0).val
  let c1408_i32_2241 : BitVec 32 := 1408#32
  let c0_i32_2242 : BitVec 32 := 0#32
  ![arg0.toNat, 1408, 0]
def k0_off1188 (v3161 : BitVec 32) : Fin 3 → Nat :=
  let c0_i32_2243 : BitVec 32 := 0#32
  let c0_i32_2244 : BitVec 32 := 0#32
  ![v3161.toNat, 0, 0]

def k0_chk396 (v3161 : BitVec 32) : Prop :=
  (∀ a, (k0_off1188 v3161) a + S1x128x128.size a ≤ S10240x128x128.size a)
theorem k0_off1188_inb : ∀ (v3161 : BitVec 32) (k0_hw396 : k0_chk396 v3161), ∀ a, (k0_off1188 v3161) a + S1x128x128.size a ≤ S10240x128x128.size a := fun v3161 k0_hw396 => k0_hw396

def k0_off1189 (i : grid0.Coords) : Fin 2 → Nat :=
  let arg0 : BitVec 32 := BitVec.ofNat 32 (i 0).val
  let v3168 : Index := Scalar.indexCast arg0
  let c12_2245 : Index := 12#32
  ![v3168.toNat, 12]
def k0_off1190 (i : grid0.Coords) : Fin 3 → Nat :=
  let arg0 : BitVec 32 := BitVec.ofNat 32 (i 0).val
  let c1536_i32_2247 : BitVec 32 := 1536#32
  let c0_i32_2248 : BitVec 32 := 0#32
  ![arg0.toNat, 1536, 0]
def k0_off1191 (v3169 : BitVec 32) : Fin 3 → Nat :=
  let c0_i32_2249 : BitVec 32 := 0#32
  let c0_i32_2250 : BitVec 32 := 0#32
  ![v3169.toNat, 0, 0]

def k0_chk397 (v3169 : BitVec 32) : Prop :=
  (∀ a, (k0_off1191 v3169) a + S1x128x128.size a ≤ S10240x128x128.size a)
theorem k0_off1191_inb : ∀ (v3169 : BitVec 32) (k0_hw397 : k0_chk397 v3169), ∀ a, (k0_off1191 v3169) a + S1x128x128.size a ≤ S10240x128x128.size a := fun v3169 k0_hw397 => k0_hw397

def k0_off1192 (i : grid0.Coords) : Fin 2 → Nat :=
  let arg0 : BitVec 32 := BitVec.ofNat 32 (i 0).val
  let v3176 : Index := Scalar.indexCast arg0
  let c13_2251 : Index := 13#32
  ![v3176.toNat, 13]
def k0_off1193 (i : grid0.Coords) : Fin 3 → Nat :=
  let arg0 : BitVec 32 := BitVec.ofNat 32 (i 0).val
  let c1664_i32_2253 : BitVec 32 := 1664#32
  let c0_i32_2254 : BitVec 32 := 0#32
  ![arg0.toNat, 1664, 0]
def k0_off1194 (v3177 : BitVec 32) : Fin 3 → Nat :=
  let c0_i32_2255 : BitVec 32 := 0#32
  let c0_i32_2256 : BitVec 32 := 0#32
  ![v3177.toNat, 0, 0]

def k0_chk398 (v3177 : BitVec 32) : Prop :=
  (∀ a, (k0_off1194 v3177) a + S1x128x128.size a ≤ S10240x128x128.size a)
theorem k0_off1194_inb : ∀ (v3177 : BitVec 32) (k0_hw398 : k0_chk398 v3177), ∀ a, (k0_off1194 v3177) a + S1x128x128.size a ≤ S10240x128x128.size a := fun v3177 k0_hw398 => k0_hw398

def k0_off1195 (i : grid0.Coords) : Fin 2 → Nat :=
  let arg0 : BitVec 32 := BitVec.ofNat 32 (i 0).val
  let v3184 : Index := Scalar.indexCast arg0
  let c14_2257 : Index := 14#32
  ![v3184.toNat, 14]
def k0_off1196 (i : grid0.Coords) : Fin 3 → Nat :=
  let arg0 : BitVec 32 := BitVec.ofNat 32 (i 0).val
  let c1792_i32_2259 : BitVec 32 := 1792#32
  let c0_i32_2260 : BitVec 32 := 0#32
  ![arg0.toNat, 1792, 0]
def k0_off1197 (v3185 : BitVec 32) : Fin 3 → Nat :=
  let c0_i32_2261 : BitVec 32 := 0#32
  let c0_i32_2262 : BitVec 32 := 0#32
  ![v3185.toNat, 0, 0]

def k0_chk399 (v3185 : BitVec 32) : Prop :=
  (∀ a, (k0_off1197 v3185) a + S1x128x128.size a ≤ S10240x128x128.size a)
theorem k0_off1197_inb : ∀ (v3185 : BitVec 32) (k0_hw399 : k0_chk399 v3185), ∀ a, (k0_off1197 v3185) a + S1x128x128.size a ≤ S10240x128x128.size a := fun v3185 k0_hw399 => k0_hw399

def k0_off1198 (i : grid0.Coords) : Fin 2 → Nat :=
  let arg0 : BitVec 32 := BitVec.ofNat 32 (i 0).val
  let v3192 : Index := Scalar.indexCast arg0
  let c15_2263 : Index := 15#32
  ![v3192.toNat, 15]
def k0_off1199 (i : grid0.Coords) : Fin 3 → Nat :=
  let arg0 : BitVec 32 := BitVec.ofNat 32 (i 0).val
  let c1920_i32_2265 : BitVec 32 := 1920#32
  let c0_i32_2266 : BitVec 32 := 0#32
  ![arg0.toNat, 1920, 0]
def k0_off1200 (v3193 : BitVec 32) : Fin 3 → Nat :=
  let c0_i32_2267 : BitVec 32 := 0#32
  let c0_i32_2268 : BitVec 32 := 0#32
  ![v3193.toNat, 0, 0]

def k0_chk400 (v3193 : BitVec 32) : Prop :=
  (∀ a, (k0_off1200 v3193) a + S1x128x128.size a ≤ S10240x128x128.size a)
theorem k0_off1200_inb : ∀ (v3193 : BitVec 32) (k0_hw400 : k0_chk400 v3193), ∀ a, (k0_off1200 v3193) a + S1x128x128.size a ≤ S10240x128x128.size a := fun v3193 k0_hw400 => k0_hw400

def k0_off1201 (i : grid0.Coords) : Fin 2 → Nat :=
  let arg0 : BitVec 32 := BitVec.ofNat 32 (i 0).val
  let v3200 : Index := Scalar.indexCast arg0
  let c16_2269 : Index := 16#32
  ![v3200.toNat, 16]
def k0_off1202 (i : grid0.Coords) : Fin 3 → Nat :=
  let arg0 : BitVec 32 := BitVec.ofNat 32 (i 0).val
  let c2048_i32_2271 : BitVec 32 := 2048#32
  let c0_i32_2272 : BitVec 32 := 0#32
  ![arg0.toNat, 2048, 0]
def k0_off1203 (v3201 : BitVec 32) : Fin 3 → Nat :=
  let c0_i32_2273 : BitVec 32 := 0#32
  let c0_i32_2274 : BitVec 32 := 0#32
  ![v3201.toNat, 0, 0]

def k0_chk401 (v3201 : BitVec 32) : Prop :=
  (∀ a, (k0_off1203 v3201) a + S1x128x128.size a ≤ S10240x128x128.size a)
theorem k0_off1203_inb : ∀ (v3201 : BitVec 32) (k0_hw401 : k0_chk401 v3201), ∀ a, (k0_off1203 v3201) a + S1x128x128.size a ≤ S10240x128x128.size a := fun v3201 k0_hw401 => k0_hw401

def k0_off1204 (i : grid0.Coords) : Fin 2 → Nat :=
  let arg0 : BitVec 32 := BitVec.ofNat 32 (i 0).val
  let v3208 : Index := Scalar.indexCast arg0
  let c17_2275 : Index := 17#32
  ![v3208.toNat, 17]
def k0_off1205 (i : grid0.Coords) : Fin 3 → Nat :=
  let arg0 : BitVec 32 := BitVec.ofNat 32 (i 0).val
  let c2176_i32_2277 : BitVec 32 := 2176#32
  let c0_i32_2278 : BitVec 32 := 0#32
  ![arg0.toNat, 2176, 0]
def k0_off1206 (v3209 : BitVec 32) : Fin 3 → Nat :=
  let c0_i32_2279 : BitVec 32 := 0#32
  let c0_i32_2280 : BitVec 32 := 0#32
  ![v3209.toNat, 0, 0]

def k0_chk402 (v3209 : BitVec 32) : Prop :=
  (∀ a, (k0_off1206 v3209) a + S1x128x128.size a ≤ S10240x128x128.size a)
theorem k0_off1206_inb : ∀ (v3209 : BitVec 32) (k0_hw402 : k0_chk402 v3209), ∀ a, (k0_off1206 v3209) a + S1x128x128.size a ≤ S10240x128x128.size a := fun v3209 k0_hw402 => k0_hw402

def k0_off1207 (i : grid0.Coords) : Fin 2 → Nat :=
  let arg0 : BitVec 32 := BitVec.ofNat 32 (i 0).val
  let v3216 : Index := Scalar.indexCast arg0
  let c18_2281 : Index := 18#32
  ![v3216.toNat, 18]
def k0_off1208 (i : grid0.Coords) : Fin 3 → Nat :=
  let arg0 : BitVec 32 := BitVec.ofNat 32 (i 0).val
  let c2304_i32_2283 : BitVec 32 := 2304#32
  let c0_i32_2284 : BitVec 32 := 0#32
  ![arg0.toNat, 2304, 0]
def k0_off1209 (v3217 : BitVec 32) : Fin 3 → Nat :=
  let c0_i32_2285 : BitVec 32 := 0#32
  let c0_i32_2286 : BitVec 32 := 0#32
  ![v3217.toNat, 0, 0]

def k0_chk403 (v3217 : BitVec 32) : Prop :=
  (∀ a, (k0_off1209 v3217) a + S1x128x128.size a ≤ S10240x128x128.size a)
theorem k0_off1209_inb : ∀ (v3217 : BitVec 32) (k0_hw403 : k0_chk403 v3217), ∀ a, (k0_off1209 v3217) a + S1x128x128.size a ≤ S10240x128x128.size a := fun v3217 k0_hw403 => k0_hw403

def k0_off1210 (i : grid0.Coords) : Fin 2 → Nat :=
  let arg0 : BitVec 32 := BitVec.ofNat 32 (i 0).val
  let v3224 : Index := Scalar.indexCast arg0
  let c19_2287 : Index := 19#32
  ![v3224.toNat, 19]
def k0_off1211 (i : grid0.Coords) : Fin 3 → Nat :=
  let arg0 : BitVec 32 := BitVec.ofNat 32 (i 0).val
  let c2432_i32_2289 : BitVec 32 := 2432#32
  let c0_i32_2290 : BitVec 32 := 0#32
  ![arg0.toNat, 2432, 0]
def k0_off1212 (v3225 : BitVec 32) : Fin 3 → Nat :=
  let c0_i32_2291 : BitVec 32 := 0#32
  let c0_i32_2292 : BitVec 32 := 0#32
  ![v3225.toNat, 0, 0]

def k0_chk404 (v3225 : BitVec 32) : Prop :=
  (∀ a, (k0_off1212 v3225) a + S1x128x128.size a ≤ S10240x128x128.size a)
theorem k0_off1212_inb : ∀ (v3225 : BitVec 32) (k0_hw404 : k0_chk404 v3225), ∀ a, (k0_off1212 v3225) a + S1x128x128.size a ≤ S10240x128x128.size a := fun v3225 k0_hw404 => k0_hw404

def k0_off1213 (i : grid0.Coords) : Fin 2 → Nat :=
  let arg0 : BitVec 32 := BitVec.ofNat 32 (i 0).val
  let v3232 : Index := Scalar.indexCast arg0
  let c20_2293 : Index := 20#32
  ![v3232.toNat, 20]
def k0_off1214 (i : grid0.Coords) : Fin 3 → Nat :=
  let arg0 : BitVec 32 := BitVec.ofNat 32 (i 0).val
  let c2560_i32_2295 : BitVec 32 := 2560#32
  let c0_i32_2296 : BitVec 32 := 0#32
  ![arg0.toNat, 2560, 0]
def k0_off1215 (v3233 : BitVec 32) : Fin 3 → Nat :=
  let c0_i32_2297 : BitVec 32 := 0#32
  let c0_i32_2298 : BitVec 32 := 0#32
  ![v3233.toNat, 0, 0]

def k0_chk405 (v3233 : BitVec 32) : Prop :=
  (∀ a, (k0_off1215 v3233) a + S1x128x128.size a ≤ S10240x128x128.size a)
theorem k0_off1215_inb : ∀ (v3233 : BitVec 32) (k0_hw405 : k0_chk405 v3233), ∀ a, (k0_off1215 v3233) a + S1x128x128.size a ≤ S10240x128x128.size a := fun v3233 k0_hw405 => k0_hw405

def k0_off1216 (i : grid0.Coords) : Fin 2 → Nat :=
  let arg0 : BitVec 32 := BitVec.ofNat 32 (i 0).val
  let v3240 : Index := Scalar.indexCast arg0
  let c21_2299 : Index := 21#32
  ![v3240.toNat, 21]
def k0_off1217 (i : grid0.Coords) : Fin 3 → Nat :=
  let arg0 : BitVec 32 := BitVec.ofNat 32 (i 0).val
  let c2688_i32_2301 : BitVec 32 := 2688#32
  let c0_i32_2302 : BitVec 32 := 0#32
  ![arg0.toNat, 2688, 0]
def k0_off1218 (v3241 : BitVec 32) : Fin 3 → Nat :=
  let c0_i32_2303 : BitVec 32 := 0#32
  let c0_i32_2304 : BitVec 32 := 0#32
  ![v3241.toNat, 0, 0]

def k0_chk406 (v3241 : BitVec 32) : Prop :=
  (∀ a, (k0_off1218 v3241) a + S1x128x128.size a ≤ S10240x128x128.size a)
theorem k0_off1218_inb : ∀ (v3241 : BitVec 32) (k0_hw406 : k0_chk406 v3241), ∀ a, (k0_off1218 v3241) a + S1x128x128.size a ≤ S10240x128x128.size a := fun v3241 k0_hw406 => k0_hw406

def k0_off1219 (i : grid0.Coords) : Fin 2 → Nat :=
  let arg0 : BitVec 32 := BitVec.ofNat 32 (i 0).val
  let v3248 : Index := Scalar.indexCast arg0
  let c22_2305 : Index := 22#32
  ![v3248.toNat, 22]
def k0_off1220 (i : grid0.Coords) : Fin 3 → Nat :=
  let arg0 : BitVec 32 := BitVec.ofNat 32 (i 0).val
  let c2816_i32_2307 : BitVec 32 := 2816#32
  let c0_i32_2308 : BitVec 32 := 0#32
  ![arg0.toNat, 2816, 0]
def k0_off1221 (v3249 : BitVec 32) : Fin 3 → Nat :=
  let c0_i32_2309 : BitVec 32 := 0#32
  let c0_i32_2310 : BitVec 32 := 0#32
  ![v3249.toNat, 0, 0]

def k0_chk407 (v3249 : BitVec 32) : Prop :=
  (∀ a, (k0_off1221 v3249) a + S1x128x128.size a ≤ S10240x128x128.size a)
theorem k0_off1221_inb : ∀ (v3249 : BitVec 32) (k0_hw407 : k0_chk407 v3249), ∀ a, (k0_off1221 v3249) a + S1x128x128.size a ≤ S10240x128x128.size a := fun v3249 k0_hw407 => k0_hw407

def k0_off1222 (i : grid0.Coords) : Fin 2 → Nat :=
  let arg0 : BitVec 32 := BitVec.ofNat 32 (i 0).val
  let v3256 : Index := Scalar.indexCast arg0
  let c23_2311 : Index := 23#32
  ![v3256.toNat, 23]
def k0_off1223 (i : grid0.Coords) : Fin 3 → Nat :=
  let arg0 : BitVec 32 := BitVec.ofNat 32 (i 0).val
  let c2944_i32_2313 : BitVec 32 := 2944#32
  let c0_i32_2314 : BitVec 32 := 0#32
  ![arg0.toNat, 2944, 0]
def k0_off1224 (v3257 : BitVec 32) : Fin 3 → Nat :=
  let c0_i32_2315 : BitVec 32 := 0#32
  let c0_i32_2316 : BitVec 32 := 0#32
  ![v3257.toNat, 0, 0]

def k0_chk408 (v3257 : BitVec 32) : Prop :=
  (∀ a, (k0_off1224 v3257) a + S1x128x128.size a ≤ S10240x128x128.size a)
theorem k0_off1224_inb : ∀ (v3257 : BitVec 32) (k0_hw408 : k0_chk408 v3257), ∀ a, (k0_off1224 v3257) a + S1x128x128.size a ≤ S10240x128x128.size a := fun v3257 k0_hw408 => k0_hw408

def k0_off1225 (i : grid0.Coords) : Fin 2 → Nat :=
  let arg0 : BitVec 32 := BitVec.ofNat 32 (i 0).val
  let v3264 : Index := Scalar.indexCast arg0
  let c24_2317 : Index := 24#32
  ![v3264.toNat, 24]
def k0_off1226 (i : grid0.Coords) : Fin 3 → Nat :=
  let arg0 : BitVec 32 := BitVec.ofNat 32 (i 0).val
  let c3072_i32_2319 : BitVec 32 := 3072#32
  let c0_i32_2320 : BitVec 32 := 0#32
  ![arg0.toNat, 3072, 0]
def k0_off1227 (v3265 : BitVec 32) : Fin 3 → Nat :=
  let c0_i32_2321 : BitVec 32 := 0#32
  let c0_i32_2322 : BitVec 32 := 0#32
  ![v3265.toNat, 0, 0]

def k0_chk409 (v3265 : BitVec 32) : Prop :=
  (∀ a, (k0_off1227 v3265) a + S1x128x128.size a ≤ S10240x128x128.size a)
theorem k0_off1227_inb : ∀ (v3265 : BitVec 32) (k0_hw409 : k0_chk409 v3265), ∀ a, (k0_off1227 v3265) a + S1x128x128.size a ≤ S10240x128x128.size a := fun v3265 k0_hw409 => k0_hw409

def k0_off1228 (i : grid0.Coords) : Fin 2 → Nat :=
  let arg0 : BitVec 32 := BitVec.ofNat 32 (i 0).val
  let v3272 : Index := Scalar.indexCast arg0
  let c25_2323 : Index := 25#32
  ![v3272.toNat, 25]
def k0_off1229 (i : grid0.Coords) : Fin 3 → Nat :=
  let arg0 : BitVec 32 := BitVec.ofNat 32 (i 0).val
  let c3200_i32_2325 : BitVec 32 := 3200#32
  let c0_i32_2326 : BitVec 32 := 0#32
  ![arg0.toNat, 3200, 0]
def k0_off1230 (v3273 : BitVec 32) : Fin 3 → Nat :=
  let c0_i32_2327 : BitVec 32 := 0#32
  let c0_i32_2328 : BitVec 32 := 0#32
  ![v3273.toNat, 0, 0]

def k0_chk410 (v3273 : BitVec 32) : Prop :=
  (∀ a, (k0_off1230 v3273) a + S1x128x128.size a ≤ S10240x128x128.size a)
theorem k0_off1230_inb : ∀ (v3273 : BitVec 32) (k0_hw410 : k0_chk410 v3273), ∀ a, (k0_off1230 v3273) a + S1x128x128.size a ≤ S10240x128x128.size a := fun v3273 k0_hw410 => k0_hw410

def k0_off1231 (i : grid0.Coords) : Fin 2 → Nat :=
  let arg0 : BitVec 32 := BitVec.ofNat 32 (i 0).val
  let v3280 : Index := Scalar.indexCast arg0
  let c26_2329 : Index := 26#32
  ![v3280.toNat, 26]
def k0_off1232 (i : grid0.Coords) : Fin 3 → Nat :=
  let arg0 : BitVec 32 := BitVec.ofNat 32 (i 0).val
  let c3328_i32_2331 : BitVec 32 := 3328#32
  let c0_i32_2332 : BitVec 32 := 0#32
  ![arg0.toNat, 3328, 0]
def k0_off1233 (v3281 : BitVec 32) : Fin 3 → Nat :=
  let c0_i32_2333 : BitVec 32 := 0#32
  let c0_i32_2334 : BitVec 32 := 0#32
  ![v3281.toNat, 0, 0]

def k0_chk411 (v3281 : BitVec 32) : Prop :=
  (∀ a, (k0_off1233 v3281) a + S1x128x128.size a ≤ S10240x128x128.size a)
theorem k0_off1233_inb : ∀ (v3281 : BitVec 32) (k0_hw411 : k0_chk411 v3281), ∀ a, (k0_off1233 v3281) a + S1x128x128.size a ≤ S10240x128x128.size a := fun v3281 k0_hw411 => k0_hw411

def k0_off1234 (i : grid0.Coords) : Fin 2 → Nat :=
  let arg0 : BitVec 32 := BitVec.ofNat 32 (i 0).val
  let v3288 : Index := Scalar.indexCast arg0
  let c27_2335 : Index := 27#32
  ![v3288.toNat, 27]
def k0_off1235 (i : grid0.Coords) : Fin 3 → Nat :=
  let arg0 : BitVec 32 := BitVec.ofNat 32 (i 0).val
  let c3456_i32_2337 : BitVec 32 := 3456#32
  let c0_i32_2338 : BitVec 32 := 0#32
  ![arg0.toNat, 3456, 0]
def k0_off1236 (v3289 : BitVec 32) : Fin 3 → Nat :=
  let c0_i32_2339 : BitVec 32 := 0#32
  let c0_i32_2340 : BitVec 32 := 0#32
  ![v3289.toNat, 0, 0]

def k0_chk412 (v3289 : BitVec 32) : Prop :=
  (∀ a, (k0_off1236 v3289) a + S1x128x128.size a ≤ S10240x128x128.size a)
theorem k0_off1236_inb : ∀ (v3289 : BitVec 32) (k0_hw412 : k0_chk412 v3289), ∀ a, (k0_off1236 v3289) a + S1x128x128.size a ≤ S10240x128x128.size a := fun v3289 k0_hw412 => k0_hw412

def k0_off1237 (i : grid0.Coords) : Fin 2 → Nat :=
  let arg0 : BitVec 32 := BitVec.ofNat 32 (i 0).val
  let v3296 : Index := Scalar.indexCast arg0
  let c28_2341 : Index := 28#32
  ![v3296.toNat, 28]
def k0_off1238 (i : grid0.Coords) : Fin 3 → Nat :=
  let arg0 : BitVec 32 := BitVec.ofNat 32 (i 0).val
  let c3584_i32_2343 : BitVec 32 := 3584#32
  let c0_i32_2344 : BitVec 32 := 0#32
  ![arg0.toNat, 3584, 0]
def k0_off1239 (v3297 : BitVec 32) : Fin 3 → Nat :=
  let c0_i32_2345 : BitVec 32 := 0#32
  let c0_i32_2346 : BitVec 32 := 0#32
  ![v3297.toNat, 0, 0]

def k0_chk413 (v3297 : BitVec 32) : Prop :=
  (∀ a, (k0_off1239 v3297) a + S1x128x128.size a ≤ S10240x128x128.size a)
theorem k0_off1239_inb : ∀ (v3297 : BitVec 32) (k0_hw413 : k0_chk413 v3297), ∀ a, (k0_off1239 v3297) a + S1x128x128.size a ≤ S10240x128x128.size a := fun v3297 k0_hw413 => k0_hw413

def k0_off1240 (i : grid0.Coords) : Fin 2 → Nat :=
  let arg0 : BitVec 32 := BitVec.ofNat 32 (i 0).val
  let v3304 : Index := Scalar.indexCast arg0
  let c29_2347 : Index := 29#32
  ![v3304.toNat, 29]
def k0_off1241 (i : grid0.Coords) : Fin 3 → Nat :=
  let arg0 : BitVec 32 := BitVec.ofNat 32 (i 0).val
  let c3712_i32_2349 : BitVec 32 := 3712#32
  let c0_i32_2350 : BitVec 32 := 0#32
  ![arg0.toNat, 3712, 0]
def k0_off1242 (v3305 : BitVec 32) : Fin 3 → Nat :=
  let c0_i32_2351 : BitVec 32 := 0#32
  let c0_i32_2352 : BitVec 32 := 0#32
  ![v3305.toNat, 0, 0]

def k0_chk414 (v3305 : BitVec 32) : Prop :=
  (∀ a, (k0_off1242 v3305) a + S1x128x128.size a ≤ S10240x128x128.size a)
theorem k0_off1242_inb : ∀ (v3305 : BitVec 32) (k0_hw414 : k0_chk414 v3305), ∀ a, (k0_off1242 v3305) a + S1x128x128.size a ≤ S10240x128x128.size a := fun v3305 k0_hw414 => k0_hw414

def k0_off1243 (i : grid0.Coords) : Fin 2 → Nat :=
  let arg0 : BitVec 32 := BitVec.ofNat 32 (i 0).val
  let v3312 : Index := Scalar.indexCast arg0
  let c30_2353 : Index := 30#32
  ![v3312.toNat, 30]
def k0_off1244 (i : grid0.Coords) : Fin 3 → Nat :=
  let arg0 : BitVec 32 := BitVec.ofNat 32 (i 0).val
  let c3840_i32_2355 : BitVec 32 := 3840#32
  let c0_i32_2356 : BitVec 32 := 0#32
  ![arg0.toNat, 3840, 0]
def k0_off1245 (v3313 : BitVec 32) : Fin 3 → Nat :=
  let c0_i32_2357 : BitVec 32 := 0#32
  let c0_i32_2358 : BitVec 32 := 0#32
  ![v3313.toNat, 0, 0]

def k0_chk415 (v3313 : BitVec 32) : Prop :=
  (∀ a, (k0_off1245 v3313) a + S1x128x128.size a ≤ S10240x128x128.size a)
theorem k0_off1245_inb : ∀ (v3313 : BitVec 32) (k0_hw415 : k0_chk415 v3313), ∀ a, (k0_off1245 v3313) a + S1x128x128.size a ≤ S10240x128x128.size a := fun v3313 k0_hw415 => k0_hw415

def k0_off1246 (i : grid0.Coords) : Fin 2 → Nat :=
  let arg0 : BitVec 32 := BitVec.ofNat 32 (i 0).val
  let v3320 : Index := Scalar.indexCast arg0
  let c31_2359 : Index := 31#32
  ![v3320.toNat, 31]
def k0_off1247 (i : grid0.Coords) : Fin 3 → Nat :=
  let arg0 : BitVec 32 := BitVec.ofNat 32 (i 0).val
  let c3968_i32_2361 : BitVec 32 := 3968#32
  let c0_i32_2362 : BitVec 32 := 0#32
  ![arg0.toNat, 3968, 0]
def k0_off1248 (v3321 : BitVec 32) : Fin 3 → Nat :=
  let c0_i32_2363 : BitVec 32 := 0#32
  let c0_i32_2364 : BitVec 32 := 0#32
  ![v3321.toNat, 0, 0]

def k0_chk416 (v3321 : BitVec 32) : Prop :=
  (∀ a, (k0_off1248 v3321) a + S1x128x128.size a ≤ S10240x128x128.size a)
theorem k0_off1248_inb : ∀ (v3321 : BitVec 32) (k0_hw416 : k0_chk416 v3321), ∀ a, (k0_off1248 v3321) a + S1x128x128.size a ≤ S10240x128x128.size a := fun v3321 k0_hw416 => k0_hw416

def k0_off1249 (i : grid0.Coords) : Fin 2 → Nat :=
  let arg0 : BitVec 32 := BitVec.ofNat 32 (i 0).val
  let v3328 : Index := Scalar.indexCast arg0
  let c32_2365 : Index := 32#32
  ![v3328.toNat, 32]
def k0_off1250 (i : grid0.Coords) : Fin 3 → Nat :=
  let arg0 : BitVec 32 := BitVec.ofNat 32 (i 0).val
  let c4096_i32_2367 : BitVec 32 := 4096#32
  let c0_i32_2368 : BitVec 32 := 0#32
  ![arg0.toNat, 4096, 0]
def k0_off1251 (v3329 : BitVec 32) : Fin 3 → Nat :=
  let c0_i32_2369 : BitVec 32 := 0#32
  let c0_i32_2370 : BitVec 32 := 0#32
  ![v3329.toNat, 0, 0]

def k0_chk417 (v3329 : BitVec 32) : Prop :=
  (∀ a, (k0_off1251 v3329) a + S1x128x128.size a ≤ S10240x128x128.size a)
theorem k0_off1251_inb : ∀ (v3329 : BitVec 32) (k0_hw417 : k0_chk417 v3329), ∀ a, (k0_off1251 v3329) a + S1x128x128.size a ≤ S10240x128x128.size a := fun v3329 k0_hw417 => k0_hw417

def k0_off1252 (i : grid0.Coords) : Fin 2 → Nat :=
  let arg0 : BitVec 32 := BitVec.ofNat 32 (i 0).val
  let v3336 : Index := Scalar.indexCast arg0
  let c33_2371 : Index := 33#32
  ![v3336.toNat, 33]
def k0_off1253 (i : grid0.Coords) : Fin 3 → Nat :=
  let arg0 : BitVec 32 := BitVec.ofNat 32 (i 0).val
  let c4224_i32_2373 : BitVec 32 := 4224#32
  let c0_i32_2374 : BitVec 32 := 0#32
  ![arg0.toNat, 4224, 0]
def k0_off1254 (v3337 : BitVec 32) : Fin 3 → Nat :=
  let c0_i32_2375 : BitVec 32 := 0#32
  let c0_i32_2376 : BitVec 32 := 0#32
  ![v3337.toNat, 0, 0]

def k0_chk418 (v3337 : BitVec 32) : Prop :=
  (∀ a, (k0_off1254 v3337) a + S1x128x128.size a ≤ S10240x128x128.size a)
theorem k0_off1254_inb : ∀ (v3337 : BitVec 32) (k0_hw418 : k0_chk418 v3337), ∀ a, (k0_off1254 v3337) a + S1x128x128.size a ≤ S10240x128x128.size a := fun v3337 k0_hw418 => k0_hw418

def k0_off1255 (i : grid0.Coords) : Fin 2 → Nat :=
  let arg0 : BitVec 32 := BitVec.ofNat 32 (i 0).val
  let v3344 : Index := Scalar.indexCast arg0
  let c34_2377 : Index := 34#32
  ![v3344.toNat, 34]
def k0_off1256 (i : grid0.Coords) : Fin 3 → Nat :=
  let arg0 : BitVec 32 := BitVec.ofNat 32 (i 0).val
  let c4352_i32_2379 : BitVec 32 := 4352#32
  let c0_i32_2380 : BitVec 32 := 0#32
  ![arg0.toNat, 4352, 0]
def k0_off1257 (v3345 : BitVec 32) : Fin 3 → Nat :=
  let c0_i32_2381 : BitVec 32 := 0#32
  let c0_i32_2382 : BitVec 32 := 0#32
  ![v3345.toNat, 0, 0]

def k0_chk419 (v3345 : BitVec 32) : Prop :=
  (∀ a, (k0_off1257 v3345) a + S1x128x128.size a ≤ S10240x128x128.size a)
theorem k0_off1257_inb : ∀ (v3345 : BitVec 32) (k0_hw419 : k0_chk419 v3345), ∀ a, (k0_off1257 v3345) a + S1x128x128.size a ≤ S10240x128x128.size a := fun v3345 k0_hw419 => k0_hw419

def k0_off1258 (i : grid0.Coords) : Fin 2 → Nat :=
  let arg0 : BitVec 32 := BitVec.ofNat 32 (i 0).val
  let v3352 : Index := Scalar.indexCast arg0
  let c35_2383 : Index := 35#32
  ![v3352.toNat, 35]
def k0_off1259 (i : grid0.Coords) : Fin 3 → Nat :=
  let arg0 : BitVec 32 := BitVec.ofNat 32 (i 0).val
  let c4480_i32_2385 : BitVec 32 := 4480#32
  let c0_i32_2386 : BitVec 32 := 0#32
  ![arg0.toNat, 4480, 0]
def k0_off1260 (v3353 : BitVec 32) : Fin 3 → Nat :=
  let c0_i32_2387 : BitVec 32 := 0#32
  let c0_i32_2388 : BitVec 32 := 0#32
  ![v3353.toNat, 0, 0]

def k0_chk420 (v3353 : BitVec 32) : Prop :=
  (∀ a, (k0_off1260 v3353) a + S1x128x128.size a ≤ S10240x128x128.size a)
theorem k0_off1260_inb : ∀ (v3353 : BitVec 32) (k0_hw420 : k0_chk420 v3353), ∀ a, (k0_off1260 v3353) a + S1x128x128.size a ≤ S10240x128x128.size a := fun v3353 k0_hw420 => k0_hw420

def k0_off1261 (i : grid0.Coords) : Fin 2 → Nat :=
  let arg0 : BitVec 32 := BitVec.ofNat 32 (i 0).val
  let v3360 : Index := Scalar.indexCast arg0
  let c36_2389 : Index := 36#32
  ![v3360.toNat, 36]
def k0_off1262 (i : grid0.Coords) : Fin 3 → Nat :=
  let arg0 : BitVec 32 := BitVec.ofNat 32 (i 0).val
  let c4608_i32_2391 : BitVec 32 := 4608#32
  let c0_i32_2392 : BitVec 32 := 0#32
  ![arg0.toNat, 4608, 0]
def k0_off1263 (v3361 : BitVec 32) : Fin 3 → Nat :=
  let c0_i32_2393 : BitVec 32 := 0#32
  let c0_i32_2394 : BitVec 32 := 0#32
  ![v3361.toNat, 0, 0]

def k0_chk421 (v3361 : BitVec 32) : Prop :=
  (∀ a, (k0_off1263 v3361) a + S1x128x128.size a ≤ S10240x128x128.size a)
theorem k0_off1263_inb : ∀ (v3361 : BitVec 32) (k0_hw421 : k0_chk421 v3361), ∀ a, (k0_off1263 v3361) a + S1x128x128.size a ≤ S10240x128x128.size a := fun v3361 k0_hw421 => k0_hw421

def k0_off1264 (i : grid0.Coords) : Fin 2 → Nat :=
  let arg0 : BitVec 32 := BitVec.ofNat 32 (i 0).val
  let v3368 : Index := Scalar.indexCast arg0
  let c37_2395 : Index := 37#32
  ![v3368.toNat, 37]
def k0_off1265 (i : grid0.Coords) : Fin 3 → Nat :=
  let arg0 : BitVec 32 := BitVec.ofNat 32 (i 0).val
  let c4736_i32_2397 : BitVec 32 := 4736#32
  let c0_i32_2398 : BitVec 32 := 0#32
  ![arg0.toNat, 4736, 0]
def k0_off1266 (v3369 : BitVec 32) : Fin 3 → Nat :=
  let c0_i32_2399 : BitVec 32 := 0#32
  let c0_i32_2400 : BitVec 32 := 0#32
  ![v3369.toNat, 0, 0]

def k0_chk422 (v3369 : BitVec 32) : Prop :=
  (∀ a, (k0_off1266 v3369) a + S1x128x128.size a ≤ S10240x128x128.size a)
theorem k0_off1266_inb : ∀ (v3369 : BitVec 32) (k0_hw422 : k0_chk422 v3369), ∀ a, (k0_off1266 v3369) a + S1x128x128.size a ≤ S10240x128x128.size a := fun v3369 k0_hw422 => k0_hw422

def k0_off1267 (i : grid0.Coords) : Fin 2 → Nat :=
  let arg0 : BitVec 32 := BitVec.ofNat 32 (i 0).val
  let v3376 : Index := Scalar.indexCast arg0
  let c38_2401 : Index := 38#32
  ![v3376.toNat, 38]
def k0_off1268 (i : grid0.Coords) : Fin 3 → Nat :=
  let arg0 : BitVec 32 := BitVec.ofNat 32 (i 0).val
  let c4864_i32_2403 : BitVec 32 := 4864#32
  let c0_i32_2404 : BitVec 32 := 0#32
  ![arg0.toNat, 4864, 0]
def k0_off1269 (v3377 : BitVec 32) : Fin 3 → Nat :=
  let c0_i32_2405 : BitVec 32 := 0#32
  let c0_i32_2406 : BitVec 32 := 0#32
  ![v3377.toNat, 0, 0]

def k0_chk423 (v3377 : BitVec 32) : Prop :=
  (∀ a, (k0_off1269 v3377) a + S1x128x128.size a ≤ S10240x128x128.size a)
theorem k0_off1269_inb : ∀ (v3377 : BitVec 32) (k0_hw423 : k0_chk423 v3377), ∀ a, (k0_off1269 v3377) a + S1x128x128.size a ≤ S10240x128x128.size a := fun v3377 k0_hw423 => k0_hw423

def k0_off1270 (i : grid0.Coords) : Fin 2 → Nat :=
  let arg0 : BitVec 32 := BitVec.ofNat 32 (i 0).val
  let v3384 : Index := Scalar.indexCast arg0
  let c39_2407 : Index := 39#32
  ![v3384.toNat, 39]
def k0_off1271 (i : grid0.Coords) : Fin 3 → Nat :=
  let arg0 : BitVec 32 := BitVec.ofNat 32 (i 0).val
  let c4992_i32_2409 : BitVec 32 := 4992#32
  let c0_i32_2410 : BitVec 32 := 0#32
  ![arg0.toNat, 4992, 0]
def k0_off1272 (v3385 : BitVec 32) : Fin 3 → Nat :=
  let c0_i32_2411 : BitVec 32 := 0#32
  let c0_i32_2412 : BitVec 32 := 0#32
  ![v3385.toNat, 0, 0]

def k0_chk424 (v3385 : BitVec 32) : Prop :=
  (∀ a, (k0_off1272 v3385) a + S1x128x128.size a ≤ S10240x128x128.size a)
theorem k0_off1272_inb : ∀ (v3385 : BitVec 32) (k0_hw424 : k0_chk424 v3385), ∀ a, (k0_off1272 v3385) a + S1x128x128.size a ≤ S10240x128x128.size a := fun v3385 k0_hw424 => k0_hw424

def k0_off1273 (i : grid0.Coords) : Fin 2 → Nat :=
  let arg0 : BitVec 32 := BitVec.ofNat 32 (i 0).val
  let v3392 : Index := Scalar.indexCast arg0
  let c40_2413 : Index := 40#32
  ![v3392.toNat, 40]
def k0_off1274 (i : grid0.Coords) : Fin 3 → Nat :=
  let arg0 : BitVec 32 := BitVec.ofNat 32 (i 0).val
  let c5120_i32_2415 : BitVec 32 := 5120#32
  let c0_i32_2416 : BitVec 32 := 0#32
  ![arg0.toNat, 5120, 0]
def k0_off1275 (v3393 : BitVec 32) : Fin 3 → Nat :=
  let c0_i32_2417 : BitVec 32 := 0#32
  let c0_i32_2418 : BitVec 32 := 0#32
  ![v3393.toNat, 0, 0]

def k0_chk425 (v3393 : BitVec 32) : Prop :=
  (∀ a, (k0_off1275 v3393) a + S1x128x128.size a ≤ S10240x128x128.size a)
theorem k0_off1275_inb : ∀ (v3393 : BitVec 32) (k0_hw425 : k0_chk425 v3393), ∀ a, (k0_off1275 v3393) a + S1x128x128.size a ≤ S10240x128x128.size a := fun v3393 k0_hw425 => k0_hw425

def k0_off1276 (i : grid0.Coords) : Fin 2 → Nat :=
  let arg0 : BitVec 32 := BitVec.ofNat 32 (i 0).val
  let v3400 : Index := Scalar.indexCast arg0
  let c41_2419 : Index := 41#32
  ![v3400.toNat, 41]
def k0_off1277 (i : grid0.Coords) : Fin 3 → Nat :=
  let arg0 : BitVec 32 := BitVec.ofNat 32 (i 0).val
  let c5248_i32_2421 : BitVec 32 := 5248#32
  let c0_i32_2422 : BitVec 32 := 0#32
  ![arg0.toNat, 5248, 0]
def k0_off1278 (v3401 : BitVec 32) : Fin 3 → Nat :=
  let c0_i32_2423 : BitVec 32 := 0#32
  let c0_i32_2424 : BitVec 32 := 0#32
  ![v3401.toNat, 0, 0]

def k0_chk426 (v3401 : BitVec 32) : Prop :=
  (∀ a, (k0_off1278 v3401) a + S1x128x128.size a ≤ S10240x128x128.size a)
theorem k0_off1278_inb : ∀ (v3401 : BitVec 32) (k0_hw426 : k0_chk426 v3401), ∀ a, (k0_off1278 v3401) a + S1x128x128.size a ≤ S10240x128x128.size a := fun v3401 k0_hw426 => k0_hw426

def k0_off1279 (i : grid0.Coords) : Fin 2 → Nat :=
  let arg0 : BitVec 32 := BitVec.ofNat 32 (i 0).val
  let v3408 : Index := Scalar.indexCast arg0
  let c42_2425 : Index := 42#32
  ![v3408.toNat, 42]
def k0_off1280 (i : grid0.Coords) : Fin 3 → Nat :=
  let arg0 : BitVec 32 := BitVec.ofNat 32 (i 0).val
  let c5376_i32_2427 : BitVec 32 := 5376#32
  let c0_i32_2428 : BitVec 32 := 0#32
  ![arg0.toNat, 5376, 0]
def k0_off1281 (v3409 : BitVec 32) : Fin 3 → Nat :=
  let c0_i32_2429 : BitVec 32 := 0#32
  let c0_i32_2430 : BitVec 32 := 0#32
  ![v3409.toNat, 0, 0]

def k0_chk427 (v3409 : BitVec 32) : Prop :=
  (∀ a, (k0_off1281 v3409) a + S1x128x128.size a ≤ S10240x128x128.size a)
theorem k0_off1281_inb : ∀ (v3409 : BitVec 32) (k0_hw427 : k0_chk427 v3409), ∀ a, (k0_off1281 v3409) a + S1x128x128.size a ≤ S10240x128x128.size a := fun v3409 k0_hw427 => k0_hw427

def k0_off1282 (i : grid0.Coords) : Fin 2 → Nat :=
  let arg0 : BitVec 32 := BitVec.ofNat 32 (i 0).val
  let v3416 : Index := Scalar.indexCast arg0
  let c43_2431 : Index := 43#32
  ![v3416.toNat, 43]
def k0_off1283 (i : grid0.Coords) : Fin 3 → Nat :=
  let arg0 : BitVec 32 := BitVec.ofNat 32 (i 0).val
  let c5504_i32_2433 : BitVec 32 := 5504#32
  let c0_i32_2434 : BitVec 32 := 0#32
  ![arg0.toNat, 5504, 0]
def k0_off1284 (v3417 : BitVec 32) : Fin 3 → Nat :=
  let c0_i32_2435 : BitVec 32 := 0#32
  let c0_i32_2436 : BitVec 32 := 0#32
  ![v3417.toNat, 0, 0]

def k0_chk428 (v3417 : BitVec 32) : Prop :=
  (∀ a, (k0_off1284 v3417) a + S1x128x128.size a ≤ S10240x128x128.size a)
theorem k0_off1284_inb : ∀ (v3417 : BitVec 32) (k0_hw428 : k0_chk428 v3417), ∀ a, (k0_off1284 v3417) a + S1x128x128.size a ≤ S10240x128x128.size a := fun v3417 k0_hw428 => k0_hw428

def k0_off1285 (i : grid0.Coords) : Fin 2 → Nat :=
  let arg0 : BitVec 32 := BitVec.ofNat 32 (i 0).val
  let v3424 : Index := Scalar.indexCast arg0
  let c44_2437 : Index := 44#32
  ![v3424.toNat, 44]
def k0_off1286 (i : grid0.Coords) : Fin 3 → Nat :=
  let arg0 : BitVec 32 := BitVec.ofNat 32 (i 0).val
  let c5632_i32_2439 : BitVec 32 := 5632#32
  let c0_i32_2440 : BitVec 32 := 0#32
  ![arg0.toNat, 5632, 0]
def k0_off1287 (v3425 : BitVec 32) : Fin 3 → Nat :=
  let c0_i32_2441 : BitVec 32 := 0#32
  let c0_i32_2442 : BitVec 32 := 0#32
  ![v3425.toNat, 0, 0]

def k0_chk429 (v3425 : BitVec 32) : Prop :=
  (∀ a, (k0_off1287 v3425) a + S1x128x128.size a ≤ S10240x128x128.size a)
theorem k0_off1287_inb : ∀ (v3425 : BitVec 32) (k0_hw429 : k0_chk429 v3425), ∀ a, (k0_off1287 v3425) a + S1x128x128.size a ≤ S10240x128x128.size a := fun v3425 k0_hw429 => k0_hw429

def k0_off1288 (i : grid0.Coords) : Fin 2 → Nat :=
  let arg0 : BitVec 32 := BitVec.ofNat 32 (i 0).val
  let v3432 : Index := Scalar.indexCast arg0
  let c45_2443 : Index := 45#32
  ![v3432.toNat, 45]
def k0_off1289 (i : grid0.Coords) : Fin 3 → Nat :=
  let arg0 : BitVec 32 := BitVec.ofNat 32 (i 0).val
  let c5760_i32_2445 : BitVec 32 := 5760#32
  let c0_i32_2446 : BitVec 32 := 0#32
  ![arg0.toNat, 5760, 0]
def k0_off1290 (v3433 : BitVec 32) : Fin 3 → Nat :=
  let c0_i32_2447 : BitVec 32 := 0#32
  let c0_i32_2448 : BitVec 32 := 0#32
  ![v3433.toNat, 0, 0]

def k0_chk430 (v3433 : BitVec 32) : Prop :=
  (∀ a, (k0_off1290 v3433) a + S1x128x128.size a ≤ S10240x128x128.size a)
theorem k0_off1290_inb : ∀ (v3433 : BitVec 32) (k0_hw430 : k0_chk430 v3433), ∀ a, (k0_off1290 v3433) a + S1x128x128.size a ≤ S10240x128x128.size a := fun v3433 k0_hw430 => k0_hw430

def k0_off1291 (i : grid0.Coords) : Fin 2 → Nat :=
  let arg0 : BitVec 32 := BitVec.ofNat 32 (i 0).val
  let v3440 : Index := Scalar.indexCast arg0
  let c46_2449 : Index := 46#32
  ![v3440.toNat, 46]
def k0_off1292 (i : grid0.Coords) : Fin 3 → Nat :=
  let arg0 : BitVec 32 := BitVec.ofNat 32 (i 0).val
  let c5888_i32_2451 : BitVec 32 := 5888#32
  let c0_i32_2452 : BitVec 32 := 0#32
  ![arg0.toNat, 5888, 0]
def k0_off1293 (v3441 : BitVec 32) : Fin 3 → Nat :=
  let c0_i32_2453 : BitVec 32 := 0#32
  let c0_i32_2454 : BitVec 32 := 0#32
  ![v3441.toNat, 0, 0]

def k0_chk431 (v3441 : BitVec 32) : Prop :=
  (∀ a, (k0_off1293 v3441) a + S1x128x128.size a ≤ S10240x128x128.size a)
theorem k0_off1293_inb : ∀ (v3441 : BitVec 32) (k0_hw431 : k0_chk431 v3441), ∀ a, (k0_off1293 v3441) a + S1x128x128.size a ≤ S10240x128x128.size a := fun v3441 k0_hw431 => k0_hw431

def k0_off1294 (i : grid0.Coords) : Fin 2 → Nat :=
  let arg0 : BitVec 32 := BitVec.ofNat 32 (i 0).val
  let v3448 : Index := Scalar.indexCast arg0
  let c47_2455 : Index := 47#32
  ![v3448.toNat, 47]
def k0_off1295 (i : grid0.Coords) : Fin 3 → Nat :=
  let arg0 : BitVec 32 := BitVec.ofNat 32 (i 0).val
  let c6016_i32_2457 : BitVec 32 := 6016#32
  let c0_i32_2458 : BitVec 32 := 0#32
  ![arg0.toNat, 6016, 0]
def k0_off1296 (v3449 : BitVec 32) : Fin 3 → Nat :=
  let c0_i32_2459 : BitVec 32 := 0#32
  let c0_i32_2460 : BitVec 32 := 0#32
  ![v3449.toNat, 0, 0]

def k0_chk432 (v3449 : BitVec 32) : Prop :=
  (∀ a, (k0_off1296 v3449) a + S1x128x128.size a ≤ S10240x128x128.size a)
theorem k0_off1296_inb : ∀ (v3449 : BitVec 32) (k0_hw432 : k0_chk432 v3449), ∀ a, (k0_off1296 v3449) a + S1x128x128.size a ≤ S10240x128x128.size a := fun v3449 k0_hw432 => k0_hw432

def k0_off1297 (i : grid0.Coords) : Fin 2 → Nat :=
  let arg0 : BitVec 32 := BitVec.ofNat 32 (i 0).val
  let v3456 : Index := Scalar.indexCast arg0
  let c48_2461 : Index := 48#32
  ![v3456.toNat, 48]
def k0_off1298 (i : grid0.Coords) : Fin 3 → Nat :=
  let arg0 : BitVec 32 := BitVec.ofNat 32 (i 0).val
  let c6144_i32_2463 : BitVec 32 := 6144#32
  let c0_i32_2464 : BitVec 32 := 0#32
  ![arg0.toNat, 6144, 0]
def k0_off1299 (v3457 : BitVec 32) : Fin 3 → Nat :=
  let c0_i32_2465 : BitVec 32 := 0#32
  let c0_i32_2466 : BitVec 32 := 0#32
  ![v3457.toNat, 0, 0]

def k0_chk433 (v3457 : BitVec 32) : Prop :=
  (∀ a, (k0_off1299 v3457) a + S1x128x128.size a ≤ S10240x128x128.size a)
theorem k0_off1299_inb : ∀ (v3457 : BitVec 32) (k0_hw433 : k0_chk433 v3457), ∀ a, (k0_off1299 v3457) a + S1x128x128.size a ≤ S10240x128x128.size a := fun v3457 k0_hw433 => k0_hw433

def k0_off1300 (i : grid0.Coords) : Fin 2 → Nat :=
  let arg0 : BitVec 32 := BitVec.ofNat 32 (i 0).val
  let v3464 : Index := Scalar.indexCast arg0
  let c49_2467 : Index := 49#32
  ![v3464.toNat, 49]
def k0_off1301 (i : grid0.Coords) : Fin 3 → Nat :=
  let arg0 : BitVec 32 := BitVec.ofNat 32 (i 0).val
  let c6272_i32_2469 : BitVec 32 := 6272#32
  let c0_i32_2470 : BitVec 32 := 0#32
  ![arg0.toNat, 6272, 0]
def k0_off1302 (v3465 : BitVec 32) : Fin 3 → Nat :=
  let c0_i32_2471 : BitVec 32 := 0#32
  let c0_i32_2472 : BitVec 32 := 0#32
  ![v3465.toNat, 0, 0]

def k0_chk434 (v3465 : BitVec 32) : Prop :=
  (∀ a, (k0_off1302 v3465) a + S1x128x128.size a ≤ S10240x128x128.size a)
theorem k0_off1302_inb : ∀ (v3465 : BitVec 32) (k0_hw434 : k0_chk434 v3465), ∀ a, (k0_off1302 v3465) a + S1x128x128.size a ≤ S10240x128x128.size a := fun v3465 k0_hw434 => k0_hw434

def k0_off1303 (i : grid0.Coords) : Fin 2 → Nat :=
  let arg0 : BitVec 32 := BitVec.ofNat 32 (i 0).val
  let v3472 : Index := Scalar.indexCast arg0
  let c50_2473 : Index := 50#32
  ![v3472.toNat, 50]
def k0_off1304 (i : grid0.Coords) : Fin 3 → Nat :=
  let arg0 : BitVec 32 := BitVec.ofNat 32 (i 0).val
  let c6400_i32_2475 : BitVec 32 := 6400#32
  let c0_i32_2476 : BitVec 32 := 0#32
  ![arg0.toNat, 6400, 0]
def k0_off1305 (v3473 : BitVec 32) : Fin 3 → Nat :=
  let c0_i32_2477 : BitVec 32 := 0#32
  let c0_i32_2478 : BitVec 32 := 0#32
  ![v3473.toNat, 0, 0]

def k0_chk435 (v3473 : BitVec 32) : Prop :=
  (∀ a, (k0_off1305 v3473) a + S1x128x128.size a ≤ S10240x128x128.size a)
theorem k0_off1305_inb : ∀ (v3473 : BitVec 32) (k0_hw435 : k0_chk435 v3473), ∀ a, (k0_off1305 v3473) a + S1x128x128.size a ≤ S10240x128x128.size a := fun v3473 k0_hw435 => k0_hw435

def k0_off1306 (i : grid0.Coords) : Fin 2 → Nat :=
  let arg0 : BitVec 32 := BitVec.ofNat 32 (i 0).val
  let v3480 : Index := Scalar.indexCast arg0
  let c51_2479 : Index := 51#32
  ![v3480.toNat, 51]
def k0_off1307 (i : grid0.Coords) : Fin 3 → Nat :=
  let arg0 : BitVec 32 := BitVec.ofNat 32 (i 0).val
  let c6528_i32_2481 : BitVec 32 := 6528#32
  let c0_i32_2482 : BitVec 32 := 0#32
  ![arg0.toNat, 6528, 0]
def k0_off1308 (v3481 : BitVec 32) : Fin 3 → Nat :=
  let c0_i32_2483 : BitVec 32 := 0#32
  let c0_i32_2484 : BitVec 32 := 0#32
  ![v3481.toNat, 0, 0]

def k0_chk436 (v3481 : BitVec 32) : Prop :=
  (∀ a, (k0_off1308 v3481) a + S1x128x128.size a ≤ S10240x128x128.size a)
theorem k0_off1308_inb : ∀ (v3481 : BitVec 32) (k0_hw436 : k0_chk436 v3481), ∀ a, (k0_off1308 v3481) a + S1x128x128.size a ≤ S10240x128x128.size a := fun v3481 k0_hw436 => k0_hw436

def k0_off1309 (i : grid0.Coords) : Fin 2 → Nat :=
  let arg0 : BitVec 32 := BitVec.ofNat 32 (i 0).val
  let v3488 : Index := Scalar.indexCast arg0
  let c52_2485 : Index := 52#32
  ![v3488.toNat, 52]
def k0_off1310 (i : grid0.Coords) : Fin 3 → Nat :=
  let arg0 : BitVec 32 := BitVec.ofNat 32 (i 0).val
  let c6656_i32_2487 : BitVec 32 := 6656#32
  let c0_i32_2488 : BitVec 32 := 0#32
  ![arg0.toNat, 6656, 0]
def k0_off1311 (v3489 : BitVec 32) : Fin 3 → Nat :=
  let c0_i32_2489 : BitVec 32 := 0#32
  let c0_i32_2490 : BitVec 32 := 0#32
  ![v3489.toNat, 0, 0]

def k0_chk437 (v3489 : BitVec 32) : Prop :=
  (∀ a, (k0_off1311 v3489) a + S1x128x128.size a ≤ S10240x128x128.size a)
theorem k0_off1311_inb : ∀ (v3489 : BitVec 32) (k0_hw437 : k0_chk437 v3489), ∀ a, (k0_off1311 v3489) a + S1x128x128.size a ≤ S10240x128x128.size a := fun v3489 k0_hw437 => k0_hw437

def k0_off1312 (i : grid0.Coords) : Fin 2 → Nat :=
  let arg0 : BitVec 32 := BitVec.ofNat 32 (i 0).val
  let v3496 : Index := Scalar.indexCast arg0
  let c53_2491 : Index := 53#32
  ![v3496.toNat, 53]
def k0_off1313 (i : grid0.Coords) : Fin 3 → Nat :=
  let arg0 : BitVec 32 := BitVec.ofNat 32 (i 0).val
  let c6784_i32_2493 : BitVec 32 := 6784#32
  let c0_i32_2494 : BitVec 32 := 0#32
  ![arg0.toNat, 6784, 0]
def k0_off1314 (v3497 : BitVec 32) : Fin 3 → Nat :=
  let c0_i32_2495 : BitVec 32 := 0#32
  let c0_i32_2496 : BitVec 32 := 0#32
  ![v3497.toNat, 0, 0]

def k0_chk438 (v3497 : BitVec 32) : Prop :=
  (∀ a, (k0_off1314 v3497) a + S1x128x128.size a ≤ S10240x128x128.size a)
theorem k0_off1314_inb : ∀ (v3497 : BitVec 32) (k0_hw438 : k0_chk438 v3497), ∀ a, (k0_off1314 v3497) a + S1x128x128.size a ≤ S10240x128x128.size a := fun v3497 k0_hw438 => k0_hw438

def k0_off1315 (i : grid0.Coords) : Fin 2 → Nat :=
  let arg0 : BitVec 32 := BitVec.ofNat 32 (i 0).val
  let v3504 : Index := Scalar.indexCast arg0
  let c54_2497 : Index := 54#32
  ![v3504.toNat, 54]
def k0_off1316 (i : grid0.Coords) : Fin 3 → Nat :=
  let arg0 : BitVec 32 := BitVec.ofNat 32 (i 0).val
  let c6912_i32_2499 : BitVec 32 := 6912#32
  let c0_i32_2500 : BitVec 32 := 0#32
  ![arg0.toNat, 6912, 0]
def k0_off1317 (v3505 : BitVec 32) : Fin 3 → Nat :=
  let c0_i32_2501 : BitVec 32 := 0#32
  let c0_i32_2502 : BitVec 32 := 0#32
  ![v3505.toNat, 0, 0]

def k0_chk439 (v3505 : BitVec 32) : Prop :=
  (∀ a, (k0_off1317 v3505) a + S1x128x128.size a ≤ S10240x128x128.size a)
theorem k0_off1317_inb : ∀ (v3505 : BitVec 32) (k0_hw439 : k0_chk439 v3505), ∀ a, (k0_off1317 v3505) a + S1x128x128.size a ≤ S10240x128x128.size a := fun v3505 k0_hw439 => k0_hw439

def k0_off1318 (i : grid0.Coords) : Fin 2 → Nat :=
  let arg0 : BitVec 32 := BitVec.ofNat 32 (i 0).val
  let v3512 : Index := Scalar.indexCast arg0
  let c55_2503 : Index := 55#32
  ![v3512.toNat, 55]
def k0_off1319 (i : grid0.Coords) : Fin 3 → Nat :=
  let arg0 : BitVec 32 := BitVec.ofNat 32 (i 0).val
  let c7040_i32_2505 : BitVec 32 := 7040#32
  let c0_i32_2506 : BitVec 32 := 0#32
  ![arg0.toNat, 7040, 0]
def k0_off1320 (v3513 : BitVec 32) : Fin 3 → Nat :=
  let c0_i32_2507 : BitVec 32 := 0#32
  let c0_i32_2508 : BitVec 32 := 0#32
  ![v3513.toNat, 0, 0]

def k0_chk440 (v3513 : BitVec 32) : Prop :=
  (∀ a, (k0_off1320 v3513) a + S1x128x128.size a ≤ S10240x128x128.size a)
theorem k0_off1320_inb : ∀ (v3513 : BitVec 32) (k0_hw440 : k0_chk440 v3513), ∀ a, (k0_off1320 v3513) a + S1x128x128.size a ≤ S10240x128x128.size a := fun v3513 k0_hw440 => k0_hw440

def k0_off1321 (i : grid0.Coords) : Fin 2 → Nat :=
  let arg0 : BitVec 32 := BitVec.ofNat 32 (i 0).val
  let v3520 : Index := Scalar.indexCast arg0
  let c56_2509 : Index := 56#32
  ![v3520.toNat, 56]
def k0_off1322 (i : grid0.Coords) : Fin 3 → Nat :=
  let arg0 : BitVec 32 := BitVec.ofNat 32 (i 0).val
  let c7168_i32_2511 : BitVec 32 := 7168#32
  let c0_i32_2512 : BitVec 32 := 0#32
  ![arg0.toNat, 7168, 0]
def k0_off1323 (v3521 : BitVec 32) : Fin 3 → Nat :=
  let c0_i32_2513 : BitVec 32 := 0#32
  let c0_i32_2514 : BitVec 32 := 0#32
  ![v3521.toNat, 0, 0]

def k0_chk441 (v3521 : BitVec 32) : Prop :=
  (∀ a, (k0_off1323 v3521) a + S1x128x128.size a ≤ S10240x128x128.size a)
theorem k0_off1323_inb : ∀ (v3521 : BitVec 32) (k0_hw441 : k0_chk441 v3521), ∀ a, (k0_off1323 v3521) a + S1x128x128.size a ≤ S10240x128x128.size a := fun v3521 k0_hw441 => k0_hw441

def k0_off1324 (i : grid0.Coords) : Fin 2 → Nat :=
  let arg0 : BitVec 32 := BitVec.ofNat 32 (i 0).val
  let v3528 : Index := Scalar.indexCast arg0
  let c57_2515 : Index := 57#32
  ![v3528.toNat, 57]
def k0_off1325 (i : grid0.Coords) : Fin 3 → Nat :=
  let arg0 : BitVec 32 := BitVec.ofNat 32 (i 0).val
  let c7296_i32_2517 : BitVec 32 := 7296#32
  let c0_i32_2518 : BitVec 32 := 0#32
  ![arg0.toNat, 7296, 0]
def k0_off1326 (v3529 : BitVec 32) : Fin 3 → Nat :=
  let c0_i32_2519 : BitVec 32 := 0#32
  let c0_i32_2520 : BitVec 32 := 0#32
  ![v3529.toNat, 0, 0]

def k0_chk442 (v3529 : BitVec 32) : Prop :=
  (∀ a, (k0_off1326 v3529) a + S1x128x128.size a ≤ S10240x128x128.size a)
theorem k0_off1326_inb : ∀ (v3529 : BitVec 32) (k0_hw442 : k0_chk442 v3529), ∀ a, (k0_off1326 v3529) a + S1x128x128.size a ≤ S10240x128x128.size a := fun v3529 k0_hw442 => k0_hw442

def k0_off1327 (i : grid0.Coords) : Fin 2 → Nat :=
  let arg0 : BitVec 32 := BitVec.ofNat 32 (i 0).val
  let v3536 : Index := Scalar.indexCast arg0
  let c58_2521 : Index := 58#32
  ![v3536.toNat, 58]
def k0_off1328 (i : grid0.Coords) : Fin 3 → Nat :=
  let arg0 : BitVec 32 := BitVec.ofNat 32 (i 0).val
  let c7424_i32_2523 : BitVec 32 := 7424#32
  let c0_i32_2524 : BitVec 32 := 0#32
  ![arg0.toNat, 7424, 0]
def k0_off1329 (v3537 : BitVec 32) : Fin 3 → Nat :=
  let c0_i32_2525 : BitVec 32 := 0#32
  let c0_i32_2526 : BitVec 32 := 0#32
  ![v3537.toNat, 0, 0]

def k0_chk443 (v3537 : BitVec 32) : Prop :=
  (∀ a, (k0_off1329 v3537) a + S1x128x128.size a ≤ S10240x128x128.size a)
theorem k0_off1329_inb : ∀ (v3537 : BitVec 32) (k0_hw443 : k0_chk443 v3537), ∀ a, (k0_off1329 v3537) a + S1x128x128.size a ≤ S10240x128x128.size a := fun v3537 k0_hw443 => k0_hw443

def k0_off1330 (i : grid0.Coords) : Fin 2 → Nat :=
  let arg0 : BitVec 32 := BitVec.ofNat 32 (i 0).val
  let v3544 : Index := Scalar.indexCast arg0
  let c59_2527 : Index := 59#32
  ![v3544.toNat, 59]
def k0_off1331 (i : grid0.Coords) : Fin 3 → Nat :=
  let arg0 : BitVec 32 := BitVec.ofNat 32 (i 0).val
  let c7552_i32_2529 : BitVec 32 := 7552#32
  let c0_i32_2530 : BitVec 32 := 0#32
  ![arg0.toNat, 7552, 0]
def k0_off1332 (v3545 : BitVec 32) : Fin 3 → Nat :=
  let c0_i32_2531 : BitVec 32 := 0#32
  let c0_i32_2532 : BitVec 32 := 0#32
  ![v3545.toNat, 0, 0]

def k0_chk444 (v3545 : BitVec 32) : Prop :=
  (∀ a, (k0_off1332 v3545) a + S1x128x128.size a ≤ S10240x128x128.size a)
theorem k0_off1332_inb : ∀ (v3545 : BitVec 32) (k0_hw444 : k0_chk444 v3545), ∀ a, (k0_off1332 v3545) a + S1x128x128.size a ≤ S10240x128x128.size a := fun v3545 k0_hw444 => k0_hw444

def k0_off1333 (i : grid0.Coords) : Fin 2 → Nat :=
  let arg0 : BitVec 32 := BitVec.ofNat 32 (i 0).val
  let v3552 : Index := Scalar.indexCast arg0
  let c60_2533 : Index := 60#32
  ![v3552.toNat, 60]
def k0_off1334 (i : grid0.Coords) : Fin 3 → Nat :=
  let arg0 : BitVec 32 := BitVec.ofNat 32 (i 0).val
  let c7680_i32_2535 : BitVec 32 := 7680#32
  let c0_i32_2536 : BitVec 32 := 0#32
  ![arg0.toNat, 7680, 0]
def k0_off1335 (v3553 : BitVec 32) : Fin 3 → Nat :=
  let c0_i32_2537 : BitVec 32 := 0#32
  let c0_i32_2538 : BitVec 32 := 0#32
  ![v3553.toNat, 0, 0]

def k0_chk445 (v3553 : BitVec 32) : Prop :=
  (∀ a, (k0_off1335 v3553) a + S1x128x128.size a ≤ S10240x128x128.size a)
theorem k0_off1335_inb : ∀ (v3553 : BitVec 32) (k0_hw445 : k0_chk445 v3553), ∀ a, (k0_off1335 v3553) a + S1x128x128.size a ≤ S10240x128x128.size a := fun v3553 k0_hw445 => k0_hw445

def k0_off1336 (i : grid0.Coords) : Fin 2 → Nat :=
  let arg0 : BitVec 32 := BitVec.ofNat 32 (i 0).val
  let v3560 : Index := Scalar.indexCast arg0
  let c61_2539 : Index := 61#32
  ![v3560.toNat, 61]
def k0_off1337 (i : grid0.Coords) : Fin 3 → Nat :=
  let arg0 : BitVec 32 := BitVec.ofNat 32 (i 0).val
  let c7808_i32_2541 : BitVec 32 := 7808#32
  let c0_i32_2542 : BitVec 32 := 0#32
  ![arg0.toNat, 7808, 0]
def k0_off1338 (v3561 : BitVec 32) : Fin 3 → Nat :=
  let c0_i32_2543 : BitVec 32 := 0#32
  let c0_i32_2544 : BitVec 32 := 0#32
  ![v3561.toNat, 0, 0]

def k0_chk446 (v3561 : BitVec 32) : Prop :=
  (∀ a, (k0_off1338 v3561) a + S1x128x128.size a ≤ S10240x128x128.size a)
theorem k0_off1338_inb : ∀ (v3561 : BitVec 32) (k0_hw446 : k0_chk446 v3561), ∀ a, (k0_off1338 v3561) a + S1x128x128.size a ≤ S10240x128x128.size a := fun v3561 k0_hw446 => k0_hw446

def k0_off1339 (i : grid0.Coords) : Fin 2 → Nat :=
  let arg0 : BitVec 32 := BitVec.ofNat 32 (i 0).val
  let v3568 : Index := Scalar.indexCast arg0
  let c62_2545 : Index := 62#32
  ![v3568.toNat, 62]
def k0_off1340 (i : grid0.Coords) : Fin 3 → Nat :=
  let arg0 : BitVec 32 := BitVec.ofNat 32 (i 0).val
  let c7936_i32_2547 : BitVec 32 := 7936#32
  let c0_i32_2548 : BitVec 32 := 0#32
  ![arg0.toNat, 7936, 0]
def k0_off1341 (v3569 : BitVec 32) : Fin 3 → Nat :=
  let c0_i32_2549 : BitVec 32 := 0#32
  let c0_i32_2550 : BitVec 32 := 0#32
  ![v3569.toNat, 0, 0]

def k0_chk447 (v3569 : BitVec 32) : Prop :=
  (∀ a, (k0_off1341 v3569) a + S1x128x128.size a ≤ S10240x128x128.size a)
theorem k0_off1341_inb : ∀ (v3569 : BitVec 32) (k0_hw447 : k0_chk447 v3569), ∀ a, (k0_off1341 v3569) a + S1x128x128.size a ≤ S10240x128x128.size a := fun v3569 k0_hw447 => k0_hw447

def k0_off1342 (i : grid0.Coords) : Fin 2 → Nat :=
  let arg0 : BitVec 32 := BitVec.ofNat 32 (i 0).val
  let v3576 : Index := Scalar.indexCast arg0
  let c63_2551 : Index := 63#32
  ![v3576.toNat, 63]
def k0_off1343 (i : grid0.Coords) : Fin 3 → Nat :=
  let arg0 : BitVec 32 := BitVec.ofNat 32 (i 0).val
  let c8064_i32_2553 : BitVec 32 := 8064#32
  let c0_i32_2554 : BitVec 32 := 0#32
  ![arg0.toNat, 8064, 0]
def k0_off1344 (v3577 : BitVec 32) : Fin 3 → Nat :=
  let c0_i32_2555 : BitVec 32 := 0#32
  let c0_i32_2556 : BitVec 32 := 0#32
  ![v3577.toNat, 0, 0]

def k0_chk448 (v3577 : BitVec 32) : Prop :=
  (∀ a, (k0_off1344 v3577) a + S1x128x128.size a ≤ S10240x128x128.size a)
theorem k0_off1344_inb : ∀ (v3577 : BitVec 32) (k0_hw448 : k0_chk448 v3577), ∀ a, (k0_off1344 v3577) a + S1x128x128.size a ≤ S10240x128x128.size a := fun v3577 k0_hw448 => k0_hw448

def k0_off1345 (i : grid0.Coords) : Fin 2 → Nat :=
  let arg0 : BitVec 32 := BitVec.ofNat 32 (i 0).val
  let v3584 : Index := Scalar.indexCast arg0
  let c0_2557 : Index := 0#32
  ![v3584.toNat, 0]
def k0_off1346 (i : grid0.Coords) : Fin 3 → Nat :=
  let arg0 : BitVec 32 := BitVec.ofNat 32 (i 0).val
  let c0_i32_2559 : BitVec 32 := 0#32
  let c0_i32_2560 : BitVec 32 := 0#32
  ![arg0.toNat, 0, 0]
def k0_off1347 (v3585 : BitVec 32) : Fin 3 → Nat :=
  let c0_i32_2561 : BitVec 32 := 0#32
  let c0_i32_2562 : BitVec 32 := 0#32
  ![v3585.toNat, 0, 0]

def k0_chk449 (v3585 : BitVec 32) : Prop :=
  (∀ a, (k0_off1347 v3585) a + S1x128x128.size a ≤ S10240x128x128.size a)
theorem k0_off1347_inb : ∀ (v3585 : BitVec 32) (k0_hw449 : k0_chk449 v3585), ∀ a, (k0_off1347 v3585) a + S1x128x128.size a ≤ S10240x128x128.size a := fun v3585 k0_hw449 => k0_hw449

def k0_off1348 (i : grid0.Coords) : Fin 2 → Nat :=
  let arg0 : BitVec 32 := BitVec.ofNat 32 (i 0).val
  let v3592 : Index := Scalar.indexCast arg0
  let c1_2563 : Index := 1#32
  ![v3592.toNat, 1]
def k0_off1349 (i : grid0.Coords) : Fin 3 → Nat :=
  let arg0 : BitVec 32 := BitVec.ofNat 32 (i 0).val
  let c128_i32_2565 : BitVec 32 := 128#32
  let c0_i32_2566 : BitVec 32 := 0#32
  ![arg0.toNat, 128, 0]
def k0_off1350 (v3593 : BitVec 32) : Fin 3 → Nat :=
  let c0_i32_2567 : BitVec 32 := 0#32
  let c0_i32_2568 : BitVec 32 := 0#32
  ![v3593.toNat, 0, 0]

def k0_chk450 (v3593 : BitVec 32) : Prop :=
  (∀ a, (k0_off1350 v3593) a + S1x128x128.size a ≤ S10240x128x128.size a)
theorem k0_off1350_inb : ∀ (v3593 : BitVec 32) (k0_hw450 : k0_chk450 v3593), ∀ a, (k0_off1350 v3593) a + S1x128x128.size a ≤ S10240x128x128.size a := fun v3593 k0_hw450 => k0_hw450

def k0_off1351 (i : grid0.Coords) : Fin 2 → Nat :=
  let arg0 : BitVec 32 := BitVec.ofNat 32 (i 0).val
  let v3600 : Index := Scalar.indexCast arg0
  let c2_2569 : Index := 2#32
  ![v3600.toNat, 2]
def k0_off1352 (i : grid0.Coords) : Fin 3 → Nat :=
  let arg0 : BitVec 32 := BitVec.ofNat 32 (i 0).val
  let c256_i32_2571 : BitVec 32 := 256#32
  let c0_i32_2572 : BitVec 32 := 0#32
  ![arg0.toNat, 256, 0]
def k0_off1353 (v3601 : BitVec 32) : Fin 3 → Nat :=
  let c0_i32_2573 : BitVec 32 := 0#32
  let c0_i32_2574 : BitVec 32 := 0#32
  ![v3601.toNat, 0, 0]

def k0_chk451 (v3601 : BitVec 32) : Prop :=
  (∀ a, (k0_off1353 v3601) a + S1x128x128.size a ≤ S10240x128x128.size a)
theorem k0_off1353_inb : ∀ (v3601 : BitVec 32) (k0_hw451 : k0_chk451 v3601), ∀ a, (k0_off1353 v3601) a + S1x128x128.size a ≤ S10240x128x128.size a := fun v3601 k0_hw451 => k0_hw451

def k0_off1354 (i : grid0.Coords) : Fin 2 → Nat :=
  let arg0 : BitVec 32 := BitVec.ofNat 32 (i 0).val
  let v3608 : Index := Scalar.indexCast arg0
  let c3_2575 : Index := 3#32
  ![v3608.toNat, 3]
def k0_off1355 (i : grid0.Coords) : Fin 3 → Nat :=
  let arg0 : BitVec 32 := BitVec.ofNat 32 (i 0).val
  let c384_i32_2577 : BitVec 32 := 384#32
  let c0_i32_2578 : BitVec 32 := 0#32
  ![arg0.toNat, 384, 0]
def k0_off1356 (v3609 : BitVec 32) : Fin 3 → Nat :=
  let c0_i32_2579 : BitVec 32 := 0#32
  let c0_i32_2580 : BitVec 32 := 0#32
  ![v3609.toNat, 0, 0]

def k0_chk452 (v3609 : BitVec 32) : Prop :=
  (∀ a, (k0_off1356 v3609) a + S1x128x128.size a ≤ S10240x128x128.size a)
theorem k0_off1356_inb : ∀ (v3609 : BitVec 32) (k0_hw452 : k0_chk452 v3609), ∀ a, (k0_off1356 v3609) a + S1x128x128.size a ≤ S10240x128x128.size a := fun v3609 k0_hw452 => k0_hw452

def k0_off1357 (i : grid0.Coords) : Fin 2 → Nat :=
  let arg0 : BitVec 32 := BitVec.ofNat 32 (i 0).val
  let v3616 : Index := Scalar.indexCast arg0
  let c4_2581 : Index := 4#32
  ![v3616.toNat, 4]
def k0_off1358 (i : grid0.Coords) : Fin 3 → Nat :=
  let arg0 : BitVec 32 := BitVec.ofNat 32 (i 0).val
  let c512_i32_2583 : BitVec 32 := 512#32
  let c0_i32_2584 : BitVec 32 := 0#32
  ![arg0.toNat, 512, 0]
def k0_off1359 (v3617 : BitVec 32) : Fin 3 → Nat :=
  let c0_i32_2585 : BitVec 32 := 0#32
  let c0_i32_2586 : BitVec 32 := 0#32
  ![v3617.toNat, 0, 0]

def k0_chk453 (v3617 : BitVec 32) : Prop :=
  (∀ a, (k0_off1359 v3617) a + S1x128x128.size a ≤ S10240x128x128.size a)
theorem k0_off1359_inb : ∀ (v3617 : BitVec 32) (k0_hw453 : k0_chk453 v3617), ∀ a, (k0_off1359 v3617) a + S1x128x128.size a ≤ S10240x128x128.size a := fun v3617 k0_hw453 => k0_hw453

def k0_off1360 (i : grid0.Coords) : Fin 2 → Nat :=
  let arg0 : BitVec 32 := BitVec.ofNat 32 (i 0).val
  let v3624 : Index := Scalar.indexCast arg0
  let c5_2587 : Index := 5#32
  ![v3624.toNat, 5]
def k0_off1361 (i : grid0.Coords) : Fin 3 → Nat :=
  let arg0 : BitVec 32 := BitVec.ofNat 32 (i 0).val
  let c640_i32_2589 : BitVec 32 := 640#32
  let c0_i32_2590 : BitVec 32 := 0#32
  ![arg0.toNat, 640, 0]
def k0_off1362 (v3625 : BitVec 32) : Fin 3 → Nat :=
  let c0_i32_2591 : BitVec 32 := 0#32
  let c0_i32_2592 : BitVec 32 := 0#32
  ![v3625.toNat, 0, 0]

def k0_chk454 (v3625 : BitVec 32) : Prop :=
  (∀ a, (k0_off1362 v3625) a + S1x128x128.size a ≤ S10240x128x128.size a)
theorem k0_off1362_inb : ∀ (v3625 : BitVec 32) (k0_hw454 : k0_chk454 v3625), ∀ a, (k0_off1362 v3625) a + S1x128x128.size a ≤ S10240x128x128.size a := fun v3625 k0_hw454 => k0_hw454

def k0_off1363 (i : grid0.Coords) : Fin 2 → Nat :=
  let arg0 : BitVec 32 := BitVec.ofNat 32 (i 0).val
  let v3632 : Index := Scalar.indexCast arg0
  let c6_2593 : Index := 6#32
  ![v3632.toNat, 6]
def k0_off1364 (i : grid0.Coords) : Fin 3 → Nat :=
  let arg0 : BitVec 32 := BitVec.ofNat 32 (i 0).val
  let c768_i32_2595 : BitVec 32 := 768#32
  let c0_i32_2596 : BitVec 32 := 0#32
  ![arg0.toNat, 768, 0]
def k0_off1365 (v3633 : BitVec 32) : Fin 3 → Nat :=
  let c0_i32_2597 : BitVec 32 := 0#32
  let c0_i32_2598 : BitVec 32 := 0#32
  ![v3633.toNat, 0, 0]

def k0_chk455 (v3633 : BitVec 32) : Prop :=
  (∀ a, (k0_off1365 v3633) a + S1x128x128.size a ≤ S10240x128x128.size a)
theorem k0_off1365_inb : ∀ (v3633 : BitVec 32) (k0_hw455 : k0_chk455 v3633), ∀ a, (k0_off1365 v3633) a + S1x128x128.size a ≤ S10240x128x128.size a := fun v3633 k0_hw455 => k0_hw455

def k0_off1366 (i : grid0.Coords) : Fin 2 → Nat :=
  let arg0 : BitVec 32 := BitVec.ofNat 32 (i 0).val
  let v3640 : Index := Scalar.indexCast arg0
  let c7_2599 : Index := 7#32
  ![v3640.toNat, 7]
def k0_off1367 (i : grid0.Coords) : Fin 3 → Nat :=
  let arg0 : BitVec 32 := BitVec.ofNat 32 (i 0).val
  let c896_i32_2601 : BitVec 32 := 896#32
  let c0_i32_2602 : BitVec 32 := 0#32
  ![arg0.toNat, 896, 0]
def k0_off1368 (v3641 : BitVec 32) : Fin 3 → Nat :=
  let c0_i32_2603 : BitVec 32 := 0#32
  let c0_i32_2604 : BitVec 32 := 0#32
  ![v3641.toNat, 0, 0]

def k0_chk456 (v3641 : BitVec 32) : Prop :=
  (∀ a, (k0_off1368 v3641) a + S1x128x128.size a ≤ S10240x128x128.size a)
theorem k0_off1368_inb : ∀ (v3641 : BitVec 32) (k0_hw456 : k0_chk456 v3641), ∀ a, (k0_off1368 v3641) a + S1x128x128.size a ≤ S10240x128x128.size a := fun v3641 k0_hw456 => k0_hw456

def k0_off1369 (i : grid0.Coords) : Fin 2 → Nat :=
  let arg0 : BitVec 32 := BitVec.ofNat 32 (i 0).val
  let v3648 : Index := Scalar.indexCast arg0
  let c8_2605 : Index := 8#32
  ![v3648.toNat, 8]
def k0_off1370 (i : grid0.Coords) : Fin 3 → Nat :=
  let arg0 : BitVec 32 := BitVec.ofNat 32 (i 0).val
  let c1024_i32_2607 : BitVec 32 := 1024#32
  let c0_i32_2608 : BitVec 32 := 0#32
  ![arg0.toNat, 1024, 0]
def k0_off1371 (v3649 : BitVec 32) : Fin 3 → Nat :=
  let c0_i32_2609 : BitVec 32 := 0#32
  let c0_i32_2610 : BitVec 32 := 0#32
  ![v3649.toNat, 0, 0]

def k0_chk457 (v3649 : BitVec 32) : Prop :=
  (∀ a, (k0_off1371 v3649) a + S1x128x128.size a ≤ S10240x128x128.size a)
theorem k0_off1371_inb : ∀ (v3649 : BitVec 32) (k0_hw457 : k0_chk457 v3649), ∀ a, (k0_off1371 v3649) a + S1x128x128.size a ≤ S10240x128x128.size a := fun v3649 k0_hw457 => k0_hw457

def k0_off1372 (i : grid0.Coords) : Fin 2 → Nat :=
  let arg0 : BitVec 32 := BitVec.ofNat 32 (i 0).val
  let v3656 : Index := Scalar.indexCast arg0
  let c9_2611 : Index := 9#32
  ![v3656.toNat, 9]
def k0_off1373 (i : grid0.Coords) : Fin 3 → Nat :=
  let arg0 : BitVec 32 := BitVec.ofNat 32 (i 0).val
  let c1152_i32_2613 : BitVec 32 := 1152#32
  let c0_i32_2614 : BitVec 32 := 0#32
  ![arg0.toNat, 1152, 0]
def k0_off1374 (v3657 : BitVec 32) : Fin 3 → Nat :=
  let c0_i32_2615 : BitVec 32 := 0#32
  let c0_i32_2616 : BitVec 32 := 0#32
  ![v3657.toNat, 0, 0]

def k0_chk458 (v3657 : BitVec 32) : Prop :=
  (∀ a, (k0_off1374 v3657) a + S1x128x128.size a ≤ S10240x128x128.size a)
theorem k0_off1374_inb : ∀ (v3657 : BitVec 32) (k0_hw458 : k0_chk458 v3657), ∀ a, (k0_off1374 v3657) a + S1x128x128.size a ≤ S10240x128x128.size a := fun v3657 k0_hw458 => k0_hw458

def k0_off1375 (i : grid0.Coords) : Fin 2 → Nat :=
  let arg0 : BitVec 32 := BitVec.ofNat 32 (i 0).val
  let v3664 : Index := Scalar.indexCast arg0
  let c10_2617 : Index := 10#32
  ![v3664.toNat, 10]
def k0_off1376 (i : grid0.Coords) : Fin 3 → Nat :=
  let arg0 : BitVec 32 := BitVec.ofNat 32 (i 0).val
  let c1280_i32_2619 : BitVec 32 := 1280#32
  let c0_i32_2620 : BitVec 32 := 0#32
  ![arg0.toNat, 1280, 0]
def k0_off1377 (v3665 : BitVec 32) : Fin 3 → Nat :=
  let c0_i32_2621 : BitVec 32 := 0#32
  let c0_i32_2622 : BitVec 32 := 0#32
  ![v3665.toNat, 0, 0]

def k0_chk459 (v3665 : BitVec 32) : Prop :=
  (∀ a, (k0_off1377 v3665) a + S1x128x128.size a ≤ S10240x128x128.size a)
theorem k0_off1377_inb : ∀ (v3665 : BitVec 32) (k0_hw459 : k0_chk459 v3665), ∀ a, (k0_off1377 v3665) a + S1x128x128.size a ≤ S10240x128x128.size a := fun v3665 k0_hw459 => k0_hw459

def k0_off1378 (i : grid0.Coords) : Fin 2 → Nat :=
  let arg0 : BitVec 32 := BitVec.ofNat 32 (i 0).val
  let v3672 : Index := Scalar.indexCast arg0
  let c11_2623 : Index := 11#32
  ![v3672.toNat, 11]
def k0_off1379 (i : grid0.Coords) : Fin 3 → Nat :=
  let arg0 : BitVec 32 := BitVec.ofNat 32 (i 0).val
  let c1408_i32_2625 : BitVec 32 := 1408#32
  let c0_i32_2626 : BitVec 32 := 0#32
  ![arg0.toNat, 1408, 0]
def k0_off1380 (v3673 : BitVec 32) : Fin 3 → Nat :=
  let c0_i32_2627 : BitVec 32 := 0#32
  let c0_i32_2628 : BitVec 32 := 0#32
  ![v3673.toNat, 0, 0]

def k0_chk460 (v3673 : BitVec 32) : Prop :=
  (∀ a, (k0_off1380 v3673) a + S1x128x128.size a ≤ S10240x128x128.size a)
theorem k0_off1380_inb : ∀ (v3673 : BitVec 32) (k0_hw460 : k0_chk460 v3673), ∀ a, (k0_off1380 v3673) a + S1x128x128.size a ≤ S10240x128x128.size a := fun v3673 k0_hw460 => k0_hw460

def k0_off1381 (i : grid0.Coords) : Fin 2 → Nat :=
  let arg0 : BitVec 32 := BitVec.ofNat 32 (i 0).val
  let v3680 : Index := Scalar.indexCast arg0
  let c12_2629 : Index := 12#32
  ![v3680.toNat, 12]
def k0_off1382 (i : grid0.Coords) : Fin 3 → Nat :=
  let arg0 : BitVec 32 := BitVec.ofNat 32 (i 0).val
  let c1536_i32_2631 : BitVec 32 := 1536#32
  let c0_i32_2632 : BitVec 32 := 0#32
  ![arg0.toNat, 1536, 0]
def k0_off1383 (v3681 : BitVec 32) : Fin 3 → Nat :=
  let c0_i32_2633 : BitVec 32 := 0#32
  let c0_i32_2634 : BitVec 32 := 0#32
  ![v3681.toNat, 0, 0]

def k0_chk461 (v3681 : BitVec 32) : Prop :=
  (∀ a, (k0_off1383 v3681) a + S1x128x128.size a ≤ S10240x128x128.size a)
theorem k0_off1383_inb : ∀ (v3681 : BitVec 32) (k0_hw461 : k0_chk461 v3681), ∀ a, (k0_off1383 v3681) a + S1x128x128.size a ≤ S10240x128x128.size a := fun v3681 k0_hw461 => k0_hw461

def k0_off1384 (i : grid0.Coords) : Fin 2 → Nat :=
  let arg0 : BitVec 32 := BitVec.ofNat 32 (i 0).val
  let v3688 : Index := Scalar.indexCast arg0
  let c13_2635 : Index := 13#32
  ![v3688.toNat, 13]
def k0_off1385 (i : grid0.Coords) : Fin 3 → Nat :=
  let arg0 : BitVec 32 := BitVec.ofNat 32 (i 0).val
  let c1664_i32_2637 : BitVec 32 := 1664#32
  let c0_i32_2638 : BitVec 32 := 0#32
  ![arg0.toNat, 1664, 0]
def k0_off1386 (v3689 : BitVec 32) : Fin 3 → Nat :=
  let c0_i32_2639 : BitVec 32 := 0#32
  let c0_i32_2640 : BitVec 32 := 0#32
  ![v3689.toNat, 0, 0]

def k0_chk462 (v3689 : BitVec 32) : Prop :=
  (∀ a, (k0_off1386 v3689) a + S1x128x128.size a ≤ S10240x128x128.size a)
theorem k0_off1386_inb : ∀ (v3689 : BitVec 32) (k0_hw462 : k0_chk462 v3689), ∀ a, (k0_off1386 v3689) a + S1x128x128.size a ≤ S10240x128x128.size a := fun v3689 k0_hw462 => k0_hw462

def k0_off1387 (i : grid0.Coords) : Fin 2 → Nat :=
  let arg0 : BitVec 32 := BitVec.ofNat 32 (i 0).val
  let v3696 : Index := Scalar.indexCast arg0
  let c14_2641 : Index := 14#32
  ![v3696.toNat, 14]
def k0_off1388 (i : grid0.Coords) : Fin 3 → Nat :=
  let arg0 : BitVec 32 := BitVec.ofNat 32 (i 0).val
  let c1792_i32_2643 : BitVec 32 := 1792#32
  let c0_i32_2644 : BitVec 32 := 0#32
  ![arg0.toNat, 1792, 0]
def k0_off1389 (v3697 : BitVec 32) : Fin 3 → Nat :=
  let c0_i32_2645 : BitVec 32 := 0#32
  let c0_i32_2646 : BitVec 32 := 0#32
  ![v3697.toNat, 0, 0]

def k0_chk463 (v3697 : BitVec 32) : Prop :=
  (∀ a, (k0_off1389 v3697) a + S1x128x128.size a ≤ S10240x128x128.size a)
theorem k0_off1389_inb : ∀ (v3697 : BitVec 32) (k0_hw463 : k0_chk463 v3697), ∀ a, (k0_off1389 v3697) a + S1x128x128.size a ≤ S10240x128x128.size a := fun v3697 k0_hw463 => k0_hw463

def k0_off1390 (i : grid0.Coords) : Fin 2 → Nat :=
  let arg0 : BitVec 32 := BitVec.ofNat 32 (i 0).val
  let v3704 : Index := Scalar.indexCast arg0
  let c15_2647 : Index := 15#32
  ![v3704.toNat, 15]
def k0_off1391 (i : grid0.Coords) : Fin 3 → Nat :=
  let arg0 : BitVec 32 := BitVec.ofNat 32 (i 0).val
  let c1920_i32_2649 : BitVec 32 := 1920#32
  let c0_i32_2650 : BitVec 32 := 0#32
  ![arg0.toNat, 1920, 0]
def k0_off1392 (v3705 : BitVec 32) : Fin 3 → Nat :=
  let c0_i32_2651 : BitVec 32 := 0#32
  let c0_i32_2652 : BitVec 32 := 0#32
  ![v3705.toNat, 0, 0]

def k0_chk464 (v3705 : BitVec 32) : Prop :=
  (∀ a, (k0_off1392 v3705) a + S1x128x128.size a ≤ S10240x128x128.size a)
theorem k0_off1392_inb : ∀ (v3705 : BitVec 32) (k0_hw464 : k0_chk464 v3705), ∀ a, (k0_off1392 v3705) a + S1x128x128.size a ≤ S10240x128x128.size a := fun v3705 k0_hw464 => k0_hw464

def k0_off1393 (i : grid0.Coords) : Fin 2 → Nat :=
  let arg0 : BitVec 32 := BitVec.ofNat 32 (i 0).val
  let v3712 : Index := Scalar.indexCast arg0
  let c16_2653 : Index := 16#32
  ![v3712.toNat, 16]
def k0_off1394 (i : grid0.Coords) : Fin 3 → Nat :=
  let arg0 : BitVec 32 := BitVec.ofNat 32 (i 0).val
  let c2048_i32_2655 : BitVec 32 := 2048#32
  let c0_i32_2656 : BitVec 32 := 0#32
  ![arg0.toNat, 2048, 0]
def k0_off1395 (v3713 : BitVec 32) : Fin 3 → Nat :=
  let c0_i32_2657 : BitVec 32 := 0#32
  let c0_i32_2658 : BitVec 32 := 0#32
  ![v3713.toNat, 0, 0]

def k0_chk465 (v3713 : BitVec 32) : Prop :=
  (∀ a, (k0_off1395 v3713) a + S1x128x128.size a ≤ S10240x128x128.size a)
theorem k0_off1395_inb : ∀ (v3713 : BitVec 32) (k0_hw465 : k0_chk465 v3713), ∀ a, (k0_off1395 v3713) a + S1x128x128.size a ≤ S10240x128x128.size a := fun v3713 k0_hw465 => k0_hw465

def k0_off1396 (i : grid0.Coords) : Fin 2 → Nat :=
  let arg0 : BitVec 32 := BitVec.ofNat 32 (i 0).val
  let v3720 : Index := Scalar.indexCast arg0
  let c17_2659 : Index := 17#32
  ![v3720.toNat, 17]
def k0_off1397 (i : grid0.Coords) : Fin 3 → Nat :=
  let arg0 : BitVec 32 := BitVec.ofNat 32 (i 0).val
  let c2176_i32_2661 : BitVec 32 := 2176#32
  let c0_i32_2662 : BitVec 32 := 0#32
  ![arg0.toNat, 2176, 0]
def k0_off1398 (v3721 : BitVec 32) : Fin 3 → Nat :=
  let c0_i32_2663 : BitVec 32 := 0#32
  let c0_i32_2664 : BitVec 32 := 0#32
  ![v3721.toNat, 0, 0]

def k0_chk466 (v3721 : BitVec 32) : Prop :=
  (∀ a, (k0_off1398 v3721) a + S1x128x128.size a ≤ S10240x128x128.size a)
theorem k0_off1398_inb : ∀ (v3721 : BitVec 32) (k0_hw466 : k0_chk466 v3721), ∀ a, (k0_off1398 v3721) a + S1x128x128.size a ≤ S10240x128x128.size a := fun v3721 k0_hw466 => k0_hw466

def k0_off1399 (i : grid0.Coords) : Fin 2 → Nat :=
  let arg0 : BitVec 32 := BitVec.ofNat 32 (i 0).val
  let v3728 : Index := Scalar.indexCast arg0
  let c18_2665 : Index := 18#32
  ![v3728.toNat, 18]
def k0_off1400 (i : grid0.Coords) : Fin 3 → Nat :=
  let arg0 : BitVec 32 := BitVec.ofNat 32 (i 0).val
  let c2304_i32_2667 : BitVec 32 := 2304#32
  let c0_i32_2668 : BitVec 32 := 0#32
  ![arg0.toNat, 2304, 0]
def k0_off1401 (v3729 : BitVec 32) : Fin 3 → Nat :=
  let c0_i32_2669 : BitVec 32 := 0#32
  let c0_i32_2670 : BitVec 32 := 0#32
  ![v3729.toNat, 0, 0]

def k0_chk467 (v3729 : BitVec 32) : Prop :=
  (∀ a, (k0_off1401 v3729) a + S1x128x128.size a ≤ S10240x128x128.size a)
theorem k0_off1401_inb : ∀ (v3729 : BitVec 32) (k0_hw467 : k0_chk467 v3729), ∀ a, (k0_off1401 v3729) a + S1x128x128.size a ≤ S10240x128x128.size a := fun v3729 k0_hw467 => k0_hw467

def k0_off1402 (i : grid0.Coords) : Fin 2 → Nat :=
  let arg0 : BitVec 32 := BitVec.ofNat 32 (i 0).val
  let v3736 : Index := Scalar.indexCast arg0
  let c19_2671 : Index := 19#32
  ![v3736.toNat, 19]
def k0_off1403 (i : grid0.Coords) : Fin 3 → Nat :=
  let arg0 : BitVec 32 := BitVec.ofNat 32 (i 0).val
  let c2432_i32_2673 : BitVec 32 := 2432#32
  let c0_i32_2674 : BitVec 32 := 0#32
  ![arg0.toNat, 2432, 0]
def k0_off1404 (v3737 : BitVec 32) : Fin 3 → Nat :=
  let c0_i32_2675 : BitVec 32 := 0#32
  let c0_i32_2676 : BitVec 32 := 0#32
  ![v3737.toNat, 0, 0]

def k0_chk468 (v3737 : BitVec 32) : Prop :=
  (∀ a, (k0_off1404 v3737) a + S1x128x128.size a ≤ S10240x128x128.size a)
theorem k0_off1404_inb : ∀ (v3737 : BitVec 32) (k0_hw468 : k0_chk468 v3737), ∀ a, (k0_off1404 v3737) a + S1x128x128.size a ≤ S10240x128x128.size a := fun v3737 k0_hw468 => k0_hw468

def k0_off1405 (i : grid0.Coords) : Fin 2 → Nat :=
  let arg0 : BitVec 32 := BitVec.ofNat 32 (i 0).val
  let v3744 : Index := Scalar.indexCast arg0
  let c20_2677 : Index := 20#32
  ![v3744.toNat, 20]
def k0_off1406 (i : grid0.Coords) : Fin 3 → Nat :=
  let arg0 : BitVec 32 := BitVec.ofNat 32 (i 0).val
  let c2560_i32_2679 : BitVec 32 := 2560#32
  let c0_i32_2680 : BitVec 32 := 0#32
  ![arg0.toNat, 2560, 0]
def k0_off1407 (v3745 : BitVec 32) : Fin 3 → Nat :=
  let c0_i32_2681 : BitVec 32 := 0#32
  let c0_i32_2682 : BitVec 32 := 0#32
  ![v3745.toNat, 0, 0]

def k0_chk469 (v3745 : BitVec 32) : Prop :=
  (∀ a, (k0_off1407 v3745) a + S1x128x128.size a ≤ S10240x128x128.size a)
theorem k0_off1407_inb : ∀ (v3745 : BitVec 32) (k0_hw469 : k0_chk469 v3745), ∀ a, (k0_off1407 v3745) a + S1x128x128.size a ≤ S10240x128x128.size a := fun v3745 k0_hw469 => k0_hw469

def k0_off1408 (i : grid0.Coords) : Fin 2 → Nat :=
  let arg0 : BitVec 32 := BitVec.ofNat 32 (i 0).val
  let v3752 : Index := Scalar.indexCast arg0
  let c21_2683 : Index := 21#32
  ![v3752.toNat, 21]
def k0_off1409 (i : grid0.Coords) : Fin 3 → Nat :=
  let arg0 : BitVec 32 := BitVec.ofNat 32 (i 0).val
  let c2688_i32_2685 : BitVec 32 := 2688#32
  let c0_i32_2686 : BitVec 32 := 0#32
  ![arg0.toNat, 2688, 0]
def k0_off1410 (v3753 : BitVec 32) : Fin 3 → Nat :=
  let c0_i32_2687 : BitVec 32 := 0#32
  let c0_i32_2688 : BitVec 32 := 0#32
  ![v3753.toNat, 0, 0]

def k0_chk470 (v3753 : BitVec 32) : Prop :=
  (∀ a, (k0_off1410 v3753) a + S1x128x128.size a ≤ S10240x128x128.size a)
theorem k0_off1410_inb : ∀ (v3753 : BitVec 32) (k0_hw470 : k0_chk470 v3753), ∀ a, (k0_off1410 v3753) a + S1x128x128.size a ≤ S10240x128x128.size a := fun v3753 k0_hw470 => k0_hw470

def k0_off1411 (i : grid0.Coords) : Fin 2 → Nat :=
  let arg0 : BitVec 32 := BitVec.ofNat 32 (i 0).val
  let v3760 : Index := Scalar.indexCast arg0
  let c22_2689 : Index := 22#32
  ![v3760.toNat, 22]
def k0_off1412 (i : grid0.Coords) : Fin 3 → Nat :=
  let arg0 : BitVec 32 := BitVec.ofNat 32 (i 0).val
  let c2816_i32_2691 : BitVec 32 := 2816#32
  let c0_i32_2692 : BitVec 32 := 0#32
  ![arg0.toNat, 2816, 0]
def k0_off1413 (v3761 : BitVec 32) : Fin 3 → Nat :=
  let c0_i32_2693 : BitVec 32 := 0#32
  let c0_i32_2694 : BitVec 32 := 0#32
  ![v3761.toNat, 0, 0]

def k0_chk471 (v3761 : BitVec 32) : Prop :=
  (∀ a, (k0_off1413 v3761) a + S1x128x128.size a ≤ S10240x128x128.size a)
theorem k0_off1413_inb : ∀ (v3761 : BitVec 32) (k0_hw471 : k0_chk471 v3761), ∀ a, (k0_off1413 v3761) a + S1x128x128.size a ≤ S10240x128x128.size a := fun v3761 k0_hw471 => k0_hw471

def k0_off1414 (i : grid0.Coords) : Fin 2 → Nat :=
  let arg0 : BitVec 32 := BitVec.ofNat 32 (i 0).val
  let v3768 : Index := Scalar.indexCast arg0
  let c23_2695 : Index := 23#32
  ![v3768.toNat, 23]
def k0_off1415 (i : grid0.Coords) : Fin 3 → Nat :=
  let arg0 : BitVec 32 := BitVec.ofNat 32 (i 0).val
  let c2944_i32_2697 : BitVec 32 := 2944#32
  let c0_i32_2698 : BitVec 32 := 0#32
  ![arg0.toNat, 2944, 0]
def k0_off1416 (v3769 : BitVec 32) : Fin 3 → Nat :=
  let c0_i32_2699 : BitVec 32 := 0#32
  let c0_i32_2700 : BitVec 32 := 0#32
  ![v3769.toNat, 0, 0]

def k0_chk472 (v3769 : BitVec 32) : Prop :=
  (∀ a, (k0_off1416 v3769) a + S1x128x128.size a ≤ S10240x128x128.size a)
theorem k0_off1416_inb : ∀ (v3769 : BitVec 32) (k0_hw472 : k0_chk472 v3769), ∀ a, (k0_off1416 v3769) a + S1x128x128.size a ≤ S10240x128x128.size a := fun v3769 k0_hw472 => k0_hw472

def k0_off1417 (i : grid0.Coords) : Fin 2 → Nat :=
  let arg0 : BitVec 32 := BitVec.ofNat 32 (i 0).val
  let v3776 : Index := Scalar.indexCast arg0
  let c24_2701 : Index := 24#32
  ![v3776.toNat, 24]
def k0_off1418 (i : grid0.Coords) : Fin 3 → Nat :=
  let arg0 : BitVec 32 := BitVec.ofNat 32 (i 0).val
  let c3072_i32_2703 : BitVec 32 := 3072#32
  let c0_i32_2704 : BitVec 32 := 0#32
  ![arg0.toNat, 3072, 0]
def k0_off1419 (v3777 : BitVec 32) : Fin 3 → Nat :=
  let c0_i32_2705 : BitVec 32 := 0#32
  let c0_i32_2706 : BitVec 32 := 0#32
  ![v3777.toNat, 0, 0]

def k0_chk473 (v3777 : BitVec 32) : Prop :=
  (∀ a, (k0_off1419 v3777) a + S1x128x128.size a ≤ S10240x128x128.size a)
theorem k0_off1419_inb : ∀ (v3777 : BitVec 32) (k0_hw473 : k0_chk473 v3777), ∀ a, (k0_off1419 v3777) a + S1x128x128.size a ≤ S10240x128x128.size a := fun v3777 k0_hw473 => k0_hw473

def k0_off1420 (i : grid0.Coords) : Fin 2 → Nat :=
  let arg0 : BitVec 32 := BitVec.ofNat 32 (i 0).val
  let v3784 : Index := Scalar.indexCast arg0
  let c25_2707 : Index := 25#32
  ![v3784.toNat, 25]
def k0_off1421 (i : grid0.Coords) : Fin 3 → Nat :=
  let arg0 : BitVec 32 := BitVec.ofNat 32 (i 0).val
  let c3200_i32_2709 : BitVec 32 := 3200#32
  let c0_i32_2710 : BitVec 32 := 0#32
  ![arg0.toNat, 3200, 0]
def k0_off1422 (v3785 : BitVec 32) : Fin 3 → Nat :=
  let c0_i32_2711 : BitVec 32 := 0#32
  let c0_i32_2712 : BitVec 32 := 0#32
  ![v3785.toNat, 0, 0]

def k0_chk474 (v3785 : BitVec 32) : Prop :=
  (∀ a, (k0_off1422 v3785) a + S1x128x128.size a ≤ S10240x128x128.size a)
theorem k0_off1422_inb : ∀ (v3785 : BitVec 32) (k0_hw474 : k0_chk474 v3785), ∀ a, (k0_off1422 v3785) a + S1x128x128.size a ≤ S10240x128x128.size a := fun v3785 k0_hw474 => k0_hw474

def k0_off1423 (i : grid0.Coords) : Fin 2 → Nat :=
  let arg0 : BitVec 32 := BitVec.ofNat 32 (i 0).val
  let v3792 : Index := Scalar.indexCast arg0
  let c26_2713 : Index := 26#32
  ![v3792.toNat, 26]
def k0_off1424 (i : grid0.Coords) : Fin 3 → Nat :=
  let arg0 : BitVec 32 := BitVec.ofNat 32 (i 0).val
  let c3328_i32_2715 : BitVec 32 := 3328#32
  let c0_i32_2716 : BitVec 32 := 0#32
  ![arg0.toNat, 3328, 0]
def k0_off1425 (v3793 : BitVec 32) : Fin 3 → Nat :=
  let c0_i32_2717 : BitVec 32 := 0#32
  let c0_i32_2718 : BitVec 32 := 0#32
  ![v3793.toNat, 0, 0]

def k0_chk475 (v3793 : BitVec 32) : Prop :=
  (∀ a, (k0_off1425 v3793) a + S1x128x128.size a ≤ S10240x128x128.size a)
theorem k0_off1425_inb : ∀ (v3793 : BitVec 32) (k0_hw475 : k0_chk475 v3793), ∀ a, (k0_off1425 v3793) a + S1x128x128.size a ≤ S10240x128x128.size a := fun v3793 k0_hw475 => k0_hw475

def k0_off1426 (i : grid0.Coords) : Fin 2 → Nat :=
  let arg0 : BitVec 32 := BitVec.ofNat 32 (i 0).val
  let v3800 : Index := Scalar.indexCast arg0
  let c27_2719 : Index := 27#32
  ![v3800.toNat, 27]
def k0_off1427 (i : grid0.Coords) : Fin 3 → Nat :=
  let arg0 : BitVec 32 := BitVec.ofNat 32 (i 0).val
  let c3456_i32_2721 : BitVec 32 := 3456#32
  let c0_i32_2722 : BitVec 32 := 0#32
  ![arg0.toNat, 3456, 0]
def k0_off1428 (v3801 : BitVec 32) : Fin 3 → Nat :=
  let c0_i32_2723 : BitVec 32 := 0#32
  let c0_i32_2724 : BitVec 32 := 0#32
  ![v3801.toNat, 0, 0]

def k0_chk476 (v3801 : BitVec 32) : Prop :=
  (∀ a, (k0_off1428 v3801) a + S1x128x128.size a ≤ S10240x128x128.size a)
theorem k0_off1428_inb : ∀ (v3801 : BitVec 32) (k0_hw476 : k0_chk476 v3801), ∀ a, (k0_off1428 v3801) a + S1x128x128.size a ≤ S10240x128x128.size a := fun v3801 k0_hw476 => k0_hw476

def k0_off1429 (i : grid0.Coords) : Fin 2 → Nat :=
  let arg0 : BitVec 32 := BitVec.ofNat 32 (i 0).val
  let v3808 : Index := Scalar.indexCast arg0
  let c28_2725 : Index := 28#32
  ![v3808.toNat, 28]
def k0_off1430 (i : grid0.Coords) : Fin 3 → Nat :=
  let arg0 : BitVec 32 := BitVec.ofNat 32 (i 0).val
  let c3584_i32_2727 : BitVec 32 := 3584#32
  let c0_i32_2728 : BitVec 32 := 0#32
  ![arg0.toNat, 3584, 0]
def k0_off1431 (v3809 : BitVec 32) : Fin 3 → Nat :=
  let c0_i32_2729 : BitVec 32 := 0#32
  let c0_i32_2730 : BitVec 32 := 0#32
  ![v3809.toNat, 0, 0]

def k0_chk477 (v3809 : BitVec 32) : Prop :=
  (∀ a, (k0_off1431 v3809) a + S1x128x128.size a ≤ S10240x128x128.size a)
theorem k0_off1431_inb : ∀ (v3809 : BitVec 32) (k0_hw477 : k0_chk477 v3809), ∀ a, (k0_off1431 v3809) a + S1x128x128.size a ≤ S10240x128x128.size a := fun v3809 k0_hw477 => k0_hw477

def k0_off1432 (i : grid0.Coords) : Fin 2 → Nat :=
  let arg0 : BitVec 32 := BitVec.ofNat 32 (i 0).val
  let v3816 : Index := Scalar.indexCast arg0
  let c29_2731 : Index := 29#32
  ![v3816.toNat, 29]
def k0_off1433 (i : grid0.Coords) : Fin 3 → Nat :=
  let arg0 : BitVec 32 := BitVec.ofNat 32 (i 0).val
  let c3712_i32_2733 : BitVec 32 := 3712#32
  let c0_i32_2734 : BitVec 32 := 0#32
  ![arg0.toNat, 3712, 0]
def k0_off1434 (v3817 : BitVec 32) : Fin 3 → Nat :=
  let c0_i32_2735 : BitVec 32 := 0#32
  let c0_i32_2736 : BitVec 32 := 0#32
  ![v3817.toNat, 0, 0]

def k0_chk478 (v3817 : BitVec 32) : Prop :=
  (∀ a, (k0_off1434 v3817) a + S1x128x128.size a ≤ S10240x128x128.size a)
theorem k0_off1434_inb : ∀ (v3817 : BitVec 32) (k0_hw478 : k0_chk478 v3817), ∀ a, (k0_off1434 v3817) a + S1x128x128.size a ≤ S10240x128x128.size a := fun v3817 k0_hw478 => k0_hw478

def k0_off1435 (i : grid0.Coords) : Fin 2 → Nat :=
  let arg0 : BitVec 32 := BitVec.ofNat 32 (i 0).val
  let v3824 : Index := Scalar.indexCast arg0
  let c30_2737 : Index := 30#32
  ![v3824.toNat, 30]
def k0_off1436 (i : grid0.Coords) : Fin 3 → Nat :=
  let arg0 : BitVec 32 := BitVec.ofNat 32 (i 0).val
  let c3840_i32_2739 : BitVec 32 := 3840#32
  let c0_i32_2740 : BitVec 32 := 0#32
  ![arg0.toNat, 3840, 0]
def k0_off1437 (v3825 : BitVec 32) : Fin 3 → Nat :=
  let c0_i32_2741 : BitVec 32 := 0#32
  let c0_i32_2742 : BitVec 32 := 0#32
  ![v3825.toNat, 0, 0]

def k0_chk479 (v3825 : BitVec 32) : Prop :=
  (∀ a, (k0_off1437 v3825) a + S1x128x128.size a ≤ S10240x128x128.size a)
theorem k0_off1437_inb : ∀ (v3825 : BitVec 32) (k0_hw479 : k0_chk479 v3825), ∀ a, (k0_off1437 v3825) a + S1x128x128.size a ≤ S10240x128x128.size a := fun v3825 k0_hw479 => k0_hw479

def k0_off1438 (i : grid0.Coords) : Fin 2 → Nat :=
  let arg0 : BitVec 32 := BitVec.ofNat 32 (i 0).val
  let v3832 : Index := Scalar.indexCast arg0
  let c31_2743 : Index := 31#32
  ![v3832.toNat, 31]
def k0_off1439 (i : grid0.Coords) : Fin 3 → Nat :=
  let arg0 : BitVec 32 := BitVec.ofNat 32 (i 0).val
  let c3968_i32_2745 : BitVec 32 := 3968#32
  let c0_i32_2746 : BitVec 32 := 0#32
  ![arg0.toNat, 3968, 0]
def k0_off1440 (v3833 : BitVec 32) : Fin 3 → Nat :=
  let c0_i32_2747 : BitVec 32 := 0#32
  let c0_i32_2748 : BitVec 32 := 0#32
  ![v3833.toNat, 0, 0]

def k0_chk480 (v3833 : BitVec 32) : Prop :=
  (∀ a, (k0_off1440 v3833) a + S1x128x128.size a ≤ S10240x128x128.size a)
theorem k0_off1440_inb : ∀ (v3833 : BitVec 32) (k0_hw480 : k0_chk480 v3833), ∀ a, (k0_off1440 v3833) a + S1x128x128.size a ≤ S10240x128x128.size a := fun v3833 k0_hw480 => k0_hw480

def k0_off1441 (i : grid0.Coords) : Fin 2 → Nat :=
  let arg0 : BitVec 32 := BitVec.ofNat 32 (i 0).val
  let v3840 : Index := Scalar.indexCast arg0
  let c32_2749 : Index := 32#32
  ![v3840.toNat, 32]
def k0_off1442 (i : grid0.Coords) : Fin 3 → Nat :=
  let arg0 : BitVec 32 := BitVec.ofNat 32 (i 0).val
  let c4096_i32_2751 : BitVec 32 := 4096#32
  let c0_i32_2752 : BitVec 32 := 0#32
  ![arg0.toNat, 4096, 0]
def k0_off1443 (v3841 : BitVec 32) : Fin 3 → Nat :=
  let c0_i32_2753 : BitVec 32 := 0#32
  let c0_i32_2754 : BitVec 32 := 0#32
  ![v3841.toNat, 0, 0]

def k0_chk481 (v3841 : BitVec 32) : Prop :=
  (∀ a, (k0_off1443 v3841) a + S1x128x128.size a ≤ S10240x128x128.size a)
theorem k0_off1443_inb : ∀ (v3841 : BitVec 32) (k0_hw481 : k0_chk481 v3841), ∀ a, (k0_off1443 v3841) a + S1x128x128.size a ≤ S10240x128x128.size a := fun v3841 k0_hw481 => k0_hw481

def k0_off1444 (i : grid0.Coords) : Fin 2 → Nat :=
  let arg0 : BitVec 32 := BitVec.ofNat 32 (i 0).val
  let v3848 : Index := Scalar.indexCast arg0
  let c33_2755 : Index := 33#32
  ![v3848.toNat, 33]
def k0_off1445 (i : grid0.Coords) : Fin 3 → Nat :=
  let arg0 : BitVec 32 := BitVec.ofNat 32 (i 0).val
  let c4224_i32_2757 : BitVec 32 := 4224#32
  let c0_i32_2758 : BitVec 32 := 0#32
  ![arg0.toNat, 4224, 0]
def k0_off1446 (v3849 : BitVec 32) : Fin 3 → Nat :=
  let c0_i32_2759 : BitVec 32 := 0#32
  let c0_i32_2760 : BitVec 32 := 0#32
  ![v3849.toNat, 0, 0]

def k0_chk482 (v3849 : BitVec 32) : Prop :=
  (∀ a, (k0_off1446 v3849) a + S1x128x128.size a ≤ S10240x128x128.size a)
theorem k0_off1446_inb : ∀ (v3849 : BitVec 32) (k0_hw482 : k0_chk482 v3849), ∀ a, (k0_off1446 v3849) a + S1x128x128.size a ≤ S10240x128x128.size a := fun v3849 k0_hw482 => k0_hw482

def k0_off1447 (i : grid0.Coords) : Fin 2 → Nat :=
  let arg0 : BitVec 32 := BitVec.ofNat 32 (i 0).val
  let v3856 : Index := Scalar.indexCast arg0
  let c34_2761 : Index := 34#32
  ![v3856.toNat, 34]
def k0_off1448 (i : grid0.Coords) : Fin 3 → Nat :=
  let arg0 : BitVec 32 := BitVec.ofNat 32 (i 0).val
  let c4352_i32_2763 : BitVec 32 := 4352#32
  let c0_i32_2764 : BitVec 32 := 0#32
  ![arg0.toNat, 4352, 0]
def k0_off1449 (v3857 : BitVec 32) : Fin 3 → Nat :=
  let c0_i32_2765 : BitVec 32 := 0#32
  let c0_i32_2766 : BitVec 32 := 0#32
  ![v3857.toNat, 0, 0]

def k0_chk483 (v3857 : BitVec 32) : Prop :=
  (∀ a, (k0_off1449 v3857) a + S1x128x128.size a ≤ S10240x128x128.size a)
theorem k0_off1449_inb : ∀ (v3857 : BitVec 32) (k0_hw483 : k0_chk483 v3857), ∀ a, (k0_off1449 v3857) a + S1x128x128.size a ≤ S10240x128x128.size a := fun v3857 k0_hw483 => k0_hw483

def k0_off1450 (i : grid0.Coords) : Fin 2 → Nat :=
  let arg0 : BitVec 32 := BitVec.ofNat 32 (i 0).val
  let v3864 : Index := Scalar.indexCast arg0
  let c35_2767 : Index := 35#32
  ![v3864.toNat, 35]
def k0_off1451 (i : grid0.Coords) : Fin 3 → Nat :=
  let arg0 : BitVec 32 := BitVec.ofNat 32 (i 0).val
  let c4480_i32_2769 : BitVec 32 := 4480#32
  let c0_i32_2770 : BitVec 32 := 0#32
  ![arg0.toNat, 4480, 0]
def k0_off1452 (v3865 : BitVec 32) : Fin 3 → Nat :=
  let c0_i32_2771 : BitVec 32 := 0#32
  let c0_i32_2772 : BitVec 32 := 0#32
  ![v3865.toNat, 0, 0]

def k0_chk484 (v3865 : BitVec 32) : Prop :=
  (∀ a, (k0_off1452 v3865) a + S1x128x128.size a ≤ S10240x128x128.size a)
theorem k0_off1452_inb : ∀ (v3865 : BitVec 32) (k0_hw484 : k0_chk484 v3865), ∀ a, (k0_off1452 v3865) a + S1x128x128.size a ≤ S10240x128x128.size a := fun v3865 k0_hw484 => k0_hw484

def k0_off1453 (i : grid0.Coords) : Fin 2 → Nat :=
  let arg0 : BitVec 32 := BitVec.ofNat 32 (i 0).val
  let v3872 : Index := Scalar.indexCast arg0
  let c36_2773 : Index := 36#32
  ![v3872.toNat, 36]
def k0_off1454 (i : grid0.Coords) : Fin 3 → Nat :=
  let arg0 : BitVec 32 := BitVec.ofNat 32 (i 0).val
  let c4608_i32_2775 : BitVec 32 := 4608#32
  let c0_i32_2776 : BitVec 32 := 0#32
  ![arg0.toNat, 4608, 0]
def k0_off1455 (v3873 : BitVec 32) : Fin 3 → Nat :=
  let c0_i32_2777 : BitVec 32 := 0#32
  let c0_i32_2778 : BitVec 32 := 0#32
  ![v3873.toNat, 0, 0]

def k0_chk485 (v3873 : BitVec 32) : Prop :=
  (∀ a, (k0_off1455 v3873) a + S1x128x128.size a ≤ S10240x128x128.size a)
theorem k0_off1455_inb : ∀ (v3873 : BitVec 32) (k0_hw485 : k0_chk485 v3873), ∀ a, (k0_off1455 v3873) a + S1x128x128.size a ≤ S10240x128x128.size a := fun v3873 k0_hw485 => k0_hw485

def k0_off1456 (i : grid0.Coords) : Fin 2 → Nat :=
  let arg0 : BitVec 32 := BitVec.ofNat 32 (i 0).val
  let v3880 : Index := Scalar.indexCast arg0
  let c37_2779 : Index := 37#32
  ![v3880.toNat, 37]
def k0_off1457 (i : grid0.Coords) : Fin 3 → Nat :=
  let arg0 : BitVec 32 := BitVec.ofNat 32 (i 0).val
  let c4736_i32_2781 : BitVec 32 := 4736#32
  let c0_i32_2782 : BitVec 32 := 0#32
  ![arg0.toNat, 4736, 0]
def k0_off1458 (v3881 : BitVec 32) : Fin 3 → Nat :=
  let c0_i32_2783 : BitVec 32 := 0#32
  let c0_i32_2784 : BitVec 32 := 0#32
  ![v3881.toNat, 0, 0]

def k0_chk486 (v3881 : BitVec 32) : Prop :=
  (∀ a, (k0_off1458 v3881) a + S1x128x128.size a ≤ S10240x128x128.size a)
theorem k0_off1458_inb : ∀ (v3881 : BitVec 32) (k0_hw486 : k0_chk486 v3881), ∀ a, (k0_off1458 v3881) a + S1x128x128.size a ≤ S10240x128x128.size a := fun v3881 k0_hw486 => k0_hw486

def k0_off1459 (i : grid0.Coords) : Fin 2 → Nat :=
  let arg0 : BitVec 32 := BitVec.ofNat 32 (i 0).val
  let v3888 : Index := Scalar.indexCast arg0
  let c38_2785 : Index := 38#32
  ![v3888.toNat, 38]
def k0_off1460 (i : grid0.Coords) : Fin 3 → Nat :=
  let arg0 : BitVec 32 := BitVec.ofNat 32 (i 0).val
  let c4864_i32_2787 : BitVec 32 := 4864#32
  let c0_i32_2788 : BitVec 32 := 0#32
  ![arg0.toNat, 4864, 0]
def k0_off1461 (v3889 : BitVec 32) : Fin 3 → Nat :=
  let c0_i32_2789 : BitVec 32 := 0#32
  let c0_i32_2790 : BitVec 32 := 0#32
  ![v3889.toNat, 0, 0]

def k0_chk487 (v3889 : BitVec 32) : Prop :=
  (∀ a, (k0_off1461 v3889) a + S1x128x128.size a ≤ S10240x128x128.size a)
theorem k0_off1461_inb : ∀ (v3889 : BitVec 32) (k0_hw487 : k0_chk487 v3889), ∀ a, (k0_off1461 v3889) a + S1x128x128.size a ≤ S10240x128x128.size a := fun v3889 k0_hw487 => k0_hw487

def k0_off1462 (i : grid0.Coords) : Fin 2 → Nat :=
  let arg0 : BitVec 32 := BitVec.ofNat 32 (i 0).val
  let v3896 : Index := Scalar.indexCast arg0
  let c39_2791 : Index := 39#32
  ![v3896.toNat, 39]
def k0_off1463 (i : grid0.Coords) : Fin 3 → Nat :=
  let arg0 : BitVec 32 := BitVec.ofNat 32 (i 0).val
  let c4992_i32_2793 : BitVec 32 := 4992#32
  let c0_i32_2794 : BitVec 32 := 0#32
  ![arg0.toNat, 4992, 0]
def k0_off1464 (v3897 : BitVec 32) : Fin 3 → Nat :=
  let c0_i32_2795 : BitVec 32 := 0#32
  let c0_i32_2796 : BitVec 32 := 0#32
  ![v3897.toNat, 0, 0]

def k0_chk488 (v3897 : BitVec 32) : Prop :=
  (∀ a, (k0_off1464 v3897) a + S1x128x128.size a ≤ S10240x128x128.size a)
theorem k0_off1464_inb : ∀ (v3897 : BitVec 32) (k0_hw488 : k0_chk488 v3897), ∀ a, (k0_off1464 v3897) a + S1x128x128.size a ≤ S10240x128x128.size a := fun v3897 k0_hw488 => k0_hw488

def k0_off1465 (i : grid0.Coords) : Fin 2 → Nat :=
  let arg0 : BitVec 32 := BitVec.ofNat 32 (i 0).val
  let v3904 : Index := Scalar.indexCast arg0
  let c40_2797 : Index := 40#32
  ![v3904.toNat, 40]
def k0_off1466 (i : grid0.Coords) : Fin 3 → Nat :=
  let arg0 : BitVec 32 := BitVec.ofNat 32 (i 0).val
  let c5120_i32_2799 : BitVec 32 := 5120#32
  let c0_i32_2800 : BitVec 32 := 0#32
  ![arg0.toNat, 5120, 0]
def k0_off1467 (v3905 : BitVec 32) : Fin 3 → Nat :=
  let c0_i32_2801 : BitVec 32 := 0#32
  let c0_i32_2802 : BitVec 32 := 0#32
  ![v3905.toNat, 0, 0]

def k0_chk489 (v3905 : BitVec 32) : Prop :=
  (∀ a, (k0_off1467 v3905) a + S1x128x128.size a ≤ S10240x128x128.size a)
theorem k0_off1467_inb : ∀ (v3905 : BitVec 32) (k0_hw489 : k0_chk489 v3905), ∀ a, (k0_off1467 v3905) a + S1x128x128.size a ≤ S10240x128x128.size a := fun v3905 k0_hw489 => k0_hw489

def k0_off1468 (i : grid0.Coords) : Fin 2 → Nat :=
  let arg0 : BitVec 32 := BitVec.ofNat 32 (i 0).val
  let v3912 : Index := Scalar.indexCast arg0
  let c41_2803 : Index := 41#32
  ![v3912.toNat, 41]
def k0_off1469 (i : grid0.Coords) : Fin 3 → Nat :=
  let arg0 : BitVec 32 := BitVec.ofNat 32 (i 0).val
  let c5248_i32_2805 : BitVec 32 := 5248#32
  let c0_i32_2806 : BitVec 32 := 0#32
  ![arg0.toNat, 5248, 0]
def k0_off1470 (v3913 : BitVec 32) : Fin 3 → Nat :=
  let c0_i32_2807 : BitVec 32 := 0#32
  let c0_i32_2808 : BitVec 32 := 0#32
  ![v3913.toNat, 0, 0]

def k0_chk490 (v3913 : BitVec 32) : Prop :=
  (∀ a, (k0_off1470 v3913) a + S1x128x128.size a ≤ S10240x128x128.size a)
theorem k0_off1470_inb : ∀ (v3913 : BitVec 32) (k0_hw490 : k0_chk490 v3913), ∀ a, (k0_off1470 v3913) a + S1x128x128.size a ≤ S10240x128x128.size a := fun v3913 k0_hw490 => k0_hw490

def k0_off1471 (i : grid0.Coords) : Fin 2 → Nat :=
  let arg0 : BitVec 32 := BitVec.ofNat 32 (i 0).val
  let v3920 : Index := Scalar.indexCast arg0
  let c42_2809 : Index := 42#32
  ![v3920.toNat, 42]
def k0_off1472 (i : grid0.Coords) : Fin 3 → Nat :=
  let arg0 : BitVec 32 := BitVec.ofNat 32 (i 0).val
  let c5376_i32_2811 : BitVec 32 := 5376#32
  let c0_i32_2812 : BitVec 32 := 0#32
  ![arg0.toNat, 5376, 0]
def k0_off1473 (v3921 : BitVec 32) : Fin 3 → Nat :=
  let c0_i32_2813 : BitVec 32 := 0#32
  let c0_i32_2814 : BitVec 32 := 0#32
  ![v3921.toNat, 0, 0]

def k0_chk491 (v3921 : BitVec 32) : Prop :=
  (∀ a, (k0_off1473 v3921) a + S1x128x128.size a ≤ S10240x128x128.size a)
theorem k0_off1473_inb : ∀ (v3921 : BitVec 32) (k0_hw491 : k0_chk491 v3921), ∀ a, (k0_off1473 v3921) a + S1x128x128.size a ≤ S10240x128x128.size a := fun v3921 k0_hw491 => k0_hw491

def k0_off1474 (i : grid0.Coords) : Fin 2 → Nat :=
  let arg0 : BitVec 32 := BitVec.ofNat 32 (i 0).val
  let v3928 : Index := Scalar.indexCast arg0
  let c43_2815 : Index := 43#32
  ![v3928.toNat, 43]
def k0_off1475 (i : grid0.Coords) : Fin 3 → Nat :=
  let arg0 : BitVec 32 := BitVec.ofNat 32 (i 0).val
  let c5504_i32_2817 : BitVec 32 := 5504#32
  let c0_i32_2818 : BitVec 32 := 0#32
  ![arg0.toNat, 5504, 0]
def k0_off1476 (v3929 : BitVec 32) : Fin 3 → Nat :=
  let c0_i32_2819 : BitVec 32 := 0#32
  let c0_i32_2820 : BitVec 32 := 0#32
  ![v3929.toNat, 0, 0]

def k0_chk492 (v3929 : BitVec 32) : Prop :=
  (∀ a, (k0_off1476 v3929) a + S1x128x128.size a ≤ S10240x128x128.size a)
theorem k0_off1476_inb : ∀ (v3929 : BitVec 32) (k0_hw492 : k0_chk492 v3929), ∀ a, (k0_off1476 v3929) a + S1x128x128.size a ≤ S10240x128x128.size a := fun v3929 k0_hw492 => k0_hw492

def k0_off1477 (i : grid0.Coords) : Fin 2 → Nat :=
  let arg0 : BitVec 32 := BitVec.ofNat 32 (i 0).val
  let v3936 : Index := Scalar.indexCast arg0
  let c44_2821 : Index := 44#32
  ![v3936.toNat, 44]
def k0_off1478 (i : grid0.Coords) : Fin 3 → Nat :=
  let arg0 : BitVec 32 := BitVec.ofNat 32 (i 0).val
  let c5632_i32_2823 : BitVec 32 := 5632#32
  let c0_i32_2824 : BitVec 32 := 0#32
  ![arg0.toNat, 5632, 0]
def k0_off1479 (v3937 : BitVec 32) : Fin 3 → Nat :=
  let c0_i32_2825 : BitVec 32 := 0#32
  let c0_i32_2826 : BitVec 32 := 0#32
  ![v3937.toNat, 0, 0]

def k0_chk493 (v3937 : BitVec 32) : Prop :=
  (∀ a, (k0_off1479 v3937) a + S1x128x128.size a ≤ S10240x128x128.size a)
theorem k0_off1479_inb : ∀ (v3937 : BitVec 32) (k0_hw493 : k0_chk493 v3937), ∀ a, (k0_off1479 v3937) a + S1x128x128.size a ≤ S10240x128x128.size a := fun v3937 k0_hw493 => k0_hw493

def k0_off1480 (i : grid0.Coords) : Fin 2 → Nat :=
  let arg0 : BitVec 32 := BitVec.ofNat 32 (i 0).val
  let v3944 : Index := Scalar.indexCast arg0
  let c45_2827 : Index := 45#32
  ![v3944.toNat, 45]
def k0_off1481 (i : grid0.Coords) : Fin 3 → Nat :=
  let arg0 : BitVec 32 := BitVec.ofNat 32 (i 0).val
  let c5760_i32_2829 : BitVec 32 := 5760#32
  let c0_i32_2830 : BitVec 32 := 0#32
  ![arg0.toNat, 5760, 0]
def k0_off1482 (v3945 : BitVec 32) : Fin 3 → Nat :=
  let c0_i32_2831 : BitVec 32 := 0#32
  let c0_i32_2832 : BitVec 32 := 0#32
  ![v3945.toNat, 0, 0]

def k0_chk494 (v3945 : BitVec 32) : Prop :=
  (∀ a, (k0_off1482 v3945) a + S1x128x128.size a ≤ S10240x128x128.size a)
theorem k0_off1482_inb : ∀ (v3945 : BitVec 32) (k0_hw494 : k0_chk494 v3945), ∀ a, (k0_off1482 v3945) a + S1x128x128.size a ≤ S10240x128x128.size a := fun v3945 k0_hw494 => k0_hw494

def k0_off1483 (i : grid0.Coords) : Fin 2 → Nat :=
  let arg0 : BitVec 32 := BitVec.ofNat 32 (i 0).val
  let v3952 : Index := Scalar.indexCast arg0
  let c46_2833 : Index := 46#32
  ![v3952.toNat, 46]
def k0_off1484 (i : grid0.Coords) : Fin 3 → Nat :=
  let arg0 : BitVec 32 := BitVec.ofNat 32 (i 0).val
  let c5888_i32_2835 : BitVec 32 := 5888#32
  let c0_i32_2836 : BitVec 32 := 0#32
  ![arg0.toNat, 5888, 0]
def k0_off1485 (v3953 : BitVec 32) : Fin 3 → Nat :=
  let c0_i32_2837 : BitVec 32 := 0#32
  let c0_i32_2838 : BitVec 32 := 0#32
  ![v3953.toNat, 0, 0]

def k0_chk495 (v3953 : BitVec 32) : Prop :=
  (∀ a, (k0_off1485 v3953) a + S1x128x128.size a ≤ S10240x128x128.size a)
theorem k0_off1485_inb : ∀ (v3953 : BitVec 32) (k0_hw495 : k0_chk495 v3953), ∀ a, (k0_off1485 v3953) a + S1x128x128.size a ≤ S10240x128x128.size a := fun v3953 k0_hw495 => k0_hw495

def k0_off1486 (i : grid0.Coords) : Fin 2 → Nat :=
  let arg0 : BitVec 32 := BitVec.ofNat 32 (i 0).val
  let v3960 : Index := Scalar.indexCast arg0
  let c47_2839 : Index := 47#32
  ![v3960.toNat, 47]
def k0_off1487 (i : grid0.Coords) : Fin 3 → Nat :=
  let arg0 : BitVec 32 := BitVec.ofNat 32 (i 0).val
  let c6016_i32_2841 : BitVec 32 := 6016#32
  let c0_i32_2842 : BitVec 32 := 0#32
  ![arg0.toNat, 6016, 0]
def k0_off1488 (v3961 : BitVec 32) : Fin 3 → Nat :=
  let c0_i32_2843 : BitVec 32 := 0#32
  let c0_i32_2844 : BitVec 32 := 0#32
  ![v3961.toNat, 0, 0]

def k0_chk496 (v3961 : BitVec 32) : Prop :=
  (∀ a, (k0_off1488 v3961) a + S1x128x128.size a ≤ S10240x128x128.size a)
theorem k0_off1488_inb : ∀ (v3961 : BitVec 32) (k0_hw496 : k0_chk496 v3961), ∀ a, (k0_off1488 v3961) a + S1x128x128.size a ≤ S10240x128x128.size a := fun v3961 k0_hw496 => k0_hw496

def k0_off1489 (i : grid0.Coords) : Fin 2 → Nat :=
  let arg0 : BitVec 32 := BitVec.ofNat 32 (i 0).val
  let v3968 : Index := Scalar.indexCast arg0
  let c48_2845 : Index := 48#32
  ![v3968.toNat, 48]
def k0_off1490 (i : grid0.Coords) : Fin 3 → Nat :=
  let arg0 : BitVec 32 := BitVec.ofNat 32 (i 0).val
  let c6144_i32_2847 : BitVec 32 := 6144#32
  let c0_i32_2848 : BitVec 32 := 0#32
  ![arg0.toNat, 6144, 0]
def k0_off1491 (v3969 : BitVec 32) : Fin 3 → Nat :=
  let c0_i32_2849 : BitVec 32 := 0#32
  let c0_i32_2850 : BitVec 32 := 0#32
  ![v3969.toNat, 0, 0]

def k0_chk497 (v3969 : BitVec 32) : Prop :=
  (∀ a, (k0_off1491 v3969) a + S1x128x128.size a ≤ S10240x128x128.size a)
theorem k0_off1491_inb : ∀ (v3969 : BitVec 32) (k0_hw497 : k0_chk497 v3969), ∀ a, (k0_off1491 v3969) a + S1x128x128.size a ≤ S10240x128x128.size a := fun v3969 k0_hw497 => k0_hw497

def k0_off1492 (i : grid0.Coords) : Fin 2 → Nat :=
  let arg0 : BitVec 32 := BitVec.ofNat 32 (i 0).val
  let v3976 : Index := Scalar.indexCast arg0
  let c49_2851 : Index := 49#32
  ![v3976.toNat, 49]
def k0_off1493 (i : grid0.Coords) : Fin 3 → Nat :=
  let arg0 : BitVec 32 := BitVec.ofNat 32 (i 0).val
  let c6272_i32_2853 : BitVec 32 := 6272#32
  let c0_i32_2854 : BitVec 32 := 0#32
  ![arg0.toNat, 6272, 0]
def k0_off1494 (v3977 : BitVec 32) : Fin 3 → Nat :=
  let c0_i32_2855 : BitVec 32 := 0#32
  let c0_i32_2856 : BitVec 32 := 0#32
  ![v3977.toNat, 0, 0]

def k0_chk498 (v3977 : BitVec 32) : Prop :=
  (∀ a, (k0_off1494 v3977) a + S1x128x128.size a ≤ S10240x128x128.size a)
theorem k0_off1494_inb : ∀ (v3977 : BitVec 32) (k0_hw498 : k0_chk498 v3977), ∀ a, (k0_off1494 v3977) a + S1x128x128.size a ≤ S10240x128x128.size a := fun v3977 k0_hw498 => k0_hw498

def k0_off1495 (i : grid0.Coords) : Fin 2 → Nat :=
  let arg0 : BitVec 32 := BitVec.ofNat 32 (i 0).val
  let v3984 : Index := Scalar.indexCast arg0
  let c50_2857 : Index := 50#32
  ![v3984.toNat, 50]
def k0_off1496 (i : grid0.Coords) : Fin 3 → Nat :=
  let arg0 : BitVec 32 := BitVec.ofNat 32 (i 0).val
  let c6400_i32_2859 : BitVec 32 := 6400#32
  let c0_i32_2860 : BitVec 32 := 0#32
  ![arg0.toNat, 6400, 0]
def k0_off1497 (v3985 : BitVec 32) : Fin 3 → Nat :=
  let c0_i32_2861 : BitVec 32 := 0#32
  let c0_i32_2862 : BitVec 32 := 0#32
  ![v3985.toNat, 0, 0]

def k0_chk499 (v3985 : BitVec 32) : Prop :=
  (∀ a, (k0_off1497 v3985) a + S1x128x128.size a ≤ S10240x128x128.size a)
theorem k0_off1497_inb : ∀ (v3985 : BitVec 32) (k0_hw499 : k0_chk499 v3985), ∀ a, (k0_off1497 v3985) a + S1x128x128.size a ≤ S10240x128x128.size a := fun v3985 k0_hw499 => k0_hw499

def k0_off1498 (i : grid0.Coords) : Fin 2 → Nat :=
  let arg0 : BitVec 32 := BitVec.ofNat 32 (i 0).val
  let v3992 : Index := Scalar.indexCast arg0
  let c51_2863 : Index := 51#32
  ![v3992.toNat, 51]
def k0_off1499 (i : grid0.Coords) : Fin 3 → Nat :=
  let arg0 : BitVec 32 := BitVec.ofNat 32 (i 0).val
  let c6528_i32_2865 : BitVec 32 := 6528#32
  let c0_i32_2866 : BitVec 32 := 0#32
  ![arg0.toNat, 6528, 0]
def k0_off1500 (v3993 : BitVec 32) : Fin 3 → Nat :=
  let c0_i32_2867 : BitVec 32 := 0#32
  let c0_i32_2868 : BitVec 32 := 0#32
  ![v3993.toNat, 0, 0]

def k0_chk500 (v3993 : BitVec 32) : Prop :=
  (∀ a, (k0_off1500 v3993) a + S1x128x128.size a ≤ S10240x128x128.size a)
theorem k0_off1500_inb : ∀ (v3993 : BitVec 32) (k0_hw500 : k0_chk500 v3993), ∀ a, (k0_off1500 v3993) a + S1x128x128.size a ≤ S10240x128x128.size a := fun v3993 k0_hw500 => k0_hw500

def k0_off1501 (i : grid0.Coords) : Fin 2 → Nat :=
  let arg0 : BitVec 32 := BitVec.ofNat 32 (i 0).val
  let v4000 : Index := Scalar.indexCast arg0
  let c52_2869 : Index := 52#32
  ![v4000.toNat, 52]
def k0_off1502 (i : grid0.Coords) : Fin 3 → Nat :=
  let arg0 : BitVec 32 := BitVec.ofNat 32 (i 0).val
  let c6656_i32_2871 : BitVec 32 := 6656#32
  let c0_i32_2872 : BitVec 32 := 0#32
  ![arg0.toNat, 6656, 0]
def k0_off1503 (v4001 : BitVec 32) : Fin 3 → Nat :=
  let c0_i32_2873 : BitVec 32 := 0#32
  let c0_i32_2874 : BitVec 32 := 0#32
  ![v4001.toNat, 0, 0]

def k0_chk501 (v4001 : BitVec 32) : Prop :=
  (∀ a, (k0_off1503 v4001) a + S1x128x128.size a ≤ S10240x128x128.size a)
theorem k0_off1503_inb : ∀ (v4001 : BitVec 32) (k0_hw501 : k0_chk501 v4001), ∀ a, (k0_off1503 v4001) a + S1x128x128.size a ≤ S10240x128x128.size a := fun v4001 k0_hw501 => k0_hw501

def k0_off1504 (i : grid0.Coords) : Fin 2 → Nat :=
  let arg0 : BitVec 32 := BitVec.ofNat 32 (i 0).val
  let v4008 : Index := Scalar.indexCast arg0
  let c53_2875 : Index := 53#32
  ![v4008.toNat, 53]
def k0_off1505 (i : grid0.Coords) : Fin 3 → Nat :=
  let arg0 : BitVec 32 := BitVec.ofNat 32 (i 0).val
  let c6784_i32_2877 : BitVec 32 := 6784#32
  let c0_i32_2878 : BitVec 32 := 0#32
  ![arg0.toNat, 6784, 0]
def k0_off1506 (v4009 : BitVec 32) : Fin 3 → Nat :=
  let c0_i32_2879 : BitVec 32 := 0#32
  let c0_i32_2880 : BitVec 32 := 0#32
  ![v4009.toNat, 0, 0]

def k0_chk502 (v4009 : BitVec 32) : Prop :=
  (∀ a, (k0_off1506 v4009) a + S1x128x128.size a ≤ S10240x128x128.size a)
theorem k0_off1506_inb : ∀ (v4009 : BitVec 32) (k0_hw502 : k0_chk502 v4009), ∀ a, (k0_off1506 v4009) a + S1x128x128.size a ≤ S10240x128x128.size a := fun v4009 k0_hw502 => k0_hw502

def k0_off1507 (i : grid0.Coords) : Fin 2 → Nat :=
  let arg0 : BitVec 32 := BitVec.ofNat 32 (i 0).val
  let v4016 : Index := Scalar.indexCast arg0
  let c54_2881 : Index := 54#32
  ![v4016.toNat, 54]
def k0_off1508 (i : grid0.Coords) : Fin 3 → Nat :=
  let arg0 : BitVec 32 := BitVec.ofNat 32 (i 0).val
  let c6912_i32_2883 : BitVec 32 := 6912#32
  let c0_i32_2884 : BitVec 32 := 0#32
  ![arg0.toNat, 6912, 0]
def k0_off1509 (v4017 : BitVec 32) : Fin 3 → Nat :=
  let c0_i32_2885 : BitVec 32 := 0#32
  let c0_i32_2886 : BitVec 32 := 0#32
  ![v4017.toNat, 0, 0]

def k0_chk503 (v4017 : BitVec 32) : Prop :=
  (∀ a, (k0_off1509 v4017) a + S1x128x128.size a ≤ S10240x128x128.size a)
theorem k0_off1509_inb : ∀ (v4017 : BitVec 32) (k0_hw503 : k0_chk503 v4017), ∀ a, (k0_off1509 v4017) a + S1x128x128.size a ≤ S10240x128x128.size a := fun v4017 k0_hw503 => k0_hw503

def k0_off1510 (i : grid0.Coords) : Fin 2 → Nat :=
  let arg0 : BitVec 32 := BitVec.ofNat 32 (i 0).val
  let v4024 : Index := Scalar.indexCast arg0
  let c55_2887 : Index := 55#32
  ![v4024.toNat, 55]
def k0_off1511 (i : grid0.Coords) : Fin 3 → Nat :=
  let arg0 : BitVec 32 := BitVec.ofNat 32 (i 0).val
  let c7040_i32_2889 : BitVec 32 := 7040#32
  let c0_i32_2890 : BitVec 32 := 0#32
  ![arg0.toNat, 7040, 0]
def k0_off1512 (v4025 : BitVec 32) : Fin 3 → Nat :=
  let c0_i32_2891 : BitVec 32 := 0#32
  let c0_i32_2892 : BitVec 32 := 0#32
  ![v4025.toNat, 0, 0]

def k0_chk504 (v4025 : BitVec 32) : Prop :=
  (∀ a, (k0_off1512 v4025) a + S1x128x128.size a ≤ S10240x128x128.size a)
theorem k0_off1512_inb : ∀ (v4025 : BitVec 32) (k0_hw504 : k0_chk504 v4025), ∀ a, (k0_off1512 v4025) a + S1x128x128.size a ≤ S10240x128x128.size a := fun v4025 k0_hw504 => k0_hw504

def k0_off1513 (i : grid0.Coords) : Fin 2 → Nat :=
  let arg0 : BitVec 32 := BitVec.ofNat 32 (i 0).val
  let v4032 : Index := Scalar.indexCast arg0
  let c56_2893 : Index := 56#32
  ![v4032.toNat, 56]
def k0_off1514 (i : grid0.Coords) : Fin 3 → Nat :=
  let arg0 : BitVec 32 := BitVec.ofNat 32 (i 0).val
  let c7168_i32_2895 : BitVec 32 := 7168#32
  let c0_i32_2896 : BitVec 32 := 0#32
  ![arg0.toNat, 7168, 0]
def k0_off1515 (v4033 : BitVec 32) : Fin 3 → Nat :=
  let c0_i32_2897 : BitVec 32 := 0#32
  let c0_i32_2898 : BitVec 32 := 0#32
  ![v4033.toNat, 0, 0]

def k0_chk505 (v4033 : BitVec 32) : Prop :=
  (∀ a, (k0_off1515 v4033) a + S1x128x128.size a ≤ S10240x128x128.size a)
theorem k0_off1515_inb : ∀ (v4033 : BitVec 32) (k0_hw505 : k0_chk505 v4033), ∀ a, (k0_off1515 v4033) a + S1x128x128.size a ≤ S10240x128x128.size a := fun v4033 k0_hw505 => k0_hw505

def k0_off1516 (i : grid0.Coords) : Fin 2 → Nat :=
  let arg0 : BitVec 32 := BitVec.ofNat 32 (i 0).val
  let v4040 : Index := Scalar.indexCast arg0
  let c57_2899 : Index := 57#32
  ![v4040.toNat, 57]
def k0_off1517 (i : grid0.Coords) : Fin 3 → Nat :=
  let arg0 : BitVec 32 := BitVec.ofNat 32 (i 0).val
  let c7296_i32_2901 : BitVec 32 := 7296#32
  let c0_i32_2902 : BitVec 32 := 0#32
  ![arg0.toNat, 7296, 0]
def k0_off1518 (v4041 : BitVec 32) : Fin 3 → Nat :=
  let c0_i32_2903 : BitVec 32 := 0#32
  let c0_i32_2904 : BitVec 32 := 0#32
  ![v4041.toNat, 0, 0]

def k0_chk506 (v4041 : BitVec 32) : Prop :=
  (∀ a, (k0_off1518 v4041) a + S1x128x128.size a ≤ S10240x128x128.size a)
theorem k0_off1518_inb : ∀ (v4041 : BitVec 32) (k0_hw506 : k0_chk506 v4041), ∀ a, (k0_off1518 v4041) a + S1x128x128.size a ≤ S10240x128x128.size a := fun v4041 k0_hw506 => k0_hw506

def k0_off1519 (i : grid0.Coords) : Fin 2 → Nat :=
  let arg0 : BitVec 32 := BitVec.ofNat 32 (i 0).val
  let v4048 : Index := Scalar.indexCast arg0
  let c58_2905 : Index := 58#32
  ![v4048.toNat, 58]
def k0_off1520 (i : grid0.Coords) : Fin 3 → Nat :=
  let arg0 : BitVec 32 := BitVec.ofNat 32 (i 0).val
  let c7424_i32_2907 : BitVec 32 := 7424#32
  let c0_i32_2908 : BitVec 32 := 0#32
  ![arg0.toNat, 7424, 0]
def k0_off1521 (v4049 : BitVec 32) : Fin 3 → Nat :=
  let c0_i32_2909 : BitVec 32 := 0#32
  let c0_i32_2910 : BitVec 32 := 0#32
  ![v4049.toNat, 0, 0]

def k0_chk507 (v4049 : BitVec 32) : Prop :=
  (∀ a, (k0_off1521 v4049) a + S1x128x128.size a ≤ S10240x128x128.size a)
theorem k0_off1521_inb : ∀ (v4049 : BitVec 32) (k0_hw507 : k0_chk507 v4049), ∀ a, (k0_off1521 v4049) a + S1x128x128.size a ≤ S10240x128x128.size a := fun v4049 k0_hw507 => k0_hw507

def k0_off1522 (i : grid0.Coords) : Fin 2 → Nat :=
  let arg0 : BitVec 32 := BitVec.ofNat 32 (i 0).val
  let v4056 : Index := Scalar.indexCast arg0
  let c59_2911 : Index := 59#32
  ![v4056.toNat, 59]
def k0_off1523 (i : grid0.Coords) : Fin 3 → Nat :=
  let arg0 : BitVec 32 := BitVec.ofNat 32 (i 0).val
  let c7552_i32_2913 : BitVec 32 := 7552#32
  let c0_i32_2914 : BitVec 32 := 0#32
  ![arg0.toNat, 7552, 0]
def k0_off1524 (v4057 : BitVec 32) : Fin 3 → Nat :=
  let c0_i32_2915 : BitVec 32 := 0#32
  let c0_i32_2916 : BitVec 32 := 0#32
  ![v4057.toNat, 0, 0]

def k0_chk508 (v4057 : BitVec 32) : Prop :=
  (∀ a, (k0_off1524 v4057) a + S1x128x128.size a ≤ S10240x128x128.size a)
theorem k0_off1524_inb : ∀ (v4057 : BitVec 32) (k0_hw508 : k0_chk508 v4057), ∀ a, (k0_off1524 v4057) a + S1x128x128.size a ≤ S10240x128x128.size a := fun v4057 k0_hw508 => k0_hw508

def k0_off1525 (i : grid0.Coords) : Fin 2 → Nat :=
  let arg0 : BitVec 32 := BitVec.ofNat 32 (i 0).val
  let v4064 : Index := Scalar.indexCast arg0
  let c60_2917 : Index := 60#32
  ![v4064.toNat, 60]
def k0_off1526 (i : grid0.Coords) : Fin 3 → Nat :=
  let arg0 : BitVec 32 := BitVec.ofNat 32 (i 0).val
  let c7680_i32_2919 : BitVec 32 := 7680#32
  let c0_i32_2920 : BitVec 32 := 0#32
  ![arg0.toNat, 7680, 0]
def k0_off1527 (v4065 : BitVec 32) : Fin 3 → Nat :=
  let c0_i32_2921 : BitVec 32 := 0#32
  let c0_i32_2922 : BitVec 32 := 0#32
  ![v4065.toNat, 0, 0]

def k0_chk509 (v4065 : BitVec 32) : Prop :=
  (∀ a, (k0_off1527 v4065) a + S1x128x128.size a ≤ S10240x128x128.size a)
theorem k0_off1527_inb : ∀ (v4065 : BitVec 32) (k0_hw509 : k0_chk509 v4065), ∀ a, (k0_off1527 v4065) a + S1x128x128.size a ≤ S10240x128x128.size a := fun v4065 k0_hw509 => k0_hw509

def k0_off1528 (i : grid0.Coords) : Fin 2 → Nat :=
  let arg0 : BitVec 32 := BitVec.ofNat 32 (i 0).val
  let v4072 : Index := Scalar.indexCast arg0
  let c61_2923 : Index := 61#32
  ![v4072.toNat, 61]
def k0_off1529 (i : grid0.Coords) : Fin 3 → Nat :=
  let arg0 : BitVec 32 := BitVec.ofNat 32 (i 0).val
  let c7808_i32_2925 : BitVec 32 := 7808#32
  let c0_i32_2926 : BitVec 32 := 0#32
  ![arg0.toNat, 7808, 0]
def k0_off1530 (v4073 : BitVec 32) : Fin 3 → Nat :=
  let c0_i32_2927 : BitVec 32 := 0#32
  let c0_i32_2928 : BitVec 32 := 0#32
  ![v4073.toNat, 0, 0]

def k0_chk510 (v4073 : BitVec 32) : Prop :=
  (∀ a, (k0_off1530 v4073) a + S1x128x128.size a ≤ S10240x128x128.size a)
theorem k0_off1530_inb : ∀ (v4073 : BitVec 32) (k0_hw510 : k0_chk510 v4073), ∀ a, (k0_off1530 v4073) a + S1x128x128.size a ≤ S10240x128x128.size a := fun v4073 k0_hw510 => k0_hw510

def k0_off1531 (i : grid0.Coords) : Fin 2 → Nat :=
  let arg0 : BitVec 32 := BitVec.ofNat 32 (i 0).val
  let v4080 : Index := Scalar.indexCast arg0
  let c62_2929 : Index := 62#32
  ![v4080.toNat, 62]
def k0_off1532 (i : grid0.Coords) : Fin 3 → Nat :=
  let arg0 : BitVec 32 := BitVec.ofNat 32 (i 0).val
  let c7936_i32_2931 : BitVec 32 := 7936#32
  let c0_i32_2932 : BitVec 32 := 0#32
  ![arg0.toNat, 7936, 0]
def k0_off1533 (v4081 : BitVec 32) : Fin 3 → Nat :=
  let c0_i32_2933 : BitVec 32 := 0#32
  let c0_i32_2934 : BitVec 32 := 0#32
  ![v4081.toNat, 0, 0]

def k0_chk511 (v4081 : BitVec 32) : Prop :=
  (∀ a, (k0_off1533 v4081) a + S1x128x128.size a ≤ S10240x128x128.size a)
theorem k0_off1533_inb : ∀ (v4081 : BitVec 32) (k0_hw511 : k0_chk511 v4081), ∀ a, (k0_off1533 v4081) a + S1x128x128.size a ≤ S10240x128x128.size a := fun v4081 k0_hw511 => k0_hw511

def k0_off1534 (i : grid0.Coords) : Fin 2 → Nat :=
  let arg0 : BitVec 32 := BitVec.ofNat 32 (i 0).val
  let v4088 : Index := Scalar.indexCast arg0
  let c63_2935 : Index := 63#32
  ![v4088.toNat, 63]
def k0_off1535 (i : grid0.Coords) : Fin 3 → Nat :=
  let arg0 : BitVec 32 := BitVec.ofNat 32 (i 0).val
  let c8064_i32_2937 : BitVec 32 := 8064#32
  let c0_i32_2938 : BitVec 32 := 0#32
  ![arg0.toNat, 8064, 0]
def k0_off1536 (v4089 : BitVec 32) : Fin 3 → Nat :=
  let c0_i32_2939 : BitVec 32 := 0#32
  let c0_i32_2940 : BitVec 32 := 0#32
  ![v4089.toNat, 0, 0]

def k0_chk512 (v4089 : BitVec 32) : Prop :=
  (∀ a, (k0_off1536 v4089) a + S1x128x128.size a ≤ S10240x128x128.size a)
theorem k0_off1536_inb : ∀ (v4089 : BitVec 32) (k0_hw512 : k0_chk512 v4089), ∀ a, (k0_off1536 v4089) a + S1x128x128.size a ≤ S10240x128x128.size a := fun v4089 k0_hw512 => k0_hw512
-- ==== Reference.lean ====
abbrev S1x10240x128x2x64 : Shape := ⟨5, ![1, 10240, 128, 2, 64]⟩
abbrev S128x64 : Shape := ⟨2, ![128, 64]⟩
abbrev S10240x128x2x64 : Shape := ⟨4, ![10240, 128, 2, 64]⟩
abbrev S_ : Shape := ⟨0, ![]⟩
abbrev S128x64x1 : Shape := ⟨3, ![128, 64, 1]⟩
abbrev S128x64x128x2x64 : Shape := ⟨5, ![128, 64, 128, 2, 64]⟩
abbrev S128x8192x128 : Shape := ⟨3, ![128, 8192, 128]⟩

abbrev nBuf : Space → Nat
  | .hbm => 49
  | .vmem => 0
  | .smem => 0
  | _ => 0

abbrev bufTy : (tb : Table) → Fin (tcTables nBuf tb) → BufTy
  | .hbm, ⟨0, _⟩ => ⟨S1x10240x128x2x64, .f32⟩
  | .hbm, ⟨1, _⟩ => ⟨S1x10240x128x2x64, .f32⟩
  | .hbm, ⟨2, _⟩ => ⟨S1x10240x128x2x64, .f32⟩
  | .hbm, ⟨3, _⟩ => ⟨S1x10240x128x2x64, .f32⟩
  | .hbm, ⟨4, _⟩ => ⟨S128x64, .i32⟩
  | .hbm, ⟨5, _⟩ => ⟨S10240x128x2x64, .f32⟩
  | .hbm, ⟨6, _⟩ => ⟨S_, .i32⟩
  | .hbm, ⟨7, _⟩ => ⟨S128x64, .i32⟩
  | .hbm, ⟨8, _⟩ => ⟨S128x64, .i1⟩
  | .hbm, ⟨9, _⟩ => ⟨S_, .i32⟩
  | .hbm, ⟨10, _⟩ => ⟨S128x64, .i32⟩
  | .hbm, ⟨11, _⟩ => ⟨S128x64, .i32⟩
  | .hbm, ⟨12, _⟩ => ⟨S128x64, .i32⟩
  | .hbm, ⟨13, _⟩ => ⟨S128x64x1, .i32⟩
  | .hbm, ⟨14, _⟩ => ⟨S128x64x128x2x64, .f32⟩
  | .hbm, ⟨15, _⟩ => ⟨S128x8192x128, .f32⟩
  | .hbm, ⟨16, _⟩ => ⟨S10240x128x2x64, .f32⟩
  | .hbm, ⟨17, _⟩ => ⟨S_, .i32⟩
  | .hbm, ⟨18, _⟩ => ⟨S128x64, .i32⟩
  | .hbm, ⟨19, _⟩ => ⟨S128x64, .i1⟩
  | .hbm, ⟨20, _⟩ => ⟨S_, .i32⟩
  | .hbm, ⟨21, _⟩ => ⟨S128x64, .i32⟩
  | .hbm, ⟨22, _⟩ => ⟨S128x64, .i32⟩
  | .hbm, ⟨23, _⟩ => ⟨S128x64, .i32⟩
  | .hbm, ⟨24, _⟩ => ⟨S128x64x1, .i32⟩
  | .hbm, ⟨25, _⟩ => ⟨S128x64x128x2x64, .f32⟩
  | .hbm, ⟨26, _⟩ => ⟨S128x8192x128, .f32⟩
  | .hbm, ⟨27, _⟩ => ⟨S10240x128x2x64, .f32⟩
  | .hbm, ⟨28, _⟩ => ⟨S_, .i32⟩
  | .hbm, ⟨29, _⟩ => ⟨S128x64, .i32⟩
  | .hbm, ⟨30, _⟩ => ⟨S128x64, .i1⟩
  | .hbm, ⟨31, _⟩ => ⟨S_, .i32⟩
  | .hbm, ⟨32, _⟩ => ⟨S128x64, .i32⟩
  | .hbm, ⟨33, _⟩ => ⟨S128x64, .i32⟩
  | .hbm, ⟨34, _⟩ => ⟨S128x64, .i32⟩
  | .hbm, ⟨35, _⟩ => ⟨S128x64x1, .i32⟩
  | .hbm, ⟨36, _⟩ => ⟨S128x64x128x2x64, .f32⟩
  | .hbm, ⟨37, _⟩ => ⟨S128x8192x128, .f32⟩
  | .hbm, ⟨38, _⟩ => ⟨S10240x128x2x64, .f32⟩
  | .hbm, ⟨39, _⟩ => ⟨S_, .i32⟩
  | .hbm, ⟨40, _⟩ => ⟨S128x64, .i32⟩
  | .hbm, ⟨41, _⟩ => ⟨S128x64, .i1⟩
  | .hbm, ⟨42, _⟩ => ⟨S_, .i32⟩
  | .hbm, ⟨43, _⟩ => ⟨S128x64, .i32⟩
  | .hbm, ⟨44, _⟩ => ⟨S128x64, .i32⟩
  | .hbm, ⟨45, _⟩ => ⟨S128x64, .i32⟩
  | .hbm, ⟨46, _⟩ => ⟨S128x64x1, .i32⟩
  | .hbm, ⟨47, _⟩ => ⟨S128x64x128x2x64, .f32⟩
  | .hbm, ⟨48, _⟩ => ⟨S128x8192x128, .f32⟩
  | _, _ => ⟨S1x10240x128x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== FfnSample.lean ====
abbrev S128x4x1024 : Shape := ⟨3, ![128, 4, 1024]⟩
abbrev S1x128x2x2816 : Shape := ⟨4, ![1, 128, 2, 2816]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S128x2x2816 : Shape := ⟨3, ![128, 2, 2816]⟩
abbrev S128x1x2816 : Shape := ⟨3, ![128, 1, 2816]⟩
abbrev S_ : Shape := ⟨0, ![]⟩
abbrev S128x4x2816 : Shape := ⟨3, ![128, 4, 2816]⟩
abbrev S512x2816 : Shape := ⟨2, ![512, 2816]⟩
abbrev S512x1024 : Shape := ⟨2, ![512, 1024]⟩
abbrev S1024x2816 : Shape := ⟨2, ![1024, 2816]⟩
abbrev S3x2816 : Shape := ⟨2, ![3, 2816]⟩
abbrev S8x2816 : Shape := ⟨2, ![8, 2816]⟩
abbrev S2816 : Shape := ⟨1, ![2816]⟩
abbrev S2816x1024 : Shape := ⟨2, ![2816, 1024]⟩
abbrev S1024x1408 : Shape := ⟨2, ![1024, 1408]⟩
abbrev S8x1408 : Shape := ⟨2, ![8, 1408]⟩
abbrev S1x1408 : Shape := ⟨2, ![1, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 38
  | .vmem => 23
  | .smem => 0
  | _ => 0

abbrev bufTy : (tb : Table) → Fin (tcTables nBuf tb) → BufTy
  | .hbm, ⟨0, _⟩ => ⟨S128x4x1024, .f32⟩
  | .hbm, ⟨1, _⟩ => ⟨S1x128x2x2816, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x3x2816, .f32⟩
  | .hbm, ⟨6, _⟩ => ⟨S1x2816, .f32⟩
  | .hbm, ⟨7, _⟩ => ⟨S1x2816x1024, .f32⟩
  | .hbm, ⟨8, _⟩ => ⟨S1024, .f32⟩
  | .hbm, ⟨9, _⟩ => ⟨S128x2x2816, .f32⟩
  | .hbm, ⟨10, _⟩ => ⟨S128x1x2816, .f32⟩
  | .hbm, ⟨11, _⟩ => ⟨S_, .f32⟩
  | .hbm, ⟨12, _⟩ => ⟨S128x1x2816, .f32⟩
  | .hbm, ⟨13, _⟩ => ⟨S128x1x2816, .f32⟩
  | .hbm, ⟨14, _⟩ => ⟨S128x4x2816, .f32⟩
  | .hbm, ⟨15, _⟩ => ⟨S512x2816, .f32⟩
  | .hbm, ⟨16, _⟩ => ⟨S128x1x2816, .f32⟩
  | .hbm, ⟨17, _⟩ => ⟨S128x1x2816, .f32⟩
  | .hbm, ⟨18, _⟩ => ⟨S128x4x2816, .f32⟩
  | .hbm, ⟨19, _⟩ => ⟨S512x2816, .f32⟩
  | .hbm, ⟨20, _⟩ => ⟨S512x1024, .f32⟩
  | .hbm, ⟨21, _⟩ => ⟨S1024, .f32⟩
  | .hbm, ⟨22, _⟩ => ⟨S1x1024, .f32⟩
  | .hbm, ⟨23, _⟩ => ⟨S1024x2816, .f32⟩
  | .hbm, ⟨24, _⟩ => ⟨S1024x2816, .bf16⟩
  | .hbm, ⟨25, _⟩ => ⟨S1024x2816, .f32⟩
  | .hbm, ⟨26, _⟩ => ⟨S1024x2816, .bf16⟩
  | .hbm, ⟨27, _⟩ => ⟨S3x2816, .f32⟩
  | .hbm, ⟨28, _⟩ => ⟨S_, .i32⟩
  | .hbm, ⟨29, _⟩ => ⟨S_, .f32⟩
  | .hbm, ⟨30, _⟩ => ⟨S8x2816, .f32⟩
  | .hbm, ⟨31, _⟩ => ⟨S2816, .f32⟩
  | .hbm, ⟨32, _⟩ => ⟨S1x2816, .f32⟩
  | .hbm, ⟨33, _⟩ => ⟨S2816x1024, .f32⟩
  | .hbm, ⟨34, _⟩ => ⟨S2816x1024, .bf16⟩
  | .hbm, ⟨35, _⟩ => ⟨S1x1024, .f32⟩
  | .hbm, ⟨36, _⟩ => ⟨S512x1024, .f32⟩
  | .hbm, ⟨37, _⟩ => ⟨S512x2816, .f32⟩
  | .local _ .vmem, ⟨0, _⟩ => ⟨S512x1024, .f32⟩
  | .local _ .vmem, ⟨1, _⟩ => ⟨S1x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S8x1408, .f32⟩
  | .local _ .vmem, ⟨7, _⟩ => ⟨S8x1408, .f32⟩
  | .local _ .vmem, ⟨8, _⟩ => ⟨S1x1408, .f32⟩
  | .local _ .vmem, ⟨9, _⟩ => ⟨S1x1408, .f32⟩
  | .local _ .vmem, ⟨10, _⟩ => ⟨S1408x1024, .bf16⟩
  | .local _ .vmem, ⟨11, _⟩ => ⟨S1408x1024, .bf16⟩
  | .local _ .vmem, ⟨12, _⟩ => ⟨S1x1024, .f32⟩
  | .local _ .vmem, ⟨13, _⟩ => ⟨S512x1408, .f32⟩
  | .local _ .vmem, ⟨14, _⟩ => ⟨S512x1408, .f32⟩
  | .local _ .vmem, ⟨15, _⟩ => ⟨S512x1408, .f32⟩
  | .local _ .vmem, ⟨16, _⟩ => ⟨S512x1408, .f32⟩
  | .local _ .vmem, ⟨17, _⟩ => ⟨S512x1024, .f32⟩
  | .local _ .vmem, ⟨18, _⟩ => ⟨S512x1408, .f32⟩
  | .local _ .vmem, ⟨19, _⟩ => ⟨S512x1408, .f32⟩
  | .local _ .vmem, ⟨20, _⟩ => ⟨S512x1024, .bf16⟩
  | .local _ .vmem, ⟨21, _⟩ => ⟨S512x1024, .f32⟩
  | .local _ .vmem, ⟨22, _⟩ => ⟨S8x2816, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32_34 : BitVec 32 := 1#32
  let v68 : BitVec 1 := Scalar.cmpi .eq arg2 c1_i32_34
  let v69 : BitVec 32 := Scalar.extui v68
  let c0_i32_35 : BitVec 32 := 0#32
  let v70 : BitVec 1 := Scalar.cmpi .ne v69 c0_i32_35
  v70

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![v1.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![v1.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![v1.toNat, arg2.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S8x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S512x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true, false]

abbrev stage0_11 : Fin 2 → Memref sig .tc .vmem S512x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== Ffn.lean ====
abbrev S4x8192x1024 : Shape := ⟨3, ![4, 8192, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S_ : Shape := ⟨0, ![]⟩
abbrev S8x2816 : Shape := ⟨2, ![8, 2816]⟩
abbrev S32768x1024 : Shape := ⟨2, ![32768, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S64x8x2816 : Shape := ⟨3, ![64, 8, 2816]⟩
abbrev S512x1024 : Shape := ⟨2, ![512, 1024]⟩
abbrev S1024x1408 : Shape := ⟨2, ![1024, 1408]⟩
abbrev S8x1408 : Shape := ⟨2, ![8, 1408]⟩
abbrev S1x1408 : Shape := ⟨2, ![1, 1408]⟩
abbrev S1408x1024 : Shape := ⟨2, ![1408, 1024]⟩
abbrev S1x8x1408 : Shape := ⟨3, ![1, 8, 1408]⟩
abbrev S512 : Shape := ⟨1, ![512]⟩
abbrev S512x1 : Shape := ⟨2, ![512, 1]⟩
abbrev S512x1408 : Shape := ⟨2, ![512, 1408]⟩

abbrev nBuf : Space → Nat
  | .hbm => 28
  | .vmem => 25
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x3x2816, .f32⟩
  | .hbm, ⟨5, _⟩ => ⟨S1x2816, .f32⟩
  | .hbm, ⟨6, _⟩ => ⟨S1x2816x1024, .f32⟩
  | .hbm, ⟨7, _⟩ => ⟨S1024, .f32⟩
  | .hbm, ⟨8, _⟩ => ⟨S_, .f32⟩
  | .hbm, ⟨9, _⟩ => ⟨S8x2816, .f32⟩
  | .hbm, ⟨10, _⟩ => ⟨S32768x1024, .f32⟩
  | .hbm, ⟨11, _⟩ => ⟨S1024, .f32⟩
  | .hbm, ⟨12, _⟩ => ⟨S1x1024, .f32⟩
  | .hbm, ⟨13, _⟩ => ⟨S1024x2816, .f32⟩
  | .hbm, ⟨14, _⟩ => ⟨S1024x2816, .bf16⟩
  | .hbm, ⟨15, _⟩ => ⟨S1024x2816, .f32⟩
  | .hbm, ⟨16, _⟩ => ⟨S1024x2816, .bf16⟩
  | .hbm, ⟨17, _⟩ => ⟨S3x2816, .f32⟩
  | .hbm, ⟨18, _⟩ => ⟨S_, .i32⟩
  | .hbm, ⟨19, _⟩ => ⟨S_, .f32⟩
  | .hbm, ⟨20, _⟩ => ⟨S8x2816, .f32⟩
  | .hbm, ⟨21, _⟩ => ⟨S2816, .f32⟩
  | .hbm, ⟨22, _⟩ => ⟨S1x2816, .f32⟩
  | .hbm, ⟨23, _⟩ => ⟨S2816x1024, .f32⟩
  | .hbm, ⟨24, _⟩ => ⟨S2816x1024, .bf16⟩
  | .hbm, ⟨25, _⟩ => ⟨S1x1024, .f32⟩
  | .hbm, ⟨26, _⟩ => ⟨S32768x1024, .f32⟩
  | .hbm, ⟨27, _⟩ => ⟨S64x8x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S8x1408, .f32⟩
  | .local _ .vmem, ⟨8, _⟩ => ⟨S8x1408, .f32⟩
  | .local _ .vmem, ⟨9, _⟩ => ⟨S1x1408, .f32⟩
  | .local _ .vmem, ⟨10, _⟩ => ⟨S1x1408, .f32⟩
  | .local _ .vmem, ⟨11, _⟩ => ⟨S1408x1024, .bf16⟩
  | .local _ .vmem, ⟨12, _⟩ => ⟨S1408x1024, .bf16⟩
  | .local _ .vmem, ⟨13, _⟩ => ⟨S1x1024, .f32⟩
  | .local _ .vmem, ⟨14, _⟩ => ⟨S8x1408, .f32⟩
  | .local _ .vmem, ⟨15, _⟩ => ⟨S8x1408, .f32⟩
  | .local _ .vmem, ⟨16, _⟩ => ⟨S8x1408, .f32⟩
  | .local _ .vmem, ⟨17, _⟩ => ⟨S8x1408, .f32⟩
  | .local _ .vmem, ⟨18, _⟩ => ⟨S512x1024, .f32⟩
  | .local _ .vmem, ⟨19, _⟩ => ⟨S512x1024, .f32⟩
  | .local _ .vmem, ⟨20, _⟩ => ⟨S1x8x1408, .f32⟩
  | .local _ .vmem, ⟨21, _⟩ => ⟨S1x8x1408, .f32⟩
  | .local _ .vmem, ⟨22, _⟩ => ⟨S512x1024, .bf16⟩
  | .local _ .vmem, ⟨23, _⟩ => ⟨S512x1024, .f32⟩
  | .local _ .vmem, ⟨24, _⟩ => ⟨S8x2816, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨3, ![4, 16, 2], ![false, false, false]⟩

def k0_mult1 (i : grid0.Coords) : BitVec 32 :=
  let arg2 : BitVec 32 := BitVec.ofNat 32 (i 2).val
  let c1408_i32 : BitVec 32 := 1408#32
  let v14 : BitVec 32 := Scalar.muli arg2 c1408_i32
  v14
def k0_cond2 (i : grid0.Coords) : BitVec 1 :=
  let arg1 : BitVec 32 := BitVec.ofNat 32 (i 1).val
  let c0_i32_9 : BitVec 32 := 0#32
  let v16 : BitVec 1 := Scalar.cmpi .eq arg1 c0_i32_9
  let v17 : BitVec 32 := Scalar.extui v16
  let c0_i32_10 : BitVec 32 := 0#32
  let v18 : BitVec 1 := Scalar.cmpi .ne v17 c0_i32_10
  v18

def k0_off1 (i : grid0.Coords) : Fin 2 → Nat :=
  let c0_38 : Index := 0#32
  let arg2 : BitVec 32 := BitVec.ofNat 32 (i 2).val
  let c1408_i32 : BitVec 32 := 1408#32
  let v14 : BitVec 32 := Scalar.muli arg2 c1408_i32
  let v15 : BitVec 32 := v14
  let v92 : Index := Scalar.indexCast v15
  ![0, v92.toNat]
def k0_off2 (i : grid0.Coords) : Fin 2 → Nat :=
  let c6 : Index := 6#32
  let arg2 : BitVec 32 := BitVec.ofNat 32 (i 2).val
  let c1408_i32 : BitVec 32 := 1408#32
  let v14 : BitVec 32 := Scalar.muli arg2 c1408_i32
  let v15 : BitVec 32 := v14
  let v19 : Index := Scalar.indexCast v15
  ![6, v19.toNat]
def k0_off3 (i : grid0.Coords) : Fin 2 → Nat :=
  let c7 : Index := 7#32
  let arg2 : BitVec 32 := BitVec.ofNat 32 (i 2).val
  let c1408_i32 : BitVec 32 := 1408#32
  let v14 : BitVec 32 := Scalar.muli arg2 c1408_i32
  let v15 : BitVec 32 := v14
  let v21 : Index := Scalar.indexCast v15
  ![7, v21.toNat]
def k0_off4 (i : grid0.Coords) : Fin 2 → Nat :=
  let c0_14 : Index := 0#32
  let arg2 : BitVec 32 := BitVec.ofNat 32 (i 2).val
  let c1408_i32 : BitVec 32 := 1408#32
  let v14 : BitVec 32 := Scalar.muli arg2 c1408_i32
  let v15 : BitVec 32 := v14
  let v39 : Index := Scalar.indexCast v15
  ![0, v39.toNat]
def k0_cond3 (i : grid0.Coords) : BitVec 1 :=
  let arg2 : BitVec 32 := BitVec.ofNat 32 (i 2).val
  let c1_i32_35 : BitVec 32 := 1#32
  let v88 : BitVec 1 := Scalar.cmpi .eq arg2 c1_i32_35
  let v89 : BitVec 32 := Scalar.extui v88
  let c0_i32_36 : BitVec 32 := 0#32
  let v90 : BitVec 1 := Scalar.cmpi .ne v89 c0_i32_36
  v90

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat, arg2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S8x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S8x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S8x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x8x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== FfnReference.lean ====
abbrev S4x8192x1024 : Shape := ⟨3, ![4, 8192, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2816 : Shape := ⟨2, ![1024, 2816]⟩
abbrev S4x8192x2816 : Shape := ⟨3, ![4, 8192, 2816]⟩
abbrev S4x2x2816 : Shape := ⟨3, ![4, 2, 2816]⟩
abbrev S4x8194x2816 : Shape := ⟨3, ![4, 8194, 2816]⟩
abbrev S2816 : Shape := ⟨1, ![2816]⟩
abbrev S3x2816 : Shape := ⟨2, ![3, 2816]⟩
abbrev S1x1x2816 : Shape := ⟨3, ![1, 1, 2816]⟩
abbrev S2816x1024 : Shape := ⟨2, ![2816, 1024]⟩
abbrev S32768x1024 : Shape := ⟨2, ![32768, 1024]⟩
abbrev S64x512x2816 : Shape := ⟨3, ![64, 512, 2816]⟩
abbrev S64x8x2816 : Shape := ⟨3, ![64, 8, 2816]⟩

abbrev nBuf : Space → Nat
  | .hbm => 99
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x3x2816, .f32⟩
  | .hbm, ⟨5, _⟩ => ⟨S1x2816, .f32⟩
  | .hbm, ⟨6, _⟩ => ⟨S1x2816x1024, .f32⟩
  | .hbm, ⟨7, _⟩ => ⟨S1024, .f32⟩
  | .hbm, ⟨8, _⟩ => ⟨S1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S1024x2816, .f32⟩
  | .hbm, ⟨26, _⟩ => ⟨S4x8192x2816, .f32⟩
  | .hbm, ⟨27, _⟩ => ⟨S1024x2816, .f32⟩
  | .hbm, ⟨28, _⟩ => ⟨S4x8192x2816, .f32⟩
  | .hbm, ⟨29, _⟩ => ⟨S_, .f32⟩
  | .hbm, ⟨30, _⟩ => ⟨S4x2x2816, .f32⟩
  | .hbm, ⟨31, _⟩ => ⟨S4x8194x2816, .f32⟩
  | .hbm, ⟨32, _⟩ => ⟨S2816, .f32⟩
  | .hbm, ⟨33, _⟩ => ⟨S4x8192x2816, .f32⟩
  | .hbm, ⟨34, _⟩ => ⟨S3x2816, .f32⟩
  | .hbm, ⟨35, _⟩ => ⟨S1x2816, .f32⟩
  | .hbm, ⟨36, _⟩ => ⟨S2816, .f32⟩
  | .hbm, ⟨37, _⟩ => ⟨S1x1x2816, .f32⟩
  | .hbm, ⟨38, _⟩ => ⟨S4x8192x2816, .f32⟩
  | .hbm, ⟨39, _⟩ => ⟨S4x8192x2816, .f32⟩
  | .hbm, ⟨40, _⟩ => ⟨S1x1x2816, .f32⟩
  | .hbm, ⟨41, _⟩ => ⟨S4x8192x2816, .f32⟩
  | .hbm, ⟨42, _⟩ => ⟨S4x8192x2816, .f32⟩
  | .hbm, ⟨43, _⟩ => ⟨S4x8192x2816, .f32⟩
  | .hbm, ⟨44, _⟩ => ⟨S3x2816, .f32⟩
  | .hbm, ⟨45, _⟩ => ⟨S1x2816, .f32⟩
  | .hbm, ⟨46, _⟩ => ⟨S2816, .f32⟩
  | .hbm, ⟨47, _⟩ => ⟨S1x1x2816, .f32⟩
  | .hbm, ⟨48, _⟩ => ⟨S4x8192x2816, .f32⟩
  | .hbm, ⟨49, _⟩ => ⟨S4x8192x2816, .f32⟩
  | .hbm, ⟨50, _⟩ => ⟨S4x8192x2816, .f32⟩
  | .hbm, ⟨51, _⟩ => ⟨S4x8192x2816, .f32⟩
  | .hbm, ⟨52, _⟩ => ⟨S3x2816, .f32⟩
  | .hbm, ⟨53, _⟩ => ⟨S1x2816, .f32⟩
  | .hbm, ⟨54, _⟩ => ⟨S2816, .f32⟩
  | .hbm, ⟨55, _⟩ => ⟨S1x1x2816, .f32⟩
  | .hbm, ⟨56, _⟩ => ⟨S4x8192x2816, .f32⟩
  | .hbm, ⟨57, _⟩ => ⟨S4x8192x2816, .f32⟩
  | .hbm, ⟨58, _⟩ => ⟨S4x8192x2816, .f32⟩
  | .hbm, ⟨59, _⟩ => ⟨S4x8192x2816, .f32⟩
  | .hbm, ⟨60, _⟩ => ⟨S4x8192x2816, .f32⟩
  | .hbm, ⟨61, _⟩ => ⟨S_, .f32⟩
  | .hbm, ⟨62, _⟩ => ⟨S4x8192x2816, .f32⟩
  | .hbm, ⟨63, _⟩ => ⟨S4x8192x2816, .f32⟩
  | .hbm, ⟨64, _⟩ => ⟨S4x8192x2816, .f32⟩
  | .hbm, ⟨65, _⟩ => ⟨S_, .f32⟩
  | .hbm, ⟨66, _⟩ => ⟨S4x8192x2816, .f32⟩
  | .hbm, ⟨67, _⟩ => ⟨S4x8192x2816, .f32⟩
  | .hbm, ⟨68, _⟩ => ⟨S4x8192x2816, .f32⟩
  | .hbm, ⟨69, _⟩ => ⟨S_, .f32⟩
  | .hbm, ⟨70, _⟩ => ⟨S4x8192x2816, .f32⟩
  | .hbm, ⟨71, _⟩ => ⟨S4x8192x2816, .f32⟩
  | .hbm, ⟨72, _⟩ => ⟨S_, .f32⟩
  | .hbm, ⟨73, _⟩ => ⟨S4x8192x2816, .f32⟩
  | .hbm, ⟨74, _⟩ => ⟨S4x8192x2816, .f32⟩
  | .hbm, ⟨75, _⟩ => ⟨S4x8192x2816, .f32⟩
  | .hbm, ⟨76, _⟩ => ⟨S4x8192x2816, .f32⟩
  | .hbm, ⟨77, _⟩ => ⟨S2816x1024, .f32⟩
  | .hbm, ⟨78, _⟩ => ⟨S4x8192x1024, .f32⟩
  | .hbm, ⟨79, _⟩ => ⟨S4x8192x1024, .f32⟩
  | .hbm, ⟨80, _⟩ => ⟨S4x8192x1024, .f32⟩
  | .hbm, ⟨81, _⟩ => ⟨S_, .f32⟩
  | .hbm, ⟨82, _⟩ => ⟨S4x8192, .f32⟩
  | .hbm, ⟨83, _⟩ => ⟨S4x8192x1, .f32⟩
  | .hbm, ⟨84, _⟩ => ⟨S_, .f32⟩
  | .hbm, ⟨85, _⟩ => ⟨S4x8192x1, .f32⟩
  | .hbm, ⟨86, _⟩ => ⟨S4x8192x1, .f32⟩
  | .hbm, ⟨87, _⟩ => ⟨S_, .f32⟩
  | .hbm, ⟨88, _⟩ => ⟨S4x8192x1, .f32⟩
  | .hbm, ⟨89, _⟩ => ⟨S4x8192x1, .f32⟩
  | .hbm, ⟨90, _⟩ => ⟨S4x8192x1, .f32⟩
  | .hbm, ⟨91, _⟩ => ⟨S4x8192x1024, .f32⟩
  | .hbm, ⟨92, _⟩ => ⟨S4x8192x1024, .f32⟩
  | .hbm, ⟨93, _⟩ => ⟨S1x1x1024, .f32⟩
  | .hbm, ⟨94, _⟩ => ⟨S4x8192x1024, .f32⟩
  | .hbm, ⟨95, _⟩ => ⟨S4x8192x1024, .f32⟩
  | .hbm, ⟨96, _⟩ => ⟨S32768x1024, .f32⟩
  | .hbm, ⟨97, _⟩ => ⟨S64x512x2816, .f32⟩
  | .hbm, ⟨98, _⟩ => ⟨S64x8x2816, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_3 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_5 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_cst_8 : Ref sig .tc := ⟨.hbm, 84, rfl⟩
abbrev main_v67 : Ref sig .tc := ⟨.hbm, 85, rfl⟩
abbrev main_v68 : Ref sig .tc := ⟨.hbm, 86, rfl⟩
abbrev main_cst_9 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]
-- ==== InProj.lean ====
abbrev S4x8192x1024 : Shape := ⟨3, ![4, 8192, 1024]⟩
abbrev S1x1024 : Shape := ⟨2, ![1, 1024]⟩
abbrev S1x1024x2328 : Shape := ⟨3, ![1, 1024, 2328]⟩
abbrev S1024x2328 : Shape := ⟨2, ![1024, 2328]⟩
abbrev S1024x512 : Shape := ⟨2, ![1024, 512]⟩
abbrev S1024x8x64 : Shape := ⟨3, ![1024, 8, 64]⟩
abbrev S_ : Shape := ⟨0, ![]⟩
abbrev S1024x8x2x64 : Shape := ⟨4, ![1024, 8, 2, 64]⟩
abbrev S1024x1x64 : Shape := ⟨3, ![1024, 1, 64]⟩
abbrev S1024x64 : Shape := ⟨2, ![1024, 64]⟩
abbrev S1 : Shape := ⟨1, ![1]⟩
abbrev S2 : Shape := ⟨1, ![2]⟩
abbrev S1024x24 : Shape := ⟨2, ![1024, 24]⟩
abbrev S1024x128 : Shape := ⟨2, ![1024, 128]⟩
abbrev S1024x1024 : Shape := ⟨2, ![1024, 1024]⟩
abbrev S1024x768 : Shape := ⟨2, ![1024, 768]⟩
abbrev S1024x2944 : Shape := ⟨2, ![1024, 2944]⟩
abbrev S32768x1024 : Shape := ⟨2, ![32768, 1024]⟩
abbrev S1024 : Shape := ⟨1, ![1024]⟩
abbrev S32768x512 : Shape := ⟨2, ![32768, 512]⟩
abbrev S32768x128 : Shape := ⟨2, ![32768, 128]⟩
abbrev S32768x768 : Shape := ⟨2, ![32768, 768]⟩
abbrev S512x1024 : Shape := ⟨2, ![512, 1024]⟩
abbrev S512x512 : Shape := ⟨2, ![512, 512]⟩
abbrev S512x128 : Shape := ⟨2, ![512, 128]⟩
abbrev S512x768 : Shape := ⟨2, ![512, 768]⟩
abbrev S512 : Shape := ⟨1, ![512]⟩
abbrev S512x1 : Shape := ⟨2, ![512, 1]⟩

abbrev nBuf : Space → Nat
  | .hbm => 95
  | .vmem => 26
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2328, .f32⟩
  | .hbm, ⟨3, _⟩ => ⟨S1024x2328, .f32⟩
  | .hbm, ⟨4, _⟩ => ⟨S1024x512, .f32⟩
  | .hbm, ⟨5, _⟩ => ⟨S1024x8x64, .f32⟩
  | .hbm, ⟨6, _⟩ => ⟨S_, .f32⟩
  | .hbm, ⟨7, _⟩ => ⟨S1024x8x2x64, .f32⟩
  | .hbm, ⟨8, _⟩ => ⟨S1024x1x64, .f32⟩
  | .hbm, ⟨9, _⟩ => ⟨S1024x64, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S1024x8x2x64, .f32⟩
  | .hbm, ⟨16, _⟩ => ⟨S1024x1x64, .f32⟩
  | .hbm, ⟨17, _⟩ => ⟨S1024x64, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S1024x8x2x64, .f32⟩
  | .hbm, ⟨24, _⟩ => ⟨S1024x1x64, .f32⟩
  | .hbm, ⟨25, _⟩ => ⟨S1024x64, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S1024x8x2x64, .f32⟩
  | .hbm, ⟨32, _⟩ => ⟨S1024x1x64, .f32⟩
  | .hbm, ⟨33, _⟩ => ⟨S1024x64, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S1024x8x2x64, .f32⟩
  | .hbm, ⟨40, _⟩ => ⟨S1024x1x64, .f32⟩
  | .hbm, ⟨41, _⟩ => ⟨S1024x64, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S1024x8x2x64, .f32⟩
  | .hbm, ⟨48, _⟩ => ⟨S1024x1x64, .f32⟩
  | .hbm, ⟨49, _⟩ => ⟨S1024x64, .f32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S1024x8x2x64, .f32⟩
  | .hbm, ⟨56, _⟩ => ⟨S1024x1x64, .f32⟩
  | .hbm, ⟨57, _⟩ => ⟨S1024x64, .f32⟩
  | .hbm, ⟨58, _⟩ => ⟨S_, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S2, .i32⟩
  | .hbm, ⟨63, _⟩ => ⟨S1024x8x2x64, .f32⟩
  | .hbm, ⟨64, _⟩ => ⟨S1024x1x64, .f32⟩
  | .hbm, ⟨65, _⟩ => ⟨S1024x64, .f32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S2, .i32⟩
  | .hbm, ⟨71, _⟩ => ⟨S1024x8x2x64, .f32⟩
  | .hbm, ⟨72, _⟩ => ⟨S1024x24, .f32⟩
  | .hbm, ⟨73, _⟩ => ⟨S_, .i32⟩
  | .hbm, ⟨74, _⟩ => ⟨S_, .f32⟩
  | .hbm, ⟨75, _⟩ => ⟨S1024x128, .f32⟩
  | .hbm, ⟨76, _⟩ => ⟨S1024x1024, .f32⟩
  | .hbm, ⟨77, _⟩ => ⟨S1024x1024, .f32⟩
  | .hbm, ⟨78, _⟩ => ⟨S1024x768, .f32⟩
  | .hbm, ⟨79, _⟩ => ⟨S1024x2944, .f32⟩
  | .hbm, ⟨80, _⟩ => ⟨S1024x2944, .bf16⟩
  | .hbm, ⟨81, _⟩ => ⟨S32768x1024, .f32⟩
  | .hbm, ⟨82, _⟩ => ⟨S1024, .f32⟩
  | .hbm, ⟨83, _⟩ => ⟨S1x1024, .f32⟩
  | .hbm, ⟨84, _⟩ => ⟨S32768x512, .f32⟩
  | .hbm, ⟨85, _⟩ => ⟨S32768x512, .f32⟩
  | .hbm, ⟨86, _⟩ => ⟨S32768x1024, .bf16⟩
  | .hbm, ⟨87, _⟩ => ⟨S32768x128, .f32⟩
  | .hbm, ⟨88, _⟩ => ⟨S32768x128, .f32⟩
  | .hbm, ⟨89, _⟩ => ⟨S32768x128, .f32⟩
  | .hbm, ⟨90, _⟩ => ⟨S32768x128, .f32⟩
  | .hbm, ⟨91, _⟩ => ⟨S32768x128, .f32⟩
  | .hbm, ⟨92, _⟩ => ⟨S32768x128, .f32⟩
  | .hbm, ⟨93, _⟩ => ⟨S32768x768, .bf16⟩
  | .hbm, ⟨94, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .bf16⟩
  | .local _ .vmem, ⟨9, _⟩ => ⟨S512x1024, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x768, .bf16⟩
  | .local _ .vmem, ⟨23, _⟩ => ⟨S512x768, .bf16⟩
  | .local _ .vmem, ⟨24, _⟩ => ⟨S512x128, .f32⟩
  | .local _ .vmem, ⟨25, _⟩ => ⟨S512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_7 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_9 : Ref sig .tc := ⟨.hbm, 50, rfl⟩
abbrev main_v36 : Ref sig .tc := ⟨.hbm, 51, rfl⟩
abbrev main_c_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_11 : Ref sig .tc := ⟨.hbm, 58, rfl⟩
abbrev main_v42 : Ref sig .tc := ⟨.hbm, 59, rfl⟩
abbrev main_c_12 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_13 : Ref sig .tc := ⟨.hbm, 66, rfl⟩
abbrev main_v48 : Ref sig .tc := ⟨.hbm, 67, rfl⟩
abbrev main_c_14 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_15 : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62_0 : Ref sig .tc := ⟨.hbm, 84, rfl⟩
abbrev main_v62_1 : Ref sig .tc := ⟨.hbm, 85, rfl⟩
abbrev main_v62_2 : Ref sig .tc := ⟨.hbm, 86, rfl⟩
abbrev main_v62_3 : Ref sig .tc := ⟨.hbm, 87, rfl⟩
abbrev main_v62_4 : Ref sig .tc := ⟨.hbm, 88, rfl⟩
abbrev main_v62_5 : Ref sig .tc := ⟨.hbm, 89, rfl⟩
abbrev main_v62_6 : Ref sig .tc := ⟨.hbm, 90, rfl⟩
abbrev main_v62_7 : Ref sig .tc := ⟨.hbm, 91, rfl⟩
abbrev main_v62_8 : Ref sig .tc := ⟨.hbm, 92, rfl⟩
abbrev main_v62_9 : Ref sig .tc := ⟨.hbm, 93, rfl⟩
abbrev main_v62_10 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InProjIdeal.lean ====
abbrev S4x8192x1024 : Shape := ⟨3, ![4, 8192, 1024]⟩
abbrev S1x1024 : Shape := ⟨2, ![1, 1024]⟩
abbrev S1x1024x2328 : Shape := ⟨3, ![1, 1024, 2328]⟩
abbrev S1024x2328 : Shape := ⟨2, ![1024, 2328]⟩
abbrev S1024x512 : Shape := ⟨2, ![1024, 512]⟩
abbrev S1024x8x64 : Shape := ⟨3, ![1024, 8, 64]⟩
abbrev S_ : Shape := ⟨0, ![]⟩
abbrev S1024x8x2x64 : Shape := ⟨4, ![1024, 8, 2, 64]⟩
abbrev S1024x1x64 : Shape := ⟨3, ![1024, 1, 64]⟩
abbrev S1024x64 : Shape := ⟨2, ![1024, 64]⟩
abbrev S1 : Shape := ⟨1, ![1]⟩
abbrev S2 : Shape := ⟨1, ![2]⟩
abbrev S1024x24 : Shape := ⟨2, ![1024, 24]⟩
abbrev S1024x128 : Shape := ⟨2, ![1024, 128]⟩
abbrev S1024x1024 : Shape := ⟨2, ![1024, 1024]⟩
abbrev S1024x768 : Shape := ⟨2, ![1024, 768]⟩
abbrev S1024x2944 : Shape := ⟨2, ![1024, 2944]⟩
abbrev S32768x1024 : Shape := ⟨2, ![32768, 1024]⟩
abbrev S1024 : Shape := ⟨1, ![1024]⟩
abbrev S32768x512 : Shape := ⟨2, ![32768, 512]⟩
abbrev S32768x128 : Shape := ⟨2, ![32768, 128]⟩
abbrev S32768x768 : Shape := ⟨2, ![32768, 768]⟩
abbrev S512x1024 : Shape := ⟨2, ![512, 1024]⟩
abbrev S512x512 : Shape := ⟨2, ![512, 512]⟩
abbrev S512x128 : Shape := ⟨2, ![512, 128]⟩
abbrev S512x768 : Shape := ⟨2, ![512, 768]⟩
abbrev S512 : Shape := ⟨1, ![512]⟩
abbrev S512x1 : Shape := ⟨2, ![512, 1]⟩

abbrev nBuf : Space → Nat
  | .hbm => 95
  | .vmem => 26
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2328, .f32⟩
  | .hbm, ⟨3, _⟩ => ⟨S1024x2328, .f32⟩
  | .hbm, ⟨4, _⟩ => ⟨S1024x512, .f32⟩
  | .hbm, ⟨5, _⟩ => ⟨S1024x8x64, .f32⟩
  | .hbm, ⟨6, _⟩ => ⟨S_, .f32⟩
  | .hbm, ⟨7, _⟩ => ⟨S1024x8x2x64, .f32⟩
  | .hbm, ⟨8, _⟩ => ⟨S1024x1x64, .f32⟩
  | .hbm, ⟨9, _⟩ => ⟨S1024x64, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S1024x8x2x64, .f32⟩
  | .hbm, ⟨16, _⟩ => ⟨S1024x1x64, .f32⟩
  | .hbm, ⟨17, _⟩ => ⟨S1024x64, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S1024x8x2x64, .f32⟩
  | .hbm, ⟨24, _⟩ => ⟨S1024x1x64, .f32⟩
  | .hbm, ⟨25, _⟩ => ⟨S1024x64, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S1024x8x2x64, .f32⟩
  | .hbm, ⟨32, _⟩ => ⟨S1024x1x64, .f32⟩
  | .hbm, ⟨33, _⟩ => ⟨S1024x64, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S1024x8x2x64, .f32⟩
  | .hbm, ⟨40, _⟩ => ⟨S1024x1x64, .f32⟩
  | .hbm, ⟨41, _⟩ => ⟨S1024x64, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S1024x8x2x64, .f32⟩
  | .hbm, ⟨48, _⟩ => ⟨S1024x1x64, .f32⟩
  | .hbm, ⟨49, _⟩ => ⟨S1024x64, .f32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S1024x8x2x64, .f32⟩
  | .hbm, ⟨56, _⟩ => ⟨S1024x1x64, .f32⟩
  | .hbm, ⟨57, _⟩ => ⟨S1024x64, .f32⟩
  | .hbm, ⟨58, _⟩ => ⟨S_, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S2, .i32⟩
  | .hbm, ⟨63, _⟩ => ⟨S1024x8x2x64, .f32⟩
  | .hbm, ⟨64, _⟩ => ⟨S1024x1x64, .f32⟩
  | .hbm, ⟨65, _⟩ => ⟨S1024x64, .f32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S2, .i32⟩
  | .hbm, ⟨71, _⟩ => ⟨S1024x8x2x64, .f32⟩
  | .hbm, ⟨72, _⟩ => ⟨S1024x24, .f32⟩
  | .hbm, ⟨73, _⟩ => ⟨S_, .i32⟩
  | .hbm, ⟨74, _⟩ => ⟨S_, .f32⟩
  | .hbm, ⟨75, _⟩ => ⟨S1024x128, .f32⟩
  | .hbm, ⟨76, _⟩ => ⟨S1024x1024, .f32⟩
  | .hbm, ⟨77, _⟩ => ⟨S1024x1024, .f32⟩
  | .hbm, ⟨78, _⟩ => ⟨S1024x768, .f32⟩
  | .hbm, ⟨79, _⟩ => ⟨S1024x2944, .f32⟩
  | .hbm, ⟨80, _⟩ => ⟨S1024x2944, .bf16⟩
  | .hbm, ⟨81, _⟩ => ⟨S32768x1024, .f32⟩
  | .hbm, ⟨82, _⟩ => ⟨S1024, .f32⟩
  | .hbm, ⟨83, _⟩ => ⟨S1x1024, .f32⟩
  | .hbm, ⟨84, _⟩ => ⟨S32768x512, .f32⟩
  | .hbm, ⟨85, _⟩ => ⟨S32768x512, .f32⟩
  | .hbm, ⟨86, _⟩ => ⟨S32768x1024, .bf16⟩
  | .hbm, ⟨87, _⟩ => ⟨S32768x128, .f32⟩
  | .hbm, ⟨88, _⟩ => ⟨S32768x128, .f32⟩
  | .hbm, ⟨89, _⟩ => ⟨S32768x128, .f32⟩
  | .hbm, ⟨90, _⟩ => ⟨S32768x128, .f32⟩
  | .hbm, ⟨91, _⟩ => ⟨S32768x128, .f32⟩
  | .hbm, ⟨92, _⟩ => ⟨S32768x128, .f32⟩
  | .hbm, ⟨93, _⟩ => ⟨S32768x768, .bf16⟩
  | .hbm, ⟨94, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .bf16⟩
  | .local _ .vmem, ⟨9, _⟩ => ⟨S512x1024, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x768, .bf16⟩
  | .local _ .vmem, ⟨23, _⟩ => ⟨S512x768, .bf16⟩
  | .local _ .vmem, ⟨24, _⟩ => ⟨S512x128, .f32⟩
  | .local _ .vmem, ⟨25, _⟩ => ⟨S512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_7 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_9 : Ref sig .tc := ⟨.hbm, 50, rfl⟩
abbrev main_v36 : Ref sig .tc := ⟨.hbm, 51, rfl⟩
abbrev main_c_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_11 : Ref sig .tc := ⟨.hbm, 58, rfl⟩
abbrev main_v42 : Ref sig .tc := ⟨.hbm, 59, rfl⟩
abbrev main_c_12 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_13 : Ref sig .tc := ⟨.hbm, 66, rfl⟩
abbrev main_v48 : Ref sig .tc := ⟨.hbm, 67, rfl⟩
abbrev main_c_14 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_15 : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62_0 : Ref sig .tc := ⟨.hbm, 84, rfl⟩
abbrev main_v62_1 : Ref sig .tc := ⟨.hbm, 85, rfl⟩
abbrev main_v62_2 : Ref sig .tc := ⟨.hbm, 86, rfl⟩
abbrev main_v62_3 : Ref sig .tc := ⟨.hbm, 87, rfl⟩
abbrev main_v62_4 : Ref sig .tc := ⟨.hbm, 88, rfl⟩
abbrev main_v62_5 : Ref sig .tc := ⟨.hbm, 89, rfl⟩
abbrev main_v62_6 : Ref sig .tc := ⟨.hbm, 90, rfl⟩
abbrev main_v62_7 : Ref sig .tc := ⟨.hbm, 91, rfl⟩
abbrev main_v62_8 : Ref sig .tc := ⟨.hbm, 92, rfl⟩
abbrev main_v62_9 : Ref sig .tc := ⟨.hbm, 93, rfl⟩
abbrev main_v62_10 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InProjReference.lean ====
abbrev S4x8192x1024 : Shape := ⟨3, ![4, 8192, 1024]⟩
abbrev S1x1024 : Shape := ⟨2, ![1, 1024]⟩
abbrev S1x1024x2328 : Shape := ⟨3, ![1, 1024, 2328]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2328 : Shape := ⟨2, ![1024, 2328]⟩
abbrev S4x8192x2328 : Shape := ⟨3, ![4, 8192, 2328]⟩
abbrev S32768x2328 : Shape := ⟨2, ![32768, 2328]⟩
abbrev S32768x512 : Shape := ⟨2, ![32768, 512]⟩
abbrev S32768x768 : Shape := ⟨2, ![32768, 768]⟩
abbrev S32768x6x128 : Shape := ⟨3, ![32768, 6, 128]⟩
abbrev S32768x1x128 : Shape := ⟨3, ![32768, 1, 128]⟩
abbrev S32768x128 : Shape := ⟨2, ![32768, 128]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2328, .f32⟩
  | .hbm, ⟨3, _⟩ => ⟨S1024, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S1024x2328, .f32⟩
  | .hbm, ⟨21, _⟩ => ⟨S4x8192x2328, .f32⟩
  | .hbm, ⟨22, _⟩ => ⟨S32768x2328, .f32⟩
  | .hbm, ⟨23, _⟩ => ⟨S32768x512, .f32⟩
  | .hbm, ⟨24, _⟩ => ⟨S32768x512, .f32⟩
  | .hbm, ⟨25, _⟩ => ⟨S32768x768, .f32⟩
  | .hbm, ⟨26, _⟩ => ⟨S32768x6x128, .f32⟩
  | .hbm, ⟨27, _⟩ => ⟨S32768x1x128, .f32⟩
  | .hbm, ⟨28, _⟩ => ⟨S32768x128, .f32⟩
  | .hbm, ⟨29, _⟩ => ⟨S32768x1x128, .f32⟩
  | .hbm, ⟨30, _⟩ => ⟨S32768x128, .f32⟩
  | .hbm, ⟨31, _⟩ => ⟨S32768x1x128, .f32⟩
  | .hbm, ⟨32, _⟩ => ⟨S32768x128, .f32⟩
  | .hbm, ⟨33, _⟩ => ⟨S32768x1x128, .f32⟩
  | .hbm, ⟨34, _⟩ => ⟨S32768x128, .f32⟩
  | .hbm, ⟨35, _⟩ => ⟨S32768x1x128, .f32⟩
  | .hbm, ⟨36, _⟩ => ⟨S32768x128, .f32⟩
  | .hbm, ⟨37, _⟩ => ⟨S32768x1x128, .f32⟩
  | .hbm, ⟨38, _⟩ => ⟨S32768x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== InProjReferenceIdeal.lean ====
abbrev S4x8192x1024 : Shape := ⟨3, ![4, 8192, 1024]⟩
abbrev S1x1024 : Shape := ⟨2, ![1, 1024]⟩
abbrev S1x1024x2328 : Shape := ⟨3, ![1, 1024, 2328]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2328 : Shape := ⟨2, ![1024, 2328]⟩
abbrev S4x8192x2328 : Shape := ⟨3, ![4, 8192, 2328]⟩
abbrev S32768x2328 : Shape := ⟨2, ![32768, 2328]⟩
abbrev S32768x512 : Shape := ⟨2, ![32768, 512]⟩
abbrev S32768x768 : Shape := ⟨2, ![32768, 768]⟩
abbrev S32768x6x128 : Shape := ⟨3, ![32768, 6, 128]⟩
abbrev S32768x1x128 : Shape := ⟨3, ![32768, 1, 128]⟩
abbrev S32768x128 : Shape := ⟨2, ![32768, 128]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2328, .f32⟩
  | .hbm, ⟨3, _⟩ => ⟨S1024, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S1024x2328, .f32⟩
  | .hbm, ⟨21, _⟩ => ⟨S4x8192x2328, .f32⟩
  | .hbm, ⟨22, _⟩ => ⟨S32768x2328, .f32⟩
  | .hbm, ⟨23, _⟩ => ⟨S32768x512, .f32⟩
  | .hbm, ⟨24, _⟩ => ⟨S32768x512, .f32⟩
  | .hbm, ⟨25, _⟩ => ⟨S32768x768, .f32⟩
  | .hbm, ⟨26, _⟩ => ⟨S32768x6x128, .f32⟩
  | .hbm, ⟨27, _⟩ => ⟨S32768x1x128, .f32⟩
  | .hbm, ⟨28, _⟩ => ⟨S32768x128, .f32⟩
  | .hbm, ⟨29, _⟩ => ⟨S32768x1x128, .f32⟩
  | .hbm, ⟨30, _⟩ => ⟨S32768x128, .f32⟩
  | .hbm, ⟨31, _⟩ => ⟨S32768x1x128, .f32⟩
  | .hbm, ⟨32, _⟩ => ⟨S32768x128, .f32⟩
  | .hbm, ⟨33, _⟩ => ⟨S32768x1x128, .f32⟩
  | .hbm, ⟨34, _⟩ => ⟨S32768x128, .f32⟩
  | .hbm, ⟨35, _⟩ => ⟨S32768x1x128, .f32⟩
  | .hbm, ⟨36, _⟩ => ⟨S32768x128, .f32⟩
  | .hbm, ⟨37, _⟩ => ⟨S32768x1x128, .f32⟩
  | .hbm, ⟨38, _⟩ => ⟨S32768x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Memory.lean ====
abbrev S4x256x1024 : Shape := ⟨3, ![4, 256, 1024]⟩
abbrev S1x1024 : Shape := ⟨2, ![1, 1024]⟩
abbrev S1x1024x1024 : Shape := ⟨3, ![1, 1024, 1024]⟩
abbrev S1024x1024 : Shape := ⟨2, ![1024, 1024]⟩
abbrev S1024 : Shape := ⟨1, ![1024]⟩
abbrev S1024x2048 : Shape := ⟨2, ![1024, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 6
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1024x1024, .f32⟩
  | .hbm, ⟨8, _⟩ => ⟨S1024x1024, .f32⟩
  | .hbm, ⟨9, _⟩ => ⟨S1024x2048, .f32⟩
  | .hbm, ⟨10, _⟩ => ⟨S1024x2048, .bf16⟩
  | .hbm, ⟨11, _⟩ => ⟨S1024x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemoryReference.lean ====
abbrev S4x256x1024 : Shape := ⟨3, ![4, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x1024 : Shape := ⟨2, ![1024, 1024]⟩
abbrev S4x256x2048 : Shape := ⟨3, ![4, 256, 2048]⟩
abbrev S1024x2048 : Shape := ⟨2, ![1024, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1024, .f32⟩
  | .hbm, ⟨5, _⟩ => ⟨S4x256x1024, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x1024, .f32⟩
  | .hbm, ⟨17, _⟩ => ⟨S4x256x1024, .f32⟩
  | .hbm, ⟨18, _⟩ => ⟨S1x1x1024, .f32⟩
  | .hbm, ⟨19, _⟩ => ⟨S4x256x1024, .f32⟩
  | .hbm, ⟨20, _⟩ => ⟨S4x256x1024, .f32⟩
  | .hbm, ⟨21, _⟩ => ⟨S1024x1024, .f32⟩
  | .hbm, ⟨22, _⟩ => ⟨S4x256x1024, .f32⟩
  | .hbm, ⟨23, _⟩ => ⟨S1024x1024, .f32⟩
  | .hbm, ⟨24, _⟩ => ⟨S4x256x1024, .f32⟩
  | .hbm, ⟨25, _⟩ => ⟨S4x256x2048, .f32⟩
  | .hbm, ⟨26, _⟩ => ⟨S1024x2048, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== InSample.lean ====
abbrev S128x4x1024 : Shape := ⟨3, ![128, 4, 1024]⟩
abbrev S1x1024 : Shape := ⟨2, ![1, 1024]⟩
abbrev S1x1024x2328 : Shape := ⟨3, ![1, 1024, 2328]⟩
abbrev S1024x2328 : Shape := ⟨2, ![1024, 2328]⟩
abbrev S1024x512 : Shape := ⟨2, ![1024, 512]⟩
abbrev S1024x8x64 : Shape := ⟨3, ![1024, 8, 64]⟩
abbrev S_ : Shape := ⟨0, ![]⟩
abbrev S1024x8x2x64 : Shape := ⟨4, ![1024, 8, 2, 64]⟩
abbrev S1024x1x64 : Shape := ⟨3, ![1024, 1, 64]⟩
abbrev S1024x64 : Shape := ⟨2, ![1024, 64]⟩
abbrev S1 : Shape := ⟨1, ![1]⟩
abbrev S2 : Shape := ⟨1, ![2]⟩
abbrev S1024x24 : Shape := ⟨2, ![1024, 24]⟩
abbrev S1024x128 : Shape := ⟨2, ![1024, 128]⟩
abbrev S1024x1024 : Shape := ⟨2, ![1024, 1024]⟩
abbrev S1024x768 : Shape := ⟨2, ![1024, 768]⟩
abbrev S1024x2944 : Shape := ⟨2, ![1024, 2944]⟩
abbrev S512x1024 : Shape := ⟨2, ![512, 1024]⟩
abbrev S1024 : Shape := ⟨1, ![1024]⟩
abbrev S512x512 : Shape := ⟨2, ![512, 512]⟩
abbrev S512x128 : Shape := ⟨2, ![512, 128]⟩
abbrev S512x768 : Shape := ⟨2, ![512, 768]⟩
abbrev S512 : Shape := ⟨1, ![512]⟩
abbrev S512x1 : Shape := ⟨2, ![512, 1]⟩

abbrev nBuf : Space → Nat
  | .hbm => 95
  | .vmem => 14
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x2328, .f32⟩
  | .hbm, ⟨3, _⟩ => ⟨S1024x2328, .f32⟩
  | .hbm, ⟨4, _⟩ => ⟨S1024x512, .f32⟩
  | .hbm, ⟨5, _⟩ => ⟨S1024x8x64, .f32⟩
  | .hbm, ⟨6, _⟩ => ⟨S_, .f32⟩
  | .hbm, ⟨7, _⟩ => ⟨S1024x8x2x64, .f32⟩
  | .hbm, ⟨8, _⟩ => ⟨S1024x1x64, .f32⟩
  | .hbm, ⟨9, _⟩ => ⟨S1024x64, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S1024x8x2x64, .f32⟩
  | .hbm, ⟨16, _⟩ => ⟨S1024x1x64, .f32⟩
  | .hbm, ⟨17, _⟩ => ⟨S1024x64, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S1024x8x2x64, .f32⟩
  | .hbm, ⟨24, _⟩ => ⟨S1024x1x64, .f32⟩
  | .hbm, ⟨25, _⟩ => ⟨S1024x64, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S1024x8x2x64, .f32⟩
  | .hbm, ⟨32, _⟩ => ⟨S1024x1x64, .f32⟩
  | .hbm, ⟨33, _⟩ => ⟨S1024x64, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S1024x8x2x64, .f32⟩
  | .hbm, ⟨40, _⟩ => ⟨S1024x1x64, .f32⟩
  | .hbm, ⟨41, _⟩ => ⟨S1024x64, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S1024x8x2x64, .f32⟩
  | .hbm, ⟨48, _⟩ => ⟨S1024x1x64, .f32⟩
  | .hbm, ⟨49, _⟩ => ⟨S1024x64, .f32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S1024x8x2x64, .f32⟩
  | .hbm, ⟨56, _⟩ => ⟨S1024x1x64, .f32⟩
  | .hbm, ⟨57, _⟩ => ⟨S1024x64, .f32⟩
  | .hbm, ⟨58, _⟩ => ⟨S_, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S2, .i32⟩
  | .hbm, ⟨63, _⟩ => ⟨S1024x8x2x64, .f32⟩
  | .hbm, ⟨64, _⟩ => ⟨S1024x1x64, .f32⟩
  | .hbm, ⟨65, _⟩ => ⟨S1024x64, .f32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S2, .i32⟩
  | .hbm, ⟨71, _⟩ => ⟨S1024x8x2x64, .f32⟩
  | .hbm, ⟨72, _⟩ => ⟨S1024x24, .f32⟩
  | .hbm, ⟨73, _⟩ => ⟨S_, .i32⟩
  | .hbm, ⟨74, _⟩ => ⟨S_, .f32⟩
  | .hbm, ⟨75, _⟩ => ⟨S1024x128, .f32⟩
  | .hbm, ⟨76, _⟩ => ⟨S1024x1024, .f32⟩
  | .hbm, ⟨77, _⟩ => ⟨S1024x1024, .f32⟩
  | .hbm, ⟨78, _⟩ => ⟨S1024x768, .f32⟩
  | .hbm, ⟨79, _⟩ => ⟨S1024x2944, .f32⟩
  | .hbm, ⟨80, _⟩ => ⟨S1024x2944, .bf16⟩
  | .hbm, ⟨81, _⟩ => ⟨S512x1024, .f32⟩
  | .hbm, ⟨82, _⟩ => ⟨S1024, .f32⟩
  | .hbm, ⟨83, _⟩ => ⟨S1x1024, .f32⟩
  | .hbm, ⟨84, _⟩ => ⟨S512x512, .f32⟩
  | .hbm, ⟨85, _⟩ => ⟨S512x512, .f32⟩
  | .hbm, ⟨86, _⟩ => ⟨S512x1024, .bf16⟩
  | .hbm, ⟨87, _⟩ => ⟨S512x128, .f32⟩
  | .hbm, ⟨88, _⟩ => ⟨S512x128, .f32⟩
  | .hbm, ⟨89, _⟩ => ⟨S512x128, .f32⟩
  | .hbm, ⟨90, _⟩ => ⟨S512x128, .f32⟩
  | .hbm, ⟨91, _⟩ => ⟨S512x128, .f32⟩
  | .hbm, ⟨92, _⟩ => ⟨S512x128, .f32⟩
  | .hbm, ⟨93, _⟩ => ⟨S512x768, .bf16⟩
  | .hbm, ⟨94, _⟩ => ⟨S512x128, .f32⟩
  | .local _ .vmem, ⟨0, _⟩ => ⟨S512x1024, .f32⟩
  | .local _ .vmem, ⟨1, _⟩ => ⟨S1x1024, .f32⟩
  | .local _ .vmem, ⟨2, _⟩ => ⟨S1024x2944, .bf16⟩
  | .local _ .vmem, ⟨3, _⟩ => ⟨S512x512, .f32⟩
  | .local _ .vmem, ⟨4, _⟩ => ⟨S512x512, .f32⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x768, .bf16⟩
  | .local _ .vmem, ⟨13, _⟩ => ⟨S512x128, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_7 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_9 : Ref sig .tc := ⟨.hbm, 50, rfl⟩
abbrev main_v36 : Ref sig .tc := ⟨.hbm, 51, rfl⟩
abbrev main_c_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_11 : Ref sig .tc := ⟨.hbm, 58, rfl⟩
abbrev main_v42 : Ref sig .tc := ⟨.hbm, 59, rfl⟩
abbrev main_c_12 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_13 : Ref sig .tc := ⟨.hbm, 66, rfl⟩
abbrev main_v48 : Ref sig .tc := ⟨.hbm, 67, rfl⟩
abbrev main_c_14 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_15 : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62_0 : Ref sig .tc := ⟨.hbm, 84, rfl⟩
abbrev main_v62_1 : Ref sig .tc := ⟨.hbm, 85, rfl⟩
abbrev main_v62_2 : Ref sig .tc := ⟨.hbm, 86, rfl⟩
abbrev main_v62_3 : Ref sig .tc := ⟨.hbm, 87, rfl⟩
abbrev main_v62_4 : Ref sig .tc := ⟨.hbm, 88, rfl⟩
abbrev main_v62_5 : Ref sig .tc := ⟨.hbm, 89, rfl⟩
abbrev main_v62_6 : Ref sig .tc := ⟨.hbm, 90, rfl⟩
abbrev main_v62_7 : Ref sig .tc := ⟨.hbm, 91, rfl⟩
abbrev main_v62_8 : Ref sig .tc := ⟨.hbm, 92, rfl⟩
abbrev main_v62_9 : Ref sig .tc := ⟨.hbm, 93, rfl⟩
abbrev main_v62_10 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== InSampleReference.lean ====
abbrev S128x4x1024 : Shape := ⟨3, ![128, 4, 1024]⟩
abbrev S1x1024 : Shape := ⟨2, ![1, 1024]⟩
abbrev S1x1024x2328 : Shape := ⟨3, ![1, 1024, 2328]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x2328 : Shape := ⟨2, ![1024, 2328]⟩
abbrev S128x4x2328 : Shape := ⟨3, ![128, 4, 2328]⟩
abbrev S512x2328 : Shape := ⟨2, ![512, 2328]⟩
abbrev S512x512 : Shape := ⟨2, ![512, 512]⟩
abbrev S512x768 : Shape := ⟨2, ![512, 768]⟩
abbrev S512x6x128 : Shape := ⟨3, ![512, 6, 128]⟩
abbrev S512x1x128 : Shape := ⟨3, ![512, 1, 128]⟩
abbrev S512x128 : Shape := ⟨2, ![512, 128]⟩

abbrev nBuf : Space → Nat
  | .hbm => 39
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x2328, .f32⟩
  | .hbm, ⟨3, _⟩ => ⟨S1024, .f32⟩
  | .hbm, ⟨4, _⟩ => ⟨S128x4x1024, .f32⟩
  | .hbm, ⟨5, _⟩ => ⟨S_, .f32⟩
  | .hbm, ⟨6, _⟩ => ⟨S128x4, .f32⟩
  | .hbm, ⟨7, _⟩ => ⟨S128x4x1, .f32⟩
  | .hbm, ⟨8, _⟩ => ⟨S_, .f32⟩
  | .hbm, ⟨9, _⟩ => ⟨S128x4x1, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S128x4x1, .f32⟩
  | .hbm, ⟨15, _⟩ => ⟨S128x4x1024, .f32⟩
  | .hbm, ⟨16, _⟩ => ⟨S128x4x1024, .f32⟩
  | .hbm, ⟨17, _⟩ => ⟨S1x1x1024, .f32⟩
  | .hbm, ⟨18, _⟩ => ⟨S128x4x1024, .f32⟩
  | .hbm, ⟨19, _⟩ => ⟨S128x4x1024, .f32⟩
  | .hbm, ⟨20, _⟩ => ⟨S1024x2328, .f32⟩
  | .hbm, ⟨21, _⟩ => ⟨S128x4x2328, .f32⟩
  | .hbm, ⟨22, _⟩ => ⟨S512x2328, .f32⟩
  | .hbm, ⟨23, _⟩ => ⟨S512x512, .f32⟩
  | .hbm, ⟨24, _⟩ => ⟨S512x512, .f32⟩
  | .hbm, ⟨25, _⟩ => ⟨S512x768, .f32⟩
  | .hbm, ⟨26, _⟩ => ⟨S512x6x128, .f32⟩
  | .hbm, ⟨27, _⟩ => ⟨S512x1x128, .f32⟩
  | .hbm, ⟨28, _⟩ => ⟨S512x128, .f32⟩
  | .hbm, ⟨29, _⟩ => ⟨S512x1x128, .f32⟩
  | .hbm, ⟨30, _⟩ => ⟨S512x128, .f32⟩
  | .hbm, ⟨31, _⟩ => ⟨S512x1x128, .f32⟩
  | .hbm, ⟨32, _⟩ => ⟨S512x128, .f32⟩
  | .hbm, ⟨33, _⟩ => ⟨S512x1x128, .f32⟩
  | .hbm, ⟨34, _⟩ => ⟨S512x128, .f32⟩
  | .hbm, ⟨35, _⟩ => ⟨S512x1x128, .f32⟩
  | .hbm, ⟨36, _⟩ => ⟨S512x128, .f32⟩
  | .hbm, ⟨37, _⟩ => ⟨S512x1x128, .f32⟩
  | .hbm, ⟨38, _⟩ => ⟨S512x128, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Proof.Body.lean ====
/- The kernel's body as two nested passes over the pages: the copies issued, then the copies waited for. -/
module

public import proofs.«01_k».proof.Proof.Gen.KernelIdeal
public import proofs.«01_k».proof.Proof.Gen.KernelIdeal.Launch
public import Idealize.ShloMosaic.Lib.Pipeline.Regions

@[expose] public section

noncomputable section

namespace Cert.KernelIdeal.Pages

open Idealize.ShloMosaic Idealize.SL.Sem

variable {F : FTy → Type} [FloatOps F]

abbrev Step (F : FTy → Type) : Type 1 := Prog (TpuEff nD τ sig (Elt F) Λ₀ .tc) PUnit

/-- Where the table holds the page that row `i` keeps at place `p`. -/
def wordOff (i : grid0.Coords) (p : ℕ) : Fin 2 → ℕ :=
  ![(Scalar.indexCast (BitVec.ofNat 32 (i 0).val) : Index).toNat, p]

/-- Where page `p` of row `i` starts in a result. -/
def dstOff (i : grid0.Coords) (p : ℕ) : Fin 3 → ℕ := ![(BitVec.ofNat 32 (i 0).val).toNat, p * 128, 0]

/-- Where page `v` starts in a pool. -/
def srcOff (v : BitVec 32) : Fin 3 → ℕ := ![v.toNat, 0, 0]

theorem coord_toNat (i : grid0.Coords) : (BitVec.ofNat 32 (i 0).val).toNat = (i 0).val :=
  Nat.mod_eq_of_lt (lt_trans (i 0).isLt (by decide))

theorem wordOff_inb (i : grid0.Coords) (p : ℕ) (hp : p < 64) :
    ∀ a, wordOff i p a + S1x1.size a ≤ S128x64.size a := by
  have h : (i 0).val < 128 := (i 0).isLt
  intro a
  fin_cases a
  · show (BitVec.ofNat 32 (i 0).val).toNat + 1 ≤ 128
    rw [coord_toNat]; omega
  · show p + 1 ≤ 64
    omega

theorem dstOff_inb (i : grid0.Coords) (p : ℕ) (hp : p < 64) :
    ∀ a, dstOff i p a + S1x128x128.size a ≤ S128x8192x128.size a := by
  have h : (i 0).val < 128 := (i 0).isLt
  intro a
  fin_cases a
  · show (BitVec.ofNat 32 (i 0).val).toNat + 1 ≤ 128
    rw [coord_toNat]; omega
  · show p * 128 + 128 ≤ 8192
    omega
  · show 0 + 128 ≤ 128
    omega

/-- The page `v` is one of the pool's. -/
def InPool (v : BitVec 32) : Prop := ∀ a, srcOff v a + S1x128x128.size a ≤ S10240x128x128.size a

instance InPool.dec (v : BitVec 32) : Decidable (InPool v) := k0_chk1.dec v

/-- Page `p` of row `i` in the result `out`. -/
def dstPage (out : Memref sig .tc .hbm S128x8192x128 .f32) (i : grid0.Coords) (p : ℕ) (hp : p < 64) :
    Memref sig .tc .hbm S128x128 .f32 :=
  (out.slice (Rect.unit (s := S128x8192x128) (dstOff i p) S1x128x128.size (dstOff_inb i p hp)) (fun _ => rfl)).squeeze
    S128x128 Shapes1.Facts₀.squeezes_S1x128x128_S128x128

/-- Page `v` of the pool. -/
def srcPage (pool : Memref sig .tc .hbm S10240x128x128 .f32) (v : BitVec 32) (hv : InPool v) :
    Memref sig .tc .hbm S128x128 .f32 :=
  (pool.slice (Rect.unit (s := S10240x128x128) (srcOff v) S1x128x128.size hv) (fun _ => rfl)).squeeze
    S128x128 Shapes1.Facts₀.squeezes_S1x128x128_S128x128

/-- The `a`-th of the four semaphores. -/
def cellAt (sems : DmaSems sig S4) (a : ℕ) (h : ∀ x, (![a] : Fin 1 → ℕ) x + S1.size x ≤ S4.size x) : DmaSems sig S_ :=
  (sems.slice (Rect.unit (s := S4) ![a] S1.size h)).squeeze S_ Shapes1.Facts₀.squeezes_S1_S_

/-- Read the page that row `i` keeps at place `p`, then go on with it once it is known to be one of the pool's. -/
def withPage (table : Memref sig .tc .smem S128x64 .i32) (i : grid0.Coords) (p : ℕ) (hp : p < 64)
    (k : (v : BitVec 32) → InPool v → Step F) : Step F := do
  let v : Elt F .i32 ← smemLoad table (Rect.unit (s := S128x64) (wordOff i p) S1x1.size (wordOff_inb i p hp))
    Shapes1.Facts₀.numel1_S1x1 rfl
  let h ← Prog.lift (TpuEff.assume (InPool v) (InPool.dec v))
  k v h.down

/-- Start the copy of one page. -/
def issue (table : Memref sig .tc .smem S128x64 .i32) (pool : Memref sig .tc .hbm S10240x128x128 .f32)
    (out : Memref sig .tc .hbm S128x8192x128 .f32) (sem : DmaSems sig S_) (i : grid0.Coords) (p : ℕ) (hp : p < 64) :
    Step F :=
  withPage table i p hp fun v hv =>
    Prog.lift (.enqueueDma (srcPage pool v hv) (.here (dstPage out i p hp)) (.dma sem.sem)
      ((View.wordExact_bits rfl).reshape _ _) ((View.wordExact_bits rfl).reshape _ _) ⟨Or.inl rfl, trivial⟩)

/-- Wait for the copy of one page. -/
def await (table : Memref sig .tc .smem S128x64 .i32) (pool : Memref sig .tc .hbm S10240x128x128 .f32)
    (out : Memref sig .tc .hbm S128x8192x128 .f32) (sem : DmaSems sig S_) (i : grid0.Coords) (p : ℕ) (hp : p < 64) :
    Step F :=
  withPage table i p hp fun v hv =>
    Prog.lift (.waitDma2 sem.sem (srcPage pool v hv) (dstPage out i p hp)
      ((View.wordExact_bits rfl).reshape _ _) ((View.wordExact_bits rfl).reshape _ _))

/-- One step per place from `p` on, `n` of them, before `k`. -/
def pass (f : (p : ℕ) → p < 64 → Step F) : (n p : ℕ) → p + n ≤ 64 → Step F → Step F
  | 0, _, _, k => k
  | n + 1, p, h, k => f p (by omega) >>= fun _ => pass f n (p + 1) (by omega) k

variable (i : grid0.Coords) (table : Memref sig .tc .smem S128x64 .i32)
  (p0 p1 p2 p3 : Memref sig .tc .hbm S10240x128x128 .f32) (o0 o1 o2 o3 : Memref sig .tc .hbm S128x8192x128 .f32)
  (sems : DmaSems sig S4)

/-- All copies of one row's pages issued, pool by pool, then all waited for in the same order. -/
def gather : Step F :=
  pass (issue table p0 o0 (cellAt sems 0 Shapes1.Facts₀.inb_S4_S1_0) i) 64 0 (le_refl _) <|
  pass (issue table p1 o1 (cellAt sems 1 Shapes1.Facts₀.inb_S4_S1_1) i) 64 0 (le_refl _) <|
  pass (issue table p2 o2 (cellAt sems 2 Shapes1.Facts₀.inb_S4_S1_2) i) 64 0 (le_refl _) <|
  pass (issue table p3 o3 (cellAt sems 3 Shapes1.Facts₀.inb_S4_S1_3) i) 64 0 (le_refl _) <|
  pass (await table p0 o0 (cellAt sems 0 Shapes1.Facts₀.inb_S4_S1_0) i) 64 0 (le_refl _) <|
  pass (await table p1 o1 (cellAt sems 1 Shapes1.Facts₀.inb_S4_S1_1) i) 64 0 (le_refl _) <|
  pass (await table p2 o2 (cellAt sems 2 Shapes1.Facts₀.inb_S4_S1_2) i) 64 0 (le_refl _) <|
  pass (await table p3 o3 (cellAt sems 3 Shapes1.Facts₀.inb_S4_S1_3) i) 64 0 (le_refl _) <|
  .ret ⟨⟩

/-- The printed body is that program. -/
theorem body_eq (h1 : table.IsWhole) (h2 : p0.IsWhole) (h3 : p1.IsWhole) (h4 : p2.IsWhole) (h5 : p3.IsWhole)
    (h6 : o0.IsWhole) (h7 : o1.IsWhole) (h8 : o2.IsWhole) (h9 : o3.IsWhole) :
    cc0_gather_pages (F := F) i table h1 p0 h2 p1 h3 p2 h4 p3 h5 o0 h6 o1 h7 o2 h8 o3 h9 sems
      = gather i table p0 p1 p2 p3 o0 o1 o2 o3 sems := by
  chain_rfl

end Cert.KernelIdeal.Pages
-- ==== Proof.Run.lean ====
/- One pass over a row's pages: the copies issued on a semaphore, and the copies waited for. -/
module

public import proofs.«01_k».proof.Proof.Body
public import Idealize.ShloMosaic.Lib.Pipeline.FrameValue
public import Idealize.ShloMosaic.Lib.Batch
public import Idealize.ShloMosaic.Lib.Ring
public import Idealize.ShloMosaic.Lib.Tactic

@[expose] public section

noncomputable section

namespace Cert.KernelIdeal.Pages

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- The contents of a memref's buffer on core `c`. -/
abbrev Bf (F : FTy → Type) (c : Dev nD) {sp : Space} {s : Shape} {e : EltTy} (M : Memref sig .tc sp s e) : Type :=
  Buf (Elt F) (M.view.loc (c : Thread nD τ))

section
variable (c : Dev nD) (i : grid0.Coords) (table : Memref sig .tc .smem S128x64 .i32)
  (tab : Bf F c table) (pool : Memref sig .tc .hbm S10240x128x128 .f32) (out : Memref sig .tc .hbm S128x8192x128 .f32)

/-- The page that the table keeps for row `i` at place `p`, as the body's load reads it. -/
def word (p : Fin 64) : BitVec 32 :=
  table.view.readAt (Elt F) (Rect.unit (s := S128x64) (wordOff i p) S1x1.size (wordOff_inb i p p.isLt)).toLoadRect tab
    (Shape.Idx.first (s := S1x1) (Shapes1.Facts₀.numel1_S1x1.symm ▸ Nat.one_pos))

variable (hw : ∀ p, InPool (word c i table tab p)) (fs : Bf F c pool) (fd : Bf F c out)

/-- The result's contents, and the pool's, at page `p`'s own memrefs. -/
abbrev dstAt (f : Bf F c out) (p : Fin 64) : Bf F c (dstPage out i p p.isLt) := f
abbrev srcAt (p : Fin 64) : Bf F c (srcPage pool (word c i table tab p) (hw p)) := fs

/-- A result after the copy of page `p` of row `i` has landed in it. -/
abbrev landed (p : Fin 64) : Bf F c (dstPage out i p p.isLt) :=
  (dstPage out i p p.isLt).view.write (Elt F) (dstAt c i out fd p)
    (ReadAs.same.apply ((srcPage pool (word c i table tab p) (hw p)).view.read (Elt F) (srcAt c i table tab pool hw fs p)))
    Finset.univ

variable (q : Fin 64 → PosShare TreeShare)

/-- Page `p` of row `i` of the result, at contents `f`. -/
abbrev dstPt (p : Fin 64) (f : Bf F c (dstPage out i p p.isLt)) : sProp 𝕄 :=
  (dstPage out i p p.isLt).view.loc (c : Thread nD τ) ↦[(dstPage out i p p.isLt).view.set]{fullShare} f

/-- The pool's page that place `p` asks for, at its share of the pool. -/
abbrev srcPt (p : Fin 64) : sProp 𝕄 :=
  (srcPage pool (word c i table tab p) (hw p)).view.loc (c : Thread nD τ)
    ↦[(srcPage pool (word c i table tab p) (hw p)).view.set]{q p} srcAt c i table tab pool hw fs p

/-- What the copy of page `p` delivers: the page landed, the share of the pool back. -/
def deliv (p : Fin 64) : sProp 𝕄 :=
  iprop(dstPt c i out p (landed c i table tab pool out hw fs fd p) ∗ srcPt c i table tab pool hw fs q p)

instance deliv_storable (p : Fin 64) :
    BI.Storable (upEmb : UEmb _ 𝕄) (deliv c i table tab pool out hw fs fd q p) := by
  unfold deliv; infer_instance

/-- One copy's units on its semaphore. -/
abbrev unitsN : ℕ := 2048

/-- The 64 copies of one pool's pages of row `i`, `j` of them issued, `u` units waited for. -/
abbrev copies (sem : DmaSems sig S_) (j u : ℕ) : sProp 𝕄 :=
  Transfers.Batch countersEmb (c : Thread nD τ) (.dma sem.sem) () unitsN (deliv c i table tab pool out hw fs fd q) j u

/-- A step that reads a page word and goes on with it, the word in hand and a page of the pool. -/
theorem withPage_step (tq : PosShare TreeShare) (p : Fin 64) (f : (v : BitVec 32) → InPool v → Step F)
    (k : PUnit → Step F) (Q : PUnit → sProp 𝕄) :
    (table.view.loc (c : Thread nD τ) ↦{tq} tab : sProp 𝕄)
      ⊢ iprop(((table.view.loc (c : Thread nD τ) ↦{tq} tab)
            -∗ wp frame (wpE (defs₀ (F := F)) Variants.none c none) Set.univ
                (f (word c i table tab p) (hw p) >>= k) Q)
          -∗ wp frame (wpE (defs₀ (F := F)) Variants.none c none) Set.univ
                (withPage table i p p.isLt f >>= k) Q) := by
  iintro HT Hk
  iapply (wp_load Variants.none (c : Thread nD τ) none Set.univ (Finset.subset_univ _)) $$ HT
  iintro HT
  iapply (wp_assume Variants.none (c : Thread nD τ) none Set.univ (hw p))
  iapply Hk
  iexact HT

/-- The copy of page `p` issued: its page and its share of the pool go into the batch. -/
theorem issue_step (sem : DmaSems sig S_) (tq : PosShare TreeShare) (p : Fin 64) (k : PUnit → Step F)
    (Q : PUnit → sProp 𝕄) :
    iprop((table.view.loc (c : Thread nD τ) ↦{tq} tab) ∗ dstPt c i out p (dstAt c i out fd p)
        ∗ srcPt c i table tab pool hw fs q p ∗ copies c i table tab pool out hw fs fd q sem p 0)
      ⊢ iprop((iprop((table.view.loc (c : Thread nD τ) ↦{tq} tab)
              ∗ copies c i table tab pool out hw fs fd q sem (p + 1) 0)
            -∗ wp frame (wpE (defs₀ (F := F)) Variants.none c none) Set.univ (k ⟨⟩) Q)
          -∗ wp frame (wpE (defs₀ (F := F)) Variants.none c none) Set.univ
                (issue table pool out sem i p p.isLt >>= k) Q) := by
  iintro ⟨HT, HD, HS, HB⟩ Hk
  unfold issue
  iapply (withPage_step c i table tab hw tq p) $$ HT
  iintro HT
  iapply (Transfers.wp_dmaBatch countersEmb Variants.none (c : Thread nD τ) none (n := 64)
    (D := deliv c i table tab pool out hw fs fd q) (j := p) (u := 0) (q := q p) (fs := srcAt c i table tab pool hw fs p)
    (fd := dstAt c i out fd p) () unitsN rfl
    (Finset.Subset.refl _) p.isLt (Nat.zero_le _) (show _ ⊢ deliv c i table tab pool out hw fs fd q p from Entails.rfl)) $$ [HD HS HB]
  · isplitl [HS]; · iexact HS
    isplitl [HD]; · iexact HD
    iexact HB
  iintro HB
  iapply Hk
  isplitl [HT]; · iexact HT
  iexact HB

/-- The pass that issues the copies from place `p` on. -/
theorem issue_pass (sem : DmaSems sig S_) (tq : PosShare TreeShare) (k : Step F)
    (Q : PUnit → sProp 𝕄) : ∀ (n p : ℕ) (h : p + n ≤ 64), p + n = 64 →
    iprop((table.view.loc (c : Thread nD τ) ↦{tq} tab)
      ∗ bigSep (Ring.rangeSet 64 p 64) (fun t => dstPt c i out t (dstAt c i out fd t))
      ∗ bigSep (Ring.rangeSet 64 p 64) (srcPt c i table tab pool hw fs q)
      ∗ copies c i table tab pool out hw fs fd q sem p 0)
    ⊢ iprop((iprop((table.view.loc (c : Thread nD τ) ↦{tq} tab)
            ∗ copies c i table tab pool out hw fs fd q sem 64 0)
          -∗ wp frame (wpE (defs₀ (F := F)) Variants.none c none) Set.univ k Q)
      -∗ wp frame (wpE (defs₀ (F := F)) Variants.none c none) Set.univ
          (pass (issue table pool out sem i) n p h k) Q)
  | 0, p, h, e => by
    obtain rfl : p = 64 := by omega
    iintro ⟨HT, -, -, HB⟩ Hk
    unfold pass
    iapply Hk
    isplitl [HT]; · iexact HT
    iexact HB
  | n + 1, p, h, e => by
    have hp : p < 64 := by omega
    rw [Ring.bigSep_rangeSet_head (Φ := fun t => dstPt c i out t (dstAt c i out fd t)) hp hp,
      Ring.bigSep_rangeSet_head (Φ := srcPt c i table tab pool hw fs q) hp hp]
    iintro ⟨HT, ⟨HD, HDs⟩, ⟨HS, HSs⟩, HB⟩ Hk
    unfold pass
    iapply (issue_step c i table tab pool out hw fs fd q sem tq ⟨p, hp⟩) $$ [HT HD HS HB]
    · isplitl [HT]; · iexact HT
      isplitl [HD]; · iexact HD
      isplitl [HS]; · iexact HS
      iexact HB
    iintro ⟨HT, HB⟩
    iapply (issue_pass sem tq k Q n (p + 1) _ (by omega)) $$ [HT HDs HSs HB]
    · isplitl [HT]; · iexact HT
      isplitl [HDs]; · iexact HDs
      isplitl [HSs]; · iexact HSs
      iexact HB
    iexact Hk

/-- One copy's units waited for. -/
theorem await_step (sem : DmaSems sig S_) (tq : PosShare TreeShare) (p : Fin 64) (k : PUnit → Step F)
    (Q : PUnit → sProp 𝕄) (W : Waits sig Unit) :
    iprop((table.view.loc (c : Thread nD τ) ↦{tq} tab)
        ∗ copies c i table tab pool out hw fs fd q sem 64 (p * unitsN) ∗ owes (c : Thread nD τ) 0 W)
      ⊢ iprop((iprop((table.view.loc (c : Thread nD τ) ↦{tq} tab)
              ∗ copies c i table tab pool out hw fs fd q sem 64 ((p + 1) * unitsN) ∗ ∃ W, owes (c : Thread nD τ) 0 W)
            -∗ wp frame (wpE (defs₀ (F := F)) Variants.none c none) Set.univ (k ⟨⟩) Q)
          -∗ wp frame (wpE (defs₀ (F := F)) Variants.none c none) Set.univ
                (await table pool out sem i p p.isLt >>= k) Q) := by
  have hp := p.isLt
  iintro ⟨HT, HB, HO⟩ Hk
  unfold await
  iapply (withPage_step c i table tab hw tq p) $$ HT
  iintro HT
  iapply (Transfers.wp_waitBatchMul countersEmb Variants.none (c : Thread nD τ) none () (N := unitsN) 1 rfl
    (by show p * unitsN + 1 * unitsN ≤ unitsN * 64; unfold unitsN; omega)) $$ [HB HO]
  · isplitl [HB]; · iexact HB
    iexact HO
  iintro ⟨HB, HO⟩
  iapply Hk
  isplitl [HT]; · iexact HT
  isplitl [HB]
  · rw [Nat.add_mul]; iexact HB
  iexists _; iexact HO

/-- The pass that waits for the copies from place `p` on. -/
theorem await_pass (sem : DmaSems sig S_) (tq : PosShare TreeShare) (k : Step F)
    (Q : PUnit → sProp 𝕄) : ∀ (n p : ℕ) (h : p + n ≤ 64), p + n = 64 →
    iprop((table.view.loc (c : Thread nD τ) ↦{tq} tab)
      ∗ copies c i table tab pool out hw fs fd q sem 64 (p * unitsN) ∗ ∃ W, owes (c : Thread nD τ) 0 W)
    ⊢ iprop((iprop((table.view.loc (c : Thread nD τ) ↦{tq} tab)
            ∗ (bigSep Finset.univ (deliv c i table tab pool out hw fs fd q)
              ∗ semVal ((c : Thread nD τ), SemLoc.dma sem.sem) 0) ∗ ∃ W, owes (c : Thread nD τ) 0 W)
          -∗ wp frame (wpE (defs₀ (F := F)) Variants.none c none) Set.univ k Q)
      -∗ wp frame (wpE (defs₀ (F := F)) Variants.none c none) Set.univ
          (pass (await table pool out sem i) n p h k) Q)
  | 0, p, h, e => by
    obtain rfl : p = 64 := by omega
    iintro ⟨HT, HB, HO⟩ Hk
    unfold pass
    iapply (fupd_wp frame (wpE (defs₀ (F := F)) Variants.none c none) Set.univ _ _)
    imod (Transfers.batch_collect' countersEmb (c : Thread nD τ) (N := unitsN) (by decide)) $$ HB with HD
    imodintro
    iapply Hk
    isplitl [HT]; · iexact HT
    isplitl [HD]; · iexact HD
    iexact HO
  | n + 1, p, h, e => by
    have hp : p < 64 := by omega
    iintro ⟨HT, HB, ⟨%W, HO⟩⟩ Hk
    unfold pass
    iapply (await_step c i table tab pool out hw fs fd q sem tq ⟨p, hp⟩) $$ [HT HB HO]
    · isplitl [HT]; · iexact HT
      isplitl [HB]; · iexact HB
      iexact HO
    iintro ⟨HT, HB, HO⟩
    iapply (await_pass sem tq k Q n (p + 1) _ (by omega)) $$ [HT HB HO]
    · isplitl [HT]; · iexact HT
      isplitl [HB]; · iexact HB
      iexact HO
    iexact Hk

end
end Cert.KernelIdeal.Pages
-- ==== Proof.Row.lean ====
/- One row of the gather: what its 256 copies leave in the four results. -/
module

public import proofs.«01_k».proof.Proof.Run
public import Idealize.ShloMosaic.Lib.ShareLeaves
public import Idealize.ShloMosaic.Lib.ValueIdxCore

@[expose] public section

noncomputable section

namespace Cert.KernelIdeal.Pages

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- The cache gathered by a page table: row `r` of the result is the pages the table names in its row `r`, one after
    the other. -/
def gathered {α : Type} (tab : S128x64.Idx → BitVec 32) (pool : S10240x128x128.Idx → α) : S128x8192x128.Idx → α := fun j =>
  pool (ix3 ⟨(tab (ix2 (j 0) ⟨(j 1).val / 128, by have h : (j 1).val < 8192 := (j 1).isLt; omega⟩)).toNat % 10240,
      Nat.mod_lt _ (by decide)⟩ ⟨(j 1).val % 128, Nat.mod_lt _ (by decide)⟩ (j 2))

/-- The result's places in the first `n` rows. -/
def rows (n : ℕ) : Finset S128x8192x128.Idx := Finset.univ.filter fun j => (j 0).val < n

section
variable (c : Dev nD) (i : grid0.Coords) (table : Memref sig .tc .smem S128x64 .i32)
  (tab : Bf F c table) (pool : Memref sig .tc .hbm S10240x128x128 .f32) (out : Memref sig .tc .hbm S128x8192x128 .f32)

/-- The word the body reads is the table's, at row `i` and place `p`. -/
theorem word_eq (p : Fin 64) : word c i table tab p = table.view.read (Elt F) tab (ix2 (i 0) p) := by
  refine congrArg (table.view.read (Elt F) tab) (funext fun a => Fin.ext ?_)
  fin_cases a
  · show (BitVec.ofNat 32 (i 0).val).toNat + 1 * 0 = (i 0).val
    rw [coord_toNat]; omega
  · show p.val + 1 * 0 = p.val
    omega

theorem InPool.lt {v : BitVec 32} (h : InPool v) : v.toNat < 10240 := by
  have := h 0
  change v.toNat + 1 ≤ 10240 at this
  omega

theorem InPool.of_lt {v : BitVec 32} (h : v.toNat < 10240) : InPool v := by
  intro a
  fin_cases a
  · show v.toNat + 1 ≤ 10240
    omega
  · show 0 + 128 ≤ 128
    omega
  · show 0 + 128 ≤ 128
    omega

/-- A page's element of a pool, read through the page. -/
theorem read_srcPage (v : BitVec 32) (hv : InPool v) (fs : Bf F c pool) (x : S128x128.Idx) :
    (srcPage pool v hv).view.read (Elt F) fs x
      = pool.view.read (Elt F) fs (ix3 ⟨v.toNat, hv.lt⟩ (x 0) (x 1)) := by
  refine congrArg (pool.view.read (Elt F) fs) (funext fun a => Fin.ext ?_)
  have e : Shape.reshapeEquiv Shapes1.Facts₀.squeezes_S1x128x128_S128x128.numel_eq x
      = (Fin.cons ⟨0, Nat.one_pos⟩ x : S1x128x128.Idx) := Shape.reshapeEquiv_cons_one _ x
  show srcOff v a + 1 * (Shape.reshapeEquiv Shapes1.Facts₀.squeezes_S1x128x128_S128x128.numel_eq x a).val = _
  rw [e]
  fin_cases a
  · show v.toNat + 1 * 0 = v.toNat
    omega
  · show 0 + 1 * (x 0).val = (x 0).val
    omega
  · show 0 + 1 * (x 1).val = (x 1).val
    omega

theorem page_lt (p : Fin 64) (x : Fin 128) : p.val * 128 + x.val < 8192 := by omega

/-- Where a page's element lies in the result. -/
theorem emb_dstPage (p : Fin 64) (x : S128x128.Idx) :
    (dstPage out i p p.isLt).view.emb x = out.view.emb (ix3 (i 0) ⟨p.val * 128 + (x 0).val, page_lt p (x 0)⟩ (x 1)) := by
  refine congrArg out.view.emb (funext fun a => Fin.ext ?_)
  have e : Shape.reshapeEquiv Shapes1.Facts₀.squeezes_S1x128x128_S128x128.numel_eq x
      = (Fin.cons ⟨0, Nat.one_pos⟩ x : S1x128x128.Idx) := Shape.reshapeEquiv_cons_one _ x
  show dstOff i p a + 1 * (Shape.reshapeEquiv Shapes1.Facts₀.squeezes_S1x128x128_S128x128.numel_eq x a).val = _
  rw [e]
  fin_cases a
  · show (BitVec.ofNat 32 (i 0).val).toNat + 1 * 0 = (i 0).val
    rw [coord_toNat]; omega
  · show p.val * 128 + 1 * (x 0).val = p.val * 128 + (x 0).val
    omega
  · show 0 + 1 * (x 1).val = (x 1).val
    omega

/-- The elements of the result that are page `p`'s of row `i`. -/
abbrev pageSet (p : Fin 64) : Finset (Idx (out.view.loc (c : Thread nD τ))) := (dstPage out i p p.isLt).view.set

theorem mem_pageSet {p : Fin 64} {x : Idx (out.view.loc (c : Thread nD τ))} :
    x ∈ pageSet c i out p ↔ ∃ y : S128x128.Idx,
      out.view.emb (ix3 (i 0) ⟨p.val * 128 + (y 0).val, page_lt p (y 0)⟩ (y 1)) = x := by
  constructor
  · intro h
    obtain ⟨y, -, hy⟩ := Finset.mem_map.mp h
    exact ⟨y, (emb_dstPage i out p y).symm.trans hy⟩
  · rintro ⟨y, hy⟩
    exact Finset.mem_map.mpr ⟨y, Finset.mem_univ _, (emb_dstPage i out p y).trans hy⟩

theorem pageSet_disjoint (p p' : Fin 64) (h : p ≠ p') : Disjoint (pageSet c i out p) (pageSet c i out p') := by
  rw [Finset.disjoint_left]
  intro x hx hx'
  obtain ⟨y, hy⟩ := (mem_pageSet c i out).mp hx
  obtain ⟨y', hy'⟩ := (mem_pageSet c i out).mp hx'
  have e := congrArg Fin.val (congrFun (out.view.emb.injective (hy.trans hy'.symm)) 1)
  change p.val * 128 + (y 0).val = p'.val * 128 + (y' 0).val at e
  have h0 : (y 0).val < 128 := (y 0).isLt
  have h1 : (y' 0).val < 128 := (y' 0).isLt
  exact h (Fin.ext (by omega))

/-- The elements of the result in row `i`. -/
def rowSet : Finset (Idx (out.view.loc (c : Thread nD τ))) := Finset.univ.biUnion (pageSet c i out)

variable (V : Bf F c out) (G : S128x8192x128.Idx → Elt F .f32)

/-- A result with its first `n` rows holding `G`. -/
def upTo (n : ℕ) : Bf F c out := out.view.write (Elt F) V G (rows n)

/-- Off row `i`, another row done changes nothing. -/
theorem upTo_off {x : Idx (out.view.loc (c : Thread nD τ))} (hx : x ∉ rowSet c i out) :
    upTo c out V G (i 0).val x = upTo c out V G ((i 0).val + 1) x := by
  by_cases h : x ∈ out.view.set
  · obtain ⟨j, -, rfl⟩ := Finset.mem_map.mp h
    have hj : (j 0).val ≠ (i 0).val := by
      intro e
      apply hx
      have h1 : (j 1).val < 8192 := (j 1).isLt
      refine Finset.mem_biUnion.mpr ⟨⟨(j 1).val / 128, by omega⟩, Finset.mem_univ _, (mem_pageSet c i out).mpr
        ⟨ix2 ⟨(j 1).val % 128, Nat.mod_lt _ (by decide)⟩ (j 2), congrArg out.view.emb (funext fun a => Fin.ext ?_)⟩⟩
      fin_cases a
      · exact e.symm
      · show (j 1).val / 128 * 128 + (j 1).val % 128 = (j 1).val
        omega
      · rfl
    have : (j ∈ rows (i 0).val) = (j ∈ rows ((i 0).val + 1)) := by
      simp only [rows, Finset.mem_filter, Finset.mem_univ, true_and]
      exact propext ⟨fun h => by omega, fun h => by omega⟩
    unfold upTo
    rw [View.write_emb, View.write_emb]
    simp only [this]
  · unfold upTo
    rw [View.write_of_not_mem _ _ _ (fun hm => h (out.view.setOn_subset_set _ hm)),
      View.write_of_not_mem _ _ _ (fun hm => h (out.view.setOn_subset_set _ hm))]

variable (hw : ∀ p, InPool (word c i table tab p)) (fs : Bf F c pool)

/-- On page `p` of row `i`, the page landed is the row done. -/
theorem landed_eq (fd : Bf F c out) (p : Fin 64) {x : Idx (out.view.loc (c : Thread nD τ))} (hx : x ∈ pageSet c i out p) :
    landed c i table tab pool out hw fs fd p x
      = upTo c out V (gathered (table.view.read (Elt F) tab) (pool.view.read (Elt F) fs)) ((i 0).val + 1) x := by
  obtain ⟨y, -, rfl⟩ := Finset.mem_map.mp hx
  have hy : (y 0).val < 128 := (y 0).isLt
  have e : (dstPage out i p p.isLt).view.emb y
      = out.view.emb (ix3 (i 0) ⟨p.val * 128 + (y 0).val, page_lt p (y 0)⟩ (y 1)) := emb_dstPage i out p y
  have hm : ix3 (i 0) ⟨p.val * 128 + (y 0).val, page_lt p (y 0)⟩ (y 1) ∈ rows ((i 0).val + 1) :=
    Finset.mem_filter.mpr ⟨Finset.mem_univ _, Nat.lt_succ_self _⟩
  refine (View.write_emb_of_mem _ _ (Finset.mem_univ y)).trans ?_
  refine Eq.trans ?_ (congrArg (upTo c out V _ _) e).symm
  refine Eq.trans ?_ (View.write_emb_of_mem _ _ hm).symm
  refine congrArg (_root_.cast (congrArg (Elt F) out.view.elt_eq.symm)) ?_
  show (srcPage pool (word c i table tab p) (hw p)).view.read (Elt F) (srcAt c i table tab pool hw fs p) y = _
  rw [read_srcPage]
  unfold gathered
  refine congrArg _ (funext fun a => Fin.ext ?_)
  have hp : (p.val * 128 + (y 0).val) / 128 = p.val := by omega
  fin_cases a
  · show (word c i table tab p).toNat = (table.view.read (Elt F) tab (ix2 (i 0) ⟨(p.val * 128 + (y 0).val) / 128, _⟩)).toNat % 10240
    have e2 : (⟨(p.val * 128 + (y 0).val) / 128, by omega⟩ : Fin 64) = p := Fin.ext hp
    rw [e2, ← word_eq, Nat.mod_eq_of_lt (hw p).lt]
  · show (y 0).val = (p.val * 128 + (y 0).val) % 128
    omega
  · rfl

/-! ### A row's resources dealt to its copies, and collected -/

/-- The pool's elements that are page `p`'s. -/
abbrev srcSet (p : Fin 64) : Finset (Idx (pool.view.loc (c : Thread nD τ))) :=
  (srcPage pool (word c i table tab p) (hw p)).view.set

/-- Place `p`'s share of the pool: one of 64 equal shares. -/
def shareAt (p : Fin 64) : PosShare TreeShare := ShareLeaves.leaf 6 fullShare p

/-- What a row's copies of one pool leave where it is: the result's other rows, and each share's other pages. -/
def kept (fd : Bf F c out) : sProp 𝕄 :=
  iprop((out.view.loc (c : Thread nD τ) ↦[Finset.univ \ rowSet c i out]{fullShare} fd)
    ∗ bigSep Finset.univ fun p => pool.view.loc (c : Thread nD τ) ↦[Finset.univ \ srcSet c i table tab pool hw p]{shareAt p} fs)

/-- A whole result is the pages of row `i` and the rest. -/
theorem split_out (fd : Bf F c out) : (out.view.loc (c : Thread nD τ) ↦{fullShare} fd : sProp 𝕄)
    ⊣⊢ iprop(bigSep Finset.univ (fun p => dstPt c i out p (dstAt c i out fd p))
        ∗ out.view.loc (c : Thread nD τ) ↦[Finset.univ \ rowSet c i out]{fullShare} fd) := by
  have h : (out.view.loc (c : Thread nD τ) ↦{fullShare} fd : sProp 𝕄) ⊣⊢ _ :=
    pointsTo_split_subset (Finset.subset_univ (rowSet c i out))
  have e : (out.view.loc (c : Thread nD τ) ↦[rowSet c i out]{fullShare} fd : sProp 𝕄)
      = bigSep Finset.univ (fun p => dstPt c i out p (dstAt c i out fd p)) :=
    pointsTo_biUnion Finset.univ (pageSet c i out) fun p _ p' _ hp => pageSet_disjoint c i out p p' hp
  rw [e] at h
  exact h

/-- A whole pool is each place's page at its share, and the rest of each share. -/
theorem split_pool : (pool.view.loc (c : Thread nD τ) ↦{fullShare} fs : sProp 𝕄)
    = iprop(bigSep Finset.univ (srcPt c i table tab pool hw fs shareAt)
        ∗ bigSep Finset.univ fun p => pool.view.loc (c : Thread nD τ) ↦[Finset.univ \ srcSet c i table tab pool hw p]{shareAt p} fs) := by
  refine (ShareLeaves.pointsTo_leaves Finset.univ fs 6 fullShare).trans (Eq.trans (BI.bigSep_congr fun p _ => ?_)
    (BI.bigSep_sep Finset.univ (srcPt c i table tab pool hw fs shareAt) _))
  exact BI.Entails.antisymm (pointsTo_split_subset (Finset.subset_univ (srcSet c i table tab pool hw p))).1
    (pointsTo_split_subset (Finset.subset_univ (srcSet c i table tab pool hw p))).2

/-- Before a row, a pool, its result and its semaphore at zero make the batch of the row's copies. -/
theorem open_pool (fd : Bf F c out) (sem : DmaSems sig S_) :
    (iprop((pool.view.loc (c : Thread nD τ) ↦{fullShare} fs) ∗ (out.view.loc (c : Thread nD τ) ↦{fullShare} fd)
        ∗ semVal ((c : Thread nD τ), SemLoc.dma sem.sem) 0) : sProp 𝕄)
      ⊢ |={Set.univ}=> iprop(bigSep (Ring.rangeSet 64 0 64) (fun t => dstPt c i out t (dstAt c i out fd t))
        ∗ bigSep (Ring.rangeSet 64 0 64) (srcPt c i table tab pool hw fs shareAt)
        ∗ copies c i table tab pool out hw fs fd shareAt sem 0 0
        ∗ kept c i table tab pool out hw fs fd) := by
  rw [split_pool c i table tab pool hw fs, Ring.rangeSet_univ]
  iintro ⟨⟨HS, HSr⟩, HO, HC⟩
  ihave HO' := (split_out c i out fd).1 $$ HO
  icases HO' with ⟨HD, HDr⟩
  imod (Transfers.batch_alloc' (Lvl := ℕ) countersEmb (c : Thread nD τ) () unitsN
    (deliv c i table tab pool out hw fs fd shareAt) (sm := .dma sem.sem) (E := Set.univ)) $$ HC with HB
  imodintro
  isplitl [HD]; · iexact HD
  isplitl [HS]; · iexact HS
  isplitl [HB]; · iexact HB
  unfold kept
  isplitl [HDr]; · iexact HDr
  iexact HSr

/-- What a row's copies deliver: the pages landed, and the shares of the pool. -/
theorem split_deliv (fd : Bf F c out) :
    (bigSep Finset.univ (deliv c i table tab pool out hw fs fd shareAt) : sProp 𝕄)
      ⊢ iprop(bigSep Finset.univ (fun p => dstPt c i out p (landed c i table tab pool out hw fs fd p))
          ∗ bigSep Finset.univ (srcPt c i table tab pool hw fs shareAt)) :=
  Entails.of_eq (BI.bigSep_sep Finset.univ _ _)

/-- After a row, what its copies delivered and what stayed make the pool and the result with one more row. -/
theorem close_pool :
    (iprop(bigSep Finset.univ (deliv c i table tab pool out hw fs
          (upTo c out V (gathered (table.view.read (Elt F) tab) (pool.view.read (Elt F) fs)) (i 0).val) shareAt)
        ∗ kept c i table tab pool out hw fs
          (upTo c out V (gathered (table.view.read (Elt F) tab) (pool.view.read (Elt F) fs)) (i 0).val)) : sProp 𝕄)
      ⊢ iprop((pool.view.loc (c : Thread nD τ) ↦{fullShare} fs)
        ∗ out.view.loc (c : Thread nD τ) ↦{fullShare}
            upTo c out V (gathered (table.view.read (Elt F) tab) (pool.view.read (Elt F) fs)) ((i 0).val + 1)) := by
  unfold kept
  rw [split_pool c i table tab pool hw fs]
  iintro ⟨HB, HDr, HSr⟩
  ihave HB' := (split_deliv c i table tab pool out hw fs _) $$ HB
  icases HB' with ⟨HD, HS⟩
  isplitl [HS HSr]
  · isplitl [HS]; · iexact HS
    iexact HSr
  iapply (split_out c i out _).2
  isplitl [HD]
  · iapply (Entails.of_eq (BI.bigSep_congr fun p _ => pointsTo_congr fun x hx =>
      landed_eq c i table tab pool out V hw fs _ p hx)) $$ HD
  · iapply (Entails.of_eq (pointsTo_congr fun x hx => upTo_off c i out V _ (Finset.mem_sdiff.mp hx).2)) $$ HDr

/-- A result's contents before row `n`, one pool's pages gathered by the table into it. -/
abbrev gatheredTo (n : ℕ) : Bf F c out :=
  upTo c out V (gathered (table.view.read (Elt F) tab) (pool.view.read (Elt F) fs)) n

/-- A pool whole, its result with its first `n` rows gathered, and its semaphore at zero. -/
def lane (sem : DmaSems sig S_) (n : ℕ) : sProp 𝕄 :=
  iprop((pool.view.loc (c : Thread nD τ) ↦{fullShare} fs)
    ∗ (out.view.loc (c : Thread nD τ) ↦{fullShare} gatheredTo c table tab pool out V fs n)
    ∗ semVal ((c : Thread nD τ), SemLoc.dma sem.sem) 0)

/-- A lane's copies issued: its batch goes out and what stays is kept, before the rest of the row. -/
theorem issue_lane (sem : DmaSems sig S_) (tq : PosShare TreeShare) (k : Step F) (Q : PUnit → sProp 𝕄) :
    iprop((table.view.loc (c : Thread nD τ) ↦{tq} tab) ∗ lane c table tab pool out V fs sem (i 0).val)
      ⊢ iprop((iprop((table.view.loc (c : Thread nD τ) ↦{tq} tab)
              ∗ copies c i table tab pool out hw fs (gatheredTo c table tab pool out V fs (i 0).val) shareAt sem 64 0
              ∗ kept c i table tab pool out hw fs (gatheredTo c table tab pool out V fs (i 0).val))
            -∗ wp frame (wpE (defs₀ (F := F)) Variants.none c none) Set.univ k Q)
        -∗ wp frame (wpE (defs₀ (F := F)) Variants.none c none) Set.univ
            (pass (issue table pool out sem i) 64 0 (le_refl _) k) Q) := by
  unfold lane
  iintro ⟨HT, HL⟩ Hk
  iapply (fupd_wp frame (wpE (defs₀ (F := F)) Variants.none c none) Set.univ _ _)
  imod (open_pool c i table tab pool out hw fs (gatheredTo c table tab pool out V fs (i 0).val) sem) $$ HL with ⟨HD, HS, HB, HK⟩
  imodintro
  iapply (issue_pass c i table tab pool out hw fs (gatheredTo c table tab pool out V fs (i 0).val) shareAt sem tq k Q
    64 0 (le_refl _) rfl) $$ [HT HD HS HB]
  · isplitl [HT]; · iexact HT
    isplitl [HD]; · iexact HD
    isplitl [HS]; · iexact HS
    iexact HB
  iintro ⟨HT, HB⟩
  iapply Hk
  isplitl [HT]; · iexact HT
  isplitl [HB]; · iexact HB
  iexact HK

/-- A lane's copies waited for: the lane is back with row `i` gathered. -/
theorem await_lane (sem : DmaSems sig S_) (tq : PosShare TreeShare) (k : Step F) (Q : PUnit → sProp 𝕄) :
    iprop((table.view.loc (c : Thread nD τ) ↦{tq} tab)
        ∗ (copies c i table tab pool out hw fs (gatheredTo c table tab pool out V fs (i 0).val) shareAt sem 64 0
          ∗ kept c i table tab pool out hw fs (gatheredTo c table tab pool out V fs (i 0).val))
        ∗ ∃ W, owes (c : Thread nD τ) 0 W)
      ⊢ iprop((iprop((table.view.loc (c : Thread nD τ) ↦{tq} tab)
              ∗ lane c table tab pool out V fs sem ((i 0).val + 1) ∗ ∃ W, owes (c : Thread nD τ) 0 W)
            -∗ wp frame (wpE (defs₀ (F := F)) Variants.none c none) Set.univ k Q)
        -∗ wp frame (wpE (defs₀ (F := F)) Variants.none c none) Set.univ
            (pass (await table pool out sem i) 64 0 (le_refl _) k) Q) := by
  iintro ⟨HT, ⟨HB, HK⟩, HO⟩ Hk
  iapply (await_pass c i table tab pool out hw fs (gatheredTo c table tab pool out V fs (i 0).val) shareAt sem tq k Q
    64 0 (le_refl _) rfl) $$ [HT HB HO]
  · isplitl [HT]; · iexact HT
    isplitl [HB]
    · rw [Nat.zero_mul]; iexact HB
    iexact HO
  iintro ⟨HT, ⟨HD, HC⟩, HO⟩
  ihave HL := (close_pool c i table tab pool out V hw fs) $$ [HD HK]
  · isplitl [HD]; · iexact HD
    iexact HK
  icases HL with ⟨HP, HR⟩
  iapply Hk
  isplitl [HT]; · iexact HT
  isplitl [HP HR HC]
  · unfold lane
    isplitl [HP]; · iexact HP
    isplitl [HR]; · iexact HR
    iexact HC
  iexact HO

end

section
variable (c : Dev nD) (i : grid0.Coords) (table : Memref sig .tc .smem S128x64 .i32) (tab : Bf F c table)
  (hw : ∀ p, InPool (word c i table tab p))
  (p0 p1 p2 p3 : Memref sig .tc .hbm S10240x128x128 .f32) (o0 o1 o2 o3 : Memref sig .tc .hbm S128x8192x128 .f32)
  (s0 : Bf F c p0) (s1 : Bf F c p1) (s2 : Bf F c p2) (s3 : Bf F c p3)
  (V0 : Bf F c o0) (V1 : Bf F c o1) (V2 : Bf F c o2) (V3 : Bf F c o3) (sems : DmaSems sig S4)

/-- The four lanes of the kernel before row `n`. -/
def lanes (n : ℕ) : sProp 𝕄 :=
  iprop(lane c table tab p0 o0 V0 s0 (cellAt sems 0 Shapes1.Facts₀.inb_S4_S1_0) n
    ∗ lane c table tab p1 o1 V1 s1 (cellAt sems 1 Shapes1.Facts₀.inb_S4_S1_1) n
    ∗ lane c table tab p2 o2 V2 s2 (cellAt sems 2 Shapes1.Facts₀.inb_S4_S1_2) n
    ∗ lane c table tab p3 o3 V3 s3 (cellAt sems 3 Shapes1.Facts₀.inb_S4_S1_3) n)

include hw in
/-- One run of the body gathers row `i` in all four results. -/
theorem gather_row (tq : PosShare TreeShare) :
    (iprop((table.view.loc (c : Thread nD τ) ↦{tq} tab)
        ∗ lanes c table tab p0 p1 p2 p3 o0 o1 o2 o3 s0 s1 s2 s3 V0 V1 V2 V3 sems (i 0).val
        ∗ ∃ W, owes (c : Thread nD τ) 0 W) : sProp 𝕄)
      ⊢ wp frame (wpE (defs₀ (F := F)) Variants.none c none) Set.univ (gather i table p0 p1 p2 p3 o0 o1 o2 o3 sems)
          fun _ => iprop((table.view.loc (c : Thread nD τ) ↦{tq} tab)
            ∗ lanes c table tab p0 p1 p2 p3 o0 o1 o2 o3 s0 s1 s2 s3 V0 V1 V2 V3 sems ((i 0).val + 1)
            ∗ ∃ W, owes (c : Thread nD τ) 0 W) := by
  unfold lanes gather
  iintro ⟨HT, ⟨L0, L1, L2, L3⟩, HO⟩
  iapply (issue_lane c i table tab p0 o0 V0 hw s0 _ tq _ _) $$ [HT L0]
  · isplitl [HT]; · iexact HT
    iexact L0
  iintro ⟨HT, B0⟩
  iapply (issue_lane c i table tab p1 o1 V1 hw s1 _ tq _ _) $$ [HT L1]
  · isplitl [HT]; · iexact HT
    iexact L1
  iintro ⟨HT, B1⟩
  iapply (issue_lane c i table tab p2 o2 V2 hw s2 _ tq _ _) $$ [HT L2]
  · isplitl [HT]; · iexact HT
    iexact L2
  iintro ⟨HT, B2⟩
  iapply (issue_lane c i table tab p3 o3 V3 hw s3 _ tq _ _) $$ [HT L3]
  · isplitl [HT]; · iexact HT
    iexact L3
  iintro ⟨HT, B3⟩
  iapply (await_lane c i table tab p0 o0 V0 hw s0 _ tq _ _) $$ [HT B0 HO]
  · isplitl [HT]; · iexact HT
    isplitl [B0]; · iexact B0
    iexact HO
  iintro ⟨HT, L0, HO⟩
  iapply (await_lane c i table tab p1 o1 V1 hw s1 _ tq _ _) $$ [HT B1 HO]
  · isplitl [HT]; · iexact HT
    isplitl [B1]; · iexact B1
    iexact HO
  iintro ⟨HT, L1, HO⟩
  iapply (await_lane c i table tab p2 o2 V2 hw s2 _ tq _ _) $$ [HT B2 HO]
  · isplitl [HT]; · iexact HT
    isplitl [B2]; · iexact B2
    iexact HO
  iintro ⟨HT, L2, HO⟩
  iapply (await_lane c i table tab p3 o3 V3 hw s3 _ tq _ _) $$ [HT B3 HO]
  · isplitl [HT]; · iexact HT
    isplitl [B3]; · iexact B3
    iexact HO
  iintro ⟨HT, L3, HO⟩
  rw [wp_ret]
  imodintro
  isplitl [HT]; · iexact HT
  isplitl [L0 L1 L2 L3]
  · isplitl [L0]; · iexact L0
    isplitl [L1]; · iexact L1
    isplitl [L2]; · iexact L2
    iexact L3
  iexact HO

end
end Cert.KernelIdeal.Pages
-- ==== Proof.Launch.lean ====
/- The whole run: the gather's grid of 128 rows, launched after the host's reshapes of the pools. -/
module

public import proofs.«01_k».proof.Proof.Row
public import proofs.«01_k».proof.Proof.Gen.KernelIdeal.Launch

@[expose] public section

noncomputable section

namespace Cert.KernelIdeal.Pages

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (UD Dat BodyObligation)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- What each buffer holds once the host's reshapes are done. -/
def V (c : Dev nD) (b : Ref sig .tc) : Buf (Elt F) ((c : Thread nD τ).loc b) :=
  StableHlo.after Gen.hostOps0 (fun b => m (c, b)) b

/-- The page table, which the reshapes leave alone. -/
def tbl : pre0.Contents (Elt F) := fun k => V m (0 : Dev nD) (pre0.ref k)

theorem V_pre (c : Dev nD) (k : Fin 1) : V m c (pre0.ref k) = tbl m k := by
  obtain rfl : c = 0 := Subsingleton.elim _ _; rfl

/-- What the proof asks of the launch: the words of the page table name pages of the pools. -/
def PagesInPool : Prop := ∀ (c : Dev nD) (x : S128x64.Idx), (V m c main_arg4 x : BitVec 32).toNat < 10240

abbrev adm : (pcfg0 (F := F)).Adm := ⟨tbl m, trivial⟩

/-! ## The four lanes at the call's own buffers -/

/-- The lanes of the call on core `c`, their results gathered up to row `n`. -/
def lanesAt (c : Dev nD) (n : ℕ) : sProp 𝕄 :=
  lanes c (Memref.whole main_arg4) (V m c main_arg4)
    (Memref.whole main_v1) (Memref.whole main_v3) (Memref.whole main_v5) (Memref.whole main_v7)
    (Memref.whole main_v8_0) (Memref.whole main_v8_1) (Memref.whole main_v8_2) (Memref.whole main_v8_3)
    (V m c main_v1) (V m c main_v3) (V m c main_v5) (V m c main_v7)
    (V m c main_v8_0) (V m c main_v8_1) (V m c main_v8_2) (V m c main_v8_3) cc0_scratch0 n

/-- The invariant of the grid before row `n`. -/
def Inv (c : Dev nD) (n : ℕ) : sProp 𝕄 :=
  iprop((((c : Thread nD τ).loc main_arg4) ↦{fullShare.right} V m c main_arg4) ∗ lanesAt m c n ∗ ∃ r, prngReg c r)

/-- The proof data of the call: it has no windows, so the invariant is all. -/
def dats (_ : Fin 1) (c : Dev nD) : Dat τ (Elt F) Unit ℕ (UD sig nD τ) ℕ (cfg0 (adm m)) c where
  A w := w.elim0
  after w := w.elim0
  Φ t := Inv m c t.val
  q _ := fullShare
  owed _ := 0

/-- The buffers that the body reads by its own copies, and those it writes. -/
abbrev Hs : Finset (Ref sig .tc) := {main_v1, main_v3, main_v5, main_v7}
abbrev Rs : Finset (Ref sig .tc) := {main_v8_0, main_v8_1, main_v8_2, main_v8_3}

/-- The four semaphores of the call. -/
abbrev osem : Fin 4 → SemLoc sig := fun
  | 0 => .dma (cellAt cc0_scratch0 0 Shapes1.Facts₀.inb_S4_S1_0).sem
  | 1 => .dma (cellAt cc0_scratch0 1 Shapes1.Facts₀.inb_S4_S1_1).sem
  | 2 => .dma (cellAt cc0_scratch0 2 Shapes1.Facts₀.inb_S4_S1_2).sem
  | 3 => .dma (cellAt cc0_scratch0 3 Shapes1.Facts₀.inb_S4_S1_3).sem

theorem ownSemFacts : Pipeline.OwnSemFacts spec0 osem := by decide

theorem coords_val (t : Fin grid0.N) : (grid0.coords t 0).val = t.val := by
  rw [Pipeline.Grid.coords_val t 0 (S := 1) (B := 128) (by decide) (by decide)]
  have h : t.val < 128 := lt_of_lt_of_eq t.isLt Gen.N_0
  omega

/-- The body gathers its row. -/
theorem body_obligation (hO : PagesInPool m) (c : Dev nD) :
    BodyObligation (dats m 0 c) (defs₀ (F := F)) Variants.none () Set.univ := fun t => by
  have hw : ∀ p, InPool (word c (grid0.coords t) (Memref.whole main_arg4) (V m c main_arg4) p) := fun p => by
    rw [word_eq]; exact InPool.of_lt (hO c _)
  have hrun := gather_row c (grid0.coords t) (Memref.whole main_arg4) (V m c main_arg4) hw
    (Memref.whole main_v1) (Memref.whole main_v3) (Memref.whole main_v5) (Memref.whole main_v7)
    (Memref.whole main_v8_0) (Memref.whole main_v8_1) (Memref.whole main_v8_2) (Memref.whole main_v8_3)
    (V m c main_v1) (V m c main_v3) (V m c main_v5) (V m c main_v7)
    (V m c main_v8_0) (V m c main_v8_1) (V m c main_v8_2) (V m c main_v8_3) cc0_scratch0 fullShare.right
  rw [← body_eq _ _ _ _ _ _ _ _ _ _ _ (Memref.isWhole_whole _) (Memref.isWhole_whole _) (Memref.isWhole_whole _)
    (Memref.isWhole_whole _) (Memref.isWhole_whole _) (Memref.isWhole_whole _) (Memref.isWhole_whole _)
    (Memref.isWhole_whole _) (Memref.isWhole_whole _), coords_val] at hrun
  rw [show (dats m 0 c).Φ t.castSucc = Inv m c t.val from rfl, show (dats m 0 c).Φ t.succ = Inv m c (t.val + 1) from rfl]
  unfold Inv lanesAt Dat.owesAt Pipeline.owesWithin
  rw [show (dats m 0 c).owed t.castSucc = 0 from rfl, show (dats m 0 c).owed t.succ = 0 from rfl]
  iintro ⟨⟨HT, HL, Hr⟩, ⟨%W, %hW, HO⟩, HB⟩
  iapply (wp_wand frame (wpE (defs₀ (F := F)) Variants.none (c : Thread nD τ) none) Set.univ) $$ [HT HL HO]
  · iapply hrun
    isplitl [HT]; · iexact HT
    isplitl [HL]; · iexact HL
    iexists W; iexact HO
  iintro %_ ⟨HT, HL, ⟨%W', HO⟩⟩
  isplitl [HT HL Hr]
  · isplitl [HT]; · iexact HT
    isplitl [HL]; · iexact HL
    iexact Hr
  isplitl [HO]
  · iexists W'; isplitr
    · ipureintro; exact fun _ _ => Or.inl trivial
    · iexact HO
  · iexact HB

/-! ## The launch -/

/-- What the results hold at the end: the pools gathered by the table. -/
def G (c : Dev nD) (b : Ref sig .tc) : Buf (Elt F) ((c : Thread nD τ).loc b) :=
  Function.update (Function.update (Function.update (Function.update (V m c)
    main_v8_0 (gathered (V m c main_arg4) (V m c main_v1)))
    main_v8_1 (gathered (V m c main_arg4) (V m c main_v3)))
    main_v8_2 (gathered (V m c main_arg4) (V m c main_v5)))
    main_v8_3 (gathered (V m c main_arg4) (V m c main_v7)) b

theorem G_0 (c : Dev nD) : G m c main_v8_0 = gathered (V m c main_arg4) (V m c main_v1) := by
  unfold G
  rw [Function.update_of_ne (by decide), Function.update_of_ne (by decide), Function.update_of_ne (by decide),
    Function.update_self]
theorem G_1 (c : Dev nD) : G m c main_v8_1 = gathered (V m c main_arg4) (V m c main_v3) := by
  unfold G
  rw [Function.update_of_ne (by decide), Function.update_of_ne (by decide), Function.update_self]
theorem G_2 (c : Dev nD) : G m c main_v8_2 = gathered (V m c main_arg4) (V m c main_v5) := by
  unfold G
  rw [Function.update_of_ne (by decide), Function.update_self]
theorem G_3 (c : Dev nD) : G m c main_v8_3 = gathered (V m c main_arg4) (V m c main_v7) := by
  unfold G
  rw [Function.update_self]

theorem rows_zero : rows 0 = ∅ := Finset.filter_eq_empty_iff.mpr fun _ _ => Nat.not_lt_zero _
theorem rows_all : rows 128 = Finset.univ := Finset.filter_eq_self.mpr fun j _ => (j 0).isLt

/-- A result gathered up to row 0 is as it was. -/
theorem upTo_zero (c : Dev nD) (out : Memref sig .tc .hbm S128x8192x128 .f32) (W : Bf F c out) (g) :
    upTo c out W g 0 = W := by
  unfold upTo; rw [rows_zero]
  exact View.write_empty _ _
theorem ownSems_eq (c : Dev nD) :
    (Pipeline.ownSems0 (Ix := Unit) (Name := ℕ) (U := UD sig nD τ) (Lvl := ℕ) (Val := Elt F) (τ := τ) osem c : sProp 𝕄)
      = iprop(semVal ((c : Thread nD τ), osem 0) 0 ∗ semVal ((c : Thread nD τ), osem 1) 0
        ∗ semVal ((c : Thread nD τ), osem 2) 0 ∗ semVal ((c : Thread nD τ), osem 3) 0) :=
  Pipeline.ownSems0_eq_of_list c osem [0, 1, 2, 3] (by decide) (by decide)

theorem held_eq (c : Dev nD) :
    ((bigSep Hs fun b => ((c : Thread nD τ).loc b) ↦{fullShare} V m c b) : sProp 𝕄)
      = iprop((((c : Thread nD τ).loc main_v1) ↦{fullShare} V m c main_v1) ∗ (((c : Thread nD τ).loc main_v3) ↦{fullShare} V m c main_v3)
        ∗ (((c : Thread nD τ).loc main_v5) ↦{fullShare} V m c main_v5) ∗ (((c : Thread nD τ).loc main_v7) ↦{fullShare} V m c main_v7)) := by
  rw [bigSep_insert (by decide), bigSep_insert (by decide), bigSep_insert (by decide), BI.bigSep_singleton]; rfl

theorem routed_eq (c : Dev nD) (W : (b : Ref sig .tc) → Buf (Elt F) ((c : Thread nD τ).loc b)) :
    (Pipeline.routed Rs c W : sProp 𝕄)
      = iprop((((c : Thread nD τ).loc main_v8_0) ↦{fullShare} W main_v8_0) ∗ (((c : Thread nD τ).loc main_v8_1) ↦{fullShare} W main_v8_1)
        ∗ (((c : Thread nD τ).loc main_v8_2) ↦{fullShare} W main_v8_2) ∗ (((c : Thread nD τ).loc main_v8_3) ↦{fullShare} W main_v8_3)) := by
  unfold Pipeline.routed
  rw [bigSep_insert (by decide), bigSep_insert (by decide), bigSep_insert (by decide), BI.bigSep_singleton]; rfl

/-- A lane before the first row: its result is as it was. -/
theorem lane_zero (c : Dev nD) (table : Memref sig .tc .smem S128x64 .i32) (tab : Bf F c table)
    (pool : Memref sig .tc .hbm S10240x128x128 .f32) (out : Memref sig .tc .hbm S128x8192x128 .f32)
    (W : Bf F c out) (fs : Bf F c pool) (sem : DmaSems sig S_) :
    lane c table tab pool out W fs sem 0
      = iprop((pool.view.loc (c : Thread nD τ) ↦{fullShare} fs) ∗ (out.view.loc (c : Thread nD τ) ↦{fullShare} W)
        ∗ semVal ((c : Thread nD τ), SemLoc.dma sem.sem) 0) := by
  unfold lane gatheredTo; rw [upTo_zero]

/-- The grid's start: what the launch hands over is the invariant before row 0. -/
theorem enter (c : Dev nD) :
    iprop(Pipeline.ΦDRG osem spec0 Hs Rs (V m) (V m) c ∗ Pipeline.ΦT pre0 (tbl m) c) ⊢ (Inv m c 0 : sProp 𝕄) := by
  unfold Inv lanesAt lanes Pipeline.ΦT Pipeline.prefHeld
  rw [Pipeline.ΦDRG_eq, Gen.scopedRest0_eq, ownSems_eq, held_eq, routed_eq, lane_zero, lane_zero, lane_zero, lane_zero,
    show (Finset.univ : Finset (Fin 1)) = {0} from rfl, BI.bigSep_singleton, ← V_pre m c 0]
  iintro ⟨⟨-, Hr, ⟨S0, S1, S2, S3⟩, ⟨P0, P1, P2, P3⟩, ⟨O0, O1, O2, O3⟩⟩, HT⟩
  isplitl [HT]; · iexact HT
  isplitr [Hr]; swap; · iexact Hr
  isplitl [P0 O0 S0]
  · isplitl [P0]; · iexact P0
    isplitl [O0]; · iexact O0
    iexact S0
  isplitl [P1 O1 S1]
  · isplitl [P1]; · iexact P1
    isplitl [O1]; · iexact O1
    iexact S1
  isplitl [P2 O2 S2]
  · isplitl [P2]; · iexact P2
    isplitl [O2]; · iexact O2
    iexact S2
  · isplitl [P3]; · iexact P3
    isplitl [O3]; · iexact O3
    iexact S3

/-- The grid's end: after row 127 the results are gathered whole. -/
theorem leave (c : Dev nD) : (Inv m c 128 : sProp 𝕄) ⊢ Pipeline.ΦDRG osem spec0 Hs Rs (V m) (G m) c := by
  rw [Pipeline.ΦDRG_eq, Gen.scopedRest0_eq, ownSems_eq, held_eq, routed_eq, G_0, G_1, G_2, G_3]
  unfold Inv lanesAt lanes lane gatheredTo upTo
  rw [rows_all]
  iintro ⟨-, ⟨⟨P0, O0, S0⟩, ⟨P1, O1, S1⟩, ⟨P2, O2, S2⟩, ⟨P3, O3, S3⟩⟩, Hr⟩
  isplitr; · iempintro
  isplitl [Hr]; · iexact Hr
  isplitl [S0 S1 S2 S3]
  · isplitl [S0]; · iexact S0
    isplitl [S1]; · iexact S1
    isplitl [S2]; · iexact S2
    iexact S3
  isplitl [P0 P1 P2 P3]
  · isplitl [P0]; · iexact P0
    isplitl [P1]; · iexact P1
    isplitl [P2]; · iexact P2
    iexact P3
  isplitl [O0]; · iapply (Entails.of_eq (congrArg _ (View.write_whole_univ _ _ _))) $$ O0
  isplitl [O1]; · iapply (Entails.of_eq (congrArg _ (View.write_whole_univ _ _ _))) $$ O1
  isplitl [O2]; · iapply (Entails.of_eq (congrArg _ (View.write_whole_univ _ _ _))) $$ O2
  iapply (Entails.of_eq (congrArg _ (View.write_whole_univ _ _ _))) $$ O3

theorem reads_sub : Hs ⊆ Pipeline.restRefsP sig pre0 spec0 := by decide
theorem writes_sub : Rs ⊆ Pipeline.restRefsP sig pre0 spec0 \ Hs := by decide

theorem hostOps0_fresh : (Gen.hostOps0 : List (HloOp τ sig (Elt F))).Forall fun op => op.fresh = ∅ :=
  ⟨rfl, rfl, rfl, rfl, rfl, rfl, rfl, rfl⟩

/-- From a launch whose table names pages of the pools, every execution terminates without fault, the results hold
    the gathered pools, the other buffers what the reshapes left in them, and every counter is back at zero. -/
theorem run_main [∀ e, Nonempty (Elt F e)] (hO : PagesInPool m) :
    θ_run defs (onTc (τ := τ) (main (F := F))) (s₀ m ρ) (fun r =>
      Pipeline.FramePostRG (Pipeline.pin (pcfgs (F := F)) fun _ => adm m) (dats m) 0 Rs (V m) (G m) r ∧ r.2.sem = fun _ => 0) :=
  Pipeline.θ_run_frameP_dmaRG pcfgs (fun _ => adm m) (dats m) (0 : Fin 1) Gen.launch0 osem defs₀ Variants.none
    ownSemFacts Hs Rs reads_sub writes_sub m ρ main
    (hbody := fun c => (body_obligation m hO c).loose) (hshare := fun _ w => w.elim0)
    (howed := fun _ _ => rfl) (V := V m)
    (hmain := Pipeline.hmainP_prefix pcfgs 0 defs₀ Variants.none m main Gen.hostOps0 Gen.hostOps0_sub hostOps0_fresh Gen.main_chain)
    (hA := fun _ w => w.elim0) (hpf := V_pre m) (G := G m) (hin := enter m)
    (hout := leave m) (Q' := _)

/-! ## What the run leaves, from the launch memory -/

/-- A pool as the call reads it: the two heads of a token laid side by side. -/
abbrev side {α : Type} (x : S1x10240x128x2x64.Idx → α) : S10240x128x128.Idx → α :=
  shapeCast S10240x128x128 (shapeCast S10240x128x2x64 x Shapes1.Facts₀.shapeCasts_S1x10240x128x2x64_S10240x128x2x64)
    Shapes1.Facts₀.shapeCasts_S10240x128x2x64_S10240x128x128

theorem V_v1 (c : Dev nD) : V m c main_v1 = side (m ((c : Thread nD τ).loc main_arg0)) := by unfold V; after_results; rfl
theorem V_v3 (c : Dev nD) : V m c main_v3 = side (m ((c : Thread nD τ).loc main_arg1)) := by unfold V; after_results; rfl
theorem V_v5 (c : Dev nD) : V m c main_v5 = side (m ((c : Thread nD τ).loc main_arg2)) := by unfold V; after_results; rfl
theorem V_v7 (c : Dev nD) : V m c main_v7 = side (m ((c : Thread nD τ).loc main_arg3)) := by unfold V; after_results; rfl
theorem V_arg0 (c : Dev nD) : V m c main_arg0 = m ((c : Thread nD τ).loc main_arg0) := by unfold V; after_results
theorem V_arg1 (c : Dev nD) : V m c main_arg1 = m ((c : Thread nD τ).loc main_arg1) := by unfold V; after_results
theorem V_arg2 (c : Dev nD) : V m c main_arg2 = m ((c : Thread nD τ).loc main_arg2) := by unfold V; after_results
theorem V_arg3 (c : Dev nD) : V m c main_arg3 = m ((c : Thread nD τ).loc main_arg3) := by unfold V; after_results
theorem V_arg4 (c : Dev nD) : V m c main_arg4 = m ((c : Thread nD τ).loc main_arg4) := by unfold V; after_results

/-- What one result holds: its pool, gathered by the page table. -/
abbrev wanted (c : Dev nD) (pool : S1x10240x128x2x64.Idx → Elt F .f32) : S128x8192x128.Idx → Elt F .f32 :=
  gathered (m ((c : Thread nD τ).loc main_arg4)) (side pool)

/-- From a launch whose page table names pages of the pools, every execution terminates without fault; each result is
    its pool gathered by the table, the arguments are unchanged, and every counter is back at zero. -/
theorem run [∀ e, Nonempty (Elt F e)]
    (hO : ∀ (c : Dev nD) (x : S128x64.Idx), (m ((c : Thread nD τ).loc main_arg4) x : BitVec 32).toNat < 10240) :
    θ_run defs (onTc (τ := τ) (main (F := F))) (s₀ m ρ) (fun r => (∀ c : Dev nD,
      (r.2.mem ((c : Thread nD τ).loc main_v8_0) = wanted m c (m ((c : Thread nD τ).loc main_arg0))
      ∧ r.2.mem ((c : Thread nD τ).loc main_v8_1) = wanted m c (m ((c : Thread nD τ).loc main_arg1))
      ∧ r.2.mem ((c : Thread nD τ).loc main_v8_2) = wanted m c (m ((c : Thread nD τ).loc main_arg2))
      ∧ r.2.mem ((c : Thread nD τ).loc main_v8_3) = wanted m c (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  refine (θ_run defs _ _).mono (fun r h => ⟨fun c => ?_, h.2⟩)
    (run_main m ρ fun c x => by rw [V_arg4]; exact hO c x)
  have keep : ∀ b, b ∈ Pipeline.restRefs sig spec0 \ Rs → r.2.mem ((c : Thread nD τ).loc b) = V m c b := (h.1.1 c).2
  have wrote : ∀ b, b ∈ Rs → r.2.mem ((c : Thread nD τ).loc b) = G m c b := h.1.2 c
  refine ⟨⟨?_, ?_, ?_, ?_⟩, ?_, ?_, ?_, ?_, ?_⟩
  · rw [wrote _ (by decide), G_0, V_arg4, V_v1]
  · rw [wrote _ (by decide), G_1, V_arg4, V_v3]
  · rw [wrote _ (by decide), G_2, V_arg4, V_v5]
  · rw [wrote _ (by decide), G_3, V_arg4, V_v7]
  · rw [keep _ (by decide), V_arg0]
  · rw [keep _ (by decide), V_arg1]
  · rw [keep _ (by decide), V_arg2]
  · rw [keep _ (by decide), V_arg3]
  · rw [keep _ (by decide), V_arg4]

end Cert.KernelIdeal.Pages

end
-- ==== Proof.Reference.lean ====
/- The reference: the same cache gathered by the host's own lookup, and what that lookup is. -/
module

public import proofs.«01_k».proof.Proof.Launch
public import proofs.«01_k».proof.ReferenceIdeal
public import Idealize.ShloMosaic.Lib.StableHlo.Predicate
public import Idealize.ShloMosaic.Lib.StableHlo.Run

@[expose] public section

noncomputable section

namespace Cert.ReferenceIdeal.Pages

open Idealize.ShloMosaic Idealize.ShloMosaic.TcCoe Idealize.ShloMosaic.StableHlo Idealize.ShloMosaic.ValueIdx Idealize.SL.Sem
open Cert.KernelIdeal.Pages (gathered side)

/-- The reference's side conditions hold. -/
theorem facts : Facts where
  shapeCasts_S1x10240x128x2x64_S10240x128x2x64 := by decide
  bcast_S_S128x64 := by decide
  bcast_S128x64_S128x64x1_0_1 := by decide
  shapeCasts_S128x64x128x2x64_S128x8192x128 := by decide
  gather_S10240x128x2x64_S128x64x1_S128x64x128x2x64_234_0_n_n_0_2_1128264_wf := by decide

attribute [local instance] facts
open Facts₀

variable {F : FTy → Type} [FloatOps F]

/-- The lookup of pages. -/
abbrev pages : GatherDims S10240x128x2x64 S128x64x1 S128x64x128x2x64 :=
  gather_S10240x128x2x64_S128x64x1_S128x64x128x2x64_234_0_n_n_0_2_1128264

/-! ## What the lookup gives -/

/-- The start words as the reference writes them: a negative word counts from the end of the pool. -/
abbrev starts (tab : IVec S128x64 32) : IVec S128x64x1 32 :=
  broadcastInDim S128x64x1 ![0, 1] bcast_S128x64_S128x64x1_0_1
    (select (cmpi .slt tab (broadcastInDim S128x64 ![] bcast_S_S128x64 (constantI S_ 32 0#32)))
      (addi tab (broadcastInDim S128x64 ![] bcast_S_S128x64 (constantI S_ 32 10240#32))) tab)

/-- One result of the reference: its pool looked up at the words, a page's tokens laid in a row. -/
abbrev lookup {α : Type} (tab : IVec S128x64 32) (pool : S1x10240x128x2x64.Idx → α) : S128x8192x128.Idx → α :=
  shapeCast S128x8192x128
    (Host.gather pages (shapeCast S10240x128x2x64 pool shapeCasts_S1x10240x128x2x64_S10240x128x2x64) (starts tab))
    shapeCasts_S128x64x128x2x64_S128x8192x128

/-- A word that names a page is the start word itself. -/
theorem starts_eq (tab : IVec S128x64 32) (h : ∀ x, (tab x).toNat < 10240) (r : Fin 128) (p : Fin 64) :
    starts tab (ix3 r p (0 : Fin 1)) = tab (ix2 r p) := by
  have hx : ∀ x : S128x64.Idx, (select (cmpi .slt tab (broadcastInDim S128x64 ![] bcast_S_S128x64 (constantI S_ 32 0#32)))
      (addi tab (broadcastInDim S128x64 ![] bcast_S_S128x64 (constantI S_ 32 10240#32))) tab) x = tab x := fun x => by
    show (if IntOp.cmpi .slt (tab x) 0#32 = 1#1 then _ else tab x) = tab x
    rw [if_neg]
    rw [Predicate.slt_iff_toNat (lt_trans (h x) (by decide)) (by decide)]
    exact Nat.not_lt_zero _
  refine (hx _).trans (congrArg tab (funext fun a => ?_))
  fin_cases a <;> rfl

/-- The lookup's place in the pool: the page that the start word names, and the place in the page. -/
theorem pages_idx (idx : IVec S128x64x1 32) (r : Fin 128) (p : Fin 64) (q : Fin 128) (hd : Fin 2) (l : Fin 64)
    (h : (idx (ix3 r p (0 : Fin 1))).toNat < 10240) :
    pages.operandIdx (ix5 r p q hd l) idx = ix4 ⟨(idx (ix3 r p (0 : Fin 1))).toNat, h⟩ q hd l := by
  have hs : pages.siIdx (ix5 r p q hd l) ⟨0, Nat.one_pos⟩ = ix3 r p (0 : Fin 1) := by
    funext b; fin_cases b <;> rfl
  funext a
  apply Fin.ext
  fin_cases a
  · show min (idx (pages.siIdx (ix5 r p q hd l) ⟨0, _⟩)).toInt.toNat (10240 - 1) + 0 + 0 = (idx (ix3 r p (0 : Fin 1))).toNat
    rw [hs, Predicate.toInt_eq_toNat_of_lt (lt_trans h (by decide))]
    omega
  · show 0 + 0 + q.val = q.val
    omega
  · show 0 + 0 + hd.val = hd.val
    omega
  · show 0 + 0 + l.val = l.val
    omega

/-- The reference's lookup is the gather: where every word names a page, the two agree element by element. -/
theorem lookup_eq {α : Type} (tab : IVec S128x64 32) (h : ∀ x, (tab x).toNat < 10240) (pool : S1x10240x128x2x64.Idx → α) :
    lookup tab pool = gathered tab (side pool) := by
  funext j
  obtain ⟨r, t, l, rfl⟩ : ∃ (r : Fin 128) (t : Fin 8192) (l : Fin 128), j = ix3 r t l := ⟨_, _, _, eq_ix3 j⟩
  have ht := t.isLt
  have hl := l.isLt
  have e5 : Shape.reshapeEquiv shapeCasts_S128x64x128x2x64_S128x8192x128 (ix3 r t l : S128x8192x128.Idx)
      = (ix5 r ⟨t.val / 128, by omega⟩ ⟨t.val % 128, by omega⟩ ⟨l.val / 64, by omega⟩ ⟨l.val % 64, by omega⟩ : S128x64x128x2x64.Idx) :=
    Shape.reshapeEquiv_eq_of_rowMajor _ (by
      rw [Shape.rowMajor_val_five, Shape.rowMajor_val_three]
      show (((r.val * 64 + t.val / 128) * 128 + t.val % 128) * 2 + l.val / 64) * 64 + l.val % 64 = (r.val * 8192 + t.val) * 128 + l.val
      omega)
  have e4 : ∀ (g : Fin 10240) (q : Fin 128),
      Shape.reshapeEquiv Cert.KernelIdeal.Shapes1.Facts₀.shapeCasts_S10240x128x2x64_S10240x128x128 (ix3 g q l)
        = (ix4 g q ⟨l.val / 64, by omega⟩ ⟨l.val % 64, by omega⟩ : S10240x128x2x64.Idx) := fun g q =>
    Shape.reshapeEquiv_eq_of_rowMajor _ (by
      rw [Shape.rowMajor_val_four, Shape.rowMajor_val_three]
      show ((g.val * 128 + q.val) * 2 + l.val / 64) * 64 + l.val % 64 = (g.val * 128 + q.val) * 128 + l.val
      omega)
  have hg := h (ix2 r ⟨t.val / 128, by omega⟩)
  have hst := starts_eq tab h r ⟨t.val / 128, by omega⟩
  show shapeCast S10240x128x2x64 pool _ (pages.operandIdx (Shape.reshapeEquiv _ (ix3 r t l)) (starts tab))
    = shapeCast S10240x128x2x64 pool _ (Shape.reshapeEquiv _ (ix3 _ _ l))
  rw [e5, e4, pages_idx _ _ _ _ _ _ (by rw [hst]; exact hg)]
  congr 1
  refine congrArg (fun g => ix4 g _ _ _) (Fin.ext ?_)
  show (starts tab _).toNat = (tab _).toNat % 10240
  rw [hst]
  exact (Nat.mod_eq_of_lt hg).symm

/-! ## The reference's run -/

/-- @main's operations, in order: for each of the four pools, the pool without its leading axis, the start words, the
    lookup, and the result laid out. -/
abbrev ops : List (HloOp τ sig (Elt F)) :=
  [ reshape main_arg0 main_v0 rfl shapeCasts_S1x10240x128x2x64_S10240x128x2x64,
    nullary main_c (constantI S_ 32 0#32),
    unary main_c main_v1 (broadcastInDim S128x64 ![] bcast_S_S128x64),
    binary main_arg4 main_v1 main_v2 (cmpi .slt),
    nullary main_c_0 (constantI S_ 32 10240#32),
    unary main_c_0 main_v3 (broadcastInDim S128x64 ![] bcast_S_S128x64),
    binary main_arg4 main_v3 main_v4 addi,
    ternary main_v2 main_v4 main_arg4 main_v5 select,
    unary main_v5 main_v6 (broadcastInDim S128x64x1 ![0, 1] bcast_S128x64_S128x64x1_0_1),
    binary main_v0 main_v6 main_v7 (Host.gather pages),
    reshape main_v7 main_v8 rfl shapeCasts_S128x64x128x2x64_S128x8192x128,
    reshape main_arg1 main_v9 rfl shapeCasts_S1x10240x128x2x64_S10240x128x2x64,
    nullary main_c_1 (constantI S_ 32 0#32),
    unary main_c_1 main_v10 (broadcastInDim S128x64 ![] bcast_S_S128x64),
    binary main_arg4 main_v10 main_v11 (cmpi .slt),
    nullary main_c_2 (constantI S_ 32 10240#32),
    unary main_c_2 main_v12 (broadcastInDim S128x64 ![] bcast_S_S128x64),
    binary main_arg4 main_v12 main_v13 addi,
    ternary main_v11 main_v13 main_arg4 main_v14 select,
    unary main_v14 main_v15 (broadcastInDim S128x64x1 ![0, 1] bcast_S128x64_S128x64x1_0_1),
    binary main_v9 main_v15 main_v16 (Host.gather pages),
    reshape main_v16 main_v17 rfl shapeCasts_S128x64x128x2x64_S128x8192x128,
    reshape main_arg2 main_v18 rfl shapeCasts_S1x10240x128x2x64_S10240x128x2x64,
    nullary main_c_3 (constantI S_ 32 0#32),
    unary main_c_3 main_v19 (broadcastInDim S128x64 ![] bcast_S_S128x64),
    binary main_arg4 main_v19 main_v20 (cmpi .slt),
    nullary main_c_4 (constantI S_ 32 10240#32),
    unary main_c_4 main_v21 (broadcastInDim S128x64 ![] bcast_S_S128x64),
    binary main_arg4 main_v21 main_v22 addi,
    ternary main_v20 main_v22 main_arg4 main_v23 select,
    unary main_v23 main_v24 (broadcastInDim S128x64x1 ![0, 1] bcast_S128x64_S128x64x1_0_1),
    binary main_v18 main_v24 main_v25 (Host.gather pages),
    reshape main_v25 main_v26 rfl shapeCasts_S128x64x128x2x64_S128x8192x128,
    reshape main_arg3 main_v27 rfl shapeCasts_S1x10240x128x2x64_S10240x128x2x64,
    nullary main_c_5 (constantI S_ 32 0#32),
    unary main_c_5 main_v28 (broadcastInDim S128x64 ![] bcast_S_S128x64),
    binary main_arg4 main_v28 main_v29 (cmpi .slt),
    nullary main_c_6 (constantI S_ 32 10240#32),
    unary main_c_6 main_v30 (broadcastInDim S128x64 ![] bcast_S_S128x64),
    binary main_arg4 main_v30 main_v31 addi,
    ternary main_v29 main_v31 main_arg4 main_v32 select,
    unary main_v32 main_v33 (broadcastInDim S128x64x1 ![0, 1] bcast_S128x64_S128x64x1_0_1),
    binary main_v27 main_v33 main_v34 (Host.gather pages),
    reshape main_v34 main_v35 rfl shapeCasts_S128x64x128x2x64_S128x8192x128 ]

/-- @main is that straight line. -/
theorem main_eq (c : Dev nD) : main (F := F) c = seq ops := rfl

theorem ops_sub : (ops : List (HloOp τ sig (Elt F))).Forall fun op => op.bufs ⊆ tcRefs τ sig := by
  simp only [ops, List.Forall, reshape_bufs_sub, nullary_bufs_sub, unary_bufs_sub, binary_bufs_sub, ternary_bufs_sub, and_self]

theorem scopedRefs_eq : (Finset.univ.filter fun b : Ref sig .tc => b.isScoped) = ∅ := by decide
theorem scopedSems_eq : (Finset.univ.filter fun sm : SemLoc sig => sm.isScoped .tc) = ∅ := by decide

/-- Every execution of the reference terminates without fault: each result is its pool looked up by the page table, and
    the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c : Thread nD τ).loc main_v8) = lookup (m ((c : Thread nD τ).loc main_arg4)) (m ((c : Thread nD τ).loc main_arg0))
      ∧ r.2.mem ((c : Thread nD τ).loc main_v17) = lookup (m ((c : Thread nD τ).loc main_arg4)) (m ((c : Thread nD τ).loc main_arg1))
      ∧ r.2.mem ((c : Thread nD τ).loc main_v26) = lookup (m ((c : Thread nD τ).loc main_arg4)) (m ((c : Thread nD τ).loc main_arg2))
      ∧ r.2.mem ((c : Thread nD τ).loc main_v35) = lookup (m ((c : Thread nD τ).loc main_arg4)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_)
    (run_seq scopedRefs_eq scopedSems_eq defs main (fun _ => ops) main_eq (fun _ => ops_sub) m ρ)
  refine ⟨⟨(h c _).trans ?_, (h c _).trans ?_, (h c _).trans ?_, (h c _).trans ?_⟩,
    (h c _).trans ?_, (h c _).trans ?_, (h c _).trans ?_, (h c _).trans ?_, (h c _).trans ?_⟩ <;> after_results <;> rfl

end Cert.ReferenceIdeal.Pages

end
-- ==== Proof.FfnPoint.lean ====
/- A point of the feed-forward layer's grid: what it computes from its windows and from what the points before it left. -/
module

public import proofs.«01_k».proof.Proof.Gen.FfnIdeal.Frame
public import proofs.«01_k».proof.Proof.Gen.FfnIdeal.Skeleton
public import Idealize.ShloMosaic.Lib.VecWindow

@[expose] public section

set_option maxRecDepth 16384

noncomputable section

namespace Cert.FfnIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal.Gen

variable {F : FTy → Type} [FloatOps F]

local notation "𝕄" => MT nD τ sig Unit (Elt F) ℕ (UR sig nD τ) ℕ

/-- The point is the first of its token block's two halves. -/
abbrev Fst (i : grid0.Coords) : Prop :=
  (Scalar.cmpi .ne (Scalar.extui (Scalar.cmpi .eq (BitVec.ofNat 32 (i 2).val) 0#32)) 0#32) = 1#1

/-- The point is in the first token block of its sequence. -/
abbrev Start (i : grid0.Coords) : Prop := k0_cond2 i = 1#1

/-- The point is the second half. -/
abbrev Snd (i : grid0.Coords) : Prop := k0_cond3 i = 1#1

/-! ## What the point computes, from its windows and what the points before it left -/

/-- The normalised tokens that the point multiplies: computed in the first half, kept for the second. -/
def tokens (i : grid0.Coords) (x : Vec F S512x1024 .f32) (g : Vec F S1x1024 .f32) (h : Vec F S512x1024 .bf16) :
    Vec F S512x1024 .bf16 :=
  if Fst i then k0_pay3 x g else h

/-- The sum of the products that the point adds to: zero in the first half. -/
def sumIn (i : grid0.Coords) (a : Vec F S512x1024 .f32) : Vec F S512x1024 .f32 :=
  if Fst i then k0_pay4 else a

/-- The rows carried from the token block before: the point's half of them zero where a sequence starts. -/
def carried (i : grid0.Coords) (c : Vec F S8x2816 .f32) : Vec F S8x2816 .f32 :=
  if Start i then VecWindow.put c (k0_off1 i) S8x1408.size (k0_pay8 (F := F)) else c

/-- The last row but one carried, in the point's half. -/
def prev2 (i : grid0.Coords) (c : Vec F S8x2816 .f32) : Vec F S1x1408 .f32 :=
  VecWindow.window (carried i c) (k0_off2 i) S1x1408.size (k0_off2_inb i)

/-- The last row carried, in the point's half. -/
def prev1 (i : grid0.Coords) (c : Vec F S8x2816 .f32) : Vec F S1x1408 .f32 :=
  VecWindow.window (carried i c) (k0_off3 i) S1x1408.size (k0_off3_inb i)

/-- Row `k` of the convolution's weights. -/
def tap (w : Vec F S8x1408 .f32) (k : ℕ) (h : ∀ a, (![k, 0] : Fin 2 → ℕ) a + S1x1408.size a ≤ S8x1408.size a) :
    Vec F S1x1408 .f32 :=
  VecWindow.window w ![k, 0] S1x1408.size h

/-- A sum of products and the point's share added to it: the down-projection of the gate times the activated
    convolution of the up-projection. -/
def share (h : Vec F S512x1024 .bf16) (wu wg : Vec F S1024x1408 .bf16) (p2 p1 : Vec F S1x1408 .f32)
    (b w0 w1 w2 : Vec F S1x1408 .f32) (wd : Vec F S1408x1024 .bf16) (a : Vec F S512x1024 .f32) : Vec F S512x1024 .f32 :=
  k0_pay1 (k0_pay6 h wg) a
    (k0_pay16 (k0_pay5 h wu) (k0_pay7 h wu) p2 (k0_pay9 h wu p1) k0_pay10 k0_pay11 (k0_pay12 p1) b w0 w1 w2)
    (k0_pay17 (k0_pay5 h wu) (k0_pay7 h wu) p2 (k0_pay9 h wu p1) k0_pay10 k0_pay11 (k0_pay12 p1) b w0 w1 w2)
    (k0_pay18 (F := F)) wd

/-- The sum of the products after the point. -/
def sumOut (i : grid0.Coords) (x : Vec F S512x1024 .f32) (g : Vec F S1x1024 .f32) (wu wg : Vec F S1024x1408 .bf16)
    (cw : Vec F S8x1408 .f32) (cb : Vec F S1x1408 .f32) (wd : Vec F S1408x1024 .bf16)
    (h : Vec F S512x1024 .bf16) (a : Vec F S512x1024 .f32) (cr : Vec F S8x2816 .f32) : Vec F S512x1024 .f32 :=
  share (tokens i x g h) wu wg (prev2 i cr) (prev1 i cr) cb
    (tap cw 0 inb_S8x1408_S1x1408_0_0) (tap cw 1 inb_S8x1408_S1x1408_1_0) (tap cw 2 inb_S8x1408_S1x1408_2_0) wd (sumIn i a)

/-- The carried rows after the point: the last eight of its up-projection in its half. -/
def carryOut (i : grid0.Coords) (x : Vec F S512x1024 .f32) (g : Vec F S1x1024 .f32) (wu : Vec F S1024x1408 .bf16)
    (h : Vec F S512x1024 .bf16) (cr : Vec F S8x2816 .f32) : Vec F S8x2816 .f32 :=
  VecWindow.put (carried i cr) (k0_off4 i) S8x1408.size (k0_pay13 (k0_pay5 (tokens i x g h) wu))

/-- The layer's tokens after the point: written in the second half. -/
def rowsOut (i : grid0.Coords) (x : Vec F S512x1024 .f32) (gf : Vec F S1x1024 .f32) (y a : Vec F S512x1024 .f32) :
    Vec F S512x1024 .f32 :=
  if Snd i then k0_pay2 x a gf else y

end Cert.FfnIdeal.Layer

end
-- ==== Proof.FfnBody.lean ====
/- The body of the feed-forward layer's grid point: what one run of it leaves in each buffer. -/
module

public import proofs.«01_k».proof.Proof.FfnPoint

@[expose] public section

set_option maxRecDepth 16384

noncomputable section

namespace Cert.FfnIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal.Gen

variable {F : FTy → Type} [FloatOps F]

local notation "𝕄" => MT nD τ sig Unit (Elt F) ℕ (UR sig nD τ) ℕ

theorem off2_in : ∀ (i : grid0.Coords) (a : Fin 2),
    k0_off1 i a ≤ k0_off2 i a ∧ k0_off2 i a + S1x1408.size a ≤ k0_off1 i a + S8x1408.size a := by decide +kernel
theorem off3_in : ∀ (i : grid0.Coords) (a : Fin 2),
    k0_off1 i a ≤ k0_off3 i a ∧ k0_off3 i a + S1x1408.size a ≤ k0_off1 i a + S8x1408.size a := by decide +kernel

/-- A load inside the window just stored reads the same whatever was there before. -/
theorem readCov_put {κ : Kind} {sp : Space} {s : Shape} {e : EltTy} (v : View sig κ sp s e) (x : s.Idx → Elt F e)
    {off size off' size' : Fin s.rank → ℕ} (inb : ∀ a, off a + size a ≤ s.size a) (inb' : ∀ a, off' a + size' a ≤ s.size a)
    (w : (Rect.unit off size inb).shape.Idx → Elt F e) (h : ∀ a, off a ≤ off' a ∧ off' a + size' a ≤ off a + size a) :
    v.readCov [⟨Rect.unit off size inb, w⟩] (Rect.unit off' size' inb').toLoadRect
      = VecWindow.window (VecWindow.put x off size w) off' size' inb' := by
  unfold View.readCov
  rw [View.readAt_unit _ _ inb' rfl inb', View.read_writes_cons_put _ _ inb w [] rfl]
  exact (VecWindow.window_put_of_inside _ off size off' size' inb' w h).trans
    (VecWindow.window_put_of_inside _ off size off' size' inb' w h).symm

-- one execution for each way the three conditions of the body can fall
set_option maxHeartbeats 4000000 in
/-- One run of the body, from and to whole buffers. -/
theorem run (c : Dev nD) (i : grid0.Coords)
    (arg3 : Memref sig .tc .vmem S512x1024 .f32) (harg3 : arg3.IsWhole)
    (arg4 : Memref sig .tc .vmem S1x1024 .f32) (harg4 : arg4.IsWhole)
    (arg5 : Memref sig .tc .vmem S1024x1408 .bf16) (harg5 : arg5.IsWhole)
    (arg6 : Memref sig .tc .vmem S1024x1408 .bf16) (harg6 : arg6.IsWhole)
    (arg7 : Memref sig .tc .vmem S8x1408 .f32) (harg7 : arg7.IsWhole)
    (arg8 : Memref sig .tc .vmem S1x1408 .f32) (harg8 : arg8.IsWhole)
    (arg9 : Memref sig .tc .vmem S1408x1024 .bf16) (harg9 : arg9.IsWhole)
    (arg10 : Memref sig .tc .vmem S1x1024 .f32) (harg10 : arg10.IsWhole)
    (arg11 : Memref sig .tc .vmem S8x1408 .f32) (harg11 : arg11.IsWhole)
    (arg12 : Memref sig .tc .vmem S8x1408 .f32) (harg12 : arg12.IsWhole)
    (arg13 : Memref sig .tc .vmem S512x1024 .f32) (harg13 : arg13.IsWhole)
    (arg14 : Memref sig .tc .vmem S1x8x1408 .f32) (harg14 : arg14.IsWhole)
    (arg15 : Memref sig .tc .vmem S512x1024 .bf16) (harg15 : arg15.IsWhole)
    (arg16 : Memref sig .tc .vmem S512x1024 .f32) (harg16 : arg16.IsWhole)
    (arg17 : Memref sig .tc .vmem S8x2816 .f32) (harg17 : arg17.IsWhole)
    (hs : Snd i ↔ ¬ Fst i)
    (x : Vec F S512x1024 .f32)
    (g : Vec F S1x1024 .f32)
    (wu : Vec F S1024x1408 .bf16)
    (wg : Vec F S1024x1408 .bf16)
    (cw : Vec F S8x1408 .f32)
    (cb : Vec F S1x1408 .f32)
    (wd : Vec F S1408x1024 .bf16)
    (gf : Vec F S1x1024 .f32)
    (z1 : Vec F S8x1408 .f32)
    (z2 : Vec F S8x1408 .f32)
    (y : Vec F S512x1024 .f32)
    (z : Vec F S1x8x1408 .f32)
    (h : Vec F S512x1024 .bf16)
    (a : Vec F S512x1024 .f32)
    (cr : Vec F S8x2816 .f32)
    (E : Set ℕ) (K : PUnit → sProp 𝕄) :
    iprop(owns (c : Thread nD τ) arg3 fullShare x ∗ owns (c : Thread nD τ) arg4 fullShare g ∗ owns (c : Thread nD τ)
      arg5 fullShare wu ∗ owns (c : Thread nD τ) arg6 fullShare wg ∗ owns (c : Thread nD τ) arg7 fullShare cw ∗
      owns (c : Thread nD τ) arg8 fullShare cb ∗ owns (c : Thread nD τ) arg9 fullShare wd ∗ owns (c : Thread nD τ)
      arg10 fullShare gf ∗ owns (c : Thread nD τ) arg11 fullShare z1 ∗ owns (c : Thread nD τ) arg12 fullShare z2 ∗
      owns (c : Thread nD τ) arg13 fullShare y ∗ owns (c : Thread nD τ) arg14 fullShare z ∗ owns (c : Thread nD τ)
      arg15 fullShare h ∗ owns (c : Thread nD τ) arg16 fullShare a ∗ owns (c : Thread nD τ) arg17 fullShare cr
      ∗ (iprop(owns (c : Thread nD τ) arg3 fullShare x ∗ owns (c : Thread nD τ) arg4 fullShare g ∗ owns (c : Thread nD τ)
         arg5 fullShare wu ∗ owns (c : Thread nD τ) arg6 fullShare wg ∗ owns (c : Thread nD τ) arg7 fullShare cw ∗
         owns (c : Thread nD τ) arg8 fullShare cb ∗ owns (c : Thread nD τ) arg9 fullShare wd ∗ owns (c : Thread nD
         τ) arg10 fullShare gf ∗ owns (c : Thread nD τ) arg11 fullShare z1 ∗ owns (c : Thread nD τ) arg12 fullShare
         z2 ∗ owns (c : Thread nD τ) arg13 fullShare (rowsOut i x gf y (sumOut i x g wu wg cw cb wd h a cr)) ∗ owns
         (c : Thread nD τ) arg14 fullShare (k0_pay14 (k0_pay5 (tokens i x g h) wu)) ∗ owns (c : Thread nD τ) arg15
         fullShare (tokens i x g h) ∗ owns (c : Thread nD τ) arg16 fullShare (sumOut i x g wu wg cw cb wd h a cr) ∗
         owns (c : Thread nD τ) arg17 fullShare (carryOut i x g wu h cr)) -∗ K ⟨⟩))
    ⊢ wp frame (wpE (defs₀ (F := F)) Variants.none c none) E
      (cc0_conv_ffn i arg3 harg3 arg4 harg4 arg5 harg5 arg6 harg6 arg7 harg7 arg8 harg8 arg9 harg9 arg10 harg10
        arg11 harg11 arg12 harg12 arg13 harg13 arg14 harg14 arg15 harg15 arg16 harg16 arg17 harg17) K := by
  have hc2 : (Fst i → ¬ Snd i) ∧ (¬ Fst i → Snd i) := by tauto
  have e3 : ∀ inb, View.readAt (Elt F) arg3.view (Rect.unit ![0, 0] S512x1024.size inb).toLoadRect (harg3.unread x) = x :=
    fun _ => (View.readAt_full _ _ _).trans (harg3.read_unread _)
  have e4 : ∀ inb, View.readAt (Elt F) arg4.view (Rect.unit ![0, 0] S1x1024.size inb).toLoadRect (harg4.unread g) = g :=
    fun _ => (View.readAt_full _ _ _).trans (harg4.read_unread _)
  have e5 : ∀ inb, View.readAt (Elt F) arg5.view (Rect.unit ![0, 0] S1024x1408.size inb).toLoadRect (harg5.unread wu) = wu :=
    fun _ => (View.readAt_full _ _ _).trans (harg5.read_unread _)
  have e6 : ∀ inb, View.readAt (Elt F) arg6.view (Rect.unit ![0, 0] S1024x1408.size inb).toLoadRect (harg6.unread wg) = wg :=
    fun _ => (View.readAt_full _ _ _).trans (harg6.read_unread _)
  have e8 : ∀ inb, View.readAt (Elt F) arg8.view (Rect.unit ![0, 0] S1x1408.size inb).toLoadRect (harg8.unread cb) = cb :=
    fun _ => (View.readAt_full _ _ _).trans (harg8.read_unread _)
  have e9 : ∀ inb, View.readAt (Elt F) arg9.view (Rect.unit ![0, 0] S1408x1024.size inb).toLoadRect (harg9.unread wd) = wd :=
    fun _ => (View.readAt_full _ _ _).trans (harg9.read_unread _)
  have e10 : ∀ inb, View.readAt (Elt F) arg10.view (Rect.unit ![0, 0] S1x1024.size inb).toLoadRect (harg10.unread gf) = gf :=
    fun _ => (View.readAt_full _ _ _).trans (harg10.read_unread _)
  have e15 : ∀ inb, View.readAt (Elt F) arg15.view (Rect.unit ![0, 0] S512x1024.size inb).toLoadRect (harg15.unread h) = h :=
    fun _ => (View.readAt_full _ _ _).trans (harg15.read_unread _)
  have e16 : ∀ inb, View.readAt (Elt F) arg16.view (Rect.unit ![0, 0] S512x1024.size inb).toLoadRect (harg16.unread a) = a :=
    fun _ => (View.readAt_full _ _ _).trans (harg16.read_unread _)
  have e7 : ∀ (k : ℕ) (inb : ∀ a, ![k, 0] a + S1x1408.size a ≤ S8x1408.size a), View.readAt (Elt F) arg7.view (Rect.unit (s := S8x1408) ![k, 0] S1x1408.size inb).toLoadRect (harg7.unread cw)
      = tap cw k inb :=
    fun k inb => (View.readAt_unit arg7.view (harg7.unread cw) inb rfl inb).trans (by rw [harg7.read_unread]; first | done | rfl)
  have e17 : ∀ (off : Fin 2 → ℕ) (inb : ∀ a, off a + S1x1408.size a ≤ S8x2816.size a), View.readAt (Elt F) arg17.view (Rect.unit (s := S8x2816) off S1x1408.size inb).toLoadRect (harg17.unread cr)
      = VecWindow.window cr off S1x1408.size inb :=
    fun off inb => (View.readAt_unit arg17.view (harg17.unread cr) inb rfl inb).trans (by rw [harg17.read_unread])
  have r15 : ∀ inb inb' (w : Vec F S512x1024 .bf16), arg15.view.readCov [⟨Rect.unit ![0, 0] S512x1024.size inb, w⟩]
      (Rect.unit ![0, 0] S512x1024.size inb').toLoadRect = w := fun _ _ _ => View.readCov_full _ _ _ _ _
  have r16 : ∀ inb inb' (w : Vec F S512x1024 .f32) L, arg16.view.readCov (⟨Rect.unit ![0, 0] S512x1024.size inb, w⟩ :: L)
      (Rect.unit ![0, 0] S512x1024.size inb').toLoadRect = w := fun _ _ _ _ => View.readCov_full _ _ _ _ _
  have r2 : ∀ inb (w : Vec F S8x1408 .f32), arg17.view.readCov [⟨Rect.unit (k0_off1 i) S8x1408.size inb, w⟩]
      (Rect.unit (s := S8x2816) (k0_off2 i) S1x1408.size (k0_off2_inb i)).toLoadRect
      = VecWindow.window (VecWindow.put cr (k0_off1 i) S8x1408.size w) (k0_off2 i) S1x1408.size (k0_off2_inb i) :=
    fun inb w => readCov_put _ cr inb (k0_off2_inb i) w (off2_in i)
  have r3 : ∀ inb (w : Vec F S8x1408 .f32), arg17.view.readCov [⟨Rect.unit (k0_off1 i) S8x1408.size inb, w⟩]
      (Rect.unit (s := S8x2816) (k0_off3 i) S1x1408.size (k0_off3_inb i)).toLoadRect
      = VecWindow.window (VecWindow.put cr (k0_off1 i) S8x1408.size w) (k0_off3 i) S1x1408.size (k0_off3_inb i) :=
    fun inb w => readCov_put _ cr inb (k0_off3_inb i) w (off3_in i)
  have w13 : ∀ f inb w L, View.read (Elt F) arg13.view (arg13.view.writes (Elt F) f
      (⟨Rect.unit ![0, 0] S512x1024.size inb, w⟩ :: L)) = w := fun _ _ _ _ => View.read_writes_full _ _ _ _ _
  have w14 : ∀ f inb w L, View.read (Elt F) arg14.view (arg14.view.writes (Elt F) f
      (⟨Rect.unit ![0, 0, 0] S1x8x1408.size inb, w⟩ :: L)) = w := fun _ _ _ _ => View.read_writes_full _ _ _ _ _
  have w15 : ∀ f inb w L, View.read (Elt F) arg15.view (arg15.view.writes (Elt F) f
      (⟨Rect.unit ![0, 0] S512x1024.size inb, w⟩ :: L)) = w := fun _ _ _ _ => View.read_writes_full _ _ _ _ _
  have w16 : ∀ f inb w L, View.read (Elt F) arg16.view (arg16.view.writes (Elt F) f
      (⟨Rect.unit ![0, 0] S512x1024.size inb, w⟩ :: L)) = w := fun _ _ _ _ => View.read_writes_full _ _ _ _ _
  have w17 : ∀ f off inb w L, View.read (Elt F) arg17.view (arg17.view.writes (Elt F) f
      (⟨Rect.unit off S8x1408.size inb, w⟩ :: L))
      = VecWindow.put (View.read (Elt F) arg17.view (arg17.view.writes (Elt F) f L)) off S8x1408.size w :=
    fun _ _ inb w L => View.read_writes_cons_put _ _ inb w L rfl
  by_cases hc0 : Fst i <;> [replace hc2 := hc2.1 hc0; replace hc2 := hc2.2 hc0] <;> by_cases hc1 : Start i
  all_goals
    simp only [cc0_conv_ffn_eq_skeleton]; unfold cc0_conv_ffn_skel
    simp only [k0_part1_eq_skeleton, k0_part2_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9,
      %hf9, H9⟩, ⟨%f10, %hf10, H10⟩, ⟨%f11, %hf11, H11⟩, ⟨%f12, %hf12, H12⟩, ⟨%f13, %hf13, H13⟩, ⟨%f14, %hf14,
      H14⟩, ⟨%f15, %hf15, H15⟩, ⟨%f16, %hf16, H16⟩, ⟨%f17, %hf17, H17⟩, Hk⟩
    obtain rfl := harg3.eq_unread hf3; obtain rfl := harg4.eq_unread hf4; obtain rfl := harg5.eq_unread hf5; obtain
    rfl := harg6.eq_unread hf6; obtain rfl := harg7.eq_unread hf7; obtain rfl := harg8.eq_unread hf8; obtain rfl :=
    harg9.eq_unread hf9; obtain rfl := harg10.eq_unread hf10; obtain rfl := harg11.eq_unread hf11; obtain rfl :=
    harg12.eq_unread hf12; obtain rfl := harg13.eq_unread hf13; obtain rfl := harg14.eq_unread hf14; obtain rfl :=
    harg15.eq_unread hf15; obtain rfl := harg16.eq_unread hf16; obtain rfl := harg17.eq_unread hf17
    sl_exec (disch := first | sl_exact hc0 | sl_exact hc1 | sl_exact hc2)
    sl_step
    iapply Hk
    isplitl [H3]; · iexists _; isplitr; swap; (iexact H3); ipureintro; exact hf3
    isplitl [H4]; · iexists _; isplitr; swap; (iexact H4); ipureintro; exact hf4
    isplitl [H5]; · iexists _; isplitr; swap; (iexact H5); ipureintro; exact hf5
    isplitl [H6]; · iexists _; isplitr; swap; (iexact H6); ipureintro; exact hf6
    isplitl [H7]; · iexists _; isplitr; swap; (iexact H7); ipureintro; exact hf7
    isplitl [H8]; · iexists _; isplitr; swap; (iexact H8); ipureintro; exact hf8
    isplitl [H9]; · iexists _; isplitr; swap; (iexact H9); ipureintro; exact hf9
    isplitl [H10]; · iexists _; isplitr; swap; (iexact H10); ipureintro; exact hf10
    isplitl [H11]; · iexists _; isplitr; swap; (iexact H11); ipureintro; exact hf11
    isplitl [H12]; · iexists _; isplitr; swap; (iexact H12); ipureintro; exact hf12
    isplitl [H13]
    on_goal 1 => (iexists _; isplitr; swap; (iexact H13); ipureintro)
    rotate_left
    isplitl [H14]
    on_goal 1 => (iexists _; isplitr; swap; (iexact H14); ipureintro)
    rotate_left
    isplitl [H15]
    on_goal 1 => (iexists _; isplitr; swap; (iexact H15); ipureintro)
    rotate_left
    isplitl [H16]
    on_goal 1 => (iexists _; isplitr; swap; (iexact H16); ipureintro)
    rotate_left
    iexists _; isplitr; swap; (iexact H17); ipureintro
  all_goals sl_unfold_run_names
  all_goals
    first | have d0 := eq_false hc0 | have d0 := eq_true hc0
    first | have d1 := eq_false hc1 | have d1 := eq_true hc1
    first | have d2 := eq_false hc2 | have d2 := eq_true hc2
    simp only [View.writes_nil, w13, w14, w15, w16, w17, r2, r3, r15, r16, e3, e4, e5, e6, e7, e8, e9, e10, e15, e16, e17,
      tokens, sumIn, carried, prev2, prev1, share, sumOut, carryOut, rowsOut, *, not_true_eq_false, not_false_eq_true, if_true, if_false]

end Cert.FfnIdeal.Layer

end
-- ==== Proof.FfnStep.lean ====
/- The feed-forward layer's grid, point by point: what every point leaves, and what it finds. -/
module

public import proofs.«01_k».proof.Proof.FfnPoint

@[expose] public section

set_option maxRecDepth 16384

noncomputable section

namespace Cert.FfnIdeal.Layer

open Idealize.ShloMosaic Idealize.ShloMosaic.TcCoe Idealize.ShloMosaic.Tactic
open Idealize.ShloMosaic.Pipeline (Dat Cfg Window BodyObligation cellOf)
open Cert.FfnIdeal.Gen

variable {F : FTy → Type} [FloatOps F]
variable (m : (ℓ : Loc nD τ sig) → Buf (Elt F) ℓ)

/-! ## The conditions and offsets at a point -/

theorem fst_iff : ∀ t : Fin cfg0.N, Fst (grid0.coords t) ↔ t.val % 2 = 0 := fun t => by
  have ht : t.val < 128 := Nat.lt_of_lt_of_eq t.isLt N_0
  have e2 : (grid0.coords t 2).val = t.val / 1 % 2 := Pipeline.Grid.coords_val t 2 (by decide) rfl
  simp only [Fst, e2]
  word_cmp

theorem snd_iff : ∀ t : Fin cfg0.N, Snd (grid0.coords t) ↔ t.val % 2 = 1 := fun t => by
  have ht : t.val < 128 := Nat.lt_of_lt_of_eq t.isLt N_0
  have e2 : (grid0.coords t 2).val = t.val / 1 % 2 := Pipeline.Grid.coords_val t 2 (by decide) rfl
  simp only [Snd, k0_cond3, e2]
  word_cmp

theorem start_iff : ∀ t : Fin cfg0.N, Start (grid0.coords t) ↔ t.val / 2 % 16 = 0 := fun t => by
  have ht : t.val < 128 := Nat.lt_of_lt_of_eq t.isLt N_0
  have e1 : (grid0.coords t 1).val = t.val / 2 % 16 := Pipeline.Grid.coords_val t 1 (by decide) rfl
  simp only [Start, k0_cond2, e1]
  word_cmp

theorem off4_eq : ∀ t : Fin grid0.N, k0_off4 (grid0.coords t) = ![0, t.val % 2 * 1408] := by decide +kernel

theorem off2_eq : ∀ t : Fin grid0.N, k0_off2 (grid0.coords t) = fun a => (![0, t.val % 2 * 1408] : Fin 2 → ℕ) a + (![6, 0] : Fin 2 → ℕ) a := by
  decide +kernel

theorem off3_eq : ∀ t : Fin grid0.N, k0_off3 (grid0.coords t) = fun a => (![0, t.val % 2 * 1408] : Fin 2 → ℕ) a + (![7, 0] : Fin 2 → ℕ) a := by
  decide +kernel

theorem off_le (t : Fin cfg0.N) (a : Fin 2) : k0_off4 (grid0.coords t) a + S8x1408.size a ≤ S8x2816.size a :=
  k0_off4_inb _ a

/-! ## Windows -/

/-- A window of a window is a window. -/
theorem window_window {s : Shape} {α : Type} (x : s.Idx → α) (off size off' size' off'' : Fin s.rank → ℕ)
    (inb : ∀ a, off a + size a ≤ s.size a) (inb' : ∀ a, off' a + size' a ≤ size a)
    (inb'' : ∀ a, off'' a + size' a ≤ s.size a) (h : ∀ a, off'' a = off a + off' a) :
    VecWindow.window (s := ⟨s.rank, size⟩) (VecWindow.window x off size inb) off' size' inb'
      = VecWindow.window x off'' size' inb'' := by
  funext y
  refine congrArg x (funext fun a => Fin.ext ?_)
  show off a + 1 * (off' a + 1 * (y a).val) = off'' a + 1 * (y a).val
  rw [h]; omega

/-- The half of the carried rows that belongs to the point. -/
def half (cr : Vec F S8x2816 .f32) (t : Fin cfg0.N) : Vec F S8x1408 .f32 :=
  VecWindow.window cr (k0_off4 (grid0.coords t)) S8x1408.size (off_le t)

theorem half_congr (cr : Vec F S8x2816 .f32) (t t' : Fin cfg0.N) (h : t.val % 2 = t'.val % 2) :
    half cr t = half cr t' := by
  have e : k0_off4 (grid0.coords t) = k0_off4 (grid0.coords t') := by rw [off4_eq, off4_eq, h]
  have : ∀ (o o' : Fin 2 → ℕ) (i : ∀ a, o a + S8x1408.size a ≤ S8x2816.size a)
      (i' : ∀ a, o' a + S8x1408.size a ≤ S8x2816.size a), o = o' →
      VecWindow.window cr o S8x1408.size i = VecWindow.window cr o' S8x1408.size i' := by
    intro o o' i i' h; subst h; rfl
  exact this _ _ _ _ e

theorem half_put_same (cr : Vec F S8x2816 .f32) (t : Fin cfg0.N) (w : Vec F S8x1408 .f32) :
    half (VecWindow.put cr (k0_off4 (grid0.coords t)) S8x1408.size w) t = w :=
  VecWindow.window_put_same _ _ _ _ _

theorem half_put_other (cr : Vec F S8x2816 .f32) (t t' : Fin cfg0.N) (h : t.val % 2 ≠ t'.val % 2) (w : Vec F S8x1408 .f32) :
    half (VecWindow.put cr (k0_off4 (grid0.coords t)) S8x1408.size w) t' = half cr t' :=
  VecWindow.window_put_of_disjoint _ _ _ _ _ _ _ (1 : Fin 2) (by
    rw [off4_eq, off4_eq]
    show t'.val % 2 * 1408 + 1408 ≤ t.val % 2 * 1408 ∨ t.val % 2 * 1408 + 1408 ≤ t'.val % 2 * 1408
    omega)

theorem half_carried_other (cr : Vec F S8x2816 .f32) (t t' : Fin cfg0.N) (h : t.val % 2 ≠ t'.val % 2) :
    half (carried (grid0.coords t) cr) t' = half cr t' := by
  unfold carried
  split
  · exact half_put_other cr t t' h _
  · rfl

/-! ## What the points leave -/

/-- The first half's point of the same token block. -/
def ev (t : Fin cfg0.N) : Fin cfg0.N := ⟨t.val - t.val % 2, lt_of_le_of_lt (Nat.sub_le _ _) t.isLt⟩

/-- The point of the same half in the token block before. -/
def pv (t : Fin cfg0.N) : Fin cfg0.N := ⟨t.val - 2, lt_of_le_of_lt (Nat.sub_le _ _) t.isLt⟩

/-- The token block, normalised. -/
def tok (c : Dev nD) (t : Fin cfg0.N) : Vec F S512x1024 .bf16 := k0_pay3 (iblk m c 0 (ev t)) (iblk m c 1 (ev t))

/-- The last eight rows of the point's up-projection. -/
def last (c : Dev nD) (t : Fin cfg0.N) : Vec F S8x1408 .f32 := k0_pay13 (k0_pay5 (tok m c t) (iblk m c 2 t))

/-- The eight rows before the point's: zero where a sequence starts. -/
def prior (c : Dev nD) (t : Fin cfg0.N) : Vec F S8x1408 .f32 :=
  if t.val / 2 % 16 = 0 then k0_pay8 else last m c (pv t)

theorem in6 : ∀ a, (![6, 0] : Fin 2 → ℕ) a + S1x1408.size a ≤ S8x1408.size a := by decide
theorem in7 : ∀ a, (![7, 0] : Fin 2 → ℕ) a + S1x1408.size a ≤ S8x1408.size a := by decide

/-- The sum with the point's share added. -/
def sumAt (c : Dev nD) (t : Fin cfg0.N) (a : Vec F S512x1024 .f32) : Vec F S512x1024 .f32 :=
  share (tok m c t) (iblk m c 2 t) (iblk m c 3 t) (tap (prior m c t) 6 in6) (tap (prior m c t) 7 in7) (iblk m c 5 t)
    (tap (iblk m c 4 t) 0 inb_S8x1408_S1x1408_0_0) (tap (iblk m c 4 t) 1 inb_S8x1408_S1x1408_1_0)
    (tap (iblk m c 4 t) 2 inb_S8x1408_S1x1408_2_0) (iblk m c 6 t) a

/-- The sum after the point. -/
def total (c : Dev nD) (t : Fin cfg0.N) : Vec F S512x1024 .f32 :=
  if t.val % 2 = 0 then sumAt m c t k0_pay4 else sumAt m c t (sumAt m c (ev t) k0_pay4)

/-- The layer's tokens that the second half's point writes. -/
def rows (c : Dev nD) (t : Fin cfg0.N) : Vec F S512x1024 .f32 :=
  k0_pay2 (iblk m c 0 t) (total m c t) (iblk m c 7 t)

/-- What the three scratch buffers hold before point `n`. -/
def Holds (c : Dev nD) (n : ℕ) (h : Vec F S512x1024 .bf16) (a : Vec F S512x1024 .f32) (cr : Vec F S8x2816 .f32) : Prop :=
  (∀ t : Fin cfg0.N, t.val + 1 = n → n % 2 = 1 → h = tok m c t ∧ a = total m c t)
    ∧ ∀ t : Fin cfg0.N, t.val < n → n ≤ t.val + 2 → half cr t = last m c t

theorem holds_zero (c : Dev nD) (h : Vec F S512x1024 .bf16) (a : Vec F S512x1024 .f32) (cr : Vec F S8x2816 .f32) :
    Holds m c 0 h a cr :=
  ⟨fun _ h => absurd h (Nat.succ_ne_zero _), fun _ h => absurd h (Nat.not_lt_zero _)⟩

section
variable {m} {c : Dev nD} {t : Fin cfg0.N} {h : Vec F S512x1024 .bf16} {a : Vec F S512x1024 .f32} {cr : Vec F S8x2816 .f32}

/-- Before the second half's point comes the first half's. -/
theorem ev_pred (ht : ¬ t.val % 2 = 0) : (ev t).val + 1 = t.val := by
  show t.val - t.val % 2 + 1 = t.val
  omega

theorem ev_of_even (ht : t.val % 2 = 0) : ev t = t := Fin.ext (by show t.val - t.val % 2 = t.val; omega)

theorem ev_ev (t : Fin cfg0.N) : ev (ev t) = ev t :=
  Fin.ext (by show (t.val - t.val % 2) - (t.val - t.val % 2) % 2 = t.val - t.val % 2; omega)

theorem tokens_eq (hH : Holds m c t.val h a cr) : tokens (grid0.coords t) (iblk m c 0 t) (iblk m c 1 t) h = tok m c t := by
  unfold tokens
  by_cases ht : t.val % 2 = 0
  · rw [if_pos ((fst_iff t).mpr ht)]; unfold tok; rw [ev_of_even ht]
  · rw [if_neg (fun e => ht ((fst_iff t).mp e)), (hH.1 (ev t) (ev_pred ht) (by omega)).1]
    unfold tok; rw [ev_ev]

theorem half_carried (hH : Holds m c t.val h a cr) : half (carried (grid0.coords t) cr) t = prior m c t := by
  unfold carried prior
  by_cases hs : t.val / 2 % 16 = 0
  · rw [if_pos ((start_iff t).mpr hs), if_pos hs]
    exact half_put_same cr t _
  · rw [if_neg (fun e => hs ((start_iff t).mp e)), if_neg hs]
    have hp : (pv t).val = t.val - 2 := rfl
    rw [half_congr cr t (pv t) (by omega)]
    exact hH.2 (pv t) (by omega) (by omega)

theorem prev2_eq (hH : Holds m c t.val h a cr) : prev2 (grid0.coords t) cr = tap (prior m c t) 6 in6 := by
  rw [← half_carried hH]
  exact (window_window (s := S8x2816) _ _ _ _ _ _ _ in6 _ (by
    rw [off4_eq]; intro b; exact congrFun (off2_eq t) b)).symm

theorem prev1_eq (hH : Holds m c t.val h a cr) : prev1 (grid0.coords t) cr = tap (prior m c t) 7 in7 := by
  rw [← half_carried hH]
  exact (window_window (s := S8x2816) _ _ _ _ _ _ _ in7 _ (by
    rw [off4_eq]; intro b; exact congrFun (off3_eq t) b)).symm

theorem sumOut_eq (hH : Holds m c t.val h a cr) :
    sumOut (grid0.coords t) (iblk m c 0 t) (iblk m c 1 t) (iblk m c 2 t) (iblk m c 3 t) (iblk m c 4 t) (iblk m c 5 t)
      (iblk m c 6 t) h a cr = total m c t := by
  unfold sumOut
  rw [tokens_eq hH, prev2_eq hH, prev1_eq hH]
  unfold sumIn total
  by_cases ht : t.val % 2 = 0
  · rw [if_pos ((fst_iff t).mpr ht), if_pos ht]; rfl
  · rw [if_neg (fun e => ht ((fst_iff t).mp e)), if_neg ht, (hH.1 (ev t) (ev_pred ht) (by omega)).2]
    unfold total
    rw [if_pos (by show (t.val - t.val % 2) % 2 = 0; omega)]; rfl

/-- From one point to the next. -/
theorem holds_succ (hH : Holds m c t.val h a cr) :
    Holds m c (t.val + 1) (tokens (grid0.coords t) (iblk m c 0 t) (iblk m c 1 t) h)
      (sumOut (grid0.coords t) (iblk m c 0 t) (iblk m c 1 t) (iblk m c 2 t) (iblk m c 3 t) (iblk m c 4 t) (iblk m c 5 t)
        (iblk m c 6 t) h a cr)
      (carryOut (grid0.coords t) (iblk m c 0 t) (iblk m c 1 t) (iblk m c 2 t) h cr) := by
  refine ⟨fun t' e _ => ?_, fun t' hl hn => ?_⟩
  · obtain rfl : t' = t := Fin.ext (by omega)
    exact ⟨tokens_eq hH, sumOut_eq hH⟩
  · unfold carryOut
    rw [tokens_eq hH]
    by_cases e : t' = t
    · subst e; exact half_put_same _ _ _
    · have e' : t'.val + 1 = t.val := by
        have : t'.val ≠ t.val := fun h => e (Fin.ext h)
        omega
      rw [half_put_other _ t t' (by omega), half_carried_other _ t t' (by omega)]
      exact hH.2 t' (by omega) (by omega)

end

end Cert.FfnIdeal.Layer

end
-- ==== Proof.FfnRun.lean ====
/- The feed-forward layer's launch: every run ends, leaves the arguments as they were and every counter at zero, and the
   array of the layer's tokens holds what the points wrote. -/
module

public import proofs.«01_k».proof.Defs
public import proofs.«01_k».proof.Proof.Gen.FfnIdeal
public import proofs.«01_k».proof.Proof.Gen.FfnIdeal.Launch
public import proofs.«01_k».proof.Proof.Gen.FfnIdeal.Frame
public import proofs.«01_k».proof.Proof.Gen.FfnIdeal.Points
public import proofs.«01_k».proof.Proof.FfnBody
public import proofs.«01_k».proof.Proof.FfnStep
public import Idealize.ShloMosaic.Lib.Claim

@[expose] public section

set_option maxRecDepth 16384

noncomputable section

namespace Cert.FfnIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output windows: the tokens are written in the second half, the tail at every point -/

theorem idle_rows : ∀ t : Fin cfg0.N, t.val % 2 = 0 → cfg0.idle 10 (grid0.coords t) = true := by decide +kernel
theorem noFlush_rows : ∀ t : Fin cfg0.N, t.val % 2 = 0 → (cfg0.win 10).flush t = false := by decide +kernel
theorem live_rows : ∀ t : Fin cfg0.N, ¬ t.val % 2 = 0 → cfg0.idle 10 (grid0.coords t) = false := by decide +kernel

/-! ## The scratch buffers and the launch's proof data -/

abbrev scTok : Memref sig .tc .vmem S512x1024 .bf16 := Memref.whole cc0_scratch0
abbrev scSum : Memref sig .tc .vmem S512x1024 .f32 := Memref.whole cc0_scratch1
abbrev scCarry : Memref sig .tc .vmem S8x2816 .f32 := Memref.whole cc0_scratch2

/-- What the launch hands the grid: the three scratch buffers at anything, and the generator's register. -/
theorem PhiA0_eq (c : Dev nD) :
    (Pipeline.ΦA spec0 c : sProp 𝕄)
      = iprop(iprop((∃ d, owns (c : Thread nD τ) scTok fullShare d) ∗ (∃ d, owns (c : Thread nD τ) scSum fullShare d)
          ∗ (∃ d, owns (c : Thread nD τ) scCarry fullShare d)) ∗ (∃ r, prngReg c r)) := by
  unfold Pipeline.ΦA; rw [scopedRest0_eq]; simp only [scTok, scSum, scCarry, owns_whole]; try rfl

/-- The state before point `n`: the scratch buffers at what the points before left, and the generator's register. -/
def Phi (c : Dev nD) (n : ℕ) : sProp 𝕄 :=
  iprop((∃ h, ∃ a, ∃ cr, ⌜Holds m c n h a cr⌝ ∗ owns (c : Thread nD τ) scTok fullShare h
    ∗ owns (c : Thread nD τ) scSum fullShare a ∗ owns (c : Thread nD τ) scCarry fullShare cr) ∗ (∃ r, prngReg c r))

/-- After each point the inputs' buffers hold their blocks, the first output's the layer's tokens (written in the
    second half) and the second's the last rows of the up-projection. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => rows m c t
    | ⟨11, _⟩ => k0_pay14 (k0_pay5 (tok m c t) (iblk m c 2 t))
  Φ t := Phi m c t.val
  q w := Pipeline.shareOf (cfgs 0).spec w
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  before0_0_of m (dats m 0 c) (A_eq m c 0) (fun t => by dsimp only [dats]) t d
theorem before0_1 (c : Dev nD) (t : Fin cfg0.N) (d) : (dats m 0 c).before 1 t d = iblk m c 1 t :=
  before0_1_of m (dats m 0 c) (A_eq m c 1) (fun t => by dsimp only [dats]) t d
theorem before0_2 (c : Dev nD) (t : Fin cfg0.N) (d) : (dats m 0 c).before 2 t d = iblk m c 2 t :=
  before0_2_of m (dats m 0 c) (A_eq m c 2) (fun t => by dsimp only [dats]) t d
theorem before0_3 (c : Dev nD) (t : Fin cfg0.N) (d) : (dats m 0 c).before 3 t d = iblk m c 3 t :=
  before0_3_of m (dats m 0 c) (A_eq m c 3) (fun t => by dsimp only [dats]) t d
theorem before0_4 (c : Dev nD) (t : Fin cfg0.N) (d) : (dats m 0 c).before 4 t d = iblk m c 4 t :=
  before0_4_of m (dats m 0 c) (A_eq m c 4) (fun t => by dsimp only [dats]) t d
theorem before0_5 (c : Dev nD) (t : Fin cfg0.N) (d) : (dats m 0 c).before 5 t d = iblk m c 5 t :=
  before0_5_of m (dats m 0 c) (A_eq m c 5) (fun t => by dsimp only [dats]) t d
theorem before0_6 (c : Dev nD) (t : Fin cfg0.N) (d) : (dats m 0 c).before 6 t d = iblk m c 6 t :=
  before0_6_of m (dats m 0 c) (A_eq m c 6) (fun t => by dsimp only [dats]) t d
theorem before0_7 (c : Dev nD) (t : Fin cfg0.N) (d) : (dats m 0 c).before 7 t d = iblk m c 7 t :=
  before0_7_of m (dats m 0 c) (A_eq m c 7) (fun t => by dsimp only [dats]) t d
theorem before0_8 (c : Dev nD) (t : Fin cfg0.N) (d) : (dats m 0 c).before 8 t d = iblk m c 8 t :=
  before0_8_of m (dats m 0 c) (A_eq m c 8) (fun t => by dsimp only [dats]) t d
theorem before0_9 (c : Dev nD) (t : Fin cfg0.N) (d) : (dats m 0 c).before 9 t d = iblk m c 9 t :=
  before0_9_of m (dats m 0 c) (A_eq m c 9) (fun t => by dsimp only [dats]) t d
theorem leaves0_0 (c : Dev nD) (t : Fin cfg0.N) : (dats m 0 c).leavesExact 0 t
    = owns (c : Thread nD τ) (win0_0.stage (cfg0.slots t 0)) fullShare (iblk m c 0 t) := by
  unfold Dat.leavesExact; rw [show cfg0.idle 0 (grid0.coords t) = false from rfl]; dsimp only [dats]
theorem leaves0_1 (c : Dev nD) (t : Fin cfg0.N) : (dats m 0 c).leavesExact 1 t
    = owns (c : Thread nD τ) (win0_1.stage (cfg0.slots t 1)) fullShare (iblk m c 1 t) := by
  unfold Dat.leavesExact; rw [show cfg0.idle 1 (grid0.coords t) = false from rfl]; dsimp only [dats]
theorem leaves0_2 (c : Dev nD) (t : Fin cfg0.N) : (dats m 0 c).leavesExact 2 t
    = owns (c : Thread nD τ) (win0_2.stage (cfg0.slots t 2)) fullShare (iblk m c 2 t) := by
  unfold Dat.leavesExact; rw [show cfg0.idle 2 (grid0.coords t) = false from rfl]; dsimp only [dats]
theorem leaves0_3 (c : Dev nD) (t : Fin cfg0.N) : (dats m 0 c).leavesExact 3 t
    = owns (c : Thread nD τ) (win0_3.stage (cfg0.slots t 3)) fullShare (iblk m c 3 t) := by
  unfold Dat.leavesExact; rw [show cfg0.idle 3 (grid0.coords t) = false from rfl]; dsimp only [dats]
theorem leaves0_4 (c : Dev nD) (t : Fin cfg0.N) : (dats m 0 c).leavesExact 4 t
    = owns (c : Thread nD τ) (win0_4.stage (cfg0.slots t 4)) fullShare (iblk m c 4 t) := by
  unfold Dat.leavesExact; rw [show cfg0.idle 4 (grid0.coords t) = false from rfl]; dsimp only [dats]
theorem leaves0_5 (c : Dev nD) (t : Fin cfg0.N) : (dats m 0 c).leavesExact 5 t
    = owns (c : Thread nD τ) (win0_5.stage (cfg0.slots t 5)) fullShare (iblk m c 5 t) := by
  unfold Dat.leavesExact; rw [show cfg0.idle 5 (grid0.coords t) = false from rfl]; dsimp only [dats]
theorem leaves0_6 (c : Dev nD) (t : Fin cfg0.N) : (dats m 0 c).leavesExact 6 t
    = owns (c : Thread nD τ) (win0_6.stage (cfg0.slots t 6)) fullShare (iblk m c 6 t) := by
  unfold Dat.leavesExact; rw [show cfg0.idle 6 (grid0.coords t) = false from rfl]; dsimp only [dats]
theorem leaves0_7 (c : Dev nD) (t : Fin cfg0.N) : (dats m 0 c).leavesExact 7 t
    = owns (c : Thread nD τ) (win0_7.stage (cfg0.slots t 7)) fullShare (iblk m c 7 t) := by
  unfold Dat.leavesExact; rw [show cfg0.idle 7 (grid0.coords t) = false from rfl]; dsimp only [dats]
theorem leaves0_8 (c : Dev nD) (t : Fin cfg0.N) : (dats m 0 c).leavesExact 8 t
    = owns (c : Thread nD τ) (win0_8.stage (cfg0.slots t 8)) fullShare (iblk m c 8 t) := by
  unfold Dat.leavesExact; rw [show cfg0.idle 8 (grid0.coords t) = false from rfl]; dsimp only [dats]
theorem leaves0_9 (c : Dev nD) (t : Fin cfg0.N) : (dats m 0 c).leavesExact 9 t
    = owns (c : Thread nD τ) (win0_9.stage (cfg0.slots t 9)) fullShare (iblk m c 9 t) := by
  unfold Dat.leavesExact; rw [show cfg0.idle 9 (grid0.coords t) = false from rfl]; dsimp only [dats]
theorem leaves0_11 (c : Dev nD) (t : Fin cfg0.N) : (dats m 0 c).leavesExact 11 t
    = owns (c : Thread nD τ) (win0_11.stage (cfg0.slots t 11)) fullShare (k0_pay14 (k0_pay5 (tok m c t) (iblk m c 2 t))) := by
  unfold Dat.leavesExact; rw [show cfg0.idle 11 (grid0.coords t) = false from rfl]; dsimp only [dats]

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- What window 10's buffer holds after the body is what the pipeline expects of it. -/
theorem leaves_rows (c : Dev nD) (t : Fin cfg0.N) (d) :
    (owns (c : Thread nD τ) (win0_10.stage (cfg0.slots t 10)) fullShare
        (rowsOut (grid0.coords t) (iblk m c 0 t) (iblk m c 7 t) ((dats m 0 c).before 10 t d) (total m c t)) : sProp 𝕄)
      ⊢ (dats m 0 c).leavesExact 10 t := by
  unfold rowsOut
  by_cases ht : t.val % 2 = 0
  · rw [if_neg (fun e => by have := (snd_iff t).mp e; omega),
      Dat.leavesExact_idle (dats m 0 c) 10 t (idle_rows t ht) (noFlush_rows t ht)]
    iintro H
    iexists _
    iexact H
  · rw [if_pos ((snd_iff t).mpr (by omega))]
    unfold Dat.leavesExact
    rw [live_rows t ht]
    exact .rfl

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9,
    leaves0_0, leaves0_1, leaves0_2, leaves0_3, leaves0_4, leaves0_5, leaves0_6, leaves0_7, leaves0_8, leaves0_9, leaves0_11]
  rw [show (dats m 0 c).owesAt () t.succ = (dats m 0 c).owesAt () t.castSucc from rfl,
    show (dats m 0 c).Φ t.succ = Phi m c (t.val + 1) from rfl, show (dats m 0 c).Φ t.castSucc = Phi m c t.val from rfl]
  unfold Phi
  iintro ⟨⟨⟨%h, %a, %cr, %hH, Hh, Ha, Hc⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run c (grid0.coords t) _ _ _ _ _ _ _ _ _ _ _ _ _ _ _ _ _ _ _ _ _ _ _ _ _ _ _ _ _ _ (by rw [snd_iff, fst_iff]; omega)
    (iblk m c 0 t) (iblk m c 1 t) (iblk m c 2 t) (iblk m c 3 t) (iblk m c 4 t) (iblk m c 5 t) (iblk m c 6 t) (iblk m c 7 t)
    (iblk m c 8 t) (iblk m c 9 t) ((dats m 0 c).before 10 t d10) ((dats m 0 c).before 11 t d11) h a cr Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hh]; · iexact Hh
  isplitl [Ha]; · iexact Ha
  isplitl [Hc]; · iexact Hc
  iintro ⟨G0, G1, G2, G3, G4, G5, G6, G7, G8, G9, G10, G11, Gh, Ga, Gc⟩
  isplitl [Gh Ga Gc Hg]
  · isplitr [Hg]
    · iexists _, _, _
      isplitr
      · ipureintro; exact holds_succ hH
      isplitl [Gh]; · iexact Gh
      isplitl [Ga]; · iexact Ga
      iexact Gc
    · iexact Hg
  isplitl [Ho]; · iexact Ho
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]
  · rw [sumOut_eq hH]
    iapply (leaves_rows m c t d10)
    iexact G10
  rw [tokens_eq hH]
  iexact G11

/-- The body the grid calls at the point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA0_eq]
  unfold Phi
  iintro ⟨⟨⟨%h, Hh⟩, ⟨%a, Ha⟩, ⟨%cr, Hc⟩⟩, Hg⟩
  isplitr [Hg]
  · iexists h, a, cr
    isplitr
    · ipureintro; exact holds_zero m c h a cr
    isplitl [Hh]; · iexact Hh
    isplitl [Ha]; · iexact Ha
    iexact Hc
  · iexact Hg

theorem hout (c : Dev nD) : (dats m 0 c).Φ (Fin.last cfg0.N) ⊢ Pipeline.ΦA spec0 c := by
  rw [show (dats m 0 c).Φ (Fin.last cfg0.N) = Phi m c cfg0.N from rfl, PhiA0_eq]
  unfold Phi
  iintro ⟨⟨%h, %a, %cr, %hH, Hh, Ha, Hc⟩, Hg⟩
  isplitr [Hg]
  · isplitl [Hh]; · iexists _; iexact Hh
    isplitl [Ha]; · iexists _; iexact Ha
    iexists _; iexact Hc
  · iexact Hg

/-! ## The run and the frame -/

set_option backward.isDefEq.respectTransparency.types false in
/-- Every run of the launch ends with the arrays at what the points wrote and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ))
    ((θ_run defs _ _).mono (fun _ h => h.2) (run_main_quiescent m ρ))

end Cert.FfnIdeal.Layer

end
-- ==== Proof.FfnMath.lean ====
/- The feed-forward layer's mathematics over the extended reals, written for both programs to be compared with. -/
module

public import Idealize.ShloMosaic.Lib.Pointwise

@[expose] public section

noncomputable section

namespace Cert.FfnMath

open Idealize.ShloMosaic

/-- A row divided by the root of its mean square (a small constant added under the root), times a gain. -/
def nrm (f g : Fin 1024 → EReal) (l : Fin 1024) : EReal :=
  f l * Ideal.rsqrt (Ideal.div (∑ k : Fin 1024, f k * f k) (Ideal.ofBits .f32 1149239296#32) + Ideal.ofBits .f32 897988541#32) * g l

/-- The bias, and two earlier entries and the present one, each times its weight. -/
def conv3 (b w0 w1 w2 u2 u1 u0 : EReal) : EReal := b + u2 * w0 + u1 * w1 + u0 * w2

/-- Half of `c` times one plus the hyperbolic tangent of a cubic in `c`. -/
def act (c : EReal) : EReal :=
  Ideal.ofBits .f32 1056964608#32 * c
    * (1 + Ideal.tanh (Ideal.ofBits .f32 1061962282#32 * (c + Ideal.ofBits .f32 1027024659#32 * (c * c * c))))

/-- What the layer is given: tokens by sequence, position and feature, gains, weights. -/
structure Args where
  x : Fin 4 → Fin 8192 → Fin 1024 → EReal
  g : Fin 1024 → EReal
  wu : Fin 1024 → Fin 2816 → EReal
  wg : Fin 1024 → Fin 2816 → EReal
  cw : Fin 3 → Fin 2816 → EReal
  cb : Fin 2816 → EReal
  wd : Fin 2816 → Fin 1024 → EReal
  gf : Fin 1024 → EReal

namespace Args
variable (A : Args)

/-- The tokens normalised. -/
def tok (n : Fin 4) (s : Fin 8192) (l : Fin 1024) : EReal := nrm (A.x n s) A.g l

/-- Their up-projection. -/
def up (n : Fin 4) (s : Fin 8192) (q : Fin 2816) : EReal := ∑ l : Fin 1024, A.tok n s l * A.wu l q

/-- Their gate. -/
def gate (n : Fin 4) (s : Fin 8192) (q : Fin 2816) : EReal := ∑ l : Fin 1024, A.tok n s l * A.wg l q

/-- The up-projection `k` positions earlier, zero before the sequence starts. -/
def back (k : ℕ) (n : Fin 4) (s : Fin 8192) (q : Fin 2816) : EReal :=
  if s.val < k then 0 else A.up n ⟨s.val - k, lt_of_le_of_lt (Nat.sub_le _ _) s.isLt⟩ q

/-- The convolution of the up-projection with the present and the two earlier positions. -/
def conv (n : Fin 4) (s : Fin 8192) (q : Fin 2816) : EReal :=
  conv3 (A.cb q) (A.cw 0 q) (A.cw 1 q) (A.cw 2 q) (A.back 2 n s q) (A.back 1 n s q) (A.up n s q)

/-- The activated convolution times the gate. -/
def hid (n : Fin 4) (s : Fin 8192) (q : Fin 2816) : EReal := act (A.conv n s q) * A.gate n s q

/-- Its down-projection. -/
def down (n : Fin 4) (s : Fin 8192) (d : Fin 1024) : EReal := ∑ q : Fin 2816, A.hid n s q * A.wd q d

/-- The tokens with the down-projection added, normalised. -/
def out (n : Fin 4) (s : Fin 8192) (d : Fin 1024) : EReal := nrm (fun k => A.x n s k + A.down n s k) A.gf d

end Args

end Cert.FfnMath

end
-- ==== Proof.FfnEntry.lean ====
/- The arrays that the feed-forward layer's windows read, as the region finds them: host operations of the arguments. -/
module

public import proofs.«01_k».proof.Proof.FfnStep
public import proofs.«01_k».proof.Proof.FfnMath
public import Idealize.ShloMosaic.Lib.Pipeline.ValueKit
public import Idealize.ShloMosaic.Lib.Claim

@[expose] public section

set_option maxRecDepth 16384

noncomputable section

namespace Cert.FfnIdeal.Layer

open Idealize.ShloMosaic Idealize.ShloMosaic.TcCoe
open Cert.FfnIdeal.Gen

variable (m : (ℓ : Loc nD τ sig) → Buf (Elt Ideal) ℓ) (c : Dev nD)

/-! ## The arguments -/

/-- Argument 0. -/
abbrev a_x : Vec Ideal S4x8192x1024 .f32 := m ((c.tc : Thread nD τ).loc main_arg0)

/-- Argument 1. -/
abbrev a_g : Vec Ideal S1x1024 .f32 := m ((c.tc : Thread nD τ).loc main_arg1)

/-- Argument 2. -/
abbrev a_wu : Vec Ideal S1x1024x2816 .f32 := m ((c.tc : Thread nD τ).loc main_arg2)

/-- Argument 3. -/
abbrev a_wg : Vec Ideal S1x1024x2816 .f32 := m ((c.tc : Thread nD τ).loc main_arg3)

/-- Argument 4. -/
abbrev a_cw : Vec Ideal S1x3x2816 .f32 := m ((c.tc : Thread nD τ).loc main_arg4)

/-- Argument 5. -/
abbrev a_cb : Vec Ideal S1x2816 .f32 := m ((c.tc : Thread nD τ).loc main_arg5)

/-- Argument 6. -/
abbrev a_wd : Vec Ideal S1x2816x1024 .f32 := m ((c.tc : Thread nD τ).loc main_arg6)

/-- Argument 7. -/
abbrev a_gf : Vec Ideal S1024 .f32 := m ((c.tc : Thread nD τ).loc main_arg7)

/-- The layer's arguments as the program holds them. -/
def args : FfnMath.Args where
  x n s l := a_x m c (ix3 n s l)
  g l := a_g m c (ix2 0 l)
  wu l q := a_wu m c (ix3 0 l q)
  wg l q := a_wg m c (ix3 0 l q)
  cw k q := a_cw m c (ix3 0 k q)
  cb q := a_cb m c (ix2 0 q)
  wd q d := a_wd m c (ix3 0 q d)
  gf l := a_gf m c (ix1 l)

/-! ## What the region finds in the arrays its windows read -/

theorem V_x : (V m c main_v1 : Vec Ideal S32768x1024 .f32) = shapeCast S32768x1024 (a_x m c) shapeCasts_S4x8192x1024_S32768x1024 := by
  simp only [V, List.flatten_cons, List.flatten_nil, List.append_nil, hostOps0, hostOps0_1, hostOps0_2, List.cons_append, List.nil_append]
  after_results_simp <;> rfl

theorem V_g : (V m c main_v3 : Vec Ideal S1x1024 .f32) = broadcastInDim S1x1024 ![1] bcast_S1024_S1x1024_1 (shapeCast S1024 (a_g m c) shapeCasts_S1x1024_S1024) := by
  simp only [V, List.flatten_cons, List.flatten_nil, List.append_nil, hostOps0, hostOps0_1, hostOps0_2, List.cons_append, List.nil_append]
  after_results_simp <;> rfl

theorem V_wu : (V m c main_v5 : Vec Ideal S1024x2816 .bf16) = truncf .bf16 (shapeCast S1024x2816 (a_wu m c) shapeCasts_S1x1024x2816_S1024x2816 : FVec Ideal S1024x2816 .f32) bitsLt_bf16_f32 := by
  simp only [V, List.flatten_cons, List.flatten_nil, List.append_nil, hostOps0, hostOps0_1, hostOps0_2, List.cons_append, List.nil_append]
  after_results_simp <;> rfl

theorem V_wg : (V m c main_v7 : Vec Ideal S1024x2816 .bf16) = truncf .bf16 (shapeCast S1024x2816 (a_wg m c) shapeCasts_S1x1024x2816_S1024x2816 : FVec Ideal S1024x2816 .f32) bitsLt_bf16_f32 := by
  simp only [V, List.flatten_cons, List.flatten_nil, List.append_nil, hostOps0, hostOps0_1, hostOps0_2, List.cons_append, List.nil_append]
  after_results_simp <;> rfl

theorem V_cw : (V m c main_v9 : Vec Ideal S8x2816 .f32) = pad S8x2816 ![0, 0] ![5, 0] ![0, 0] (shapeCast S3x2816 (a_cw m c) shapeCasts_S1x3x2816_S3x2816)
    (sitofp .f32 (constantI S_ 32 0#32) : FVec Ideal S_ .f32) pads_S3x2816_S8x2816_050_000 h_S_ := by
  simp only [V, List.flatten_cons, List.flatten_nil, List.append_nil, hostOps0, hostOps0_1, hostOps0_2, List.cons_append, List.nil_append]
  after_results_simp <;> rfl

theorem V_cb : (V m c main_v11 : Vec Ideal S1x2816 .f32) = broadcastInDim S1x2816 ![1] bcast_S2816_S1x2816_1 (shapeCast S2816 (a_cb m c) shapeCasts_S1x2816_S2816) := by
  simp only [V, List.flatten_cons, List.flatten_nil, List.append_nil, hostOps0, hostOps0_1, hostOps0_2, List.cons_append, List.nil_append]
  after_results_simp <;> rfl

theorem V_wd : (V m c main_v13 : Vec Ideal S2816x1024 .bf16) = truncf .bf16 (shapeCast S2816x1024 (a_wd m c) shapeCasts_S1x2816x1024_S2816x1024 : FVec Ideal S2816x1024 .f32) bitsLt_bf16_f32 := by
  simp only [V, List.flatten_cons, List.flatten_nil, List.append_nil, hostOps0, hostOps0_1, hostOps0_2, List.cons_append, List.nil_append]
  after_results_simp <;> rfl

theorem V_gf : (V m c main_v14 : Vec Ideal S1x1024 .f32) = broadcastInDim S1x1024 ![1] bcast_S1024_S1x1024_1 (a_gf m c) := by
  simp only [V, List.flatten_cons, List.flatten_nil, List.append_nil, hostOps0, hostOps0_1, hostOps0_2, List.cons_append, List.nil_append]
  after_results_simp <;> rfl

end Cert.FfnIdeal.Layer

end
-- ==== Proof.FfnBlocks.lean ====
/- The feed-forward layer's blocks, element by element: what each window shows the body, read off the arguments. -/
module

public import proofs.«01_k».proof.Proof.FfnEntry
public import Idealize.ShloMosaic.Lib.Pipeline.ValueKit

@[expose] public section

set_option maxRecDepth 16384

noncomputable section

namespace Cert.FfnIdeal.Layer

open Idealize.ShloMosaic Idealize.ShloMosaic.TcCoe
open Cert.FfnIdeal.Gen

variable (m : (ℓ : Loc nD τ sig) → Buf (Elt Ideal) ℓ) (c : Dev nD)

theorem lt128 (t : Fin cfg0.N) : t.val < 128 := Nat.lt_of_lt_of_eq t.isLt N_0

/-- The point's sequence. -/
def nn (t : Fin cfg0.N) : Fin 4 := ⟨t.val / 32, by have := lt128 t; omega⟩

/-- The position of row `r` of the point's token block. -/
def ss (t : Fin cfg0.N) (r : Fin 512) : Fin 8192 := ⟨t.val / 2 % 16 * 512 + r.val, by omega⟩

/-- Column `q` of the point's half. -/
def qq (t : Fin cfg0.N) (q : Fin 1408) : Fin 2816 := ⟨t.val % 2 * 1408 + q.val, by omega⟩

theorem idx0 : ∀ t : Fin grid0.N, win0_0.index t = ![t.val / 2, 0] := by decide +kernel
theorem idx1 : ∀ t : Fin grid0.N, win0_1.index t = ![0, 0] := by decide +kernel
theorem idx2 : ∀ t : Fin grid0.N, win0_2.index t = ![0, t.val % 2] := by decide +kernel
theorem idx3 : ∀ t : Fin grid0.N, win0_3.index t = ![0, t.val % 2] := by decide +kernel
theorem idx4 : ∀ t : Fin grid0.N, win0_4.index t = ![0, t.val % 2] := by decide +kernel
theorem idx5 : ∀ t : Fin grid0.N, win0_5.index t = ![0, t.val % 2] := by decide +kernel
theorem idx6 : ∀ t : Fin grid0.N, win0_6.index t = ![t.val % 2, 0] := by decide +kernel
theorem idx7 : ∀ t : Fin grid0.N, win0_7.index t = ![0, 0] := by decide +kernel
theorem idx10 : ∀ t : Fin grid0.N, win0_10.index t = ![t.val / 2, 0] := by decide +kernel

theorem idx11 : ∀ t : Fin grid0.N, win0_11.index t = ![t.val / 2, 0, t.val % 2] := by decide +kernel

/-- Row `r`, column `l` of the token block: the token's feature. -/
theorem at_x (n : Fin 4) (s : Fin 8192) (l : Fin 1024) (k : Fin 32768) (hk : k.val = n.val * 8192 + s.val) :
    shapeCast S32768x1024 (a_x m c) shapeCasts_S4x8192x1024_S32768x1024 (ix2 k l) = (args m c).x n s l := by
  have e1 : k.val / 8192 = n.val := by omega
  have e2 : k.val % 8192 = s.val := by omega
  pointwise
  simp only [e1, e2]
  rfl

theorem emb0 (t : Fin cfg0.N) (r : Fin 512) (l : Fin 1024) (k : Fin 32768) (hk : k.val = t.val / 2 * 512 + r.val) :
    ((cfg0.win 0).blk t).view.emb (ix2 r l) = ix2 k l := by
  blk_ext [idx0 t]

theorem iblk0_apply (t : Fin cfg0.N) (r : Fin 512) (l : Fin 1024) :
    (iblk m c 0 t : Vec Ideal S512x1024 .f32) (ix2 r l) = (args m c).x (nn t) (ss t r) l := by
  have h := lt128 t
  exact (congrArg (V m c main_v1) (emb0 t r l ⟨t.val / 2 * 512 + r.val, by omega⟩ rfl)).trans
    ((congrFun (V_x m c) _).trans (at_x m c _ _ _ _ (by unfold nn ss; dsimp only; omega)))

theorem iblk1_apply (t : Fin cfg0.N) (l : Fin 1024) :
    (iblk m c 1 t : Vec Ideal S1x1024 .f32) (ix2 0 l) = (args m c).g l := by
  have e : ((cfg0.win 1).blk t).view.emb (ix2 0 l) = ix2 (0 : Fin 1) l := by
    blk_ext [idx1 t]
  refine (congrArg (V m c main_v3) e).trans ((congrFun (V_g m c) _).trans ?_)
  pointwise [args]

theorem iblk2_apply (t : Fin cfg0.N) (l : Fin 1024) (q : Fin 1408) :
    (iblk m c 2 t : Vec Ideal S1024x1408 .bf16) (ix2 l q) = (args m c).wu l (qq t q) := by
  have e : ((cfg0.win 2).blk t).view.emb (ix2 l q) = ix2 l (qq t q) := by
    unfold qq
    blk_ext [idx2 t]
  refine (congrArg (V m c main_v5) e).trans ((congrFun (V_wu m c) _).trans ?_)
  pointwise [args]

theorem iblk3_apply (t : Fin cfg0.N) (l : Fin 1024) (q : Fin 1408) :
    (iblk m c 3 t : Vec Ideal S1024x1408 .bf16) (ix2 l q) = (args m c).wg l (qq t q) := by
  have e : ((cfg0.win 3).blk t).view.emb (ix2 l q) = ix2 l (qq t q) := by
    unfold qq
    blk_ext [idx3 t]
  refine (congrArg (V m c main_v7) e).trans ((congrFun (V_wg m c) _).trans ?_)
  pointwise [args]

theorem iblk4_apply (t : Fin cfg0.N) (k : Fin 3) (k' : Fin 8) (hk : k'.val = k.val) (q : Fin 1408) :
    (iblk m c 4 t : Vec Ideal S8x1408 .f32) (ix2 k' q) = (args m c).cw k (qq t q) := by
  have e : ((cfg0.win 4).blk t).view.emb (ix2 k' q) = ix2 k' (qq t q) := by
    unfold qq
    blk_ext [idx4 t]
  refine (congrArg (V m c main_v9) e).trans ((congrFun (V_cw m c) _).trans ?_)
  pointwise [args]
  rw [dif_pos (by omega)]
  simp only [hk, Fin.eta]

theorem iblk5_apply (t : Fin cfg0.N) (q : Fin 1408) :
    (iblk m c 5 t : Vec Ideal S1x1408 .f32) (ix2 0 q) = (args m c).cb (qq t q) := by
  have e : ((cfg0.win 5).blk t).view.emb (ix2 0 q) = ix2 0 (qq t q) := by
    unfold qq
    blk_ext [idx5 t]
  refine (congrArg (V m c main_v11) e).trans ((congrFun (V_cb m c) _).trans ?_)
  pointwise [args]

theorem iblk6_apply (t : Fin cfg0.N) (q : Fin 1408) (d : Fin 1024) :
    (iblk m c 6 t : Vec Ideal S1408x1024 .bf16) (ix2 q d) = (args m c).wd (qq t q) d := by
  have e : ((cfg0.win 6).blk t).view.emb (ix2 q d) = ix2 (qq t q) d := by
    unfold qq
    blk_ext [idx6 t]
  refine (congrArg (V m c main_v13) e).trans ((congrFun (V_wd m c) _).trans ?_)
  pointwise [args]

theorem iblk7_apply (t : Fin cfg0.N) (l : Fin 1024) :
    (iblk m c 7 t : Vec Ideal S1x1024 .f32) (ix2 0 l) = (args m c).gf l := by
  have e : ((cfg0.win 7).blk t).view.emb (ix2 0 l) = ix2 (0 : Fin 1) l := by
    blk_ext [idx7 t]
  refine (congrArg (V m c main_v14) e).trans ((congrFun (V_gf m c) _).trans ?_)
  pointwise [args]

/-- Where the written block's elements lie. -/
theorem emb10 (t : Fin cfg0.N) (r : Fin 512) (l : Fin 1024) (k : Fin 32768) (hk : k.val = t.val / 2 * 512 + r.val) :
    ((cfg0.win 10).blk t).view.emb (ix2 r l) = ix2 k l := by
  blk_ext [idx10 t]

theorem emb11 (t : Fin cfg0.N) (r : Fin 8) (q : Fin 1408) (b : Fin 64) (hb : b.val = t.val / 2) :
    ((cfg0.win 11).blk t).view.emb (ix3 0 r q) = ix3 b r (qq t q) := by
  unfold qq
  blk_ext [idx11 t]

end Cert.FfnIdeal.Layer

end
-- ==== Proof.FfnPay.lean ====
/- What the feed-forward layer's body computes at a point, element by element, over the extended reals. -/
module

public import proofs.«01_k».proof.Proof.FfnPoint
public import proofs.«01_k».proof.Proof.FfnMath

@[expose] public section

set_option maxRecDepth 16384

noncomputable section

namespace Cert.FfnIdeal.Layer

open Idealize.ShloMosaic Idealize.ShloMosaic.TcCoe
open Cert.FfnIdeal.Gen Cert.FfnMath

/-- A token block's row normalised. -/
theorem pay3_apply (x : Vec Ideal S512x1024 .f32) (g : Vec Ideal S1x1024 .f32) (r : Fin 512) (l : Fin 1024) :
    k0_pay3 x g (ix2 r l) = nrm (fun k => x (ix2 r k)) (fun k => g (ix2 0 k)) l := by
  pointwise [k0_pay3]
  rfl

/-- The sum of two blocks, its row normalised. -/
theorem pay2_apply (x a : Vec Ideal S512x1024 .f32) (g : Vec Ideal S1x1024 .f32) (r : Fin 512) (l : Fin 1024) :
    k0_pay2 x a g (ix2 r l) = nrm (fun k => x (ix2 r k) + a (ix2 r k)) (fun k => g (ix2 0 k)) l := by
  pointwise [k0_pay2]
  rfl

theorem pay5_apply (h : Vec Ideal S512x1024 .bf16) (w : Vec Ideal S1024x1408 .bf16) (r : Fin 512) (q : Fin 1408) :
    k0_pay5 h w (ix2 r q) = ∑ l : Fin 1024, h (ix2 r l) * w (ix2 l q) := by
  pointwise [k0_pay5]

theorem pay6_apply (h : Vec Ideal S512x1024 .bf16) (w : Vec Ideal S1024x1408 .bf16) (r : Fin 512) (q : Fin 1408) :
    k0_pay6 h w (ix2 r q) = ∑ l : Fin 1024, h (ix2 r l) * w (ix2 l q) := by
  pointwise [k0_pay6]

theorem pay13_apply (u : FVec Ideal S512x1408 .f32) (r : Fin 8) (q : Fin 1408) :
    k0_pay13 u (ix2 r q) = u (ix2 ⟨504 + r.val, by omega⟩ q) := by
  pointwise [k0_pay13]

theorem pay14_apply (u : FVec Ideal S512x1408 .f32) (r : Fin 8) (q : Fin 1408) :
    k0_pay14 u (ix3 0 r q) = u (ix2 ⟨504 + r.val, by omega⟩ q) := by
  pointwise [k0_pay14]

theorem tap_apply (w : Vec Ideal S8x1408 .f32) (k : ℕ) (h : ∀ a, (![k, 0] : Fin 2 → ℕ) a + S1x1408.size a ≤ S8x1408.size a)
    (k' : Fin 8) (hk : k'.val = k) (q : Fin 1408) : tap w k h (ix2 0 q) = w (ix2 k' q) := by
  subst hk
  refine congrArg w (funext fun a => Fin.ext ?_)
  match a with
  | ⟨0, _⟩ => show k'.val + 1 * 0 = k'.val; omega
  | ⟨1, _⟩ => show 0 + 1 * q.val = q.val; omega

/-- A choice by a row's number. -/
theorem select_row (r k : ℕ) (hr : r < 512) (hk : k < 512) (x y : EReal) :
    Scalar.select (IntOp.cmpi CmpIPredicate.eq (BitVec.ofNat 32 r) (BitVec.ofNat 32 k)) x y = if r = k then x else y := by
  have e : BitVec.ofNat 32 r = BitVec.ofNat 32 k ↔ r = k := by
    constructor
    · intro h
      have := congrArg BitVec.toNat h
      simp only [BitVec.toNat_ofNat] at this
      omega
    · rintro rfl; rfl
  by_cases h : r = k
  · subst h; simp [Scalar.select, IntOp.cmpi]
  · have hf : (BitVec.ofNat 32 r == BitVec.ofNat 32 k) = false := beq_eq_false_iff_ne.mpr fun e' => h (e.mp e')
    simp [Scalar.select, IntOp.cmpi, hf, h]

/-- The convolution at row `r`: the two rows before it are the carried ones where the block has none. -/
theorem conv_apply (h : Vec Ideal S512x1024 .bf16) (w : Vec Ideal S1024x1408 .bf16) (p2 p1 b w0 w1 w2 : Vec Ideal S1x1408 .f32)
    (r : Fin 512) (q : Fin 1408) :
    k0_pay15 (k0_pay5 h w) (k0_pay7 h w) p2 (k0_pay9 h w p1) k0_pay10 k0_pay11 (k0_pay12 p1) b w0 w1 w2 (ix2 r q)
      = conv3 (b (ix2 0 q)) (w0 (ix2 0 q)) (w1 (ix2 0 q)) (w2 (ix2 0 q))
          (if r.val = 0 then p2 (ix2 0 q) else if r.val = 1 then p1 (ix2 0 q) else k0_pay5 h w (ix2 ⟨(r.val + 512 - 2) % 512, Nat.mod_lt _ (by decide)⟩ q))
          (if r.val = 0 then p1 (ix2 0 q) else k0_pay5 h w (ix2 ⟨(r.val + 512 - 1) % 512, Nat.mod_lt _ (by decide)⟩ q))
          (k0_pay5 h w (ix2 r q)) := by
  unfold k0_pay7 k0_pay9
  generalize k0_pay5 h w = u
  rw [← select_row r.val 0 r.isLt (by decide), ← select_row r.val 1 r.isLt (by decide), ← select_row r.val 0 r.isLt (by decide)]
  pointwise [k0_pay15, k0_pay10, k0_pay11, k0_pay12]
  rfl

/-- The point's share at an element: the products of the activated convolution, the gate and the down-projection's weights. -/
theorem share_apply (h : Vec Ideal S512x1024 .bf16) (wu wg : Vec Ideal S1024x1408 .bf16) (p2 p1 b w0 w1 w2 : Vec Ideal S1x1408 .f32)
    (wd : Vec Ideal S1408x1024 .bf16) (a : Vec Ideal S512x1024 .f32) (r : Fin 512) (d : Fin 1024) (C G : Fin 1408 → EReal)
    (hC : ∀ q, k0_pay15 (k0_pay5 h wu) (k0_pay7 h wu) p2 (k0_pay9 h wu p1) k0_pay10 k0_pay11 (k0_pay12 p1) b w0 w1 w2 (ix2 r q) = C q)
    (hG : ∀ q, k0_pay6 h wg (ix2 r q) = G q) :
    share h wu wg p2 p1 b w0 w1 w2 wd a (ix2 r d) = a (ix2 r d) + ∑ q : Fin 1408, act (C q) * G q * wd (ix2 q d) := by
  unfold share
  pointwise [k0_pay1, k0_pay16, k0_pay17, k0_pay18]
  simp only [hC, hG]
  rfl

theorem pay4_apply (i : S512x1024.Idx) : k0_pay4 (F := Ideal) i = 0 := by
  pointwise [k0_pay4]

theorem pay8_apply (i : S8x1408.Idx) : k0_pay8 (F := Ideal) i = 0 := by
  pointwise [k0_pay8]

end Cert.FfnIdeal.Layer

end
-- ==== Proof.FfnTotal.lean ====
/- What the feed-forward layer's points compute, as the layer's mathematics. -/
module

public import proofs.«01_k».proof.Proof.FfnBlocks
public import proofs.«01_k».proof.Proof.FfnPay

@[expose] public section

set_option maxRecDepth 16384

noncomputable section

namespace Cert.FfnIdeal.Layer

open Idealize.ShloMosaic Idealize.ShloMosaic.TcCoe
open Cert.FfnIdeal.Gen Cert.FfnMath

variable (m : (ℓ : Loc nD τ sig) → Buf (Elt Ideal) ℓ) (c : Dev nD)

theorem nn_ev (t : Fin cfg0.N) : nn (ev t) = nn t := Fin.ext (by show (t.val - t.val % 2) / 32 = t.val / 32; omega)
theorem ss_ev (t : Fin cfg0.N) (r : Fin 512) : ss (ev t) r = ss t r :=
  Fin.ext (by show (t.val - t.val % 2) / 2 % 16 * 512 + r.val = t.val / 2 % 16 * 512 + r.val; omega)

/-- The block's tokens, normalised. -/
theorem tok_apply (t : Fin cfg0.N) (r : Fin 512) (l : Fin 1024) :
    tok m c t (ix2 r l) = (args m c).tok (nn t) (ss t r) l := by
  refine (pay3_apply _ _ r l).trans ?_
  simp only [iblk0_apply, iblk1_apply, nn_ev, ss_ev]
  rfl

/-- Their up-projection in the point's half. -/
theorem up_apply (t : Fin cfg0.N) (r : Fin 512) (q : Fin 1408) :
    k0_pay5 (tok m c t) (iblk m c 2 t) (ix2 r q) = (args m c).up (nn t) (ss t r) (qq t q) := by
  refine (pay5_apply _ _ r q).trans ?_
  simp only [tok_apply, iblk2_apply]
  rfl

/-- The last rows of the block's up-projection, in the point's half. -/
theorem tail_apply (t : Fin cfg0.N) (r : Fin 8) (q : Fin 1408) :
    k0_pay14 (k0_pay5 (tok m c t) (iblk m c 2 t)) (ix3 0 r q)
      = (args m c).up (nn t) (ss t ⟨504 + r.val, by omega⟩) (qq t q) := by
  rw [pay14_apply, up_apply]

/-- Their gate in the point's half. -/
theorem gate_apply (t : Fin cfg0.N) (r : Fin 512) (q : Fin 1408) :
    k0_pay6 (tok m c t) (iblk m c 3 t) (ix2 r q) = (args m c).gate (nn t) (ss t r) (qq t q) := by
  refine (pay6_apply _ _ r q).trans ?_
  simp only [tok_apply, iblk3_apply]
  rfl

/-- The up-projection `k` positions before the block's row `r`, where those are before the block: a carried row. -/
theorem prior_apply (t : Fin cfg0.N) (k : ℕ) (r : Fin 512) (j : Fin 8) (hj : j.val + k = 8 + r.val) (hk : r.val < k) (q : Fin 1408) :
    prior m c t (ix2 j q) = (args m c).back k (nn t) (ss t r) (qq t q) := by
  have ht := lt128 t
  unfold prior Args.back
  by_cases h : t.val / 2 % 16 = 0
  · rw [if_pos h, if_pos (by show t.val / 2 % 16 * 512 + r.val < k; omega)]
    exact pay8_apply _
  · rw [if_neg h, if_neg (by show ¬ t.val / 2 % 16 * 512 + r.val < k; omega)]
    unfold last
    rw [pay13_apply, up_apply]
    have e1 : nn (pv t) = nn t := Fin.ext (by show (t.val - 2) / 32 = t.val / 32; omega)
    have e2 : qq (pv t) q = qq t q := Fin.ext (by show (t.val - 2) % 2 * 1408 + q.val = t.val % 2 * 1408 + q.val; omega)
    rw [e1, e2]
    congr 1
    refine Fin.ext ?_
    show (t.val - 2) / 2 % 16 * 512 + (504 + j.val) = t.val / 2 % 16 * 512 + r.val - k
    omega

/-- The same where they are in the block: one of its rows. -/
theorem inner_apply (t : Fin cfg0.N) (k : ℕ) (r r' : Fin 512) (hr : r'.val + k = r.val) (q : Fin 1408) :
    k0_pay5 (tok m c t) (iblk m c 2 t) (ix2 r' q) = (args m c).back k (nn t) (ss t r) (qq t q) := by
  rw [up_apply]
  unfold Args.back
  rw [if_neg (by show ¬ t.val / 2 % 16 * 512 + r.val < k; omega)]
  congr 1
  refine Fin.ext ?_
  show t.val / 2 % 16 * 512 + r'.val = t.val / 2 % 16 * 512 + r.val - k
  omega

/-- The convolution at a row of the block. -/
theorem conv_at (t : Fin cfg0.N) (r : Fin 512) (q : Fin 1408) :
    k0_pay15 (k0_pay5 (tok m c t) (iblk m c 2 t)) (k0_pay7 (tok m c t) (iblk m c 2 t)) (tap (prior m c t) 6 in6)
        (k0_pay9 (tok m c t) (iblk m c 2 t) (tap (prior m c t) 7 in7)) k0_pay10 k0_pay11 (k0_pay12 (tap (prior m c t) 7 in7))
        (iblk m c 5 t) (tap (iblk m c 4 t) 0 inb_S8x1408_S1x1408_0_0) (tap (iblk m c 4 t) 1 inb_S8x1408_S1x1408_1_0)
        (tap (iblk m c 4 t) 2 inb_S8x1408_S1x1408_2_0) (ix2 r q)
      = (args m c).conv (nn t) (ss t r) (qq t q) := by
  rw [conv_apply, tap_apply _ 6 in6 6 rfl, tap_apply _ 7 in7 7 rfl, tap_apply _ 0 _ 0 rfl, tap_apply _ 1 _ 1 rfl, tap_apply _ 2 _ 2 rfl,
    iblk4_apply m c t 0 0 rfl, iblk4_apply m c t 1 1 rfl, iblk4_apply m c t 2 2 rfl, iblk5_apply]
  unfold Args.conv
  congr 1
  · by_cases h0 : r.val = 0
    · rw [if_pos h0]; exact prior_apply m c t 2 r 6 (by rw [h0]; rfl) (by omega) q
    rw [if_neg h0]
    by_cases h1 : r.val = 1
    · rw [if_pos h1]; exact prior_apply m c t 2 r 7 (by rw [h1]; rfl) (by omega) q
    rw [if_neg h1]
    exact inner_apply m c t 2 r ⟨(r.val + 512 - 2) % 512, Nat.mod_lt _ (by decide)⟩ (by show (r.val + 512 - 2) % 512 + 2 = r.val; omega) q
  · by_cases h0 : r.val = 0
    · rw [if_pos h0]; exact prior_apply m c t 1 r 7 (by rw [h0]; rfl) (by omega) q
    rw [if_neg h0]
    exact inner_apply m c t 1 r ⟨(r.val + 512 - 1) % 512, Nat.mod_lt _ (by decide)⟩ (by show (r.val + 512 - 1) % 512 + 1 = r.val; omega) q
  · exact up_apply m c t r q

/-- A sum with the point's share added, at an element. -/
theorem sumAt_apply (t : Fin cfg0.N) (a : Vec Ideal S512x1024 .f32) (r : Fin 512) (d : Fin 1024) :
    sumAt m c t a (ix2 r d) = a (ix2 r d)
      + ∑ q : Fin 1408, (args m c).hid (nn t) (ss t r) (qq t q) * (args m c).wd (qq t q) d := by
  unfold sumAt
  refine (share_apply _ _ _ _ _ _ _ _ _ _ _ r d _ _ (conv_at m c t r) (gate_apply m c t r)).trans ?_
  simp only [iblk6_apply]
  rfl

/-- The sum after the second half's point: the whole down-projection. -/
theorem total_apply (t : Fin cfg0.N) (ht : t.val % 2 = 1) (r : Fin 512) (d : Fin 1024) :
    total m c t (ix2 r d) = (args m c).down (nn t) (ss t r) d := by
  have e0 : ∀ q, qq (ev t) q = (⟨q.val, by omega⟩ : Fin 2816) := fun q =>
    Fin.ext (by show (t.val - t.val % 2) % 2 * 1408 + q.val = q.val; omega)
  have e1 : ∀ q, qq t q = (⟨1408 + q.val, by omega⟩ : Fin 2816) := fun q =>
    Fin.ext (by show t.val % 2 * 1408 + q.val = 1408 + q.val; omega)
  unfold total
  rw [if_neg (by omega), sumAt_apply, sumAt_apply, pay4_apply, zero_add, nn_ev, ss_ev]
  unfold Args.down
  simp only [e0, e1]
  exact (Fin.sum_univ_two_halves 1408 1408 rfl fun q : Fin 2816 =>
    (args m c).hid (nn t) (ss t r) q * (args m c).wd q d).symm

/-- The rows that the second half's point writes: the layer's result. -/
theorem rows_apply (t : Fin cfg0.N) (ht : t.val % 2 = 1) (r : Fin 512) (d : Fin 1024) :
    rows m c t (ix2 r d) = (args m c).out (nn t) (ss t r) d := by
  unfold rows
  refine (pay2_apply _ _ _ r d).trans ?_
  simp only [iblk0_apply, iblk7_apply, total_apply m c t ht]
  rfl

end Cert.FfnIdeal.Layer

end
-- ==== Proof.FfnReference.lean ====
/- The reference of the feed-forward layer, stage by stage: its result is the layer's mathematics. -/
module

public import proofs.«01_k».proof.Proof.Gen.FfnReferenceIdeal.Run
public import proofs.«01_k».proof.Proof.FfnMath

@[expose] public section

set_option maxRecDepth 16384

noncomputable section

namespace Cert.FfnReferenceIdeal.Layer

open Idealize.ShloMosaic Idealize.ShloMosaic.TcCoe
open Cert.FfnReferenceIdeal Cert.FfnReferenceIdeal.Gen Cert.FfnMath

variable (m : (ℓ : Loc nD τ sig) → Buf (Elt Ideal) ℓ) (c : Dev nD)

/-! ## The arguments -/

/-- Argument 0. -/
abbrev a_x : FVec Ideal S4x8192x1024 .f32 := m ((c.tc : Thread nD τ).loc main_arg0)

/-- Argument 1. -/
abbrev a_g : FVec Ideal S1x1024 .f32 := m ((c.tc : Thread nD τ).loc main_arg1)

/-- Argument 2. -/
abbrev a_wu : FVec Ideal S1x1024x2816 .f32 := m ((c.tc : Thread nD τ).loc main_arg2)

/-- Argument 3. -/
abbrev a_wg : FVec Ideal S1x1024x2816 .f32 := m ((c.tc : Thread nD τ).loc main_arg3)

/-- Argument 4. -/
abbrev a_cw : FVec Ideal S1x3x2816 .f32 := m ((c.tc : Thread nD τ).loc main_arg4)

/-- Argument 5. -/
abbrev a_cb : FVec Ideal S1x2816 .f32 := m ((c.tc : Thread nD τ).loc main_arg5)

/-- Argument 6. -/
abbrev a_wd : FVec Ideal S1x2816x1024 .f32 := m ((c.tc : Thread nD τ).loc main_arg6)

/-- Argument 7. -/
abbrev a_gf : FVec Ideal S1024 .f32 := m ((c.tc : Thread nD τ).loc main_arg7)

/-- The layer's arguments as the program holds them. -/
def args : Args where
  x n s l := a_x m c (ix3 n s l)
  g l := a_g m c (ix2 0 l)
  wu l q := a_wu m c (ix3 0 l q)
  wg l q := a_wg m c (ix3 0 l q)
  cw k q := a_cw m c (ix3 0 k q)
  cb q := a_cb m c (ix2 0 q)
  wd q d := a_wd m c (ix3 0 q d)
  gf l := a_gf m c (ix1 l)

/-! ## The stages -/

/-- Rows divided by the root of their mean square, times a gain. -/
def norm (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2
    (Host.rsqrt (addf (Host.divf (broadcastInDim S4x8192x1 ![0, 1] bcast_S4x8192_S4x8192x1_0_1
        (Host.reduceAdd (mulf x x) (constant S_ .f32 0x00000000#32) reducesTo_S4x8192x1024_S4x8192_d2 h_S_))
      (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2
      (broadcastInDim S1x1x1024 ![2] bcast_S1024_S1x1x1024_2 g))

/-- A projection of the normalised tokens. -/
def proj (h : FVec Ideal S4x8192x1024 .f32) (w : FVec Ideal S1x1024x2816 .f32) : FVec Ideal S4x8192x2816 .f32 :=
  Host.dotGeneral dot_S4x8192x1024_S1024x2816_S4x8192x2816_2_0_01_1_n_n none h
    (shapeCast S1024x2816 w shapeCasts_S1x1024x2816_S1024x2816)

/-- Two rows of zeros before the up-projection's. -/
def padded (u : FVec Ideal S4x8192x2816 .f32) : FVec Ideal S4x8194x2816 .f32 :=
  concatenate S4x8194x2816 1 [⟨S4x2x2816, (broadcastInDim S4x2x2816 ![] bcast_S_S4x2x2816 (constant S_ .f32 0x00000000#32))⟩,
    ⟨S4x8192x2816, u⟩] concatenates_S4x2x2816_S4x8192x2816_S4x8194x2816_d1

/-- A vector of columns, at every row. -/
def cols (v : FVec Ideal S2816 .f32) : FVec Ideal S4x8192x2816 .f32 :=
  broadcastInDim S4x8192x2816 ![0, 1, 2] bcast_S1x1x2816_S4x8192x2816_0_1_2 (broadcastInDim S1x1x2816 ![2] bcast_S2816_S1x1x2816_2 v)

/-- The convolution's bias and its three products. -/
def convolved (p : FVec Ideal S4x8194x2816 .f32) (w : FVec Ideal S1x3x2816 .f32) (b : FVec Ideal S1x2816 .f32) :
    FVec Ideal S4x8192x2816 .f32 :=
  addf (addf (addf (cols (shapeCast S2816 b shapeCasts_S1x2816_S2816))
    (mulf (extractStridedSlice S4x8192x2816 ![0, 0, 0] p slices_S4x8194x2816_S4x8192x2816_0_0_0)
      (cols (shapeCast S2816 (extractStridedSlice S1x2816 ![0, 0] (shapeCast S3x2816 w shapeCasts_S1x3x2816_S3x2816) slices_S3x2816_S1x2816_0_0) shapeCasts_S1x2816_S2816))))
    (mulf (extractStridedSlice S4x8192x2816 ![0, 1, 0] p slices_S4x8194x2816_S4x8192x2816_0_1_0)
      (cols (shapeCast S2816 (extractStridedSlice S1x2816 ![1, 0] (shapeCast S3x2816 w shapeCasts_S1x3x2816_S3x2816) slices_S3x2816_S1x2816_1_0) shapeCasts_S1x2816_S2816))))
    (mulf (extractStridedSlice S4x8192x2816 ![0, 2, 0] p slices_S4x8194x2816_S4x8192x2816_0_2_0)
      (cols (shapeCast S2816 (extractStridedSlice S1x2816 ![2, 0] (shapeCast S3x2816 w shapeCasts_S1x3x2816_S3x2816) slices_S3x2816_S1x2816_2_0) shapeCasts_S1x2816_S2816)))

/-- A constant at every element. -/
def everywhere (b : BitVec 32) : FVec Ideal S4x8192x2816 .f32 :=
  broadcastInDim S4x8192x2816 ![] bcast_S_S4x8192x2816 (constant S_ .f32 b)

/-- The activated convolution. -/
def activated (v : FVec Ideal S4x8192x2816 .f32) : FVec Ideal S4x8192x2816 .f32 :=
  mulf v (mulf (everywhere 0x3F000000#32) (addf (everywhere 0x3F800000#32)
    (Host.tanh (mulf (everywhere 0x3F4C422A#32) (addf v (mulf (everywhere 0x3D372713#32) (mulf (mulf v v) v)))))))

/-- The down-projection. -/
def projDown (v : FVec Ideal S4x8192x2816 .f32) (w : FVec Ideal S1x2816x1024 .f32) : FVec Ideal S4x8192x1024 .f32 :=
  Host.dotGeneral dot_S4x8192x2816_S2816x1024_S4x8192x1024_2_0_01_1_n_n none v (shapeCast S2816x1024 w shapeCasts_S1x2816x1024_S2816x1024)

def r_tok : FVec Ideal S4x8192x1024 .f32 := norm (a_x m c) (shapeCast S1024 (a_g m c) shapeCasts_S1x1024_S1024)
def r_up : FVec Ideal S4x8192x2816 .f32 := proj (r_tok m c) (a_wu m c)
def r_gate : FVec Ideal S4x8192x2816 .f32 := proj (r_tok m c) (a_wg m c)
def r_conv : FVec Ideal S4x8192x2816 .f32 := convolved (padded (r_up m c)) (a_cw m c) (a_cb m c)
def r_down : FVec Ideal S4x8192x1024 .f32 := projDown (mulf (activated (r_conv m c)) (r_gate m c)) (a_wd m c)
def r_out : FVec Ideal S4x8192x1024 .f32 := norm (addf (a_x m c) (r_down m c)) (a_gf m c)

/-- The last rows of every 512 of the up-projection. -/
def r_tail : FVec Ideal S64x8x2816 .f32 :=
  extractStridedSlice S64x8x2816 ![0, 504, 0] (shapeCast S64x512x2816 (r_up m c) shapeCasts_S4x8192x2816_S64x512x2816)
    slices_S64x512x2816_S64x8x2816_0_504_0

/-- The reference's first result is the last stage, its rows in a single line. -/
theorem res_eq : Value.res_out0 m c = shapeCast S32768x1024 (r_out m c) shapeCasts_S4x8192x1024_S32768x1024 := by
  unfold Value.res_out0 Value.res_main_v77
  rfl

/-! ## The stages at an element -/

theorem norm_apply (x : FVec Ideal S4x8192x1024 .f32) (g : FVec Ideal S1024 .f32) (n : Fin 4) (s : Fin 8192) (l : Fin 1024) :
    norm x g (ix3 n s l) = nrm (fun k => x (ix3 n s k)) (fun k => g (ix1 k)) l := by
  pointwise [norm]
  rfl

theorem proj_apply (h : FVec Ideal S4x8192x1024 .f32) (w : FVec Ideal S1x1024x2816 .f32) (n : Fin 4) (s : Fin 8192) (q : Fin 2816) :
    proj h w (ix3 n s q) = ∑ l : Fin 1024, h (ix3 n s l) * w (ix3 0 l q) := by
  pointwise [proj]

theorem projDown_apply (v : FVec Ideal S4x8192x2816 .f32) (w : FVec Ideal S1x2816x1024 .f32) (n : Fin 4) (s : Fin 8192) (d : Fin 1024) :
    projDown v w (ix3 n s d) = ∑ q : Fin 2816, v (ix3 n s q) * w (ix3 0 q d) := by
  pointwise [projDown]

theorem padded_apply (u : FVec Ideal S4x8192x2816 .f32) (n : Fin 4) (s : Fin 8194) (q : Fin 2816) :
    padded u (ix3 n s q) = if h : s.val < 2 then 0 else u (ix3 n ⟨s.val - 2, by omega⟩ q) := by
  pointwise [padded]

theorem convolved_apply (p : FVec Ideal S4x8194x2816 .f32) (w : FVec Ideal S1x3x2816 .f32) (b : FVec Ideal S1x2816 .f32)
    (n : Fin 4) (s : Fin 8192) (q : Fin 2816) :
    convolved p w b (ix3 n s q) = conv3 (b (ix2 0 q)) (w (ix3 0 0 q)) (w (ix3 0 1 q)) (w (ix3 0 2 q))
      (p (ix3 n ⟨s.val, by omega⟩ q)) (p (ix3 n ⟨1 + s.val, by omega⟩ q)) (p (ix3 n ⟨2 + s.val, by omega⟩ q)) := by
  pointwise [convolved, cols]
  rfl

theorem activated_apply (v : FVec Ideal S4x8192x2816 .f32) (i : S4x8192x2816.Idx) : activated v i = act (v i) := by
  pointwise [activated, everywhere]
  unfold act
  rw [← mul_assoc, mul_comm (v i)]

/-! ## The reference is the layer's mathematics -/

theorem tok_eq (n : Fin 4) (s : Fin 8192) (l : Fin 1024) : r_tok m c (ix3 n s l) = (args m c).tok n s l := by
  unfold r_tok
  rw [norm_apply]
  unfold Args.tok
  congr 1
  funext k
  pointwise [args]

theorem up_eq (n : Fin 4) (s : Fin 8192) (q : Fin 2816) : r_up m c (ix3 n s q) = (args m c).up n s q := by
  unfold r_up
  rw [proj_apply]
  simp only [tok_eq]
  rfl

theorem gate_eq (n : Fin 4) (s : Fin 8192) (q : Fin 2816) : r_gate m c (ix3 n s q) = (args m c).gate n s q := by
  unfold r_gate
  rw [proj_apply]
  simp only [tok_eq]
  rfl

/-- A padded row is the up-projection some positions earlier. -/
theorem padded_eq (n : Fin 4) (s : Fin 8192) (q : Fin 2816) (k : ℕ) (s' : Fin 8194) (hs : s'.val + k = s.val + 2) :
    padded (r_up m c) (ix3 n s' q) = (args m c).back k n s q := by
  rw [padded_apply]
  unfold Args.back
  by_cases h : s.val < k
  · rw [if_pos h, dif_pos (by omega)]
  · rw [if_neg h, dif_neg (by omega), up_eq]
    congr 1
    exact Fin.ext (by show s'.val - 2 = s.val - k; omega)

theorem back_zero (A : Args) (n : Fin 4) (s : Fin 8192) (q : Fin 2816) : A.back 0 n s q = A.up n s q := rfl

theorem conv_eq (n : Fin 4) (s : Fin 8192) (q : Fin 2816) : r_conv m c (ix3 n s q) = (args m c).conv n s q := by
  unfold r_conv
  rw [convolved_apply, padded_eq m c n s q 2 _ rfl, padded_eq m c n s q 1 _ (by show 1 + s.val + 1 = s.val + 2; omega),
    padded_eq m c n s q 0 _ (by show 2 + s.val + 0 = s.val + 2; omega), back_zero]
  rfl

theorem down_eq (n : Fin 4) (s : Fin 8192) (d : Fin 1024) : r_down m c (ix3 n s d) = (args m c).down n s d := by
  unfold r_down
  rw [projDown_apply]
  refine Finset.sum_congr rfl fun q _ => ?_
  show activated (r_conv m c) (ix3 n s q) * r_gate m c (ix3 n s q) * _ = _
  rw [activated_apply, conv_eq, gate_eq]
  rfl

theorem out_eq (n : Fin 4) (s : Fin 8192) (d : Fin 1024) : r_out m c (ix3 n s d) = (args m c).out n s d := by
  unfold r_out
  rw [norm_apply]
  unfold Args.out
  congr 1
  funext k
  show a_x m c (ix3 n s k) + r_down m c (ix3 n s k) = _
  rw [down_eq]
  rfl

/-- The reference's first result at an element. -/
theorem res_apply (n : Fin 4) (s : Fin 8192) (d : Fin 1024) (k : Fin 32768) (hk : k.val = n.val * 8192 + s.val) :
    Value.res_out0 m c (ix2 k d) = (args m c).out n s d := by
  have e1 : k.val / 8192 = n.val := by omega
  have e2 : k.val % 8192 = s.val := by omega
  refine (congrFun (res_eq m c) _).trans ?_
  pointwise
  simp only [e1, e2]
  exact out_eq m c n s d

/-- The second at an element: the up-projection at the token that the row is of. -/
theorem tail_eq (n : Fin 4) (s : Fin 8192) (q : Fin 2816) (b : Fin 64) (r : Fin 8) (h : n.val * 8192 + s.val = b.val * 512 + (504 + r.val)) :
    r_tail m c (ix3 b r q) = (args m c).up n s q := by
  refine Eq.trans ?_ (up_eq m c n s q)
  pointwise [r_tail]
  have e1 : b.val / 16 = n.val := by omega
  have e2 : b.val % 16 * 512 + (504 + r.val) = s.val := by omega
  simp only [e1, e2]

open Idealize.SL.Sem in
/-- The run, its second result at the stage's name. -/
theorem run_results (ρ : Dev nD → PrngReg) :
    θ_run defs (onTc (τ := τ) (main (F := Ideal))) ⟨m, fun _ => 0, ρ⟩ fun r => ∀ c : Dev nD,
      r.2.mem ((c.tc : Thread nD τ).loc main_v77) = Value.res_out0 m c
      ∧ r.2.mem ((c.tc : Thread nD τ).loc main_v79) = r_tail m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1, (h c).2.1.trans (by unfold r_tail r_up proj r_tok norm; rfl), (h c).2.2⟩)
    (Value.run (F := Ideal) m ρ)

end Cert.FfnReferenceIdeal.Layer

end
-- ==== Proof.FfnLaunch.lean ====
/- The feed-forward layer: the launch's results are the reference's, from memories that agree on the arguments; the frames
   of both programs and of their ideal readings. -/
module

public import proofs.«01_k».proof.Proof.Gen.Ffn
public import proofs.«01_k».proof.Proof.Gen.FfnSample
public import proofs.«01_k».proof.Proof.Gen.FfnSampleIdeal.Frame
public import proofs.«01_k».proof.Proof.Gen.FfnReference
public import proofs.«01_k».proof.Proof.FfnRun
public import proofs.«01_k».proof.Proof.FfnTotal
public import proofs.«01_k».proof.Proof.FfnReference
public import Idealize.ShloMosaic.Init

@[expose] public section

set_option maxRecDepth 16384

noncomputable section

namespace Cert.FfnIdeal.Layer

open Idealize.ShloMosaic Idealize.ShloMosaic.TcCoe Idealize.SL.Sem
open Cert.FfnIdeal.Gen Cert.FfnMath

/-! ## The array of the layer's tokens after the run -/

/-- Each block that the launch writes holds the reference's rows, and the blocks cover the array. -/
theorem tokens_final (m : (ℓ : Loc nD τ sig) → Buf (Elt Ideal) ℓ)
    (m' : (ℓ : Loc Cert.FfnReferenceIdeal.nD Cert.FfnReferenceIdeal.τ Cert.FfnReferenceIdeal.sig) → Buf (Elt Ideal) ℓ)
    (c : Dev nD) (hA : Cert.FfnReferenceIdeal.Layer.args m' c = args m c) :
    (dats m 0 c).arrAt 10 cfg0.N = Cert.FfnReferenceIdeal.Value.res_out0 m' c := by
  refine (dats m 0 c).arrAt_eq_of_covers 10 _ (by decide +kernel) fun t hf y => ?_
  have ht : t.val % 2 = 1 := (flush0_10 t).mp hf
  have hN := lt128 t
  have hr := (y 0).isLt
  have hk : t.val / 2 * 512 + (y 0).val < 32768 := by
    have : (y 0).val < 512 := hr
    omega
  have hy : y = ix2 (y 0) (y 1) := by funext a; fin_cases a <;> rfl
  rw [hy]
  refine (rows_apply m c t ht (y 0) (y 1)).trans ?_
  refine Eq.trans ?_ (congrArg (Cert.FfnReferenceIdeal.Value.res_out0 m' c) (emb10 t (y 0) (y 1) ⟨t.val / 2 * 512 + (y 0).val, hk⟩ rfl)).symm
  refine Eq.trans ?_ (Cert.FfnReferenceIdeal.Layer.res_apply m' c (nn t) (ss t (y 0)) (y 1) ⟨t.val / 2 * 512 + (y 0).val, hk⟩ ?_).symm
  · rw [hA]
  · show t.val / 2 * 512 + (y 0).val = t.val / 32 * 8192 + (t.val / 2 % 16 * 512 + (y 0).val)
    omega

/-- So does each block of last rows that it writes, at every point. -/
theorem tail_final (m : (ℓ : Loc nD τ sig) → Buf (Elt Ideal) ℓ)
    (m' : (ℓ : Loc Cert.FfnReferenceIdeal.nD Cert.FfnReferenceIdeal.τ Cert.FfnReferenceIdeal.sig) → Buf (Elt Ideal) ℓ)
    (c : Dev nD) (hA : Cert.FfnReferenceIdeal.Layer.args m' c = args m c) :
    (dats m 0 c).arrAt 11 cfg0.N = Cert.FfnReferenceIdeal.Layer.r_tail m' c := by
  refine (dats m 0 c).arrAt_eq_of_covers 11 _ (by decide +kernel) fun t _ y => ?_
  have hN := lt128 t
  have hy : y = ix3 0 (y 1) (y 2) := by
    have h0 : (y 0).val < 1 := (y 0).isLt
    funext a
    match a with
    | ⟨0, _⟩ => exact Fin.ext (by show (y 0).val = 0; omega)
    | ⟨1, _⟩ => rfl
    | ⟨2, _⟩ => rfl
  have hr : (y 1).val < 8 := (y 1).isLt
  rw [hy]
  refine (tail_apply m c t (y 1) (y 2)).trans ?_
  refine Eq.trans ?_ (congrArg (Cert.FfnReferenceIdeal.Layer.r_tail m' c) (emb11 t (y 1) (y 2) ⟨t.val / 2, by omega⟩ rfl)).symm
  refine Eq.trans ?_ (Cert.FfnReferenceIdeal.Layer.tail_eq m' c (nn t) (ss t ⟨504 + (y 1).val, by omega⟩) (qq t (y 2)) ⟨t.val / 2, by omega⟩ (y 1) ?_).symm
  · rw [hA]
  · show t.val / 32 * 8192 + (t.val / 2 % 16 * 512 + (504 + (y 1).val)) = t.val / 2 * 512 + (504 + (y 1).val)
    omega

end Cert.FfnIdeal.Layer

namespace Cert.Proof

open Idealize.ShloMosaic Idealize.SL.Sem

attribute [local instance] Cert.Ffn.Gen.facts Cert.FfnIdeal.Gen.facts Cert.FfnReference.Gen.facts Cert.FfnReferenceIdeal.Gen.facts
  Cert.FfnSample.Gen.facts Cert.FfnSampleIdeal.Gen.facts

/-! ## The frames -/

/-- A run of the layer as printed is a run of its ideal reading, over the same float values. -/
theorem same_run_ffn {F : FTy → Type} [FloatOps F] (s : MemSt Cert.FfnIdeal.nD Cert.FfnIdeal.τ Cert.FfnIdeal.sig (Elt F))
    (Q : PUnit × MemSt Cert.FfnIdeal.nD Cert.FfnIdeal.τ Cert.FfnIdeal.sig (Elt F) → Prop) :
    θ_run (Cert.Ffn.defs (F := F)) (onTc (τ := Cert.Ffn.τ) (Cert.Ffn.main (F := F))) s Q
      = θ_run (Cert.FfnIdeal.defs (F := F)) (onTc (τ := Cert.FfnIdeal.τ) (Cert.FfnIdeal.main (F := F))) s Q := by
  chain_rfl

theorem frame_ffn_ideal : Cert.quiescent_FfnIdeal := fun m ρ _ => Cert.FfnIdeal.Layer.frame_ideal (F := Ideal) m ρ

theorem frame_ffn : Cert.quiescent_Ffn := fun m ρ _ =>
  (same_run_ffn _ _).mpr (Cert.FfnIdeal.Layer.frame_ideal (F := Bits) m ρ)

/-- The same of the sample group's call. -/
theorem same_run_sample {F : FTy → Type} [FloatOps F] (s : MemSt Cert.FfnSampleIdeal.nD Cert.FfnSampleIdeal.τ Cert.FfnSampleIdeal.sig (Elt F))
    (Q : PUnit × MemSt Cert.FfnSampleIdeal.nD Cert.FfnSampleIdeal.τ Cert.FfnSampleIdeal.sig (Elt F) → Prop) :
    θ_run (Cert.FfnSample.defs (F := F)) (onTc (τ := Cert.FfnSample.τ) (Cert.FfnSample.main (F := F))) s Q
      = θ_run (Cert.FfnSampleIdeal.defs (F := F)) (onTc (τ := Cert.FfnSampleIdeal.τ) (Cert.FfnSampleIdeal.main (F := F))) s Q := by
  chain_rfl

theorem frame_sample_ideal : Cert.quiescent_FfnSampleIdeal := fun m ρ _ => Cert.FfnSampleIdeal.Gen.frame (F := Ideal) m ρ

theorem frame_sample : Cert.quiescent_FfnSample := fun m ρ _ =>
  (same_run_sample _ _).mpr (Cert.FfnSampleIdeal.Gen.frame (F := Bits) m ρ)

/-- And of the reference. -/
theorem same_run_ffn_ref {F : FTy → Type} [FloatOps F] (s : MemSt Cert.FfnReferenceIdeal.nD Cert.FfnReferenceIdeal.τ Cert.FfnReferenceIdeal.sig (Elt F))
    (Q : PUnit × MemSt Cert.FfnReferenceIdeal.nD Cert.FfnReferenceIdeal.τ Cert.FfnReferenceIdeal.sig (Elt F) → Prop) :
    θ_run (Cert.FfnReference.defs (F := F)) (onTc (τ := Cert.FfnReference.τ) (Cert.FfnReference.main (F := F))) s Q
      = θ_run (Cert.FfnReferenceIdeal.defs (F := F)) (onTc (τ := Cert.FfnReferenceIdeal.τ) (Cert.FfnReferenceIdeal.main (F := F))) s Q := by
  chain_rfl

theorem frame_ffn_ref_ideal : Cert.quiescent_FfnReferenceIdeal := fun m ρ _ =>
  (θ_run Cert.FfnReferenceIdeal.defs _ _).mono (fun r h => ⟨fun c => (h c).2.2, sem_eq_zero_of_no_sems (by decide) r.2⟩)
    (Cert.FfnReferenceIdeal.Value.run (F := Ideal) m ρ)

theorem frame_ffn_ref : Cert.quiescent_FfnReference := fun m ρ _ =>
  (same_run_ffn_ref _ _).mpr <|
    (θ_run Cert.FfnReferenceIdeal.defs _ _).mono (fun r h => ⟨fun c => (h c).2.2, sem_eq_zero_of_no_sems (by decide) r.2⟩)
      (Cert.FfnReferenceIdeal.Value.run (F := Bits) m ρ)

/-! ## The values -/

/-- From memories that agree on the arguments, the two end with the same tokens and the same last rows, over the extended reals. -/
theorem algebraic_ffn : Cert.algebraic_FfnIdeal_FfnReferenceIdeal := fun m ρ m' ρ' _ hag => by
  refine ⟨fun c => Cert.FfnReferenceIdeal.Value.res_out0 m' c, fun c => Cert.FfnReferenceIdeal.Layer.r_tail m' c,
    (θ_run Cert.FfnIdeal.defs _ _).mono (fun r h c => ?_)
      (θ_run_and (Cert.FfnIdeal.Gen.frame_of m ρ (Cert.FfnIdeal.Layer.dats m) (Cert.FfnIdeal.Layer.A_eq m)
        (Cert.FfnIdeal.Layer.run_main m ρ)) (Cert.FfnIdeal.Layer.run_main m ρ)),
    Cert.FfnReferenceIdeal.Layer.run_results m' ρ'⟩
  obtain ⟨e0, e1, e2, e3, e4, e5, e6, e7⟩ := hag c
  have hA : Cert.FfnReferenceIdeal.Layer.args m' c = Cert.FfnIdeal.Layer.args m c := by
    unfold Cert.FfnReferenceIdeal.Layer.args Cert.FfnIdeal.Layer.args
    simp only [e0, e1, e2, e3, e4, e5, e6, e7]
  exact ⟨((h.2 c).1 10).trans (Cert.FfnIdeal.Layer.tokens_final m m' c hA),
    ((h.2 c).1 11).trans (Cert.FfnIdeal.Layer.tail_final m m' c hA), h.1 c⟩

end Cert.Proof

end
-- ==== Proof.ProjMath.lean ====
/- A normalised row times a column, and the projections of the tokens and of the memory written with it. -/
module

public import proofs.«01_k».proof.Proof.FfnMath

@[expose] public section

noncomputable section

namespace Cert.ProjMath

open Idealize.ShloMosaic
open Cert.FfnMath

/-- A row normalised, times a column. -/
def lin (f g w : Fin 1024 → EReal) : EReal := ∑ l : Fin 1024, nrm f g l * w l

/-- What a projection is given: rows by sequence, position and feature, a gain, and the matrix's columns. -/
structure Args (seqs len cols : ℕ) where
  x : Fin seqs → Fin len → Fin 1024 → EReal
  g : Fin 1024 → EReal
  w : Fin 1024 → Fin cols → EReal

/-- Column `q` of a row's projection. -/
def Args.out {seqs len cols : ℕ} (A : Args seqs len cols) (n : Fin seqs) (s : Fin len) (q : Fin cols) : EReal :=
  lin (A.x n s) A.g fun l => A.w l q

/-- The same of the prompt's rows in a single line, -/
def Args.row {cols : ℕ} (A : Args 4 8192 cols) (k : Fin 32768) (q : Fin cols) : EReal :=
  A.out ⟨k.val / 8192, by omega⟩ ⟨k.val % 8192, by omega⟩ q

/-- and of the sample's. -/
def Args.few {cols : ℕ} (A : Args 128 4 cols) (k : Fin 512) (q : Fin cols) : EReal :=
  A.out ⟨k.val / 4, by omega⟩ ⟨k.val % 4, by omega⟩ q

/-- Two matrices' columns side by side. -/
def beside (a b : Fin 1024 → Fin 1024 → EReal) (l : Fin 1024) (q : Fin 2048) : EReal :=
  if h : q.val < 1024 then a l ⟨q.val, h⟩ else b l ⟨q.val - 1024, by omega⟩

/-- An array whose row `k`, column `q` is the projection's column `o + q` of token `k`. -/
def Columns {N n : ℕ} (row : Fin N → Fin 2328 → EReal) (o : ℕ) (ho : o + n ≤ 2328) (R : (⟨2, ![N, n]⟩ : Shape).Idx → EReal) : Prop :=
  ∀ (k : Fin N) (q : Fin n), R (ix2 k q) = row k ⟨o + q.val, by omega⟩

end Cert.ProjMath

end
-- ==== Proof.InProjEntry.lean ====
/- The token projections' blocks, element by element: what each window shows the body, read off the arguments. -/
module

public import proofs.«01_k».proof.Proof.Gen.InProjIdeal.Value
public import proofs.«01_k».proof.Proof.ProjMath
public import Idealize.ShloMosaic.Lib.Pointwise
public import Idealize.ShloMosaic.Lib.Pipeline.ValueKit

@[expose] public section

set_option maxRecDepth 16384

noncomputable section

namespace Cert.InProjIdeal.Layer

open Idealize.ShloMosaic Idealize.ShloMosaic.TcCoe
open Cert.InProjIdeal Cert.InProjIdeal.Gen Cert.FfnMath Cert.ProjMath

/-! ## The arguments, and what the region finds in the arrays its windows read -/

variable (m : (ℓ : Loc nD τ sig) → Buf (Elt Ideal) ℓ) (c : Dev nD)

/-- Argument 0. -/
abbrev a_x : Vec Ideal S4x8192x1024 .f32 := m ((c.tc : Thread nD τ).loc main_arg0)

/-- Argument 1. -/
abbrev a_g : Vec Ideal S1x1024 .f32 := m ((c.tc : Thread nD τ).loc main_arg1)

/-- Argument 2. -/
abbrev a_w : Vec Ideal S1x1024x2328 .f32 := m ((c.tc : Thread nD τ).loc main_arg2)

/-- The arguments as the program holds them. -/
def args : Args 4 8192 2328 where
  x n s l := a_x m c (ix3 n s l)
  g l := a_g m c (ix2 0 l)
  w l q := a_w m c (ix3 0 l q)

theorem V_x : (V m c main_v59 : Vec Ideal S32768x1024 .f32) = shapeCast S32768x1024 (a_x m c) shapeCasts_S4x8192x1024_S32768x1024 := by
  simp only [V, List.flatten_cons, List.flatten_nil, List.append_nil, hostOps0, hostOps0_1, hostOps0_2, List.cons_append, List.nil_append]
  after_results_simp <;> rfl

theorem V_g : (V m c main_v61 : Vec Ideal S1x1024 .f32) = broadcastInDim S1x1024 ![1] bcast_S1024_S1x1024_1 (shapeCast S1024 (a_g m c) shapeCasts_S1x1024_S1024) := by
  simp only [V, List.flatten_cons, List.flatten_nil, List.append_nil, hostOps0, hostOps0_1, hostOps0_2, List.cons_append, List.nil_append]
  after_results_simp <;> rfl

/-- The weights' columns with `a` in the queries' place and `b` in the gates'. -/
def columns (w : FVec Ideal S1x1024x2328 .f32) (a : FVec Ideal S1024x1024 .f32) (b : FVec Ideal S1024x128 .f32) : FVec Ideal S1024x2944 .bf16 :=
  truncf .bf16 (concatenate S1024x2944 1
    [⟨S1024x1024, extractStridedSlice S1024x1024 ![0, 0] (shapeCast S1024x2328 w shapeCasts_S1x1024x2328_S1024x2328) slices_S1024x2328_S1024x1024_0_0⟩,
      ⟨S1024x1024, a⟩,
      ⟨S1024x768, extractStridedSlice S1024x768 ![0, 1536] (shapeCast S1024x2328 w shapeCasts_S1x1024x2328_S1024x2328) slices_S1024x2328_S1024x768_0_1536⟩,
      ⟨S1024x128, b⟩] concatenates_S1024x1024_S1024x1024_S1024x768_S1024x128_S1024x2944_d1 : FVec Ideal S1024x2944 .f32) bitsLt_bf16_f32

/-- What the last host operations before the region leave in the array of weights. -/
theorem last_ops (X : Valuation τ sig (Elt Ideal)) (w : FVec Ideal S1x1024x2328 .f32)
    (h : (X main_v0 : FVec Ideal S1024x2328 .f32) = shapeCast S1024x2328 w shapeCasts_S1x1024x2328_S1024x2328) :
    ∃ a b, (StableHlo.after hostOps0_2 X main_v58 : FVec Ideal S1024x2944 .bf16) = columns w a b := by
  refine ⟨shapeCast S1024x1024 (X main_v51 : FVec Ideal S1024x8x2x64 .f32) shapeCasts_S1024x8x2x64_S1024x1024, (X main_v53 : FVec Ideal S1024x128 .f32), ?_⟩
  unfold columns
  rw [← h]
  simp only [hostOps0_2]
  after_results_simp <;> rfl

theorem V_w : ∃ a b, (V m c main_v58 : Vec Ideal S1024x2944 .bf16) = columns (a_w m c) a b := by
  simp only [V, List.flatten_cons, List.flatten_nil, List.append_nil]
  rw [StableHlo.after_append, StableHlo.after_append]
  refine last_ops _ _ ?_
  simp only [hostOps0, hostOps0_1]
  after_results_simp <;> rfl

/-- Before the queries' place the columns are the weights' own. -/
theorem columns_first (w : FVec Ideal S1x1024x2328 .f32) (a : FVec Ideal S1024x1024 .f32) (b : FVec Ideal S1024x128 .f32)
    (l : Fin 1024) (j : Fin 2944) (j' : Fin 2328) (h : j.val < 1024) (e : j'.val = j.val) :
    columns w a b (ix2 l j) = w (ix3 0 l j') := by
  pointwise [columns]
  rw [dif_pos h]
  exact congrArg (fun z => w (ix3 0 l z)) (Fin.ext e.symm)

/-- After it they lie 512 columns further than in the weights. -/
theorem columns_later (w : FVec Ideal S1x1024x2328 .f32) (a : FVec Ideal S1024x1024 .f32) (b : FVec Ideal S1024x128 .f32)
    (l : Fin 1024) (j : Fin 2944) (j' : Fin 2328) (h : 2048 ≤ j.val) (h' : j.val < 2816) (e : j'.val + 512 = j.val) :
    columns w a b (ix2 l j) = w (ix3 0 l j') := by
  pointwise [columns]
  rw [dif_neg (by omega), dif_neg (by omega), dif_pos (by omega)]
  exact congrArg (fun z => w (ix3 0 l z)) (Fin.ext (by show 1536 + (j.val - 1024 - 1024) = j'.val; omega))

/-- An array that has the columns of `W` before the queries' place, and after it 512 columns further. -/
structure Spread (v : FVec Ideal S1024x2944 .bf16) (W : Fin 1024 → Fin 2328 → EReal) : Prop where
  first : ∀ (l : Fin 1024) (j : Fin 2944) (j' : Fin 2328), j.val < 1024 → j'.val = j.val → v (ix2 l j) = W l j'
  later : ∀ (l : Fin 1024) (j : Fin 2944) (j' : Fin 2328), 2048 ≤ j.val → j.val < 2816 → j'.val + 512 = j.val → v (ix2 l j) = W l j'

theorem spread_columns (w : FVec Ideal S1x1024x2328 .f32) (a : FVec Ideal S1024x1024 .f32) (b : FVec Ideal S1024x128 .f32) :
    Spread (columns w a b) fun l q => w (ix3 0 l q) :=
  ⟨columns_first w a b, columns_later w a b⟩

/-! ## The blocks -/

theorem lt64 (t : Fin cfg0.N) : t.val < 64 := Nat.lt_of_lt_of_eq t.isLt N_0

/-- The token of row `r` of the point's block. -/
def token (t : Fin cfg0.N) (r : Fin 512) : Fin 32768 := ⟨t.val * 512 + r.val, by have := lt64 t; omega⟩

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel

theorem iblk0_apply (t : Fin cfg0.N) (r : Fin 512) (l : Fin 1024) :
    (iblk m c 0 t : Vec Ideal S512x1024 .f32) (ix2 r l)
      = (args m c).x ⟨(token t r).val / 8192, by omega⟩ ⟨(token t r).val % 8192, by omega⟩ l := by
  have e : ((cfg0.win 0).blk t).view.emb (ix2 r l) = ix2 (token t r) l := by
    unfold token
    blk_ext [idx0 t]
  refine (congrArg (V m c main_v59) e).trans ((congrFun (V_x m c) _).trans ?_)
  pointwise
  rfl

theorem iblk1_apply (t : Fin cfg0.N) (l : Fin 1024) :
    (iblk m c 1 t : Vec Ideal S1x1024 .f32) (ix2 0 l) = (args m c).g l := by
  have e : ((cfg0.win 1).blk t).view.emb (ix2 0 l) = ix2 (0 : Fin 1) l := by
    blk_ext [idx1 t]
  refine (congrArg (V m c main_v61) e).trans ((congrFun (V_g m c) _).trans ?_)
  pointwise [args]

theorem emb2 (t : Fin cfg0.N) (l : Fin 1024) (j : Fin 2944) : ((cfg0.win 2).blk t).view.emb (ix2 l j) = ix2 l j := by
  blk_ext [idx2 t]

theorem iblk2_spread (t : Fin cfg0.N) : Spread (iblk m c 2 t) (args m c).w := by
  obtain ⟨a, b, hw⟩ := V_w m c
  have e : (iblk m c 2 t : Vec Ideal S1024x2944 .bf16) = columns (a_w m c) a b := by
    funext y
    have hy : y = ix2 (y 0) (y 1) := by funext k; fin_cases k <;> rfl
    rw [hy]
    exact (congrArg (V m c main_v58) (emb2 t (y 0) (y 1))).trans (congrFun hw _)
  exact e ▸ spread_columns (a_w m c) a b

/-- A projection read off a point's blocks of tokens and gains. -/
theorem point_row (t : Fin cfg0.N) (r : Fin 512) (j : Fin 2328) :
    lin (fun k => (iblk m c 0 t : Vec Ideal S512x1024 .f32) (ix2 r k)) (fun k => (iblk m c 1 t : Vec Ideal S1x1024 .f32) (ix2 0 k))
      (fun l => (args m c).w l j) = (args m c).row (token t r) j := by
  simp only [iblk0_apply, iblk1_apply]
  rfl

end Cert.InProjIdeal.Layer

end
-- ==== Proof.InProjValue.lean ====
/- The token projections: what each output array of the launch holds after the run. -/
module

public import proofs.«01_k».proof.Proof.InProjEntry

@[expose] public section

set_option maxRecDepth 16384

noncomputable section

namespace Cert.InProjIdeal.Layer

open Idealize.ShloMosaic Idealize.ShloMosaic.TcCoe
open Cert.InProjIdeal Cert.InProjIdeal.Gen Cert.FfnMath Cert.ProjMath

/-! ## The body -/

theorem norm_apply (x : Vec Ideal S512x1024 .f32) (g : Vec Ideal S1x1024 .f32) (r : Fin 512) (l : Fin 1024) :
    k0_pay6 x g (ix2 r l) = nrm (fun k => x (ix2 r k)) (fun k => g (ix2 0 k)) l := by
  pointwise [k0_pay6]
  rfl

theorem wide_apply (x : Vec Ideal S512x1024 .f32) (g : Vec Ideal S1x1024 .f32) (w : Vec Ideal S1024x512 .bf16) (r : Fin 512) (q : Fin 512) :
    k0_pay7 x g w (ix2 r q) = lin (fun k => x (ix2 r k)) (fun k => g (ix2 0 k)) (fun l => w (ix2 l q)) := by
  unfold k0_pay7 lin
  simp only [← norm_apply]
  generalize k0_pay6 x g = h
  pointwise

theorem narrow_apply (x : Vec Ideal S512x1024 .f32) (g : Vec Ideal S1x1024 .f32) (w : Vec Ideal S1024x128 .bf16) (r : Fin 512) (q : Fin 128) :
    k0_pay13 (k0_pay6 x g) w (ix2 r q) = lin (fun k => x (ix2 r k)) (fun k => g (ix2 0 k)) (fun l => w (ix2 l q)) := by
  unfold lin
  simp only [← norm_apply]
  generalize k0_pay6 x g = h
  pointwise [k0_pay13]

section Out
variable (x : Vec Ideal S512x1024 .f32) (g : Vec Ideal S1x1024 .f32) (w : Vec Ideal S1024x2944 .bf16)

theorem norm_loads : k0_pay6 (View.ld x r0_0) (View.ld g r0_1) = k0_pay6 x g := by
  rw [View.ld_unit_lit inb_S512x1024_S512x1024_0_0 x (by decide), View.ld_unit_lit inb_S1x1024_S1x1024_0_0 g (by decide)]

/-- A wide output's buffer, from the rectangle of weights that the body loads for it. -/
theorem wide_buffer (v : Vec Ideal S1024x512 .bf16) : View.canon (Val := Elt Ideal) (s := S512x512) (e := .f32) [⟨r0_3, k0_pay7 (View.ld x r0_0) (View.ld g r0_1) v⟩] = k0_pay7 x g v := by
  refine (View.canon_cons_unit_lit inb_S512x512_S512x512_0_0 _ [] (by decide)).trans ?_
  rw [View.ld_unit_lit inb_S512x1024_S512x1024_0_0 x (by decide), View.ld_unit_lit inb_S1x1024_S1x1024_0_0 g (by decide)]

/-- A narrow output's. -/
theorem narrow_buffer (v : Vec Ideal S1024x128 .bf16) :
    View.canon (Val := Elt Ideal) (s := S512x128) (e := .f32) [⟨r0_7, k0_pay13 (k0_pay6 (View.ld x r0_0) (View.ld g r0_1)) v⟩] = k0_pay13 (k0_pay6 x g) v := by
  refine (View.canon_cons_unit_lit inb_S512x128_S512x128_0_0 _ [] (by decide)).trans ?_
  rw [norm_loads]

/-- Where the body has recast the weights apart. -/
theorem out6_eq : out0_6 x g w = k0_pay13 (k0_pay6 x g) (View.ld w r0_6) := by
  refine Eq.trans ?_ (narrow_buffer x g (View.ld w r0_6))
  unfold out0_6 k0_pay11 k0_pay20 k0_pay21 k0_pay10 k0_pay13
  rfl

theorem out10_eq : out0_10 x g w = k0_pay13 (k0_pay6 x g) (View.ld w r0_15) := by
  refine Eq.trans ?_ (narrow_buffer x g (View.ld w r0_15))
  unfold out0_10 k0_pay1 k0_pay20 k0_pay22 k0_pay19 k0_pay13
  rfl

variable {w} {W : Fin 1024 → Fin 2328 → EReal} (hS : Spread w W)
include hS

/-- A wide output: the projection's columns from `o` on. -/
theorem wide_rows (o : ℕ) (ho : o + 512 ≤ 1024) (inb) (r q : Fin 512) :
    View.canon (Val := Elt Ideal) (s := S512x512) (e := .f32)
        [⟨r0_3, k0_pay7 (View.ld x r0_0) (View.ld g r0_1) (View.ld w (Rect.unit (s := S1024x2944) ![0, o] S1024x512.size inb))⟩] (ix2 r q)
      = lin (fun k => x (ix2 r k)) (fun k => g (ix2 0 k)) (fun l => W l ⟨o + q.val, by omega⟩) := by
  refine (congrFun (wide_buffer x g _) _).trans ((wide_apply _ _ _ r q).trans (congrArg (lin _ _) (funext fun l => ?_)))
  exact (View.ld_unit_apply_of _ _ _ _ _ (ix2 l ⟨o + q.val, by omega⟩) (fun a => by fin_cases a <;> simp [ix2])).trans
    (hS.first l _ _ (by show o + q.val < 1024; omega) rfl)

/-- A narrow output: the projection's columns from `o` on. -/
theorem narrow_rows (o : ℕ) (ho : 1536 ≤ o) (ho' : o + 128 ≤ 2304) (inb) (r : Fin 512) (q : Fin 128) :
    k0_pay13 (k0_pay6 x g) (View.ld w (Rect.unit (s := S1024x2944) ![0, o + 512] S1024x128.size inb)) (ix2 r q)
      = lin (fun k => x (ix2 r k)) (fun k => g (ix2 0 k)) (fun l => W l ⟨o + q.val, by omega⟩) := by
  refine (narrow_apply _ _ _ r q).trans (congrArg (lin _ _) (funext fun l => ?_))
  exact (View.ld_unit_apply_of _ _ _ _ _ (ix2 l ⟨o + 512 + q.val, by omega⟩) (fun a => by fin_cases a <;> simp [ix2])).trans
    (hS.later l _ _ (by show 2048 ≤ o + 512 + q.val; omega) (by show o + 512 + q.val < 2816; omega) (by show o + q.val + 512 = o + 512 + q.val; omega))

/-! What each output's buffer holds after the body. -/

theorem out3_apply (r q : Fin 512) : out0_3 x g w (ix2 r q)
    = lin (fun k => x (ix2 r k)) (fun k => g (ix2 0 k)) (fun l => W l ⟨0 + q.val, by omega⟩) :=
  wide_rows x g hS 0 (by decide) _ r q

theorem out4_apply (r q : Fin 512) : out0_4 x g w (ix2 r q)
    = lin (fun k => x (ix2 r k)) (fun k => g (ix2 0 k)) (fun l => W l ⟨512 + q.val, by omega⟩) :=
  wide_rows x g hS 512 (by decide) _ r q

theorem out6_apply (r : Fin 512) (q : Fin 128) : out0_6 x g w (ix2 r q)
    = lin (fun k => x (ix2 r k)) (fun k => g (ix2 0 k)) (fun l => W l ⟨1536 + q.val, by omega⟩) :=
  (congrFun (out6_eq x g w) _).trans (narrow_rows x g hS 1536 (by decide) (by decide) _ r q)

theorem out7_apply (r : Fin 512) (q : Fin 128) : out0_7 x g w (ix2 r q)
    = lin (fun k => x (ix2 r k)) (fun k => g (ix2 0 k)) (fun l => W l ⟨1664 + q.val, by omega⟩) :=
  (congrFun (narrow_buffer x g _) _).trans (narrow_rows x g hS 1664 (by decide) (by decide) _ r q)

theorem out8_apply (r : Fin 512) (q : Fin 128) : out0_8 x g w (ix2 r q)
    = lin (fun k => x (ix2 r k)) (fun k => g (ix2 0 k)) (fun l => W l ⟨1792 + q.val, by omega⟩) :=
  (congrFun (narrow_buffer x g _) _).trans (narrow_rows x g hS 1792 (by decide) (by decide) _ r q)

theorem out9_apply (r : Fin 512) (q : Fin 128) : out0_9 x g w (ix2 r q)
    = lin (fun k => x (ix2 r k)) (fun k => g (ix2 0 k)) (fun l => W l ⟨1920 + q.val, by omega⟩) :=
  (congrFun (narrow_buffer x g _) _).trans (narrow_rows x g hS 1920 (by decide) (by decide) _ r q)

theorem out10_apply (r : Fin 512) (q : Fin 128) : out0_10 x g w (ix2 r q)
    = lin (fun k => x (ix2 r k)) (fun k => g (ix2 0 k)) (fun l => W l ⟨2048 + q.val, by omega⟩) :=
  (congrFun (out10_eq x g w) _).trans (narrow_rows x g hS 2048 (by decide) (by decide) _ r q)

theorem out11_apply (r : Fin 512) (q : Fin 128) : out0_11 x g w (ix2 r q)
    = lin (fun k => x (ix2 r k)) (fun k => g (ix2 0 k)) (fun l => W l ⟨2176 + q.val, by omega⟩) :=
  (congrFun (narrow_buffer x g _) _).trans (narrow_rows x g hS 2176 (by decide) (by decide) _ r q)

end Out

/-! ## The arrays after the run -/

variable (m : (ℓ : Loc nD τ sig) → Buf (Elt Ideal) ℓ) (c : Dev nD)

theorem split {a b : ℕ} (y : (⟨2, ![a, b]⟩ : Shape).Idx) : y = ix2 (y 0) (y 1) := by
  funext k; fin_cases k <;> rfl

theorem idx_out : ∀ t : Fin grid0.N, win0_3.index t = ![t.val, 0] ∧ win0_4.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] := by decide +kernel

theorem emb3 (t : Fin cfg0.N) (r : Fin 512) (q : Fin 512) : ((cfg0.win 3).blk t).view.emb (ix2 r q) = ix2 (token t r) q := by
  unfold token; blk_ext [(idx_out t).1]
theorem emb4 (t : Fin cfg0.N) (r : Fin 512) (q : Fin 512) : ((cfg0.win 4).blk t).view.emb (ix2 r q) = ix2 (token t r) q := by
  unfold token; blk_ext [(idx_out t).2.1]
theorem emb6 (t : Fin cfg0.N) (r : Fin 512) (q : Fin 128) : ((cfg0.win 6).blk t).view.emb (ix2 r q) = ix2 (token t r) q := by
  unfold token; blk_ext [(idx_out t).2.2.1]
theorem emb7 (t : Fin cfg0.N) (r : Fin 512) (q : Fin 128) : ((cfg0.win 7).blk t).view.emb (ix2 r q) = ix2 (token t r) q := by
  unfold token; blk_ext [(idx_out t).2.2.2.1]
theorem emb8 (t : Fin cfg0.N) (r : Fin 512) (q : Fin 128) : ((cfg0.win 8).blk t).view.emb (ix2 r q) = ix2 (token t r) q := by
  unfold token; blk_ext [(idx_out t).2.2.2.2.1]
theorem emb9 (t : Fin cfg0.N) (r : Fin 512) (q : Fin 128) : ((cfg0.win 9).blk t).view.emb (ix2 r q) = ix2 (token t r) q := by
  unfold token; blk_ext [(idx_out t).2.2.2.2.2.1]
theorem emb10 (t : Fin cfg0.N) (r : Fin 512) (q : Fin 128) : ((cfg0.win 10).blk t).view.emb (ix2 r q) = ix2 (token t r) q := by
  unfold token; blk_ext [(idx_out t).2.2.2.2.2.2.1]
theorem emb11 (t : Fin cfg0.N) (r : Fin 512) (q : Fin 128) : ((cfg0.win 11).blk t).view.emb (ix2 r q) = ix2 (token t r) q := by
  unfold token; blk_ext [(idx_out t).2.2.2.2.2.2.2]

theorem final3 (R : Vec Ideal S32768x512 .f32) (h : Columns (args m c).row 0 (by decide) R) : (dats m 0 c).arrAt 3 cfg0.N = R := by
  refine (dats m 0 c).arrAt_eq_of_covers 3 _ (by decide +kernel) fun t _ y => ?_
  rw [split y]
  exact ((congrFun (Value.flushed3 m c t) _).trans ((out3_apply _ _ (iblk2_spread m c t) (y 0) (y 1)).trans (point_row m c t (y 0) _))).trans
    ((congrArg R (emb3 t (y 0) (y 1))).trans (h _ _)).symm

theorem final4 (R : Vec Ideal S32768x512 .f32) (h : Columns (args m c).row 512 (by decide) R) : (dats m 0 c).arrAt 4 cfg0.N = R := by
  refine (dats m 0 c).arrAt_eq_of_covers 4 _ (by decide +kernel) fun t _ y => ?_
  rw [split y]
  exact ((congrFun (Value.flushed4 m c t) _).trans ((out4_apply _ _ (iblk2_spread m c t) (y 0) (y 1)).trans (point_row m c t (y 0) _))).trans
    ((congrArg R (emb4 t (y 0) (y 1))).trans (h _ _)).symm

theorem final6 (R : Vec Ideal S32768x128 .f32) (h : Columns (args m c).row 1536 (by decide) R) : (dats m 0 c).arrAt 6 cfg0.N = R := by
  refine (dats m 0 c).arrAt_eq_of_covers 6 _ (by decide +kernel) fun t _ y => ?_
  rw [split y]
  exact ((congrFun (Value.flushed6 m c t) _).trans ((out6_apply _ _ (iblk2_spread m c t) (y 0) (y 1)).trans (point_row m c t (y 0) _))).trans
    ((congrArg R (emb6 t (y 0) (y 1))).trans (h _ _)).symm

theorem final7 (R : Vec Ideal S32768x128 .f32) (h : Columns (args m c).row 1664 (by decide) R) : (dats m 0 c).arrAt 7 cfg0.N = R := by
  refine (dats m 0 c).arrAt_eq_of_covers 7 _ (by decide +kernel) fun t _ y => ?_
  rw [split y]
  exact ((congrFun (Value.flushed7 m c t) _).trans ((out7_apply _ _ (iblk2_spread m c t) (y 0) (y 1)).trans (point_row m c t (y 0) _))).trans
    ((congrArg R (emb7 t (y 0) (y 1))).trans (h _ _)).symm

theorem final8 (R : Vec Ideal S32768x128 .f32) (h : Columns (args m c).row 1792 (by decide) R) : (dats m 0 c).arrAt 8 cfg0.N = R := by
  refine (dats m 0 c).arrAt_eq_of_covers 8 _ (by decide +kernel) fun t _ y => ?_
  rw [split y]
  exact ((congrFun (Value.flushed8 m c t) _).trans ((out8_apply _ _ (iblk2_spread m c t) (y 0) (y 1)).trans (point_row m c t (y 0) _))).trans
    ((congrArg R (emb8 t (y 0) (y 1))).trans (h _ _)).symm

theorem final9 (R : Vec Ideal S32768x128 .f32) (h : Columns (args m c).row 1920 (by decide) R) : (dats m 0 c).arrAt 9 cfg0.N = R := by
  refine (dats m 0 c).arrAt_eq_of_covers 9 _ (by decide +kernel) fun t _ y => ?_
  rw [split y]
  exact ((congrFun (Value.flushed9 m c t) _).trans ((out9_apply _ _ (iblk2_spread m c t) (y 0) (y 1)).trans (point_row m c t (y 0) _))).trans
    ((congrArg R (emb9 t (y 0) (y 1))).trans (h _ _)).symm

theorem final10 (R : Vec Ideal S32768x128 .f32) (h : Columns (args m c).row 2048 (by decide) R) : (dats m 0 c).arrAt 10 cfg0.N = R := by
  refine (dats m 0 c).arrAt_eq_of_covers 10 _ (by decide +kernel) fun t _ y => ?_
  rw [split y]
  exact ((congrFun (Value.flushed10 m c t) _).trans ((out10_apply _ _ (iblk2_spread m c t) (y 0) (y 1)).trans (point_row m c t (y 0) _))).trans
    ((congrArg R (emb10 t (y 0) (y 1))).trans (h _ _)).symm

theorem final11 (R : Vec Ideal S32768x128 .f32) (h : Columns (args m c).row 2176 (by decide) R) : (dats m 0 c).arrAt 11 cfg0.N = R := by
  refine (dats m 0 c).arrAt_eq_of_covers 11 _ (by decide +kernel) fun t _ y => ?_
  rw [split y]
  exact ((congrFun (Value.flushed11 m c t) _).trans ((out11_apply _ _ (iblk2_spread m c t) (y 0) (y 1)).trans (point_row m c t (y 0) _))).trans
    ((congrArg R (emb11 t (y 0) (y 1))).trans (h _ _)).symm

end Cert.InProjIdeal.Layer

end
-- ==== Proof.InProjReference.lean ====
/- The reference of the token projections, element by element. -/
module

public import proofs.«01_k».proof.Proof.Gen.InProjReferenceIdeal.Read
public import proofs.«01_k».proof.Proof.ProjMath
public import Idealize.ShloMosaic.Lib.Pointwise

@[expose] public section

set_option maxRecDepth 16384

noncomputable section

namespace Cert.InProjReferenceIdeal.Layer

open Idealize.ShloMosaic Idealize.ShloMosaic.TcCoe
open Cert.InProjReferenceIdeal Cert.InProjReferenceIdeal.Gen Cert.InProjReferenceIdeal.Read Cert.FfnMath Cert.ProjMath

/-! ## The projection at an element -/

theorem norm_apply (x : FVec Ideal S4x8192x1024 .f32) (g : FVec Ideal S1x1024 .f32) (n : Fin 4) (s : Fin 8192) (l : Fin 1024) :
    val_main_v13 (F := Ideal) x g (ix3 n s l) = nrm (fun k => x (ix3 n s k)) (fun k => g (ix2 0 k)) l := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

variable (m : (ℓ : Loc nD τ sig) → Buf (Elt Ideal) ℓ) (c : Dev nD)

/-- Argument 0. -/
abbrev a_x : FVec Ideal S4x8192x1024 .f32 := m ((c.tc : Thread nD τ).loc main_arg0)

/-- Argument 1. -/
abbrev a_g : FVec Ideal S1x1024 .f32 := m ((c.tc : Thread nD τ).loc main_arg1)

/-- Argument 2. -/
abbrev a_w : FVec Ideal S1x1024x2328 .f32 := m ((c.tc : Thread nD τ).loc main_arg2)

/-- The arguments as the program holds them. -/
def args : Args 4 8192 2328 where
  x n s l := a_x m c (ix3 n s l)
  g l := a_g m c (ix2 0 l)
  w l q := a_w m c (ix3 0 l q)

theorem proj_apply (n : Fin 4) (s : Fin 8192) (q : Fin 2328) :
    val_main_v15 (F := Ideal) (a_x m c) (a_g m c) (a_w m c) (ix3 n s q) = (args m c).out n s q := by
  unfold val_main_v15 val_main_v14 ProjMath.Args.out lin args
  simp only [← norm_apply (a_x m c) (a_g m c)]
  generalize val_main_v13 (F := Ideal) (a_x m c) (a_g m c) = h
  pointwise

theorem rows_apply (k : Fin 32768) (q : Fin 2328) :
    val_main_v16 (F := Ideal) (a_x m c) (a_g m c) (a_w m c) (ix2 k q) = (args m c).row k q := by
  have h := proj_apply m c ⟨k.val / 8192, by omega⟩ ⟨k.val % 8192, by omega⟩ q
  unfold val_main_v16
  generalize val_main_v15 (F := Ideal) (a_x m c) (a_g m c) (a_w m c) = z at h ⊢
  pointwise
  exact h

/-! ## The columns that the results take of it -/

theorem wide_apply (z : FVec Ideal S32768x2328 .f32) (o : ℕ) (hs) (k : Fin 32768) (q : Fin 512) (j : Fin 2328) (hj : j.val = o + q.val) :
    extractStridedSlice S32768x512 ![0, o] z hs (ix2 k q) = z (ix2 k j) := by
  pointwise
  exact congrArg (fun i => z (ix2 k i)) (Fin.ext hj.symm)

theorem narrow_apply (z : FVec Ideal S32768x2328 .f32) (i : ℕ) (hi : i < 6) (hs) (k : Fin 32768) (q : Fin 128) (j : Fin 2328)
    (hj : j.val = 1536 + 128 * i + q.val) :
    shapeCast S32768x128 (extractStridedSlice S32768x1x128 ![0, i, 0] (shapeCast S32768x6x128
      (extractStridedSlice S32768x768 ![0, 1536] z slices_S32768x2328_S32768x768_0_1536)
      shapeCasts_S32768x768_S32768x6x128) hs) shapeCasts_S32768x1x128_S32768x128 (ix2 k q) = z (ix2 k j) := by
  pointwise
  exact congrArg (fun i => z (ix2 k i)) (Fin.ext (by show 1536 + (i * 128 + q.val) = j.val; omega))

/-! ## The results -/

/-- The columns that multiply, -/
abbrev r_u : FVec Ideal S32768x512 .f32 := val_main_v17 (F := Ideal) (a_x m c) (a_g m c) (a_w m c)

/-- the columns that are mixed, -/
abbrev r_v : FVec Ideal S32768x512 .f32 := val_main_v18 (F := Ideal) (a_x m c) (a_g m c) (a_w m c)

/-- the compressed branch's keys, -/
abbrev r_kc : FVec Ideal S32768x128 .f32 := val_main_v22 (F := Ideal) (a_x m c) (a_g m c) (a_w m c)

/-- and values, -/
abbrev r_vc : FVec Ideal S32768x128 .f32 := val_main_v24 (F := Ideal) (a_x m c) (a_g m c) (a_w m c)

/-- the selected branch's keys, -/
abbrev r_ks : FVec Ideal S32768x128 .f32 := val_main_v26 (F := Ideal) (a_x m c) (a_g m c) (a_w m c)

/-- and values, -/
abbrev r_vs : FVec Ideal S32768x128 .f32 := val_main_v28 (F := Ideal) (a_x m c) (a_g m c) (a_w m c)

/-- the window's keys, -/
abbrev r_kw : FVec Ideal S32768x128 .f32 := val_main_v30 (F := Ideal) (a_x m c) (a_g m c) (a_w m c)

/-- and values. -/
abbrev r_vw : FVec Ideal S32768x128 .f32 := val_main_v32 (F := Ideal) (a_x m c) (a_g m c) (a_w m c)

theorem columns_u : Columns (args m c).row 0 (by decide) (r_u m c) := fun k q =>
  (wide_apply _ 0 _ k q ⟨0 + q.val, by omega⟩ rfl).trans (rows_apply m c k _)

theorem columns_v : Columns (args m c).row 512 (by decide) (r_v m c) := fun k q =>
  (wide_apply _ 512 _ k q ⟨512 + q.val, by omega⟩ rfl).trans (rows_apply m c k _)

theorem columns_kc : Columns (args m c).row 1536 (by decide) (r_kc m c) := fun k q =>
  (narrow_apply _ 0 (by decide) _ k q ⟨1536 + q.val, by omega⟩ rfl).trans (rows_apply m c k _)

theorem columns_vc : Columns (args m c).row 1664 (by decide) (r_vc m c) := fun k q =>
  (narrow_apply _ 1 (by decide) _ k q ⟨1664 + q.val, by omega⟩ rfl).trans (rows_apply m c k _)

theorem columns_ks : Columns (args m c).row 1792 (by decide) (r_ks m c) := fun k q =>
  (narrow_apply _ 2 (by decide) _ k q ⟨1792 + q.val, by omega⟩ rfl).trans (rows_apply m c k _)

theorem columns_vs : Columns (args m c).row 1920 (by decide) (r_vs m c) := fun k q =>
  (narrow_apply _ 3 (by decide) _ k q ⟨1920 + q.val, by omega⟩ rfl).trans (rows_apply m c k _)

theorem columns_kw : Columns (args m c).row 2048 (by decide) (r_kw m c) := fun k q =>
  (narrow_apply _ 4 (by decide) _ k q ⟨2048 + q.val, by omega⟩ rfl).trans (rows_apply m c k _)

theorem columns_vw : Columns (args m c).row 2176 (by decide) (r_vw m c) := fun k q =>
  (narrow_apply _ 5 (by decide) _ k q ⟨2176 + q.val, by omega⟩ rfl).trans (rows_apply m c k _)

end Cert.InProjReferenceIdeal.Layer

end
-- ==== Proof.MemoryValue.lean ====
/- The memory's projection: what the launch writes, element by element, read off the arguments. -/
module

public import proofs.«01_k».proof.Proof.Gen.MemoryIdeal.Value
public import proofs.«01_k».proof.Proof.ProjMath
public import Idealize.ShloMosaic.Lib.Pointwise
public import Idealize.ShloMosaic.Lib.Pipeline.ValueKit

@[expose] public section

set_option maxRecDepth 16384

noncomputable section

namespace Cert.MemoryIdeal.Layer

open Idealize.ShloMosaic Idealize.ShloMosaic.TcCoe
open Cert.MemoryIdeal Cert.MemoryIdeal.Gen Cert.FfnMath Cert.ProjMath

/-! ## The body -/

theorem pay1_apply (x : Vec Ideal S512x1024 .f32) (g : Vec Ideal S1x1024 .f32) (w : Vec Ideal S1024x2048 .bf16) (r : Fin 512) (q : Fin 2048) :
    k0_pay1 x g w (ix2 r q) = lin (fun k => x (ix2 r k)) (fun k => g (ix2 0 k)) (fun l => w (ix2 l q)) := by
  pointwise [k0_pay1]
  rfl

theorem out_eq (x : Vec Ideal S512x1024 .f32) (g : Vec Ideal S1x1024 .f32) (w : Vec Ideal S1024x2048 .bf16) :
    out0_3 x g w = k0_pay1 x g w := by
  refine (View.canon_cons_unit_lit inb_S512x2048_S512x2048_0_0 _ [] (by decide)).trans ?_
  rw [View.ld_unit_lit inb_S512x1024_S512x1024_0_0 x (by decide), View.ld_unit_lit inb_S1x1024_S1x1024_0_0 g (by decide),
    View.ld_unit_lit inb_S1024x2048_S1024x2048_0_0 w (by decide)]

/-! ## The arguments, and what the region finds in the arrays its windows read -/

variable (m : (ℓ : Loc nD τ sig) → Buf (Elt Ideal) ℓ) (c : Dev nD)

/-- Argument 0. -/
abbrev a_x : Vec Ideal S4x256x1024 .f32 := m ((c.tc : Thread nD τ).loc main_arg0)

/-- Argument 1. -/
abbrev a_g : Vec Ideal S1x1024 .f32 := m ((c.tc : Thread nD τ).loc main_arg1)

/-- Argument 2. -/
abbrev a_k : Vec Ideal S1x1024x1024 .f32 := m ((c.tc : Thread nD τ).loc main_arg2)

/-- Argument 3. -/
abbrev a_v : Vec Ideal S1x1024x1024 .f32 := m ((c.tc : Thread nD τ).loc main_arg3)

/-- The arguments as the program holds them, the two matrices side by side. -/
def args : Args 4 256 2048 where
  x n s l := a_x m c (ix3 n s l)
  g l := a_g m c (ix2 0 l)
  w := beside (fun l q => a_k m c (ix3 0 l q)) (fun l q => a_v m c (ix3 0 l q))

theorem V_x : (V m c main_v0 : Vec Ideal S1024x1024 .f32) = shapeCast S1024x1024 (a_x m c) shapeCasts_S4x256x1024_S1024x1024 := by
  simp only [V, List.flatten_cons, List.flatten_nil, List.append_nil, hostOps0, List.cons_append, List.nil_append]
  after_results_simp <;> rfl

theorem V_g : (V m c main_v2 : Vec Ideal S1x1024 .f32) = broadcastInDim S1x1024 ![1] bcast_S1024_S1x1024_1 (shapeCast S1024 (a_g m c) shapeCasts_S1x1024_S1024) := by
  simp only [V, List.flatten_cons, List.flatten_nil, List.append_nil, hostOps0, List.cons_append, List.nil_append]
  after_results_simp <;> rfl

theorem V_w : (V m c main_v6 : Vec Ideal S1024x2048 .bf16) = truncf .bf16 (concatenate S1024x2048 1
      [⟨S1024x1024, shapeCast S1024x1024 (a_k m c) shapeCasts_S1x1024x1024_S1024x1024⟩,
        ⟨S1024x1024, shapeCast S1024x1024 (a_v m c) shapeCasts_S1x1024x1024_S1024x1024⟩]
      concatenates_S1024x1024_S1024x1024_S1024x2048_d1 : FVec Ideal S1024x2048 .f32) bitsLt_bf16_f32 := by
  simp only [V, List.flatten_cons, List.flatten_nil, List.append_nil, hostOps0, List.cons_append, List.nil_append]
  after_results_simp <;> rfl

/-! ## The blocks -/

theorem lt2 (t : Fin cfg0.N) : t.val < 2 := Nat.lt_of_lt_of_eq t.isLt N_0

/-- The sequence of row `r` of the point's block. -/
def nn (t : Fin cfg0.N) (r : Fin 512) : Fin 4 := ⟨t.val * 2 + r.val / 256, by have := lt2 t; omega⟩

/-- Its position. -/
def ss (r : Fin 512) : Fin 256 := ⟨r.val % 256, by omega⟩

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![t.val, 0] := by decide +kernel

theorem iblk0_apply (t : Fin cfg0.N) (r : Fin 512) (l : Fin 1024) :
    (iblk m c 0 t : Vec Ideal S512x1024 .f32) (ix2 r l) = (args m c).x (nn t r) (ss r) l := by
  have h := lt2 t
  have e : ((cfg0.win 0).blk t).view.emb (ix2 r l) = ix2 (⟨t.val * 512 + r.val, by omega⟩ : Fin 1024) l := by
    blk_ext [idx0 t]
  refine (congrArg (V m c main_v0) e).trans ((congrFun (V_x m c) _).trans ?_)
  have e1 : (t.val * 512 + r.val) / 256 = t.val * 2 + r.val / 256 := by omega
  have e2 : (t.val * 512 + r.val) % 256 = r.val % 256 := by omega
  pointwise
  simp only [e1, e2]
  rfl

theorem iblk1_apply (t : Fin cfg0.N) (l : Fin 1024) :
    (iblk m c 1 t : Vec Ideal S1x1024 .f32) (ix2 0 l) = (args m c).g l := by
  have e : ((cfg0.win 1).blk t).view.emb (ix2 0 l) = ix2 (0 : Fin 1) l := by
    blk_ext [idx1 t]
  refine (congrArg (V m c main_v2) e).trans ((congrFun (V_g m c) _).trans ?_)
  pointwise [args]

theorem iblk2_apply (t : Fin cfg0.N) (l : Fin 1024) (q : Fin 2048) :
    (iblk m c 2 t : Vec Ideal S1024x2048 .bf16) (ix2 l q) = (args m c).w l q := by
  have e : ((cfg0.win 2).blk t).view.emb (ix2 l q) = ix2 l q := by
    blk_ext [idx2 t]
  refine (congrArg (V m c main_v6) e).trans ((congrFun (V_w m c) _).trans ?_)
  pointwise [args, beside]

/-- Where the written block's elements lie. -/
theorem emb3 (t : Fin cfg0.N) (r : Fin 512) (q : Fin 2048) (k : Fin 1024) (hk : k.val = t.val * 512 + r.val) :
    ((cfg0.win 3).blk t).view.emb (ix2 r q) = ix2 k q := by
  blk_ext [idx3 t]

/-- What a point writes back, at an element. -/
theorem rows_apply (t : Fin cfg0.N) (r : Fin 512) (q : Fin 2048) :
    (dats m 0 c).flushed 3 t (ix2 r q) = (args m c).out (nn t r) (ss r) q := by
  refine (congrFun (Value.flushed3 m c t) _).trans ?_
  show out0_3 (iblk m c 0 t) (iblk m c 1 t) (iblk m c 2 t) (ix2 r q) = _
  rw [out_eq, pay1_apply]
  unfold ProjMath.Args.out
  simp only [iblk0_apply, iblk1_apply, iblk2_apply]

end Cert.MemoryIdeal.Layer

end
-- ==== Proof.MemoryReference.lean ====
/- The reference of the memory's projection, element by element. -/
module

public import proofs.«01_k».proof.Proof.Gen.MemoryReferenceIdeal.Read
public import proofs.«01_k».proof.Proof.ProjMath
public import Idealize.ShloMosaic.Lib.Pointwise

@[expose] public section

set_option maxRecDepth 16384

noncomputable section

namespace Cert.MemoryReferenceIdeal.Layer

open Idealize.ShloMosaic Idealize.ShloMosaic.TcCoe
open Cert.MemoryReferenceIdeal Cert.MemoryReferenceIdeal.Gen Cert.MemoryReferenceIdeal.Read Cert.FfnMath Cert.ProjMath

/-! ## The stages at an element -/

theorem norm_apply (x : FVec Ideal S4x256x1024 .f32) (g : FVec Ideal S1x1024 .f32) (n : Fin 4) (s : Fin 256) (l : Fin 1024) :
    val_main_v13 (F := Ideal) x g (ix3 n s l) = nrm (fun k => x (ix3 n s k)) (fun k => g (ix2 0 k)) l := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem keys_apply (x : FVec Ideal S4x256x1024 .f32) (g : FVec Ideal S1x1024 .f32) (w : FVec Ideal S1x1024x1024 .f32)
    (n : Fin 4) (s : Fin 256) (q : Fin 1024) :
    val_main_v15 (F := Ideal) x g w (ix3 n s q) = lin (fun k => x (ix3 n s k)) (fun k => g (ix2 0 k)) (fun l => w (ix3 0 l q)) := by
  unfold val_main_v15 val_main_v14 lin
  simp only [← norm_apply]
  generalize val_main_v13 (F := Ideal) x g = h
  pointwise

theorem values_apply (x : FVec Ideal S4x256x1024 .f32) (g : FVec Ideal S1x1024 .f32) (w : FVec Ideal S1x1024x1024 .f32)
    (n : Fin 4) (s : Fin 256) (q : Fin 1024) :
    val_main_v17 (F := Ideal) x g w (ix3 n s q) = lin (fun k => x (ix3 n s k)) (fun k => g (ix2 0 k)) (fun l => w (ix3 0 l q)) :=
  keys_apply x g w n s q

/-! ## The result -/

variable (m : (ℓ : Loc nD τ sig) → Buf (Elt Ideal) ℓ) (c : Dev nD)

/-- Argument 0. -/
abbrev a_x : FVec Ideal S4x256x1024 .f32 := m ((c.tc : Thread nD τ).loc main_arg0)

/-- Argument 1. -/
abbrev a_g : FVec Ideal S1x1024 .f32 := m ((c.tc : Thread nD τ).loc main_arg1)

/-- Argument 2. -/
abbrev a_k : FVec Ideal S1x1024x1024 .f32 := m ((c.tc : Thread nD τ).loc main_arg2)

/-- Argument 3. -/
abbrev a_v : FVec Ideal S1x1024x1024 .f32 := m ((c.tc : Thread nD τ).loc main_arg3)

/-- The arguments as the program holds them, the two matrices side by side. -/
def args : Args 4 256 2048 where
  x n s l := a_x m c (ix3 n s l)
  g l := a_g m c (ix2 0 l)
  w := beside (fun l q => a_k m c (ix3 0 l q)) (fun l q => a_v m c (ix3 0 l q))

/-- The reference's result. -/
abbrev res : FVec Ideal S1024x2048 .f32 := val_main_v19 (F := Ideal) (a_x m c) (a_g m c) (a_k m c) (a_v m c)

theorem res_apply (n : Fin 4) (s : Fin 256) (q : Fin 2048) (k : Fin 1024) (hk : k.val = n.val * 256 + s.val) :
    res m c (ix2 k q) = (args m c).out n s q := by
  have e1 : k.val / 256 = n.val := by omega
  have e2 : k.val % 256 = s.val := by omega
  have hl : ∀ q', val_main_v15 (F := Ideal) (a_x m c) (a_g m c) (a_k m c) (ix3 n s q') = _ := keys_apply _ _ _ n s
  have hr : ∀ q', val_main_v17 (F := Ideal) (a_x m c) (a_g m c) (a_v m c) (ix3 n s q') = _ := values_apply _ _ _ n s
  unfold res val_main_v19 val_main_v18
  generalize val_main_v15 (F := Ideal) (a_x m c) (a_g m c) (a_k m c) = y at hl ⊢
  generalize val_main_v17 (F := Ideal) (a_x m c) (a_g m c) (a_v m c) = z at hr ⊢
  pointwise
  simp only [e1, e2, Fin.eta]
  unfold ProjMath.Args.out args beside
  by_cases h : q.val < 1024
  · simp only [dif_pos h]; exact hl _
  · simp only [dif_neg h]; exact hr _

end Cert.MemoryReferenceIdeal.Layer

end
-- ==== Proof.ProjLaunch.lean ====
/- The projections of the tokens and of the memory: each launch's results are its reference's, from memories that agree on
   the arguments; the frames of the programs and of their ideal readings. -/
module

public import proofs.«01_k».proof.Defs
public import proofs.«01_k».proof.Proof.Gen.InProj
public import proofs.«01_k».proof.Proof.Gen.InProjReference
public import proofs.«01_k».proof.Proof.Gen.InProjReferenceIdeal.Run
public import proofs.«01_k».proof.Proof.Gen.Memory
public import proofs.«01_k».proof.Proof.Gen.MemoryReference
public import proofs.«01_k».proof.Proof.Gen.MemoryReferenceIdeal.Run
public import proofs.«01_k».proof.Proof.InProjValue
public import proofs.«01_k».proof.Proof.InProjReference
public import proofs.«01_k».proof.Proof.MemoryValue
public import proofs.«01_k».proof.Proof.MemoryReference
public import Idealize.ShloMosaic.Init

@[expose] public section

set_option maxRecDepth 16384

noncomputable section

namespace Cert.MemoryIdeal.Layer

open Idealize.ShloMosaic Idealize.ShloMosaic.TcCoe
open Cert.MemoryIdeal.Gen Cert.FfnMath

/-- Each block that the memory's launch writes holds the reference's rows, and the blocks cover the array. -/
theorem memory_final (m : (ℓ : Loc nD τ sig) → Buf (Elt Ideal) ℓ)
    (m' : (ℓ : Loc Cert.MemoryReferenceIdeal.nD Cert.MemoryReferenceIdeal.τ Cert.MemoryReferenceIdeal.sig) → Buf (Elt Ideal) ℓ)
    (c : Dev nD) (hA : Cert.MemoryReferenceIdeal.Layer.args m' c = args m c) :
    (dats m 0 c).arrAt 3 cfg0.N = Cert.MemoryReferenceIdeal.Layer.res m' c := by
  refine (dats m 0 c).arrAt_eq_of_covers 3 _ (by decide +kernel) fun t hf y => ?_
  have hN := lt2 t
  have hr : (y 0).val < 512 := (y 0).isLt
  have hk : t.val * 512 + (y 0).val < 1024 := by omega
  have hy : y = ix2 (y 0) (y 1) := by funext a; fin_cases a <;> rfl
  rw [hy]
  refine (rows_apply m c t (y 0) (y 1)).trans ?_
  refine Eq.trans ?_ (congrArg (Cert.MemoryReferenceIdeal.Layer.res m' c) (emb3 t (y 0) (y 1) ⟨t.val * 512 + (y 0).val, hk⟩ rfl)).symm
  refine Eq.trans ?_ (Cert.MemoryReferenceIdeal.Layer.res_apply m' c (nn t (y 0)) (ss (y 0)) (y 1) ⟨t.val * 512 + (y 0).val, hk⟩ ?_).symm
  · rw [hA]
  · show t.val * 512 + (y 0).val = (t.val * 2 + (y 0).val / 256) * 256 + (y 0).val % 256
    omega

end Cert.MemoryIdeal.Layer

namespace Cert.InProjReferenceIdeal.Layer

open Idealize.ShloMosaic Idealize.ShloMosaic.TcCoe
open Cert.InProjReferenceIdeal.Gen Cert.InProjReferenceIdeal.Read

/-- The reference's run, with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = r_u m c
      ∧ r.2.mem ((c.tc : Thread nD τ).loc main_v18) = r_v m c
      ∧ r.2.mem ((c.tc : Thread nD τ).loc main_v22) = r_kc m c
      ∧ r.2.mem ((c.tc : Thread nD τ).loc main_v24) = r_vc m c
      ∧ r.2.mem ((c.tc : Thread nD τ).loc main_v26) = r_ks m c
      ∧ r.2.mem ((c.tc : Thread nD τ).loc main_v28) = r_vs m c
      ∧ r.2.mem ((c.tc : Thread nD τ).loc main_v30) = r_kw m c
      ∧ r.2.mem ((c.tc : Thread nD τ).loc main_v32) = r_vw m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run (F := Ideal) m ρ)
  obtain ⟨h0, h1, h2, h3, h4, h5, h6, h7, hargs⟩ := h c
  exact ⟨h0.trans (val_main_v17_eq _ _ _), h1.trans (val_main_v18_eq _ _ _), h2.trans (val_main_v22_eq _ _ _),
    h3.trans (val_main_v24_eq _ _ _), h4.trans (val_main_v26_eq _ _ _), h5.trans (val_main_v28_eq _ _ _),
    h6.trans (val_main_v30_eq _ _ _), h7.trans (val_main_v32_eq _ _ _), hargs⟩

end Cert.InProjReferenceIdeal.Layer

namespace Cert.Proof

open Idealize.ShloMosaic Idealize.SL.Sem

attribute [local instance] Cert.InProj.Gen.facts Cert.InProjIdeal.Gen.facts Cert.InProjReference.Gen.facts Cert.InProjReferenceIdeal.Gen.facts
  Cert.Memory.Gen.facts Cert.MemoryIdeal.Gen.facts Cert.MemoryReference.Gen.facts Cert.MemoryReferenceIdeal.Gen.facts

/-! ## The frames: a program as printed runs as its ideal reading does, over the same float values -/

theorem same_run_in {F : FTy → Type} [FloatOps F] (s : MemSt Cert.InProjIdeal.nD Cert.InProjIdeal.τ Cert.InProjIdeal.sig (Elt F))
    (Q : PUnit × MemSt Cert.InProjIdeal.nD Cert.InProjIdeal.τ Cert.InProjIdeal.sig (Elt F) → Prop) :
    θ_run (Cert.InProj.defs (F := F)) (onTc (τ := Cert.InProj.τ) (Cert.InProj.main (F := F))) s Q
      = θ_run (Cert.InProjIdeal.defs (F := F)) (onTc (τ := Cert.InProjIdeal.τ) (Cert.InProjIdeal.main (F := F))) s Q := by
  chain_rfl

theorem frame_in_ideal : Cert.quiescent_InProjIdeal := fun m ρ _ => Cert.InProjIdeal.Gen.frame (F := Ideal) m ρ

theorem frame_in : Cert.quiescent_InProj := fun m ρ _ =>
  (same_run_in _ _).mpr (Cert.InProjIdeal.Gen.frame (F := Bits) m ρ)

theorem same_run_in_ref {F : FTy → Type} [FloatOps F] (s : MemSt Cert.InProjReferenceIdeal.nD Cert.InProjReferenceIdeal.τ Cert.InProjReferenceIdeal.sig (Elt F))
    (Q : PUnit × MemSt Cert.InProjReferenceIdeal.nD Cert.InProjReferenceIdeal.τ Cert.InProjReferenceIdeal.sig (Elt F) → Prop) :
    θ_run (Cert.InProjReference.defs (F := F)) (onTc (τ := Cert.InProjReference.τ) (Cert.InProjReference.main (F := F))) s Q
      = θ_run (Cert.InProjReferenceIdeal.defs (F := F)) (onTc (τ := Cert.InProjReferenceIdeal.τ) (Cert.InProjReferenceIdeal.main (F := F))) s Q := by
  chain_rfl

theorem frame_in_ref_ideal : Cert.quiescent_InProjReferenceIdeal := fun m ρ _ =>
  (θ_run Cert.InProjReferenceIdeal.defs _ _).mono (fun r h => ⟨fun c => (h c).2.2.2.2.2.2.2.2, sem_eq_zero_of_no_sems (by decide) r.2⟩)
    (Cert.InProjReferenceIdeal.Value.run (F := Ideal) m ρ)

theorem frame_in_ref : Cert.quiescent_InProjReference := fun m ρ _ =>
  (same_run_in_ref _ _).mpr <|
    (θ_run Cert.InProjReferenceIdeal.defs _ _).mono (fun r h => ⟨fun c => (h c).2.2.2.2.2.2.2.2, sem_eq_zero_of_no_sems (by decide) r.2⟩)
      (Cert.InProjReferenceIdeal.Value.run (F := Bits) m ρ)

theorem same_run_mem {F : FTy → Type} [FloatOps F] (s : MemSt Cert.MemoryIdeal.nD Cert.MemoryIdeal.τ Cert.MemoryIdeal.sig (Elt F))
    (Q : PUnit × MemSt Cert.MemoryIdeal.nD Cert.MemoryIdeal.τ Cert.MemoryIdeal.sig (Elt F) → Prop) :
    θ_run (Cert.Memory.defs (F := F)) (onTc (τ := Cert.Memory.τ) (Cert.Memory.main (F := F))) s Q
      = θ_run (Cert.MemoryIdeal.defs (F := F)) (onTc (τ := Cert.MemoryIdeal.τ) (Cert.MemoryIdeal.main (F := F))) s Q := by
  chain_rfl

theorem frame_mem_ideal : Cert.quiescent_MemoryIdeal := fun m ρ _ => Cert.MemoryIdeal.Gen.frame (F := Ideal) m ρ

theorem frame_mem : Cert.quiescent_Memory := fun m ρ _ =>
  (same_run_mem _ _).mpr (Cert.MemoryIdeal.Gen.frame (F := Bits) m ρ)

theorem same_run_mem_ref {F : FTy → Type} [FloatOps F] (s : MemSt Cert.MemoryReferenceIdeal.nD Cert.MemoryReferenceIdeal.τ Cert.MemoryReferenceIdeal.sig (Elt F))
    (Q : PUnit × MemSt Cert.MemoryReferenceIdeal.nD Cert.MemoryReferenceIdeal.τ Cert.MemoryReferenceIdeal.sig (Elt F) → Prop) :
    θ_run (Cert.MemoryReference.defs (F := F)) (onTc (τ := Cert.MemoryReference.τ) (Cert.MemoryReference.main (F := F))) s Q
      = θ_run (Cert.MemoryReferenceIdeal.defs (F := F)) (onTc (τ := Cert.MemoryReferenceIdeal.τ) (Cert.MemoryReferenceIdeal.main (F := F))) s Q := by
  chain_rfl

theorem frame_mem_ref_ideal : Cert.quiescent_MemoryReferenceIdeal := fun m ρ _ =>
  (θ_run Cert.MemoryReferenceIdeal.defs _ _).mono (fun r h => ⟨fun c => (h c).2, sem_eq_zero_of_no_sems (by decide) r.2⟩)
    (Cert.MemoryReferenceIdeal.Value.run (F := Ideal) m ρ)

theorem frame_mem_ref : Cert.quiescent_MemoryReference := fun m ρ _ =>
  (same_run_mem_ref _ _).mpr <|
    (θ_run Cert.MemoryReferenceIdeal.defs _ _).mono (fun r h => ⟨fun c => (h c).2, sem_eq_zero_of_no_sems (by decide) r.2⟩)
      (Cert.MemoryReferenceIdeal.Value.run (F := Bits) m ρ)

/-! ## The values -/

/-- From memories that agree on the arguments, the tokens' projections are the reference's, over the extended reals. -/
theorem algebraic_in : Cert.algebraic_InProjIdeal_InProjReferenceIdeal := fun m ρ m' ρ' _ hag => by
  have hA : ∀ c, Cert.InProjReferenceIdeal.Layer.args m' c = Cert.InProjIdeal.Layer.args m c := fun c => by
    obtain ⟨e0, e1, e2⟩ := hag c
    unfold Cert.InProjReferenceIdeal.Layer.args Cert.InProjIdeal.Layer.args
    simp only [e0, e1, e2]
  refine ⟨Cert.InProjReferenceIdeal.Layer.r_u m', Cert.InProjReferenceIdeal.Layer.r_v m', Cert.InProjReferenceIdeal.Layer.r_kc m',
    Cert.InProjReferenceIdeal.Layer.r_vc m', Cert.InProjReferenceIdeal.Layer.r_ks m', Cert.InProjReferenceIdeal.Layer.r_vs m',
    Cert.InProjReferenceIdeal.Layer.r_kw m', Cert.InProjReferenceIdeal.Layer.r_vw m',
    (θ_run Cert.InProjIdeal.defs _ _).mono (fun r h c => ?_) (Cert.InProjIdeal.Value.run_blocks (F := Ideal) m ρ),
    Cert.InProjReferenceIdeal.Layer.run_results m' ρ'⟩
  obtain ⟨h3, h4, -, h6, h7, h8, h9, h10, h11, -, -, hargs⟩ := h c
  exact ⟨h3.trans (Cert.InProjIdeal.Layer.final3 m c _ (hA c ▸ Cert.InProjReferenceIdeal.Layer.columns_u m' c)),
    h4.trans (Cert.InProjIdeal.Layer.final4 m c _ (hA c ▸ Cert.InProjReferenceIdeal.Layer.columns_v m' c)),
    h6.trans (Cert.InProjIdeal.Layer.final6 m c _ (hA c ▸ Cert.InProjReferenceIdeal.Layer.columns_kc m' c)),
    h7.trans (Cert.InProjIdeal.Layer.final7 m c _ (hA c ▸ Cert.InProjReferenceIdeal.Layer.columns_vc m' c)),
    h8.trans (Cert.InProjIdeal.Layer.final8 m c _ (hA c ▸ Cert.InProjReferenceIdeal.Layer.columns_ks m' c)),
    h9.trans (Cert.InProjIdeal.Layer.final9 m c _ (hA c ▸ Cert.InProjReferenceIdeal.Layer.columns_vs m' c)),
    h10.trans (Cert.InProjIdeal.Layer.final10 m c _ (hA c ▸ Cert.InProjReferenceIdeal.Layer.columns_kw m' c)),
    h11.trans (Cert.InProjIdeal.Layer.final11 m c _ (hA c ▸ Cert.InProjReferenceIdeal.Layer.columns_vw m' c)), hargs⟩

/-- And so are the memory's. -/
theorem algebraic_mem : Cert.algebraic_MemoryIdeal_MemoryReferenceIdeal := fun m ρ m' ρ' _ hag => by
  have hA : ∀ c, Cert.MemoryReferenceIdeal.Layer.args m' c = Cert.MemoryIdeal.Layer.args m c := fun c => by
    obtain ⟨e0, e1, e2, e3⟩ := hag c
    unfold Cert.MemoryReferenceIdeal.Layer.args Cert.MemoryIdeal.Layer.args
    simp only [e0, e1, e2, e3]
  exact ⟨Cert.MemoryReferenceIdeal.Layer.res m',
    (θ_run Cert.MemoryIdeal.defs _ _).mono (fun r h c => ⟨(h c).1.trans (Cert.MemoryIdeal.Layer.memory_final m m' c (hA c)), (h c).2⟩)
      (Cert.MemoryIdeal.Value.run_blocks (F := Ideal) m ρ),
    Cert.MemoryReferenceIdeal.Value.run (F := Ideal) m' ρ'⟩

end Cert.Proof

end
-- ==== Proof.InSampleValue.lean ====
/- The token projections of the sample: a single point, with the body that the prompt's call has. -/
module

public import proofs.«01_k».proof.Proof.Gen.InSampleIdeal.Value
public import proofs.«01_k».proof.Proof.InProjValue

@[expose] public section

set_option maxRecDepth 16384

noncomputable section

namespace Cert.InSampleIdeal.Layer

open Idealize.ShloMosaic Idealize.ShloMosaic.TcCoe
open Cert.InSampleIdeal Cert.InSampleIdeal.Gen Cert.FfnMath Cert.ProjMath
open Cert.InProjIdeal.Layer (columns Spread spread_columns)

/-! ## The arguments, and what the region finds in the arrays its windows read -/

variable (m : (ℓ : Loc nD τ sig) → Buf (Elt Ideal) ℓ) (c : Dev nD)

/-- Argument 0. -/
abbrev a_x : Vec Ideal S128x4x1024 .f32 := m ((c.tc : Thread nD τ).loc main_arg0)

/-- Argument 1. -/
abbrev a_g : Vec Ideal S1x1024 .f32 := m ((c.tc : Thread nD τ).loc main_arg1)

/-- Argument 2. -/
abbrev a_w : Vec Ideal S1x1024x2328 .f32 := m ((c.tc : Thread nD τ).loc main_arg2)

/-- The arguments as the program holds them. -/
def args : Args 128 4 2328 where
  x n s l := a_x m c (ix3 n s l)
  g l := a_g m c (ix2 0 l)
  w l q := a_w m c (ix3 0 l q)

theorem V_x : (V m c main_v59 : Vec Ideal S512x1024 .f32) = shapeCast S512x1024 (a_x m c) shapeCasts_S128x4x1024_S512x1024 := by
  simp only [V, List.flatten_cons, List.flatten_nil, List.append_nil, hostOps0, hostOps0_1, hostOps0_2, List.cons_append, List.nil_append]
  after_results_simp <;> rfl

theorem V_g : (V m c main_v61 : Vec Ideal S1x1024 .f32) = broadcastInDim S1x1024 ![1] bcast_S1024_S1x1024_1 (shapeCast S1024 (a_g m c) shapeCasts_S1x1024_S1024) := by
  simp only [V, List.flatten_cons, List.flatten_nil, List.append_nil, hostOps0, hostOps0_1, hostOps0_2, List.cons_append, List.nil_append]
  after_results_simp <;> rfl

/-- What the last host operations before the region leave in the array of weights. -/
theorem last_ops (X : Valuation τ sig (Elt Ideal)) (w : FVec Ideal S1x1024x2328 .f32)
    (h : (X main_v0 : FVec Ideal S1024x2328 .f32) = shapeCast S1024x2328 w shapeCasts_S1x1024x2328_S1024x2328) :
    ∃ a b, (StableHlo.after hostOps0_2 X main_v58 : FVec Ideal S1024x2944 .bf16) = columns w a b := by
  refine ⟨shapeCast S1024x1024 (X main_v51 : FVec Ideal S1024x8x2x64 .f32) shapeCasts_S1024x8x2x64_S1024x1024, (X main_v53 : FVec Ideal S1024x128 .f32), ?_⟩
  unfold columns
  rw [← h]
  simp only [hostOps0_2]
  after_results_simp <;> rfl

theorem V_w : ∃ a b, (V m c main_v58 : Vec Ideal S1024x2944 .bf16) = columns (a_w m c) a b := by
  simp only [V, List.flatten_cons, List.flatten_nil, List.append_nil]
  rw [StableHlo.after_append, StableHlo.after_append]
  refine last_ops _ _ ?_
  simp only [hostOps0, hostOps0_1]
  after_results_simp <;> rfl

/-! ## The blocks: the arrays themselves -/

theorem idx_in : ∀ t : Fin grid0.N, win0_0.index t = ![0, 0] ∧ win0_1.index t = ![0, 0] ∧ win0_2.index t = ![0, 0] := by decide +kernel

theorem iblk0_apply (t : Fin cfg0.N) (r : Fin 512) (l : Fin 1024) :
    (iblk m c 0 t : Vec Ideal S512x1024 .f32) (ix2 r l) = (args m c).x ⟨r.val / 4, by omega⟩ ⟨r.val % 4, by omega⟩ l := by
  have e : ((cfg0.win 0).blk t).view.emb (ix2 r l) = ix2 r l := by blk_ext [(idx_in t).1]
  refine (congrArg (V m c main_v59) e).trans ((congrFun (V_x m c) _).trans ?_)
  pointwise
  rfl

theorem iblk1_apply (t : Fin cfg0.N) (l : Fin 1024) :
    (iblk m c 1 t : Vec Ideal S1x1024 .f32) (ix2 0 l) = (args m c).g l := by
  have e : ((cfg0.win 1).blk t).view.emb (ix2 0 l) = ix2 (0 : Fin 1) l := by blk_ext [(idx_in t).2.1]
  refine (congrArg (V m c main_v61) e).trans ((congrFun (V_g m c) _).trans ?_)
  pointwise [args]

theorem iblk2_spread (t : Fin cfg0.N) : Spread (iblk m c 2 t) (args m c).w := by
  obtain ⟨a, b, hw⟩ := V_w m c
  have e : (iblk m c 2 t : Vec Ideal S1024x2944 .bf16) = columns (a_w m c) a b := by
    funext y
    have hy : y = ix2 (y 0) (y 1) := by funext k; fin_cases k <;> rfl
    have e2 : ((cfg0.win 2).blk t).view.emb (ix2 (y 0) (y 1)) = ix2 (y 0) (y 1) := by blk_ext [(idx_in t).2.2]
    rw [hy]
    exact (congrArg (V m c main_v58) e2).trans (congrFun hw _)
  exact e ▸ spread_columns (a_w m c) a b

theorem point_row (t : Fin cfg0.N) (r : Fin 512) (j : Fin 2328) :
    lin (fun k => (iblk m c 0 t : Vec Ideal S512x1024 .f32) (ix2 r k)) (fun k => (iblk m c 1 t : Vec Ideal S1x1024 .f32) (ix2 0 k))
      (fun l => (args m c).w l j) = (args m c).few r j := by
  simp only [iblk0_apply, iblk1_apply]
  rfl

/-! ## The arrays after the run -/

theorem idx_out : ∀ t : Fin grid0.N, win0_3.index t = ![0, 0] ∧ win0_4.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] := by decide +kernel

theorem final3 (R : Vec Ideal S512x512 .f32) (h : Columns (args m c).few 0 (by decide) R) : (dats m 0 c).arrAt 3 cfg0.N = R := by
  refine (dats m 0 c).arrAt_eq_of_covers 3 _ (by decide +kernel) fun t _ y => ?_
  have e : ((cfg0.win 3).blk t).view.emb (ix2 (y 0) (y 1)) = ix2 (y 0) (y 1) := by blk_ext [(idx_out t).1]
  rw [Cert.InProjIdeal.Layer.split y]
  exact ((congrFun (Value.flushed3 m c t) _).trans ((Cert.InProjIdeal.Layer.out3_apply _ _ (iblk2_spread m c t) (y 0) (y 1)).trans (point_row m c t (y 0) _))).trans
    ((congrArg R e).trans (h _ _)).symm

theorem final4 (R : Vec Ideal S512x512 .f32) (h : Columns (args m c).few 512 (by decide) R) : (dats m 0 c).arrAt 4 cfg0.N = R := by
  refine (dats m 0 c).arrAt_eq_of_covers 4 _ (by decide +kernel) fun t _ y => ?_
  have e : ((cfg0.win 4).blk t).view.emb (ix2 (y 0) (y 1)) = ix2 (y 0) (y 1) := by blk_ext [(idx_out t).2.1]
  rw [Cert.InProjIdeal.Layer.split y]
  exact ((congrFun (Value.flushed4 m c t) _).trans ((Cert.InProjIdeal.Layer.out4_apply _ _ (iblk2_spread m c t) (y 0) (y 1)).trans (point_row m c t (y 0) _))).trans
    ((congrArg R e).trans (h _ _)).symm

theorem final6 (R : Vec Ideal S512x128 .f32) (h : Columns (args m c).few 1536 (by decide) R) : (dats m 0 c).arrAt 6 cfg0.N = R := by
  refine (dats m 0 c).arrAt_eq_of_covers 6 _ (by decide +kernel) fun t _ y => ?_
  have e : ((cfg0.win 6).blk t).view.emb (ix2 (y 0) (y 1)) = ix2 (y 0) (y 1) := by blk_ext [(idx_out t).2.2.1]
  rw [Cert.InProjIdeal.Layer.split y]
  exact ((congrFun (Value.flushed6 m c t) _).trans ((Cert.InProjIdeal.Layer.out6_apply _ _ (iblk2_spread m c t) (y 0) (y 1)).trans (point_row m c t (y 0) _))).trans
    ((congrArg R e).trans (h _ _)).symm

theorem final7 (R : Vec Ideal S512x128 .f32) (h : Columns (args m c).few 1664 (by decide) R) : (dats m 0 c).arrAt 7 cfg0.N = R := by
  refine (dats m 0 c).arrAt_eq_of_covers 7 _ (by decide +kernel) fun t _ y => ?_
  have e : ((cfg0.win 7).blk t).view.emb (ix2 (y 0) (y 1)) = ix2 (y 0) (y 1) := by blk_ext [(idx_out t).2.2.2.1]
  rw [Cert.InProjIdeal.Layer.split y]
  exact ((congrFun (Value.flushed7 m c t) _).trans ((Cert.InProjIdeal.Layer.out7_apply _ _ (iblk2_spread m c t) (y 0) (y 1)).trans (point_row m c t (y 0) _))).trans
    ((congrArg R e).trans (h _ _)).symm

theorem final8 (R : Vec Ideal S512x128 .f32) (h : Columns (args m c).few 1792 (by decide) R) : (dats m 0 c).arrAt 8 cfg0.N = R := by
  refine (dats m 0 c).arrAt_eq_of_covers 8 _ (by decide +kernel) fun t _ y => ?_
  have e : ((cfg0.win 8).blk t).view.emb (ix2 (y 0) (y 1)) = ix2 (y 0) (y 1) := by blk_ext [(idx_out t).2.2.2.2.1]
  rw [Cert.InProjIdeal.Layer.split y]
  exact ((congrFun (Value.flushed8 m c t) _).trans ((Cert.InProjIdeal.Layer.out8_apply _ _ (iblk2_spread m c t) (y 0) (y 1)).trans (point_row m c t (y 0) _))).trans
    ((congrArg R e).trans (h _ _)).symm

theorem final9 (R : Vec Ideal S512x128 .f32) (h : Columns (args m c).few 1920 (by decide) R) : (dats m 0 c).arrAt 9 cfg0.N = R := by
  refine (dats m 0 c).arrAt_eq_of_covers 9 _ (by decide +kernel) fun t _ y => ?_
  have e : ((cfg0.win 9).blk t).view.emb (ix2 (y 0) (y 1)) = ix2 (y 0) (y 1) := by blk_ext [(idx_out t).2.2.2.2.2.1]
  rw [Cert.InProjIdeal.Layer.split y]
  exact ((congrFun (Value.flushed9 m c t) _).trans ((Cert.InProjIdeal.Layer.out9_apply _ _ (iblk2_spread m c t) (y 0) (y 1)).trans (point_row m c t (y 0) _))).trans
    ((congrArg R e).trans (h _ _)).symm

theorem final10 (R : Vec Ideal S512x128 .f32) (h : Columns (args m c).few 2048 (by decide) R) : (dats m 0 c).arrAt 10 cfg0.N = R := by
  refine (dats m 0 c).arrAt_eq_of_covers 10 _ (by decide +kernel) fun t _ y => ?_
  have e : ((cfg0.win 10).blk t).view.emb (ix2 (y 0) (y 1)) = ix2 (y 0) (y 1) := by blk_ext [(idx_out t).2.2.2.2.2.2.1]
  rw [Cert.InProjIdeal.Layer.split y]
  exact ((congrFun (Value.flushed10 m c t) _).trans ((Cert.InProjIdeal.Layer.out10_apply _ _ (iblk2_spread m c t) (y 0) (y 1)).trans (point_row m c t (y 0) _))).trans
    ((congrArg R e).trans (h _ _)).symm

theorem final11 (R : Vec Ideal S512x128 .f32) (h : Columns (args m c).few 2176 (by decide) R) : (dats m 0 c).arrAt 11 cfg0.N = R := by
  refine (dats m 0 c).arrAt_eq_of_covers 11 _ (by decide +kernel) fun t _ y => ?_
  have e : ((cfg0.win 11).blk t).view.emb (ix2 (y 0) (y 1)) = ix2 (y 0) (y 1) := by blk_ext [(idx_out t).2.2.2.2.2.2.2]
  rw [Cert.InProjIdeal.Layer.split y]
  exact ((congrFun (Value.flushed11 m c t) _).trans ((Cert.InProjIdeal.Layer.out11_apply _ _ (iblk2_spread m c t) (y 0) (y 1)).trans (point_row m c t (y 0) _))).trans
    ((congrArg R e).trans (h _ _)).symm

end Cert.InSampleIdeal.Layer

end
-- ==== Proof.InSampleReference.lean ====
/- The reference of the sample's token projections, element by element. -/
module

public import proofs.«01_k».proof.Proof.Gen.InSampleReferenceIdeal.Read
public import proofs.«01_k».proof.Proof.ProjMath
public import Idealize.ShloMosaic.Lib.Pointwise

@[expose] public section

set_option maxRecDepth 16384

noncomputable section

namespace Cert.InSampleReferenceIdeal.Layer

open Idealize.ShloMosaic Idealize.ShloMosaic.TcCoe
open Cert.InSampleReferenceIdeal Cert.InSampleReferenceIdeal.Gen Cert.InSampleReferenceIdeal.Read Cert.FfnMath Cert.ProjMath

/-! ## The projection at an element -/

theorem norm_apply (x : FVec Ideal S128x4x1024 .f32) (g : FVec Ideal S1x1024 .f32) (n : Fin 128) (s : Fin 4) (l : Fin 1024) :
    val_main_v13 (F := Ideal) x g (ix3 n s l) = nrm (fun k => x (ix3 n s k)) (fun k => g (ix2 0 k)) l := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

variable (m : (ℓ : Loc nD τ sig) → Buf (Elt Ideal) ℓ) (c : Dev nD)

/-- Argument 0. -/
abbrev a_x : FVec Ideal S128x4x1024 .f32 := m ((c.tc : Thread nD τ).loc main_arg0)

/-- Argument 1. -/
abbrev a_g : FVec Ideal S1x1024 .f32 := m ((c.tc : Thread nD τ).loc main_arg1)

/-- Argument 2. -/
abbrev a_w : FVec Ideal S1x1024x2328 .f32 := m ((c.tc : Thread nD τ).loc main_arg2)

/-- The arguments as the program holds them. -/
def args : Args 128 4 2328 where
  x n s l := a_x m c (ix3 n s l)
  g l := a_g m c (ix2 0 l)
  w l q := a_w m c (ix3 0 l q)

theorem proj_apply (n : Fin 128) (s : Fin 4) (q : Fin 2328) :
    val_main_v15 (F := Ideal) (a_x m c) (a_g m c) (a_w m c) (ix3 n s q) = (args m c).out n s q := by
  unfold val_main_v15 val_main_v14 ProjMath.Args.out lin args
  simp only [← norm_apply (a_x m c) (a_g m c)]
  generalize val_main_v13 (F := Ideal) (a_x m c) (a_g m c) = h
  pointwise

theorem rows_apply (k : Fin 512) (q : Fin 2328) :
    val_main_v16 (F := Ideal) (a_x m c) (a_g m c) (a_w m c) (ix2 k q) = (args m c).few k q := by
  have h := proj_apply m c ⟨k.val / 4, by omega⟩ ⟨k.val % 4, by omega⟩ q
  unfold val_main_v16
  generalize val_main_v15 (F := Ideal) (a_x m c) (a_g m c) (a_w m c) = z at h ⊢
  pointwise
  exact h

/-! ## The columns that the results take of it -/

theorem wide_apply (z : FVec Ideal S512x2328 .f32) (o : ℕ) (hs) (k : Fin 512) (q : Fin 512) (j : Fin 2328) (hj : j.val = o + q.val) :
    extractStridedSlice S512x512 ![0, o] z hs (ix2 k q) = z (ix2 k j) := by
  pointwise
  exact congrArg (fun i => z (ix2 k i)) (Fin.ext hj.symm)

theorem narrow_apply (z : FVec Ideal S512x2328 .f32) (i : ℕ) (hi : i < 6) (hs) (k : Fin 512) (q : Fin 128) (j : Fin 2328)
    (hj : j.val = 1536 + 128 * i + q.val) :
    shapeCast S512x128 (extractStridedSlice S512x1x128 ![0, i, 0] (shapeCast S512x6x128
      (extractStridedSlice S512x768 ![0, 1536] z slices_S512x2328_S512x768_0_1536)
      shapeCasts_S512x768_S512x6x128) hs) shapeCasts_S512x1x128_S512x128 (ix2 k q) = z (ix2 k j) := by
  pointwise
  exact congrArg (fun i => z (ix2 k i)) (Fin.ext (by show 1536 + (i * 128 + q.val) = j.val; omega))

/-! ## The results -/

/-- The columns that multiply, -/
abbrev r_u : FVec Ideal S512x512 .f32 := val_main_v17 (F := Ideal) (a_x m c) (a_g m c) (a_w m c)

/-- the columns that are mixed, -/
abbrev r_v : FVec Ideal S512x512 .f32 := val_main_v18 (F := Ideal) (a_x m c) (a_g m c) (a_w m c)

/-- the compressed branch's keys, -/
abbrev r_kc : FVec Ideal S512x128 .f32 := val_main_v22 (F := Ideal) (a_x m c) (a_g m c) (a_w m c)

/-- and values, -/
abbrev r_vc : FVec Ideal S512x128 .f32 := val_main_v24 (F := Ideal) (a_x m c) (a_g m c) (a_w m c)

/-- the selected branch's keys, -/
abbrev r_ks : FVec Ideal S512x128 .f32 := val_main_v26 (F := Ideal) (a_x m c) (a_g m c) (a_w m c)

/-- and values, -/
abbrev r_vs : FVec Ideal S512x128 .f32 := val_main_v28 (F := Ideal) (a_x m c) (a_g m c) (a_w m c)

/-- the window's keys, -/
abbrev r_kw : FVec Ideal S512x128 .f32 := val_main_v30 (F := Ideal) (a_x m c) (a_g m c) (a_w m c)

/-- and values. -/
abbrev r_vw : FVec Ideal S512x128 .f32 := val_main_v32 (F := Ideal) (a_x m c) (a_g m c) (a_w m c)

theorem columns_u : Columns (args m c).few 0 (by decide) (r_u m c) := fun k q =>
  (wide_apply _ 0 _ k q ⟨0 + q.val, by omega⟩ rfl).trans (rows_apply m c k _)

theorem columns_v : Columns (args m c).few 512 (by decide) (r_v m c) := fun k q =>
  (wide_apply _ 512 _ k q ⟨512 + q.val, by omega⟩ rfl).trans (rows_apply m c k _)

theorem columns_kc : Columns (args m c).few 1536 (by decide) (r_kc m c) := fun k q =>
  (narrow_apply _ 0 (by decide) _ k q ⟨1536 + q.val, by omega⟩ rfl).trans (rows_apply m c k _)

theorem columns_vc : Columns (args m c).few 1664 (by decide) (r_vc m c) := fun k q =>
  (narrow_apply _ 1 (by decide) _ k q ⟨1664 + q.val, by omega⟩ rfl).trans (rows_apply m c k _)

theorem columns_ks : Columns (args m c).few 1792 (by decide) (r_ks m c) := fun k q =>
  (narrow_apply _ 2 (by decide) _ k q ⟨1792 + q.val, by omega⟩ rfl).trans (rows_apply m c k _)

theorem columns_vs : Columns (args m c).few 1920 (by decide) (r_vs m c) := fun k q =>
  (narrow_apply _ 3 (by decide) _ k q ⟨1920 + q.val, by omega⟩ rfl).trans (rows_apply m c k _)

theorem columns_kw : Columns (args m c).few 2048 (by decide) (r_kw m c) := fun k q =>
  (narrow_apply _ 4 (by decide) _ k q ⟨2048 + q.val, by omega⟩ rfl).trans (rows_apply m c k _)

theorem columns_vw : Columns (args m c).few 2176 (by decide) (r_vw m c) := fun k q =>
  (narrow_apply _ 5 (by decide) _ k q ⟨2176 + q.val, by omega⟩ rfl).trans (rows_apply m c k _)

end Cert.InSampleReferenceIdeal.Layer

end
-- ==== Proof.InSampleLaunch.lean ====
/- The sample's token projections: the launch's results are its reference's, from memories that agree on the arguments; the
   frames of both programs and of their ideal readings. -/
module

public import proofs.«01_k».proof.Defs
public import proofs.«01_k».proof.Proof.Gen.InSample
public import proofs.«01_k».proof.Proof.Gen.InSampleReference
public import proofs.«01_k».proof.Proof.Gen.InSampleReferenceIdeal.Run
public import proofs.«01_k».proof.Proof.InSampleValue
public import proofs.«01_k».proof.Proof.InSampleReference
public import Idealize.ShloMosaic.Init

@[expose] public section

set_option maxRecDepth 16384

noncomputable section

namespace Cert.InSampleReferenceIdeal.Layer

open Idealize.ShloMosaic Idealize.ShloMosaic.TcCoe
open Cert.InSampleReferenceIdeal.Gen Cert.InSampleReferenceIdeal.Read

/-- The reference's run, with its results named. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = r_u m c
      ∧ r.2.mem ((c.tc : Thread nD τ).loc main_v18) = r_v m c
      ∧ r.2.mem ((c.tc : Thread nD τ).loc main_v22) = r_kc m c
      ∧ r.2.mem ((c.tc : Thread nD τ).loc main_v24) = r_vc m c
      ∧ r.2.mem ((c.tc : Thread nD τ).loc main_v26) = r_ks m c
      ∧ r.2.mem ((c.tc : Thread nD τ).loc main_v28) = r_vs m c
      ∧ r.2.mem ((c.tc : Thread nD τ).loc main_v30) = r_kw m c
      ∧ r.2.mem ((c.tc : Thread nD τ).loc main_v32) = r_vw m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run (F := Ideal) m ρ)
  obtain ⟨h0, h1, h2, h3, h4, h5, h6, h7, hargs⟩ := h c
  exact ⟨h0.trans (val_main_v17_eq _ _ _), h1.trans (val_main_v18_eq _ _ _), h2.trans (val_main_v22_eq _ _ _),
    h3.trans (val_main_v24_eq _ _ _), h4.trans (val_main_v26_eq _ _ _), h5.trans (val_main_v28_eq _ _ _),
    h6.trans (val_main_v30_eq _ _ _), h7.trans (val_main_v32_eq _ _ _), hargs⟩

end Cert.InSampleReferenceIdeal.Layer

namespace Cert.Proof

open Idealize.ShloMosaic Idealize.SL.Sem

attribute [local instance] Cert.InSample.Gen.facts Cert.InSampleIdeal.Gen.facts Cert.InSampleReference.Gen.facts Cert.InSampleReferenceIdeal.Gen.facts

/-! ## The frames -/

theorem same_run_in_sample {F : FTy → Type} [FloatOps F] (s : MemSt Cert.InSampleIdeal.nD Cert.InSampleIdeal.τ Cert.InSampleIdeal.sig (Elt F))
    (Q : PUnit × MemSt Cert.InSampleIdeal.nD Cert.InSampleIdeal.τ Cert.InSampleIdeal.sig (Elt F) → Prop) :
    θ_run (Cert.InSample.defs (F := F)) (onTc (τ := Cert.InSample.τ) (Cert.InSample.main (F := F))) s Q
      = θ_run (Cert.InSampleIdeal.defs (F := F)) (onTc (τ := Cert.InSampleIdeal.τ) (Cert.InSampleIdeal.main (F := F))) s Q := by
  chain_rfl

theorem frame_in_sample_ideal : Cert.quiescent_InSampleIdeal := fun m ρ _ => Cert.InSampleIdeal.Gen.frame (F := Ideal) m ρ

theorem frame_in_sample : Cert.quiescent_InSample := fun m ρ _ =>
  (same_run_in_sample _ _).mpr (Cert.InSampleIdeal.Gen.frame (F := Bits) m ρ)

theorem same_run_in_sample_ref {F : FTy → Type} [FloatOps F] (s : MemSt Cert.InSampleReferenceIdeal.nD Cert.InSampleReferenceIdeal.τ Cert.InSampleReferenceIdeal.sig (Elt F))
    (Q : PUnit × MemSt Cert.InSampleReferenceIdeal.nD Cert.InSampleReferenceIdeal.τ Cert.InSampleReferenceIdeal.sig (Elt F) → Prop) :
    θ_run (Cert.InSampleReference.defs (F := F)) (onTc (τ := Cert.InSampleReference.τ) (Cert.InSampleReference.main (F := F))) s Q
      = θ_run (Cert.InSampleReferenceIdeal.defs (F := F)) (onTc (τ := Cert.InSampleReferenceIdeal.τ) (Cert.InSampleReferenceIdeal.main (F := F))) s Q := by
  chain_rfl

theorem frame_in_sample_ref_ideal : Cert.quiescent_InSampleReferenceIdeal := fun m ρ _ =>
  (θ_run Cert.InSampleReferenceIdeal.defs _ _).mono (fun r h => ⟨fun c => (h c).2.2.2.2.2.2.2.2, sem_eq_zero_of_no_sems (by decide) r.2⟩)
    (Cert.InSampleReferenceIdeal.Value.run (F := Ideal) m ρ)

theorem frame_in_sample_ref : Cert.quiescent_InSampleReference := fun m ρ _ =>
  (same_run_in_sample_ref _ _).mpr <|
    (θ_run Cert.InSampleReferenceIdeal.defs _ _).mono (fun r h => ⟨fun c => (h c).2.2.2.2.2.2.2.2, sem_eq_zero_of_no_sems (by decide) r.2⟩)
      (Cert.InSampleReferenceIdeal.Value.run (F := Bits) m ρ)

/-! ## The values -/

/-- From memories that agree on the arguments, the sample's projections are the reference's, over the extended reals. -/
theorem algebraic_in_sample : Cert.algebraic_InSampleIdeal_InSampleReferenceIdeal := fun m ρ m' ρ' _ hag => by
  have hA : ∀ c, Cert.InSampleReferenceIdeal.Layer.args m' c = Cert.InSampleIdeal.Layer.args m c := fun c => by
    obtain ⟨e0, e1, e2⟩ := hag c
    unfold Cert.InSampleReferenceIdeal.Layer.args Cert.InSampleIdeal.Layer.args
    simp only [e0, e1, e2]
  refine ⟨Cert.InSampleReferenceIdeal.Layer.r_u m', Cert.InSampleReferenceIdeal.Layer.r_v m', Cert.InSampleReferenceIdeal.Layer.r_kc m',
    Cert.InSampleReferenceIdeal.Layer.r_vc m', Cert.InSampleReferenceIdeal.Layer.r_ks m', Cert.InSampleReferenceIdeal.Layer.r_vs m',
    Cert.InSampleReferenceIdeal.Layer.r_kw m', Cert.InSampleReferenceIdeal.Layer.r_vw m',
    (θ_run Cert.InSampleIdeal.defs _ _).mono (fun r h c => ?_) (Cert.InSampleIdeal.Value.run_blocks (F := Ideal) m ρ),
    Cert.InSampleReferenceIdeal.Layer.run_results m' ρ'⟩
  obtain ⟨h3, h4, -, h6, h7, h8, h9, h10, h11, -, -, hargs⟩ := h c
  exact ⟨h3.trans (Cert.InSampleIdeal.Layer.final3 m c _ (hA c ▸ Cert.InSampleReferenceIdeal.Layer.columns_u m' c)),
    h4.trans (Cert.InSampleIdeal.Layer.final4 m c _ (hA c ▸ Cert.InSampleReferenceIdeal.Layer.columns_v m' c)),
    h6.trans (Cert.InSampleIdeal.Layer.final6 m c _ (hA c ▸ Cert.InSampleReferenceIdeal.Layer.columns_kc m' c)),
    h7.trans (Cert.InSampleIdeal.Layer.final7 m c _ (hA c ▸ Cert.InSampleReferenceIdeal.Layer.columns_vc m' c)),
    h8.trans (Cert.InSampleIdeal.Layer.final8 m c _ (hA c ▸ Cert.InSampleReferenceIdeal.Layer.columns_ks m' c)),
    h9.trans (Cert.InSampleIdeal.Layer.final9 m c _ (hA c ▸ Cert.InSampleReferenceIdeal.Layer.columns_vs m' c)),
    h10.trans (Cert.InSampleIdeal.Layer.final10 m c _ (hA c ▸ Cert.InSampleReferenceIdeal.Layer.columns_kw m' c)),
    h11.trans (Cert.InSampleIdeal.Layer.final11 m c _ (hA c ▸ Cert.InSampleReferenceIdeal.Layer.columns_vw m' c)), hargs⟩

end Cert.Proof

end
-- ==== Proof.lean ====
module

public import proofs.«01_k».proof.Defs
public import proofs.«01_k».proof.Proof.Gen.Kernel
public import proofs.«01_k».proof.Proof.Launch
public import proofs.«01_k».proof.Proof.Reference
public import proofs.«01_k».proof.Proof.FfnLaunch
public import proofs.«01_k».proof.Proof.ProjLaunch
public import proofs.«01_k».proof.Proof.InSampleLaunch
public import Idealize.ShloMosaic.Adequacy
public import Idealize.ShloMosaic.Init

@[expose] public section

noncomputable section

namespace Cert.Proof

open Idealize.ShloMosaic Idealize.SL.Sem
open Cert.KernelIdeal.Pages (wanted)
open Cert.ReferenceIdeal.Pages (lookup_eq)

/-! ## The side conditions -/

theorem facts_reference : Cert.Reference.Facts where
  shapeCasts_S1x10240x128x2x64_S10240x128x2x64 := by decide
  bcast_S_S128x64 := by decide
  bcast_S128x64_S128x64x1_0_1 := by decide
  shapeCasts_S128x64x128x2x64_S128x8192x128 := by decide
  gather_S10240x128x2x64_S128x64x1_S128x64x128x2x64_234_0_n_n_0_2_1128264_wf := by decide

theorem facts_pre : Cert.Pre_pages_in_pool.Facts := ⟨by decide⟩

attribute [local instance] Cert.Kernel.Gen.facts Cert.KernelIdeal.Gen.facts facts_reference Cert.ReferenceIdeal.Pages.facts facts_pre

/-! ## The precondition -/

/-- Where the precondition holds, each word of the page table names a page of the pool. -/
theorem names_page {F : FTy → Type} [FloatOps F] (a0 a1 a2 a3 : FVec F Cert.Pre_pages_in_pool.S1x10240x128x2x64 .f32)
    (tab : IVec Cert.Pre_pages_in_pool.S128x64 32) (h : Cert.Pre_pages_in_pool.fn a0 a1 a2 a3 tab = fun _ => 1#1)
    (x : Cert.Pre_pages_in_pool.S128x64.Idx) : (tab x).toNat < 10240 := by
  have e : BitVec.ofBool (BitVec.sle 0#32 (tab x)) &&& BitVec.ofBool (BitVec.slt (tab x) 10240#32) = 1#1 := congrFun h x
  have e' : BitVec.sle 0#32 (tab x) = true ∧ BitVec.slt (tab x) 10240#32 = true := by
    revert e; cases BitVec.sle 0#32 (tab x) <;> cases BitVec.slt (tab x) 10240#32 <;> decide
  obtain ⟨h0, h1⟩ := e'
  simp only [BitVec.sle, BitVec.slt, decide_eq_true_eq] at h0 h1
  have hi : (10240#32 : BitVec 32).toInt = 10240 := by decide
  have hz : (0#32 : BitVec 32).toInt = 0 := by decide
  have := BitVec.toInt_eq_toNat_cond (tab x)
  have := (tab x).isLt
  split at * <;> omega

/-! ## The frames -/

/-- A run of the kernel as printed is a run of its ideal reading, over the same float values. -/
theorem same_run {F : FTy → Type} [FloatOps F] (s : MemSt Cert.KernelIdeal.nD Cert.KernelIdeal.τ Cert.KernelIdeal.sig (Elt F))
    (Q : PUnit × MemSt Cert.KernelIdeal.nD Cert.KernelIdeal.τ Cert.KernelIdeal.sig (Elt F) → Prop) :
    θ_run (Cert.Kernel.defs (F := F)) (onTc (τ := Cert.Kernel.τ) (Cert.Kernel.main (F := F))) s Q
      = θ_run (Cert.KernelIdeal.defs (F := F)) (onTc (τ := Cert.KernelIdeal.τ) (Cert.KernelIdeal.main (F := F))) s Q := by
  chain_rfl

theorem frame_ki : Cert.quiescent_KernelIdeal := fun m ρ hP =>
  (θ_run Cert.KernelIdeal.defs _ _).mono (fun _ h => ⟨fun c => (h.1 c).2, h.2⟩)
    (Cert.KernelIdeal.Pages.run (F := Ideal) m ρ fun c => names_page _ _ _ _ _ (hP c))

theorem frame_k : Cert.quiescent_Kernel := fun m ρ hP =>
  (same_run _ _).mpr <| (θ_run Cert.KernelIdeal.defs _ _).mono (fun _ h => ⟨fun c => (h.1 c).2, h.2⟩)
    (Cert.KernelIdeal.Pages.run (F := Bits) m ρ fun c => names_page _ _ _ _ _ (hP c))

theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Pages.run (F := Ideal) m ρ)

theorem frame_r : Cert.quiescent_Reference := fun m ρ _ =>
  (θ_run Cert.ReferenceIdeal.defs _ _).mono
    (fun r h => ⟨fun c => (h c).2, Idealize.ShloMosaic.sem_eq_zero_of_no_sems (by decide) r.2⟩)
    (Cert.ReferenceIdeal.Pages.run (F := Bits) m ρ)

/-! ## The values -/

section
open Idealize.ShloMosaic.TcCoe
open Cert.KernelIdeal

/-- From memories that agree on the arguments, with a page table that names pages of the pools, the kernel and the
    reference end with each pool gathered by the table, and with their arguments unchanged, over any float values. -/
theorem agree {F : FTy → Type} [FloatOps F] [∀ e, Nonempty (Elt F e)]
    (m : (ℓ : Loc nD τ sig) → Buf (Elt F) ℓ) (ρ : Dev nD → PrngReg)
    (m' : (ℓ : Loc Cert.ReferenceIdeal.nD Cert.ReferenceIdeal.τ Cert.ReferenceIdeal.sig) → Buf (Elt F) ℓ)
    (ρ' : Dev Cert.ReferenceIdeal.nD → PrngReg)
    (hO : ∀ (c : Dev nD) (x : S128x64.Idx), (m ((c : Thread nD τ).loc main_arg4) x : BitVec 32).toNat < 10240)
    (hag : ∀ c : Dev nD,
      m' ((c.tc : Thread Cert.ReferenceIdeal.nD Cert.ReferenceIdeal.τ).loc Cert.ReferenceIdeal.main_arg0) = m ((c : Thread nD τ).loc main_arg0)
      ∧ m' ((c.tc : Thread Cert.ReferenceIdeal.nD Cert.ReferenceIdeal.τ).loc Cert.ReferenceIdeal.main_arg1) = m ((c : Thread nD τ).loc main_arg1)
      ∧ m' ((c.tc : Thread Cert.ReferenceIdeal.nD Cert.ReferenceIdeal.τ).loc Cert.ReferenceIdeal.main_arg2) = m ((c : Thread nD τ).loc main_arg2)
      ∧ m' ((c.tc : Thread Cert.ReferenceIdeal.nD Cert.ReferenceIdeal.τ).loc Cert.ReferenceIdeal.main_arg3) = m ((c : Thread nD τ).loc main_arg3)
      ∧ m' ((c.tc : Thread Cert.ReferenceIdeal.nD Cert.ReferenceIdeal.τ).loc Cert.ReferenceIdeal.main_arg4) = m ((c : Thread nD τ).loc main_arg4)) :
    θ_run Cert.KernelIdeal.defs (onTc (τ := τ) (main (F := F))) ⟨m, fun _ => 0, ρ⟩ (fun r => ∀ c : Dev nD,
        r.2.mem ((c : Thread nD τ).loc main_v8_0) = wanted m c (m ((c : Thread nD τ).loc main_arg0))
        ∧ r.2.mem ((c : Thread nD τ).loc main_v8_1) = wanted m c (m ((c : Thread nD τ).loc main_arg1))
        ∧ r.2.mem ((c : Thread nD τ).loc main_v8_2) = wanted m c (m ((c : Thread nD τ).loc main_arg2))
        ∧ r.2.mem ((c : Thread nD τ).loc main_v8_3) = wanted m c (m ((c : Thread nD τ).loc main_arg3))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
    ∧ θ_run Cert.ReferenceIdeal.defs (onTc (τ := Cert.ReferenceIdeal.τ) (Cert.ReferenceIdeal.main (F := F))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v8) = wanted m c (m ((c : Thread nD τ).loc main_arg0))
        ∧ r.2.mem ((c.tc : Thread Cert.ReferenceIdeal.nD Cert.ReferenceIdeal.τ).loc Cert.ReferenceIdeal.main_v17) = wanted m c (m ((c : Thread nD τ).loc main_arg1))
        ∧ r.2.mem ((c.tc : Thread Cert.ReferenceIdeal.nD Cert.ReferenceIdeal.τ).loc Cert.ReferenceIdeal.main_v26) = wanted m c (m ((c : Thread nD τ).loc main_arg2))
        ∧ r.2.mem ((c.tc : Thread Cert.ReferenceIdeal.nD Cert.ReferenceIdeal.τ).loc Cert.ReferenceIdeal.main_v35) = wanted m c (m ((c : Thread nD τ).loc main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) := by
  refine ⟨(θ_run Cert.KernelIdeal.defs _ _).mono (fun r h c => ?_) (Cert.KernelIdeal.Pages.run m ρ hO),
    (θ_run Cert.ReferenceIdeal.defs _ _).mono (fun r h c => ?_) (Cert.ReferenceIdeal.Pages.run m' ρ')⟩
  · obtain ⟨⟨h0, h1, h2, h3⟩, hA⟩ := h.1 c
    exact ⟨h0, h1, h2, h3, hA⟩
  · obtain ⟨⟨h0, h1, h2, h3⟩, hA⟩ := h c
    obtain ⟨e0, e1, e2, e3, e4⟩ := hag c
    rw [e4, lookup_eq _ (hO c)] at h0 h1 h2 h3
    rw [e0] at h0; rw [e1] at h1; rw [e2] at h2; rw [e3] at h3
    exact ⟨h0, h1, h2, h3, hA⟩

end

/-- `Cert.algebraic_KernelIdeal_ReferenceIdeal`: the two agree over the extended reals, -/
theorem algebraic : Cert.algebraic_KernelIdeal_ReferenceIdeal := fun m ρ m' ρ' hP hag =>
  ⟨_, _, _, _, agree (F := Ideal) m ρ m' ρ' (fun c => names_page _ _ _ _ _ (hP c)) hag⟩

/-- `Cert.bitexact_Kernel_Reference`: and bit for bit as printed. -/
theorem bitexact : Cert.bitexact_Kernel_Reference := fun m ρ m' ρ' hP hag =>
  have h := agree (F := Bits) m ρ m' ρ' (fun c => names_page _ _ _ _ _ (hP c)) hag
  ⟨_, _, _, _, (same_run _ _).mpr h.1, h.2⟩

theorem claim : Cert.Claim := ⟨Cert.Kernel.Gen.facts, Cert.KernelIdeal.Gen.facts, facts_reference, Cert.ReferenceIdeal.Pages.facts,
  Cert.FfnSample.Gen.facts, Cert.FfnSampleIdeal.Gen.facts, Cert.Ffn.Gen.facts, Cert.FfnIdeal.Gen.facts, Cert.FfnReference.Gen.facts,
  Cert.FfnReferenceIdeal.Gen.facts, Cert.InProj.Gen.facts, Cert.InProjIdeal.Gen.facts, Cert.InProjReference.Gen.facts,
  Cert.InProjReferenceIdeal.Gen.facts, Cert.Memory.Gen.facts, Cert.MemoryIdeal.Gen.facts, Cert.MemoryReference.Gen.facts,
  Cert.MemoryReferenceIdeal.Gen.facts, Cert.InSample.Gen.facts, Cert.InSampleIdeal.Gen.facts, Cert.InSampleReference.Gen.facts,
  Cert.InSampleReferenceIdeal.Gen.facts, facts_pre,
  frame_k, frame_ki, frame_r, fun m ρ _ => frame_r m ρ trivial, frame_ri, fun m ρ _ => frame_ri m ρ trivial,
  frame_sample, frame_sample_ideal, frame_ffn, frame_ffn_ideal, frame_ffn_ref, frame_ffn_ref_ideal,
  frame_in, frame_in_ideal, frame_in_ref, frame_in_ref_ideal, frame_mem, frame_mem_ideal, frame_mem_ref, frame_mem_ref_ideal,
  frame_in_sample, frame_in_sample_ideal, frame_in_sample_ref, frame_in_sample_ref_ideal,
  trivial, bitexact, algebraic, trivial, algebraic_ffn, trivial, algebraic_in, trivial, algebraic_mem,
  trivial, algebraic_in_sample⟩

end Cert.Proof

end
